-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.sign_bit.Statement Cert.KernelIdeal.S512x64 .f32
  ∧ IdealRules.sign_bit.Statement Cert.KernelIdeal.S256x64 .f32
  ∧ IdealRules.named_const.Statement Cert.KernelIdeal.κ "third" .f32 0x3EAAAAAB#32 ((1 / 3 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)) (v4 : (c : Dev Cert.KernelIdeal.nD) → Buf (Elt Ideal) ((c.tc : Thread Cert.KernelIdeal.nD Cert.KernelIdeal.τ).loc Cert.KernelIdeal.main_v22_4)) (v5 : (c : Dev Cert.KernelIdeal.nD) → Buf (Elt Ideal) ((c.tc : Thread Cert.KernelIdeal.nD Cert.KernelIdeal.τ).loc Cert.KernelIdeal.main_v22_5)) (v6 : (c : Dev Cert.KernelIdeal.nD) → Buf (Elt Ideal) ((c.tc : Thread Cert.KernelIdeal.nD Cert.KernelIdeal.τ).loc Cert.KernelIdeal.main_v22_0)) (v7 : (c : Dev Cert.KernelIdeal.nD) → Buf (Elt Ideal) ((c.tc : Thread Cert.KernelIdeal.nD Cert.KernelIdeal.τ).loc Cert.KernelIdeal.main_v22_1)) (v8 : (c : Dev Cert.KernelIdeal.nD) → Buf (Elt Ideal) ((c.tc : Thread Cert.KernelIdeal.nD Cert.KernelIdeal.τ).loc Cert.KernelIdeal.main_v14)) (v9 : (c : Dev Cert.KernelIdeal.nD) → Buf (Elt Ideal) ((c.tc : Thread Cert.KernelIdeal.nD Cert.KernelIdeal.τ).loc Cert.KernelIdeal.main_v15)) (v10 : (c : Dev Cert.KernelIdeal.nD) → Buf (Elt Ideal) ((c.tc : Thread Cert.KernelIdeal.nD Cert.KernelIdeal.τ).loc Cert.KernelIdeal.main_cst_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_v22_4) = v4 c
          ∧ r.2.mem ((c.tc : Thread Cert.KernelIdeal.nD Cert.KernelIdeal.τ).loc Cert.KernelIdeal.main_v22_5) = v5 c
          ∧ r.2.mem ((c.tc : Thread Cert.KernelIdeal.nD Cert.KernelIdeal.τ).loc Cert.KernelIdeal.main_v22_0) = v6 c
          ∧ r.2.mem ((c.tc : Thread Cert.KernelIdeal.nD Cert.KernelIdeal.τ).loc Cert.KernelIdeal.main_v22_1) = v7 c
          ∧ r.2.mem ((c.tc : Thread Cert.KernelIdeal.nD Cert.KernelIdeal.τ).loc Cert.KernelIdeal.main_v14) = v8 c
          ∧ r.2.mem ((c.tc : Thread Cert.KernelIdeal.nD Cert.KernelIdeal.τ).loc Cert.KernelIdeal.main_v15) = v9 c
          ∧ r.2.mem ((c.tc : Thread Cert.KernelIdeal.nD Cert.KernelIdeal.τ).loc Cert.KernelIdeal.main_cst_5) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_v38) = v5 c
          ∧ r.2.mem ((c.tc : Thread Cert.ReferenceIdeal.nD Cert.ReferenceIdeal.τ).loc Cert.ReferenceIdeal.main_v116) = v6 c
          ∧ r.2.mem ((c.tc : Thread Cert.ReferenceIdeal.nD Cert.ReferenceIdeal.τ).loc Cert.ReferenceIdeal.main_v117) = v7 c
          ∧ r.2.mem ((c.tc : Thread Cert.ReferenceIdeal.nD Cert.ReferenceIdeal.τ).loc Cert.ReferenceIdeal.main_v0) = v8 c
          ∧ r.2.mem ((c.tc : Thread Cert.ReferenceIdeal.nD Cert.ReferenceIdeal.τ).loc Cert.ReferenceIdeal.main_v1) = v9 c
          ∧ r.2.mem ((c.tc : Thread Cert.ReferenceIdeal.nD Cert.ReferenceIdeal.τ).loc Cert.ReferenceIdeal.main_cst_25) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S4096x8192 : Shape := ⟨2, ![4096, 8192]⟩
abbrev S4096x4096 : Shape := ⟨2, ![4096, 4096]⟩
abbrev S4096x384 : Shape := ⟨2, ![4096, 384]⟩
abbrev S8192x64 : Shape := ⟨2, ![8192, 64]⟩
abbrev S4096x64 : Shape := ⟨2, ![4096, 64]⟩
abbrev S64x4096 : Shape := ⟨2, ![64, 4096]⟩
abbrev S64 : Shape := ⟨1, ![64]⟩
abbrev S64x384 : Shape := ⟨2, ![64, 384]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x1 : Shape := ⟨2, ![4096, 1]⟩
abbrev S384x64 : Shape := ⟨2, ![384, 64]⟩
abbrev S1x64 : Shape := ⟨2, ![1, 64]⟩
abbrev S4096x192 : Shape := ⟨2, ![4096, 192]⟩
abbrev S8192x192 : Shape := ⟨2, ![8192, 192]⟩
abbrev S2x512x4096 : Shape := ⟨3, ![2, 512, 4096]⟩
abbrev S2 : Shape := ⟨1, ![2]⟩
abbrev S2x512x384 : Shape := ⟨3, ![2, 512, 384]⟩
abbrev S2x512x64 : Shape := ⟨3, ![2, 512, 64]⟩
abbrev S1 : Shape := ⟨1, ![1]⟩
abbrev S1x512x4096 : Shape := ⟨3, ![1, 512, 4096]⟩
abbrev S512x4096 : Shape := ⟨2, ![512, 4096]⟩
abbrev S1x512x384 : Shape := ⟨3, ![1, 512, 384]⟩
abbrev S512x384 : Shape := ⟨2, ![512, 384]⟩
abbrev S1x512x64 : Shape := ⟨3, ![1, 512, 64]⟩
abbrev S512x64 : Shape := ⟨2, ![512, 64]⟩
abbrev S512x192 : Shape := ⟨2, ![512, 192]⟩
abbrev S2x256x8192 : Shape := ⟨3, ![2, 256, 8192]⟩
abbrev S2x256x64 : Shape := ⟨3, ![2, 256, 64]⟩
abbrev S1x256x8192 : Shape := ⟨3, ![1, 256, 8192]⟩
abbrev S256x8192 : Shape := ⟨2, ![256, 8192]⟩
abbrev S1x256x64 : Shape := ⟨3, ![1, 256, 64]⟩
abbrev S256x64 : Shape := ⟨2, ![256, 64]⟩
abbrev S256x192 : Shape := ⟨2, ![256, 192]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 53
  | .vmem => 33
  | .smem => 0
  | _ => 0

abbrev bufTy : (tb : Table) → Fin (tcTables nBuf tb) → BufTy
  | .hbm, ⟨0, _⟩ => ⟨S8192x4096, .f32⟩
  | .hbm, ⟨1, _⟩ => ⟨S4096x8192, .f32⟩
  | .hbm, ⟨2, _⟩ => ⟨S4096x4096, .f32⟩
  | .hbm, ⟨3, _⟩ => ⟨S4096x384, .f32⟩
  | .hbm, ⟨4, _⟩ => ⟨S8192x64, .f32⟩
  | .hbm, ⟨5, _⟩ => ⟨S4096x64, .f32⟩
  | .hbm, ⟨6, _⟩ => ⟨S64x4096, .f32⟩
  | .hbm, ⟨7, _⟩ => ⟨S64, .f32⟩
  | .hbm, ⟨8, _⟩ => ⟨S64x384, .f32⟩
  | .hbm, ⟨9, _⟩ => ⟨S64, .f32⟩
  | .hbm, ⟨10, _⟩ => ⟨S8192x64, .f32⟩
  | .hbm, ⟨11, _⟩ => ⟨S4096x64, .f32⟩
  | .hbm, ⟨12, _⟩ => ⟨S8192x64, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x64, .f32⟩
  | .hbm, ⟨22, _⟩ => ⟨S8192x64, .f32⟩
  | .hbm, ⟨23, _⟩ => ⟨S4096x64, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x64, .f32⟩
  | .hbm, ⟨33, _⟩ => ⟨S4096x64, .f32⟩
  | .hbm, ⟨34, _⟩ => ⟨S_, .f32⟩
  | .hbm, ⟨35, _⟩ => ⟨S8192x64, .f32⟩
  | .hbm, ⟨36, _⟩ => ⟨S_, .f32⟩
  | .hbm, ⟨37, _⟩ => ⟨S4096x64, .f32⟩
  | .hbm, ⟨38, _⟩ => ⟨S4096x64, .f32⟩
  | .hbm, ⟨39, _⟩ => ⟨S4096x64, .bf16⟩
  | .hbm, ⟨40, _⟩ => ⟨S384x64, .f32⟩
  | .hbm, ⟨41, _⟩ => ⟨S384x64, .bf16⟩
  | .hbm, ⟨42, _⟩ => ⟨S1x64, .f32⟩
  | .hbm, ⟨43, _⟩ => ⟨S1x64, .f32⟩
  | .hbm, ⟨44, _⟩ => ⟨S8192x64, .f32⟩
  | .hbm, ⟨45, _⟩ => ⟨S4096x64, .f32⟩
  | .hbm, ⟨46, _⟩ => ⟨S4096x64, .f32⟩
  | .hbm, ⟨47, _⟩ => ⟨S4096x64, .f32⟩
  | .hbm, ⟨48, _⟩ => ⟨S8192x64, .f32⟩
  | .hbm, ⟨49, _⟩ => ⟨S8192x64, .f32⟩
  | .hbm, ⟨50, _⟩ => ⟨S8192x64, .f32⟩
  | .hbm, ⟨51, _⟩ => ⟨S4096x64, .f32⟩
  | .hbm, ⟨52, _⟩ => ⟨S_, .f32⟩
  | .local _ .vmem, ⟨0, _⟩ => ⟨S4096x64, .bf16⟩
  | .local _ .vmem, ⟨1, _⟩ => ⟨S1x64, .f32⟩
  | .local _ .vmem, ⟨2, _⟩ => ⟨S384x64, .bf16⟩
  | .local _ .vmem, ⟨3, _⟩ => ⟨S1x64, .f32⟩
  | .local _ .vmem, ⟨4, _⟩ => ⟨S4096x192, .bf16⟩
  | .local _ .vmem, ⟨5, _⟩ => ⟨S8192x192, .bf16⟩
  | .local _ .vmem, ⟨6, _⟩ => ⟨S8192x64, .f32⟩
  | .local _ .vmem, ⟨7, _⟩ => ⟨S8192x64, .f32⟩
  | .local _ .vmem, ⟨8, _⟩ => ⟨S8192x64, .f32⟩
  | .local _ .vmem, ⟨9, _⟩ => ⟨S4096x64, .bf16⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S8192x64, .bf16⟩
  | .local _ .vmem, ⟨14, _⟩ => ⟨S2x512x4096, .f32⟩
  | .local _ .vmem, ⟨15, _⟩ => ⟨S2x512x384, .f32⟩
  | .local _ .vmem, ⟨16, _⟩ => ⟨S2x512x64, .f32⟩
  | .local _ .vmem, ⟨17, _⟩ => ⟨S2x512x4096, .f32⟩
  | .local _ .vmem, ⟨18, _⟩ => ⟨S2x512x64, .f32⟩
  | .local _ .vmem, ⟨19, _⟩ => ⟨S2x512x64, .f32⟩
  | .local _ .vmem, ⟨20, _⟩ => ⟨S2x512x64, .f32⟩
  | .local _ .vmem, ⟨21, _⟩ => ⟨S2x256x8192, .f32⟩
  | .local _ .vmem, ⟨22, _⟩ => ⟨S2x256x64, .f32⟩
  | .local _ .vmem, ⟨23, _⟩ => ⟨S2x256x64, .f32⟩
  | .local _ .vmem, ⟨24, _⟩ => ⟨S2x256x64, .f32⟩
  | .local _ .vmem, ⟨25, _⟩ => ⟨S2x512x4096, .f32⟩
  | .local _ .vmem, ⟨26, _⟩ => ⟨S2x512x64, .f32⟩
  | .local _ .vmem, ⟨27, _⟩ => ⟨S2x512x64, .f32⟩
  | .local _ .vmem, ⟨28, _⟩ => ⟨S2x512x64, .f32⟩
  | .local _ .vmem, ⟨29, _⟩ => ⟨S2x256x8192, .f32⟩
  | .local _ .vmem, ⟨30, _⟩ => ⟨S2x256x64, .f32⟩
  | .local _ .vmem, ⟨31, _⟩ => ⟨S2x256x64, .f32⟩
  | .local _ .vmem, ⟨32, _⟩ => ⟨S2x256x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22_0 : Ref sig .tc := ⟨.hbm, 44, rfl⟩
abbrev main_v22_1 : Ref sig .tc := ⟨.hbm, 45, rfl⟩
abbrev main_v22_2 : Ref sig .tc := ⟨.hbm, 46, rfl⟩
abbrev main_v22_3 : Ref sig .tc := ⟨.hbm, 47, rfl⟩
abbrev main_v22_4 : Ref sig .tc := ⟨.hbm, 48, rfl⟩
abbrev main_v22_5 : Ref sig .tc := ⟨.hbm, 49, rfl⟩
abbrev main_v22_6 : Ref sig .tc := ⟨.hbm, 50, rfl⟩
abbrev main_v22_7 : Ref sig .tc := ⟨.hbm, 51, rfl⟩
abbrev main_cst_5 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scoped0 : Ref sig .tc := ⟨.vmem, 14, rfl⟩
abbrev cc0_scoped2 : Ref sig .tc := ⟨.vmem, 15, rfl⟩
abbrev cc0_scoped4 : Ref sig .tc := ⟨.vmem, 16, rfl⟩
abbrev cc0_scoped6 : Ref sig .tc := ⟨.vmem, 17, rfl⟩
abbrev cc0_scoped8 : Ref sig .tc := ⟨.vmem, 18, rfl⟩
abbrev cc0_scoped10 : Ref sig .tc := ⟨.vmem, 19, rfl⟩
abbrev cc0_scoped12 : Ref sig .tc := ⟨.vmem, 20, rfl⟩
abbrev cc0_scoped14 : Ref sig .tc := ⟨.vmem, 21, rfl⟩
abbrev cc0_scoped16 : Ref sig .tc := ⟨.vmem, 22, rfl⟩
abbrev cc0_scoped18 : Ref sig .tc := ⟨.vmem, 23, rfl⟩
abbrev cc0_scoped20 : Ref sig .tc := ⟨.vmem, 24, rfl⟩
abbrev cc0_scoped22 : Ref sig .tc := ⟨.vmem, 25, rfl⟩
abbrev cc0_scoped24 : Ref sig .tc := ⟨.vmem, 26, rfl⟩
abbrev cc0_scoped26 : Ref sig .tc := ⟨.vmem, 27, rfl⟩
abbrev cc0_scoped28 : Ref sig .tc := ⟨.vmem, 28, rfl⟩
abbrev cc0_scoped30 : Ref sig .tc := ⟨.vmem, 29, rfl⟩
abbrev cc0_scoped32 : Ref sig .tc := ⟨.vmem, 30, rfl⟩
abbrev cc0_scoped34 : Ref sig .tc := ⟨.vmem, 31, rfl⟩
abbrev cc0_scoped36 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

def k0_off1 : Fin 1 → Nat :=
  let c0_i32_13_r0 : BitVec 32 := 0#32
  let c2_i32_r0 : BitVec 32 := 2#32
  let v16_r0 : BitVec 32 := Scalar.remui c0_i32_13_r0 c2_i32_r0
  ![v16_r0.toNat]
def k0_off2 : Fin 3 → Nat :=
  let c0_i32_13_r0 : BitVec 32 := 0#32
  let c2_i32_r0 : BitVec 32 := 2#32
  let v16_r0 : BitVec 32 := Scalar.remui c0_i32_13_r0 c2_i32_r0
  let c0_i32_14_r0 : BitVec 32 := 0#32
  let c0_i32_15_r0 : BitVec 32 := 0#32
  ![v16_r0.toNat, 0, 0]
def k0_off3 : Fin 3 → Nat :=
  let c0_i32_20_r0 : BitVec 32 := 0#32
  let c2_i32_21_r0 : BitVec 32 := 2#32
  let v23_r0 : BitVec 32 := Scalar.remui c0_i32_20_r0 c2_i32_21_r0
  let c0_i32_22_r0 : BitVec 32 := 0#32
  let c0_i32_23_r0 : BitVec 32 := 0#32
  ![v23_r0.toNat, 0, 0]
def k0_off4 : Fin 3 → Nat :=
  let c0_i32_28_r0 : BitVec 32 := 0#32
  let c2_i32_29_r0 : BitVec 32 := 2#32
  let v30_r0 : BitVec 32 := Scalar.remui c0_i32_28_r0 c2_i32_29_r0
  let c0_i32_30_r0 : BitVec 32 := 0#32
  let c0_i32_31_r0 : BitVec 32 := 0#32
  ![v30_r0.toNat, 0, 0]
@[reducible] def k0_t1_loop : Scf.Loop 32 :=
  let c0_i32_42_r0 : BitVec 32 := 0#32
  let c8_i32_43_r0 : BitVec 32 := 8#32
  let v37_r0 : BitVec 32 := Scalar.addi c0_i32_42_r0 c8_i32_43_r0
  let c1_i32_44_r0 : BitVec 32 := 1#32
  ⟨c0_i32_42_r0, v37_r0, c1_i32_44_r0⟩
def k0_off5 (arg31_r0 : BitVec 32) : Fin 1 → Nat :=
  let c2_i32_160_r0 : BitVec 32 := 2#32
  let v225_r0 : BitVec 32 := Scalar.remui arg31_r0 c2_i32_160_r0
  ![v225_r0.toNat]
def k0_cond1 (k0_t1 : Fin k0_t1_loop.trips) (arg37_r0 : BitVec 32) : BitVec 1 :=
  let c0_i32_68_r0 : BitVec 32 := 0#32
  let v61_r0 : BitVec 32 := Scalar.addi arg37_r0 c0_i32_68_r0
  let true_75_r0 : BitVec 1 := 1#1
  let c1_i32_74_r0 : BitVec 32 := 1#32
  let v67_r0 : BitVec 32 := Scalar.addi arg37_r0 c1_i32_74_r0
  let v68_r0 : BitVec 32 := Scalar.select true_75_r0 v67_r0 arg37_r0
  let c8_i32_76_r0 : BitVec 32 := 8#32
  let v69_r0 : BitVec 1 := Scalar.cmpi .eq v68_r0 c8_i32_76_r0
  let c0_i32_77_r0 : BitVec 32 := 0#32
  let v70_r0 : BitVec 32 := Scalar.select v69_r0 c0_i32_77_r0 v68_r0
  let c0_i32_78_r0 : BitVec 32 := 0#32
  let v71_r0 : BitVec 32 := Scalar.addi v70_r0 c0_i32_78_r0
  let v78_r0 : BitVec 1 := Scalar.cmpi .ne v61_r0 v71_r0
  let c0_i32_42_r0 : BitVec 32 := 0#32
  let c1_i32_44_r0 : BitVec 32 := 1#32
  let arg30_r0 : BitVec 32 := Scf.iv c0_i32_42_r0 c1_i32_44_r0 k0_t1
  let c7_i32_84_r0 : BitVec 32 := 7#32
  let v79_r0 : BitVec 1 := Scalar.cmpi .sge arg30_r0 c7_i32_84_r0
  let true_85_r0 : BitVec 1 := 1#1
  let v80_r0 : BitVec 1 := Scalar.xori v79_r0 true_85_r0
  let v81_r0 : BitVec 1 := Scalar.andi v78_r0 v80_r0
  let true_86_r0 : BitVec 1 := 1#1
  let v82_r0 : BitVec 1 := Scalar.andi v81_r0 true_86_r0
  let v83_r0 : BitVec 32 := Scalar.extui v82_r0
  let c0_i32_87_r0 : BitVec 32 := 0#32
  let v84_r0 : BitVec 1 := Scalar.cmpi .ne v83_r0 c0_i32_87_r0
  v84_r0

def k0_off6 (arg31_r0 : BitVec 32) : Fin 3 → Nat :=
  let c2_i32_160_r0 : BitVec 32 := 2#32
  let v225_r0 : BitVec 32 := Scalar.remui arg31_r0 c2_i32_160_r0
  let c0_i32_162_r0 : BitVec 32 := 0#32
  let c0_i32_163_r0 : BitVec 32 := 0#32
  ![v225_r0.toNat, 0, 0]
def k0_off7 (arg37_r0 : BitVec 32) : Fin 2 → Nat :=
  let c512_i32_161_r0 : BitVec 32 := 512#32
  let true_75_r0 : BitVec 1 := 1#1
  let c1_i32_74_r0 : BitVec 32 := 1#32
  let v67_r0 : BitVec 32 := Scalar.addi arg37_r0 c1_i32_74_r0
  let v68_r0 : BitVec 32 := Scalar.select true_75_r0 v67_r0 arg37_r0
  let c8_i32_76_r0 : BitVec 32 := 8#32
  let v69_r0 : BitVec 1 := Scalar.cmpi .eq v68_r0 c8_i32_76_r0
  let c0_i32_77_r0 : BitVec 32 := 0#32
  let v70_r0 : BitVec 32 := Scalar.select v69_r0 c0_i32_77_r0 v68_r0
  let c0_i32_78_r0 : BitVec 32 := 0#32
  let v71_r0 : BitVec 32 := Scalar.addi v70_r0 c0_i32_78_r0
  let v226_r0 : BitVec 32 := Scalar.muli c512_i32_161_r0 v71_r0
  let c0_i32_164_r0 : BitVec 32 := 0#32
  ![v226_r0.toNat, 0]
def k0_off8 (arg33_r0 : BitVec 32) : Fin 1 → Nat :=
  let c2_i32_160_r0 : BitVec 32 := 2#32
  let v225_r0 : BitVec 32 := Scalar.remui arg33_r0 c2_i32_160_r0
  ![v225_r0.toNat]
def k0_cond2 (k0_t1 : Fin k0_t1_loop.trips) (arg37_r0 : BitVec 32) : BitVec 1 :=
  let c0_i32_68_r0 : BitVec 32 := 0#32
  let v61_r0 : BitVec 32 := Scalar.addi arg37_r0 c0_i32_68_r0
  let true_75_r0 : BitVec 1 := 1#1
  let c1_i32_74_r0 : BitVec 32 := 1#32
  let v67_r0 : BitVec 32 := Scalar.addi arg37_r0 c1_i32_74_r0
  let v68_r0 : BitVec 32 := Scalar.select true_75_r0 v67_r0 arg37_r0
  let c8_i32_76_r0 : BitVec 32 := 8#32
  let v69_r0 : BitVec 1 := Scalar.cmpi .eq v68_r0 c8_i32_76_r0
  let c0_i32_77_r0 : BitVec 32 := 0#32
  let v70_r0 : BitVec 32 := Scalar.select v69_r0 c0_i32_77_r0 v68_r0
  let c0_i32_78_r0 : BitVec 32 := 0#32
  let v71_r0 : BitVec 32 := Scalar.addi v70_r0 c0_i32_78_r0
  let v88_r0 : BitVec 1 := Scalar.cmpi .ne v61_r0 v71_r0
  let c0_i32_42_r0 : BitVec 32 := 0#32
  let c1_i32_44_r0 : BitVec 32 := 1#32
  let arg30_r0 : BitVec 32 := Scf.iv c0_i32_42_r0 c1_i32_44_r0 k0_t1
  let c7_i32_90_r0 : BitVec 32 := 7#32
  let v89_r0 : BitVec 1 := Scalar.cmpi .sge arg30_r0 c7_i32_90_r0
  let true_91_r0 : BitVec 1 := 1#1
  let v90_r0 : BitVec 1 := Scalar.xori v89_r0 true_91_r0
  let v91_r0 : BitVec 1 := Scalar.andi v88_r0 v90_r0
  let true_92_r0 : BitVec 1 := 1#1
  let v92_r0 : BitVec 1 := Scalar.andi v91_r0 true_92_r0
  let v93_r0 : BitVec 32 := Scalar.extui v92_r0
  let c0_i32_93_r0 : BitVec 32 := 0#32
  let v94_r0 : BitVec 1 := Scalar.cmpi .ne v93_r0 c0_i32_93_r0
  v94_r0

def k0_off9 (arg33_r0 : BitVec 32) : Fin 3 → Nat :=
  let c2_i32_160_r0 : BitVec 32 := 2#32
  let v225_r0 : BitVec 32 := Scalar.remui arg33_r0 c2_i32_160_r0
  let c0_i32_162_r0 : BitVec 32 := 0#32
  let c0_i32_163_r0 : BitVec 32 := 0#32
  ![v225_r0.toNat, 0, 0]
def k0_off10 (arg37_r0 : BitVec 32) : Fin 2 → Nat :=
  let c512_i32_161_r0 : BitVec 32 := 512#32
  let true_75_r0 : BitVec 1 := 1#1
  let c1_i32_74_r0 : BitVec 32 := 1#32
  let v67_r0 : BitVec 32 := Scalar.addi arg37_r0 c1_i32_74_r0
  let v68_r0 : BitVec 32 := Scalar.select true_75_r0 v67_r0 arg37_r0
  let c8_i32_76_r0 : BitVec 32 := 8#32
  let v69_r0 : BitVec 1 := Scalar.cmpi .eq v68_r0 c8_i32_76_r0
  let c0_i32_77_r0 : BitVec 32 := 0#32
  let v70_r0 : BitVec 32 := Scalar.select v69_r0 c0_i32_77_r0 v68_r0
  let c0_i32_78_r0 : BitVec 32 := 0#32
  let v71_r0 : BitVec 32 := Scalar.addi v70_r0 c0_i32_78_r0
  let v226_r0 : BitVec 32 := Scalar.muli c512_i32_161_r0 v71_r0
  let c0_i32_164_r0 : BitVec 32 := 0#32
  ![v226_r0.toNat, 0]
def k0_off11 (arg35_r0 : BitVec 32) : Fin 1 → Nat :=
  let c2_i32_160_r0 : BitVec 32 := 2#32
  let v225_r0 : BitVec 32 := Scalar.remui arg35_r0 c2_i32_160_r0
  ![v225_r0.toNat]
def k0_cond3 (k0_t1 : Fin k0_t1_loop.trips) (arg37_r0 : BitVec 32) : BitVec 1 :=
  let c0_i32_68_r0 : BitVec 32 := 0#32
  let v61_r0 : BitVec 32 := Scalar.addi arg37_r0 c0_i32_68_r0
  let true_75_r0 : BitVec 1 := 1#1
  let c1_i32_74_r0 : BitVec 32 := 1#32
  let v67_r0 : BitVec 32 := Scalar.addi arg37_r0 c1_i32_74_r0
  let v68_r0 : BitVec 32 := Scalar.select true_75_r0 v67_r0 arg37_r0
  let c8_i32_76_r0 : BitVec 32 := 8#32
  let v69_r0 : BitVec 1 := Scalar.cmpi .eq v68_r0 c8_i32_76_r0
  let c0_i32_77_r0 : BitVec 32 := 0#32
  let v70_r0 : BitVec 32 := Scalar.select v69_r0 c0_i32_77_r0 v68_r0
  let c0_i32_78_r0 : BitVec 32 := 0#32
  let v71_r0 : BitVec 32 := Scalar.addi v70_r0 c0_i32_78_r0
  let v98_r0 : BitVec 1 := Scalar.cmpi .ne v61_r0 v71_r0
  let c0_i32_42_r0 : BitVec 32 := 0#32
  let c1_i32_44_r0 : BitVec 32 := 1#32
  let arg30_r0 : BitVec 32 := Scf.iv c0_i32_42_r0 c1_i32_44_r0 k0_t1
  let c7_i32_96_r0 : BitVec 32 := 7#32
  let v99_r0 : BitVec 1 := Scalar.cmpi .sge arg30_r0 c7_i32_96_r0
  let true_97_r0 : BitVec 1 := 1#1
  let v100_r0 : BitVec 1 := Scalar.xori v99_r0 true_97_r0
  let v101_r0 : BitVec 1 := Scalar.andi v98_r0 v100_r0
  let true_98_r0 : BitVec 1 := 1#1
  let v102_r0 : BitVec 1 := Scalar.andi v101_r0 true_98_r0
  let v103_r0 : BitVec 32 := Scalar.extui v102_r0
  let c0_i32_99_r0 : BitVec 32 := 0#32
  let v104_r0 : BitVec 1 := Scalar.cmpi .ne v103_r0 c0_i32_99_r0
  v104_r0

def k0_off12 (arg35_r0 : BitVec 32) : Fin 3 → Nat :=
  let c2_i32_160_r0 : BitVec 32 := 2#32
  let v225_r0 : BitVec 32 := Scalar.remui arg35_r0 c2_i32_160_r0
  let c0_i32_162_r0 : BitVec 32 := 0#32
  let c0_i32_163_r0 : BitVec 32 := 0#32
  ![v225_r0.toNat, 0, 0]
def k0_off13 (arg37_r0 : BitVec 32) : Fin 2 → Nat :=
  let c512_i32_161_r0 : BitVec 32 := 512#32
  let true_75_r0 : BitVec 1 := 1#1
  let c1_i32_74_r0 : BitVec 32 := 1#32
  let v67_r0 : BitVec 32 := Scalar.addi arg37_r0 c1_i32_74_r0
  let v68_r0 : BitVec 32 := Scalar.select true_75_r0 v67_r0 arg37_r0
  let c8_i32_76_r0 : BitVec 32 := 8#32
  let v69_r0 : BitVec 1 := Scalar.cmpi .eq v68_r0 c8_i32_76_r0
  let c0_i32_77_r0 : BitVec 32 := 0#32
  let v70_r0 : BitVec 32 := Scalar.select v69_r0 c0_i32_77_r0 v68_r0
  let c0_i32_78_r0 : BitVec 32 := 0#32
  let v71_r0 : BitVec 32 := Scalar.addi v70_r0 c0_i32_78_r0
  let v226_r0 : BitVec 32 := Scalar.muli c512_i32_161_r0 v71_r0
  let c0_i32_164_r0 : BitVec 32 := 0#32
  ![v226_r0.toNat, 0]
def k0_off14 (arg32_r0 : BitVec 32) : Fin 1 → Nat :=
  let c2_i32_161_r0 : BitVec 32 := 2#32
  let v226_r0 : BitVec 32 := Scalar.remui arg32_r0 c2_i32_161_r0
  ![v226_r0.toNat]
def k0_cond4 (k0_t1 : Fin k0_t1_loop.trips) (arg37_r0 : BitVec 32) : BitVec 1 :=
  let c0_i32_68_r0 : BitVec 32 := 0#32
  let v61_r0 : BitVec 32 := Scalar.addi arg37_r0 c0_i32_68_r0
  let true_70_r0 : BitVec 1 := 1#1
  let c1_i32_69_r0 : BitVec 32 := 1#32
  let v62_r0 : BitVec 32 := Scalar.subi arg37_r0 c1_i32_69_r0
  let v63_r0 : BitVec 32 := Scalar.select true_70_r0 v62_r0 arg37_r0
  let c_m1_i32_71_r0 : BitVec 32 := 4294967295#32
  let v64_r0 : BitVec 1 := Scalar.cmpi .eq v63_r0 c_m1_i32_71_r0
  let c7_i32_72_r0 : BitVec 32 := 7#32
  let v65_r0 : BitVec 32 := Scalar.select v64_r0 c7_i32_72_r0 v63_r0
  let c0_i32_73_r0 : BitVec 32 := 0#32
  let v66_r0 : BitVec 32 := Scalar.addi v65_r0 c0_i32_73_r0
  let v110_r0 : BitVec 1 := Scalar.cmpi .ne v61_r0 v66_r0
  let c0_i32_42_r0 : BitVec 32 := 0#32
  let c1_i32_44_r0 : BitVec 32 := 1#32
  let arg30_r0 : BitVec 32 := Scf.iv c0_i32_42_r0 c1_i32_44_r0 k0_t1
  let c0_i32_66_r0 : BitVec 32 := 0#32
  let v59_r0 : BitVec 1 := Scalar.cmpi .eq arg30_r0 c0_i32_66_r0
  let v111_r0 : BitVec 1 := Scalar.ori v110_r0 v59_r0
  let c0_i32_104_r0 : BitVec 32 := 0#32
  let v112_r0 : BitVec 1 := Scalar.cmpi .sge arg30_r0 c0_i32_104_r0
  let v113_r0 : BitVec 1 := Scalar.andi v111_r0 v112_r0
  let v114_r0 : BitVec 32 := Scalar.extui v113_r0
  let c0_i32_105_r0 : BitVec 32 := 0#32
  let v115_r0 : BitVec 1 := Scalar.cmpi .ne v114_r0 c0_i32_105_r0
  v115_r0

def k0_off15 (arg32_r0 : BitVec 32) : Fin 3 → Nat :=
  let c2_i32_161_r0 : BitVec 32 := 2#32
  let v226_r0 : BitVec 32 := Scalar.remui arg32_r0 c2_i32_161_r0
  let c0_i32_162_r0 : BitVec 32 := 0#32
  let c0_i32_163_r0 : BitVec 32 := 0#32
  ![v226_r0.toNat, 0, 0]
def k0_off16 (arg37_r0 : BitVec 32) : Fin 2 → Nat :=
  let c512_i32_160_r0 : BitVec 32 := 512#32
  let c0_i32_68_r0 : BitVec 32 := 0#32
  let v61_r0 : BitVec 32 := Scalar.addi arg37_r0 c0_i32_68_r0
  let v225_r0 : BitVec 32 := Scalar.muli c512_i32_160_r0 v61_r0
  let c0_i32_164_r0 : BitVec 32 := 0#32
  ![v225_r0.toNat, 0]
def k0_off17 (arg34_r0 : BitVec 32) : Fin 1 → Nat :=
  let c2_i32_161_r0 : BitVec 32 := 2#32
  let v226_r0 : BitVec 32 := Scalar.remui arg34_r0 c2_i32_161_r0
  ![v226_r0.toNat]
def k0_cond5 (k0_t1 : Fin k0_t1_loop.trips) (arg37_r0 : BitVec 32) : BitVec 1 :=
  let c0_i32_68_r0 : BitVec 32 := 0#32
  let v61_r0 : BitVec 32 := Scalar.addi arg37_r0 c0_i32_68_r0
  let true_70_r0 : BitVec 1 := 1#1
  let c1_i32_69_r0 : BitVec 32 := 1#32
  let v62_r0 : BitVec 32 := Scalar.subi arg37_r0 c1_i32_69_r0
  let v63_r0 : BitVec 32 := Scalar.select true_70_r0 v62_r0 arg37_r0
  let c_m1_i32_71_r0 : BitVec 32 := 4294967295#32
  let v64_r0 : BitVec 1 := Scalar.cmpi .eq v63_r0 c_m1_i32_71_r0
  let c7_i32_72_r0 : BitVec 32 := 7#32
  let v65_r0 : BitVec 32 := Scalar.select v64_r0 c7_i32_72_r0 v63_r0
  let c0_i32_73_r0 : BitVec 32 := 0#32
  let v66_r0 : BitVec 32 := Scalar.addi v65_r0 c0_i32_73_r0
  let v116_r0 : BitVec 1 := Scalar.cmpi .ne v61_r0 v66_r0
  let c0_i32_42_r0 : BitVec 32 := 0#32
  let c1_i32_44_r0 : BitVec 32 := 1#32
  let arg30_r0 : BitVec 32 := Scf.iv c0_i32_42_r0 c1_i32_44_r0 k0_t1
  let c0_i32_66_r0 : BitVec 32 := 0#32
  let v59_r0 : BitVec 1 := Scalar.cmpi .eq arg30_r0 c0_i32_66_r0
  let v117_r0 : BitVec 1 := Scalar.ori v116_r0 v59_r0
  let c0_i32_106_r0 : BitVec 32 := 0#32
  let v118_r0 : BitVec 1 := Scalar.cmpi .sge arg30_r0 c0_i32_106_r0
  let v119_r0 : BitVec 1 := Scalar.andi v117_r0 v118_r0
  let v120_r0 : BitVec 32 := Scalar.extui v119_r0
  let c0_i32_107_r0 : BitVec 32 := 0#32
  let v121_r0 : BitVec 1 := Scalar.cmpi .ne v120_r0 c0_i32_107_r0
  v121_r0

def k0_off18 (arg34_r0 : BitVec 32) : Fin 3 → Nat :=
  let c2_i32_161_r0 : BitVec 32 := 2#32
  let v226_r0 : BitVec 32 := Scalar.remui arg34_r0 c2_i32_161_r0
  let c0_i32_162_r0 : BitVec 32 := 0#32
  let c0_i32_163_r0 : BitVec 32 := 0#32
  ![v226_r0.toNat, 0, 0]
def k0_off19 (arg37_r0 : BitVec 32) : Fin 2 → Nat :=
  let c512_i32_160_r0 : BitVec 32 := 512#32
  let c0_i32_68_r0 : BitVec 32 := 0#32
  let v61_r0 : BitVec 32 := Scalar.addi arg37_r0 c0_i32_68_r0
  let v225_r0 : BitVec 32 := Scalar.muli c512_i32_160_r0 v61_r0
  let c0_i32_164_r0 : BitVec 32 := 0#32
  ![v225_r0.toNat, 0]
def k0_off20 (arg36_r0 : BitVec 32) : Fin 1 → Nat :=
  let c2_i32_161_r0 : BitVec 32 := 2#32
  let v226_r0 : BitVec 32 := Scalar.remui arg36_r0 c2_i32_161_r0
  ![v226_r0.toNat]
def k0_cond6 (k0_t1 : Fin k0_t1_loop.trips) (arg37_r0 : BitVec 32) : BitVec 1 :=
  let c0_i32_68_r0 : BitVec 32 := 0#32
  let v61_r0 : BitVec 32 := Scalar.addi arg37_r0 c0_i32_68_r0
  let true_70_r0 : BitVec 1 := 1#1
  let c1_i32_69_r0 : BitVec 32 := 1#32
  let v62_r0 : BitVec 32 := Scalar.subi arg37_r0 c1_i32_69_r0
  let v63_r0 : BitVec 32 := Scalar.select true_70_r0 v62_r0 arg37_r0
  let c_m1_i32_71_r0 : BitVec 32 := 4294967295#32
  let v64_r0 : BitVec 1 := Scalar.cmpi .eq v63_r0 c_m1_i32_71_r0
  let c7_i32_72_r0 : BitVec 32 := 7#32
  let v65_r0 : BitVec 32 := Scalar.select v64_r0 c7_i32_72_r0 v63_r0
  let c0_i32_73_r0 : BitVec 32 := 0#32
  let v66_r0 : BitVec 32 := Scalar.addi v65_r0 c0_i32_73_r0
  let v122_r0 : BitVec 1 := Scalar.cmpi .ne v61_r0 v66_r0
  let c0_i32_42_r0 : BitVec 32 := 0#32
  let c1_i32_44_r0 : BitVec 32 := 1#32
  let arg30_r0 : BitVec 32 := Scf.iv c0_i32_42_r0 c1_i32_44_r0 k0_t1
  let c0_i32_66_r0 : BitVec 32 := 0#32
  let v59_r0 : BitVec 1 := Scalar.cmpi .eq arg30_r0 c0_i32_66_r0
  let v123_r0 : BitVec 1 := Scalar.ori v122_r0 v59_r0
  let c0_i32_108_r0 : BitVec 32 := 0#32
  let v124_r0 : BitVec 1 := Scalar.cmpi .sge arg30_r0 c0_i32_108_r0
  let v125_r0 : BitVec 1 := Scalar.andi v123_r0 v124_r0
  let v126_r0 : BitVec 32 := Scalar.extui v125_r0
  let c0_i32_109_r0 : BitVec 32 := 0#32
  let v127_r0 : BitVec 1 := Scalar.cmpi .ne v126_r0 c0_i32_109_r0
  v127_r0

def k0_off21 (arg36_r0 : BitVec 32) : Fin 3 → Nat :=
  let c2_i32_161_r0 : BitVec 32 := 2#32
  let v226_r0 : BitVec 32 := Scalar.remui arg36_r0 c2_i32_161_r0
  let c0_i32_162_r0 : BitVec 32 := 0#32
  let c0_i32_163_r0 : BitVec 32 := 0#32
  ![v226_r0.toNat, 0, 0]
def k0_off22 (arg37_r0 : BitVec 32) : Fin 2 → Nat :=
  let c512_i32_160_r0 : BitVec 32 := 512#32
  let c0_i32_68_r0 : BitVec 32 := 0#32
  let v61_r0 : BitVec 32 := Scalar.addi arg37_r0 c0_i32_68_r0
  let v225_r0 : BitVec 32 := Scalar.muli c512_i32_160_r0 v61_r0
  let c0_i32_164_r0 : BitVec 32 := 0#32
  ![v225_r0.toNat, 0]
def k0_off23 (arg32_r0 : BitVec 32) : Fin 3 → Nat :=
  let c2_i32_113_r0 : BitVec 32 := 2#32
  let v133_r0 : BitVec 32 := Scalar.remui arg32_r0 c2_i32_113_r0
  let v136_r0 : Index := Scalar.indexCast v133_r0
  let c0_r0 : Index := 0#32
  let c0_116_r0 : Index := 0#32
  ![v136_r0.toNat, 0, 0]

def k0_chk2 (arg32_r0 : BitVec 32) : Prop :=
  (∀ a, (k0_off23 arg32_r0) a + S1x512x4096.size a ≤ S2x512x4096.size a)
theorem k0_off23_inb : ∀ (arg32_r0 : BitVec 32) (k0_hw2 : k0_chk2 arg32_r0), ∀ a, (k0_off23 arg32_r0) a + S1x512x4096.size a ≤ S2x512x4096.size a := fun arg32_r0 k0_hw2 => k0_hw2

def k0_off24 (arg34_r0 : BitVec 32) : Fin 3 → Nat :=
  let c2_i32_114_r0 : BitVec 32 := 2#32
  let v134_r0 : BitVec 32 := Scalar.remui arg34_r0 c2_i32_114_r0
  let v143_r0 : Index := Scalar.indexCast v134_r0
  let c0_119_r0 : Index := 0#32
  let c0_120_r0 : Index := 0#32
  ![v143_r0.toNat, 0, 0]

def k0_chk3 (arg34_r0 : BitVec 32) : Prop :=
  (∀ a, (k0_off24 arg34_r0) a + S1x512x384.size a ≤ S2x512x384.size a)
theorem k0_off24_inb : ∀ (arg34_r0 : BitVec 32) (k0_hw3 : k0_chk3 arg34_r0), ∀ a, (k0_off24 arg34_r0) a + S1x512x384.size a ≤ S2x512x384.size a := fun arg34_r0 k0_hw3 => k0_hw3

def k0_off25 (arg36_r0 : BitVec 32) : Fin 3 → Nat :=
  let c2_i32_115_r0 : BitVec 32 := 2#32
  let v135_r0 : BitVec 32 := Scalar.remui arg36_r0 c2_i32_115_r0
  let v158_r0 : Index := Scalar.indexCast v135_r0
  let c0_128_r0 : Index := 0#32
  let c0_129_r0 : Index := 0#32
  ![v158_r0.toNat, 0, 0]

def k0_chk4 (arg36_r0 : BitVec 32) : Prop :=
  (∀ a, (k0_off25 arg36_r0) a + S1x512x64.size a ≤ S2x512x64.size a)
theorem k0_off25_inb : ∀ (arg36_r0 : BitVec 32) (k0_hw4 : k0_chk4 arg36_r0), ∀ a, (k0_off25 arg36_r0) a + S1x512x64.size a ≤ S2x512x64.size a := fun arg36_r0 k0_hw4 => k0_hw4

def k0_off26 (arg37_r0 : BitVec 32) : Fin 2 → Nat :=
  let c0_i32_68_r0 : BitVec 32 := 0#32
  let v61_r0 : BitVec 32 := Scalar.addi arg37_r0 c0_i32_68_r0
  let c512_i32_r0 : BitVec 32 := 512#32
  let v77_r0 : BitVec 32 := Scalar.muli v61_r0 c512_i32_r0
  let v163_r0 : Index := Scalar.indexCast v77_r0
  let c0_130_r0 : Index := 0#32
  ![v163_r0.toNat, 0]

def k0_chk1 (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) : Prop :=
  (∀ (k0_h1 : k0_cond1 k0_t1 arg37_r0 = 1#1), ∀ a, (k0_off5 arg31_r0) a + S1.size a ≤ S2.size a) ∧
  (∀ (k0_h1 : k0_cond1 k0_t1 arg37_r0 = 1#1), ∀ a, (k0_off6 arg31_r0) a + S1x512x4096.size a ≤ S2x512x4096.size a) ∧
  (∀ (k0_h1 : k0_cond1 k0_t1 arg37_r0 = 1#1), ∀ a, (k0_off7 arg37_r0) a + S512x4096.size a ≤ S4096x4096.size a) ∧
  (∀ (k0_h2 : k0_cond2 k0_t1 arg37_r0 = 1#1), ∀ a, (k0_off8 arg33_r0) a + S1.size a ≤ S2.size a) ∧
  (∀ (k0_h2 : k0_cond2 k0_t1 arg37_r0 = 1#1), ∀ a, (k0_off9 arg33_r0) a + S1x512x384.size a ≤ S2x512x384.size a) ∧
  (∀ (k0_h2 : k0_cond2 k0_t1 arg37_r0 = 1#1), ∀ a, (k0_off10 arg37_r0) a + S512x384.size a ≤ S4096x384.size a) ∧
  (∀ (k0_h3 : k0_cond3 k0_t1 arg37_r0 = 1#1), ∀ a, (k0_off11 arg35_r0) a + S1.size a ≤ S2.size a) ∧
  (∀ (k0_h3 : k0_cond3 k0_t1 arg37_r0 = 1#1), ∀ a, (k0_off12 arg35_r0) a + S1x512x64.size a ≤ S2x512x64.size a) ∧
  (∀ (k0_h3 : k0_cond3 k0_t1 arg37_r0 = 1#1), ∀ a, (k0_off13 arg37_r0) a + S512x64.size a ≤ S4096x64.size a) ∧
  (∀ (k0_h4 : k0_cond4 k0_t1 arg37_r0 = 1#1), ∀ a, (k0_off14 arg32_r0) a + S1.size a ≤ S2.size a) ∧
  (∀ (k0_h4 : k0_cond4 k0_t1 arg37_r0 = 1#1), ∀ a, (k0_off15 arg32_r0) a + S1x512x4096.size a ≤ S2x512x4096.size a) ∧
  (∀ (k0_h4 : k0_cond4 k0_t1 arg37_r0 = 1#1), ∀ a, (k0_off16 arg37_r0) a + S512x4096.size a ≤ S4096x4096.size a) ∧
  (∀ (k0_h5 : k0_cond5 k0_t1 arg37_r0 = 1#1), ∀ a, (k0_off17 arg34_r0) a + S1.size a ≤ S2.size a) ∧
  (∀ (k0_h5 : k0_cond5 k0_t1 arg37_r0 = 1#1), ∀ a, (k0_off18 arg34_r0) a + S1x512x384.size a ≤ S2x512x384.size a) ∧
  (∀ (k0_h5 : k0_cond5 k0_t1 arg37_r0 = 1#1), ∀ a, (k0_off19 arg37_r0) a + S512x384.size a ≤ S4096x384.size a) ∧
  (∀ (k0_h6 : k0_cond6 k0_t1 arg37_r0 = 1#1), ∀ a, (k0_off20 arg36_r0) a + S1.size a ≤ S2.size a) ∧
  (∀ (k0_h6 : k0_cond6 k0_t1 arg37_r0 = 1#1), ∀ a, (k0_off21 arg36_r0) a + S1x512x64.size a ≤ S2x512x64.size a) ∧
  (∀ (k0_h6 : k0_cond6 k0_t1 arg37_r0 = 1#1), ∀ a, (k0_off22 arg37_r0) a + S512x64.size a ≤ S4096x64.size a) ∧
  (∀ a, (k0_off26 arg37_r0) a + S512x192.size a ≤ S4096x192.size a) ∧
  (∀ (hinb : ∀ a, (k0_off26 arg37_r0) a + S512x192.size a ≤ S4096x192.size a), (Rect.unit (s := S4096x192) (k0_off26 arg37_r0) S512x192.size hinb).PackedRows (EltTy.packing .bf16))
theorem k0_off5_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h1 : k0_cond1 k0_t1 arg37_r0 = 1#1), ∀ a, (k0_off5 arg31_r0) a + S1.size a ≤ S2.size a := fun k0_t1 arg31_r0 arg32_r0 arg33_r0 arg34_r0 arg35_r0 arg36_r0 arg37_r0 k0_hw1 k0_h1 => k0_hw1.1 k0_h1
theorem k0_off6_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h1 : k0_cond1 k0_t1 arg37_r0 = 1#1), ∀ a, (k0_off6 arg31_r0) a + S1x512x4096.size a ≤ S2x512x4096.size a := fun k0_t1 arg31_r0 arg32_r0 arg33_r0 arg34_r0 arg35_r0 arg36_r0 arg37_r0 k0_hw1 k0_h1 => k0_hw1.2.1 k0_h1
theorem k0_off7_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h1 : k0_cond1 k0_t1 arg37_r0 = 1#1), ∀ a, (k0_off7 arg37_r0) a + S512x4096.size a ≤ S4096x4096.size a := fun k0_t1 arg31_r0 arg32_r0 arg33_r0 arg34_r0 arg35_r0 arg36_r0 arg37_r0 k0_hw1 k0_h1 => k0_hw1.2.2.1 k0_h1
theorem k0_off8_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h2 : k0_cond2 k0_t1 arg37_r0 = 1#1), ∀ a, (k0_off8 arg33_r0) a + S1.size a ≤ S2.size a := fun k0_t1 arg31_r0 arg32_r0 arg33_r0 arg34_r0 arg35_r0 arg36_r0 arg37_r0 k0_hw1 k0_h2 => k0_hw1.2.2.2.1 k0_h2
theorem k0_off9_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h2 : k0_cond2 k0_t1 arg37_r0 = 1#1), ∀ a, (k0_off9 arg33_r0) a + S1x512x384.size a ≤ S2x512x384.size a := fun k0_t1 arg31_r0 arg32_r0 arg33_r0 arg34_r0 arg35_r0 arg36_r0 arg37_r0 k0_hw1 k0_h2 => k0_hw1.2.2.2.2.1 k0_h2
theorem k0_off10_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h2 : k0_cond2 k0_t1 arg37_r0 = 1#1), ∀ a, (k0_off10 arg37_r0) a + S512x384.size a ≤ S4096x384.size a := fun k0_t1 arg31_r0 arg32_r0 arg33_r0 arg34_r0 arg35_r0 arg36_r0 arg37_r0 k0_hw1 k0_h2 => k0_hw1.2.2.2.2.2.1 k0_h2
theorem k0_off11_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h3 : k0_cond3 k0_t1 arg37_r0 = 1#1), ∀ a, (k0_off11 arg35_r0) a + S1.size a ≤ S2.size a := fun k0_t1 arg31_r0 arg32_r0 arg33_r0 arg34_r0 arg35_r0 arg36_r0 arg37_r0 k0_hw1 k0_h3 => k0_hw1.2.2.2.2.2.2.1 k0_h3
theorem k0_off12_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h3 : k0_cond3 k0_t1 arg37_r0 = 1#1), ∀ a, (k0_off12 arg35_r0) a + S1x512x64.size a ≤ S2x512x64.size a := fun k0_t1 arg31_r0 arg32_r0 arg33_r0 arg34_r0 arg35_r0 arg36_r0 arg37_r0 k0_hw1 k0_h3 => k0_hw1.2.2.2.2.2.2.2.1 k0_h3
theorem k0_off13_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h3 : k0_cond3 k0_t1 arg37_r0 = 1#1), ∀ a, (k0_off13 arg37_r0) a + S512x64.size a ≤ S4096x64.size a := fun k0_t1 arg31_r0 arg32_r0 arg33_r0 arg34_r0 arg35_r0 arg36_r0 arg37_r0 k0_hw1 k0_h3 => k0_hw1.2.2.2.2.2.2.2.2.1 k0_h3
theorem k0_off14_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h4 : k0_cond4 k0_t1 arg37_r0 = 1#1), ∀ a, (k0_off14 arg32_r0) a + S1.size a ≤ S2.size a := fun k0_t1 arg31_r0 arg32_r0 arg33_r0 arg34_r0 arg35_r0 arg36_r0 arg37_r0 k0_hw1 k0_h4 => k0_hw1.2.2.2.2.2.2.2.2.2.1 k0_h4
theorem k0_off15_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h4 : k0_cond4 k0_t1 arg37_r0 = 1#1), ∀ a, (k0_off15 arg32_r0) a + S1x512x4096.size a ≤ S2x512x4096.size a := fun k0_t1 arg31_r0 arg32_r0 arg33_r0 arg34_r0 arg35_r0 arg36_r0 arg37_r0 k0_hw1 k0_h4 => k0_hw1.2.2.2.2.2.2.2.2.2.2.1 k0_h4
theorem k0_off16_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h4 : k0_cond4 k0_t1 arg37_r0 = 1#1), ∀ a, (k0_off16 arg37_r0) a + S512x4096.size a ≤ S4096x4096.size a := fun k0_t1 arg31_r0 arg32_r0 arg33_r0 arg34_r0 arg35_r0 arg36_r0 arg37_r0 k0_hw1 k0_h4 => k0_hw1.2.2.2.2.2.2.2.2.2.2.2.1 k0_h4
theorem k0_off17_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h5 : k0_cond5 k0_t1 arg37_r0 = 1#1), ∀ a, (k0_off17 arg34_r0) a + S1.size a ≤ S2.size a := fun k0_t1 arg31_r0 arg32_r0 arg33_r0 arg34_r0 arg35_r0 arg36_r0 arg37_r0 k0_hw1 k0_h5 => k0_hw1.2.2.2.2.2.2.2.2.2.2.2.2.1 k0_h5
theorem k0_off18_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h5 : k0_cond5 k0_t1 arg37_r0 = 1#1), ∀ a, (k0_off18 arg34_r0) a + S1x512x384.size a ≤ S2x512x384.size a := fun k0_t1 arg31_r0 arg32_r0 arg33_r0 arg34_r0 arg35_r0 arg36_r0 arg37_r0 k0_hw1 k0_h5 => k0_hw1.2.2.2.2.2.2.2.2.2.2.2.2.2.1 k0_h5
theorem k0_off19_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h5 : k0_cond5 k0_t1 arg37_r0 = 1#1), ∀ a, (k0_off19 arg37_r0) a + S512x384.size a ≤ S4096x384.size a := fun k0_t1 arg31_r0 arg32_r0 arg33_r0 arg34_r0 arg35_r0 arg36_r0 arg37_r0 k0_hw1 k0_h5 => k0_hw1.2.2.2.2.2.2.2.2.2.2.2.2.2.2.1 k0_h5
theorem k0_off20_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h6 : k0_cond6 k0_t1 arg37_r0 = 1#1), ∀ a, (k0_off20 arg36_r0) a + S1.size a ≤ S2.size a := fun k0_t1 arg31_r0 arg32_r0 arg33_r0 arg34_r0 arg35_r0 arg36_r0 arg37_r0 k0_hw1 k0_h6 => k0_hw1.2.2.2.2.2.2.2.2.2.2.2.2.2.2.2.1 k0_h6
theorem k0_off21_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h6 : k0_cond6 k0_t1 arg37_r0 = 1#1), ∀ a, (k0_off21 arg36_r0) a + S1x512x64.size a ≤ S2x512x64.size a := fun k0_t1 arg31_r0 arg32_r0 arg33_r0 arg34_r0 arg35_r0 arg36_r0 arg37_r0 k0_hw1 k0_h6 => k0_hw1.2.2.2.2.2.2.2.2.2.2.2.2.2.2.2.2.1 k0_h6
theorem k0_off22_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ (k0_h6 : k0_cond6 k0_t1 arg37_r0 = 1#1), ∀ a, (k0_off22 arg37_r0) a + S512x64.size a ≤ S4096x64.size a := fun k0_t1 arg31_r0 arg32_r0 arg33_r0 arg34_r0 arg35_r0 arg36_r0 arg37_r0 k0_hw1 k0_h6 => k0_hw1.2.2.2.2.2.2.2.2.2.2.2.2.2.2.2.2.2.1 k0_h6
theorem k0_off26_inb : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), ∀ a, (k0_off26 arg37_r0) a + S512x192.size a ≤ S4096x192.size a := fun k0_t1 arg31_r0 arg32_r0 arg33_r0 arg34_r0 arg35_r0 arg36_r0 arg37_r0 k0_hw1 => k0_hw1.2.2.2.2.2.2.2.2.2.2.2.2.2.2.2.2.2.2.1
theorem k0_off26_packedbf16 : ∀ (k0_t1 : Fin k0_t1_loop.trips) (arg31_r0 : BitVec 32) (arg32_r0 : BitVec 32) (arg33_r0 : BitVec 32) (arg34_r0 : BitVec 32) (arg35_r0 : BitVec 32) (arg36_r0 : BitVec 32) (arg37_r0 : BitVec 32) (k0_hw1 : k0_chk1 k0_t1 arg31_r0 arg32_r0 arg33_r0 arg34_r0 arg35_r0 arg36_r0 arg37_r0), (Rect.unit (s := S4096x192) (k0_off26 arg37_r0) S512x192.size (k0_off26_inb k0_t1 arg31_r0 arg32_r0 arg33_r0 arg34_r0 arg35_r0 arg36_r0 arg37_r0 k0_hw1)).PackedRows (EltTy.packing .bf16) := fun k0_t1 arg31_r0 arg32_r0 arg33_r0 arg34_r0 arg35_r0 arg36_r0 arg37_r0 k0_hw1 => k0_hw1.2.2.2.2.2.2.2.2.2.2.2.2.2.2.2.2.2.2.2 (k0_off26_inb k0_t1 arg31_r0 arg32_r0 arg33_r0 arg34_r0 arg35_r0 arg36_r0 arg37_r0 k0_hw1)

@[reducible] def k0_t2_loop : Scf.Loop 32 :=
  let c0_i32_44_r1 : BitVec 32 := 0#32
  let c16_i32_45_r1 : BitVec 32 := 16#32
  let v31_r1 : BitVec 32 := Scalar.addi c0_i32_44_r1 c16_i32_45_r1
  let c1_i32_46_r1 : BitVec 32 := 1#32
  ⟨c0_i32_44_r1, v31_r1, c1_i32_46_r1⟩
def k0_off27 (arg31_r1 : BitVec 32) : Fin 1 → Nat :=
  let c2_i32_223_r1 : BitVec 32 := 2#32
  let v324_r1 : BitVec 32 := Scalar.remui arg31_r1 c2_i32_223_r1
  ![v324_r1.toNat]
def k0_cond16 (k0_t2 : Fin k0_t2_loop.trips) (arg39_r1 : BitVec 32) : BitVec 1 :=
  let c0_i32_79_r1 : BitVec 32 := 0#32
  let v69_r1 : BitVec 32 := Scalar.addi arg39_r1 c0_i32_79_r1
  let true_86_r1 : BitVec 1 := 1#1
  let c1_i32_85_r1 : BitVec 32 := 1#32
  let v75_r1 : BitVec 32 := Scalar.addi arg39_r1 c1_i32_85_r1
  let v76_r1 : BitVec 32 := Scalar.select true_86_r1 v75_r1 arg39_r1
  let c16_i32_87_r1 : BitVec 32 := 16#32
  let v77_r1 : BitVec 1 := Scalar.cmpi .eq v76_r1 c16_i32_87_r1
  let c0_i32_88_r1 : BitVec 32 := 0#32
  let v78_r1 : BitVec 32 := Scalar.select v77_r1 c0_i32_88_r1 v76_r1
  let c0_i32_89_r1 : BitVec 32 := 0#32
  let v79_r1 : BitVec 32 := Scalar.addi v78_r1 c0_i32_89_r1
  let v89_r1 : BitVec 1 := Scalar.cmpi .ne v69_r1 v79_r1
  let c0_i32_44_r1 : BitVec 32 := 0#32
  let c1_i32_46_r1 : BitVec 32 := 1#32
  let arg30_r1 : BitVec 32 := Scf.iv c0_i32_44_r1 c1_i32_46_r1 k0_t2
  let c15_i32_99_r1 : BitVec 32 := 15#32
  let v90_r1 : BitVec 1 := Scalar.cmpi .sge arg30_r1 c15_i32_99_r1
  let true_100_r1 : BitVec 1 := 1#1
  let v91_r1 : BitVec 1 := Scalar.xori v90_r1 true_100_r1
  let v92_r1 : BitVec 1 := Scalar.andi v89_r1 v91_r1
  let true_101_r1 : BitVec 1 := 1#1
  let v93_r1 : BitVec 1 := Scalar.andi v92_r1 true_101_r1
  let v94_r1 : BitVec 32 := Scalar.extui v93_r1
  let c0_i32_102_r1 : BitVec 32 := 0#32
  let v95_r1 : BitVec 1 := Scalar.cmpi .ne v94_r1 c0_i32_102_r1
  v95_r1

def k0_off28 (arg31_r1 : BitVec 32) : Fin 3 → Nat :=
  let c2_i32_223_r1 : BitVec 32 := 2#32
  let v324_r1 : BitVec 32 := Scalar.remui arg31_r1 c2_i32_223_r1
  let c0_i32_225_r1 : BitVec 32 := 0#32
  let c0_i32_226_r1 : BitVec 32 := 0#32
  ![v324_r1.toNat, 0, 0]
def k0_off29 (arg39_r1 : BitVec 32) : Fin 2 → Nat :=
  let c512_i32_224_r1 : BitVec 32 := 512#32
  let true_86_r1 : BitVec 1 := 1#1
  let c1_i32_85_r1 : BitVec 32 := 1#32
  let v75_r1 : BitVec 32 := Scalar.addi arg39_r1 c1_i32_85_r1
  let v76_r1 : BitVec 32 := Scalar.select true_86_r1 v75_r1 arg39_r1
  let c16_i32_87_r1 : BitVec 32 := 16#32
  let v77_r1 : BitVec 1 := Scalar.cmpi .eq v76_r1 c16_i32_87_r1
  let c0_i32_88_r1 : BitVec 32 := 0#32
  let v78_r1 : BitVec 32 := Scalar.select v77_r1 c0_i32_88_r1 v76_r1
  let c0_i32_89_r1 : BitVec 32 := 0#32
  let v79_r1 : BitVec 32 := Scalar.addi v78_r1 c0_i32_89_r1
  let v325_r1 : BitVec 32 := Scalar.muli c512_i32_224_r1 v79_r1
  let c0_i32_227_r1 : BitVec 32 := 0#32
  ![v325_r1.toNat, 0]
def k0_off30 (arg33_r1 : BitVec 32) : Fin 1 → Nat :=
  let c2_i32_223_r1 : BitVec 32 := 2#32
  let v324_r1 : BitVec 32 := Scalar.remui arg33_r1 c2_i32_223_r1
  ![v324_r1.toNat]
def k0_cond17 (k0_t2 : Fin k0_t2_loop.trips) (arg39_r1 : BitVec 32) : BitVec 1 :=
  let c0_i32_79_r1 : BitVec 32 := 0#32
  let v69_r1 : BitVec 32 := Scalar.addi arg39_r1 c0_i32_79_r1
  let true_86_r1 : BitVec 1 := 1#1
  let c1_i32_85_r1 : BitVec 32 := 1#32
  let v75_r1 : BitVec 32 := Scalar.addi arg39_r1 c1_i32_85_r1
  let v76_r1 : BitVec 32 := Scalar.select true_86_r1 v75_r1 arg39_r1
  let c16_i32_87_r1 : BitVec 32 := 16#32
  let v77_r1 : BitVec 1 := Scalar.cmpi .eq v76_r1 c16_i32_87_r1
  let c0_i32_88_r1 : BitVec 32 := 0#32
  let v78_r1 : BitVec 32 := Scalar.select v77_r1 c0_i32_88_r1 v76_r1
  let c0_i32_89_r1 : BitVec 32 := 0#32
  let v79_r1 : BitVec 32 := Scalar.addi v78_r1 c0_i32_89_r1
  let v99_r1 : BitVec 1 := Scalar.cmpi .ne v69_r1 v79_r1
  let c0_i32_44_r1 : BitVec 32 := 0#32
  let c1_i32_46_r1 : BitVec 32 := 1#32
  let arg30_r1 : BitVec 32 := Scf.iv c0_i32_44_r1 c1_i32_46_r1 k0_t2
  let c15_i32_105_r1 : BitVec 32 := 15#32
  let v100_r1 : BitVec 1 := Scalar.cmpi .sge arg30_r1 c15_i32_105_r1
  let true_106_r1 : BitVec 1 := 1#1
  let v101_r1 : BitVec 1 := Scalar.xori v100_r1 true_106_r1
  let v102_r1 : BitVec 1 := Scalar.andi v99_r1 v101_r1
  let true_107_r1 : BitVec 1 := 1#1
  let v103_r1 : BitVec 1 := Scalar.andi v102_r1 true_107_r1
  let v104_r1 : BitVec 32 := Scalar.extui v103_r1
  let c0_i32_108_r1 : BitVec 32 := 0#32
  let v105_r1 : BitVec 1 := Scalar.cmpi .ne v104_r1 c0_i32_108_r1
  v105_r1

def k0_off31 (arg33_r1 : BitVec 32) : Fin 3 → Nat :=
  let c2_i32_223_r1 : BitVec 32 := 2#32
  let v324_r1 : BitVec 32 := Scalar.remui arg33_r1 c2_i32_223_r1
  let c0_i32_225_r1 : BitVec 32 := 0#32
  let c0_i32_226_r1 : BitVec 32 := 0#32
  ![v324_r1.toNat, 0, 0]
def k0_off32 (arg39_r1 : BitVec 32) : Fin 2 → Nat :=
  let c512_i32_224_r1 : BitVec 32 := 512#32
  let true_86_r1 : BitVec 1 := 1#1
  let c1_i32_85_r1 : BitVec 32 := 1#32
  let v75_r1 : BitVec 32 := Scalar.addi arg39_r1 c1_i32_85_r1
  let v76_r1 : BitVec 32 := Scalar.select true_86_r1 v75_r1 arg39_r1
  let c16_i32_87_r1 : BitVec 32 := 16#32
  let v77_r1 : BitVec 1 := Scalar.cmpi .eq v76_r1 c16_i32_87_r1
  let c0_i32_88_r1 : BitVec 32 := 0#32
  let v78_r1 : BitVec 32 := Scalar.select v77_r1 c0_i32_88_r1 v76_r1
  let c0_i32_89_r1 : BitVec 32 := 0#32
  let v79_r1 : BitVec 32 := Scalar.addi v78_r1 c0_i32_89_r1
  let v325_r1 : BitVec 32 := Scalar.muli c512_i32_224_r1 v79_r1
  let c0_i32_227_r1 : BitVec 32 := 0#32
  ![v325_r1.toNat, 0]
def k0_off33 (arg32_r1 : BitVec 32) : Fin 1 → Nat :=
  let c2_i32_224_r1 : BitVec 32 := 2#32
  let v325_r1 : BitVec 32 := Scalar.remui arg32_r1 c2_i32_224_r1
  ![v325_r1.toNat]
def k0_cond18 (k0_t2 : Fin k0_t2_loop.trips) (arg39_r1 : BitVec 32) : BitVec 1 :=
  let c0_i32_79_r1 : BitVec 32 := 0#32
  let v69_r1 : BitVec 32 := Scalar.addi arg39_r1 c0_i32_79_r1
  let true_81_r1 : BitVec 1 := 1#1
  let c1_i32_80_r1 : BitVec 32 := 1#32
  let v70_r1 : BitVec 32 := Scalar.subi arg39_r1 c1_i32_80_r1
  let v71_r1 : BitVec 32 := Scalar.select true_81_r1 v70_r1 arg39_r1
  let c_m1_i32_82_r1 : BitVec 32 := 4294967295#32
  let v72_r1 : BitVec 1 := Scalar.cmpi .eq v71_r1 c_m1_i32_82_r1
  let c15_i32_83_r1 : BitVec 32 := 15#32
  let v73_r1 : BitVec 32 := Scalar.select v72_r1 c15_i32_83_r1 v71_r1
  let c0_i32_84_r1 : BitVec 32 := 0#32
  let v74_r1 : BitVec 32 := Scalar.addi v73_r1 c0_i32_84_r1
  let v125_r1 : BitVec 1 := Scalar.cmpi .ne v69_r1 v74_r1
  let c0_i32_44_r1 : BitVec 32 := 0#32
  let c1_i32_46_r1 : BitVec 32 := 1#32
  let arg30_r1 : BitVec 32 := Scf.iv c0_i32_44_r1 c1_i32_46_r1 k0_t2
  let c0_i32_77_r1 : BitVec 32 := 0#32
  let v67_r1 : BitVec 1 := Scalar.cmpi .eq arg30_r1 c0_i32_77_r1
  let v126_r1 : BitVec 1 := Scalar.ori v125_r1 v67_r1
  let c0_i32_126_r1 : BitVec 32 := 0#32
  let v127_r1 : BitVec 1 := Scalar.cmpi .sge arg30_r1 c0_i32_126_r1
  let v128_r1 : BitVec 1 := Scalar.andi v126_r1 v127_r1
  let v129_r1 : BitVec 32 := Scalar.extui v128_r1
  let c0_i32_127_r1 : BitVec 32 := 0#32
  let v130_r1 : BitVec 1 := Scalar.cmpi .ne v129_r1 c0_i32_127_r1
  v130_r1

def k0_off34 (arg32_r1 : BitVec 32) : Fin 3 → Nat :=
  let c2_i32_224_r1 : BitVec 32 := 2#32
  let v325_r1 : BitVec 32 := Scalar.remui arg32_r1 c2_i32_224_r1
  let c0_i32_225_r1 : BitVec 32 := 0#32
  let c0_i32_226_r1 : BitVec 32 := 0#32
  ![v325_r1.toNat, 0, 0]
def k0_off35 (arg39_r1 : BitVec 32) : Fin 2 → Nat :=
  let c512_i32_223_r1 : BitVec 32 := 512#32
  let c0_i32_79_r1 : BitVec 32 := 0#32
  let v69_r1 : BitVec 32 := Scalar.addi arg39_r1 c0_i32_79_r1
  let v324_r1 : BitVec 32 := Scalar.muli c512_i32_223_r1 v69_r1
  let c0_i32_227_r1 : BitVec 32 := 0#32
  ![v324_r1.toNat, 0]
def k0_off36 (arg34_r1 : BitVec 32) : Fin 1 → Nat :=
  let c2_i32_224_r1 : BitVec 32 := 2#32
  let v325_r1 : BitVec 32 := Scalar.remui arg34_r1 c2_i32_224_r1
  ![v325_r1.toNat]
def k0_cond19 (k0_t2 : Fin k0_t2_loop.trips) (arg39_r1 : BitVec 32) : BitVec 1 :=
  let c0_i32_79_r1 : BitVec 32 := 0#32
  let v69_r1 : BitVec 32 := Scalar.addi arg39_r1 c0_i32_79_r1
  let true_81_r1 : BitVec 1 := 1#1
  let c1_i32_80_r1 : BitVec 32 := 1#32
  let v70_r1 : BitVec 32 := Scalar.subi arg39_r1 c1_i32_80_r1
  let v71_r1 : BitVec 32 := Scalar.select true_81_r1 v70_r1 arg39_r1
  let c_m1_i32_82_r1 : BitVec 32 := 4294967295#32
  let v72_r1 : BitVec 1 := Scalar.cmpi .eq v71_r1 c_m1_i32_82_r1
  let c15_i32_83_r1 : BitVec 32 := 15#32
  let v73_r1 : BitVec 32 := Scalar.select v72_r1 c15_i32_83_r1 v71_r1
  let c0_i32_84_r1 : BitVec 32 := 0#32
  let v74_r1 : BitVec 32 := Scalar.addi v73_r1 c0_i32_84_r1
  let v131_r1 : BitVec 1 := Scalar.cmpi .ne v69_r1 v74_r1
  let c0_i32_44_r1 : BitVec 32 := 0#32
  let c1_i32_46_r1 : BitVec 32 := 1#32
  let arg30_r1 : BitVec 32 := Scf.iv c0_i32_44_r1 c1_i32_46_r1 k0_t2
  let c0_i32_77_r1 : BitVec 32 := 0#32
  let v67_r1 : BitVec 1 := Scalar.cmpi .eq arg30_r1 c0_i32_77_r1
  let v132_r1 : BitVec 1 := Scalar.ori v131_r1 v67_r1
  let c0_i32_128_r1 : BitVec 32 := 0#32
  let v133_r1 : BitVec 1 := Scalar.cmpi .sge arg30_r1 c0_i32_128_r1
  let v134_r1 : BitVec 1 := Scalar.andi v132_r1 v133_r1
  let v135_r1 : BitVec 32 := Scalar.extui v134_r1
  let c0_i32_129_r1 : BitVec 32 := 0#32
  let v136_r1 : BitVec 1 := Scalar.cmpi .ne v135_r1 c0_i32_129_r1
  v136_r1

def k0_off37 (arg34_r1 : BitVec 32) : Fin 3 → Nat :=
  let c2_i32_224_r1 : BitVec 32 := 2#32
  let v325_r1 : BitVec 32 := Scalar.remui arg34_r1 c2_i32_224_r1
  let c0_i32_225_r1 : BitVec 32 := 0#32
  let c0_i32_226_r1 : BitVec 32 := 0#32
  ![v325_r1.toNat, 0, 0]
def k0_off38 (arg39_r1 : BitVec 32) : Fin 2 → Nat :=
  let c512_i32_223_r1 : BitVec 32 := 512#32
  let c0_i32_79_r1 : BitVec 32 := 0#32
  let v69_r1 : BitVec 32 := Scalar.addi arg39_r1 c0_i32_79_r1
  let v324_r1 : BitVec 32 := Scalar.muli c512_i32_223_r1 v69_r1
  let c0_i32_227_r1 : BitVec 32 := 0#32
  ![v324_r1.toNat, 0]
def k0_off39 (arg32_r1 : BitVec 32) : Fin 3 → Nat :=
  let c2_i32_146_r1 : BitVec 32 := 2#32
  let v169_r1 : BitVec 32 := Scalar.remui arg32_r1 c2_i32_146_r1
  let v173_r1 : Index := Scalar.indexCast v169_r1
  let c0_r1 : Index := 0#32
  let c0_150_r1 : Index := 0#32
  ![v173_r1.toNat, 0, 0]

def k0_chk6 (arg32_r1 : BitVec 32) : Prop :=
  (∀ a, (k0_off39 arg32_r1) a + S1x512x4096.size a ≤ S2x512x4096.size a)
theorem k0_off39_inb : ∀ (arg32_r1 : BitVec 32) (k0_hw6 : k0_chk6 arg32_r1), ∀ a, (k0_off39 arg32_r1) a + S1x512x4096.size a ≤ S2x512x4096.size a := fun arg32_r1 k0_hw6 => k0_hw6

def k0_off40 (arg34_r1 : BitVec 32) : Fin 3 → Nat :=
  let c2_i32_147_r1 : BitVec 32 := 2#32
  let v170_r1 : BitVec 32 := Scalar.remui arg34_r1 c2_i32_147_r1
  let v190_r1 : Index := Scalar.indexCast v170_r1
  let c0_154_r1 : Index := 0#32
  let c0_155_r1 : Index := 0#32
  ![v190_r1.toNat, 0, 0]

def k0_chk7 (arg34_r1 : BitVec 32) : Prop :=
  (∀ a, (k0_off40 arg34_r1) a + S1x512x64.size a ≤ S2x512x64.size a)
theorem k0_off40_inb : ∀ (arg34_r1 : BitVec 32) (k0_hw7 : k0_chk7 arg34_r1), ∀ a, (k0_off40 arg34_r1) a + S1x512x64.size a ≤ S2x512x64.size a := fun arg34_r1 k0_hw7 => k0_hw7

def k0_off41 (arg35_r1 : BitVec 32) : Fin 3 → Nat :=
  let c2_i32_148_r1 : BitVec 32 := 2#32
  let v171_r1 : BitVec 32 := Scalar.remui arg35_r1 c2_i32_148_r1
  let v199_r1 : Index := Scalar.indexCast v171_r1
  let c0_157_r1 : Index := 0#32
  let c0_158_r1 : Index := 0#32
  ![v199_r1.toNat, 0, 0]

def k0_chk8 (arg35_r1 : BitVec 32) : Prop :=
  (∀ a, (k0_off41 arg35_r1) a + S1x512x64.size a ≤ S2x512x64.size a)
theorem k0_off41_inb : ∀ (arg35_r1 : BitVec 32) (k0_hw8 : k0_chk8 arg35_r1), ∀ a, (k0_off41 arg35_r1) a + S1x512x64.size a ≤ S2x512x64.size a := fun arg35_r1 k0_hw8 => k0_hw8

def k0_off42 (arg37_r1 : BitVec 32) : Fin 3 → Nat :=
  let c2_i32_149_r1 : BitVec 32 := 2#32
  let v172_r1 : BitVec 32 := Scalar.remui arg37_r1 c2_i32_149_r1
  let v203_r1 : Index := Scalar.indexCast v172_r1
  let c0_159_r1 : Index := 0#32
  let c0_160_r1 : Index := 0#32
  ![v203_r1.toNat, 0, 0]

def k0_chk9 (arg37_r1 : BitVec 32) : Prop :=
  (∀ a, (k0_off42 arg37_r1) a + S1x512x64.size a ≤ S2x512x64.size a)
theorem k0_off42_inb : ∀ (arg37_r1 : BitVec 32) (k0_hw9 : k0_chk9 arg37_r1), ∀ a, (k0_off42 arg37_r1) a + S1x512x64.size a ≤ S2x512x64.size a := fun arg37_r1 k0_hw9 => k0_hw9

def k0_off43 (arg39_r1 : BitVec 32) : Fin 2 → Nat :=
  let c0_i32_79_r1 : BitVec 32 := 0#32
  let v69_r1 : BitVec 32 := Scalar.addi arg39_r1 c0_i32_79_r1
  let c512_i32_95_r1 : BitVec 32 := 512#32
  let v85_r1 : BitVec 32 := Scalar.muli v69_r1 c512_i32_95_r1
  let v207_r1 : Index := Scalar.indexCast v85_r1
  let c0_161_r1 : Index := 0#32
  ![v207_r1.toNat, 0]
def k0_off44 (arg39_r1 : BitVec 32) : Fin 2 → Nat :=
  let c0_i32_79_r1 : BitVec 32 := 0#32
  let v69_r1 : BitVec 32 := Scalar.addi arg39_r1 c0_i32_79_r1
  let c512_i32_98_r1 : BitVec 32 := 512#32
  let v88_r1 : BitVec 32 := Scalar.muli v69_r1 c512_i32_98_r1
  let v220_r1 : Index := Scalar.indexCast v88_r1
  let c0_164_r1 : Index := 0#32
  ![v220_r1.toNat, 0]
def k0_off45 (arg35_r1 : BitVec 32) : Fin 1 → Nat :=
  let c2_i32_223_r1 : BitVec 32 := 2#32
  let v324_r1 : BitVec 32 := Scalar.remui arg35_r1 c2_i32_223_r1
  ![v324_r1.toNat]
def k0_cond28 (k0_t2 : Fin k0_t2_loop.trips) (arg39_r1 : BitVec 32) : BitVec 1 :=
  let c0_i32_79_r1 : BitVec 32 := 0#32
  let v69_r1 : BitVec 32 := Scalar.addi arg39_r1 c0_i32_79_r1
  let true_86_r1 : BitVec 1 := 1#1
  let c1_i32_85_r1 : BitVec 32 := 1#32
  let v75_r1 : BitVec 32 := Scalar.addi arg39_r1 c1_i32_85_r1
  let v76_r1 : BitVec 32 := Scalar.select true_86_r1 v75_r1 arg39_r1
  let c16_i32_87_r1 : BitVec 32 := 16#32
  let v77_r1 : BitVec 1 := Scalar.cmpi .eq v76_r1 c16_i32_87_r1
  let c0_i32_88_r1 : BitVec 32 := 0#32
  let v78_r1 : BitVec 32 := Scalar.select v77_r1 c0_i32_88_r1 v76_r1
  let c0_i32_89_r1 : BitVec 32 := 0#32
  let v79_r1 : BitVec 32 := Scalar.addi v78_r1 c0_i32_89_r1
  let v234_r1 : BitVec 1 := Scalar.cmpi .ne v69_r1 v79_r1
  let c0_i32_44_r1 : BitVec 32 := 0#32
  let c1_i32_46_r1 : BitVec 32 := 1#32
  let arg30_r1 : BitVec 32 := Scf.iv c0_i32_44_r1 c1_i32_46_r1 k0_t2
  let c15_i32_78_r1 : BitVec 32 := 15#32
  let v68_r1 : BitVec 1 := Scalar.cmpi .eq arg30_r1 c15_i32_78_r1
  let v235_r1 : BitVec 1 := Scalar.ori v234_r1 v68_r1
  let v236_r1 : BitVec 32 := Scalar.extui v235_r1
  let c0_i32_169_r1 : BitVec 32 := 0#32
  let v237_r1 : BitVec 1 := Scalar.cmpi .ne v236_r1 c0_i32_169_r1
  v237_r1

def k0_off46 (arg39_r1 : BitVec 32) : Fin 2 → Nat :=
  let c512_i32_224_r1 : BitVec 32 := 512#32
  let c0_i32_79_r1 : BitVec 32 := 0#32
  let v69_r1 : BitVec 32 := Scalar.addi arg39_r1 c0_i32_79_r1
  let v325_r1 : BitVec 32 := Scalar.muli c512_i32_224_r1 v69_r1
  let c0_i32_225_r1 : BitVec 32 := 0#32
  ![v325_r1.toNat, 0]
def k0_off47 (arg35_r1 : BitVec 32) : Fin 3 → Nat :=
  let c2_i32_223_r1 : BitVec 32 := 2#32
  let v324_r1 : BitVec 32 := Scalar.remui arg35_r1 c2_i32_223_r1
  let c0_i32_226_r1 : BitVec 32 := 0#32
  let c0_i32_227_r1 : BitVec 32 := 0#32
  ![v324_r1.toNat, 0, 0]
def k0_off48 (arg37_r1 : BitVec 32) : Fin 1 → Nat :=
  let c2_i32_223_r1 : BitVec 32 := 2#32
  let v324_r1 : BitVec 32 := Scalar.remui arg37_r1 c2_i32_223_r1
  ![v324_r1.toNat]
def k0_cond29 (k0_t2 : Fin k0_t2_loop.trips) (arg39_r1 : BitVec 32) : BitVec 1 :=
  let c0_i32_79_r1 : BitVec 32 := 0#32
  let v69_r1 : BitVec 32 := Scalar.addi arg39_r1 c0_i32_79_r1
  let true_86_r1 : BitVec 1 := 1#1
  let c1_i32_85_r1 : BitVec 32 := 1#32
  let v75_r1 : BitVec 32 := Scalar.addi arg39_r1 c1_i32_85_r1
  let v76_r1 : BitVec 32 := Scalar.select true_86_r1 v75_r1 arg39_r1
  let c16_i32_87_r1 : BitVec 32 := 16#32
  let v77_r1 : BitVec 1 := Scalar.cmpi .eq v76_r1 c16_i32_87_r1
  let c0_i32_88_r1 : BitVec 32 := 0#32
  let v78_r1 : BitVec 32 := Scalar.select v77_r1 c0_i32_88_r1 v76_r1
  let c0_i32_89_r1 : BitVec 32 := 0#32
  let v79_r1 : BitVec 32 := Scalar.addi v78_r1 c0_i32_89_r1
  let v241_r1 : BitVec 1 := Scalar.cmpi .ne v69_r1 v79_r1
  let c0_i32_44_r1 : BitVec 32 := 0#32
  let c1_i32_46_r1 : BitVec 32 := 1#32
  let arg30_r1 : BitVec 32 := Scf.iv c0_i32_44_r1 c1_i32_46_r1 k0_t2
  let c15_i32_78_r1 : BitVec 32 := 15#32
  let v68_r1 : BitVec 1 := Scalar.cmpi .eq arg30_r1 c15_i32_78_r1
  let v242_r1 : BitVec 1 := Scalar.ori v241_r1 v68_r1
  let v243_r1 : BitVec 32 := Scalar.extui v242_r1
  let c0_i32_172_r1 : BitVec 32 := 0#32
  let v244_r1 : BitVec 1 := Scalar.cmpi .ne v243_r1 c0_i32_172_r1
  v244_r1

def k0_off49 (arg39_r1 : BitVec 32) : Fin 2 → Nat :=
  let c512_i32_224_r1 : BitVec 32 := 512#32
  let c0_i32_79_r1 : BitVec 32 := 0#32
  let v69_r1 : BitVec 32 := Scalar.addi arg39_r1 c0_i32_79_r1
  let v325_r1 : BitVec 32 := Scalar.muli c512_i32_224_r1 v69_r1
  let c0_i32_225_r1 : BitVec 32 := 0#32
  ![v325_r1.toNat, 0]
def k0_off50 (arg37_r1 : BitVec 32) : Fin 3 → Nat :=
  let c2_i32_223_r1 : BitVec 32 := 2#32
  let v324_r1 : BitVec 32 := Scalar.remui arg37_r1 c2_i32_223_r1
  let c0_i32_226_r1 : BitVec 32 := 0#32
  let c0_i32_227_r1 : BitVec 32 := 0#32
  ![v324_r1.toNat, 0, 0]
def k0_off51 (arg36_r1 : BitVec 32) : Fin 1 → Nat :=
  let c2_i32_223_r1 : BitVec 32 := 2#32
  let v324_r1 : BitVec 32 := Scalar.remui arg36_r1 c2_i32_223_r1
  ![v324_r1.toNat]
def k0_cond36 (k0_t2 : Fin k0_t2_loop.trips) (arg39_r1 : BitVec 32) : BitVec 1 :=
  let c0_i32_79_r1 : BitVec 32 := 0#32
  let v69_r1 : BitVec 32 := Scalar.addi arg39_r1 c0_i32_79_r1
  let true_81_r1 : BitVec 1 := 1#1
  let c1_i32_80_r1 : BitVec 32 := 1#32
  let v70_r1 : BitVec 32 := Scalar.subi arg39_r1 c1_i32_80_r1
  let v71_r1 : BitVec 32 := Scalar.select true_81_r1 v70_r1 arg39_r1
  let c_m1_i32_82_r1 : BitVec 32 := 4294967295#32
  let v72_r1 : BitVec 1 := Scalar.cmpi .eq v71_r1 c_m1_i32_82_r1
  let c15_i32_83_r1 : BitVec 32 := 15#32
  let v73_r1 : BitVec 32 := Scalar.select v72_r1 c15_i32_83_r1 v71_r1
  let c0_i32_84_r1 : BitVec 32 := 0#32
  let v74_r1 : BitVec 32 := Scalar.addi v73_r1 c0_i32_84_r1
  let v276_r1 : BitVec 1 := Scalar.cmpi .ne v69_r1 v74_r1
  let c0_i32_44_r1 : BitVec 32 := 0#32
  let c1_i32_46_r1 : BitVec 32 := 1#32
  let arg30_r1 : BitVec 32 := Scf.iv c0_i32_44_r1 c1_i32_46_r1 k0_t2
  let c0_i32_77_r1 : BitVec 32 := 0#32
  let v67_r1 : BitVec 1 := Scalar.cmpi .eq arg30_r1 c0_i32_77_r1
  let true_193_r1 : BitVec 1 := 1#1
  let v277_r1 : BitVec 1 := Scalar.xori v67_r1 true_193_r1
  let v278_r1 : BitVec 1 := Scalar.andi v276_r1 v277_r1
  let v279_r1 : BitVec 32 := Scalar.extui v278_r1
  let c0_i32_194_r1 : BitVec 32 := 0#32
  let v280_r1 : BitVec 1 := Scalar.cmpi .ne v279_r1 c0_i32_194_r1
  v280_r1

def k0_off52 (arg39_r1 : BitVec 32) : Fin 2 → Nat :=
  let c512_i32_224_r1 : BitVec 32 := 512#32
  let true_81_r1 : BitVec 1 := 1#1
  let c1_i32_80_r1 : BitVec 32 := 1#32
  let v70_r1 : BitVec 32 := Scalar.subi arg39_r1 c1_i32_80_r1
  let v71_r1 : BitVec 32 := Scalar.select true_81_r1 v70_r1 arg39_r1
  let c_m1_i32_82_r1 : BitVec 32 := 4294967295#32
  let v72_r1 : BitVec 1 := Scalar.cmpi .eq v71_r1 c_m1_i32_82_r1
  let c15_i32_83_r1 : BitVec 32 := 15#32
  let v73_r1 : BitVec 32 := Scalar.select v72_r1 c15_i32_83_r1 v71_r1
  let c0_i32_84_r1 : BitVec 32 := 0#32
  let v74_r1 : BitVec 32 := Scalar.addi v73_r1 c0_i32_84_r1
  let v325_r1 : BitVec 32 := Scalar.muli c512_i32_224_r1 v74_r1
  let c0_i32_225_r1 : BitVec 32 := 0#32
  ![v325_r1.toNat, 0]
def k0_off53 (arg36_r1 : BitVec 32) : Fin 3 → Nat :=
  let c2_i32_223_r1 : BitVec 32 := 2#32
  let v324_r1 : BitVec 32 := Scalar.remui arg36_r1 c2_i32_223_r1
  let c0_i32_226_r1 : BitVec 32 := 0#32
  let c0_i32_227_r1 : BitVec 32 := 0#32
  ![v324_r1.toNat, 0, 0]
def k0_off54 (arg38_r1 : BitVec 32) : Fin 1 → Nat :=
  let c2_i32_223_r1 : BitVec 32 := 2#32
  let v324_r1 : BitVec 32 := Scalar.remui arg38_r1 c2_i32_223_r1
  ![v324_r1.toNat]
def k0_cond37 (k0_t2 : Fin k0_t2_loop.trips) (arg39_r1 : BitVec 32) : BitVec 1 :=
  let c0_i32_79_r1 : BitVec 32 := 0#32
  let v69_r1 : BitVec 32 := Scalar.addi arg39_r1 c0_i32_79_r1
  let true_81_r1 : BitVec 1 := 1#1
  let c1_i32_80_r1 : BitVec 32 := 1#32
  let v70_r1 : BitVec 32 := Scalar.subi arg39_r1 c1_i32_80_r1
  let v71_r1 : BitVec 32 := Scalar.select true_81_r1 v70_r1 arg39_r1
  let c_m1_i32_82_r1 : BitVec 32 := 4294967295#32
  let v72_r1 : BitVec 1 := Scalar.cmpi .eq v71_r1 c_m1_i32_82_r1
  let c15_i32_83_r1 : BitVec 32 := 15#32
  let v73_r1 : BitVec 32 := Scalar.select v72_r1 c15_i32_83_r1 v71_r1
  let c0_i32_84_r1 : BitVec 32 := 0#32
  let v74_r1 : BitVec 32 := Scalar.addi v73_r1 c0_i32_84_r1
  let v284_r1 : BitVec 1 := Scalar.cmpi .ne v69_r1 v74_r1
  let c0_i32_44_r1 : BitVec 32 := 0#32
  let c1_i32_46_r1 : BitVec 32 := 1#32
  let arg30_r1 : BitVec 32 := Scf.iv c0_i32_44_r1 c1_i32_46_r1 k0_t2
  let c0_i32_77_r1 : BitVec 32 := 0#32
  let v67_r1 : BitVec 1 := Scalar.cmpi .eq arg30_r1 c0_i32_77_r1
  let true_197_r1 : BitVec 1 := 1#1
  let v285_r1 : BitVec 1 := Scalar.xori v67_r1 true_197_r1
  let v286_r1 : BitVec 1 := Scalar.andi v284_r1 v285_r1
  let v287_r1 : BitVec 32 := Scalar.extui v286_r1
  let c0_i32_198_r1 : BitVec 32 := 0#32
  let v288_r1 : BitVec 1 := Scalar.cmpi .ne v287_r1 c0_i32_198_r1
  v288_r1

def k0_off55 (arg39_r1 : BitVec 32) : Fin 2 → Nat :=
  let c512_i32_224_r1 : BitVec 32 := 512#32
  let true_81_r1 : BitVec 1 := 1#1
  let c1_i32_80_r1 : BitVec 32 := 1#32
  let v70_r1 : BitVec 32 := Scalar.subi arg39_r1 c1_i32_80_r1
  let v71_r1 : BitVec 32 := Scalar.select true_81_r1 v70_r1 arg39_r1
  let c_m1_i32_82_r1 : BitVec 32 := 4294967295#32
  let v72_r1 : BitVec 1 := Scalar.cmpi .eq v71_r1 c_m1_i32_82_r1
  let c15_i32_83_r1 : BitVec 32 := 15#32
  let v73_r1 : BitVec 32 := Scalar.select v72_r1 c15_i32_83_r1 v71_r1
  let c0_i32_84_r1 : BitVec 32 := 0#32
  let v74_r1 : BitVec 32 := Scalar.addi v73_r1 c0_i32_84_r1
  let v325_r1 : BitVec 32 := Scalar.muli c512_i32_224_r1 v74_r1
  let c0_i32_225_r1 : BitVec 32 := 0#32
  ![v325_r1.toNat, 0]
def k0_off56 (arg38_r1 : BitVec 32) : Fin 3 → Nat :=
  let c2_i32_223_r1 : BitVec 32 := 2#32
  let v324_r1 : BitVec 32 := Scalar.remui arg38_r1 c2_i32_223_r1
  let c0_i32_226_r1 : BitVec 32 := 0#32
  let c0_i32_227_r1 : BitVec 32 := 0#32
  ![v324_r1.toNat, 0, 0]

def k0_chk5 (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) : Prop :=
  (∀ (k0_h16 : k0_cond16 k0_t2 arg39_r1 = 1#1), ∀ a, (k0_off27 arg31_r1) a + S1.size a ≤ S2.size a) ∧
  (∀ (k0_h16 : k0_cond16 k0_t2 arg39_r1 = 1#1), ∀ a, (k0_off28 arg31_r1) a + S1x512x4096.size a ≤ S2x512x4096.size a) ∧
  (∀ (k0_h16 : k0_cond16 k0_t2 arg39_r1 = 1#1), ∀ a, (k0_off29 arg39_r1) a + S512x4096.size a ≤ S8192x4096.size a) ∧
  (∀ (k0_h17 : k0_cond17 k0_t2 arg39_r1 = 1#1), ∀ a, (k0_off30 arg33_r1) a + S1.size a ≤ S2.size a) ∧
  (∀ (k0_h17 : k0_cond17 k0_t2 arg39_r1 = 1#1), ∀ a, (k0_off31 arg33_r1) a + S1x512x64.size a ≤ S2x512x64.size a) ∧
  (∀ (k0_h17 : k0_cond17 k0_t2 arg39_r1 = 1#1), ∀ a, (k0_off32 arg39_r1) a + S512x64.size a ≤ S8192x64.size a) ∧
  (∀ (k0_h18 : k0_cond18 k0_t2 arg39_r1 = 1#1), ∀ a, (k0_off33 arg32_r1) a + S1.size a ≤ S2.size a) ∧
  (∀ (k0_h18 : k0_cond18 k0_t2 arg39_r1 = 1#1), ∀ a, (k0_off34 arg32_r1) a + S1x512x4096.size a ≤ S2x512x4096.size a) ∧
  (∀ (k0_h18 : k0_cond18 k0_t2 arg39_r1 = 1#1), ∀ a, (k0_off35 arg39_r1) a + S512x4096.size a ≤ S8192x4096.size a) ∧
  (∀ (k0_h19 : k0_cond19 k0_t2 arg39_r1 = 1#1), ∀ a, (k0_off36 arg34_r1) a + S1.size a ≤ S2.size a) ∧
  (∀ (k0_h19 : k0_cond19 k0_t2 arg39_r1 = 1#1), ∀ a, (k0_off37 arg34_r1) a + S1x512x64.size a ≤ S2x512x64.size a) ∧
  (∀ (k0_h19 : k0_cond19 k0_t2 arg39_r1 = 1#1), ∀ a, (k0_off38 arg39_r1) a + S512x64.size a ≤ S8192x64.size a) ∧
  (∀ a, (k0_off43 arg39_r1) a + S512x64.size a ≤ S8192x64.size a) ∧
  (∀ a, (k0_off44 arg39_r1) a + S512x192.size a ≤ S8192x192.size a) ∧
  (∀ (hinb : ∀ a, (k0_off44 arg39_r1) a + S512x192.size a ≤ S8192x192.size a), (Rect.unit (s := S8192x192) (k0_off44 arg39_r1) S512x192.size hinb).PackedRows (EltTy.packing .bf16)) ∧
  (∀ (k0_h28 : k0_cond28 k0_t2 arg39_r1 = 1#1), ∀ a, (k0_off45 arg35_r1) a + S1.size a ≤ S2.size a) ∧
  (∀ (k0_h28 : k0_cond28 k0_t2 arg39_r1 = 1#1), ∀ a, (k0_off46 arg39_r1) a + S512x64.size a ≤ S8192x64.size a) ∧
  (∀ (k0_h28 : k0_cond28 k0_t2 arg39_r1 = 1#1), ∀ a, (k0_off47 arg35_r1) a + S1x512x64.size a ≤ S2x512x64.size a) ∧
  (∀ (k0_h29 : k0_cond29 k0_t2 arg39_r1 = 1#1), ∀ a, (k0_off48 arg37_r1) a + S1.size a ≤ S2.size a) ∧
  (∀ (k0_h29 : k0_cond29 k0_t2 arg39_r1 = 1#1), ∀ a, (k0_off49 arg39_r1) a + S512x64.size a ≤ S8192x64.size a) ∧
  (∀ (k0_h29 : k0_cond29 k0_t2 arg39_r1 = 1#1), ∀ a, (k0_off50 arg37_r1) a + S1x512x64.size a ≤ S2x512x64.size a) ∧
  (∀ (k0_h36 : k0_cond36 k0_t2 arg39_r1 = 1#1), ∀ a, (k0_off51 arg36_r1) a + S1.size a ≤ S2.size a) ∧
  (∀ (k0_h36 : k0_cond36 k0_t2 arg39_r1 = 1#1), ∀ a, (k0_off52 arg39_r1) a + S512x64.size a ≤ S8192x64.size a) ∧
  (∀ (k0_h36 : k0_cond36 k0_t2 arg39_r1 = 1#1), ∀ a, (k0_off53 arg36_r1) a + S1x512x64.size a ≤ S2x512x64.size a) ∧
  (∀ (k0_h37 : k0_cond37 k0_t2 arg39_r1 = 1#1), ∀ a, (k0_off54 arg38_r1) a + S1.size a ≤ S2.size a) ∧
  (∀ (k0_h37 : k0_cond37 k0_t2 arg39_r1 = 1#1), ∀ a, (k0_off55 arg39_r1) a + S512x64.size a ≤ S8192x64.size a) ∧
  (∀ (k0_h37 : k0_cond37 k0_t2 arg39_r1 = 1#1), ∀ a, (k0_off56 arg38_r1) a + S1x512x64.size a ≤ S2x512x64.size a)
theorem k0_off27_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h16 : k0_cond16 k0_t2 arg39_r1 = 1#1), ∀ a, (k0_off27 arg31_r1) a + S1.size a ≤ S2.size a := fun k0_t2 arg31_r1 arg32_r1 arg33_r1 arg34_r1 arg35_r1 arg36_r1 arg37_r1 arg38_r1 arg39_r1 k0_hw5 k0_h16 => k0_hw5.1 k0_h16
theorem k0_off28_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h16 : k0_cond16 k0_t2 arg39_r1 = 1#1), ∀ a, (k0_off28 arg31_r1) a + S1x512x4096.size a ≤ S2x512x4096.size a := fun k0_t2 arg31_r1 arg32_r1 arg33_r1 arg34_r1 arg35_r1 arg36_r1 arg37_r1 arg38_r1 arg39_r1 k0_hw5 k0_h16 => k0_hw5.2.1 k0_h16
theorem k0_off29_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h16 : k0_cond16 k0_t2 arg39_r1 = 1#1), ∀ a, (k0_off29 arg39_r1) a + S512x4096.size a ≤ S8192x4096.size a := fun k0_t2 arg31_r1 arg32_r1 arg33_r1 arg34_r1 arg35_r1 arg36_r1 arg37_r1 arg38_r1 arg39_r1 k0_hw5 k0_h16 => k0_hw5.2.2.1 k0_h16
theorem k0_off30_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h17 : k0_cond17 k0_t2 arg39_r1 = 1#1), ∀ a, (k0_off30 arg33_r1) a + S1.size a ≤ S2.size a := fun k0_t2 arg31_r1 arg32_r1 arg33_r1 arg34_r1 arg35_r1 arg36_r1 arg37_r1 arg38_r1 arg39_r1 k0_hw5 k0_h17 => k0_hw5.2.2.2.1 k0_h17
theorem k0_off31_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h17 : k0_cond17 k0_t2 arg39_r1 = 1#1), ∀ a, (k0_off31 arg33_r1) a + S1x512x64.size a ≤ S2x512x64.size a := fun k0_t2 arg31_r1 arg32_r1 arg33_r1 arg34_r1 arg35_r1 arg36_r1 arg37_r1 arg38_r1 arg39_r1 k0_hw5 k0_h17 => k0_hw5.2.2.2.2.1 k0_h17
theorem k0_off32_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h17 : k0_cond17 k0_t2 arg39_r1 = 1#1), ∀ a, (k0_off32 arg39_r1) a + S512x64.size a ≤ S8192x64.size a := fun k0_t2 arg31_r1 arg32_r1 arg33_r1 arg34_r1 arg35_r1 arg36_r1 arg37_r1 arg38_r1 arg39_r1 k0_hw5 k0_h17 => k0_hw5.2.2.2.2.2.1 k0_h17
theorem k0_off33_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h18 : k0_cond18 k0_t2 arg39_r1 = 1#1), ∀ a, (k0_off33 arg32_r1) a + S1.size a ≤ S2.size a := fun k0_t2 arg31_r1 arg32_r1 arg33_r1 arg34_r1 arg35_r1 arg36_r1 arg37_r1 arg38_r1 arg39_r1 k0_hw5 k0_h18 => k0_hw5.2.2.2.2.2.2.1 k0_h18
theorem k0_off34_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h18 : k0_cond18 k0_t2 arg39_r1 = 1#1), ∀ a, (k0_off34 arg32_r1) a + S1x512x4096.size a ≤ S2x512x4096.size a := fun k0_t2 arg31_r1 arg32_r1 arg33_r1 arg34_r1 arg35_r1 arg36_r1 arg37_r1 arg38_r1 arg39_r1 k0_hw5 k0_h18 => k0_hw5.2.2.2.2.2.2.2.1 k0_h18
theorem k0_off35_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h18 : k0_cond18 k0_t2 arg39_r1 = 1#1), ∀ a, (k0_off35 arg39_r1) a + S512x4096.size a ≤ S8192x4096.size a := fun k0_t2 arg31_r1 arg32_r1 arg33_r1 arg34_r1 arg35_r1 arg36_r1 arg37_r1 arg38_r1 arg39_r1 k0_hw5 k0_h18 => k0_hw5.2.2.2.2.2.2.2.2.1 k0_h18
theorem k0_off36_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h19 : k0_cond19 k0_t2 arg39_r1 = 1#1), ∀ a, (k0_off36 arg34_r1) a + S1.size a ≤ S2.size a := fun k0_t2 arg31_r1 arg32_r1 arg33_r1 arg34_r1 arg35_r1 arg36_r1 arg37_r1 arg38_r1 arg39_r1 k0_hw5 k0_h19 => k0_hw5.2.2.2.2.2.2.2.2.2.1 k0_h19
theorem k0_off37_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h19 : k0_cond19 k0_t2 arg39_r1 = 1#1), ∀ a, (k0_off37 arg34_r1) a + S1x512x64.size a ≤ S2x512x64.size a := fun k0_t2 arg31_r1 arg32_r1 arg33_r1 arg34_r1 arg35_r1 arg36_r1 arg37_r1 arg38_r1 arg39_r1 k0_hw5 k0_h19 => k0_hw5.2.2.2.2.2.2.2.2.2.2.1 k0_h19
theorem k0_off38_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h19 : k0_cond19 k0_t2 arg39_r1 = 1#1), ∀ a, (k0_off38 arg39_r1) a + S512x64.size a ≤ S8192x64.size a := fun k0_t2 arg31_r1 arg32_r1 arg33_r1 arg34_r1 arg35_r1 arg36_r1 arg37_r1 arg38_r1 arg39_r1 k0_hw5 k0_h19 => k0_hw5.2.2.2.2.2.2.2.2.2.2.2.1 k0_h19
theorem k0_off43_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ a, (k0_off43 arg39_r1) a + S512x64.size a ≤ S8192x64.size a := fun k0_t2 arg31_r1 arg32_r1 arg33_r1 arg34_r1 arg35_r1 arg36_r1 arg37_r1 arg38_r1 arg39_r1 k0_hw5 => k0_hw5.2.2.2.2.2.2.2.2.2.2.2.2.1
theorem k0_off44_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ a, (k0_off44 arg39_r1) a + S512x192.size a ≤ S8192x192.size a := fun k0_t2 arg31_r1 arg32_r1 arg33_r1 arg34_r1 arg35_r1 arg36_r1 arg37_r1 arg38_r1 arg39_r1 k0_hw5 => k0_hw5.2.2.2.2.2.2.2.2.2.2.2.2.2.1
theorem k0_off44_packedbf16 : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), (Rect.unit (s := S8192x192) (k0_off44 arg39_r1) S512x192.size (k0_off44_inb k0_t2 arg31_r1 arg32_r1 arg33_r1 arg34_r1 arg35_r1 arg36_r1 arg37_r1 arg38_r1 arg39_r1 k0_hw5)).PackedRows (EltTy.packing .bf16) := fun k0_t2 arg31_r1 arg32_r1 arg33_r1 arg34_r1 arg35_r1 arg36_r1 arg37_r1 arg38_r1 arg39_r1 k0_hw5 => k0_hw5.2.2.2.2.2.2.2.2.2.2.2.2.2.2.1 (k0_off44_inb k0_t2 arg31_r1 arg32_r1 arg33_r1 arg34_r1 arg35_r1 arg36_r1 arg37_r1 arg38_r1 arg39_r1 k0_hw5)
theorem k0_off45_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h28 : k0_cond28 k0_t2 arg39_r1 = 1#1), ∀ a, (k0_off45 arg35_r1) a + S1.size a ≤ S2.size a := fun k0_t2 arg31_r1 arg32_r1 arg33_r1 arg34_r1 arg35_r1 arg36_r1 arg37_r1 arg38_r1 arg39_r1 k0_hw5 k0_h28 => k0_hw5.2.2.2.2.2.2.2.2.2.2.2.2.2.2.2.1 k0_h28
theorem k0_off46_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h28 : k0_cond28 k0_t2 arg39_r1 = 1#1), ∀ a, (k0_off46 arg39_r1) a + S512x64.size a ≤ S8192x64.size a := fun k0_t2 arg31_r1 arg32_r1 arg33_r1 arg34_r1 arg35_r1 arg36_r1 arg37_r1 arg38_r1 arg39_r1 k0_hw5 k0_h28 => k0_hw5.2.2.2.2.2.2.2.2.2.2.2.2.2.2.2.2.1 k0_h28
theorem k0_off47_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h28 : k0_cond28 k0_t2 arg39_r1 = 1#1), ∀ a, (k0_off47 arg35_r1) a + S1x512x64.size a ≤ S2x512x64.size a := fun k0_t2 arg31_r1 arg32_r1 arg33_r1 arg34_r1 arg35_r1 arg36_r1 arg37_r1 arg38_r1 arg39_r1 k0_hw5 k0_h28 => k0_hw5.2.2.2.2.2.2.2.2.2.2.2.2.2.2.2.2.2.1 k0_h28
theorem k0_off48_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h29 : k0_cond29 k0_t2 arg39_r1 = 1#1), ∀ a, (k0_off48 arg37_r1) a + S1.size a ≤ S2.size a := fun k0_t2 arg31_r1 arg32_r1 arg33_r1 arg34_r1 arg35_r1 arg36_r1 arg37_r1 arg38_r1 arg39_r1 k0_hw5 k0_h29 => k0_hw5.2.2.2.2.2.2.2.2.2.2.2.2.2.2.2.2.2.2.1 k0_h29
theorem k0_off49_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h29 : k0_cond29 k0_t2 arg39_r1 = 1#1), ∀ a, (k0_off49 arg39_r1) a + S512x64.size a ≤ S8192x64.size a := fun k0_t2 arg31_r1 arg32_r1 arg33_r1 arg34_r1 arg35_r1 arg36_r1 arg37_r1 arg38_r1 arg39_r1 k0_hw5 k0_h29 => k0_hw5.2.2.2.2.2.2.2.2.2.2.2.2.2.2.2.2.2.2.2.1 k0_h29
theorem k0_off50_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h29 : k0_cond29 k0_t2 arg39_r1 = 1#1), ∀ a, (k0_off50 arg37_r1) a + S1x512x64.size a ≤ S2x512x64.size a := fun k0_t2 arg31_r1 arg32_r1 arg33_r1 arg34_r1 arg35_r1 arg36_r1 arg37_r1 arg38_r1 arg39_r1 k0_hw5 k0_h29 => k0_hw5.2.2.2.2.2.2.2.2.2.2.2.2.2.2.2.2.2.2.2.2.1 k0_h29
theorem k0_off51_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h36 : k0_cond36 k0_t2 arg39_r1 = 1#1), ∀ a, (k0_off51 arg36_r1) a + S1.size a ≤ S2.size a := fun k0_t2 arg31_r1 arg32_r1 arg33_r1 arg34_r1 arg35_r1 arg36_r1 arg37_r1 arg38_r1 arg39_r1 k0_hw5 k0_h36 => k0_hw5.2.2.2.2.2.2.2.2.2.2.2.2.2.2.2.2.2.2.2.2.2.1 k0_h36
theorem k0_off52_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h36 : k0_cond36 k0_t2 arg39_r1 = 1#1), ∀ a, (k0_off52 arg39_r1) a + S512x64.size a ≤ S8192x64.size a := fun k0_t2 arg31_r1 arg32_r1 arg33_r1 arg34_r1 arg35_r1 arg36_r1 arg37_r1 arg38_r1 arg39_r1 k0_hw5 k0_h36 => k0_hw5.2.2.2.2.2.2.2.2.2.2.2.2.2.2.2.2.2.2.2.2.2.2.1 k0_h36
theorem k0_off53_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h36 : k0_cond36 k0_t2 arg39_r1 = 1#1), ∀ a, (k0_off53 arg36_r1) a + S1x512x64.size a ≤ S2x512x64.size a := fun k0_t2 arg31_r1 arg32_r1 arg33_r1 arg34_r1 arg35_r1 arg36_r1 arg37_r1 arg38_r1 arg39_r1 k0_hw5 k0_h36 => k0_hw5.2.2.2.2.2.2.2.2.2.2.2.2.2.2.2.2.2.2.2.2.2.2.2.1 k0_h36
theorem k0_off54_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h37 : k0_cond37 k0_t2 arg39_r1 = 1#1), ∀ a, (k0_off54 arg38_r1) a + S1.size a ≤ S2.size a := fun k0_t2 arg31_r1 arg32_r1 arg33_r1 arg34_r1 arg35_r1 arg36_r1 arg37_r1 arg38_r1 arg39_r1 k0_hw5 k0_h37 => k0_hw5.2.2.2.2.2.2.2.2.2.2.2.2.2.2.2.2.2.2.2.2.2.2.2.2.1 k0_h37
theorem k0_off55_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h37 : k0_cond37 k0_t2 arg39_r1 = 1#1), ∀ a, (k0_off55 arg39_r1) a + S512x64.size a ≤ S8192x64.size a := fun k0_t2 arg31_r1 arg32_r1 arg33_r1 arg34_r1 arg35_r1 arg36_r1 arg37_r1 arg38_r1 arg39_r1 k0_hw5 k0_h37 => k0_hw5.2.2.2.2.2.2.2.2.2.2.2.2.2.2.2.2.2.2.2.2.2.2.2.2.2.1 k0_h37
theorem k0_off56_inb : ∀ (k0_t2 : Fin k0_t2_loop.trips) (arg31_r1 : BitVec 32) (arg32_r1 : BitVec 32) (arg33_r1 : BitVec 32) (arg34_r1 : BitVec 32) (arg35_r1 : BitVec 32) (arg36_r1 : BitVec 32) (arg37_r1 : BitVec 32) (arg38_r1 : BitVec 32) (arg39_r1 : BitVec 32) (k0_hw5 : k0_chk5 k0_t2 arg31_r1 arg32_r1 arg33_r1 arg34_r1 arg35_r1 arg36_r1 arg37_r1 arg38_r1 arg39_r1), ∀ (k0_h37 : k0_cond37 k0_t2 arg39_r1 = 1#1), ∀ a, (k0_off56 arg38_r1) a + S1x512x64.size a ≤ S2x512x64.size a := fun k0_t2 arg31_r1 arg32_r1 arg33_r1 arg34_r1 arg35_r1 arg36_r1 arg37_r1 arg38_r1 arg39_r1 k0_hw5 k0_h37 => k0_hw5.2.2.2.2.2.2.2.2.2.2.2.2.2.2.2.2.2.2.2.2.2.2.2.2.2.2 k0_h37

def k0_off57 (v32_5_r1 : BitVec 32) : Fin 1 → Nat :=
  let c2_i32_68_r1 : BitVec 32 := 2#32
  let v53_r1 : BitVec 32 := Scalar.remui v32_5_r1 c2_i32_68_r1
  ![v53_r1.toNat]

def k0_off58 (v32_8_r1 : BitVec 32) : Fin 2 → Nat :=
  let c512_i32_r1 : BitVec 32 := 512#32
  let true_49_r1 : BitVec 1 := 1#1
  let c1_i32_48_r1 : BitVec 32 := 1#32
  let v33_r1 : BitVec 32 := Scalar.subi v32_8_r1 c1_i32_48_r1
  let v34_r1 : BitVec 32 := Scalar.select true_49_r1 v33_r1 v32_8_r1
  let c_m1_i32_50_r1 : BitVec 32 := 4294967295#32
  let v35_r1 : BitVec 1 := Scalar.cmpi .eq v34_r1 c_m1_i32_50_r1
  let c15_i32_51_r1 : BitVec 32 := 15#32
  let v36_r1 : BitVec 32 := Scalar.select v35_r1 c15_i32_51_r1 v34_r1
  let c0_i32_52_r1 : BitVec 32 := 0#32
  let v37_r1 : BitVec 32 := Scalar.addi v36_r1 c0_i32_52_r1
  let v54_r1 : BitVec 32 := Scalar.muli c512_i32_r1 v37_r1
  let c0_i32_69_r1 : BitVec 32 := 0#32
  ![v54_r1.toNat, 0]

def k0_off59 (v32_5_r1 : BitVec 32) : Fin 3 → Nat :=
  let c2_i32_68_r1 : BitVec 32 := 2#32
  let v53_r1 : BitVec 32 := Scalar.remui v32_5_r1 c2_i32_68_r1
  let c0_i32_70_r1 : BitVec 32 := 0#32
  let c0_i32_71_r1 : BitVec 32 := 0#32
  ![v53_r1.toNat, 0, 0]

def k0_chk10 (v32_5_r1 : BitVec 32) : Prop :=
  (∀ a, (k0_off57 v32_5_r1) a + S1.size a ≤ S2.size a) ∧
  (∀ a, (k0_off59 v32_5_r1) a + S1x512x64.size a ≤ S2x512x64.size a)
theorem k0_off57_inb : ∀ (v32_5_r1 : BitVec 32) (k0_hw10 : k0_chk10 v32_5_r1), ∀ a, (k0_off57 v32_5_r1) a + S1.size a ≤ S2.size a := fun v32_5_r1 k0_hw10 => k0_hw10.1
theorem k0_off59_inb : ∀ (v32_5_r1 : BitVec 32) (k0_hw10 : k0_chk10 v32_5_r1), ∀ a, (k0_off59 v32_5_r1) a + S1x512x64.size a ≤ S2x512x64.size a := fun v32_5_r1 k0_hw10 => k0_hw10.2

def k0_off60 (v32_7_r1 : BitVec 32) : Fin 1 → Nat :=
  let c2_i32_72_r1 : BitVec 32 := 2#32
  let v60_r1 : BitVec 32 := Scalar.remui v32_7_r1 c2_i32_72_r1
  ![v60_r1.toNat]

def k0_off61 (v32_8_r1 : BitVec 32) : Fin 2 → Nat :=
  let c512_i32_73_r1 : BitVec 32 := 512#32
  let true_49_r1 : BitVec 1 := 1#1
  let c1_i32_48_r1 : BitVec 32 := 1#32
  let v33_r1 : BitVec 32 := Scalar.subi v32_8_r1 c1_i32_48_r1
  let v34_r1 : BitVec 32 := Scalar.select true_49_r1 v33_r1 v32_8_r1
  let c_m1_i32_50_r1 : BitVec 32 := 4294967295#32
  let v35_r1 : BitVec 1 := Scalar.cmpi .eq v34_r1 c_m1_i32_50_r1
  let c15_i32_51_r1 : BitVec 32 := 15#32
  let v36_r1 : BitVec 32 := Scalar.select v35_r1 c15_i32_51_r1 v34_r1
  let c0_i32_52_r1 : BitVec 32 := 0#32
  let v37_r1 : BitVec 32 := Scalar.addi v36_r1 c0_i32_52_r1
  let v61_r1 : BitVec 32 := Scalar.muli c512_i32_73_r1 v37_r1
  let c0_i32_74_r1 : BitVec 32 := 0#32
  ![v61_r1.toNat, 0]

def k0_chk11 (v32_8_r1 : BitVec 32) : Prop :=
  (∀ a, (k0_off58 v32_8_r1) a + S512x64.size a ≤ S8192x64.size a) ∧
  (∀ a, (k0_off61 v32_8_r1) a + S512x64.size a ≤ S8192x64.size a)
theorem k0_off58_inb : ∀ (v32_8_r1 : BitVec 32) (k0_hw11 : k0_chk11 v32_8_r1), ∀ a, (k0_off58 v32_8_r1) a + S512x64.size a ≤ S8192x64.size a := fun v32_8_r1 k0_hw11 => k0_hw11.1
theorem k0_off61_inb : ∀ (v32_8_r1 : BitVec 32) (k0_hw11 : k0_chk11 v32_8_r1), ∀ a, (k0_off61 v32_8_r1) a + S512x64.size a ≤ S8192x64.size a := fun v32_8_r1 k0_hw11 => k0_hw11.2

def k0_off62 (v32_7_r1 : BitVec 32) : Fin 3 → Nat :=
  let c2_i32_72_r1 : BitVec 32 := 2#32
  let v60_r1 : BitVec 32 := Scalar.remui v32_7_r1 c2_i32_72_r1
  let c0_i32_75_r1 : BitVec 32 := 0#32
  let c0_i32_76_r1 : BitVec 32 := 0#32
  ![v60_r1.toNat, 0, 0]

def k0_chk12 (v32_7_r1 : BitVec 32) : Prop :=
  (∀ a, (k0_off60 v32_7_r1) a + S1.size a ≤ S2.size a) ∧
  (∀ a, (k0_off62 v32_7_r1) a + S1x512x64.size a ≤ S2x512x64.size a)
theorem k0_off60_inb : ∀ (v32_7_r1 : BitVec 32) (k0_hw12 : k0_chk12 v32_7_r1), ∀ a, (k0_off60 v32_7_r1) a + S1.size a ≤ S2.size a := fun v32_7_r1 k0_hw12 => k0_hw12.1
theorem k0_off62_inb : ∀ (v32_7_r1 : BitVec 32) (k0_hw12 : k0_chk12 v32_7_r1), ∀ a, (k0_off62 v32_7_r1) a + S1x512x64.size a ≤ S2x512x64.size a := fun v32_7_r1 k0_hw12 => k0_hw12.2

def k0_off63 : Fin 1 → Nat :=
  let c0_i32_14_r2 : BitVec 32 := 0#32
  let c2_i32_r2 : BitVec 32 := 2#32
  let v17_r2 : BitVec 32 := Scalar.remui c0_i32_14_r2 c2_i32_r2
  ![v17_r2.toNat]
def k0_off64 : Fin 3 → Nat :=
  let c0_i32_14_r2 : BitVec 32 := 0#32
  let c2_i32_r2 : BitVec 32 := 2#32
  let v17_r2 : BitVec 32 := Scalar.remui c0_i32_14_r2 c2_i32_r2
  let c0_i32_15_r2 : BitVec 32 := 0#32
  let c0_i32_16_r2 : BitVec 32 := 0#32
  ![v17_r2.toNat, 0, 0]
def k0_off65 : Fin 3 → Nat :=
  let c0_i32_21_r2 : BitVec 32 := 0#32
  let c2_i32_22_r2 : BitVec 32 := 2#32
  let v24_r2 : BitVec 32 := Scalar.remui c0_i32_21_r2 c2_i32_22_r2
  let c0_i32_23_r2 : BitVec 32 := 0#32
  let c0_i32_24_r2 : BitVec 32 := 0#32
  ![v24_r2.toNat, 0, 0]
@[reducible] def k0_t3_loop : Scf.Loop 32 :=
  let c0_i32_44_r2 : BitVec 32 := 0#32
  let c16_i32_45_r2 : BitVec 32 := 16#32
  let v31_r2 : BitVec 32 := Scalar.addi c0_i32_44_r2 c16_i32_45_r2
  let c1_i32_46_r2 : BitVec 32 := 1#32
  ⟨c0_i32_44_r2, v31_r2, c1_i32_46_r2⟩
def k0_off66 (arg31_r2 : BitVec 32) : Fin 1 → Nat :=
  let c2_i32_223_r2 : BitVec 32 := 2#32
  let v324_r2 : BitVec 32 := Scalar.remui arg31_r2 c2_i32_223_r2
  ![v324_r2.toNat]
def k0_cond42 (k0_t3 : Fin k0_t3_loop.trips) (arg39_r2 : BitVec 32) : BitVec 1 :=
  let c0_i32_79_r2 : BitVec 32 := 0#32
  let v69_r2 : BitVec 32 := Scalar.addi arg39_r2 c0_i32_79_r2
  let true_86_r2 : BitVec 1 := 1#1
  let c1_i32_85_r2 : BitVec 32 := 1#32
  let v75_r2 : BitVec 32 := Scalar.addi arg39_r2 c1_i32_85_r2
  let v76_r2 : BitVec 32 := Scalar.select true_86_r2 v75_r2 arg39_r2
  let c16_i32_87_r2 : BitVec 32 := 16#32
  let v77_r2 : BitVec 1 := Scalar.cmpi .eq v76_r2 c16_i32_87_r2
  let c0_i32_88_r2 : BitVec 32 := 0#32
  let v78_r2 : BitVec 32 := Scalar.select v77_r2 c0_i32_88_r2 v76_r2
  let c0_i32_89_r2 : BitVec 32 := 0#32
  let v79_r2 : BitVec 32 := Scalar.addi v78_r2 c0_i32_89_r2
  let v89_r2 : BitVec 1 := Scalar.cmpi .ne v69_r2 v79_r2
  let c0_i32_44_r2 : BitVec 32 := 0#32
  let c1_i32_46_r2 : BitVec 32 := 1#32
  let arg30_r2 : BitVec 32 := Scf.iv c0_i32_44_r2 c1_i32_46_r2 k0_t3
  let c15_i32_99_r2 : BitVec 32 := 15#32
  let v90_r2 : BitVec 1 := Scalar.cmpi .sge arg30_r2 c15_i32_99_r2
  let true_100_r2 : BitVec 1 := 1#1
  let v91_r2 : BitVec 1 := Scalar.xori v90_r2 true_100_r2
  let v92_r2 : BitVec 1 := Scalar.andi v89_r2 v91_r2
  let true_101_r2 : BitVec 1 := 1#1
  let v93_r2 : BitVec 1 := Scalar.andi v92_r2 true_101_r2
  let v94_r2 : BitVec 32 := Scalar.extui v93_r2
  let c0_i32_102_r2 : BitVec 32 := 0#32
  let v95_r2 : BitVec 1 := Scalar.cmpi .ne v94_r2 c0_i32_102_r2
  v95_r2

def k0_off67 (arg31_r2 : BitVec 32) : Fin 3 → Nat :=
  let c2_i32_223_r2 : BitVec 32 := 2#32
  let v324_r2 : BitVec 32 := Scalar.remui arg31_r2 c2_i32_223_r2
  let c0_i32_225_r2 : BitVec 32 := 0#32
  let c0_i32_226_r2 : BitVec 32 := 0#32
  ![v324_r2.toNat, 0, 0]
def k0_off68 (arg39_r2 : BitVec 32) : Fin 2 → Nat :=
  let c256_i32_224_r2 : BitVec 32 := 256#32
  let true_86_r2 : BitVec 1 := 1#1
  let c1_i32_85_r2 : BitVec 32 := 1#32
  let v75_r2 : BitVec 32 := Scalar.addi arg39_r2 c1_i32_85_r2
  let v76_r2 : BitVec 32 := Scalar.select true_86_r2 v75_r2 arg39_r2
  let c16_i32_87_r2 : BitVec 32 := 16#32
  let v77_r2 : BitVec 1 := Scalar.cmpi .eq v76_r2 c16_i32_87_r2
  let c0_i32_88_r2 : BitVec 32 := 0#32
  let v78_r2 : BitVec 32 := Scalar.select v77_r2 c0_i32_88_r2 v76_r2
  let c0_i32_89_r2 : BitVec 32 := 0#32
  let v79_r2 : BitVec 32 := Scalar.addi v78_r2 c0_i32_89_r2
  let v325_r2 : BitVec 32 := Scalar.muli c256_i32_224_r2 v79_r2
  let c0_i32_227_r2 : BitVec 32 := 0#32
  ![v325_r2.toNat, 0]
def k0_off69 (arg33_r2 : BitVec 32) : Fin 1 → Nat :=
  let c2_i32_223_r2 : BitVec 32 := 2#32
  let v324_r2 : BitVec 32 := Scalar.remui arg33_r2 c2_i32_223_r2
  ![v324_r2.toNat]
def k0_cond43 (k0_t3 : Fin k0_t3_loop.trips) (arg39_r2 : BitVec 32) : BitVec 1 :=
  let c0_i32_79_r2 : BitVec 32 := 0#32
  let v69_r2 : BitVec 32 := Scalar.addi arg39_r2 c0_i32_79_r2
  let true_86_r2 : BitVec 1 := 1#1
  let c1_i32_85_r2 : BitVec 32 := 1#32
  let v75_r2 : BitVec 32 := Scalar.addi arg39_r2 c1_i32_85_r2
  let v76_r2 : BitVec 32 := Scalar.select true_86_r2 v75_r2 arg39_r2
  let c16_i32_87_r2 : BitVec 32 := 16#32
  let v77_r2 : BitVec 1 := Scalar.cmpi .eq v76_r2 c16_i32_87_r2
  let c0_i32_88_r2 : BitVec 32 := 0#32
  let v78_r2 : BitVec 32 := Scalar.select v77_r2 c0_i32_88_r2 v76_r2
  let c0_i32_89_r2 : BitVec 32 := 0#32
  let v79_r2 : BitVec 32 := Scalar.addi v78_r2 c0_i32_89_r2
  let v99_r2 : BitVec 1 := Scalar.cmpi .ne v69_r2 v79_r2
  let c0_i32_44_r2 : BitVec 32 := 0#32
  let c1_i32_46_r2 : BitVec 32 := 1#32
  let arg30_r2 : BitVec 32 := Scf.iv c0_i32_44_r2 c1_i32_46_r2 k0_t3
  let c15_i32_105_r2 : BitVec 32 := 15#32
  let v100_r2 : BitVec 1 := Scalar.cmpi .sge arg30_r2 c15_i32_105_r2
  let true_106_r2 : BitVec 1 := 1#1
  let v101_r2 : BitVec 1 := Scalar.xori v100_r2 true_106_r2
  let v102_r2 : BitVec 1 := Scalar.andi v99_r2 v101_r2
  let true_107_r2 : BitVec 1 := 1#1
  let v103_r2 : BitVec 1 := Scalar.andi v102_r2 true_107_r2
  let v104_r2 : BitVec 32 := Scalar.extui v103_r2
  let c0_i32_108_r2 : BitVec 32 := 0#32
  let v105_r2 : BitVec 1 := Scalar.cmpi .ne v104_r2 c0_i32_108_r2
  v105_r2

def k0_off70 (arg33_r2 : BitVec 32) : Fin 3 → Nat :=
  let c2_i32_223_r2 : BitVec 32 := 2#32
  let v324_r2 : BitVec 32 := Scalar.remui arg33_r2 c2_i32_223_r2
  let c0_i32_225_r2 : BitVec 32 := 0#32
  let c0_i32_226_r2 : BitVec 32 := 0#32
  ![v324_r2.toNat, 0, 0]
def k0_off71 (arg39_r2 : BitVec 32) : Fin 2 → Nat :=
  let c256_i32_224_r2 : BitVec 32 := 256#32
  let true_86_r2 : BitVec 1 := 1#1
  let c1_i32_85_r2 : BitVec 32 := 1#32
  let v75_r2 : BitVec 32 := Scalar.addi arg39_r2 c1_i32_85_r2
  let v76_r2 : BitVec 32 := Scalar.select true_86_r2 v75_r2 arg39_r2
  let c16_i32_87_r2 : BitVec 32 := 16#32
  let v77_r2 : BitVec 1 := Scalar.cmpi .eq v76_r2 c16_i32_87_r2
  let c0_i32_88_r2 : BitVec 32 := 0#32
  let v78_r2 : BitVec 32 := Scalar.select v77_r2 c0_i32_88_r2 v76_r2
  let c0_i32_89_r2 : BitVec 32 := 0#32
  let v79_r2 : BitVec 32 := Scalar.addi v78_r2 c0_i32_89_r2
  let v325_r2 : BitVec 32 := Scalar.muli c256_i32_224_r2 v79_r2
  let c0_i32_227_r2 : BitVec 32 := 0#32
  ![v325_r2.toNat, 0]
def k0_off72 (arg32_r2 : BitVec 32) : Fin 1 → Nat :=
  let c2_i32_224_r2 : BitVec 32 := 2#32
  let v325_r2 : BitVec 32 := Scalar.remui arg32_r2 c2_i32_224_r2
  ![v325_r2.toNat]
def k0_cond44 (k0_t3 : Fin k0_t3_loop.trips) (arg39_r2 : BitVec 32) : BitVec 1 :=
  let c0_i32_79_r2 : BitVec 32 := 0#32
  let v69_r2 : BitVec 32 := Scalar.addi arg39_r2 c0_i32_79_r2
  let true_81_r2 : BitVec 1 := 1#1
  let c1_i32_80_r2 : BitVec 32 := 1#32
  let v70_r2 : BitVec 32 := Scalar.subi arg39_r2 c1_i32_80_r2
  let v71_r2 : BitVec 32 := Scalar.select true_81_r2 v70_r2 arg39_r2
  let c_m1_i32_82_r2 : BitVec 32 := 4294967295#32
  let v72_r2 : BitVec 1 := Scalar.cmpi .eq v71_r2 c_m1_i32_82_r2
  let c15_i32_83_r2 : BitVec 32 := 15#32
  let v73_r2 : BitVec 32 := Scalar.select v72_r2 c15_i32_83_r2 v71_r2
  let c0_i32_84_r2 : BitVec 32 := 0#32
  let v74_r2 : BitVec 32 := Scalar.addi v73_r2 c0_i32_84_r2
  let v125_r2 : BitVec 1 := Scalar.cmpi .ne v69_r2 v74_r2
  let c0_i32_44_r2 : BitVec 32 := 0#32
  let c1_i32_46_r2 : BitVec 32 := 1#32
  let arg30_r2 : BitVec 32 := Scf.iv c0_i32_44_r2 c1_i32_46_r2 k0_t3
  let c0_i32_77_r2 : BitVec 32 := 0#32
  let v67_r2 : BitVec 1 := Scalar.cmpi .eq arg30_r2 c0_i32_77_r2
  let v126_r2 : BitVec 1 := Scalar.ori v125_r2 v67_r2
  let c0_i32_126_r2 : BitVec 32 := 0#32
  let v127_r2 : BitVec 1 := Scalar.cmpi .sge arg30_r2 c0_i32_126_r2
  let v128_r2 : BitVec 1 := Scalar.andi v126_r2 v127_r2
  let v129_r2 : BitVec 32 := Scalar.extui v128_r2
  let c0_i32_127_r2 : BitVec 32 := 0#32
  let v130_r2 : BitVec 1 := Scalar.cmpi .ne v129_r2 c0_i32_127_r2
  v130_r2

def k0_off73 (arg32_r2 : BitVec 32) : Fin 3 → Nat :=
  let c2_i32_224_r2 : BitVec 32 := 2#32
  let v325_r2 : BitVec 32 := Scalar.remui arg32_r2 c2_i32_224_r2
  let c0_i32_225_r2 : BitVec 32 := 0#32
  let c0_i32_226_r2 : BitVec 32 := 0#32
  ![v325_r2.toNat, 0, 0]
def k0_off74 (arg39_r2 : BitVec 32) : Fin 2 → Nat :=
  let c256_i32_223_r2 : BitVec 32 := 256#32
  let c0_i32_79_r2 : BitVec 32 := 0#32
  let v69_r2 : BitVec 32 := Scalar.addi arg39_r2 c0_i32_79_r2
  let v324_r2 : BitVec 32 := Scalar.muli c256_i32_223_r2 v69_r2
  let c0_i32_227_r2 : BitVec 32 := 0#32
  ![v324_r2.toNat, 0]
def k0_off75 (arg34_r2 : BitVec 32) : Fin 1 → Nat :=
  let c2_i32_224_r2 : BitVec 32 := 2#32
  let v325_r2 : BitVec 32 := Scalar.remui arg34_r2 c2_i32_224_r2
  ![v325_r2.toNat]
def k0_cond45 (k0_t3 : Fin k0_t3_loop.trips) (arg39_r2 : BitVec 32) : BitVec 1 :=
  let c0_i32_79_r2 : BitVec 32 := 0#32
  let v69_r2 : BitVec 32 := Scalar.addi arg39_r2 c0_i32_79_r2
  let true_81_r2 : BitVec 1 := 1#1
  let c1_i32_80_r2 : BitVec 32 := 1#32
  let v70_r2 : BitVec 32 := Scalar.subi arg39_r2 c1_i32_80_r2
  let v71_r2 : BitVec 32 := Scalar.select true_81_r2 v70_r2 arg39_r2
  let c_m1_i32_82_r2 : BitVec 32 := 4294967295#32
  let v72_r2 : BitVec 1 := Scalar.cmpi .eq v71_r2 c_m1_i32_82_r2
  let c15_i32_83_r2 : BitVec 32 := 15#32
  let v73_r2 : BitVec 32 := Scalar.select v72_r2 c15_i32_83_r2 v71_r2
  let c0_i32_84_r2 : BitVec 32 := 0#32
  let v74_r2 : BitVec 32 := Scalar.addi v73_r2 c0_i32_84_r2
  let v131_r2 : BitVec 1 := Scalar.cmpi .ne v69_r2 v74_r2
  let c0_i32_44_r2 : BitVec 32 := 0#32
  let c1_i32_46_r2 : BitVec 32 := 1#32
  let arg30_r2 : BitVec 32 := Scf.iv c0_i32_44_r2 c1_i32_46_r2 k0_t3
  let c0_i32_77_r2 : BitVec 32 := 0#32
  let v67_r2 : BitVec 1 := Scalar.cmpi .eq arg30_r2 c0_i32_77_r2
  let v132_r2 : BitVec 1 := Scalar.ori v131_r2 v67_r2
  let c0_i32_128_r2 : BitVec 32 := 0#32
  let v133_r2 : BitVec 1 := Scalar.cmpi .sge arg30_r2 c0_i32_128_r2
  let v134_r2 : BitVec 1 := Scalar.andi v132_r2 v133_r2
  let v135_r2 : BitVec 32 := Scalar.extui v134_r2
  let c0_i32_129_r2 : BitVec 32 := 0#32
  let v136_r2 : BitVec 1 := Scalar.cmpi .ne v135_r2 c0_i32_129_r2
  v136_r2

def k0_off76 (arg34_r2 : BitVec 32) : Fin 3 → Nat :=
  let c2_i32_224_r2 : BitVec 32 := 2#32
  let v325_r2 : BitVec 32 := Scalar.remui arg34_r2 c2_i32_224_r2
  let c0_i32_225_r2 : BitVec 32 := 0#32
  let c0_i32_226_r2 : BitVec 32 := 0#32
  ![v325_r2.toNat, 0, 0]
def k0_off77 (arg39_r2 : BitVec 32) : Fin 2 → Nat :=
  let c256_i32_223_r2 : BitVec 32 := 256#32
  let c0_i32_79_r2 : BitVec 32 := 0#32
  let v69_r2 : BitVec 32 := Scalar.addi arg39_r2 c0_i32_79_r2
  let v324_r2 : BitVec 32 := Scalar.muli c256_i32_223_r2 v69_r2
  let c0_i32_227_r2 : BitVec 32 := 0#32
  ![v324_r2.toNat, 0]
def k0_off78 (arg32_r2 : BitVec 32) : Fin 3 → Nat :=
  let c2_i32_146_r2 : BitVec 32 := 2#32
  let v169_r2 : BitVec 32 := Scalar.remui arg32_r2 c2_i32_146_r2
  let v173_r2 : Index := Scalar.indexCast v169_r2
  let c0_r2 : Index := 0#32
  let c0_150_r2 : Index := 0#32
  ![v173_r2.toNat, 0, 0]

def k0_chk14 (arg32_r2 : BitVec 32) : Prop :=
  (∀ a, (k0_off78 arg32_r2) a + S1x256x8192.size a ≤ S2x256x8192.size a)
theorem k0_off78_inb : ∀ (arg32_r2 : BitVec 32) (k0_hw14 : k0_chk14 arg32_r2), ∀ a, (k0_off78 arg32_r2) a + S1x256x8192.size a ≤ S2x256x8192.size a := fun arg32_r2 k0_hw14 => k0_hw14

def k0_off79 (arg34_r2 : BitVec 32) : Fin 3 → Nat :=
  let c2_i32_147_r2 : BitVec 32 := 2#32
  let v170_r2 : BitVec 32 := Scalar.remui arg34_r2 c2_i32_147_r2
  let v190_r2 : Index := Scalar.indexCast v170_r2
  let c0_154_r2 : Index := 0#32
  let c0_155_r2 : Index := 0#32
  ![v190_r2.toNat, 0, 0]

def k0_chk15 (arg34_r2 : BitVec 32) : Prop :=
  (∀ a, (k0_off79 arg34_r2) a + S1x256x64.size a ≤ S2x256x64.size a)
theorem k0_off79_inb : ∀ (arg34_r2 : BitVec 32) (k0_hw15 : k0_chk15 arg34_r2), ∀ a, (k0_off79 arg34_r2) a + S1x256x64.size a ≤ S2x256x64.size a := fun arg34_r2 k0_hw15 => k0_hw15

def k0_off80 (arg35_r2 : BitVec 32) : Fin 3 → Nat :=
  let c2_i32_148_r2 : BitVec 32 := 2#32
  let v171_r2 : BitVec 32 := Scalar.remui arg35_r2 c2_i32_148_r2
  let v199_r2 : Index := Scalar.indexCast v171_r2
  let c0_157_r2 : Index := 0#32
  let c0_158_r2 : Index := 0#32
  ![v199_r2.toNat, 0, 0]

def k0_chk16 (arg35_r2 : BitVec 32) : Prop :=
  (∀ a, (k0_off80 arg35_r2) a + S1x256x64.size a ≤ S2x256x64.size a)
theorem k0_off80_inb : ∀ (arg35_r2 : BitVec 32) (k0_hw16 : k0_chk16 arg35_r2), ∀ a, (k0_off80 arg35_r2) a + S1x256x64.size a ≤ S2x256x64.size a := fun arg35_r2 k0_hw16 => k0_hw16

def k0_off81 (arg37_r2 : BitVec 32) : Fin 3 → Nat :=
  let c2_i32_149_r2 : BitVec 32 := 2#32
  let v172_r2 : BitVec 32 := Scalar.remui arg37_r2 c2_i32_149_r2
  let v203_r2 : Index := Scalar.indexCast v172_r2
  let c0_159_r2 : Index := 0#32
  let c0_160_r2 : Index := 0#32
  ![v203_r2.toNat, 0, 0]

def k0_chk17 (arg37_r2 : BitVec 32) : Prop :=
  (∀ a, (k0_off81 arg37_r2) a + S1x256x64.size a ≤ S2x256x64.size a)
theorem k0_off81_inb : ∀ (arg37_r2 : BitVec 32) (k0_hw17 : k0_chk17 arg37_r2), ∀ a, (k0_off81 arg37_r2) a + S1x256x64.size a ≤ S2x256x64.size a := fun arg37_r2 k0_hw17 => k0_hw17

def k0_off82 (arg39_r2 : BitVec 32) : Fin 2 → Nat :=
  let c0_i32_79_r2 : BitVec 32 := 0#32
  let v69_r2 : BitVec 32 := Scalar.addi arg39_r2 c0_i32_79_r2
  let c256_i32_95_r2 : BitVec 32 := 256#32
  let v85_r2 : BitVec 32 := Scalar.muli v69_r2 c256_i32_95_r2
  let v207_r2 : Index := Scalar.indexCast v85_r2
  let c0_161_r2 : Index := 0#32
  ![v207_r2.toNat, 0]
def k0_off83 (arg35_r2 : BitVec 32) : Fin 1 → Nat :=
  let c2_i32_223_r2 : BitVec 32 := 2#32
  let v324_r2 : BitVec 32 := Scalar.remui arg35_r2 c2_i32_223_r2
  ![v324_r2.toNat]
def k0_cond54 (k0_t3 : Fin k0_t3_loop.trips) (arg39_r2 : BitVec 32) : BitVec 1 :=
  let c0_i32_79_r2 : BitVec 32 := 0#32
  let v69_r2 : BitVec 32 := Scalar.addi arg39_r2 c0_i32_79_r2
  let true_86_r2 : BitVec 1 := 1#1
  let c1_i32_85_r2 : BitVec 32 := 1#32
  let v75_r2 : BitVec 32 := Scalar.addi arg39_r2 c1_i32_85_r2
  let v76_r2 : BitVec 32 := Scalar.select true_86_r2 v75_r2 arg39_r2
  let c16_i32_87_r2 : BitVec 32 := 16#32
  let v77_r2 : BitVec 1 := Scalar.cmpi .eq v76_r2 c16_i32_87_r2
  let c0_i32_88_r2 : BitVec 32 := 0#32
  let v78_r2 : BitVec 32 := Scalar.select v77_r2 c0_i32_88_r2 v76_r2
  let c0_i32_89_r2 : BitVec 32 := 0#32
  let v79_r2 : BitVec 32 := Scalar.addi v78_r2 c0_i32_89_r2
  let v234_r2 : BitVec 1 := Scalar.cmpi .ne v69_r2 v79_r2
  let c0_i32_44_r2 : BitVec 32 := 0#32
  let c1_i32_46_r2 : BitVec 32 := 1#32
  let arg30_r2 : BitVec 32 := Scf.iv c0_i32_44_r2 c1_i32_46_r2 k0_t3
  let c15_i32_78_r2 : BitVec 32 := 15#32
  let v68_r2 : BitVec 1 := Scalar.cmpi .eq arg30_r2 c15_i32_78_r2
  let v235_r2 : BitVec 1 := Scalar.ori v234_r2 v68_r2
  let v236_r2 : BitVec 32 := Scalar.extui v235_r2
  let c0_i32_169_r2 : BitVec 32 := 0#32
  let v237_r2 : BitVec 1 := Scalar.cmpi .ne v236_r2 c0_i32_169_r2
  v237_r2

def k0_off84 (arg39_r2 : BitVec 32) : Fin 2 → Nat :=
  let c256_i32_224_r2 : BitVec 32 := 256#32
  let c0_i32_79_r2 : BitVec 32 := 0#32
  let v69_r2 : BitVec 32 := Scalar.addi arg39_r2 c0_i32_79_r2
  let v325_r2 : BitVec 32 := Scalar.muli c256_i32_224_r2 v69_r2
  let c0_i32_225_r2 : BitVec 32 := 0#32
  ![v325_r2.toNat, 0]
def k0_off85 (arg35_r2 : BitVec 32) : Fin 3 → Nat :=
  let c2_i32_223_r2 : BitVec 32 := 2#32
  let v324_r2 : BitVec 32 := Scalar.remui arg35_r2 c2_i32_223_r2
  let c0_i32_226_r2 : BitVec 32 := 0#32
  let c0_i32_227_r2 : BitVec 32 := 0#32
  ![v324_r2.toNat, 0, 0]
def k0_off86 (arg37_r2 : BitVec 32) : Fin 1 → Nat :=
  let c2_i32_223_r2 : BitVec 32 := 2#32
  let v324_r2 : BitVec 32 := Scalar.remui arg37_r2 c2_i32_223_r2
  ![v324_r2.toNat]
def k0_cond55 (k0_t3 : Fin k0_t3_loop.trips) (arg39_r2 : BitVec 32) : BitVec 1 :=
  let c0_i32_79_r2 : BitVec 32 := 0#32
  let v69_r2 : BitVec 32 := Scalar.addi arg39_r2 c0_i32_79_r2
  let true_86_r2 : BitVec 1 := 1#1
  let c1_i32_85_r2 : BitVec 32 := 1#32
  let v75_r2 : BitVec 32 := Scalar.addi arg39_r2 c1_i32_85_r2
  let v76_r2 : BitVec 32 := Scalar.select true_86_r2 v75_r2 arg39_r2
  let c16_i32_87_r2 : BitVec 32 := 16#32
  let v77_r2 : BitVec 1 := Scalar.cmpi .eq v76_r2 c16_i32_87_r2
  let c0_i32_88_r2 : BitVec 32 := 0#32
  let v78_r2 : BitVec 32 := Scalar.select v77_r2 c0_i32_88_r2 v76_r2
  let c0_i32_89_r2 : BitVec 32 := 0#32
  let v79_r2 : BitVec 32 := Scalar.addi v78_r2 c0_i32_89_r2
  let v241_r2 : BitVec 1 := Scalar.cmpi .ne v69_r2 v79_r2
  let c0_i32_44_r2 : BitVec 32 := 0#32
  let c1_i32_46_r2 : BitVec 32 := 1#32
  let arg30_r2 : BitVec 32 := Scf.iv c0_i32_44_r2 c1_i32_46_r2 k0_t3
  let c15_i32_78_r2 : BitVec 32 := 15#32
  let v68_r2 : BitVec 1 := Scalar.cmpi .eq arg30_r2 c15_i32_78_r2
  let v242_r2 : BitVec 1 := Scalar.ori v241_r2 v68_r2
  let v243_r2 : BitVec 32 := Scalar.extui v242_r2
  let c0_i32_172_r2 : BitVec 32 := 0#32
  let v244_r2 : BitVec 1 := Scalar.cmpi .ne v243_r2 c0_i32_172_r2
  v244_r2

def k0_off87 (arg39_r2 : BitVec 32) : Fin 2 → Nat :=
  let c256_i32_224_r2 : BitVec 32 := 256#32
  let c0_i32_79_r2 : BitVec 32 := 0#32
  let v69_r2 : BitVec 32 := Scalar.addi arg39_r2 c0_i32_79_r2
  let v325_r2 : BitVec 32 := Scalar.muli c256_i32_224_r2 v69_r2
  let c0_i32_225_r2 : BitVec 32 := 0#32
  ![v325_r2.toNat, 0]
def k0_off88 (arg37_r2 : BitVec 32) : Fin 3 → Nat :=
  let c2_i32_223_r2 : BitVec 32 := 2#32
  let v324_r2 : BitVec 32 := Scalar.remui arg37_r2 c2_i32_223_r2
  let c0_i32_226_r2 : BitVec 32 := 0#32
  let c0_i32_227_r2 : BitVec 32 := 0#32
  ![v324_r2.toNat, 0, 0]
def k0_off89 (arg36_r2 : BitVec 32) : Fin 1 → Nat :=
  let c2_i32_223_r2 : BitVec 32 := 2#32
  let v324_r2 : BitVec 32 := Scalar.remui arg36_r2 c2_i32_223_r2
  ![v324_r2.toNat]
def k0_cond62 (k0_t3 : Fin k0_t3_loop.trips) (arg39_r2 : BitVec 32) : BitVec 1 :=
  let c0_i32_79_r2 : BitVec 32 := 0#32
  let v69_r2 : BitVec 32 := Scalar.addi arg39_r2 c0_i32_79_r2
  let true_81_r2 : BitVec 1 := 1#1
  let c1_i32_80_r2 : BitVec 32 := 1#32
  let v70_r2 : BitVec 32 := Scalar.subi arg39_r2 c1_i32_80_r2
  let v71_r2 : BitVec 32 := Scalar.select true_81_r2 v70_r2 arg39_r2
  let c_m1_i32_82_r2 : BitVec 32 := 4294967295#32
  let v72_r2 : BitVec 1 := Scalar.cmpi .eq v71_r2 c_m1_i32_82_r2
  let c15_i32_83_r2 : BitVec 32 := 15#32
  let v73_r2 : BitVec 32 := Scalar.select v72_r2 c15_i32_83_r2 v71_r2
  let c0_i32_84_r2 : BitVec 32 := 0#32
  let v74_r2 : BitVec 32 := Scalar.addi v73_r2 c0_i32_84_r2
  let v276_r2 : BitVec 1 := Scalar.cmpi .ne v69_r2 v74_r2
  let c0_i32_44_r2 : BitVec 32 := 0#32
  let c1_i32_46_r2 : BitVec 32 := 1#32
  let arg30_r2 : BitVec 32 := Scf.iv c0_i32_44_r2 c1_i32_46_r2 k0_t3
  let c0_i32_77_r2 : BitVec 32 := 0#32
  let v67_r2 : BitVec 1 := Scalar.cmpi .eq arg30_r2 c0_i32_77_r2
  let true_193_r2 : BitVec 1 := 1#1
  let v277_r2 : BitVec 1 := Scalar.xori v67_r2 true_193_r2
  let v278_r2 : BitVec 1 := Scalar.andi v276_r2 v277_r2
  let v279_r2 : BitVec 32 := Scalar.extui v278_r2
  let c0_i32_194_r2 : BitVec 32 := 0#32
  let v280_r2 : BitVec 1 := Scalar.cmpi .ne v279_r2 c0_i32_194_r2
  v280_r2

def k0_off90 (arg39_r2 : BitVec 32) : Fin 2 → Nat :=
  let c256_i32_224_r2 : BitVec 32 := 256#32
  let true_81_r2 : BitVec 1 := 1#1
  let c1_i32_80_r2 : BitVec 32 := 1#32
  let v70_r2 : BitVec 32 := Scalar.subi arg39_r2 c1_i32_80_r2
  let v71_r2 : BitVec 32 := Scalar.select true_81_r2 v70_r2 arg39_r2
  let c_m1_i32_82_r2 : BitVec 32 := 4294967295#32
  let v72_r2 : BitVec 1 := Scalar.cmpi .eq v71_r2 c_m1_i32_82_r2
  let c15_i32_83_r2 : BitVec 32 := 15#32
  let v73_r2 : BitVec 32 := Scalar.select v72_r2 c15_i32_83_r2 v71_r2
  let c0_i32_84_r2 : BitVec 32 := 0#32
  let v74_r2 : BitVec 32 := Scalar.addi v73_r2 c0_i32_84_r2
  let v325_r2 : BitVec 32 := Scalar.muli c256_i32_224_r2 v74_r2
  let c0_i32_225_r2 : BitVec 32 := 0#32
  ![v325_r2.toNat, 0]
def k0_off91 (arg36_r2 : BitVec 32) : Fin 3 → Nat :=
  let c2_i32_223_r2 : BitVec 32 := 2#32
  let v324_r2 : BitVec 32 := Scalar.remui arg36_r2 c2_i32_223_r2
  let c0_i32_226_r2 : BitVec 32 := 0#32
  let c0_i32_227_r2 : BitVec 32 := 0#32
  ![v324_r2.toNat, 0, 0]
def k0_off92 (arg38_r2 : BitVec 32) : Fin 1 → Nat :=
  let c2_i32_223_r2 : BitVec 32 := 2#32
  let v324_r2 : BitVec 32 := Scalar.remui arg38_r2 c2_i32_223_r2
  ![v324_r2.toNat]
def k0_cond63 (k0_t3 : Fin k0_t3_loop.trips) (arg39_r2 : BitVec 32) : BitVec 1 :=
  let c0_i32_79_r2 : BitVec 32 := 0#32
  let v69_r2 : BitVec 32 := Scalar.addi arg39_r2 c0_i32_79_r2
  let true_81_r2 : BitVec 1 := 1#1
  let c1_i32_80_r2 : BitVec 32 := 1#32
  let v70_r2 : BitVec 32 := Scalar.subi arg39_r2 c1_i32_80_r2
  let v71_r2 : BitVec 32 := Scalar.select true_81_r2 v70_r2 arg39_r2
  let c_m1_i32_82_r2 : BitVec 32 := 4294967295#32
  let v72_r2 : BitVec 1 := Scalar.cmpi .eq v71_r2 c_m1_i32_82_r2
  let c15_i32_83_r2 : BitVec 32 := 15#32
  let v73_r2 : BitVec 32 := Scalar.select v72_r2 c15_i32_83_r2 v71_r2
  let c0_i32_84_r2 : BitVec 32 := 0#32
  let v74_r2 : BitVec 32 := Scalar.addi v73_r2 c0_i32_84_r2
  let v284_r2 : BitVec 1 := Scalar.cmpi .ne v69_r2 v74_r2
  let c0_i32_44_r2 : BitVec 32 := 0#32
  let c1_i32_46_r2 : BitVec 32 := 1#32
  let arg30_r2 : BitVec 32 := Scf.iv c0_i32_44_r2 c1_i32_46_r2 k0_t3
  let c0_i32_77_r2 : BitVec 32 := 0#32
  let v67_r2 : BitVec 1 := Scalar.cmpi .eq arg30_r2 c0_i32_77_r2
  let true_197_r2 : BitVec 1 := 1#1
  let v285_r2 : BitVec 1 := Scalar.xori v67_r2 true_197_r2
  let v286_r2 : BitVec 1 := Scalar.andi v284_r2 v285_r2
  let v287_r2 : BitVec 32 := Scalar.extui v286_r2
  let c0_i32_198_r2 : BitVec 32 := 0#32
  let v288_r2 : BitVec 1 := Scalar.cmpi .ne v287_r2 c0_i32_198_r2
  v288_r2

def k0_off93 (arg39_r2 : BitVec 32) : Fin 2 → Nat :=
  let c256_i32_224_r2 : BitVec 32 := 256#32
  let true_81_r2 : BitVec 1 := 1#1
  let c1_i32_80_r2 : BitVec 32 := 1#32
  let v70_r2 : BitVec 32 := Scalar.subi arg39_r2 c1_i32_80_r2
  let v71_r2 : BitVec 32 := Scalar.select true_81_r2 v70_r2 arg39_r2
  let c_m1_i32_82_r2 : BitVec 32 := 4294967295#32
  let v72_r2 : BitVec 1 := Scalar.cmpi .eq v71_r2 c_m1_i32_82_r2
  let c15_i32_83_r2 : BitVec 32 := 15#32
  let v73_r2 : BitVec 32 := Scalar.select v72_r2 c15_i32_83_r2 v71_r2
  let c0_i32_84_r2 : BitVec 32 := 0#32
  let v74_r2 : BitVec 32 := Scalar.addi v73_r2 c0_i32_84_r2
  let v325_r2 : BitVec 32 := Scalar.muli c256_i32_224_r2 v74_r2
  let c0_i32_225_r2 : BitVec 32 := 0#32
  ![v325_r2.toNat, 0]
def k0_off94 (arg38_r2 : BitVec 32) : Fin 3 → Nat :=
  let c2_i32_223_r2 : BitVec 32 := 2#32
  let v324_r2 : BitVec 32 := Scalar.remui arg38_r2 c2_i32_223_r2
  let c0_i32_226_r2 : BitVec 32 := 0#32
  let c0_i32_227_r2 : BitVec 32 := 0#32
  ![v324_r2.toNat, 0, 0]

def k0_chk13 (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) : Prop :=
  (∀ (k0_h42 : k0_cond42 k0_t3 arg39_r2 = 1#1), ∀ a, (k0_off66 arg31_r2) a + S1.size a ≤ S2.size a) ∧
  (∀ (k0_h42 : k0_cond42 k0_t3 arg39_r2 = 1#1), ∀ a, (k0_off67 arg31_r2) a + S1x256x8192.size a ≤ S2x256x8192.size a) ∧
  (∀ (k0_h42 : k0_cond42 k0_t3 arg39_r2 = 1#1), ∀ a, (k0_off68 arg39_r2) a + S256x8192.size a ≤ S4096x8192.size a) ∧
  (∀ (k0_h43 : k0_cond43 k0_t3 arg39_r2 = 1#1), ∀ a, (k0_off69 arg33_r2) a + S1.size a ≤ S2.size a) ∧
  (∀ (k0_h43 : k0_cond43 k0_t3 arg39_r2 = 1#1), ∀ a, (k0_off70 arg33_r2) a + S1x256x64.size a ≤ S2x256x64.size a) ∧
  (∀ (k0_h43 : k0_cond43 k0_t3 arg39_r2 = 1#1), ∀ a, (k0_off71 arg39_r2) a + S256x64.size a ≤ S4096x64.size a) ∧
  (∀ (k0_h44 : k0_cond44 k0_t3 arg39_r2 = 1#1), ∀ a, (k0_off72 arg32_r2) a + S1.size a ≤ S2.size a) ∧
  (∀ (k0_h44 : k0_cond44 k0_t3 arg39_r2 = 1#1), ∀ a, (k0_off73 arg32_r2) a + S1x256x8192.size a ≤ S2x256x8192.size a) ∧
  (∀ (k0_h44 : k0_cond44 k0_t3 arg39_r2 = 1#1), ∀ a, (k0_off74 arg39_r2) a + S256x8192.size a ≤ S4096x8192.size a) ∧
  (∀ (k0_h45 : k0_cond45 k0_t3 arg39_r2 = 1#1), ∀ a, (k0_off75 arg34_r2) a + S1.size a ≤ S2.size a) ∧
  (∀ (k0_h45 : k0_cond45 k0_t3 arg39_r2 = 1#1), ∀ a, (k0_off76 arg34_r2) a + S1x256x64.size a ≤ S2x256x64.size a) ∧
  (∀ (k0_h45 : k0_cond45 k0_t3 arg39_r2 = 1#1), ∀ a, (k0_off77 arg39_r2) a + S256x64.size a ≤ S4096x64.size a) ∧
  (∀ a, (k0_off82 arg39_r2) a + S256x64.size a ≤ S4096x64.size a) ∧
  (∀ (hinb : ∀ a, (k0_off82 arg39_r2) a + S256x64.size a ≤ S4096x64.size a), (Rect.unit (s := S4096x64) (k0_off82 arg39_r2) S256x64.size hinb).PackedRows (EltTy.packing .bf16)) ∧
  (∀ (k0_h54 : k0_cond54 k0_t3 arg39_r2 = 1#1), ∀ a, (k0_off83 arg35_r2) a + S1.size a ≤ S2.size a) ∧
  (∀ (k0_h54 : k0_cond54 k0_t3 arg39_r2 = 1#1), ∀ a, (k0_off84 arg39_r2) a + S256x64.size a ≤ S4096x64.size a) ∧
  (∀ (k0_h54 : k0_cond54 k0_t3 arg39_r2 = 1#1), ∀ a, (k0_off85 arg35_r2) a + S1x256x64.size a ≤ S2x256x64.size a) ∧
  (∀ (k0_h55 : k0_cond55 k0_t3 arg39_r2 = 1#1), ∀ a, (k0_off86 arg37_r2) a + S1.size a ≤ S2.size a) ∧
  (∀ (k0_h55 : k0_cond55 k0_t3 arg39_r2 = 1#1), ∀ a, (k0_off87 arg39_r2) a + S256x64.size a ≤ S4096x64.size a) ∧
  (∀ (k0_h55 : k0_cond55 k0_t3 arg39_r2 = 1#1), ∀ a, (k0_off88 arg37_r2) a + S1x256x64.size a ≤ S2x256x64.size a) ∧
  (∀ (k0_h62 : k0_cond62 k0_t3 arg39_r2 = 1#1), ∀ a, (k0_off89 arg36_r2) a + S1.size a ≤ S2.size a) ∧
  (∀ (k0_h62 : k0_cond62 k0_t3 arg39_r2 = 1#1), ∀ a, (k0_off90 arg39_r2) a + S256x64.size a ≤ S4096x64.size a) ∧
  (∀ (k0_h62 : k0_cond62 k0_t3 arg39_r2 = 1#1), ∀ a, (k0_off91 arg36_r2) a + S1x256x64.size a ≤ S2x256x64.size a) ∧
  (∀ (k0_h63 : k0_cond63 k0_t3 arg39_r2 = 1#1), ∀ a, (k0_off92 arg38_r2) a + S1.size a ≤ S2.size a) ∧
  (∀ (k0_h63 : k0_cond63 k0_t3 arg39_r2 = 1#1), ∀ a, (k0_off93 arg39_r2) a + S256x64.size a ≤ S4096x64.size a) ∧
  (∀ (k0_h63 : k0_cond63 k0_t3 arg39_r2 = 1#1), ∀ a, (k0_off94 arg38_r2) a + S1x256x64.size a ≤ S2x256x64.size a)
theorem k0_off66_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h42 : k0_cond42 k0_t3 arg39_r2 = 1#1), ∀ a, (k0_off66 arg31_r2) a + S1.size a ≤ S2.size a := fun k0_t3 arg31_r2 arg32_r2 arg33_r2 arg34_r2 arg35_r2 arg36_r2 arg37_r2 arg38_r2 arg39_r2 k0_hw13 k0_h42 => k0_hw13.1 k0_h42
theorem k0_off67_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h42 : k0_cond42 k0_t3 arg39_r2 = 1#1), ∀ a, (k0_off67 arg31_r2) a + S1x256x8192.size a ≤ S2x256x8192.size a := fun k0_t3 arg31_r2 arg32_r2 arg33_r2 arg34_r2 arg35_r2 arg36_r2 arg37_r2 arg38_r2 arg39_r2 k0_hw13 k0_h42 => k0_hw13.2.1 k0_h42
theorem k0_off68_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h42 : k0_cond42 k0_t3 arg39_r2 = 1#1), ∀ a, (k0_off68 arg39_r2) a + S256x8192.size a ≤ S4096x8192.size a := fun k0_t3 arg31_r2 arg32_r2 arg33_r2 arg34_r2 arg35_r2 arg36_r2 arg37_r2 arg38_r2 arg39_r2 k0_hw13 k0_h42 => k0_hw13.2.2.1 k0_h42
theorem k0_off69_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h43 : k0_cond43 k0_t3 arg39_r2 = 1#1), ∀ a, (k0_off69 arg33_r2) a + S1.size a ≤ S2.size a := fun k0_t3 arg31_r2 arg32_r2 arg33_r2 arg34_r2 arg35_r2 arg36_r2 arg37_r2 arg38_r2 arg39_r2 k0_hw13 k0_h43 => k0_hw13.2.2.2.1 k0_h43
theorem k0_off70_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h43 : k0_cond43 k0_t3 arg39_r2 = 1#1), ∀ a, (k0_off70 arg33_r2) a + S1x256x64.size a ≤ S2x256x64.size a := fun k0_t3 arg31_r2 arg32_r2 arg33_r2 arg34_r2 arg35_r2 arg36_r2 arg37_r2 arg38_r2 arg39_r2 k0_hw13 k0_h43 => k0_hw13.2.2.2.2.1 k0_h43
theorem k0_off71_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h43 : k0_cond43 k0_t3 arg39_r2 = 1#1), ∀ a, (k0_off71 arg39_r2) a + S256x64.size a ≤ S4096x64.size a := fun k0_t3 arg31_r2 arg32_r2 arg33_r2 arg34_r2 arg35_r2 arg36_r2 arg37_r2 arg38_r2 arg39_r2 k0_hw13 k0_h43 => k0_hw13.2.2.2.2.2.1 k0_h43
theorem k0_off72_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h44 : k0_cond44 k0_t3 arg39_r2 = 1#1), ∀ a, (k0_off72 arg32_r2) a + S1.size a ≤ S2.size a := fun k0_t3 arg31_r2 arg32_r2 arg33_r2 arg34_r2 arg35_r2 arg36_r2 arg37_r2 arg38_r2 arg39_r2 k0_hw13 k0_h44 => k0_hw13.2.2.2.2.2.2.1 k0_h44
theorem k0_off73_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h44 : k0_cond44 k0_t3 arg39_r2 = 1#1), ∀ a, (k0_off73 arg32_r2) a + S1x256x8192.size a ≤ S2x256x8192.size a := fun k0_t3 arg31_r2 arg32_r2 arg33_r2 arg34_r2 arg35_r2 arg36_r2 arg37_r2 arg38_r2 arg39_r2 k0_hw13 k0_h44 => k0_hw13.2.2.2.2.2.2.2.1 k0_h44
theorem k0_off74_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h44 : k0_cond44 k0_t3 arg39_r2 = 1#1), ∀ a, (k0_off74 arg39_r2) a + S256x8192.size a ≤ S4096x8192.size a := fun k0_t3 arg31_r2 arg32_r2 arg33_r2 arg34_r2 arg35_r2 arg36_r2 arg37_r2 arg38_r2 arg39_r2 k0_hw13 k0_h44 => k0_hw13.2.2.2.2.2.2.2.2.1 k0_h44
theorem k0_off75_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h45 : k0_cond45 k0_t3 arg39_r2 = 1#1), ∀ a, (k0_off75 arg34_r2) a + S1.size a ≤ S2.size a := fun k0_t3 arg31_r2 arg32_r2 arg33_r2 arg34_r2 arg35_r2 arg36_r2 arg37_r2 arg38_r2 arg39_r2 k0_hw13 k0_h45 => k0_hw13.2.2.2.2.2.2.2.2.2.1 k0_h45
theorem k0_off76_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h45 : k0_cond45 k0_t3 arg39_r2 = 1#1), ∀ a, (k0_off76 arg34_r2) a + S1x256x64.size a ≤ S2x256x64.size a := fun k0_t3 arg31_r2 arg32_r2 arg33_r2 arg34_r2 arg35_r2 arg36_r2 arg37_r2 arg38_r2 arg39_r2 k0_hw13 k0_h45 => k0_hw13.2.2.2.2.2.2.2.2.2.2.1 k0_h45
theorem k0_off77_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h45 : k0_cond45 k0_t3 arg39_r2 = 1#1), ∀ a, (k0_off77 arg39_r2) a + S256x64.size a ≤ S4096x64.size a := fun k0_t3 arg31_r2 arg32_r2 arg33_r2 arg34_r2 arg35_r2 arg36_r2 arg37_r2 arg38_r2 arg39_r2 k0_hw13 k0_h45 => k0_hw13.2.2.2.2.2.2.2.2.2.2.2.1 k0_h45
theorem k0_off82_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ a, (k0_off82 arg39_r2) a + S256x64.size a ≤ S4096x64.size a := fun k0_t3 arg31_r2 arg32_r2 arg33_r2 arg34_r2 arg35_r2 arg36_r2 arg37_r2 arg38_r2 arg39_r2 k0_hw13 => k0_hw13.2.2.2.2.2.2.2.2.2.2.2.2.1
theorem k0_off82_packedbf16 : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), (Rect.unit (s := S4096x64) (k0_off82 arg39_r2) S256x64.size (k0_off82_inb k0_t3 arg31_r2 arg32_r2 arg33_r2 arg34_r2 arg35_r2 arg36_r2 arg37_r2 arg38_r2 arg39_r2 k0_hw13)).PackedRows (EltTy.packing .bf16) := fun k0_t3 arg31_r2 arg32_r2 arg33_r2 arg34_r2 arg35_r2 arg36_r2 arg37_r2 arg38_r2 arg39_r2 k0_hw13 => k0_hw13.2.2.2.2.2.2.2.2.2.2.2.2.2.1 (k0_off82_inb k0_t3 arg31_r2 arg32_r2 arg33_r2 arg34_r2 arg35_r2 arg36_r2 arg37_r2 arg38_r2 arg39_r2 k0_hw13)
theorem k0_off83_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h54 : k0_cond54 k0_t3 arg39_r2 = 1#1), ∀ a, (k0_off83 arg35_r2) a + S1.size a ≤ S2.size a := fun k0_t3 arg31_r2 arg32_r2 arg33_r2 arg34_r2 arg35_r2 arg36_r2 arg37_r2 arg38_r2 arg39_r2 k0_hw13 k0_h54 => k0_hw13.2.2.2.2.2.2.2.2.2.2.2.2.2.2.1 k0_h54
theorem k0_off84_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h54 : k0_cond54 k0_t3 arg39_r2 = 1#1), ∀ a, (k0_off84 arg39_r2) a + S256x64.size a ≤ S4096x64.size a := fun k0_t3 arg31_r2 arg32_r2 arg33_r2 arg34_r2 arg35_r2 arg36_r2 arg37_r2 arg38_r2 arg39_r2 k0_hw13 k0_h54 => k0_hw13.2.2.2.2.2.2.2.2.2.2.2.2.2.2.2.1 k0_h54
theorem k0_off85_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h54 : k0_cond54 k0_t3 arg39_r2 = 1#1), ∀ a, (k0_off85 arg35_r2) a + S1x256x64.size a ≤ S2x256x64.size a := fun k0_t3 arg31_r2 arg32_r2 arg33_r2 arg34_r2 arg35_r2 arg36_r2 arg37_r2 arg38_r2 arg39_r2 k0_hw13 k0_h54 => k0_hw13.2.2.2.2.2.2.2.2.2.2.2.2.2.2.2.2.1 k0_h54
theorem k0_off86_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h55 : k0_cond55 k0_t3 arg39_r2 = 1#1), ∀ a, (k0_off86 arg37_r2) a + S1.size a ≤ S2.size a := fun k0_t3 arg31_r2 arg32_r2 arg33_r2 arg34_r2 arg35_r2 arg36_r2 arg37_r2 arg38_r2 arg39_r2 k0_hw13 k0_h55 => k0_hw13.2.2.2.2.2.2.2.2.2.2.2.2.2.2.2.2.2.1 k0_h55
theorem k0_off87_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h55 : k0_cond55 k0_t3 arg39_r2 = 1#1), ∀ a, (k0_off87 arg39_r2) a + S256x64.size a ≤ S4096x64.size a := fun k0_t3 arg31_r2 arg32_r2 arg33_r2 arg34_r2 arg35_r2 arg36_r2 arg37_r2 arg38_r2 arg39_r2 k0_hw13 k0_h55 => k0_hw13.2.2.2.2.2.2.2.2.2.2.2.2.2.2.2.2.2.2.1 k0_h55
theorem k0_off88_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h55 : k0_cond55 k0_t3 arg39_r2 = 1#1), ∀ a, (k0_off88 arg37_r2) a + S1x256x64.size a ≤ S2x256x64.size a := fun k0_t3 arg31_r2 arg32_r2 arg33_r2 arg34_r2 arg35_r2 arg36_r2 arg37_r2 arg38_r2 arg39_r2 k0_hw13 k0_h55 => k0_hw13.2.2.2.2.2.2.2.2.2.2.2.2.2.2.2.2.2.2.2.1 k0_h55
theorem k0_off89_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h62 : k0_cond62 k0_t3 arg39_r2 = 1#1), ∀ a, (k0_off89 arg36_r2) a + S1.size a ≤ S2.size a := fun k0_t3 arg31_r2 arg32_r2 arg33_r2 arg34_r2 arg35_r2 arg36_r2 arg37_r2 arg38_r2 arg39_r2 k0_hw13 k0_h62 => k0_hw13.2.2.2.2.2.2.2.2.2.2.2.2.2.2.2.2.2.2.2.2.1 k0_h62
theorem k0_off90_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h62 : k0_cond62 k0_t3 arg39_r2 = 1#1), ∀ a, (k0_off90 arg39_r2) a + S256x64.size a ≤ S4096x64.size a := fun k0_t3 arg31_r2 arg32_r2 arg33_r2 arg34_r2 arg35_r2 arg36_r2 arg37_r2 arg38_r2 arg39_r2 k0_hw13 k0_h62 => k0_hw13.2.2.2.2.2.2.2.2.2.2.2.2.2.2.2.2.2.2.2.2.2.1 k0_h62
theorem k0_off91_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h62 : k0_cond62 k0_t3 arg39_r2 = 1#1), ∀ a, (k0_off91 arg36_r2) a + S1x256x64.size a ≤ S2x256x64.size a := fun k0_t3 arg31_r2 arg32_r2 arg33_r2 arg34_r2 arg35_r2 arg36_r2 arg37_r2 arg38_r2 arg39_r2 k0_hw13 k0_h62 => k0_hw13.2.2.2.2.2.2.2.2.2.2.2.2.2.2.2.2.2.2.2.2.2.2.1 k0_h62
theorem k0_off92_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h63 : k0_cond63 k0_t3 arg39_r2 = 1#1), ∀ a, (k0_off92 arg38_r2) a + S1.size a ≤ S2.size a := fun k0_t3 arg31_r2 arg32_r2 arg33_r2 arg34_r2 arg35_r2 arg36_r2 arg37_r2 arg38_r2 arg39_r2 k0_hw13 k0_h63 => k0_hw13.2.2.2.2.2.2.2.2.2.2.2.2.2.2.2.2.2.2.2.2.2.2.2.1 k0_h63
theorem k0_off93_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h63 : k0_cond63 k0_t3 arg39_r2 = 1#1), ∀ a, (k0_off93 arg39_r2) a + S256x64.size a ≤ S4096x64.size a := fun k0_t3 arg31_r2 arg32_r2 arg33_r2 arg34_r2 arg35_r2 arg36_r2 arg37_r2 arg38_r2 arg39_r2 k0_hw13 k0_h63 => k0_hw13.2.2.2.2.2.2.2.2.2.2.2.2.2.2.2.2.2.2.2.2.2.2.2.2.1 k0_h63
theorem k0_off94_inb : ∀ (k0_t3 : Fin k0_t3_loop.trips) (arg31_r2 : BitVec 32) (arg32_r2 : BitVec 32) (arg33_r2 : BitVec 32) (arg34_r2 : BitVec 32) (arg35_r2 : BitVec 32) (arg36_r2 : BitVec 32) (arg37_r2 : BitVec 32) (arg38_r2 : BitVec 32) (arg39_r2 : BitVec 32) (k0_hw13 : k0_chk13 k0_t3 arg31_r2 arg32_r2 arg33_r2 arg34_r2 arg35_r2 arg36_r2 arg37_r2 arg38_r2 arg39_r2), ∀ (k0_h63 : k0_cond63 k0_t3 arg39_r2 = 1#1), ∀ a, (k0_off94 arg38_r2) a + S1x256x64.size a ≤ S2x256x64.size a := fun k0_t3 arg31_r2 arg32_r2 arg33_r2 arg34_r2 arg35_r2 arg36_r2 arg37_r2 arg38_r2 arg39_r2 k0_hw13 k0_h63 => k0_hw13.2.2.2.2.2.2.2.2.2.2.2.2.2.2.2.2.2.2.2.2.2.2.2.2.2 k0_h63

def k0_off95 (v32_5_r2 : BitVec 32) : Fin 1 → Nat :=
  let c2_i32_68_r2 : BitVec 32 := 2#32
  let v53_r2 : BitVec 32 := Scalar.remui v32_5_r2 c2_i32_68_r2
  ![v53_r2.toNat]

def k0_off96 (v32_8_r2 : BitVec 32) : Fin 2 → Nat :=
  let c256_i32_r2 : BitVec 32 := 256#32
  let true_49_r2 : BitVec 1 := 1#1
  let c1_i32_48_r2 : BitVec 32 := 1#32
  let v33_r2 : BitVec 32 := Scalar.subi v32_8_r2 c1_i32_48_r2
  let v34_r2 : BitVec 32 := Scalar.select true_49_r2 v33_r2 v32_8_r2
  let c_m1_i32_50_r2 : BitVec 32 := 4294967295#32
  let v35_r2 : BitVec 1 := Scalar.cmpi .eq v34_r2 c_m1_i32_50_r2
  let c15_i32_51_r2 : BitVec 32 := 15#32
  let v36_r2 : BitVec 32 := Scalar.select v35_r2 c15_i32_51_r2 v34_r2
  let c0_i32_52_r2 : BitVec 32 := 0#32
  let v37_r2 : BitVec 32 := Scalar.addi v36_r2 c0_i32_52_r2
  let v54_r2 : BitVec 32 := Scalar.muli c256_i32_r2 v37_r2
  let c0_i32_69_r2 : BitVec 32 := 0#32
  ![v54_r2.toNat, 0]

def k0_off97 (v32_5_r2 : BitVec 32) : Fin 3 → Nat :=
  let c2_i32_68_r2 : BitVec 32 := 2#32
  let v53_r2 : BitVec 32 := Scalar.remui v32_5_r2 c2_i32_68_r2
  let c0_i32_70_r2 : BitVec 32 := 0#32
  let c0_i32_71_r2 : BitVec 32 := 0#32
  ![v53_r2.toNat, 0, 0]

def k0_chk18 (v32_5_r2 : BitVec 32) : Prop :=
  (∀ a, (k0_off95 v32_5_r2) a + S1.size a ≤ S2.size a) ∧
  (∀ a, (k0_off97 v32_5_r2) a + S1x256x64.size a ≤ S2x256x64.size a)
theorem k0_off95_inb : ∀ (v32_5_r2 : BitVec 32) (k0_hw18 : k0_chk18 v32_5_r2), ∀ a, (k0_off95 v32_5_r2) a + S1.size a ≤ S2.size a := fun v32_5_r2 k0_hw18 => k0_hw18.1
theorem k0_off97_inb : ∀ (v32_5_r2 : BitVec 32) (k0_hw18 : k0_chk18 v32_5_r2), ∀ a, (k0_off97 v32_5_r2) a + S1x256x64.size a ≤ S2x256x64.size a := fun v32_5_r2 k0_hw18 => k0_hw18.2

def k0_off98 (v32_7_r2 : BitVec 32) : Fin 1 → Nat :=
  let c2_i32_72_r2 : BitVec 32 := 2#32
  let v60_r2 : BitVec 32 := Scalar.remui v32_7_r2 c2_i32_72_r2
  ![v60_r2.toNat]

def k0_off99 (v32_8_r2 : BitVec 32) : Fin 2 → Nat :=
  let c256_i32_73_r2 : BitVec 32 := 256#32
  let true_49_r2 : BitVec 1 := 1#1
  let c1_i32_48_r2 : BitVec 32 := 1#32
  let v33_r2 : BitVec 32 := Scalar.subi v32_8_r2 c1_i32_48_r2
  let v34_r2 : BitVec 32 := Scalar.select true_49_r2 v33_r2 v32_8_r2
  let c_m1_i32_50_r2 : BitVec 32 := 4294967295#32
  let v35_r2 : BitVec 1 := Scalar.cmpi .eq v34_r2 c_m1_i32_50_r2
  let c15_i32_51_r2 : BitVec 32 := 15#32
  let v36_r2 : BitVec 32 := Scalar.select v35_r2 c15_i32_51_r2 v34_r2
  let c0_i32_52_r2 : BitVec 32 := 0#32
  let v37_r2 : BitVec 32 := Scalar.addi v36_r2 c0_i32_52_r2
  let v61_r2 : BitVec 32 := Scalar.muli c256_i32_73_r2 v37_r2
  let c0_i32_74_r2 : BitVec 32 := 0#32
  ![v61_r2.toNat, 0]

def k0_chk19 (v32_8_r2 : BitVec 32) : Prop :=
  (∀ a, (k0_off96 v32_8_r2) a + S256x64.size a ≤ S4096x64.size a) ∧
  (∀ a, (k0_off99 v32_8_r2) a + S256x64.size a ≤ S4096x64.size a)
theorem k0_off96_inb : ∀ (v32_8_r2 : BitVec 32) (k0_hw19 : k0_chk19 v32_8_r2), ∀ a, (k0_off96 v32_8_r2) a + S256x64.size a ≤ S4096x64.size a := fun v32_8_r2 k0_hw19 => k0_hw19.1
theorem k0_off99_inb : ∀ (v32_8_r2 : BitVec 32) (k0_hw19 : k0_chk19 v32_8_r2), ∀ a, (k0_off99 v32_8_r2) a + S256x64.size a ≤ S4096x64.size a := fun v32_8_r2 k0_hw19 => k0_hw19.2

def k0_off100 (v32_7_r2 : BitVec 32) : Fin 3 → Nat :=
  let c2_i32_72_r2 : BitVec 32 := 2#32
  let v60_r2 : BitVec 32 := Scalar.remui v32_7_r2 c2_i32_72_r2
  let c0_i32_75_r2 : BitVec 32 := 0#32
  let c0_i32_76_r2 : BitVec 32 := 0#32
  ![v60_r2.toNat, 0, 0]

def k0_chk20 (v32_7_r2 : BitVec 32) : Prop :=
  (∀ a, (k0_off98 v32_7_r2) a + S1.size a ≤ S2.size a) ∧
  (∀ a, (k0_off100 v32_7_r2) a + S1x256x64.size a ≤ S2x256x64.size a)
theorem k0_off98_inb : ∀ (v32_7_r2 : BitVec 32) (k0_hw20 : k0_chk20 v32_7_r2), ∀ a, (k0_off98 v32_7_r2) a + S1.size a ≤ S2.size a := fun v32_7_r2 k0_hw20 => k0_hw20.1
theorem k0_off100_inb : ∀ (v32_7_r2 : BitVec 32) (k0_hw20 : k0_chk20 v32_7_r2), ∀ a, (k0_off100 v32_7_r2) a + S1x256x64.size a ≤ S2x256x64.size a := fun v32_7_r2 k0_hw20 => k0_hw20.2

def k0_off101 : Fin 1 → Nat :=
  let c0_i32_14_r3 : BitVec 32 := 0#32
  let c2_i32_r3 : BitVec 32 := 2#32
  let v17_r3 : BitVec 32 := Scalar.remui c0_i32_14_r3 c2_i32_r3
  ![v17_r3.toNat]
def k0_off102 : Fin 3 → Nat :=
  let c0_i32_14_r3 : BitVec 32 := 0#32
  let c2_i32_r3 : BitVec 32 := 2#32
  let v17_r3 : BitVec 32 := Scalar.remui c0_i32_14_r3 c2_i32_r3
  let c0_i32_15_r3 : BitVec 32 := 0#32
  let c0_i32_16_r3 : BitVec 32 := 0#32
  ![v17_r3.toNat, 0, 0]
def k0_off103 : Fin 3 → Nat :=
  let c0_i32_21_r3 : BitVec 32 := 0#32
  let c2_i32_22_r3 : BitVec 32 := 2#32
  let v24_r3 : BitVec 32 := Scalar.remui c0_i32_21_r3 c2_i32_22_r3
  let c0_i32_23_r3 : BitVec 32 := 0#32
  let c0_i32_24_r3 : BitVec 32 := 0#32
  ![v24_r3.toNat, 0, 0]
@[reducible] def k0_t4_loop : Scf.Loop 32 :=
  let c0_i32_44_r3 : BitVec 32 := 0#32
  let c16_i32_45_r3 : BitVec 32 := 16#32
  let v31_r3 : BitVec 32 := Scalar.addi c0_i32_44_r3 c16_i32_45_r3
  let c1_i32_46_r3 : BitVec 32 := 1#32
  ⟨c0_i32_44_r3, v31_r3, c1_i32_46_r3⟩
def k0_off104 (arg31_r3 : BitVec 32) : Fin 1 → Nat :=
  let c2_i32_240_r3 : BitVec 32 := 2#32
  let v343_r3 : BitVec 32 := Scalar.remui arg31_r3 c2_i32_240_r3
  ![v343_r3.toNat]
def k0_cond68 (k0_t4 : Fin k0_t4_loop.trips) (arg39_r3 : BitVec 32) : BitVec 1 :=
  let c0_i32_79_r3 : BitVec 32 := 0#32
  let v69_r3 : BitVec 32 := Scalar.addi arg39_r3 c0_i32_79_r3
  let true_86_r3 : BitVec 1 := 1#1
  let c1_i32_85_r3 : BitVec 32 := 1#32
  let v75_r3 : BitVec 32 := Scalar.addi arg39_r3 c1_i32_85_r3
  let v76_r3 : BitVec 32 := Scalar.select true_86_r3 v75_r3 arg39_r3
  let c16_i32_87_r3 : BitVec 32 := 16#32
  let v77_r3 : BitVec 1 := Scalar.cmpi .eq v76_r3 c16_i32_87_r3
  let c0_i32_88_r3 : BitVec 32 := 0#32
  let v78_r3 : BitVec 32 := Scalar.select v77_r3 c0_i32_88_r3 v76_r3
  let c0_i32_89_r3 : BitVec 32 := 0#32
  let v79_r3 : BitVec 32 := Scalar.addi v78_r3 c0_i32_89_r3
  let v89_r3 : BitVec 1 := Scalar.cmpi .ne v69_r3 v79_r3
  let c0_i32_44_r3 : BitVec 32 := 0#32
  let c1_i32_46_r3 : BitVec 32 := 1#32
  let arg30_r3 : BitVec 32 := Scf.iv c0_i32_44_r3 c1_i32_46_r3 k0_t4
  let c15_i32_99_r3 : BitVec 32 := 15#32
  let v90_r3 : BitVec 1 := Scalar.cmpi .sge arg30_r3 c15_i32_99_r3
  let true_100_r3 : BitVec 1 := 1#1
  let v91_r3 : BitVec 1 := Scalar.xori v90_r3 true_100_r3
  let v92_r3 : BitVec 1 := Scalar.andi v89_r3 v91_r3
  let true_101_r3 : BitVec 1 := 1#1
  let v93_r3 : BitVec 1 := Scalar.andi v92_r3 true_101_r3
  let v94_r3 : BitVec 32 := Scalar.extui v93_r3
  let c0_i32_102_r3 : BitVec 32 := 0#32
  let v95_r3 : BitVec 1 := Scalar.cmpi .ne v94_r3 c0_i32_102_r3
  v95_r3

def k0_off105 (arg31_r3 : BitVec 32) : Fin 3 → Nat :=
  let c2_i32_240_r3 : BitVec 32 := 2#32
  let v343_r3 : BitVec 32 := Scalar.remui arg31_r3 c2_i32_240_r3
  let c0_i32_242_r3 : BitVec 32 := 0#32
  let c0_i32_243_r3 : BitVec 32 := 0#32
  ![v343_r3.toNat, 0, 0]
def k0_off106 (arg39_r3 : BitVec 32) : Fin 2 → Nat :=
  let c512_i32_241_r3 : BitVec 32 := 512#32
  let true_86_r3 : BitVec 1 := 1#1
  let c1_i32_85_r3 : BitVec 32 := 1#32
  let v75_r3 : BitVec 32 := Scalar.addi arg39_r3 c1_i32_85_r3
  let v76_r3 : BitVec 32 := Scalar.select true_86_r3 v75_r3 arg39_r3
  let c16_i32_87_r3 : BitVec 32 := 16#32
  let v77_r3 : BitVec 1 := Scalar.cmpi .eq v76_r3 c16_i32_87_r3
  let c0_i32_88_r3 : BitVec 32 := 0#32
  let v78_r3 : BitVec 32 := Scalar.select v77_r3 c0_i32_88_r3 v76_r3
  let c0_i32_89_r3 : BitVec 32 := 0#32
  let v79_r3 : BitVec 32 := Scalar.addi v78_r3 c0_i32_89_r3
  let v344_r3 : BitVec 32 := Scalar.muli c512_i32_241_r3 v79_r3
  let c0_i32_244_r3 : BitVec 32 := 0#32
  ![v344_r3.toNat, 0]
def k0_off107 (arg33_r3 : BitVec 32) : Fin 1 → Nat :=
  let c2_i32_240_r3 : BitVec 32 := 2#32
  let v343_r3 : BitVec 32 := Scalar.remui arg33_r3 c2_i32_240_r3
  ![v343_r3.toNat]
def k0_cond69 (k0_t4 : Fin k0_t4_loop.trips) (arg39_r3 : BitVec 32) : BitVec 1 :=
  let c0_i32_79_r3 : BitVec 32 := 0#32
  let v69_r3 : BitVec 32 := Scalar.addi arg39_r3 c0_i32_79_r3
  let true_86_r3 : BitVec 1 := 1#1
  let c1_i32_85_r3 : BitVec 32 := 1#32
  let v75_r3 : BitVec 32 := Scalar.addi arg39_r3 c1_i32_85_r3
  let v76_r3 : BitVec 32 := Scalar.select true_86_r3 v75_r3 arg39_r3
  let c16_i32_87_r3 : BitVec 32 := 16#32
  let v77_r3 : BitVec 1 := Scalar.cmpi .eq v76_r3 c16_i32_87_r3
  let c0_i32_88_r3 : BitVec 32 := 0#32
  let v78_r3 : BitVec 32 := Scalar.select v77_r3 c0_i32_88_r3 v76_r3
  let c0_i32_89_r3 : BitVec 32 := 0#32
  let v79_r3 : BitVec 32 := Scalar.addi v78_r3 c0_i32_89_r3
  let v99_r3 : BitVec 1 := Scalar.cmpi .ne v69_r3 v79_r3
  let c0_i32_44_r3 : BitVec 32 := 0#32
  let c1_i32_46_r3 : BitVec 32 := 1#32
  let arg30_r3 : BitVec 32 := Scf.iv c0_i32_44_r3 c1_i32_46_r3 k0_t4
  let c15_i32_105_r3 : BitVec 32 := 15#32
  let v100_r3 : BitVec 1 := Scalar.cmpi .sge arg30_r3 c15_i32_105_r3
  let true_106_r3 : BitVec 1 := 1#1
  let v101_r3 : BitVec 1 := Scalar.xori v100_r3 true_106_r3
  let v102_r3 : BitVec 1 := Scalar.andi v99_r3 v101_r3
  let true_107_r3 : BitVec 1 := 1#1
  let v103_r3 : BitVec 1 := Scalar.andi v102_r3 true_107_r3
  let v104_r3 : BitVec 32 := Scalar.extui v103_r3
  let c0_i32_108_r3 : BitVec 32 := 0#32
  let v105_r3 : BitVec 1 := Scalar.cmpi .ne v104_r3 c0_i32_108_r3
  v105_r3

def k0_off108 (arg33_r3 : BitVec 32) : Fin 3 → Nat :=
  let c2_i32_240_r3 : BitVec 32 := 2#32
  let v343_r3 : BitVec 32 := Scalar.remui arg33_r3 c2_i32_240_r3
  let c0_i32_242_r3 : BitVec 32 := 0#32
  let c0_i32_243_r3 : BitVec 32 := 0#32
  ![v343_r3.toNat, 0, 0]
def k0_off109 (arg39_r3 : BitVec 32) : Fin 2 → Nat :=
  let c512_i32_241_r3 : BitVec 32 := 512#32
  let true_86_r3 : BitVec 1 := 1#1
  let c1_i32_85_r3 : BitVec 32 := 1#32
  let v75_r3 : BitVec 32 := Scalar.addi arg39_r3 c1_i32_85_r3
  let v76_r3 : BitVec 32 := Scalar.select true_86_r3 v75_r3 arg39_r3
  let c16_i32_87_r3 : BitVec 32 := 16#32
  let v77_r3 : BitVec 1 := Scalar.cmpi .eq v76_r3 c16_i32_87_r3
  let c0_i32_88_r3 : BitVec 32 := 0#32
  let v78_r3 : BitVec 32 := Scalar.select v77_r3 c0_i32_88_r3 v76_r3
  let c0_i32_89_r3 : BitVec 32 := 0#32
  let v79_r3 : BitVec 32 := Scalar.addi v78_r3 c0_i32_89_r3
  let v344_r3 : BitVec 32 := Scalar.muli c512_i32_241_r3 v79_r3
  let c0_i32_244_r3 : BitVec 32 := 0#32
  ![v344_r3.toNat, 0]
def k0_off110 (arg32_r3 : BitVec 32) : Fin 1 → Nat :=
  let c2_i32_241_r3 : BitVec 32 := 2#32
  let v344_r3 : BitVec 32 := Scalar.remui arg32_r3 c2_i32_241_r3
  ![v344_r3.toNat]
def k0_cond73 (k0_t4 : Fin k0_t4_loop.trips) (arg39_r3 : BitVec 32) : BitVec 1 :=
  let c0_i32_79_r3 : BitVec 32 := 0#32
  let v69_r3 : BitVec 32 := Scalar.addi arg39_r3 c0_i32_79_r3
  let true_81_r3 : BitVec 1 := 1#1
  let c1_i32_80_r3 : BitVec 32 := 1#32
  let v70_r3 : BitVec 32 := Scalar.subi arg39_r3 c1_i32_80_r3
  let v71_r3 : BitVec 32 := Scalar.select true_81_r3 v70_r3 arg39_r3
  let c_m1_i32_82_r3 : BitVec 32 := 4294967295#32
  let v72_r3 : BitVec 1 := Scalar.cmpi .eq v71_r3 c_m1_i32_82_r3
  let c15_i32_83_r3 : BitVec 32 := 15#32
  let v73_r3 : BitVec 32 := Scalar.select v72_r3 c15_i32_83_r3 v71_r3
  let c0_i32_84_r3 : BitVec 32 := 0#32
  let v74_r3 : BitVec 32 := Scalar.addi v73_r3 c0_i32_84_r3
  let v137_r3 : BitVec 1 := Scalar.cmpi .ne v69_r3 v74_r3
  let c0_i32_44_r3 : BitVec 32 := 0#32
  let c1_i32_46_r3 : BitVec 32 := 1#32
  let arg30_r3 : BitVec 32 := Scf.iv c0_i32_44_r3 c1_i32_46_r3 k0_t4
  let c0_i32_77_r3 : BitVec 32 := 0#32
  let v67_r3 : BitVec 1 := Scalar.cmpi .eq arg30_r3 c0_i32_77_r3
  let v138_r3 : BitVec 1 := Scalar.ori v137_r3 v67_r3
  let c0_i32_135_r3 : BitVec 32 := 0#32
  let v139_r3 : BitVec 1 := Scalar.cmpi .sge arg30_r3 c0_i32_135_r3
  let v140_r3 : BitVec 1 := Scalar.andi v138_r3 v139_r3
  let v141_r3 : BitVec 32 := Scalar.extui v140_r3
  let c0_i32_136_r3 : BitVec 32 := 0#32
  let v142_r3 : BitVec 1 := Scalar.cmpi .ne v141_r3 c0_i32_136_r3
  v142_r3

def k0_off111 (arg32_r3 : BitVec 32) : Fin 3 → Nat :=
  let c2_i32_241_r3 : BitVec 32 := 2#32
  let v344_r3 : BitVec 32 := Scalar.remui arg32_r3 c2_i32_241_r3
  let c0_i32_242_r3 : BitVec 32 := 0#32
  let c0_i32_243_r3 : BitVec 32 := 0#32
  ![v344_r3.toNat, 0, 0]
def k0_off112 (arg39_r3 : BitVec 32) : Fin 2 → Nat :=
  let c512_i32_240_r3 : BitVec 32 := 512#32
  let c0_i32_79_r3 : BitVec 32 := 0#32
  let v69_r3 : BitVec 32 := Scalar.addi arg39_r3 c0_i32_79_r3
  let v343_r3 : BitVec 32 := Scalar.muli c512_i32_240_r3 v69_r3
  let c0_i32_244_r3 : BitVec 32 := 0#32
  ![v343_r3.toNat, 0]
def k0_off113 (arg34_r3 : BitVec 32) : Fin 1 → Nat :=
  let c2_i32_241_r3 : BitVec 32 := 2#32
  let v344_r3 : BitVec 32 := Scalar.remui arg34_r3 c2_i32_241_r3
  ![v344_r3.toNat]
def k0_cond74 (k0_t4 : Fin k0_t4_loop.trips) (arg39_r3 : BitVec 32) : BitVec 1 :=
  let c0_i32_79_r3 : BitVec 32 := 0#32
  let v69_r3 : BitVec 32 := Scalar.addi arg39_r3 c0_i32_79_r3
  let true_81_r3 : BitVec 1 := 1#1
  let c1_i32_80_r3 : BitVec 32 := 1#32
  let v70_r3 : BitVec 32 := Scalar.subi arg39_r3 c1_i32_80_r3
  let v71_r3 : BitVec 32 := Scalar.select true_81_r3 v70_r3 arg39_r3
  let c_m1_i32_82_r3 : BitVec 32 := 4294967295#32
  let v72_r3 : BitVec 1 := Scalar.cmpi .eq v71_r3 c_m1_i32_82_r3
  let c15_i32_83_r3 : BitVec 32 := 15#32
  let v73_r3 : BitVec 32 := Scalar.select v72_r3 c15_i32_83_r3 v71_r3
  let c0_i32_84_r3 : BitVec 32 := 0#32
  let v74_r3 : BitVec 32 := Scalar.addi v73_r3 c0_i32_84_r3
  let v143_r3 : BitVec 1 := Scalar.cmpi .ne v69_r3 v74_r3
  let c0_i32_44_r3 : BitVec 32 := 0#32
  let c1_i32_46_r3 : BitVec 32 := 1#32
  let arg30_r3 : BitVec 32 := Scf.iv c0_i32_44_r3 c1_i32_46_r3 k0_t4
  let c0_i32_77_r3 : BitVec 32 := 0#32
  let v67_r3 : BitVec 1 := Scalar.cmpi .eq arg30_r3 c0_i32_77_r3
  let v144_r3 : BitVec 1 := Scalar.ori v143_r3 v67_r3
  let c0_i32_137_r3 : BitVec 32 := 0#32
  let v145_r3 : BitVec 1 := Scalar.cmpi .sge arg30_r3 c0_i32_137_r3
  let v146_r3 : BitVec 1 := Scalar.andi v144_r3 v145_r3
  let v147_r3 : BitVec 32 := Scalar.extui v146_r3
  let c0_i32_138_r3 : BitVec 32 := 0#32
  let v148_r3 : BitVec 1 := Scalar.cmpi .ne v147_r3 c0_i32_138_r3
  v148_r3

def k0_off114 (arg34_r3 : BitVec 32) : Fin 3 → Nat :=
  let c2_i32_241_r3 : BitVec 32 := 2#32
  let v344_r3 : BitVec 32 := Scalar.remui arg34_r3 c2_i32_241_r3
  let c0_i32_242_r3 : BitVec 32 := 0#32
  let c0_i32_243_r3 : BitVec 32 := 0#32
  ![v344_r3.toNat, 0, 0]
def k0_off115 (arg39_r3 : BitVec 32) : Fin 2 → Nat :=
  let c512_i32_240_r3 : BitVec 32 := 512#32
  let c0_i32_79_r3 : BitVec 32 := 0#32
  let v69_r3 : BitVec 32 := Scalar.addi arg39_r3 c0_i32_79_r3
  let v343_r3 : BitVec 32 := Scalar.muli c512_i32_240_r3 v69_r3
  let c0_i32_244_r3 : BitVec 32 := 0#32
  ![v343_r3.toNat, 0]
def k0_off116 (arg32_r3 : BitVec 32) : Fin 3 → Nat :=
  let c2_i32_155_r3 : BitVec 32 := 2#32
  let v181_r3 : BitVec 32 := Scalar.remui arg32_r3 c2_i32_155_r3
  let v185_r3 : Index := Scalar.indexCast v181_r3
  let c0_r3 : Index := 0#32
  let c0_159_r3 : Index := 0#32
  ![v185_r3.toNat, 0, 0]

def k0_chk22 (arg32_r3 : BitVec 32) : Prop :=
  (∀ a, (k0_off116 arg32_r3) a + S1x512x4096.size a ≤ S2x512x4096.size a)
theorem k0_off116_inb : ∀ (arg32_r3 : BitVec 32) (k0_hw22 : k0_chk22 arg32_r3), ∀ a, (k0_off116 arg32_r3) a + S1x512x4096.size a ≤ S2x512x4096.size a := fun arg32_r3 k0_hw22 => k0_hw22

def k0_off117 (arg39_r3 : BitVec 32) : Fin 2 → Nat :=
  let c0_i32_79_r3 : BitVec 32 := 0#32
  let v69_r3 : BitVec 32 := Scalar.addi arg39_r3 c0_i32_79_r3
  let c512_i32_95_r3 : BitVec 32 := 512#32
  let v85_r3 : BitVec 32 := Scalar.muli v69_r3 c512_i32_95_r3
  let v191_r3 : Index := Scalar.indexCast v85_r3
  let c0_162_r3 : Index := 0#32
  ![v191_r3.toNat, 0]
def k0_off118 (arg34_r3 : BitVec 32) : Fin 3 → Nat :=
  let c2_i32_156_r3 : BitVec 32 := 2#32
  let v182_r3 : BitVec 32 := Scalar.remui arg34_r3 c2_i32_156_r3
  let v216_r3 : Index := Scalar.indexCast v182_r3
  let c0_170_r3 : Index := 0#32
  let c0_171_r3 : Index := 0#32
  ![v216_r3.toNat, 0, 0]

def k0_chk23 (arg34_r3 : BitVec 32) : Prop :=
  (∀ a, (k0_off118 arg34_r3) a + S1x512x64.size a ≤ S2x512x64.size a)
theorem k0_off118_inb : ∀ (arg34_r3 : BitVec 32) (k0_hw23 : k0_chk23 arg34_r3), ∀ a, (k0_off118 arg34_r3) a + S1x512x64.size a ≤ S2x512x64.size a := fun arg34_r3 k0_hw23 => k0_hw23

def k0_off119 (arg35_r3 : BitVec 32) : Fin 3 → Nat :=
  let c2_i32_157_r3 : BitVec 32 := 2#32
  let v183_r3 : BitVec 32 := Scalar.remui arg35_r3 c2_i32_157_r3
  let v226_r3 : Index := Scalar.indexCast v183_r3
  let c0_174_r3 : Index := 0#32
  let c0_175_r3 : Index := 0#32
  ![v226_r3.toNat, 0, 0]

def k0_chk24 (arg35_r3 : BitVec 32) : Prop :=
  (∀ a, (k0_off119 arg35_r3) a + S1x512x64.size a ≤ S2x512x64.size a)
theorem k0_off119_inb : ∀ (arg35_r3 : BitVec 32) (k0_hw24 : k0_chk24 arg35_r3), ∀ a, (k0_off119 arg35_r3) a + S1x512x64.size a ≤ S2x512x64.size a := fun arg35_r3 k0_hw24 => k0_hw24

def k0_off120 (arg37_r3 : BitVec 32) : Fin 3 → Nat :=
  let c2_i32_158_r3 : BitVec 32 := 2#32
  let v184_r3 : BitVec 32 := Scalar.remui arg37_r3 c2_i32_158_r3
  let v231_r3 : Index := Scalar.indexCast v184_r3
  let c0_176_r3 : Index := 0#32
  let c0_177_r3 : Index := 0#32
  ![v231_r3.toNat, 0, 0]

def k0_chk25 (arg37_r3 : BitVec 32) : Prop :=
  (∀ a, (k0_off120 arg37_r3) a + S1x512x64.size a ≤ S2x512x64.size a)
theorem k0_off120_inb : ∀ (arg37_r3 : BitVec 32) (k0_hw25 : k0_chk25 arg37_r3), ∀ a, (k0_off120 arg37_r3) a + S1x512x64.size a ≤ S2x512x64.size a := fun arg37_r3 k0_hw25 => k0_hw25

def k0_off121 (arg39_r3 : BitVec 32) : Fin 2 → Nat :=
  let c0_i32_79_r3 : BitVec 32 := 0#32
  let v69_r3 : BitVec 32 := Scalar.addi arg39_r3 c0_i32_79_r3
  let c512_i32_98_r3 : BitVec 32 := 512#32
  let v88_r3 : BitVec 32 := Scalar.muli v69_r3 c512_i32_98_r3
  let v236_r3 : Index := Scalar.indexCast v88_r3
  let c0_178_r3 : Index := 0#32
  ![v236_r3.toNat, 0]
def k0_off122 (arg35_r3 : BitVec 32) : Fin 1 → Nat :=
  let c2_i32_240_r3 : BitVec 32 := 2#32
  let v343_r3 : BitVec 32 := Scalar.remui arg35_r3 c2_i32_240_r3
  ![v343_r3.toNat]
def k0_cond86 (k0_t4 : Fin k0_t4_loop.trips) (arg39_r3 : BitVec 32) : BitVec 1 :=
  let c0_i32_79_r3 : BitVec 32 := 0#32
  let v69_r3 : BitVec 32 := Scalar.addi arg39_r3 c0_i32_79_r3
  let true_86_r3 : BitVec 1 := 1#1
  let c1_i32_85_r3 : BitVec 32 := 1#32
  let v75_r3 : BitVec 32 := Scalar.addi arg39_r3 c1_i32_85_r3
  let v76_r3 : BitVec 32 := Scalar.select true_86_r3 v75_r3 arg39_r3
  let c16_i32_87_r3 : BitVec 32 := 16#32
  let v77_r3 : BitVec 1 := Scalar.cmpi .eq v76_r3 c16_i32_87_r3
  let c0_i32_88_r3 : BitVec 32 := 0#32
  let v78_r3 : BitVec 32 := Scalar.select v77_r3 c0_i32_88_r3 v76_r3
  let c0_i32_89_r3 : BitVec 32 := 0#32
  let v79_r3 : BitVec 32 := Scalar.addi v78_r3 c0_i32_89_r3
  let v262_r3 : BitVec 1 := Scalar.cmpi .ne v69_r3 v79_r3
  let c0_i32_44_r3 : BitVec 32 := 0#32
  let c1_i32_46_r3 : BitVec 32 := 1#32
  let arg30_r3 : BitVec 32 := Scf.iv c0_i32_44_r3 c1_i32_46_r3 k0_t4
  let c15_i32_78_r3 : BitVec 32 := 15#32
  let v68_r3 : BitVec 1 := Scalar.cmpi .eq arg30_r3 c15_i32_78_r3
  let v263_r3 : BitVec 1 := Scalar.ori v262_r3 v68_r3
  let v264_r3 : BitVec 32 := Scalar.extui v263_r3
  let c0_i32_192_r3 : BitVec 32 := 0#32
  let v265_r3 : BitVec 1 := Scalar.cmpi .ne v264_r3 c0_i32_192_r3
  v265_r3

def k0_off123 (arg39_r3 : BitVec 32) : Fin 2 → Nat :=
  let c512_i32_241_r3 : BitVec 32 := 512#32
  let c0_i32_79_r3 : BitVec 32 := 0#32
  let v69_r3 : BitVec 32 := Scalar.addi arg39_r3 c0_i32_79_r3
  let v344_r3 : BitVec 32 := Scalar.muli c512_i32_241_r3 v69_r3
  let c0_i32_242_r3 : BitVec 32 := 0#32
  ![v344_r3.toNat, 0]
def k0_off124 (arg35_r3 : BitVec 32) : Fin 3 → Nat :=
  let c2_i32_240_r3 : BitVec 32 := 2#32
  let v343_r3 : BitVec 32 := Scalar.remui arg35_r3 c2_i32_240_r3
  let c0_i32_243_r3 : BitVec 32 := 0#32
  let c0_i32_244_r3 : BitVec 32 := 0#32
  ![v343_r3.toNat, 0, 0]
def k0_off125 (arg37_r3 : BitVec 32) : Fin 1 → Nat :=
  let c2_i32_240_r3 : BitVec 32 := 2#32
  let v343_r3 : BitVec 32 := Scalar.remui arg37_r3 c2_i32_240_r3
  ![v343_r3.toNat]
def k0_cond87 (k0_t4 : Fin k0_t4_loop.trips) (arg39_r3 : BitVec 32) : BitVec 1 :=
  let c0_i32_79_r3 : BitVec 32 := 0#32
  let v69_r3 : BitVec 32 := Scalar.addi arg39_r3 c0_i32_79_r3
  let true_86_r3 : BitVec 1 := 1#1
  let c1_i32_85_r3 : BitVec 32 := 1#32
  let v75_r3 : BitVec 32 := Scalar.addi arg39_r3 c1_i32_85_r3
  let v76_r3 : BitVec 32 := Scalar.select true_86_r3 v75_r3 arg39_r3
  let c16_i32_87_r3 : BitVec 32 := 16#32
  let v77_r3 : BitVec 1 := Scalar.cmpi .eq v76_r3 c16_i32_87_r3
  let c0_i32_88_r3 : BitVec 32 := 0#32
  let v78_r3 : BitVec 32 := Scalar.select v77_r3 c0_i32_88_r3 v76_r3
  let c0_i32_89_r3 : BitVec 32 := 0#32
  let v79_r3 : BitVec 32 := Scalar.addi v78_r3 c0_i32_89_r3
  let v269_r3 : BitVec 1 := Scalar.cmpi .ne v69_r3 v79_r3
  let c0_i32_44_r3 : BitVec 32 := 0#32
  let c1_i32_46_r3 : BitVec 32 := 1#32
  let arg30_r3 : BitVec 32 := Scf.iv c0_i32_44_r3 c1_i32_46_r3 k0_t4
  let c15_i32_78_r3 : BitVec 32 := 15#32
  let v68_r3 : BitVec 1 := Scalar.cmpi .eq arg30_r3 c15_i32_78_r3
  let v270_r3 : BitVec 1 := Scalar.ori v269_r3 v68_r3
  let v271_r3 : BitVec 32 := Scalar.extui v270_r3
  let c0_i32_195_r3 : BitVec 32 := 0#32
  let v272_r3 : BitVec 1 := Scalar.cmpi .ne v271_r3 c0_i32_195_r3
  v272_r3

def k0_off126 (arg39_r3 : BitVec 32) : Fin 2 → Nat :=
  let c512_i32_241_r3 : BitVec 32 := 512#32
  let c0_i32_79_r3 : BitVec 32 := 0#32
  let v69_r3 : BitVec 32 := Scalar.addi arg39_r3 c0_i32_79_r3
  let v344_r3 : BitVec 32 := Scalar.muli c512_i32_241_r3 v69_r3
  let c0_i32_242_r3 : BitVec 32 := 0#32
  ![v344_r3.toNat, 0]
def k0_off127 (arg37_r3 : BitVec 32) : Fin 3 → Nat :=
  let c2_i32_240_r3 : BitVec 32 := 2#32
  let v343_r3 : BitVec 32 := Scalar.remui arg37_r3 c2_i32_240_r3
  let c0_i32_243_r3 : BitVec 32 := 0#32
  let c0_i32_244_r3 : BitVec 32 := 0#32
  ![v343_r3.toNat, 0, 0]
def k0_off128 (arg36_r3 : BitVec 32) : Fin 1 → Nat :=
  let c2_i32_240_r3 : BitVec 32 := 2#32
  let v343_r3 : BitVec 32 := Scalar.remui arg36_r3 c2_i32_240_r3
  ![v343_r3.toNat]
def k0_cond94 (k0_t4 : Fin k0_t4_loop.trips) (arg39_r3 : BitVec 32) : BitVec 1 :=
  let c0_i32_79_r3 : BitVec 32 := 0#32
  let v69_r3 : BitVec 32 := Scalar.addi arg39_r3 c0_i32_79_r3
  let true_81_r3 : BitVec 1 := 1#1
  let c1_i32_80_r3 : BitVec 32 := 1#32
  let v70_r3 : BitVec 32 := Scalar.subi arg39_r3 c1_i32_80_r3
  let v71_r3 : BitVec 32 := Scalar.select true_81_r3 v70_r3 arg39_r3
  let c_m1_i32_82_r3 : BitVec 32 := 4294967295#32
  let v72_r3 : BitVec 1 := Scalar.cmpi .eq v71_r3 c_m1_i32_82_r3
  let c15_i32_83_r3 : BitVec 32 := 15#32
  let v73_r3 : BitVec 32 := Scalar.select v72_r3 c15_i32_83_r3 v71_r3
  let c0_i32_84_r3 : BitVec 32 := 0#32
  let v74_r3 : BitVec 32 := Scalar.addi v73_r3 c0_i32_84_r3
  let v307_r3 : BitVec 1 := Scalar.cmpi .ne v69_r3 v74_r3
  let c0_i32_44_r3 : BitVec 32 := 0#32
  let c1_i32_46_r3 : BitVec 32 := 1#32
  let arg30_r3 : BitVec 32 := Scf.iv c0_i32_44_r3 c1_i32_46_r3 k0_t4
  let c0_i32_77_r3 : BitVec 32 := 0#32
  let v67_r3 : BitVec 1 := Scalar.cmpi .eq arg30_r3 c0_i32_77_r3
  let true_219_r3 : BitVec 1 := 1#1
  let v308_r3 : BitVec 1 := Scalar.xori v67_r3 true_219_r3
  let v309_r3 : BitVec 1 := Scalar.andi v307_r3 v308_r3
  let v310_r3 : BitVec 32 := Scalar.extui v309_r3
  let c0_i32_220_r3 : BitVec 32 := 0#32
  let v311_r3 : BitVec 1 := Scalar.cmpi .ne v310_r3 c0_i32_220_r3
  v311_r3

def k0_off129 (arg39_r3 : BitVec 32) : Fin 2 → Nat :=
  let c512_i32_241_r3 : BitVec 32 := 512#32
  let true_81_r3 : BitVec 1 := 1#1
  let c1_i32_80_r3 : BitVec 32 := 1#32
  let v70_r3 : BitVec 32 := Scalar.subi arg39_r3 c1_i32_80_r3
  let v71_r3 : BitVec 32 := Scalar.select true_81_r3 v70_r3 arg39_r3
  let c_m1_i32_82_r3 : BitVec 32 := 4294967295#32
  let v72_r3 : BitVec 1 := Scalar.cmpi .eq v71_r3 c_m1_i32_82_r3
  let c15_i32_83_r3 : BitVec 32 := 15#32
  let v73_r3 : BitVec 32 := Scalar.select v72_r3 c15_i32_83_r3 v71_r3
  let c0_i32_84_r3 : BitVec 32 := 0#32
  let v74_r3 : BitVec 32 := Scalar.addi v73_r3 c0_i32_84_r3
  let v344_r3 : BitVec 32 := Scalar.muli c512_i32_241_r3 v74_r3
  let c0_i32_242_r3 : BitVec 32 := 0#32
  ![v344_r3.toNat, 0]
def k0_off130 (arg36_r3 : BitVec 32) : Fin 3 → Nat :=
  let c2_i32_240_r3 : BitVec 32 := 2#32
  let v343_r3 : BitVec 32 := Scalar.remui arg36_r3 c2_i32_240_r3
  let c0_i32_243_r3 : BitVec 32 := 0#32
  let c0_i32_244_r3 : BitVec 32 := 0#32
  ![v343_r3.toNat, 0, 0]
def k0_off131 (arg38_r3 : BitVec 32) : Fin 1 → Nat :=
  let c2_i32_240_r3 : BitVec 32 := 2#32
  let v343_r3 : BitVec 32 := Scalar.remui arg38_r3 c2_i32_240_r3
  ![v343_r3.toNat]
def k0_cond95 (k0_t4 : Fin k0_t4_loop.trips) (arg39_r3 : BitVec 32) : BitVec 1 :=
  let c0_i32_79_r3 : BitVec 32 := 0#32
  let v69_r3 : BitVec 32 := Scalar.addi arg39_r3 c0_i32_79_r3
  let true_81_r3 : BitVec 1 := 1#1
  let c1_i32_80_r3 : BitVec 32 := 1#32
  let v70_r3 : BitVec 32 := Scalar.subi arg39_r3 c1_i32_80_r3
  let v71_r3 : BitVec 32 := Scalar.select true_81_r3 v70_r3 arg39_r3
  let c_m1_i32_82_r3 : BitVec 32 := 4294967295#32
  let v72_r3 : BitVec 1 := Scalar.cmpi .eq v71_r3 c_m1_i32_82_r3
  let c15_i32_83_r3 : BitVec 32 := 15#32
  let v73_r3 : BitVec 32 := Scalar.select v72_r3 c15_i32_83_r3 v71_r3
  let c0_i32_84_r3 : BitVec 32 := 0#32
  let v74_r3 : BitVec 32 := Scalar.addi v73_r3 c0_i32_84_r3
  let v315_r3 : BitVec 1 := Scalar.cmpi .ne v69_r3 v74_r3
  let c0_i32_44_r3 : BitVec 32 := 0#32
  let c1_i32_46_r3 : BitVec 32 := 1#32
  let arg30_r3 : BitVec 32 := Scf.iv c0_i32_44_r3 c1_i32_46_r3 k0_t4
  let c0_i32_77_r3 : BitVec 32 := 0#32
  let v67_r3 : BitVec 1 := Scalar.cmpi .eq arg30_r3 c0_i32_77_r3
  let true_223_r3 : BitVec 1 := 1#1
  let v316_r3 : BitVec 1 := Scalar.xori v67_r3 true_223_r3
  let v317_r3 : BitVec 1 := Scalar.andi v315_r3 v316_r3
  let v318_r3 : BitVec 32 := Scalar.extui v317_r3
  let c0_i32_224_r3 : BitVec 32 := 0#32
  let v319_r3 : BitVec 1 := Scalar.cmpi .ne v318_r3 c0_i32_224_r3
  v319_r3

def k0_off132 (arg39_r3 : BitVec 32) : Fin 2 → Nat :=
  let c512_i32_241_r3 : BitVec 32 := 512#32
  let true_81_r3 : BitVec 1 := 1#1
  let c1_i32_80_r3 : BitVec 32 := 1#32
  let v70_r3 : BitVec 32 := Scalar.subi arg39_r3 c1_i32_80_r3
  let v71_r3 : BitVec 32 := Scalar.select true_81_r3 v70_r3 arg39_r3
  let c_m1_i32_82_r3 : BitVec 32 := 4294967295#32
  let v72_r3 : BitVec 1 := Scalar.cmpi .eq v71_r3 c_m1_i32_82_r3
  let c15_i32_83_r3 : BitVec 32 := 15#32
  let v73_r3 : BitVec 32 := Scalar.select v72_r3 c15_i32_83_r3 v71_r3
  let c0_i32_84_r3 : BitVec 32 := 0#32
  let v74_r3 : BitVec 32 := Scalar.addi v73_r3 c0_i32_84_r3
  let v344_r3 : BitVec 32 := Scalar.muli c512_i32_241_r3 v74_r3
  let c0_i32_242_r3 : BitVec 32 := 0#32
  ![v344_r3.toNat, 0]
def k0_off133 (arg38_r3 : BitVec 32) : Fin 3 → Nat :=
  let c2_i32_240_r3 : BitVec 32 := 2#32
  let v343_r3 : BitVec 32 := Scalar.remui arg38_r3 c2_i32_240_r3
  let c0_i32_243_r3 : BitVec 32 := 0#32
  let c0_i32_244_r3 : BitVec 32 := 0#32
  ![v343_r3.toNat, 0, 0]

def k0_chk21 (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) : Prop :=
  (∀ (k0_h68 : k0_cond68 k0_t4 arg39_r3 = 1#1), ∀ a, (k0_off104 arg31_r3) a + S1.size a ≤ S2.size a) ∧
  (∀ (k0_h68 : k0_cond68 k0_t4 arg39_r3 = 1#1), ∀ a, (k0_off105 arg31_r3) a + S1x512x4096.size a ≤ S2x512x4096.size a) ∧
  (∀ (k0_h68 : k0_cond68 k0_t4 arg39_r3 = 1#1), ∀ a, (k0_off106 arg39_r3) a + S512x4096.size a ≤ S8192x4096.size a) ∧
  (∀ (k0_h69 : k0_cond69 k0_t4 arg39_r3 = 1#1), ∀ a, (k0_off107 arg33_r3) a + S1.size a ≤ S2.size a) ∧
  (∀ (k0_h69 : k0_cond69 k0_t4 arg39_r3 = 1#1), ∀ a, (k0_off108 arg33_r3) a + S1x512x64.size a ≤ S2x512x64.size a) ∧
  (∀ (k0_h69 : k0_cond69 k0_t4 arg39_r3 = 1#1), ∀ a, (k0_off109 arg39_r3) a + S512x64.size a ≤ S8192x64.size a) ∧
  (∀ (k0_h73 : k0_cond73 k0_t4 arg39_r3 = 1#1), ∀ a, (k0_off110 arg32_r3) a + S1.size a ≤ S2.size a) ∧
  (∀ (k0_h73 : k0_cond73 k0_t4 arg39_r3 = 1#1), ∀ a, (k0_off111 arg32_r3) a + S1x512x4096.size a ≤ S2x512x4096.size a) ∧
  (∀ (k0_h73 : k0_cond73 k0_t4 arg39_r3 = 1#1), ∀ a, (k0_off112 arg39_r3) a + S512x4096.size a ≤ S8192x4096.size a) ∧
  (∀ (k0_h74 : k0_cond74 k0_t4 arg39_r3 = 1#1), ∀ a, (k0_off113 arg34_r3) a + S1.size a ≤ S2.size a) ∧
  (∀ (k0_h74 : k0_cond74 k0_t4 arg39_r3 = 1#1), ∀ a, (k0_off114 arg34_r3) a + S1x512x64.size a ≤ S2x512x64.size a) ∧
  (∀ (k0_h74 : k0_cond74 k0_t4 arg39_r3 = 1#1), ∀ a, (k0_off115 arg39_r3) a + S512x64.size a ≤ S8192x64.size a) ∧
  (∀ a, (k0_off117 arg39_r3) a + S512x64.size a ≤ S8192x64.size a) ∧
  (∀ a, (k0_off121 arg39_r3) a + S512x64.size a ≤ S8192x64.size a) ∧
  (∀ (hinb : ∀ a, (k0_off121 arg39_r3) a + S512x64.size a ≤ S8192x64.size a), (Rect.unit (s := S8192x64) (k0_off121 arg39_r3) S512x64.size hinb).PackedRows (EltTy.packing .bf16)) ∧
  (∀ (k0_h86 : k0_cond86 k0_t4 arg39_r3 = 1#1), ∀ a, (k0_off122 arg35_r3) a + S1.size a ≤ S2.size a) ∧
  (∀ (k0_h86 : k0_cond86 k0_t4 arg39_r3 = 1#1), ∀ a, (k0_off123 arg39_r3) a + S512x64.size a ≤ S8192x64.size a) ∧
  (∀ (k0_h86 : k0_cond86 k0_t4 arg39_r3 = 1#1), ∀ a, (k0_off124 arg35_r3) a + S1x512x64.size a ≤ S2x512x64.size a) ∧
  (∀ (k0_h87 : k0_cond87 k0_t4 arg39_r3 = 1#1), ∀ a, (k0_off125 arg37_r3) a + S1.size a ≤ S2.size a) ∧
  (∀ (k0_h87 : k0_cond87 k0_t4 arg39_r3 = 1#1), ∀ a, (k0_off126 arg39_r3) a + S512x64.size a ≤ S8192x64.size a) ∧
  (∀ (k0_h87 : k0_cond87 k0_t4 arg39_r3 = 1#1), ∀ a, (k0_off127 arg37_r3) a + S1x512x64.size a ≤ S2x512x64.size a) ∧
  (∀ (k0_h94 : k0_cond94 k0_t4 arg39_r3 = 1#1), ∀ a, (k0_off128 arg36_r3) a + S1.size a ≤ S2.size a) ∧
  (∀ (k0_h94 : k0_cond94 k0_t4 arg39_r3 = 1#1), ∀ a, (k0_off129 arg39_r3) a + S512x64.size a ≤ S8192x64.size a) ∧
  (∀ (k0_h94 : k0_cond94 k0_t4 arg39_r3 = 1#1), ∀ a, (k0_off130 arg36_r3) a + S1x512x64.size a ≤ S2x512x64.size a) ∧
  (∀ (k0_h95 : k0_cond95 k0_t4 arg39_r3 = 1#1), ∀ a, (k0_off131 arg38_r3) a + S1.size a ≤ S2.size a) ∧
  (∀ (k0_h95 : k0_cond95 k0_t4 arg39_r3 = 1#1), ∀ a, (k0_off132 arg39_r3) a + S512x64.size a ≤ S8192x64.size a) ∧
  (∀ (k0_h95 : k0_cond95 k0_t4 arg39_r3 = 1#1), ∀ a, (k0_off133 arg38_r3) a + S1x512x64.size a ≤ S2x512x64.size a)
theorem k0_off104_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h68 : k0_cond68 k0_t4 arg39_r3 = 1#1), ∀ a, (k0_off104 arg31_r3) a + S1.size a ≤ S2.size a := fun k0_t4 arg31_r3 arg32_r3 arg33_r3 arg34_r3 arg35_r3 arg36_r3 arg37_r3 arg38_r3 arg39_r3 k0_hw21 k0_h68 => k0_hw21.1 k0_h68
theorem k0_off105_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h68 : k0_cond68 k0_t4 arg39_r3 = 1#1), ∀ a, (k0_off105 arg31_r3) a + S1x512x4096.size a ≤ S2x512x4096.size a := fun k0_t4 arg31_r3 arg32_r3 arg33_r3 arg34_r3 arg35_r3 arg36_r3 arg37_r3 arg38_r3 arg39_r3 k0_hw21 k0_h68 => k0_hw21.2.1 k0_h68
theorem k0_off106_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h68 : k0_cond68 k0_t4 arg39_r3 = 1#1), ∀ a, (k0_off106 arg39_r3) a + S512x4096.size a ≤ S8192x4096.size a := fun k0_t4 arg31_r3 arg32_r3 arg33_r3 arg34_r3 arg35_r3 arg36_r3 arg37_r3 arg38_r3 arg39_r3 k0_hw21 k0_h68 => k0_hw21.2.2.1 k0_h68
theorem k0_off107_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h69 : k0_cond69 k0_t4 arg39_r3 = 1#1), ∀ a, (k0_off107 arg33_r3) a + S1.size a ≤ S2.size a := fun k0_t4 arg31_r3 arg32_r3 arg33_r3 arg34_r3 arg35_r3 arg36_r3 arg37_r3 arg38_r3 arg39_r3 k0_hw21 k0_h69 => k0_hw21.2.2.2.1 k0_h69
theorem k0_off108_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h69 : k0_cond69 k0_t4 arg39_r3 = 1#1), ∀ a, (k0_off108 arg33_r3) a + S1x512x64.size a ≤ S2x512x64.size a := fun k0_t4 arg31_r3 arg32_r3 arg33_r3 arg34_r3 arg35_r3 arg36_r3 arg37_r3 arg38_r3 arg39_r3 k0_hw21 k0_h69 => k0_hw21.2.2.2.2.1 k0_h69
theorem k0_off109_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h69 : k0_cond69 k0_t4 arg39_r3 = 1#1), ∀ a, (k0_off109 arg39_r3) a + S512x64.size a ≤ S8192x64.size a := fun k0_t4 arg31_r3 arg32_r3 arg33_r3 arg34_r3 arg35_r3 arg36_r3 arg37_r3 arg38_r3 arg39_r3 k0_hw21 k0_h69 => k0_hw21.2.2.2.2.2.1 k0_h69
theorem k0_off110_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h73 : k0_cond73 k0_t4 arg39_r3 = 1#1), ∀ a, (k0_off110 arg32_r3) a + S1.size a ≤ S2.size a := fun k0_t4 arg31_r3 arg32_r3 arg33_r3 arg34_r3 arg35_r3 arg36_r3 arg37_r3 arg38_r3 arg39_r3 k0_hw21 k0_h73 => k0_hw21.2.2.2.2.2.2.1 k0_h73
theorem k0_off111_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h73 : k0_cond73 k0_t4 arg39_r3 = 1#1), ∀ a, (k0_off111 arg32_r3) a + S1x512x4096.size a ≤ S2x512x4096.size a := fun k0_t4 arg31_r3 arg32_r3 arg33_r3 arg34_r3 arg35_r3 arg36_r3 arg37_r3 arg38_r3 arg39_r3 k0_hw21 k0_h73 => k0_hw21.2.2.2.2.2.2.2.1 k0_h73
theorem k0_off112_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h73 : k0_cond73 k0_t4 arg39_r3 = 1#1), ∀ a, (k0_off112 arg39_r3) a + S512x4096.size a ≤ S8192x4096.size a := fun k0_t4 arg31_r3 arg32_r3 arg33_r3 arg34_r3 arg35_r3 arg36_r3 arg37_r3 arg38_r3 arg39_r3 k0_hw21 k0_h73 => k0_hw21.2.2.2.2.2.2.2.2.1 k0_h73
theorem k0_off113_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h74 : k0_cond74 k0_t4 arg39_r3 = 1#1), ∀ a, (k0_off113 arg34_r3) a + S1.size a ≤ S2.size a := fun k0_t4 arg31_r3 arg32_r3 arg33_r3 arg34_r3 arg35_r3 arg36_r3 arg37_r3 arg38_r3 arg39_r3 k0_hw21 k0_h74 => k0_hw21.2.2.2.2.2.2.2.2.2.1 k0_h74
theorem k0_off114_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h74 : k0_cond74 k0_t4 arg39_r3 = 1#1), ∀ a, (k0_off114 arg34_r3) a + S1x512x64.size a ≤ S2x512x64.size a := fun k0_t4 arg31_r3 arg32_r3 arg33_r3 arg34_r3 arg35_r3 arg36_r3 arg37_r3 arg38_r3 arg39_r3 k0_hw21 k0_h74 => k0_hw21.2.2.2.2.2.2.2.2.2.2.1 k0_h74
theorem k0_off115_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h74 : k0_cond74 k0_t4 arg39_r3 = 1#1), ∀ a, (k0_off115 arg39_r3) a + S512x64.size a ≤ S8192x64.size a := fun k0_t4 arg31_r3 arg32_r3 arg33_r3 arg34_r3 arg35_r3 arg36_r3 arg37_r3 arg38_r3 arg39_r3 k0_hw21 k0_h74 => k0_hw21.2.2.2.2.2.2.2.2.2.2.2.1 k0_h74
theorem k0_off117_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ a, (k0_off117 arg39_r3) a + S512x64.size a ≤ S8192x64.size a := fun k0_t4 arg31_r3 arg32_r3 arg33_r3 arg34_r3 arg35_r3 arg36_r3 arg37_r3 arg38_r3 arg39_r3 k0_hw21 => k0_hw21.2.2.2.2.2.2.2.2.2.2.2.2.1
theorem k0_off121_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ a, (k0_off121 arg39_r3) a + S512x64.size a ≤ S8192x64.size a := fun k0_t4 arg31_r3 arg32_r3 arg33_r3 arg34_r3 arg35_r3 arg36_r3 arg37_r3 arg38_r3 arg39_r3 k0_hw21 => k0_hw21.2.2.2.2.2.2.2.2.2.2.2.2.2.1
theorem k0_off121_packedbf16 : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), (Rect.unit (s := S8192x64) (k0_off121 arg39_r3) S512x64.size (k0_off121_inb k0_t4 arg31_r3 arg32_r3 arg33_r3 arg34_r3 arg35_r3 arg36_r3 arg37_r3 arg38_r3 arg39_r3 k0_hw21)).PackedRows (EltTy.packing .bf16) := fun k0_t4 arg31_r3 arg32_r3 arg33_r3 arg34_r3 arg35_r3 arg36_r3 arg37_r3 arg38_r3 arg39_r3 k0_hw21 => k0_hw21.2.2.2.2.2.2.2.2.2.2.2.2.2.2.1 (k0_off121_inb k0_t4 arg31_r3 arg32_r3 arg33_r3 arg34_r3 arg35_r3 arg36_r3 arg37_r3 arg38_r3 arg39_r3 k0_hw21)
theorem k0_off122_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h86 : k0_cond86 k0_t4 arg39_r3 = 1#1), ∀ a, (k0_off122 arg35_r3) a + S1.size a ≤ S2.size a := fun k0_t4 arg31_r3 arg32_r3 arg33_r3 arg34_r3 arg35_r3 arg36_r3 arg37_r3 arg38_r3 arg39_r3 k0_hw21 k0_h86 => k0_hw21.2.2.2.2.2.2.2.2.2.2.2.2.2.2.2.1 k0_h86
theorem k0_off123_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h86 : k0_cond86 k0_t4 arg39_r3 = 1#1), ∀ a, (k0_off123 arg39_r3) a + S512x64.size a ≤ S8192x64.size a := fun k0_t4 arg31_r3 arg32_r3 arg33_r3 arg34_r3 arg35_r3 arg36_r3 arg37_r3 arg38_r3 arg39_r3 k0_hw21 k0_h86 => k0_hw21.2.2.2.2.2.2.2.2.2.2.2.2.2.2.2.2.1 k0_h86
theorem k0_off124_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h86 : k0_cond86 k0_t4 arg39_r3 = 1#1), ∀ a, (k0_off124 arg35_r3) a + S1x512x64.size a ≤ S2x512x64.size a := fun k0_t4 arg31_r3 arg32_r3 arg33_r3 arg34_r3 arg35_r3 arg36_r3 arg37_r3 arg38_r3 arg39_r3 k0_hw21 k0_h86 => k0_hw21.2.2.2.2.2.2.2.2.2.2.2.2.2.2.2.2.2.1 k0_h86
theorem k0_off125_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h87 : k0_cond87 k0_t4 arg39_r3 = 1#1), ∀ a, (k0_off125 arg37_r3) a + S1.size a ≤ S2.size a := fun k0_t4 arg31_r3 arg32_r3 arg33_r3 arg34_r3 arg35_r3 arg36_r3 arg37_r3 arg38_r3 arg39_r3 k0_hw21 k0_h87 => k0_hw21.2.2.2.2.2.2.2.2.2.2.2.2.2.2.2.2.2.2.1 k0_h87
theorem k0_off126_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h87 : k0_cond87 k0_t4 arg39_r3 = 1#1), ∀ a, (k0_off126 arg39_r3) a + S512x64.size a ≤ S8192x64.size a := fun k0_t4 arg31_r3 arg32_r3 arg33_r3 arg34_r3 arg35_r3 arg36_r3 arg37_r3 arg38_r3 arg39_r3 k0_hw21 k0_h87 => k0_hw21.2.2.2.2.2.2.2.2.2.2.2.2.2.2.2.2.2.2.2.1 k0_h87
theorem k0_off127_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h87 : k0_cond87 k0_t4 arg39_r3 = 1#1), ∀ a, (k0_off127 arg37_r3) a + S1x512x64.size a ≤ S2x512x64.size a := fun k0_t4 arg31_r3 arg32_r3 arg33_r3 arg34_r3 arg35_r3 arg36_r3 arg37_r3 arg38_r3 arg39_r3 k0_hw21 k0_h87 => k0_hw21.2.2.2.2.2.2.2.2.2.2.2.2.2.2.2.2.2.2.2.2.1 k0_h87
theorem k0_off128_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h94 : k0_cond94 k0_t4 arg39_r3 = 1#1), ∀ a, (k0_off128 arg36_r3) a + S1.size a ≤ S2.size a := fun k0_t4 arg31_r3 arg32_r3 arg33_r3 arg34_r3 arg35_r3 arg36_r3 arg37_r3 arg38_r3 arg39_r3 k0_hw21 k0_h94 => k0_hw21.2.2.2.2.2.2.2.2.2.2.2.2.2.2.2.2.2.2.2.2.2.1 k0_h94
theorem k0_off129_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h94 : k0_cond94 k0_t4 arg39_r3 = 1#1), ∀ a, (k0_off129 arg39_r3) a + S512x64.size a ≤ S8192x64.size a := fun k0_t4 arg31_r3 arg32_r3 arg33_r3 arg34_r3 arg35_r3 arg36_r3 arg37_r3 arg38_r3 arg39_r3 k0_hw21 k0_h94 => k0_hw21.2.2.2.2.2.2.2.2.2.2.2.2.2.2.2.2.2.2.2.2.2.2.1 k0_h94
theorem k0_off130_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h94 : k0_cond94 k0_t4 arg39_r3 = 1#1), ∀ a, (k0_off130 arg36_r3) a + S1x512x64.size a ≤ S2x512x64.size a := fun k0_t4 arg31_r3 arg32_r3 arg33_r3 arg34_r3 arg35_r3 arg36_r3 arg37_r3 arg38_r3 arg39_r3 k0_hw21 k0_h94 => k0_hw21.2.2.2.2.2.2.2.2.2.2.2.2.2.2.2.2.2.2.2.2.2.2.2.1 k0_h94
theorem k0_off131_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h95 : k0_cond95 k0_t4 arg39_r3 = 1#1), ∀ a, (k0_off131 arg38_r3) a + S1.size a ≤ S2.size a := fun k0_t4 arg31_r3 arg32_r3 arg33_r3 arg34_r3 arg35_r3 arg36_r3 arg37_r3 arg38_r3 arg39_r3 k0_hw21 k0_h95 => k0_hw21.2.2.2.2.2.2.2.2.2.2.2.2.2.2.2.2.2.2.2.2.2.2.2.2.1 k0_h95
theorem k0_off132_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h95 : k0_cond95 k0_t4 arg39_r3 = 1#1), ∀ a, (k0_off132 arg39_r3) a + S512x64.size a ≤ S8192x64.size a := fun k0_t4 arg31_r3 arg32_r3 arg33_r3 arg34_r3 arg35_r3 arg36_r3 arg37_r3 arg38_r3 arg39_r3 k0_hw21 k0_h95 => k0_hw21.2.2.2.2.2.2.2.2.2.2.2.2.2.2.2.2.2.2.2.2.2.2.2.2.2.1 k0_h95
theorem k0_off133_inb : ∀ (k0_t4 : Fin k0_t4_loop.trips) (arg31_r3 : BitVec 32) (arg32_r3 : BitVec 32) (arg33_r3 : BitVec 32) (arg34_r3 : BitVec 32) (arg35_r3 : BitVec 32) (arg36_r3 : BitVec 32) (arg37_r3 : BitVec 32) (arg38_r3 : BitVec 32) (arg39_r3 : BitVec 32) (k0_hw21 : k0_chk21 k0_t4 arg31_r3 arg32_r3 arg33_r3 arg34_r3 arg35_r3 arg36_r3 arg37_r3 arg38_r3 arg39_r3), ∀ (k0_h95 : k0_cond95 k0_t4 arg39_r3 = 1#1), ∀ a, (k0_off133 arg38_r3) a + S1x512x64.size a ≤ S2x512x64.size a := fun k0_t4 arg31_r3 arg32_r3 arg33_r3 arg34_r3 arg35_r3 arg36_r3 arg37_r3 arg38_r3 arg39_r3 k0_hw21 k0_h95 => k0_hw21.2.2.2.2.2.2.2.2.2.2.2.2.2.2.2.2.2.2.2.2.2.2.2.2.2.2 k0_h95

def k0_off134 (v32_5_r3 : BitVec 32) : Fin 1 → Nat :=
  let c2_i32_68_r3 : BitVec 32 := 2#32
  let v53_r3 : BitVec 32 := Scalar.remui v32_5_r3 c2_i32_68_r3
  ![v53_r3.toNat]

def k0_off135 (v32_8_r3 : BitVec 32) : Fin 2 → Nat :=
  let c512_i32_r3 : BitVec 32 := 512#32
  let true_49_r3 : BitVec 1 := 1#1
  let c1_i32_48_r3 : BitVec 32 := 1#32
  let v33_r3 : BitVec 32 := Scalar.subi v32_8_r3 c1_i32_48_r3
  let v34_r3 : BitVec 32 := Scalar.select true_49_r3 v33_r3 v32_8_r3
  let c_m1_i32_50_r3 : BitVec 32 := 4294967295#32
  let v35_r3 : BitVec 1 := Scalar.cmpi .eq v34_r3 c_m1_i32_50_r3
  let c15_i32_51_r3 : BitVec 32 := 15#32
  let v36_r3 : BitVec 32 := Scalar.select v35_r3 c15_i32_51_r3 v34_r3
  let c0_i32_52_r3 : BitVec 32 := 0#32
  let v37_r3 : BitVec 32 := Scalar.addi v36_r3 c0_i32_52_r3
  let v54_r3 : BitVec 32 := Scalar.muli c512_i32_r3 v37_r3
  let c0_i32_69_r3 : BitVec 32 := 0#32
  ![v54_r3.toNat, 0]

def k0_off136 (v32_5_r3 : BitVec 32) : Fin 3 → Nat :=
  let c2_i32_68_r3 : BitVec 32 := 2#32
  let v53_r3 : BitVec 32 := Scalar.remui v32_5_r3 c2_i32_68_r3
  let c0_i32_70_r3 : BitVec 32 := 0#32
  let c0_i32_71_r3 : BitVec 32 := 0#32
  ![v53_r3.toNat, 0, 0]

def k0_chk26 (v32_5_r3 : BitVec 32) : Prop :=
  (∀ a, (k0_off134 v32_5_r3) a + S1.size a ≤ S2.size a) ∧
  (∀ a, (k0_off136 v32_5_r3) a + S1x512x64.size a ≤ S2x512x64.size a)
theorem k0_off134_inb : ∀ (v32_5_r3 : BitVec 32) (k0_hw26 : k0_chk26 v32_5_r3), ∀ a, (k0_off134 v32_5_r3) a + S1.size a ≤ S2.size a := fun v32_5_r3 k0_hw26 => k0_hw26.1
theorem k0_off136_inb : ∀ (v32_5_r3 : BitVec 32) (k0_hw26 : k0_chk26 v32_5_r3), ∀ a, (k0_off136 v32_5_r3) a + S1x512x64.size a ≤ S2x512x64.size a := fun v32_5_r3 k0_hw26 => k0_hw26.2

def k0_off137 (v32_7_r3 : BitVec 32) : Fin 1 → Nat :=
  let c2_i32_72_r3 : BitVec 32 := 2#32
  let v60_r3 : BitVec 32 := Scalar.remui v32_7_r3 c2_i32_72_r3
  ![v60_r3.toNat]

def k0_off138 (v32_8_r3 : BitVec 32) : Fin 2 → Nat :=
  let c512_i32_73_r3 : BitVec 32 := 512#32
  let true_49_r3 : BitVec 1 := 1#1
  let c1_i32_48_r3 : BitVec 32 := 1#32
  let v33_r3 : BitVec 32 := Scalar.subi v32_8_r3 c1_i32_48_r3
  let v34_r3 : BitVec 32 := Scalar.select true_49_r3 v33_r3 v32_8_r3
  let c_m1_i32_50_r3 : BitVec 32 := 4294967295#32
  let v35_r3 : BitVec 1 := Scalar.cmpi .eq v34_r3 c_m1_i32_50_r3
  let c15_i32_51_r3 : BitVec 32 := 15#32
  let v36_r3 : BitVec 32 := Scalar.select v35_r3 c15_i32_51_r3 v34_r3
  let c0_i32_52_r3 : BitVec 32 := 0#32
  let v37_r3 : BitVec 32 := Scalar.addi v36_r3 c0_i32_52_r3
  let v61_r3 : BitVec 32 := Scalar.muli c512_i32_73_r3 v37_r3
  let c0_i32_74_r3 : BitVec 32 := 0#32
  ![v61_r3.toNat, 0]

def k0_chk27 (v32_8_r3 : BitVec 32) : Prop :=
  (∀ a, (k0_off135 v32_8_r3) a + S512x64.size a ≤ S8192x64.size a) ∧
  (∀ a, (k0_off138 v32_8_r3) a + S512x64.size a ≤ S8192x64.size a)
theorem k0_off135_inb : ∀ (v32_8_r3 : BitVec 32) (k0_hw27 : k0_chk27 v32_8_r3), ∀ a, (k0_off135 v32_8_r3) a + S512x64.size a ≤ S8192x64.size a := fun v32_8_r3 k0_hw27 => k0_hw27.1
theorem k0_off138_inb : ∀ (v32_8_r3 : BitVec 32) (k0_hw27 : k0_chk27 v32_8_r3), ∀ a, (k0_off138 v32_8_r3) a + S512x64.size a ≤ S8192x64.size a := fun v32_8_r3 k0_hw27 => k0_hw27.2

def k0_off139 (v32_7_r3 : BitVec 32) : Fin 3 → Nat :=
  let c2_i32_72_r3 : BitVec 32 := 2#32
  let v60_r3 : BitVec 32 := Scalar.remui v32_7_r3 c2_i32_72_r3
  let c0_i32_75_r3 : BitVec 32 := 0#32
  let c0_i32_76_r3 : BitVec 32 := 0#32
  ![v60_r3.toNat, 0, 0]

def k0_chk28 (v32_7_r3 : BitVec 32) : Prop :=
  (∀ a, (k0_off137 v32_7_r3) a + S1.size a ≤ S2.size a) ∧
  (∀ a, (k0_off139 v32_7_r3) a + S1x512x64.size a ≤ S2x512x64.size a)
theorem k0_off137_inb : ∀ (v32_7_r3 : BitVec 32) (k0_hw28 : k0_chk28 v32_7_r3), ∀ a, (k0_off137 v32_7_r3) a + S1.size a ≤ S2.size a := fun v32_7_r3 k0_hw28 => k0_hw28.1
theorem k0_off139_inb : ∀ (v32_7_r3 : BitVec 32) (k0_hw28 : k0_chk28 v32_7_r3), ∀ a, (k0_off139 v32_7_r3) a + S1x512x64.size a ≤ S2x512x64.size a := fun v32_7_r3 k0_hw28 => k0_hw28.2

def k0_off140 : Fin 1 → Nat :=
  let c0_i32_14_r4 : BitVec 32 := 0#32
  let c2_i32_r4 : BitVec 32 := 2#32
  let v17_r4 : BitVec 32 := Scalar.remui c0_i32_14_r4 c2_i32_r4
  ![v17_r4.toNat]
def k0_off141 : Fin 3 → Nat :=
  let c0_i32_14_r4 : BitVec 32 := 0#32
  let c2_i32_r4 : BitVec 32 := 2#32
  let v17_r4 : BitVec 32 := Scalar.remui c0_i32_14_r4 c2_i32_r4
  let c0_i32_15_r4 : BitVec 32 := 0#32
  let c0_i32_16_r4 : BitVec 32 := 0#32
  ![v17_r4.toNat, 0, 0]
def k0_off142 : Fin 3 → Nat :=
  let c0_i32_21_r4 : BitVec 32 := 0#32
  let c2_i32_22_r4 : BitVec 32 := 2#32
  let v24_r4 : BitVec 32 := Scalar.remui c0_i32_21_r4 c2_i32_22_r4
  let c0_i32_23_r4 : BitVec 32 := 0#32
  let c0_i32_24_r4 : BitVec 32 := 0#32
  ![v24_r4.toNat, 0, 0]
@[reducible] def k0_t5_loop : Scf.Loop 32 :=
  let c0_i32_42_r4 : BitVec 32 := 0#32
  let c16_i32_43_r4 : BitVec 32 := 16#32
  let v31_r4 : BitVec 32 := Scalar.addi c0_i32_42_r4 c16_i32_43_r4
  let c1_i32_44_r4 : BitVec 32 := 1#32
  ⟨c0_i32_42_r4, v31_r4, c1_i32_44_r4⟩
def k0_off143 (arg31_r4 : BitVec 32) : Fin 1 → Nat :=
  let c2_i32_223_r4 : BitVec 32 := 2#32
  let v321_r4 : BitVec 32 := Scalar.remui arg31_r4 c2_i32_223_r4
  ![v321_r4.toNat]
def k0_cond97 (k0_t5 : Fin k0_t5_loop.trips) (arg39_r4 : BitVec 32) : BitVec 1 :=
  let c0_i32_77_r4 : BitVec 32 := 0#32
  let v69_r4 : BitVec 32 := Scalar.addi arg39_r4 c0_i32_77_r4
  let true_84_r4 : BitVec 1 := 1#1
  let c1_i32_83_r4 : BitVec 32 := 1#32
  let v75_r4 : BitVec 32 := Scalar.addi arg39_r4 c1_i32_83_r4
  let v76_r4 : BitVec 32 := Scalar.select true_84_r4 v75_r4 arg39_r4
  let c16_i32_85_r4 : BitVec 32 := 16#32
  let v77_r4 : BitVec 1 := Scalar.cmpi .eq v76_r4 c16_i32_85_r4
  let c0_i32_86_r4 : BitVec 32 := 0#32
  let v78_r4 : BitVec 32 := Scalar.select v77_r4 c0_i32_86_r4 v76_r4
  let c0_i32_87_r4 : BitVec 32 := 0#32
  let v79_r4 : BitVec 32 := Scalar.addi v78_r4 c0_i32_87_r4
  let v88_r4 : BitVec 1 := Scalar.cmpi .ne v69_r4 v79_r4
  let c0_i32_42_r4 : BitVec 32 := 0#32
  let c1_i32_44_r4 : BitVec 32 := 1#32
  let arg30_r4 : BitVec 32 := Scf.iv c0_i32_42_r4 c1_i32_44_r4 k0_t5
  let c15_i32_96_r4 : BitVec 32 := 15#32
  let v89_r4 : BitVec 1 := Scalar.cmpi .sge arg30_r4 c15_i32_96_r4
  let true_97_r4 : BitVec 1 := 1#1
  let v90_r4 : BitVec 1 := Scalar.xori v89_r4 true_97_r4
  let v91_r4 : BitVec 1 := Scalar.andi v88_r4 v90_r4
  let true_98_r4 : BitVec 1 := 1#1
  let v92_r4 : BitVec 1 := Scalar.andi v91_r4 true_98_r4
  let v93_r4 : BitVec 32 := Scalar.extui v92_r4
  let c0_i32_99_r4 : BitVec 32 := 0#32
  let v94_r4 : BitVec 1 := Scalar.cmpi .ne v93_r4 c0_i32_99_r4
  v94_r4

def k0_off144 (arg31_r4 : BitVec 32) : Fin 3 → Nat :=
  let c2_i32_223_r4 : BitVec 32 := 2#32
  let v321_r4 : BitVec 32 := Scalar.remui arg31_r4 c2_i32_223_r4
  let c0_i32_225_r4 : BitVec 32 := 0#32
  let c0_i32_226_r4 : BitVec 32 := 0#32
  ![v321_r4.toNat, 0, 0]
def k0_off145 (arg39_r4 : BitVec 32) : Fin 2 → Nat :=
  let c256_i32_224_r4 : BitVec 32 := 256#32
  let true_84_r4 : BitVec 1 := 1#1
  let c1_i32_83_r4 : BitVec 32 := 1#32
  let v75_r4 : BitVec 32 := Scalar.addi arg39_r4 c1_i32_83_r4
  let v76_r4 : BitVec 32 := Scalar.select true_84_r4 v75_r4 arg39_r4
  let c16_i32_85_r4 : BitVec 32 := 16#32
  let v77_r4 : BitVec 1 := Scalar.cmpi .eq v76_r4 c16_i32_85_r4
  let c0_i32_86_r4 : BitVec 32 := 0#32
  let v78_r4 : BitVec 32 := Scalar.select v77_r4 c0_i32_86_r4 v76_r4
  let c0_i32_87_r4 : BitVec 32 := 0#32
  let v79_r4 : BitVec 32 := Scalar.addi v78_r4 c0_i32_87_r4
  let v322_r4 : BitVec 32 := Scalar.muli c256_i32_224_r4 v79_r4
  let c0_i32_227_r4 : BitVec 32 := 0#32
  ![v322_r4.toNat, 0]
def k0_off146 (arg33_r4 : BitVec 32) : Fin 1 → Nat :=
  let c2_i32_223_r4 : BitVec 32 := 2#32
  let v321_r4 : BitVec 32 := Scalar.remui arg33_r4 c2_i32_223_r4
  ![v321_r4.toNat]
def k0_cond98 (k0_t5 : Fin k0_t5_loop.trips) (arg39_r4 : BitVec 32) : BitVec 1 :=
  let c0_i32_77_r4 : BitVec 32 := 0#32
  let v69_r4 : BitVec 32 := Scalar.addi arg39_r4 c0_i32_77_r4
  let true_84_r4 : BitVec 1 := 1#1
  let c1_i32_83_r4 : BitVec 32 := 1#32
  let v75_r4 : BitVec 32 := Scalar.addi arg39_r4 c1_i32_83_r4
  let v76_r4 : BitVec 32 := Scalar.select true_84_r4 v75_r4 arg39_r4
  let c16_i32_85_r4 : BitVec 32 := 16#32
  let v77_r4 : BitVec 1 := Scalar.cmpi .eq v76_r4 c16_i32_85_r4
  let c0_i32_86_r4 : BitVec 32 := 0#32
  let v78_r4 : BitVec 32 := Scalar.select v77_r4 c0_i32_86_r4 v76_r4
  let c0_i32_87_r4 : BitVec 32 := 0#32
  let v79_r4 : BitVec 32 := Scalar.addi v78_r4 c0_i32_87_r4
  let v98_r4 : BitVec 1 := Scalar.cmpi .ne v69_r4 v79_r4
  let c0_i32_42_r4 : BitVec 32 := 0#32
  let c1_i32_44_r4 : BitVec 32 := 1#32
  let arg30_r4 : BitVec 32 := Scf.iv c0_i32_42_r4 c1_i32_44_r4 k0_t5
  let c15_i32_102_r4 : BitVec 32 := 15#32
  let v99_r4 : BitVec 1 := Scalar.cmpi .sge arg30_r4 c15_i32_102_r4
  let true_103_r4 : BitVec 1 := 1#1
  let v100_r4 : BitVec 1 := Scalar.xori v99_r4 true_103_r4
  let v101_r4 : BitVec 1 := Scalar.andi v98_r4 v100_r4
  let true_104_r4 : BitVec 1 := 1#1
  let v102_r4 : BitVec 1 := Scalar.andi v101_r4 true_104_r4
  let v103_r4 : BitVec 32 := Scalar.extui v102_r4
  let c0_i32_105_r4 : BitVec 32 := 0#32
  let v104_r4 : BitVec 1 := Scalar.cmpi .ne v103_r4 c0_i32_105_r4
  v104_r4

def k0_off147 (arg33_r4 : BitVec 32) : Fin 3 → Nat :=
  let c2_i32_223_r4 : BitVec 32 := 2#32
  let v321_r4 : BitVec 32 := Scalar.remui arg33_r4 c2_i32_223_r4
  let c0_i32_225_r4 : BitVec 32 := 0#32
  let c0_i32_226_r4 : BitVec 32 := 0#32
  ![v321_r4.toNat, 0, 0]
def k0_off148 (arg39_r4 : BitVec 32) : Fin 2 → Nat :=
  let c256_i32_224_r4 : BitVec 32 := 256#32
  let true_84_r4 : BitVec 1 := 1#1
  let c1_i32_83_r4 : BitVec 32 := 1#32
  let v75_r4 : BitVec 32 := Scalar.addi arg39_r4 c1_i32_83_r4
  let v76_r4 : BitVec 32 := Scalar.select true_84_r4 v75_r4 arg39_r4
  let c16_i32_85_r4 : BitVec 32 := 16#32
  let v77_r4 : BitVec 1 := Scalar.cmpi .eq v76_r4 c16_i32_85_r4
  let c0_i32_86_r4 : BitVec 32 := 0#32
  let v78_r4 : BitVec 32 := Scalar.select v77_r4 c0_i32_86_r4 v76_r4
  let c0_i32_87_r4 : BitVec 32 := 0#32
  let v79_r4 : BitVec 32 := Scalar.addi v78_r4 c0_i32_87_r4
  let v322_r4 : BitVec 32 := Scalar.muli c256_i32_224_r4 v79_r4
  let c0_i32_227_r4 : BitVec 32 := 0#32
  ![v322_r4.toNat, 0]
def k0_off149 (arg32_r4 : BitVec 32) : Fin 1 → Nat :=
  let c2_i32_224_r4 : BitVec 32 := 2#32
  let v322_r4 : BitVec 32 := Scalar.remui arg32_r4 c2_i32_224_r4
  ![v322_r4.toNat]
def k0_cond102 (k0_t5 : Fin k0_t5_loop.trips) (arg39_r4 : BitVec 32) : BitVec 1 :=
  let c0_i32_77_r4 : BitVec 32 := 0#32
  let v69_r4 : BitVec 32 := Scalar.addi arg39_r4 c0_i32_77_r4
  let true_79_r4 : BitVec 1 := 1#1
  let c1_i32_78_r4 : BitVec 32 := 1#32
  let v70_r4 : BitVec 32 := Scalar.subi arg39_r4 c1_i32_78_r4
  let v71_r4 : BitVec 32 := Scalar.select true_79_r4 v70_r4 arg39_r4
  let c_m1_i32_80_r4 : BitVec 32 := 4294967295#32
  let v72_r4 : BitVec 1 := Scalar.cmpi .eq v71_r4 c_m1_i32_80_r4
  let c15_i32_81_r4 : BitVec 32 := 15#32
  let v73_r4 : BitVec 32 := Scalar.select v72_r4 c15_i32_81_r4 v71_r4
  let c0_i32_82_r4 : BitVec 32 := 0#32
  let v74_r4 : BitVec 32 := Scalar.addi v73_r4 c0_i32_82_r4
  let v134_r4 : BitVec 1 := Scalar.cmpi .ne v69_r4 v74_r4
  let c0_i32_42_r4 : BitVec 32 := 0#32
  let c1_i32_44_r4 : BitVec 32 := 1#32
  let arg30_r4 : BitVec 32 := Scf.iv c0_i32_42_r4 c1_i32_44_r4 k0_t5
  let c0_i32_75_r4 : BitVec 32 := 0#32
  let v67_r4 : BitVec 1 := Scalar.cmpi .eq arg30_r4 c0_i32_75_r4
  let v135_r4 : BitVec 1 := Scalar.ori v134_r4 v67_r4
  let c0_i32_129_r4 : BitVec 32 := 0#32
  let v136_r4 : BitVec 1 := Scalar.cmpi .sge arg30_r4 c0_i32_129_r4
  let v137_r4 : BitVec 1 := Scalar.andi v135_r4 v136_r4
  let v138_r4 : BitVec 32 := Scalar.extui v137_r4
  let c0_i32_130_r4 : BitVec 32 := 0#32
  let v139_r4 : BitVec 1 := Scalar.cmpi .ne v138_r4 c0_i32_130_r4
  v139_r4

def k0_off150 (arg32_r4 : BitVec 32) : Fin 3 → Nat :=
  let c2_i32_224_r4 : BitVec 32 := 2#32
  let v322_r4 : BitVec 32 := Scalar.remui arg32_r4 c2_i32_224_r4
  let c0_i32_225_r4 : BitVec 32 := 0#32
  let c0_i32_226_r4 : BitVec 32 := 0#32
  ![v322_r4.toNat, 0, 0]
def k0_off151 (arg39_r4 : BitVec 32) : Fin 2 → Nat :=
  let c256_i32_223_r4 : BitVec 32 := 256#32
  let c0_i32_77_r4 : BitVec 32 := 0#32
  let v69_r4 : BitVec 32 := Scalar.addi arg39_r4 c0_i32_77_r4
  let v321_r4 : BitVec 32 := Scalar.muli c256_i32_223_r4 v69_r4
  let c0_i32_227_r4 : BitVec 32 := 0#32
  ![v321_r4.toNat, 0]
def k0_off152 (arg34_r4 : BitVec 32) : Fin 1 → Nat :=
  let c2_i32_224_r4 : BitVec 32 := 2#32
  let v322_r4 : BitVec 32 := Scalar.remui arg34_r4 c2_i32_224_r4
  ![v322_r4.toNat]
def k0_cond103 (k0_t5 : Fin k0_t5_loop.trips) (arg39_r4 : BitVec 32) : BitVec 1 :=
  let c0_i32_77_r4 : BitVec 32 := 0#32
  let v69_r4 : BitVec 32 := Scalar.addi arg39_r4 c0_i32_77_r4
  let true_79_r4 : BitVec 1 := 1#1
  let c1_i32_78_r4 : BitVec 32 := 1#32
  let v70_r4 : BitVec 32 := Scalar.subi arg39_r4 c1_i32_78_r4
  let v71_r4 : BitVec 32 := Scalar.select true_79_r4 v70_r4 arg39_r4
  let c_m1_i32_80_r4 : BitVec 32 := 4294967295#32
  let v72_r4 : BitVec 1 := Scalar.cmpi .eq v71_r4 c_m1_i32_80_r4
  let c15_i32_81_r4 : BitVec 32 := 15#32
  let v73_r4 : BitVec 32 := Scalar.select v72_r4 c15_i32_81_r4 v71_r4
  let c0_i32_82_r4 : BitVec 32 := 0#32
  let v74_r4 : BitVec 32 := Scalar.addi v73_r4 c0_i32_82_r4
  let v140_r4 : BitVec 1 := Scalar.cmpi .ne v69_r4 v74_r4
  let c0_i32_42_r4 : BitVec 32 := 0#32
  let c1_i32_44_r4 : BitVec 32 := 1#32
  let arg30_r4 : BitVec 32 := Scf.iv c0_i32_42_r4 c1_i32_44_r4 k0_t5
  let c0_i32_75_r4 : BitVec 32 := 0#32
  let v67_r4 : BitVec 1 := Scalar.cmpi .eq arg30_r4 c0_i32_75_r4
  let v141_r4 : BitVec 1 := Scalar.ori v140_r4 v67_r4
  let c0_i32_131_r4 : BitVec 32 := 0#32
  let v142_r4 : BitVec 1 := Scalar.cmpi .sge arg30_r4 c0_i32_131_r4
  let v143_r4 : BitVec 1 := Scalar.andi v141_r4 v142_r4
  let v144_r4 : BitVec 32 := Scalar.extui v143_r4
  let c0_i32_132_r4 : BitVec 32 := 0#32
  let v145_r4 : BitVec 1 := Scalar.cmpi .ne v144_r4 c0_i32_132_r4
  v145_r4

def k0_off153 (arg34_r4 : BitVec 32) : Fin 3 → Nat :=
  let c2_i32_224_r4 : BitVec 32 := 2#32
  let v322_r4 : BitVec 32 := Scalar.remui arg34_r4 c2_i32_224_r4
  let c0_i32_225_r4 : BitVec 32 := 0#32
  let c0_i32_226_r4 : BitVec 32 := 0#32
  ![v322_r4.toNat, 0, 0]
def k0_off154 (arg39_r4 : BitVec 32) : Fin 2 → Nat :=
  let c256_i32_223_r4 : BitVec 32 := 256#32
  let c0_i32_77_r4 : BitVec 32 := 0#32
  let v69_r4 : BitVec 32 := Scalar.addi arg39_r4 c0_i32_77_r4
  let v321_r4 : BitVec 32 := Scalar.muli c256_i32_223_r4 v69_r4
  let c0_i32_227_r4 : BitVec 32 := 0#32
  ![v321_r4.toNat, 0]
def k0_off155 (arg32_r4 : BitVec 32) : Fin 3 → Nat :=
  let c2_i32_146_r4 : BitVec 32 := 2#32
  let v173_r4 : BitVec 32 := Scalar.remui arg32_r4 c2_i32_146_r4
  let v177_r4 : Index := Scalar.indexCast v173_r4
  let c0_r4 : Index := 0#32
  let c0_150_r4 : Index := 0#32
  ![v177_r4.toNat, 0, 0]

def k0_chk30 (arg32_r4 : BitVec 32) : Prop :=
  (∀ a, (k0_off155 arg32_r4) a + S1x256x8192.size a ≤ S2x256x8192.size a)
theorem k0_off155_inb : ∀ (arg32_r4 : BitVec 32) (k0_hw30 : k0_chk30 arg32_r4), ∀ a, (k0_off155 arg32_r4) a + S1x256x8192.size a ≤ S2x256x8192.size a := fun arg32_r4 k0_hw30 => k0_hw30

def k0_off156 (arg39_r4 : BitVec 32) : Fin 2 → Nat :=
  let c0_i32_77_r4 : BitVec 32 := 0#32
  let v69_r4 : BitVec 32 := Scalar.addi arg39_r4 c0_i32_77_r4
  let c256_i32_93_r4 : BitVec 32 := 256#32
  let v85_r4 : BitVec 32 := Scalar.muli v69_r4 c256_i32_93_r4
  let v183_r4 : Index := Scalar.indexCast v85_r4
  let c0_153_r4 : Index := 0#32
  ![v183_r4.toNat, 0]
def k0_off157 (arg34_r4 : BitVec 32) : Fin 3 → Nat :=
  let c2_i32_147_r4 : BitVec 32 := 2#32
  let v174_r4 : BitVec 32 := Scalar.remui arg34_r4 c2_i32_147_r4
  let v208_r4 : Index := Scalar.indexCast v174_r4
  let c0_161_r4 : Index := 0#32
  let c0_162_r4 : Index := 0#32
  ![v208_r4.toNat, 0, 0]

def k0_chk31 (arg34_r4 : BitVec 32) : Prop :=
  (∀ a, (k0_off157 arg34_r4) a + S1x256x64.size a ≤ S2x256x64.size a)
theorem k0_off157_inb : ∀ (arg34_r4 : BitVec 32) (k0_hw31 : k0_chk31 arg34_r4), ∀ a, (k0_off157 arg34_r4) a + S1x256x64.size a ≤ S2x256x64.size a := fun arg34_r4 k0_hw31 => k0_hw31

def k0_off158 (arg35_r4 : BitVec 32) : Fin 3 → Nat :=
  let c2_i32_148_r4 : BitVec 32 := 2#32
  let v175_r4 : BitVec 32 := Scalar.remui arg35_r4 c2_i32_148_r4
  let v218_r4 : Index := Scalar.indexCast v175_r4
  let c0_165_r4 : Index := 0#32
  let c0_166_r4 : Index := 0#32
  ![v218_r4.toNat, 0, 0]

def k0_chk32 (arg35_r4 : BitVec 32) : Prop :=
  (∀ a, (k0_off158 arg35_r4) a + S1x256x64.size a ≤ S2x256x64.size a)
theorem k0_off158_inb : ∀ (arg35_r4 : BitVec 32) (k0_hw32 : k0_chk32 arg35_r4), ∀ a, (k0_off158 arg35_r4) a + S1x256x64.size a ≤ S2x256x64.size a := fun arg35_r4 k0_hw32 => k0_hw32

def k0_off159 (arg37_r4 : BitVec 32) : Fin 3 → Nat :=
  let c2_i32_149_r4 : BitVec 32 := 2#32
  let v176_r4 : BitVec 32 := Scalar.remui arg37_r4 c2_i32_149_r4
  let v223_r4 : Index := Scalar.indexCast v176_r4
  let c0_167_r4 : Index := 0#32
  let c0_168_r4 : Index := 0#32
  ![v223_r4.toNat, 0, 0]

def k0_chk33 (arg37_r4 : BitVec 32) : Prop :=
  (∀ a, (k0_off159 arg37_r4) a + S1x256x64.size a ≤ S2x256x64.size a)
theorem k0_off159_inb : ∀ (arg37_r4 : BitVec 32) (k0_hw33 : k0_chk33 arg37_r4), ∀ a, (k0_off159 arg37_r4) a + S1x256x64.size a ≤ S2x256x64.size a := fun arg37_r4 k0_hw33 => k0_hw33

def k0_off160 (arg35_r4 : BitVec 32) : Fin 1 → Nat :=
  let c2_i32_223_r4 : BitVec 32 := 2#32
  let v321_r4 : BitVec 32 := Scalar.remui arg35_r4 c2_i32_223_r4
  ![v321_r4.toNat]
def k0_cond114 (k0_t5 : Fin k0_t5_loop.trips) (arg39_r4 : BitVec 32) : BitVec 1 :=
  let c0_i32_77_r4 : BitVec 32 := 0#32
  let v69_r4 : BitVec 32 := Scalar.addi arg39_r4 c0_i32_77_r4
  let true_84_r4 : BitVec 1 := 1#1
  let c1_i32_83_r4 : BitVec 32 := 1#32
  let v75_r4 : BitVec 32 := Scalar.addi arg39_r4 c1_i32_83_r4
  let v76_r4 : BitVec 32 := Scalar.select true_84_r4 v75_r4 arg39_r4
  let c16_i32_85_r4 : BitVec 32 := 16#32
  let v77_r4 : BitVec 1 := Scalar.cmpi .eq v76_r4 c16_i32_85_r4
  let c0_i32_86_r4 : BitVec 32 := 0#32
  let v78_r4 : BitVec 32 := Scalar.select v77_r4 c0_i32_86_r4 v76_r4
  let c0_i32_87_r4 : BitVec 32 := 0#32
  let v79_r4 : BitVec 32 := Scalar.addi v78_r4 c0_i32_87_r4
  let v249_r4 : BitVec 1 := Scalar.cmpi .ne v69_r4 v79_r4
  let c0_i32_42_r4 : BitVec 32 := 0#32
  let c1_i32_44_r4 : BitVec 32 := 1#32
  let arg30_r4 : BitVec 32 := Scf.iv c0_i32_42_r4 c1_i32_44_r4 k0_t5
  let c15_i32_76_r4 : BitVec 32 := 15#32
  let v68_r4 : BitVec 1 := Scalar.cmpi .eq arg30_r4 c15_i32_76_r4
  let v250_r4 : BitVec 1 := Scalar.ori v249_r4 v68_r4
  let v251_r4 : BitVec 32 := Scalar.extui v250_r4
  let c0_i32_182_r4 : BitVec 32 := 0#32
  let v252_r4 : BitVec 1 := Scalar.cmpi .ne v251_r4 c0_i32_182_r4
  v252_r4

def k0_off161 (arg39_r4 : BitVec 32) : Fin 2 → Nat :=
  let c256_i32_224_r4 : BitVec 32 := 256#32
  let c0_i32_77_r4 : BitVec 32 := 0#32
  let v69_r4 : BitVec 32 := Scalar.addi arg39_r4 c0_i32_77_r4
  let v322_r4 : BitVec 32 := Scalar.muli c256_i32_224_r4 v69_r4
  let c0_i32_225_r4 : BitVec 32 := 0#32
  ![v322_r4.toNat, 0]
def k0_off162 (arg35_r4 : BitVec 32) : Fin 3 → Nat :=
  let c2_i32_223_r4 : BitVec 32 := 2#32
  let v321_r4 : BitVec 32 := Scalar.remui arg35_r4 c2_i32_223_r4
  let c0_i32_226_r4 : BitVec 32 := 0#32
  let c0_i32_227_r4 : BitVec 32 := 0#32
  ![v321_r4.toNat, 0, 0]
def k0_off163 (arg37_r4 : BitVec 32) : Fin 1 → Nat :=
  let c2_i32_223_r4 : BitVec 32 := 2#32
  let v321_r4 : BitVec 32 := Scalar.remui arg37_r4 c2_i32_223_r4
  ![v321_r4.toNat]
def k0_cond115 (k0_t5 : Fin k0_t5_loop.trips) (arg39_r4 : BitVec 32) : BitVec 1 :=
  let c0_i32_77_r4 : BitVec 32 := 0#32
  let v69_r4 : BitVec 32 := Scalar.addi arg39_r4 c0_i32_77_r4
  let true_84_r4 : BitVec 1 := 1#1
  let c1_i32_83_r4 : BitVec 32 := 1#32
  let v75_r4 : BitVec 32 := Scalar.addi arg39_r4 c1_i32_83_r4
  let v76_r4 : BitVec 32 := Scalar.select true_84_r4 v75_r4 arg39_r4
  let c16_i32_85_r4 : BitVec 32 := 16#32
  let v77_r4 : BitVec 1 := Scalar.cmpi .eq v76_r4 c16_i32_85_r4
  let c0_i32_86_r4 : BitVec 32 := 0#32
  let v78_r4 : BitVec 32 := Scalar.select v77_r4 c0_i32_86_r4 v76_r4
  let c0_i32_87_r4 : BitVec 32 := 0#32
  let v79_r4 : BitVec 32 := Scalar.addi v78_r4 c0_i32_87_r4
  let v256_r4 : BitVec 1 := Scalar.cmpi .ne v69_r4 v79_r4
  let c0_i32_42_r4 : BitVec 32 := 0#32
  let c1_i32_44_r4 : BitVec 32 := 1#32
  let arg30_r4 : BitVec 32 := Scf.iv c0_i32_42_r4 c1_i32_44_r4 k0_t5
  let c15_i32_76_r4 : BitVec 32 := 15#32
  let v68_r4 : BitVec 1 := Scalar.cmpi .eq arg30_r4 c15_i32_76_r4
  let v257_r4 : BitVec 1 := Scalar.ori v256_r4 v68_r4
  let v258_r4 : BitVec 32 := Scalar.extui v257_r4
  let c0_i32_185_r4 : BitVec 32 := 0#32
  let v259_r4 : BitVec 1 := Scalar.cmpi .ne v258_r4 c0_i32_185_r4
  v259_r4

def k0_off164 (arg39_r4 : BitVec 32) : Fin 2 → Nat :=
  let c256_i32_224_r4 : BitVec 32 := 256#32
  let c0_i32_77_r4 : BitVec 32 := 0#32
  let v69_r4 : BitVec 32 := Scalar.addi arg39_r4 c0_i32_77_r4
  let v322_r4 : BitVec 32 := Scalar.muli c256_i32_224_r4 v69_r4
  let c0_i32_225_r4 : BitVec 32 := 0#32
  ![v322_r4.toNat, 0]
def k0_off165 (arg37_r4 : BitVec 32) : Fin 3 → Nat :=
  let c2_i32_223_r4 : BitVec 32 := 2#32
  let v321_r4 : BitVec 32 := Scalar.remui arg37_r4 c2_i32_223_r4
  let c0_i32_226_r4 : BitVec 32 := 0#32
  let c0_i32_227_r4 : BitVec 32 := 0#32
  ![v321_r4.toNat, 0, 0]
def k0_off166 (arg36_r4 : BitVec 32) : Fin 1 → Nat :=
  let c2_i32_223_r4 : BitVec 32 := 2#32
  let v321_r4 : BitVec 32 := Scalar.remui arg36_r4 c2_i32_223_r4
  ![v321_r4.toNat]
def k0_cond121 (k0_t5 : Fin k0_t5_loop.trips) (arg39_r4 : BitVec 32) : BitVec 1 :=
  let c0_i32_77_r4 : BitVec 32 := 0#32
  let v69_r4 : BitVec 32 := Scalar.addi arg39_r4 c0_i32_77_r4
  let true_79_r4 : BitVec 1 := 1#1
  let c1_i32_78_r4 : BitVec 32 := 1#32
  let v70_r4 : BitVec 32 := Scalar.subi arg39_r4 c1_i32_78_r4
  let v71_r4 : BitVec 32 := Scalar.select true_79_r4 v70_r4 arg39_r4
  let c_m1_i32_80_r4 : BitVec 32 := 4294967295#32
  let v72_r4 : BitVec 1 := Scalar.cmpi .eq v71_r4 c_m1_i32_80_r4
  let c15_i32_81_r4 : BitVec 32 := 15#32
  let v73_r4 : BitVec 32 := Scalar.select v72_r4 c15_i32_81_r4 v71_r4
  let c0_i32_82_r4 : BitVec 32 := 0#32
  let v74_r4 : BitVec 32 := Scalar.addi v73_r4 c0_i32_82_r4
  let v290_r4 : BitVec 1 := Scalar.cmpi .ne v69_r4 v74_r4
  let c0_i32_42_r4 : BitVec 32 := 0#32
  let c1_i32_44_r4 : BitVec 32 := 1#32
  let arg30_r4 : BitVec 32 := Scf.iv c0_i32_42_r4 c1_i32_44_r4 k0_t5
  let c0_i32_75_r4 : BitVec 32 := 0#32
  let v67_r4 : BitVec 1 := Scalar.cmpi .eq arg30_r4 c0_i32_75_r4
  let true_206_r4 : BitVec 1 := 1#1
  let v291_r4 : BitVec 1 := Scalar.xori v67_r4 true_206_r4
  let v292_r4 : BitVec 1 := Scalar.andi v290_r4 v291_r4
  let v293_r4 : BitVec 32 := Scalar.extui v292_r4
  let c0_i32_207_r4 : BitVec 32 := 0#32
  let v294_r4 : BitVec 1 := Scalar.cmpi .ne v293_r4 c0_i32_207_r4
  v294_r4

def k0_off167 (arg39_r4 : BitVec 32) : Fin 2 → Nat :=
  let c256_i32_224_r4 : BitVec 32 := 256#32
  let true_79_r4 : BitVec 1 := 1#1
  let c1_i32_78_r4 : BitVec 32 := 1#32
  let v70_r4 : BitVec 32 := Scalar.subi arg39_r4 c1_i32_78_r4
  let v71_r4 : BitVec 32 := Scalar.select true_79_r4 v70_r4 arg39_r4
  let c_m1_i32_80_r4 : BitVec 32 := 4294967295#32
  let v72_r4 : BitVec 1 := Scalar.cmpi .eq v71_r4 c_m1_i32_80_r4
  let c15_i32_81_r4 : BitVec 32 := 15#32
  let v73_r4 : BitVec 32 := Scalar.select v72_r4 c15_i32_81_r4 v71_r4
  let c0_i32_82_r4 : BitVec 32 := 0#32
  let v74_r4 : BitVec 32 := Scalar.addi v73_r4 c0_i32_82_r4
  let v322_r4 : BitVec 32 := Scalar.muli c256_i32_224_r4 v74_r4
  let c0_i32_225_r4 : BitVec 32 := 0#32
  ![v322_r4.toNat, 0]
def k0_off168 (arg36_r4 : BitVec 32) : Fin 3 → Nat :=
  let c2_i32_223_r4 : BitVec 32 := 2#32
  let v321_r4 : BitVec 32 := Scalar.remui arg36_r4 c2_i32_223_r4
  let c0_i32_226_r4 : BitVec 32 := 0#32
  let c0_i32_227_r4 : BitVec 32 := 0#32
  ![v321_r4.toNat, 0, 0]
def k0_off169 (arg38_r4 : BitVec 32) : Fin 1 → Nat :=
  let c2_i32_223_r4 : BitVec 32 := 2#32
  let v321_r4 : BitVec 32 := Scalar.remui arg38_r4 c2_i32_223_r4
  ![v321_r4.toNat]
def k0_cond122 (k0_t5 : Fin k0_t5_loop.trips) (arg39_r4 : BitVec 32) : BitVec 1 :=
  let c0_i32_77_r4 : BitVec 32 := 0#32
  let v69_r4 : BitVec 32 := Scalar.addi arg39_r4 c0_i32_77_r4
  let true_79_r4 : BitVec 1 := 1#1
  let c1_i32_78_r4 : BitVec 32 := 1#32
  let v70_r4 : BitVec 32 := Scalar.subi arg39_r4 c1_i32_78_r4
  let v71_r4 : BitVec 32 := Scalar.select true_79_r4 v70_r4 arg39_r4
  let c_m1_i32_80_r4 : BitVec 32 := 4294967295#32
  let v72_r4 : BitVec 1 := Scalar.cmpi .eq v71_r4 c_m1_i32_80_r4
  let c15_i32_81_r4 : BitVec 32 := 15#32
  let v73_r4 : BitVec 32 := Scalar.select v72_r4 c15_i32_81_r4 v71_r4
  let c0_i32_82_r4 : BitVec 32 := 0#32
  let v74_r4 : BitVec 32 := Scalar.addi v73_r4 c0_i32_82_r4
  let v298_r4 : BitVec 1 := Scalar.cmpi .ne v69_r4 v74_r4
  let c0_i32_42_r4 : BitVec 32 := 0#32
  let c1_i32_44_r4 : BitVec 32 := 1#32
  let arg30_r4 : BitVec 32 := Scf.iv c0_i32_42_r4 c1_i32_44_r4 k0_t5
  let c0_i32_75_r4 : BitVec 32 := 0#32
  let v67_r4 : BitVec 1 := Scalar.cmpi .eq arg30_r4 c0_i32_75_r4
  let true_210_r4 : BitVec 1 := 1#1
  let v299_r4 : BitVec 1 := Scalar.xori v67_r4 true_210_r4
  let v300_r4 : BitVec 1 := Scalar.andi v298_r4 v299_r4
  let v301_r4 : BitVec 32 := Scalar.extui v300_r4
  let c0_i32_211_r4 : BitVec 32 := 0#32
  let v302_r4 : BitVec 1 := Scalar.cmpi .ne v301_r4 c0_i32_211_r4
  v302_r4

def k0_off170 (arg39_r4 : BitVec 32) : Fin 2 → Nat :=
  let c256_i32_224_r4 : BitVec 32 := 256#32
  let true_79_r4 : BitVec 1 := 1#1
  let c1_i32_78_r4 : BitVec 32 := 1#32
  let v70_r4 : BitVec 32 := Scalar.subi arg39_r4 c1_i32_78_r4
  let v71_r4 : BitVec 32 := Scalar.select true_79_r4 v70_r4 arg39_r4
  let c_m1_i32_80_r4 : BitVec 32 := 4294967295#32
  let v72_r4 : BitVec 1 := Scalar.cmpi .eq v71_r4 c_m1_i32_80_r4
  let c15_i32_81_r4 : BitVec 32 := 15#32
  let v73_r4 : BitVec 32 := Scalar.select v72_r4 c15_i32_81_r4 v71_r4
  let c0_i32_82_r4 : BitVec 32 := 0#32
  let v74_r4 : BitVec 32 := Scalar.addi v73_r4 c0_i32_82_r4
  let v322_r4 : BitVec 32 := Scalar.muli c256_i32_224_r4 v74_r4
  let c0_i32_225_r4 : BitVec 32 := 0#32
  ![v322_r4.toNat, 0]
def k0_off171 (arg38_r4 : BitVec 32) : Fin 3 → Nat :=
  let c2_i32_223_r4 : BitVec 32 := 2#32
  let v321_r4 : BitVec 32 := Scalar.remui arg38_r4 c2_i32_223_r4
  let c0_i32_226_r4 : BitVec 32 := 0#32
  let c0_i32_227_r4 : BitVec 32 := 0#32
  ![v321_r4.toNat, 0, 0]

def k0_chk29 (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) : Prop :=
  (∀ (k0_h97 : k0_cond97 k0_t5 arg39_r4 = 1#1), ∀ a, (k0_off143 arg31_r4) a + S1.size a ≤ S2.size a) ∧
  (∀ (k0_h97 : k0_cond97 k0_t5 arg39_r4 = 1#1), ∀ a, (k0_off144 arg31_r4) a + S1x256x8192.size a ≤ S2x256x8192.size a) ∧
  (∀ (k0_h97 : k0_cond97 k0_t5 arg39_r4 = 1#1), ∀ a, (k0_off145 arg39_r4) a + S256x8192.size a ≤ S4096x8192.size a) ∧
  (∀ (k0_h98 : k0_cond98 k0_t5 arg39_r4 = 1#1), ∀ a, (k0_off146 arg33_r4) a + S1.size a ≤ S2.size a) ∧
  (∀ (k0_h98 : k0_cond98 k0_t5 arg39_r4 = 1#1), ∀ a, (k0_off147 arg33_r4) a + S1x256x64.size a ≤ S2x256x64.size a) ∧
  (∀ (k0_h98 : k0_cond98 k0_t5 arg39_r4 = 1#1), ∀ a, (k0_off148 arg39_r4) a + S256x64.size a ≤ S4096x64.size a) ∧
  (∀ (k0_h102 : k0_cond102 k0_t5 arg39_r4 = 1#1), ∀ a, (k0_off149 arg32_r4) a + S1.size a ≤ S2.size a) ∧
  (∀ (k0_h102 : k0_cond102 k0_t5 arg39_r4 = 1#1), ∀ a, (k0_off150 arg32_r4) a + S1x256x8192.size a ≤ S2x256x8192.size a) ∧
  (∀ (k0_h102 : k0_cond102 k0_t5 arg39_r4 = 1#1), ∀ a, (k0_off151 arg39_r4) a + S256x8192.size a ≤ S4096x8192.size a) ∧
  (∀ (k0_h103 : k0_cond103 k0_t5 arg39_r4 = 1#1), ∀ a, (k0_off152 arg34_r4) a + S1.size a ≤ S2.size a) ∧
  (∀ (k0_h103 : k0_cond103 k0_t5 arg39_r4 = 1#1), ∀ a, (k0_off153 arg34_r4) a + S1x256x64.size a ≤ S2x256x64.size a) ∧
  (∀ (k0_h103 : k0_cond103 k0_t5 arg39_r4 = 1#1), ∀ a, (k0_off154 arg39_r4) a + S256x64.size a ≤ S4096x64.size a) ∧
  (∀ a, (k0_off156 arg39_r4) a + S256x64.size a ≤ S4096x64.size a) ∧
  (∀ (k0_h114 : k0_cond114 k0_t5 arg39_r4 = 1#1), ∀ a, (k0_off160 arg35_r4) a + S1.size a ≤ S2.size a) ∧
  (∀ (k0_h114 : k0_cond114 k0_t5 arg39_r4 = 1#1), ∀ a, (k0_off161 arg39_r4) a + S256x64.size a ≤ S4096x64.size a) ∧
  (∀ (k0_h114 : k0_cond114 k0_t5 arg39_r4 = 1#1), ∀ a, (k0_off162 arg35_r4) a + S1x256x64.size a ≤ S2x256x64.size a) ∧
  (∀ (k0_h115 : k0_cond115 k0_t5 arg39_r4 = 1#1), ∀ a, (k0_off163 arg37_r4) a + S1.size a ≤ S2.size a) ∧
  (∀ (k0_h115 : k0_cond115 k0_t5 arg39_r4 = 1#1), ∀ a, (k0_off164 arg39_r4) a + S256x64.size a ≤ S4096x64.size a) ∧
  (∀ (k0_h115 : k0_cond115 k0_t5 arg39_r4 = 1#1), ∀ a, (k0_off165 arg37_r4) a + S1x256x64.size a ≤ S2x256x64.size a) ∧
  (∀ (k0_h121 : k0_cond121 k0_t5 arg39_r4 = 1#1), ∀ a, (k0_off166 arg36_r4) a + S1.size a ≤ S2.size a) ∧
  (∀ (k0_h121 : k0_cond121 k0_t5 arg39_r4 = 1#1), ∀ a, (k0_off167 arg39_r4) a + S256x64.size a ≤ S4096x64.size a) ∧
  (∀ (k0_h121 : k0_cond121 k0_t5 arg39_r4 = 1#1), ∀ a, (k0_off168 arg36_r4) a + S1x256x64.size a ≤ S2x256x64.size a) ∧
  (∀ (k0_h122 : k0_cond122 k0_t5 arg39_r4 = 1#1), ∀ a, (k0_off169 arg38_r4) a + S1.size a ≤ S2.size a) ∧
  (∀ (k0_h122 : k0_cond122 k0_t5 arg39_r4 = 1#1), ∀ a, (k0_off170 arg39_r4) a + S256x64.size a ≤ S4096x64.size a) ∧
  (∀ (k0_h122 : k0_cond122 k0_t5 arg39_r4 = 1#1), ∀ a, (k0_off171 arg38_r4) a + S1x256x64.size a ≤ S2x256x64.size a)
theorem k0_off143_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h97 : k0_cond97 k0_t5 arg39_r4 = 1#1), ∀ a, (k0_off143 arg31_r4) a + S1.size a ≤ S2.size a := fun k0_t5 arg31_r4 arg32_r4 arg33_r4 arg34_r4 arg35_r4 arg36_r4 arg37_r4 arg38_r4 arg39_r4 k0_hw29 k0_h97 => k0_hw29.1 k0_h97
theorem k0_off144_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h97 : k0_cond97 k0_t5 arg39_r4 = 1#1), ∀ a, (k0_off144 arg31_r4) a + S1x256x8192.size a ≤ S2x256x8192.size a := fun k0_t5 arg31_r4 arg32_r4 arg33_r4 arg34_r4 arg35_r4 arg36_r4 arg37_r4 arg38_r4 arg39_r4 k0_hw29 k0_h97 => k0_hw29.2.1 k0_h97
theorem k0_off145_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h97 : k0_cond97 k0_t5 arg39_r4 = 1#1), ∀ a, (k0_off145 arg39_r4) a + S256x8192.size a ≤ S4096x8192.size a := fun k0_t5 arg31_r4 arg32_r4 arg33_r4 arg34_r4 arg35_r4 arg36_r4 arg37_r4 arg38_r4 arg39_r4 k0_hw29 k0_h97 => k0_hw29.2.2.1 k0_h97
theorem k0_off146_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h98 : k0_cond98 k0_t5 arg39_r4 = 1#1), ∀ a, (k0_off146 arg33_r4) a + S1.size a ≤ S2.size a := fun k0_t5 arg31_r4 arg32_r4 arg33_r4 arg34_r4 arg35_r4 arg36_r4 arg37_r4 arg38_r4 arg39_r4 k0_hw29 k0_h98 => k0_hw29.2.2.2.1 k0_h98
theorem k0_off147_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h98 : k0_cond98 k0_t5 arg39_r4 = 1#1), ∀ a, (k0_off147 arg33_r4) a + S1x256x64.size a ≤ S2x256x64.size a := fun k0_t5 arg31_r4 arg32_r4 arg33_r4 arg34_r4 arg35_r4 arg36_r4 arg37_r4 arg38_r4 arg39_r4 k0_hw29 k0_h98 => k0_hw29.2.2.2.2.1 k0_h98
theorem k0_off148_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h98 : k0_cond98 k0_t5 arg39_r4 = 1#1), ∀ a, (k0_off148 arg39_r4) a + S256x64.size a ≤ S4096x64.size a := fun k0_t5 arg31_r4 arg32_r4 arg33_r4 arg34_r4 arg35_r4 arg36_r4 arg37_r4 arg38_r4 arg39_r4 k0_hw29 k0_h98 => k0_hw29.2.2.2.2.2.1 k0_h98
theorem k0_off149_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h102 : k0_cond102 k0_t5 arg39_r4 = 1#1), ∀ a, (k0_off149 arg32_r4) a + S1.size a ≤ S2.size a := fun k0_t5 arg31_r4 arg32_r4 arg33_r4 arg34_r4 arg35_r4 arg36_r4 arg37_r4 arg38_r4 arg39_r4 k0_hw29 k0_h102 => k0_hw29.2.2.2.2.2.2.1 k0_h102
theorem k0_off150_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h102 : k0_cond102 k0_t5 arg39_r4 = 1#1), ∀ a, (k0_off150 arg32_r4) a + S1x256x8192.size a ≤ S2x256x8192.size a := fun k0_t5 arg31_r4 arg32_r4 arg33_r4 arg34_r4 arg35_r4 arg36_r4 arg37_r4 arg38_r4 arg39_r4 k0_hw29 k0_h102 => k0_hw29.2.2.2.2.2.2.2.1 k0_h102
theorem k0_off151_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h102 : k0_cond102 k0_t5 arg39_r4 = 1#1), ∀ a, (k0_off151 arg39_r4) a + S256x8192.size a ≤ S4096x8192.size a := fun k0_t5 arg31_r4 arg32_r4 arg33_r4 arg34_r4 arg35_r4 arg36_r4 arg37_r4 arg38_r4 arg39_r4 k0_hw29 k0_h102 => k0_hw29.2.2.2.2.2.2.2.2.1 k0_h102
theorem k0_off152_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h103 : k0_cond103 k0_t5 arg39_r4 = 1#1), ∀ a, (k0_off152 arg34_r4) a + S1.size a ≤ S2.size a := fun k0_t5 arg31_r4 arg32_r4 arg33_r4 arg34_r4 arg35_r4 arg36_r4 arg37_r4 arg38_r4 arg39_r4 k0_hw29 k0_h103 => k0_hw29.2.2.2.2.2.2.2.2.2.1 k0_h103
theorem k0_off153_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h103 : k0_cond103 k0_t5 arg39_r4 = 1#1), ∀ a, (k0_off153 arg34_r4) a + S1x256x64.size a ≤ S2x256x64.size a := fun k0_t5 arg31_r4 arg32_r4 arg33_r4 arg34_r4 arg35_r4 arg36_r4 arg37_r4 arg38_r4 arg39_r4 k0_hw29 k0_h103 => k0_hw29.2.2.2.2.2.2.2.2.2.2.1 k0_h103
theorem k0_off154_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h103 : k0_cond103 k0_t5 arg39_r4 = 1#1), ∀ a, (k0_off154 arg39_r4) a + S256x64.size a ≤ S4096x64.size a := fun k0_t5 arg31_r4 arg32_r4 arg33_r4 arg34_r4 arg35_r4 arg36_r4 arg37_r4 arg38_r4 arg39_r4 k0_hw29 k0_h103 => k0_hw29.2.2.2.2.2.2.2.2.2.2.2.1 k0_h103
theorem k0_off156_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ a, (k0_off156 arg39_r4) a + S256x64.size a ≤ S4096x64.size a := fun k0_t5 arg31_r4 arg32_r4 arg33_r4 arg34_r4 arg35_r4 arg36_r4 arg37_r4 arg38_r4 arg39_r4 k0_hw29 => k0_hw29.2.2.2.2.2.2.2.2.2.2.2.2.1
theorem k0_off160_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h114 : k0_cond114 k0_t5 arg39_r4 = 1#1), ∀ a, (k0_off160 arg35_r4) a + S1.size a ≤ S2.size a := fun k0_t5 arg31_r4 arg32_r4 arg33_r4 arg34_r4 arg35_r4 arg36_r4 arg37_r4 arg38_r4 arg39_r4 k0_hw29 k0_h114 => k0_hw29.2.2.2.2.2.2.2.2.2.2.2.2.2.1 k0_h114
theorem k0_off161_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h114 : k0_cond114 k0_t5 arg39_r4 = 1#1), ∀ a, (k0_off161 arg39_r4) a + S256x64.size a ≤ S4096x64.size a := fun k0_t5 arg31_r4 arg32_r4 arg33_r4 arg34_r4 arg35_r4 arg36_r4 arg37_r4 arg38_r4 arg39_r4 k0_hw29 k0_h114 => k0_hw29.2.2.2.2.2.2.2.2.2.2.2.2.2.2.1 k0_h114
theorem k0_off162_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h114 : k0_cond114 k0_t5 arg39_r4 = 1#1), ∀ a, (k0_off162 arg35_r4) a + S1x256x64.size a ≤ S2x256x64.size a := fun k0_t5 arg31_r4 arg32_r4 arg33_r4 arg34_r4 arg35_r4 arg36_r4 arg37_r4 arg38_r4 arg39_r4 k0_hw29 k0_h114 => k0_hw29.2.2.2.2.2.2.2.2.2.2.2.2.2.2.2.1 k0_h114
theorem k0_off163_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h115 : k0_cond115 k0_t5 arg39_r4 = 1#1), ∀ a, (k0_off163 arg37_r4) a + S1.size a ≤ S2.size a := fun k0_t5 arg31_r4 arg32_r4 arg33_r4 arg34_r4 arg35_r4 arg36_r4 arg37_r4 arg38_r4 arg39_r4 k0_hw29 k0_h115 => k0_hw29.2.2.2.2.2.2.2.2.2.2.2.2.2.2.2.2.1 k0_h115
theorem k0_off164_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h115 : k0_cond115 k0_t5 arg39_r4 = 1#1), ∀ a, (k0_off164 arg39_r4) a + S256x64.size a ≤ S4096x64.size a := fun k0_t5 arg31_r4 arg32_r4 arg33_r4 arg34_r4 arg35_r4 arg36_r4 arg37_r4 arg38_r4 arg39_r4 k0_hw29 k0_h115 => k0_hw29.2.2.2.2.2.2.2.2.2.2.2.2.2.2.2.2.2.1 k0_h115
theorem k0_off165_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h115 : k0_cond115 k0_t5 arg39_r4 = 1#1), ∀ a, (k0_off165 arg37_r4) a + S1x256x64.size a ≤ S2x256x64.size a := fun k0_t5 arg31_r4 arg32_r4 arg33_r4 arg34_r4 arg35_r4 arg36_r4 arg37_r4 arg38_r4 arg39_r4 k0_hw29 k0_h115 => k0_hw29.2.2.2.2.2.2.2.2.2.2.2.2.2.2.2.2.2.2.1 k0_h115
theorem k0_off166_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h121 : k0_cond121 k0_t5 arg39_r4 = 1#1), ∀ a, (k0_off166 arg36_r4) a + S1.size a ≤ S2.size a := fun k0_t5 arg31_r4 arg32_r4 arg33_r4 arg34_r4 arg35_r4 arg36_r4 arg37_r4 arg38_r4 arg39_r4 k0_hw29 k0_h121 => k0_hw29.2.2.2.2.2.2.2.2.2.2.2.2.2.2.2.2.2.2.2.1 k0_h121
theorem k0_off167_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h121 : k0_cond121 k0_t5 arg39_r4 = 1#1), ∀ a, (k0_off167 arg39_r4) a + S256x64.size a ≤ S4096x64.size a := fun k0_t5 arg31_r4 arg32_r4 arg33_r4 arg34_r4 arg35_r4 arg36_r4 arg37_r4 arg38_r4 arg39_r4 k0_hw29 k0_h121 => k0_hw29.2.2.2.2.2.2.2.2.2.2.2.2.2.2.2.2.2.2.2.2.1 k0_h121
theorem k0_off168_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h121 : k0_cond121 k0_t5 arg39_r4 = 1#1), ∀ a, (k0_off168 arg36_r4) a + S1x256x64.size a ≤ S2x256x64.size a := fun k0_t5 arg31_r4 arg32_r4 arg33_r4 arg34_r4 arg35_r4 arg36_r4 arg37_r4 arg38_r4 arg39_r4 k0_hw29 k0_h121 => k0_hw29.2.2.2.2.2.2.2.2.2.2.2.2.2.2.2.2.2.2.2.2.2.1 k0_h121
theorem k0_off169_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h122 : k0_cond122 k0_t5 arg39_r4 = 1#1), ∀ a, (k0_off169 arg38_r4) a + S1.size a ≤ S2.size a := fun k0_t5 arg31_r4 arg32_r4 arg33_r4 arg34_r4 arg35_r4 arg36_r4 arg37_r4 arg38_r4 arg39_r4 k0_hw29 k0_h122 => k0_hw29.2.2.2.2.2.2.2.2.2.2.2.2.2.2.2.2.2.2.2.2.2.2.1 k0_h122
theorem k0_off170_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h122 : k0_cond122 k0_t5 arg39_r4 = 1#1), ∀ a, (k0_off170 arg39_r4) a + S256x64.size a ≤ S4096x64.size a := fun k0_t5 arg31_r4 arg32_r4 arg33_r4 arg34_r4 arg35_r4 arg36_r4 arg37_r4 arg38_r4 arg39_r4 k0_hw29 k0_h122 => k0_hw29.2.2.2.2.2.2.2.2.2.2.2.2.2.2.2.2.2.2.2.2.2.2.2.1 k0_h122
theorem k0_off171_inb : ∀ (k0_t5 : Fin k0_t5_loop.trips) (arg31_r4 : BitVec 32) (arg32_r4 : BitVec 32) (arg33_r4 : BitVec 32) (arg34_r4 : BitVec 32) (arg35_r4 : BitVec 32) (arg36_r4 : BitVec 32) (arg37_r4 : BitVec 32) (arg38_r4 : BitVec 32) (arg39_r4 : BitVec 32) (k0_hw29 : k0_chk29 k0_t5 arg31_r4 arg32_r4 arg33_r4 arg34_r4 arg35_r4 arg36_r4 arg37_r4 arg38_r4 arg39_r4), ∀ (k0_h122 : k0_cond122 k0_t5 arg39_r4 = 1#1), ∀ a, (k0_off171 arg38_r4) a + S1x256x64.size a ≤ S2x256x64.size a := fun k0_t5 arg31_r4 arg32_r4 arg33_r4 arg34_r4 arg35_r4 arg36_r4 arg37_r4 arg38_r4 arg39_r4 k0_hw29 k0_h122 => k0_hw29.2.2.2.2.2.2.2.2.2.2.2.2.2.2.2.2.2.2.2.2.2.2.2.2 k0_h122

def k0_off172 (v32_5_r4 : BitVec 32) : Fin 1 → Nat :=
  let c2_i32_66_r4 : BitVec 32 := 2#32
  let v53_r4 : BitVec 32 := Scalar.remui v32_5_r4 c2_i32_66_r4
  ![v53_r4.toNat]

def k0_off173 (v32_8_r4 : BitVec 32) : Fin 2 → Nat :=
  let c256_i32_r4 : BitVec 32 := 256#32
  let true_47_r4 : BitVec 1 := 1#1
  let c1_i32_46_r4 : BitVec 32 := 1#32
  let v33_r4 : BitVec 32 := Scalar.subi v32_8_r4 c1_i32_46_r4
  let v34_r4 : BitVec 32 := Scalar.select true_47_r4 v33_r4 v32_8_r4
  let c_m1_i32_48_r4 : BitVec 32 := 4294967295#32
  let v35_r4 : BitVec 1 := Scalar.cmpi .eq v34_r4 c_m1_i32_48_r4
  let c15_i32_49_r4 : BitVec 32 := 15#32
  let v36_r4 : BitVec 32 := Scalar.select v35_r4 c15_i32_49_r4 v34_r4
  let c0_i32_50_r4 : BitVec 32 := 0#32
  let v37_r4 : BitVec 32 := Scalar.addi v36_r4 c0_i32_50_r4
  let v54_r4 : BitVec 32 := Scalar.muli c256_i32_r4 v37_r4
  let c0_i32_67_r4 : BitVec 32 := 0#32
  ![v54_r4.toNat, 0]

def k0_off174 (v32_5_r4 : BitVec 32) : Fin 3 → Nat :=
  let c2_i32_66_r4 : BitVec 32 := 2#32
  let v53_r4 : BitVec 32 := Scalar.remui v32_5_r4 c2_i32_66_r4
  let c0_i32_68_r4 : BitVec 32 := 0#32
  let c0_i32_69_r4 : BitVec 32 := 0#32
  ![v53_r4.toNat, 0, 0]

def k0_chk34 (v32_5_r4 : BitVec 32) : Prop :=
  (∀ a, (k0_off172 v32_5_r4) a + S1.size a ≤ S2.size a) ∧
  (∀ a, (k0_off174 v32_5_r4) a + S1x256x64.size a ≤ S2x256x64.size a)
theorem k0_off172_inb : ∀ (v32_5_r4 : BitVec 32) (k0_hw34 : k0_chk34 v32_5_r4), ∀ a, (k0_off172 v32_5_r4) a + S1.size a ≤ S2.size a := fun v32_5_r4 k0_hw34 => k0_hw34.1
theorem k0_off174_inb : ∀ (v32_5_r4 : BitVec 32) (k0_hw34 : k0_chk34 v32_5_r4), ∀ a, (k0_off174 v32_5_r4) a + S1x256x64.size a ≤ S2x256x64.size a := fun v32_5_r4 k0_hw34 => k0_hw34.2

def k0_off175 (v32_7_r4 : BitVec 32) : Fin 1 → Nat :=
  let c2_i32_70_r4 : BitVec 32 := 2#32
  let v60_r4 : BitVec 32 := Scalar.remui v32_7_r4 c2_i32_70_r4
  ![v60_r4.toNat]

def k0_off176 (v32_8_r4 : BitVec 32) : Fin 2 → Nat :=
  let c256_i32_71_r4 : BitVec 32 := 256#32
  let true_47_r4 : BitVec 1 := 1#1
  let c1_i32_46_r4 : BitVec 32 := 1#32
  let v33_r4 : BitVec 32 := Scalar.subi v32_8_r4 c1_i32_46_r4
  let v34_r4 : BitVec 32 := Scalar.select true_47_r4 v33_r4 v32_8_r4
  let c_m1_i32_48_r4 : BitVec 32 := 4294967295#32
  let v35_r4 : BitVec 1 := Scalar.cmpi .eq v34_r4 c_m1_i32_48_r4
  let c15_i32_49_r4 : BitVec 32 := 15#32
  let v36_r4 : BitVec 32 := Scalar.select v35_r4 c15_i32_49_r4 v34_r4
  let c0_i32_50_r4 : BitVec 32 := 0#32
  let v37_r4 : BitVec 32 := Scalar.addi v36_r4 c0_i32_50_r4
  let v61_r4 : BitVec 32 := Scalar.muli c256_i32_71_r4 v37_r4
  let c0_i32_72_r4 : BitVec 32 := 0#32
  ![v61_r4.toNat, 0]

def k0_chk35 (v32_8_r4 : BitVec 32) : Prop :=
  (∀ a, (k0_off173 v32_8_r4) a + S256x64.size a ≤ S4096x64.size a) ∧
  (∀ a, (k0_off176 v32_8_r4) a + S256x64.size a ≤ S4096x64.size a)
theorem k0_off173_inb : ∀ (v32_8_r4 : BitVec 32) (k0_hw35 : k0_chk35 v32_8_r4), ∀ a, (k0_off173 v32_8_r4) a + S256x64.size a ≤ S4096x64.size a := fun v32_8_r4 k0_hw35 => k0_hw35.1
theorem k0_off176_inb : ∀ (v32_8_r4 : BitVec 32) (k0_hw35 : k0_chk35 v32_8_r4), ∀ a, (k0_off176 v32_8_r4) a + S256x64.size a ≤ S4096x64.size a := fun v32_8_r4 k0_hw35 => k0_hw35.2

def k0_off177 (v32_7_r4 : BitVec 32) : Fin 3 → Nat :=
  let c2_i32_70_r4 : BitVec 32 := 2#32
  let v60_r4 : BitVec 32 := Scalar.remui v32_7_r4 c2_i32_70_r4
  let c0_i32_73_r4 : BitVec 32 := 0#32
  let c0_i32_74_r4 : BitVec 32 := 0#32
  ![v60_r4.toNat, 0, 0]

def k0_chk36 (v32_7_r4 : BitVec 32) : Prop :=
  (∀ a, (k0_off175 v32_7_r4) a + S1.size a ≤ S2.size a) ∧
  (∀ a, (k0_off177 v32_7_r4) a + S1x256x64.size a ≤ S2x256x64.size a)
theorem k0_off175_inb : ∀ (v32_7_r4 : BitVec 32) (k0_hw36 : k0_chk36 v32_7_r4), ∀ a, (k0_off175 v32_7_r4) a + S1.size a ≤ S2.size a := fun v32_7_r4 k0_hw36 => k0_hw36.1
theorem k0_off177_inb : ∀ (v32_7_r4 : BitVec 32) (k0_hw36 : k0_chk36 v32_7_r4), ∀ a, (k0_off177 v32_7_r4) a + S1x256x64.size a ≤ S2x256x64.size a := fun v32_7_r4 k0_hw36 => k0_hw36.2

abbrev stage0_0 : Fin 1 → Memref sig .tc .vmem S4096x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "third" => some ((1 / 3 : ℝ) : EReal)
  | _ => none
-- ==== ReferenceIdeal.lean ====
abbrev S8192x4096 : Shape := ⟨2, ![8192, 4096]⟩
abbrev S4096x8192 : Shape := ⟨2, ![4096, 8192]⟩
abbrev S4096x4096 : Shape := ⟨2, ![4096, 4096]⟩
abbrev S4096x384 : Shape := ⟨2, ![4096, 384]⟩
abbrev S8192x64 : Shape := ⟨2, ![8192, 64]⟩
abbrev S4096x64 : Shape := ⟨2, ![4096, 64]⟩
abbrev S64x4096 : Shape := ⟨2, ![64, 4096]⟩
abbrev S64 : Shape := ⟨1, ![64]⟩
abbrev S64x384 : Shape := ⟨2, ![64, 384]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S384x64 : Shape := ⟨2, ![384, 64]⟩
abbrev S8192 : Shape := ⟨1, ![8192]⟩
abbrev S8192x1 : Shape := ⟨2, ![8192, 1]⟩
abbrev S1x8192x64 : Shape := ⟨3, ![1, 8192, 64]⟩
abbrev S3x8192x64 : Shape := ⟨3, ![3, 8192, 64]⟩
abbrev S1x4096x64 : Shape := ⟨3, ![1, 4096, 64]⟩
abbrev S3x4096x64 : Shape := ⟨3, ![3, 4096, 64]⟩

abbrev nBuf : Space → Nat
  | .hbm => 219
  | .vmem => 0
  | .smem => 0
  | _ => 0

abbrev hbmTy0_0 (i : Nat) : BufTy := match i % 128 with
  | 0 => ⟨S8192x4096, .f32⟩
  | 1 => ⟨S4096x8192, .f32⟩
  | 2 => ⟨S4096x4096, .f32⟩
  | 3 => ⟨S4096x384, .f32⟩
  | 4 => ⟨S8192x64, .f32⟩
  | 5 => ⟨S4096x64, .f32⟩
  | 6 => ⟨S64x4096, .f32⟩
  | 7 => ⟨S64, .f32⟩
  | 8 => ⟨S64x384, .f32⟩
  | 9 => ⟨S64, .f32⟩
  | 10 => ⟨S8192x64, .f32⟩
  | 11 => ⟨S4096x64, .f32⟩
  | 12 => ⟨S_, .f32⟩
  | 13 => ⟨S8192x64, .f32⟩
  | 14 => ⟨S_, .f32⟩
  | 15 => ⟨S4096x64, .f32⟩
  | 16 => ⟨S64x4096, .f32⟩
  | 17 => ⟨S64x4096, .f32⟩
  | 18 => ⟨S4096x4096, .f32⟩
  | 19 => ⟨S64x4096, .f32⟩
  | 20 => ⟨S64x384, .f32⟩
  | 21 => ⟨S4096x384, .f32⟩
  | 22 => ⟨S4096x4096, .f32⟩
  | 23 => ⟨S_, .f32⟩
  | 24 => ⟨S4096, .f32⟩
  | 25 => ⟨S4096x1, .f32⟩
  | 26 => ⟨S4096x1, .f32⟩
  | 27 => ⟨S_, .f32⟩
  | 28 => ⟨S_, .f32⟩
  | 29 => ⟨S4096x1, .f32⟩
  | 30 => ⟨S4096x1, .f32⟩
  | 31 => ⟨S4096x4096, .f32⟩
  | 32 => ⟨S4096x4096, .f32⟩
  | 33 => ⟨S_, .f32⟩
  | 34 => ⟨S4096x4096, .f32⟩
  | 35 => ⟨S4096x4096, .f32⟩
  | 36 => ⟨S4096x4096, .f32⟩
  | 37 => ⟨S4096x64, .f32⟩
  | 38 => ⟨S4096x64, .f32⟩
  | 39 => ⟨S1x64, .f32⟩
  | 40 => ⟨S4096x64, .f32⟩
  | 41 => ⟨S4096x64, .f32⟩
  | 42 => ⟨S4096x384, .f32⟩
  | 43 => ⟨S_, .f32⟩
  | 44 => ⟨S4096, .f32⟩
  | 45 => ⟨S4096x1, .f32⟩
  | 46 => ⟨S4096x1, .f32⟩
  | 47 => ⟨S_, .f32⟩
  | 48 => ⟨S_, .f32⟩
  | 49 => ⟨S4096x1, .f32⟩
  | 50 => ⟨S4096x1, .f32⟩
  | 51 => ⟨S4096x384, .f32⟩
  | 52 => ⟨S4096x384, .f32⟩
  | 53 => ⟨S_, .f32⟩
  | 54 => ⟨S4096x384, .f32⟩
  | 55 => ⟨S4096x384, .f32⟩
  | 56 => ⟨S4096x384, .f32⟩
  | 57 => ⟨S384x64, .f32⟩
  | 58 => ⟨S4096x64, .f32⟩
  | 59 => ⟨S1x64, .f32⟩
  | 60 => ⟨S4096x64, .f32⟩
  | 61 => ⟨S4096x64, .f32⟩
  | 62 => ⟨S8192x64, .f32⟩
  | 63 => ⟨S4096x64, .f32⟩
  | 64 => ⟨S8192x64, .f32⟩
  | 65 => ⟨S4096x64, .f32⟩
  | 66 => ⟨S8192x64, .f32⟩
  | 67 => ⟨S4096x64, .f32⟩
  | 68 => ⟨S8192x64, .f32⟩
  | 69 => ⟨S4096x64, .f32⟩
  | 70 => ⟨S8192x64, .f32⟩
  | 71 => ⟨S_, .f32⟩
  | 72 => ⟨S8192, .f32⟩
  | 73 => ⟨S8192x1, .f32⟩
  | 74 => ⟨S8192x1, .f32⟩
  | 75 => ⟨S_, .f32⟩
  | 76 => ⟨S_, .f32⟩
  | 77 => ⟨S8192x1, .f32⟩
  | 78 => ⟨S8192x1, .f32⟩
  | 79 => ⟨S8192x64, .f32⟩
  | 80 => ⟨S8192x64, .f32⟩
  | 81 => ⟨S_, .f32⟩
  | 82 => ⟨S8192x64, .f32⟩
  | 83 => ⟨S8192x64, .f32⟩
  | 84 => ⟨S8192x64, .f32⟩
  | 85 => ⟨S4096x64, .f32⟩
  | 86 => ⟨S_, .f32⟩
  | 87 => ⟨S4096, .f32⟩
  | 88 => ⟨S4096x1, .f32⟩
  | 89 => ⟨S4096x1, .f32⟩
  | 90 => ⟨S_, .f32⟩
  | 91 => ⟨S_, .f32⟩
  | 92 => ⟨S4096x1, .f32⟩
  | 93 => ⟨S4096x1, .f32⟩
  | 94 => ⟨S4096x64, .f32⟩
  | 95 => ⟨S4096x64, .f32⟩
  | 96 => ⟨S_, .f32⟩
  | 97 => ⟨S4096x64, .f32⟩
  | 98 => ⟨S4096x64, .f32⟩
  | 99 => ⟨S4096x64, .f32⟩
  | 100 => ⟨S8192x64, .f32⟩
  | 101 => ⟨S4096x64, .f32⟩
  | 102 => ⟨S8192x64, .f32⟩
  | 103 => ⟨S8192x64, .f32⟩
  | 104 => ⟨S_, .f32⟩
  | 105 => ⟨S8192, .f32⟩
  | 106 => ⟨S8192x1, .f32⟩
  | 107 => ⟨S8192x1, .f32⟩
  | 108 => ⟨S_, .f32⟩
  | 109 => ⟨S_, .f32⟩
  | 110 => ⟨S8192x1, .f32⟩
  | 111 => ⟨S8192x1, .f32⟩
  | 112 => ⟨S8192x64, .f32⟩
  | 113 => ⟨S8192x64, .f32⟩
  | 114 => ⟨S8192x64, .f32⟩
  | 115 => ⟨S_, .f32⟩
  | 116 => ⟨S8192x64, .f32⟩
  | 117 => ⟨S8192x64, .f32⟩
  | 118 => ⟨S8192x64, .f32⟩
  | 119 => ⟨S4096x64, .f32⟩
  | 120 => ⟨S4096x64, .f32⟩
  | 121 => ⟨S_, .f32⟩
  | 122 => ⟨S4096, .f32⟩
  | 123 => ⟨S4096x1, .f32⟩
  | 124 => ⟨S4096x1, .f32⟩
  | 125 => ⟨S_, .f32⟩
  | 126 => ⟨S_, .f32⟩
  | 127 => ⟨S4096x1, .f32⟩
  | _ => ⟨S8192x4096, .f32⟩

abbrev hbmTy0_1 (i : Nat) : BufTy := match i % 128 with
  | 0 => ⟨S4096x1, .f32⟩
  | 1 => ⟨S4096x64, .f32⟩
  | 2 => ⟨S4096x64, .f32⟩
  | 3 => ⟨S4096x64, .f32⟩
  | 4 => ⟨S_, .f32⟩
  | 5 => ⟨S4096x64, .f32⟩
  | 6 => ⟨S4096x64, .f32⟩
  | 7 => ⟨S4096x64, .f32⟩
  | 8 => ⟨S8192x64, .f32⟩
  | 9 => ⟨S4096x64, .f32⟩
  | 10 => ⟨S1x8192x64, .f32⟩
  | 11 => ⟨S1x8192x64, .f32⟩
  | 12 => ⟨S1x8192x64, .f32⟩
  | 13 => ⟨S3x8192x64, .f32⟩
  | 14 => ⟨S_, .f32⟩
  | 15 => ⟨S8192x64, .f32⟩
  | 16 => ⟨S_, .f32⟩
  | 17 => ⟨S8192x64, .f32⟩
  | 18 => ⟨S8192x64, .f32⟩
  | 19 => ⟨S1x4096x64, .f32⟩
  | 20 => ⟨S1x4096x64, .f32⟩
  | 21 => ⟨S1x4096x64, .f32⟩
  | 22 => ⟨S3x4096x64, .f32⟩
  | 23 => ⟨S_, .f32⟩
  | 24 => ⟨S4096x64, .f32⟩
  | 25 => ⟨S_, .f32⟩
  | 26 => ⟨S4096x64, .f32⟩
  | 27 => ⟨S4096x64, .f32⟩
  | 28 => ⟨S8192x64, .f32⟩
  | 29 => ⟨S_, .f32⟩
  | 30 => ⟨S8192, .f32⟩
  | 31 => ⟨S8192x1, .f32⟩
  | 32 => ⟨S8192x1, .f32⟩
  | 33 => ⟨S_, .f32⟩
  | 34 => ⟨S_, .f32⟩
  | 35 => ⟨S8192x1, .f32⟩
  | 36 => ⟨S8192x1, .f32⟩
  | 37 => ⟨S8192x64, .f32⟩
  | 38 => ⟨S8192x64, .f32⟩
  | 39 => ⟨S_, .f32⟩
  | 40 => ⟨S8192x64, .f32⟩
  | 41 => ⟨S8192x64, .f32⟩
  | 42 => ⟨S8192x64, .f32⟩
  | 43 => ⟨S_, .f32⟩
  | 44 => ⟨S8192, .f32⟩
  | 45 => ⟨S8192x1, .f32⟩
  | 46 => ⟨S8192x1, .f32⟩
  | 47 => ⟨S_, .f32⟩
  | 48 => ⟨S_, .f32⟩
  | 49 => ⟨S8192x1, .f32⟩
  | 50 => ⟨S8192x1, .f32⟩
  | 51 => ⟨S8192x64, .f32⟩
  | 52 => ⟨S8192x64, .f32⟩
  | 53 => ⟨S_, .f32⟩
  | 54 => ⟨S8192x64, .f32⟩
  | 55 => ⟨S8192x64, .f32⟩
  | 56 => ⟨S8192x64, .f32⟩
  | 57 => ⟨S4096x64, .f32⟩
  | 58 => ⟨S_, .f32⟩
  | 59 => ⟨S4096, .f32⟩
  | 60 => ⟨S4096x1, .f32⟩
  | 61 => ⟨S4096x1, .f32⟩
  | 62 => ⟨S_, .f32⟩
  | 63 => ⟨S_, .f32⟩
  | 64 => ⟨S4096x1, .f32⟩
  | 65 => ⟨S4096x1, .f32⟩
  | 66 => ⟨S4096x64, .f32⟩
  | 67 => ⟨S4096x64, .f32⟩
  | 68 => ⟨S_, .f32⟩
  | 69 => ⟨S4096x64, .f32⟩
  | 70 => ⟨S4096x64, .f32⟩
  | 71 => ⟨S4096x64, .f32⟩
  | 72 => ⟨S_, .f32⟩
  | 73 => ⟨S4096, .f32⟩
  | 74 => ⟨S4096x1, .f32⟩
  | 75 => ⟨S4096x1, .f32⟩
  | 76 => ⟨S_, .f32⟩
  | 77 => ⟨S_, .f32⟩
  | 78 => ⟨S4096x1, .f32⟩
  | 79 => ⟨S4096x1, .f32⟩
  | 80 => ⟨S4096x64, .f32⟩
  | 81 => ⟨S4096x64, .f32⟩
  | 82 => ⟨S_, .f32⟩
  | 83 => ⟨S4096x64, .f32⟩
  | 84 => ⟨S4096x64, .f32⟩
  | 85 => ⟨S4096x64, .f32⟩
  | 86 => ⟨S8192x64, .f32⟩
  | 87 => ⟨S4096x64, .f32⟩
  | 88 => ⟨S8192x64, .f32⟩
  | 89 => ⟨S4096x64, .f32⟩
  | 90 => ⟨S_, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v8 : Ref sig .tc := ⟨.hbm, 26, rfl⟩
abbrev main_cst_1 : Ref sig .tc := ⟨.hbm, 27, rfl⟩
abbrev main_call1_v0 : Ref sig .tc := ⟨.hbm, 28, rfl⟩
abbrev main_call1_v1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call2_v0 : Ref sig .tc := ⟨.hbm, 42, rfl⟩
abbrev main_call2_cst : Ref sig .tc := ⟨.hbm, 43, rfl⟩
abbrev main_call2_v1 : Ref sig .tc := ⟨.hbm, 44, rfl⟩
abbrev main_call2_v2 : Ref sig .tc := ⟨.hbm, 45, rfl⟩
abbrev main_v20 : Ref sig .tc := ⟨.hbm, 46, rfl⟩
abbrev main_cst_3 : Ref sig .tc := ⟨.hbm, 47, rfl⟩
abbrev main_call3_v0 : Ref sig .tc := ⟨.hbm, 48, rfl⟩
abbrev main_call3_v1 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_call4_v0 : Ref sig .tc := ⟨.hbm, 70, rfl⟩
abbrev main_call4_cst : Ref sig .tc := ⟨.hbm, 71, rfl⟩
abbrev main_call4_v1 : Ref sig .tc := ⟨.hbm, 72, rfl⟩
abbrev main_call4_v2 : Ref sig .tc := ⟨.hbm, 73, rfl⟩
abbrev main_v40 : Ref sig .tc := ⟨.hbm, 74, rfl⟩
abbrev main_cst_5 : Ref sig .tc := ⟨.hbm, 75, rfl⟩
abbrev main_call5_v0 : Ref sig .tc := ⟨.hbm, 76, rfl⟩
abbrev main_call5_v1 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_6 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_call6_v0 : Ref sig .tc := ⟨.hbm, 85, rfl⟩
abbrev main_call6_cst : Ref sig .tc := ⟨.hbm, 86, rfl⟩
abbrev main_call6_v1 : Ref sig .tc := ⟨.hbm, 87, rfl⟩
abbrev main_call6_v2 : Ref sig .tc := ⟨.hbm, 88, rfl⟩
abbrev main_v47 : Ref sig .tc := ⟨.hbm, 89, rfl⟩
abbrev main_cst_7 : Ref sig .tc := ⟨.hbm, 90, rfl⟩
abbrev main_call7_v0 : Ref sig .tc := ⟨.hbm, 91, rfl⟩
abbrev main_call7_v1 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_8 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_call8_v0 : Ref sig .tc := ⟨.hbm, 103, rfl⟩
abbrev main_call8_cst : Ref sig .tc := ⟨.hbm, 104, rfl⟩
abbrev main_call8_v1 : Ref sig .tc := ⟨.hbm, 105, rfl⟩
abbrev main_call8_v2 : Ref sig .tc := ⟨.hbm, 106, rfl⟩
abbrev main_v57 : Ref sig .tc := ⟨.hbm, 107, rfl⟩
abbrev main_cst_9 : Ref sig .tc := ⟨.hbm, 108, rfl⟩
abbrev main_call9_v0 : Ref sig .tc := ⟨.hbm, 109, rfl⟩
abbrev main_call9_v1 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_cst_10 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_call10_v0 : Ref sig .tc := ⟨.hbm, 120, rfl⟩
abbrev main_call10_cst : Ref sig .tc := ⟨.hbm, 121, rfl⟩
abbrev main_call10_v1 : Ref sig .tc := ⟨.hbm, 122, rfl⟩
abbrev main_call10_v2 : Ref sig .tc := ⟨.hbm, 123, rfl⟩
abbrev main_v66 : Ref sig .tc := ⟨.hbm, 124, rfl⟩
abbrev main_cst_11 : Ref sig .tc := ⟨.hbm, 125, rfl⟩
abbrev main_call11_v0 : Ref sig .tc := ⟨.hbm, 126, rfl⟩
abbrev main_call11_v1 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_cst_12 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_13 : Ref sig .tc := ⟨.hbm, 142, rfl⟩
abbrev main_v80 : Ref sig .tc := ⟨.hbm, 143, rfl⟩
abbrev main_cst_14 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_15 : Ref sig .tc := ⟨.hbm, 151, rfl⟩
abbrev main_v87 : Ref sig .tc := ⟨.hbm, 152, rfl⟩
abbrev main_cst_16 : Ref sig .tc := ⟨.hbm, 153, rfl⟩
abbrev main_v88 : Ref sig .tc := ⟨.hbm, 154, rfl⟩
abbrev main_v89 : Ref sig .tc := ⟨.hbm, 155, rfl⟩
abbrev main_call12_v0 : Ref sig .tc := ⟨.hbm, 156, rfl⟩
abbrev main_call12_cst : Ref sig .tc := ⟨.hbm, 157, rfl⟩
abbrev main_call12_v1 : Ref sig .tc := ⟨.hbm, 158, rfl⟩
abbrev main_call12_v2 : Ref sig .tc := ⟨.hbm, 159, rfl⟩
abbrev main_v90 : Ref sig .tc := ⟨.hbm, 160, rfl⟩
abbrev main_cst_17 : Ref sig .tc := ⟨.hbm, 161, rfl⟩
abbrev main_call13_v0 : Ref sig .tc := ⟨.hbm, 162, rfl⟩
abbrev main_call13_v1 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_cst_18 : Ref sig .tc := ⟨.hbm, 167, rfl⟩
abbrev main_v94 : Ref sig .tc := ⟨.hbm, 168, rfl⟩
abbrev main_v95 : Ref sig .tc := ⟨.hbm, 169, rfl⟩
abbrev main_call14_v0 : Ref sig .tc := ⟨.hbm, 170, rfl⟩
abbrev main_call14_cst : Ref sig .tc := ⟨.hbm, 171, rfl⟩
abbrev main_call14_v1 : Ref sig .tc := ⟨.hbm, 172, rfl⟩
abbrev main_call14_v2 : Ref sig .tc := ⟨.hbm, 173, rfl⟩
abbrev main_v96 : Ref sig .tc := ⟨.hbm, 174, rfl⟩
abbrev main_cst_19 : Ref sig .tc := ⟨.hbm, 175, rfl⟩
abbrev main_call15_v0 : Ref sig .tc := ⟨.hbm, 176, rfl⟩
abbrev main_call15_v1 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_cst_20 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_call16_v0 : Ref sig .tc := ⟨.hbm, 185, rfl⟩
abbrev main_call16_cst : Ref sig .tc := ⟨.hbm, 186, rfl⟩
abbrev main_call16_v1 : Ref sig .tc := ⟨.hbm, 187, rfl⟩
abbrev main_call16_v2 : Ref sig .tc := ⟨.hbm, 188, rfl⟩
abbrev main_v103 : Ref sig .tc := ⟨.hbm, 189, rfl⟩
abbrev main_cst_21 : Ref sig .tc := ⟨.hbm, 190, rfl⟩
abbrev main_call17_v0 : Ref sig .tc := ⟨.hbm, 191, rfl⟩
abbrev main_call17_v1 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_cst_22 : Ref sig .tc := ⟨.hbm, 196, rfl⟩
abbrev main_v107 : Ref sig .tc := ⟨.hbm, 197, rfl⟩
abbrev main_v108 : Ref sig .tc := ⟨.hbm, 198, rfl⟩
abbrev main_call18_v0 : Ref sig .tc := ⟨.hbm, 199, rfl⟩
abbrev main_call18_cst : Ref sig .tc := ⟨.hbm, 200, rfl⟩
abbrev main_call18_v1 : Ref sig .tc := ⟨.hbm, 201, rfl⟩
abbrev main_call18_v2 : Ref sig .tc := ⟨.hbm, 202, rfl⟩
abbrev main_v109 : Ref sig .tc := ⟨.hbm, 203, rfl⟩
abbrev main_cst_23 : Ref sig .tc := ⟨.hbm, 204, rfl⟩
abbrev main_call19_v0 : Ref sig .tc := ⟨.hbm, 205, rfl⟩
abbrev main_call19_v1 : Ref sig .tc := ⟨.hbm, 206, rfl⟩
abbrev main_v110 : Ref sig .tc := ⟨.hbm, 207, rfl⟩
abbrev main_v111 : Ref sig .tc := ⟨.hbm, 208, rfl⟩
abbrev main_v112 : Ref sig .tc := ⟨.hbm, 209, rfl⟩
abbrev main_cst_24 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_cst_25 : Ref sig .tc := ⟨.hbm, 218, rfl⟩

abbrev nD : Nat := 1
abbrev τ : Topo := Topo.v7x

variable {F : FTy → Type} [FloatOps F]
-- ==== Proof.KI.Base.lean ====
/-
  The resource algebra the kernel's run is stated at, and the offsets of a two-slot buffer and of its semaphore pair.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffixV
public import Idealize.ShloMosaic.Lib.Ring
public import Idealize.ShloMosaic.Lib.Ring.Trips
public import Idealize.ShloMosaic.Lib.Ring.WriteBehind
public import Idealize.ShloMosaic.Lib.WritesUnit
public import Idealize.ShloMosaic.Lib.Affine
public import Idealize.ShloMosaic.Lib.Tactic

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The pipeline's algebra beside the counters that the kernel's own transfers ride on. -/
abbrev UU (nD : Nat) (τ : Topo) : Type := Pipeline.UD sig nD τ
abbrev 𝒱₀ : Variants := Variants.none

/-- Where semaphore `s` of a pair begins. -/
abbrev semOff (s : Fin 2) : Fin 1 → Nat := ![s.val]
theorem semOff_inb (s : Fin 2) : ∀ a, semOff s a + S1.size a ≤ S2.size a := by
  have := s.isLt; intro a; fin_cases a; show s.val + 1 ≤ 2; omega
/-- Where slot `s` of a two-slot buffer begins. -/
abbrev slotOff (s : Fin 2) : Fin 3 → Nat := ![s.val, 0, 0]
instance (s : Fin 2) : ClosedOff (slotOff s) := ⟨slotOff s, rfl⟩

/-- Semaphore `s` of a pair, as the kernel slices and squeezes it. -/
def semAt (A : DmaSems sig S2) (s : Fin 2) : DmaSems sig S_ :=
  (A.slice (Rect.unit (s := S2) (semOff s) S1.size (semOff_inb s))).squeeze S_ squeezes_S1_S_
theorem semAt_congr (A : DmaSems sig S2) {off : Fin 1 → Nat} {s : Fin 2} (e : off = semOff s) (hh) :
    (A.slice (Rect.unit (s := S2) off S1.size hh)).squeeze S_ squeezes_S1_S_ = semAt A s :=
  congrArg (fun B : DmaSems sig S1 => B.squeeze S_ squeezes_S1_S_) (SemArray.slice_unit_congr _ e _ _)

/-- The index at row `i` and column `j`. -/
def ix2 {R D : ℕ} (i : Fin R) (j : Fin D) : (⟨2, ![R, D]⟩ : Shape).Idx := fun | ⟨0, _⟩ => i | ⟨1, _⟩ => j

theorem ix2_eta {R D : ℕ} (y : (⟨2, ![R, D]⟩ : Shape).Idx) : ix2 (y 0) (y 1) = y := by
  funext a; fin_cases a <;> rfl

/-- Row blocks of height `W`, one under another. -/
def stack {α : Type} {W R D : ℕ} (hW : 0 < W) (blk : ℕ → (⟨2, ![W, D]⟩ : Shape).Idx → α) (y : (⟨2, ![R, D]⟩ : Shape).Idx) : α :=
  blk ((y 0).val / W) (ix2 ⟨(y 0).val % W, Nat.mod_lt _ hW⟩ (y 1))

/-- A block read back from the stack. -/
theorem stack_block {α : Type} {W R D : ℕ} (hW : 0 < W) (blk : ℕ → (⟨2, ![W, D]⟩ : Shape).Idx → α) (k : ℕ)
    (x : (⟨2, ![W, D]⟩ : Shape).Idx) (y : (⟨2, ![R, D]⟩ : Shape).Idx) (h0 : (y 0).val = W * k + (x 0).val) (h1 : (y 1).val = (x 1).val) :
    stack hW blk y = blk k x := by
  have hx : (x 0).val < W := (x 0).isLt
  have e0 : (y 0).val / W = k := by
    rw [h0, Nat.mul_add_div hW, Nat.div_eq_of_lt hx, Nat.add_zero]
  have e1 : (y 0).val % W = (x 0).val := by
    rw [h0, Nat.mul_add_mod, Nat.mod_eq_of_lt hx]
  unfold stack
  rw [e0]
  congr 1
  funext a; fin_cases a
  · exact Fin.ext e1
  · exact Fin.ext h1

/-- The contents `f` agree with the stack on the rows of the first `k` blocks. -/
def UpTo {sig : RefSig} {κ : Kind} {sp : Space} {e : EltTy} {Val : EltTy → Type} {W R D : ℕ} (hW : 0 < W)
    (v : View sig κ sp (⟨2, ![R, D]⟩ : Shape) e) (blk : ℕ → (⟨2, ![W, D]⟩ : Shape).Idx → Val e) (k : ℕ) (f : v.ty.Contents Val) : Prop :=
  ∀ y, (y 0).val < W * k → v.read Val f y = stack hW blk y

theorem upTo_zero {sig : RefSig} {κ : Kind} {sp : Space} {e : EltTy} {Val : EltTy → Type} {W R D : ℕ} (hW : 0 < W)
    (v : View sig κ sp (⟨2, ![R, D]⟩ : Shape) e) (blk : ℕ → (⟨2, ![W, D]⟩ : Shape).Idx → Val e) (f : v.ty.Contents Val) : UpTo hW v blk 0 f :=
  fun y h => absurd h (by omega)

/-- Storing block `k` carries the agreement one block further. -/
theorem upTo_succ {sig : RefSig} {κ : Kind} {sp : Space} {e : EltTy} {Val : EltTy → Type} {W R D : ℕ} (hW : 0 < W)
    (v : View sig κ sp (⟨2, ![R, D]⟩ : Shape) e) (blk : ℕ → (⟨2, ![W, D]⟩ : Shape).Idx → Val e) (k : ℕ) (f : v.ty.Contents Val)
    {off : Fin 2 → ℕ} (inb) (hoff : off = ![W * k, 0]) (w : (⟨2, ![W, D]⟩ : Shape).Idx → Val e) (hw : w = blk k) (h : UpTo hW v blk k f) :
    UpTo hW v blk (k + 1) (v.writes Val f [⟨Rect.unit (s := (⟨2, ![R, D]⟩ : Shape)) off ![W, D] inb, w⟩]) := by
  subst hw
  intro y hy
  by_cases hk : (y 0).val < W * k
  · rw [View.read_writes_cons_rows_of_not_mem v f inb _ [] y hoff rfl (Or.inl hk)]
    exact h y hk
  · have hlt : (y 0).val - W * k < W := by rw [Nat.mul_succ] at hy; omega
    have h0 : (y 0).val = W * k + (ix2 (R := W) (D := D) ⟨(y 0).val - W * k, hlt⟩ (y 1) 0).val := by
      show _ = W * k + ((y 0).val - W * k); omega
    rw [View.read_writes_cons_rows_of_mem v f inb _ [] y (ix2 (R := W) (D := D) ⟨(y 0).val - W * k, hlt⟩ (y 1)) hoff h0 rfl]
    exact (stack_block hW blk k _ y h0 rfl).symm

/-- Agreement with all the blocks is equality. -/
theorem upTo_all {sig : RefSig} {κ : Kind} {sp : Space} {e : EltTy} {Val : EltTy → Type} {W R D : ℕ} (hW : 0 < W)
    (v : View sig κ sp (⟨2, ![R, D]⟩ : Shape) e) (blk : ℕ → (⟨2, ![W, D]⟩ : Shape).Idx → Val e) (k : ℕ) (hR : R ≤ W * k) (f : v.ty.Contents Val)
    (h : UpTo hW v blk k f) : v.read Val f = stack hW blk :=
  funext fun y => h y (lt_of_lt_of_le (y 0).isLt hR)

abbrev w32 (n : ℕ) : BitVec 32 := BitVec.ofNat 32 n

/-- An index carried along a reshape and back. -/
theorem reshape_back {s t : Shape} (h : s.numel = t.numel) (h' : t.numel = s.numel) (j : s.Idx) :
    Shape.reshapeEquiv (s := s) (s' := t) h' (Shape.reshapeEquiv (s := t) (s' := s) h j) = j :=
  (Shape.reshapeEquiv_reshapeEquiv (s := s) (s' := t) (s'' := s) h' h j).trans (Shape.reshapeEquiv_self _ j)

/-- A load of rows of the stack is a block. -/
theorem loadRows {sig : RefSig} {κ : Kind} {sp : Space} {e : EltTy} {Val : EltTy → Type} {W R D : ℕ} (hW : 0 < W)
    (v : View sig κ sp (⟨2, ![R, D]⟩ : Shape) e) (blk : ℕ → (⟨2, ![W, D]⟩ : Shape).Idx → Val e) (k : ℕ) (f : v.ty.Contents Val)
    (h : v.read Val f = stack hW blk) {off : Fin 2 → ℕ} (hoff : off = ![W * k, 0]) (inb) :
    v.readAt Val (Rect.unit (s := (⟨2, ![R, D]⟩ : Shape)) off ![W, D] inb).toLoadRect f = blk k := by
  subst hoff
  funext x
  rw [View.readAt_apply, h]
  refine stack_block hW blk k x _ ?_ ?_
  · show W * k + 1 * (x 0).val = _; omega
  · show 0 + 1 * (x 1).val = _; omega

theorem rowsInb {W N D : ℕ} {k : ℕ} (hk : k < N) : ∀ a : Fin 2, (![W * k, 0] : Fin 2 → ℕ) a + (![W, D] : Fin 2 → ℕ) a ≤ (![W * N, D] : Fin 2 → ℕ) a := by
  intro a; fin_cases a
  · show W * k + W ≤ W * N
    calc W * k + W = W * (k + 1) := (Nat.mul_succ W k).symm
      _ ≤ W * N := Nat.mul_le_mul_left W hk
  · show 0 + D ≤ D; omega

section Memory
variable {F : FTy → Type} [FloatOps F] [Named F]
local notation "𝕄" => MT nD τ sig Unit (Elt F) ℕ (UU nD τ) ℕ

/-- A memref's elements held at contents that read the same are held at the same. -/
theorem own_eq_of_read (c : Dev nD) {sp : Space} {s : Shape} {e : EltTy} (m : Memref sig .tc sp s e) (f g : Buf (Elt F) (m.view.loc (c : Thread nD τ)))
    (h : m.view.read (Elt F) f = m.view.read (Elt F) g) :
    (m.view.loc (c : Thread nD τ) ↦[m.view.set]{fullShare} f : sProp 𝕄) = m.view.loc (c : Thread nD τ) ↦[m.view.set]{fullShare} g := by
  rw [pointsTo_rep (Ix := Unit) (Name := ℕ) (U := UU nD τ) (Lvl := ℕ) (c : Thread nD τ) m f fullShare,
    pointsTo_rep (Ix := Unit) (Name := ℕ) (U := UU nD τ) (Lvl := ℕ) (c : Thread nD τ) m g fullShare, h]

abbrev a20 : Memref sig .tc .vmem S4096x192 .bf16 := Memref.whole cc0_scratch0
abbrev own20 (c : Dev nD) (f : Buf (Elt F) (a20.view.loc (c : Thread nD τ))) : sProp 𝕄 := a20.view.loc (c : Thread nD τ) ↦[a20.view.set]{fullShare} f
abbrev a21 : Memref sig .tc .vmem S8192x192 .bf16 := Memref.whole cc0_scratch1
abbrev own21 (c : Dev nD) (f : Buf (Elt F) (a21.view.loc (c : Thread nD τ))) : sProp 𝕄 := a21.view.loc (c : Thread nD τ) ↦[a21.view.set]{fullShare} f
abbrev a22 : Memref sig .tc .vmem S8192x64 .f32 := Memref.whole cc0_scratch2
abbrev own22 (c : Dev nD) (f : Buf (Elt F) (a22.view.loc (c : Thread nD τ))) : sProp 𝕄 := a22.view.loc (c : Thread nD τ) ↦[a22.view.set]{fullShare} f
abbrev a23 : Memref sig .tc .vmem S8192x64 .f32 := Memref.whole cc0_scratch3
abbrev own23 (c : Dev nD) (f : Buf (Elt F) (a23.view.loc (c : Thread nD τ))) : sProp 𝕄 := a23.view.loc (c : Thread nD τ) ↦[a23.view.set]{fullShare} f
abbrev a24 : Memref sig .tc .vmem S8192x64 .f32 := Memref.whole cc0_scratch4
abbrev own24 (c : Dev nD) (f : Buf (Elt F) (a24.view.loc (c : Thread nD τ))) : sProp 𝕄 := a24.view.loc (c : Thread nD τ) ↦[a24.view.set]{fullShare} f
abbrev a25 : Memref sig .tc .vmem S4096x64 .bf16 := Memref.whole cc0_scratch5
abbrev own25 (c : Dev nD) (f : Buf (Elt F) (a25.view.loc (c : Thread nD τ))) : sProp 𝕄 := a25.view.loc (c : Thread nD τ) ↦[a25.view.set]{fullShare} f
abbrev a26 : Memref sig .tc .vmem S4096x64 .f32 := Memref.whole cc0_scratch6
abbrev own26 (c : Dev nD) (f : Buf (Elt F) (a26.view.loc (c : Thread nD τ))) : sProp 𝕄 := a26.view.loc (c : Thread nD τ) ↦[a26.view.set]{fullShare} f
abbrev a27 : Memref sig .tc .vmem S4096x64 .f32 := Memref.whole cc0_scratch7
abbrev own27 (c : Dev nD) (f : Buf (Elt F) (a27.view.loc (c : Thread nD τ))) : sProp 𝕄 := a27.view.loc (c : Thread nD τ) ↦[a27.view.set]{fullShare} f
abbrev a28 : Memref sig .tc .vmem S4096x64 .f32 := Memref.whole cc0_scratch8
abbrev own28 (c : Dev nD) (f : Buf (Elt F) (a28.view.loc (c : Thread nD τ))) : sProp 𝕄 := a28.view.loc (c : Thread nD τ) ↦[a28.view.set]{fullShare} f
abbrev a29 : Memref sig .tc .vmem S8192x64 .bf16 := Memref.whole cc0_scratch9
abbrev own29 (c : Dev nD) (f : Buf (Elt F) (a29.view.loc (c : Thread nD τ))) : sProp 𝕄 := a29.view.loc (c : Thread nD τ) ↦[a29.view.set]{fullShare} f

theorem entails_of_eq {P Q : sProp 𝕄} (e : P = Q) : P ⊢ Q := e ▸ .rfl
theorem zero_off : (![0, 0] : Fin 2 → ℕ) = fun _ => 0 := by funext a; fin_cases a <;> rfl
section Full
variable (c : Dev nD)
/-- A load of the whole array is its contents. -/
abbrev full20 (V : Buf (Elt F) (a20.view.loc (c : Thread nD τ))) := View.readAt (Elt F) a20.view (Rect.unit (s := S4096x192) ![0, 0] S4096x192.size inb_S4096x192_S4096x192_0_0).toLoadRect V
theorem full20_eq (V : Buf (Elt F) (a20.view.loc (c : Thread nD τ))) : full20 c V = V :=
  Memref.readAt_unit_zero (Elt F) cc0_scratch0 zero_off _ V
/-- A load of the whole array is its contents. -/
abbrev full21 (V : Buf (Elt F) (a21.view.loc (c : Thread nD τ))) := View.readAt (Elt F) a21.view (Rect.unit (s := S8192x192) ![0, 0] S8192x192.size inb_S8192x192_S8192x192_0_0).toLoadRect V
theorem full21_eq (V : Buf (Elt F) (a21.view.loc (c : Thread nD τ))) : full21 c V = V :=
  Memref.readAt_unit_zero (Elt F) cc0_scratch1 zero_off _ V
/-- A load of the whole array is its contents. -/
abbrev full25 (V : Buf (Elt F) (a25.view.loc (c : Thread nD τ))) := View.readAt (Elt F) a25.view (Rect.unit (s := S4096x64) ![0, 0] S4096x64.size inb_S4096x64_S4096x64_0_0).toLoadRect V
theorem full25_eq (V : Buf (Elt F) (a25.view.loc (c : Thread nD τ))) : full25 c V = V :=
  Memref.readAt_unit_zero (Elt F) cc0_scratch5 zero_off _ V
/-- A load of the whole array is its contents. -/
abbrev full29 (V : Buf (Elt F) (a29.view.loc (c : Thread nD τ))) := View.readAt (Elt F) a29.view (Rect.unit (s := S8192x64) ![0, 0] S8192x64.size inb_S8192x64_S8192x64_0_0).toLoadRect V
theorem full29_eq (V : Buf (Elt F) (a29.view.loc (c : Thread nD τ))) : full29 c V = V :=
  Memref.readAt_unit_zero (Elt F) cc0_scratch9 zero_off _ V
end Full
end Memory

end Cert.Proof.KI

end
-- ==== Proof.KI.A.lean ====
/-
  The first pipeline of the kernel: the projected features beside the item embeddings, block by block.
-/
module

public import proofs.«01_k».proof.Proof.KI.Base

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

theorem slotInbImg (s : Fin 2) : ∀ a, slotOff s a + S1x512x4096.size a ≤ S2x512x4096.size a := by
  have := s.isLt; intro a; fin_cases a
  · show s.val + 1 ≤ 2; omega
  · show 0 + 512 ≤ 512; omega
  · show 0 + 4096 ≤ 4096; omega
/-- Slot `s` of the buffer. -/
def slotImg (s : Fin 2) : Memref sig .tc .vmem S512x4096 .f32 :=
  ((Memref.whole cc0_scoped0).slice (Rect.unit (s := S2x512x4096) (slotOff s) S1x512x4096.size (slotInbImg s)) (fun _ => rfl)).squeeze S512x4096 squeezes_S1x512x4096_S512x4096
theorem slotImg_congr {off : Fin 3 → Nat} {s : Fin 2} (e : off = slotOff s) (hh hs) :
    ((Memref.whole cc0_scoped0).slice (Rect.unit (s := S2x512x4096) off S1x512x4096.size hh) hs).squeeze S512x4096 squeezes_S1x512x4096_S512x4096 = slotImg s :=
  congrArg (fun M : Memref sig .tc .vmem S1x512x4096 .f32 => M.squeeze S512x4096 squeezes_S1x512x4096_S512x4096) (Memref.slice_unit_congr _ e _ _ _ _)
abbrev blkOffImg (b : Fin 8) : Fin 2 → Nat := ![512 * b.val, 0]
instance (b : Fin 8) : ClosedOff (blkOffImg b) := ⟨blkOffImg b, rfl⟩
theorem blkInbImg (b : Fin 8) : ∀ a, blkOffImg b a + S512x4096.size a ≤ S4096x4096.size a := by
  have := b.isLt; intro a; fin_cases a
  · show 512 * b.val + 512 ≤ 4096; omega
  · show 0 + 4096 ≤ 4096; omega
/-- Block `b` of the array: its rows from `512 * b`. -/
def blkImg (b : Fin 8) : Memref sig .tc .hbm S512x4096 .f32 :=
  (Memref.whole main_arg2).slice (Rect.unit (s := S4096x4096) (blkOffImg b) S512x4096.size (blkInbImg b)) (fun _ => rfl)
theorem blkImg_congr {off : Fin 2 → Nat} {b : Fin 8} (e : off = blkOffImg b) (hh hs) :
    (Memref.whole main_arg2).slice (Rect.unit (s := S4096x4096) off S512x4096.size hh) hs = blkImg b := Memref.slice_unit_congr _ e _ _ hs (fun _ => rfl)
abbrev semImg (s : Fin 2) : DmaSems sig S_ := semAt cc0_scoped1 s
/-- A load of the slot through the whole buffer reads what was delivered into the slot. -/
theorem loadImg {off : Fin 3 → Nat} (s : Fin 2) (e : off = slotOff s) (hh) (hs : S1x512x4096.ShapeCasts S512x4096) (f : (slotImg s).view.ty.Contents (Elt F)) (w : S512x4096.Idx → Elt F .f32) :
    shapeCast S512x4096 (View.readAt (Elt F) (Memref.whole cc0_scoped0 : Memref sig .tc .vmem S2x512x4096 .f32).view (Rect.unit (s := S2x512x4096) off S1x512x4096.size hh).toLoadRect
      ((slotImg s).view.writes (Elt F) f [⟨Rect.whole S512x4096, w⟩])) hs = w := by
  have h : ∀ g : (slotImg s).view.ty.Contents (Elt F), shapeCast S512x4096 (View.readAt (Elt F) (Memref.whole cc0_scoped0 : Memref sig .tc .vmem S2x512x4096 .f32).view (Rect.unit (s := S2x512x4096) off S1x512x4096.size hh).toLoadRect g) hs = (slotImg s).view.read (Elt F) g := by
    subst e; exact fun g => rfl
  exact (h _).trans (View.read_writes_whole (slotImg s).view f w)

theorem slotInbTxt (s : Fin 2) : ∀ a, slotOff s a + S1x512x384.size a ≤ S2x512x384.size a := by
  have := s.isLt; intro a; fin_cases a
  · show s.val + 1 ≤ 2; omega
  · show 0 + 512 ≤ 512; omega
  · show 0 + 384 ≤ 384; omega
/-- Slot `s` of the buffer. -/
def slotTxt (s : Fin 2) : Memref sig .tc .vmem S512x384 .f32 :=
  ((Memref.whole cc0_scoped2).slice (Rect.unit (s := S2x512x384) (slotOff s) S1x512x384.size (slotInbTxt s)) (fun _ => rfl)).squeeze S512x384 squeezes_S1x512x384_S512x384
theorem slotTxt_congr {off : Fin 3 → Nat} {s : Fin 2} (e : off = slotOff s) (hh hs) :
    ((Memref.whole cc0_scoped2).slice (Rect.unit (s := S2x512x384) off S1x512x384.size hh) hs).squeeze S512x384 squeezes_S1x512x384_S512x384 = slotTxt s :=
  congrArg (fun M : Memref sig .tc .vmem S1x512x384 .f32 => M.squeeze S512x384 squeezes_S1x512x384_S512x384) (Memref.slice_unit_congr _ e _ _ _ _)
abbrev blkOffTxt (b : Fin 8) : Fin 2 → Nat := ![512 * b.val, 0]
instance (b : Fin 8) : ClosedOff (blkOffTxt b) := ⟨blkOffTxt b, rfl⟩
theorem blkInbTxt (b : Fin 8) : ∀ a, blkOffTxt b a + S512x384.size a ≤ S4096x384.size a := by
  have := b.isLt; intro a; fin_cases a
  · show 512 * b.val + 512 ≤ 4096; omega
  · show 0 + 384 ≤ 384; omega
/-- Block `b` of the array: its rows from `512 * b`. -/
def blkTxt (b : Fin 8) : Memref sig .tc .hbm S512x384 .f32 :=
  (Memref.whole main_arg3).slice (Rect.unit (s := S4096x384) (blkOffTxt b) S512x384.size (blkInbTxt b)) (fun _ => rfl)
theorem blkTxt_congr {off : Fin 2 → Nat} {b : Fin 8} (e : off = blkOffTxt b) (hh hs) :
    (Memref.whole main_arg3).slice (Rect.unit (s := S4096x384) off S512x384.size hh) hs = blkTxt b := Memref.slice_unit_congr _ e _ _ hs (fun _ => rfl)
abbrev semTxt (s : Fin 2) : DmaSems sig S_ := semAt cc0_scoped3 s
/-- A load of the slot through the whole buffer reads what was delivered into the slot. -/
theorem loadTxt {off : Fin 3 → Nat} (s : Fin 2) (e : off = slotOff s) (hh) (hs : S1x512x384.ShapeCasts S512x384) (f : (slotTxt s).view.ty.Contents (Elt F)) (w : S512x384.Idx → Elt F .f32) :
    shapeCast S512x384 (View.readAt (Elt F) (Memref.whole cc0_scoped2 : Memref sig .tc .vmem S2x512x384 .f32).view (Rect.unit (s := S2x512x384) off S1x512x384.size hh).toLoadRect
      ((slotTxt s).view.writes (Elt F) f [⟨Rect.whole S512x384, w⟩])) hs = w := by
  have h : ∀ g : (slotTxt s).view.ty.Contents (Elt F), shapeCast S512x384 (View.readAt (Elt F) (Memref.whole cc0_scoped2 : Memref sig .tc .vmem S2x512x384 .f32).view (Rect.unit (s := S2x512x384) off S1x512x384.size hh).toLoadRect g) hs = (slotTxt s).view.read (Elt F) g := by
    subst e; exact fun g => rfl
  exact (h _).trans (View.read_writes_whole (slotTxt s).view f w)

theorem slotInbIe (s : Fin 2) : ∀ a, slotOff s a + S1x512x64.size a ≤ S2x512x64.size a := by
  have := s.isLt; intro a; fin_cases a
  · show s.val + 1 ≤ 2; omega
  · show 0 + 512 ≤ 512; omega
  · show 0 + 64 ≤ 64; omega
/-- Slot `s` of the buffer. -/
def slotIe (s : Fin 2) : Memref sig .tc .vmem S512x64 .f32 :=
  ((Memref.whole cc0_scoped4).slice (Rect.unit (s := S2x512x64) (slotOff s) S1x512x64.size (slotInbIe s)) (fun _ => rfl)).squeeze S512x64 squeezes_S1x512x64_S512x64
theorem slotIe_congr {off : Fin 3 → Nat} {s : Fin 2} (e : off = slotOff s) (hh hs) :
    ((Memref.whole cc0_scoped4).slice (Rect.unit (s := S2x512x64) off S1x512x64.size hh) hs).squeeze S512x64 squeezes_S1x512x64_S512x64 = slotIe s :=
  congrArg (fun M : Memref sig .tc .vmem S1x512x64 .f32 => M.squeeze S512x64 squeezes_S1x512x64_S512x64) (Memref.slice_unit_congr _ e _ _ _ _)
abbrev blkOffIe (b : Fin 8) : Fin 2 → Nat := ![512 * b.val, 0]
instance (b : Fin 8) : ClosedOff (blkOffIe b) := ⟨blkOffIe b, rfl⟩
theorem blkInbIe (b : Fin 8) : ∀ a, blkOffIe b a + S512x64.size a ≤ S4096x64.size a := by
  have := b.isLt; intro a; fin_cases a
  · show 512 * b.val + 512 ≤ 4096; omega
  · show 0 + 64 ≤ 64; omega
/-- Block `b` of the array: its rows from `512 * b`. -/
def blkIe (b : Fin 8) : Memref sig .tc .hbm S512x64 .f32 :=
  (Memref.whole main_arg5).slice (Rect.unit (s := S4096x64) (blkOffIe b) S512x64.size (blkInbIe b)) (fun _ => rfl)
theorem blkIe_congr {off : Fin 2 → Nat} {b : Fin 8} (e : off = blkOffIe b) (hh hs) :
    (Memref.whole main_arg5).slice (Rect.unit (s := S4096x64) off S512x64.size hh) hs = blkIe b := Memref.slice_unit_congr _ e _ _ hs (fun _ => rfl)
abbrev semIe (s : Fin 2) : DmaSems sig S_ := semAt cc0_scoped5 s
/-- A load of the slot through the whole buffer reads what was delivered into the slot. -/
theorem loadIe {off : Fin 3 → Nat} (s : Fin 2) (e : off = slotOff s) (hh) (hs : S1x512x64.ShapeCasts S512x64) (f : (slotIe s).view.ty.Contents (Elt F)) (w : S512x64.Idx → Elt F .f32) :
    shapeCast S512x64 (View.readAt (Elt F) (Memref.whole cc0_scoped4 : Memref sig .tc .vmem S2x512x64 .f32).view (Rect.unit (s := S2x512x64) off S1x512x64.size hh).toLoadRect
      ((slotIe s).view.writes (Elt F) f [⟨Rect.whole S512x64, w⟩])) hs = w := by
  have h : ∀ g : (slotIe s).view.ty.Contents (Elt F), shapeCast S512x64 (View.readAt (Elt F) (Memref.whole cc0_scoped4 : Memref sig .tc .vmem S2x512x64 .f32).view (Rect.unit (s := S2x512x64) off S1x512x64.size hh).toLoadRect g) hs = (slotIe s).view.read (Elt F) g := by
    subst e; exact fun g => rfl
  exact (h _).trans (View.read_writes_whole (slotIe s).view f w)

theorem t1_trips : k0_t1_loop.trips = 8 := by decide
abbrev T1 := Fin k0_t1_loop.trips

theorem off5_eq : ∀ k : T1, k0_off5 (w32 (k.val + 1)) = semOff (Ring.sl 2 (k.val + 1)) := by decide
theorem off6_eq : ∀ k : T1, k0_off6 (w32 (k.val + 1)) = slotOff (Ring.sl 2 (k.val + 1)) := by decide
theorem off7_eq : ∀ k : T1, k.val < 7 → k0_off7 (w32 k.val) = blkOffImg (Ring.bk 8 (k.val + 1)) := by decide
@[sl_canon] theorem semIImg (k : T1) (hh) :
    (cc0_scoped1.slice (Rect.unit (s := S2) (k0_off5 (w32 (k.val + 1))) S1.size hh)).squeeze S_ squeezes_S1_S_ = semImg (Ring.sl 2 (k.val + 1)) := semAt_congr _ (off5_eq k) _
@[sl_canon] theorem slotIImg (k : T1) (hh hs) :
    ((Memref.whole cc0_scoped0).slice (Rect.unit (s := S2x512x4096) (k0_off6 (w32 (k.val + 1))) S1x512x4096.size hh) hs).squeeze S512x4096 squeezes_S1x512x4096_S512x4096 = slotImg (Ring.sl 2 (k.val + 1)) := slotImg_congr (off6_eq k) _ _
@[sl_canon] theorem blkIImg (k : T1) (hk : k.val < 7) (hh hs) :
    (Memref.whole main_arg2).slice (Rect.unit (s := S4096x4096) (k0_off7 (w32 k.val)) S512x4096.size hh) hs = blkImg (Ring.bk 8 (k.val + 1)) := blkImg_congr (off7_eq k hk) _ _
theorem cond1_pos : ∀ k : T1, k.val < 7 → k0_cond1 k (w32 k.val) = 1#1 := by decide
theorem cond1_neg : ∀ k : T1, ¬ k.val < 7 → ¬ k0_cond1 k (w32 k.val) = 1#1 := by decide

theorem off8_eq : ∀ k : T1, k0_off8 (w32 (k.val + 1)) = semOff (Ring.sl 2 (k.val + 1)) := by decide
theorem off9_eq : ∀ k : T1, k0_off9 (w32 (k.val + 1)) = slotOff (Ring.sl 2 (k.val + 1)) := by decide
theorem off10_eq : ∀ k : T1, k.val < 7 → k0_off10 (w32 k.val) = blkOffTxt (Ring.bk 8 (k.val + 1)) := by decide
@[sl_canon] theorem semITxt (k : T1) (hh) :
    (cc0_scoped3.slice (Rect.unit (s := S2) (k0_off8 (w32 (k.val + 1))) S1.size hh)).squeeze S_ squeezes_S1_S_ = semTxt (Ring.sl 2 (k.val + 1)) := semAt_congr _ (off8_eq k) _
@[sl_canon] theorem slotITxt (k : T1) (hh hs) :
    ((Memref.whole cc0_scoped2).slice (Rect.unit (s := S2x512x384) (k0_off9 (w32 (k.val + 1))) S1x512x384.size hh) hs).squeeze S512x384 squeezes_S1x512x384_S512x384 = slotTxt (Ring.sl 2 (k.val + 1)) := slotTxt_congr (off9_eq k) _ _
@[sl_canon] theorem blkITxt (k : T1) (hk : k.val < 7) (hh hs) :
    (Memref.whole main_arg3).slice (Rect.unit (s := S4096x384) (k0_off10 (w32 k.val)) S512x384.size hh) hs = blkTxt (Ring.bk 8 (k.val + 1)) := blkTxt_congr (off10_eq k hk) _ _
theorem cond2_pos : ∀ k : T1, k.val < 7 → k0_cond2 k (w32 k.val) = 1#1 := by decide
theorem cond2_neg : ∀ k : T1, ¬ k.val < 7 → ¬ k0_cond2 k (w32 k.val) = 1#1 := by decide

theorem off11_eq : ∀ k : T1, k0_off11 (w32 (k.val + 1)) = semOff (Ring.sl 2 (k.val + 1)) := by decide
theorem off12_eq : ∀ k : T1, k0_off12 (w32 (k.val + 1)) = slotOff (Ring.sl 2 (k.val + 1)) := by decide
theorem off13_eq : ∀ k : T1, k.val < 7 → k0_off13 (w32 k.val) = blkOffIe (Ring.bk 8 (k.val + 1)) := by decide
@[sl_canon] theorem semIIe (k : T1) (hh) :
    (cc0_scoped5.slice (Rect.unit (s := S2) (k0_off11 (w32 (k.val + 1))) S1.size hh)).squeeze S_ squeezes_S1_S_ = semIe (Ring.sl 2 (k.val + 1)) := semAt_congr _ (off11_eq k) _
@[sl_canon] theorem slotIIe (k : T1) (hh hs) :
    ((Memref.whole cc0_scoped4).slice (Rect.unit (s := S2x512x64) (k0_off12 (w32 (k.val + 1))) S1x512x64.size hh) hs).squeeze S512x64 squeezes_S1x512x64_S512x64 = slotIe (Ring.sl 2 (k.val + 1)) := slotIe_congr (off12_eq k) _ _
@[sl_canon] theorem blkIIe (k : T1) (hk : k.val < 7) (hh hs) :
    (Memref.whole main_arg5).slice (Rect.unit (s := S4096x64) (k0_off13 (w32 k.val)) S512x64.size hh) hs = blkIe (Ring.bk 8 (k.val + 1)) := blkIe_congr (off13_eq k hk) _ _
theorem cond3_pos : ∀ k : T1, k.val < 7 → k0_cond3 k (w32 k.val) = 1#1 := by decide
theorem cond3_neg : ∀ k : T1, ¬ k.val < 7 → ¬ k0_cond3 k (w32 k.val) = 1#1 := by decide

theorem off14_eq : ∀ k : T1, k0_off14 (w32 k.val) = semOff (Ring.sl 2 k.val) := by decide
theorem off15_eq : ∀ k : T1, k0_off15 (w32 k.val) = slotOff (Ring.sl 2 k.val) := by decide
theorem off16_eq : ∀ k : T1, k0_off16 (w32 k.val) = blkOffImg (Ring.bk 8 k.val) := by decide
@[sl_canon] theorem semWImg (k : T1) (hh) :
    (cc0_scoped1.slice (Rect.unit (s := S2) (k0_off14 (w32 k.val)) S1.size hh)).squeeze S_ squeezes_S1_S_ = semImg (Ring.sl 2 k.val) := semAt_congr _ (off14_eq k) _
@[sl_canon] theorem slotWImg (k : T1) (hh hs) :
    ((Memref.whole cc0_scoped0).slice (Rect.unit (s := S2x512x4096) (k0_off15 (w32 k.val)) S1x512x4096.size hh) hs).squeeze S512x4096 squeezes_S1x512x4096_S512x4096 = slotImg (Ring.sl 2 k.val) := slotImg_congr (off15_eq k) _ _
@[sl_canon] theorem blkWImg (k : T1) (hh hs) :
    (Memref.whole main_arg2).slice (Rect.unit (s := S4096x4096) (k0_off16 (w32 k.val)) S512x4096.size hh) hs = blkImg (Ring.bk 8 k.val) := blkImg_congr (off16_eq k) _ _
theorem cond4_pos : ∀ k : T1, k0_cond4 k (w32 k.val) = 1#1 := by decide

theorem off17_eq : ∀ k : T1, k0_off17 (w32 k.val) = semOff (Ring.sl 2 k.val) := by decide
theorem off18_eq : ∀ k : T1, k0_off18 (w32 k.val) = slotOff (Ring.sl 2 k.val) := by decide
theorem off19_eq : ∀ k : T1, k0_off19 (w32 k.val) = blkOffTxt (Ring.bk 8 k.val) := by decide
@[sl_canon] theorem semWTxt (k : T1) (hh) :
    (cc0_scoped3.slice (Rect.unit (s := S2) (k0_off17 (w32 k.val)) S1.size hh)).squeeze S_ squeezes_S1_S_ = semTxt (Ring.sl 2 k.val) := semAt_congr _ (off17_eq k) _
@[sl_canon] theorem slotWTxt (k : T1) (hh hs) :
    ((Memref.whole cc0_scoped2).slice (Rect.unit (s := S2x512x384) (k0_off18 (w32 k.val)) S1x512x384.size hh) hs).squeeze S512x384 squeezes_S1x512x384_S512x384 = slotTxt (Ring.sl 2 k.val) := slotTxt_congr (off18_eq k) _ _
@[sl_canon] theorem blkWTxt (k : T1) (hh hs) :
    (Memref.whole main_arg3).slice (Rect.unit (s := S4096x384) (k0_off19 (w32 k.val)) S512x384.size hh) hs = blkTxt (Ring.bk 8 k.val) := blkTxt_congr (off19_eq k) _ _
theorem cond5_pos : ∀ k : T1, k0_cond5 k (w32 k.val) = 1#1 := by decide

theorem off20_eq : ∀ k : T1, k0_off20 (w32 k.val) = semOff (Ring.sl 2 k.val) := by decide
theorem off21_eq : ∀ k : T1, k0_off21 (w32 k.val) = slotOff (Ring.sl 2 k.val) := by decide
theorem off22_eq : ∀ k : T1, k0_off22 (w32 k.val) = blkOffIe (Ring.bk 8 k.val) := by decide
@[sl_canon] theorem semWIe (k : T1) (hh) :
    (cc0_scoped5.slice (Rect.unit (s := S2) (k0_off20 (w32 k.val)) S1.size hh)).squeeze S_ squeezes_S1_S_ = semIe (Ring.sl 2 k.val) := semAt_congr _ (off20_eq k) _
@[sl_canon] theorem slotWIe (k : T1) (hh hs) :
    ((Memref.whole cc0_scoped4).slice (Rect.unit (s := S2x512x64) (k0_off21 (w32 k.val)) S1x512x64.size hh) hs).squeeze S512x64 squeezes_S1x512x64_S512x64 = slotIe (Ring.sl 2 k.val) := slotIe_congr (off21_eq k) _ _
@[sl_canon] theorem blkWIe (k : T1) (hh hs) :
    (Memref.whole main_arg5).slice (Rect.unit (s := S4096x64) (k0_off22 (w32 k.val)) S512x64.size hh) hs = blkIe (Ring.bk 8 k.val) := blkIe_congr (off22_eq k) _ _
theorem cond6_pos : ∀ k : T1, k0_cond6 k (w32 k.val) = 1#1 := by decide
theorem off23_eq : ∀ k : T1, k0_off23 (w32 k.val) = slotOff (Ring.sl 2 k.val) := by decide
instance (k : T1) : ClosedOff (k0_off23 (w32 k.val)) := ⟨slotOff (Ring.sl 2 k.val), off23_eq k⟩
theorem off24_eq : ∀ k : T1, k0_off24 (w32 k.val) = slotOff (Ring.sl 2 k.val) := by decide
instance (k : T1) : ClosedOff (k0_off24 (w32 k.val)) := ⟨slotOff (Ring.sl 2 k.val), off24_eq k⟩
theorem off25_eq : ∀ k : T1, k0_off25 (w32 k.val) = slotOff (Ring.sl 2 k.val) := by decide
instance (k : T1) : ClosedOff (k0_off25 (w32 k.val)) := ⟨slotOff (Ring.sl 2 k.val), off25_eq k⟩
theorem off26_eq : ∀ k : T1, k0_off26 (w32 k.val) = ![512 * k.val, 0] := by decide
instance (k : T1) : ClosedOff (k0_off26 (w32 k.val)) := ⟨![512 * k.val, 0], off26_eq k⟩
theorem chk4_ok : ∀ k : T1, k0_chk4 (w32 k.val) := by decide
theorem chk3_ok : ∀ k : T1, k0_chk3 (w32 k.val) := by decide
theorem chk2_ok : ∀ k : T1, k0_chk2 (w32 k.val) := by decide
theorem chk1_ok : ∀ k : T1, k0_chk1 k (w32 (k.val + 1)) (w32 k.val) (w32 (k.val + 1)) (w32 k.val) (w32 (k.val + 1)) (w32 k.val) (w32 k.val) := by decide

/-- The block stored in `arg20`, from the blocks loaded. -/
def valA_20 (v138_r0 : FVec F S512x4096 .f32) (v140_r0 : Vec F S4096x64 .bf16) (v145_r0 : FVec F S512x384 .f32) (v147_r0 : Vec F S384x64 .bf16) (v150_r0 : Vec F S1x64 .f32) (v154_r0 : Vec F S1x64 .f32) (v160_r0 : FVec F S512x64 .f32) : FVec F S512x192 .bf16 :=
  let v139_r0 : FVec F S512x4096 .bf16 := truncf .bf16 v138_r0 bitsLt_bf16_f32
  let v141_r0 : FVec F S4096x64 .bf16 := shapeCast S4096x64 v140_r0 shapeCasts_S4096x64_S4096x64
  let cst_r0 : FVec F S512x64 .f32 := constant S512x64 .f32 0x00000000#32
  let v142_r0 : FVec F S512x64 .f32 := matmul dot_S512x4096_S4096x64_S512x64_1_0_0_1_n_n none v139_r0 v141_r0 cst_r0
  let v151_r0 : FVec F S1x64 .f32 := shapeCast S1x64 v150_r0 shapeCasts_S1x64_S1x64
  let v152_r0 : FVec F S512x64 .f32 := broadcastTo S512x64 v151_r0 broadcasts_S1x64_S512x64
  let v153_r0 : FVec F S512x64 .f32 := addf v142_r0 v152_r0
  let v146_r0 : FVec F S512x384 .bf16 := truncf .bf16 v145_r0 bitsLt_bf16_f32
  let v148_r0 : FVec F S384x64 .bf16 := shapeCast S384x64 v147_r0 shapeCasts_S384x64_S384x64
  let cst_123_r0 : FVec F S512x64 .f32 := constant S512x64 .f32 0x00000000#32
  let v149_r0 : FVec F S512x64 .f32 := matmul dot_S512x384_S384x64_S512x64_1_0_0_1_n_n none v146_r0 v148_r0 cst_123_r0
  let v155_r0 : FVec F S1x64 .f32 := shapeCast S1x64 v154_r0 shapeCasts_S1x64_S1x64
  let v156_r0 : FVec F S512x64 .f32 := broadcastTo S512x64 v155_r0 broadcasts_S1x64_S512x64
  let v157_r0 : FVec F S512x64 .f32 := addf v149_r0 v156_r0
  let v161_r0 : FVec F S512x192 .f32 := concatenate S512x192 1 [⟨S512x64, v153_r0⟩, ⟨S512x64, v157_r0⟩, ⟨S512x64, v160_r0⟩] concatenates_S512x64_S512x64_S512x64_S512x192_d1
  let v162_r0 : FVec F S512x192 .bf16 := truncf .bf16 v161_r0 bitsLt_bf16_f32
  shapeCast S512x192 v162_r0 shapeCasts_S512x192_S512x192

section Pieces
variable (c : Dev nD)

abbrev cellImg (s : Fin 2) : sProp 𝕄 := semVal ((c : Thread nD τ), SemLoc.dma (semImg s).sem) 0
abbrev slotPImg (s : Fin 2) (f : Buf (Elt F) ((slotImg s).view.loc (c : Thread nD τ))) : sProp 𝕄 :=
  (slotImg s).view.loc (c : Thread nD τ) ↦[(slotImg s).view.set]{fullShare} f
abbrev homeImg (X : Buf (Elt F) ((Memref.whole main_arg2 : Memref sig .tc .hbm _ _).view.loc (c : Thread nD τ))) (b : Fin 8) : sProp 𝕄 :=
  (blkImg b).view.loc (c : Thread nD τ) ↦[(blkImg b).view.set]{fullShare} X
abbrev landedImg (X : Buf (Elt F) ((Memref.whole main_arg2 : Memref sig .tc .hbm _ _).view.loc (c : Thread nD τ))) (s : Fin 2) (b : Fin 8) (f : Buf (Elt F) ((slotImg s).view.loc (c : Thread nD τ))) : Buf (Elt F) ((slotImg s).view.loc (c : Thread nD τ)) :=
  (slotImg s).view.writes (Elt F) f [⟨Rect.whole S512x4096, ReadAs.same.apply ((blkImg b).view.read (Elt F) X)⟩]
abbrev flightImg (X : Buf (Elt F) ((Memref.whole main_arg2 : Memref sig .tc .hbm _ _).view.loc (c : Thread nD τ))) (s : Fin 2) (b : Fin 8) (f : Buf (Elt F) ((slotImg s).view.loc (c : Thread nD τ))) : sProp 𝕄 :=
  Transfers.Flight countersEmb (c : Thread nD τ) (SemLoc.dma (semImg s).sem) () 262144 iprop(slotPImg c s (landedImg c X s b f) ∗ homeImg c X b)
theorem outImg (X : Buf (Elt F) ((Memref.whole main_arg2 : Memref sig .tc .hbm _ _).view.loc (c : Thread nD τ))) (k : ℕ) (hk : k + 1 < 8) :
    bigSep (Ring.homeSet 1 k) (homeImg c X) = iprop(homeImg c X (Ring.bk 8 (k + 1)) ∗ bigSep ((Ring.homeSet 1 k).erase (Ring.bk 8 (k + 1))) (homeImg c X)) := by
  conv_lhs => rw [Ring.homeSet_out 1 k hk, bigSep_insert (Ring.bkL_not_mem_erase 1 k)]
  rfl
theorem inImg (X : Buf (Elt F) ((Memref.whole main_arg2 : Memref sig .tc .hbm _ _).view.loc (c : Thread nD τ))) (k : ℕ) (hk : k + 1 < 8) :
    bigSep (Ring.homeSet 1 (k + 1)) (homeImg c X) = iprop(homeImg c X (Ring.bk 8 k) ∗ bigSep ((Ring.homeSet 1 k).erase (Ring.bk 8 (k + 1))) (homeImg c X)) := by
  conv_lhs => rw [Ring.homeSet_succ 1 k hk, bigSep_insert (Ring.bk_not_mem_erase 1 k (by omega) (by decide))]
  rfl
theorem endImg (X : Buf (Elt F) ((Memref.whole main_arg2 : Memref sig .tc .hbm _ _).view.loc (c : Thread nD τ))) (k : ℕ) (hk : k = 7) :
    bigSep Finset.univ (homeImg c X) = iprop(homeImg c X (Ring.bk 8 k) ∗ bigSep (Ring.homeSet 1 k) (homeImg c X)) := by
  conv_lhs => rw [← Ring.homeSet_last (NB := 8) 1 (k + 1) (by omega), Ring.homeSet_succ_tail 1 k (by omega) (by omega), bigSep_insert (Ring.bk_not_mem_homeSet 1 k (by omega) (by decide))]
  rfl
/-- The pieces of the buffer before trip `k`: block `k` on its way into slot `k % 2`, the other slot and its semaphore
    free, every other block of the array home. -/
def ringImg (X : Buf (Elt F) ((Memref.whole main_arg2 : Memref sig .tc .hbm _ _).view.loc (c : Thread nD τ))) (k : ℕ) : sProp 𝕄 :=
  iprop(bigSep (Ring.homeSet 1 k) (homeImg c X) ∗ (∃ f, flightImg c X (Ring.sl 2 k) (Ring.bk 8 k) f)
    ∗ (∃ f, slotPImg c (Ring.sl 2 (k + 1)) f) ∗ cellImg c (Ring.sl 2 (k + 1)))
/-- After the last trip `k`: both slots and semaphores free, every block home. -/
def ringEndImg (X : Buf (Elt F) ((Memref.whole main_arg2 : Memref sig .tc .hbm _ _).view.loc (c : Thread nD τ))) (k : ℕ) : sProp 𝕄 :=
  iprop(bigSep Finset.univ (homeImg c X) ∗ (∃ f, slotPImg c (Ring.sl 2 k) f) ∗ (∃ f, slotPImg c (Ring.sl 2 (k + 1)) f) ∗ cellImg c (Ring.sl 2 k) ∗ cellImg c (Ring.sl 2 (k + 1)))

abbrev cellTxt (s : Fin 2) : sProp 𝕄 := semVal ((c : Thread nD τ), SemLoc.dma (semTxt s).sem) 0
abbrev slotPTxt (s : Fin 2) (f : Buf (Elt F) ((slotTxt s).view.loc (c : Thread nD τ))) : sProp 𝕄 :=
  (slotTxt s).view.loc (c : Thread nD τ) ↦[(slotTxt s).view.set]{fullShare} f
abbrev homeTxt (X : Buf (Elt F) ((Memref.whole main_arg3 : Memref sig .tc .hbm _ _).view.loc (c : Thread nD τ))) (b : Fin 8) : sProp 𝕄 :=
  (blkTxt b).view.loc (c : Thread nD τ) ↦[(blkTxt b).view.set]{fullShare} X
abbrev landedTxt (X : Buf (Elt F) ((Memref.whole main_arg3 : Memref sig .tc .hbm _ _).view.loc (c : Thread nD τ))) (s : Fin 2) (b : Fin 8) (f : Buf (Elt F) ((slotTxt s).view.loc (c : Thread nD τ))) : Buf (Elt F) ((slotTxt s).view.loc (c : Thread nD τ)) :=
  (slotTxt s).view.writes (Elt F) f [⟨Rect.whole S512x384, ReadAs.same.apply ((blkTxt b).view.read (Elt F) X)⟩]
abbrev flightTxt (X : Buf (Elt F) ((Memref.whole main_arg3 : Memref sig .tc .hbm _ _).view.loc (c : Thread nD τ))) (s : Fin 2) (b : Fin 8) (f : Buf (Elt F) ((slotTxt s).view.loc (c : Thread nD τ))) : sProp 𝕄 :=
  Transfers.Flight countersEmb (c : Thread nD τ) (SemLoc.dma (semTxt s).sem) () 24576 iprop(slotPTxt c s (landedTxt c X s b f) ∗ homeTxt c X b)
theorem outTxt (X : Buf (Elt F) ((Memref.whole main_arg3 : Memref sig .tc .hbm _ _).view.loc (c : Thread nD τ))) (k : ℕ) (hk : k + 1 < 8) :
    bigSep (Ring.homeSet 1 k) (homeTxt c X) = iprop(homeTxt c X (Ring.bk 8 (k + 1)) ∗ bigSep ((Ring.homeSet 1 k).erase (Ring.bk 8 (k + 1))) (homeTxt c X)) := by
  conv_lhs => rw [Ring.homeSet_out 1 k hk, bigSep_insert (Ring.bkL_not_mem_erase 1 k)]
  rfl
theorem inTxt (X : Buf (Elt F) ((Memref.whole main_arg3 : Memref sig .tc .hbm _ _).view.loc (c : Thread nD τ))) (k : ℕ) (hk : k + 1 < 8) :
    bigSep (Ring.homeSet 1 (k + 1)) (homeTxt c X) = iprop(homeTxt c X (Ring.bk 8 k) ∗ bigSep ((Ring.homeSet 1 k).erase (Ring.bk 8 (k + 1))) (homeTxt c X)) := by
  conv_lhs => rw [Ring.homeSet_succ 1 k hk, bigSep_insert (Ring.bk_not_mem_erase 1 k (by omega) (by decide))]
  rfl
theorem endTxt (X : Buf (Elt F) ((Memref.whole main_arg3 : Memref sig .tc .hbm _ _).view.loc (c : Thread nD τ))) (k : ℕ) (hk : k = 7) :
    bigSep Finset.univ (homeTxt c X) = iprop(homeTxt c X (Ring.bk 8 k) ∗ bigSep (Ring.homeSet 1 k) (homeTxt c X)) := by
  conv_lhs => rw [← Ring.homeSet_last (NB := 8) 1 (k + 1) (by omega), Ring.homeSet_succ_tail 1 k (by omega) (by omega), bigSep_insert (Ring.bk_not_mem_homeSet 1 k (by omega) (by decide))]
  rfl
/-- The pieces of the buffer before trip `k`: block `k` on its way into slot `k % 2`, the other slot and its semaphore
    free, every other block of the array home. -/
def ringTxt (X : Buf (Elt F) ((Memref.whole main_arg3 : Memref sig .tc .hbm _ _).view.loc (c : Thread nD τ))) (k : ℕ) : sProp 𝕄 :=
  iprop(bigSep (Ring.homeSet 1 k) (homeTxt c X) ∗ (∃ f, flightTxt c X (Ring.sl 2 k) (Ring.bk 8 k) f)
    ∗ (∃ f, slotPTxt c (Ring.sl 2 (k + 1)) f) ∗ cellTxt c (Ring.sl 2 (k + 1)))
/-- After the last trip `k`: both slots and semaphores free, every block home. -/
def ringEndTxt (X : Buf (Elt F) ((Memref.whole main_arg3 : Memref sig .tc .hbm _ _).view.loc (c : Thread nD τ))) (k : ℕ) : sProp 𝕄 :=
  iprop(bigSep Finset.univ (homeTxt c X) ∗ (∃ f, slotPTxt c (Ring.sl 2 k) f) ∗ (∃ f, slotPTxt c (Ring.sl 2 (k + 1)) f) ∗ cellTxt c (Ring.sl 2 k) ∗ cellTxt c (Ring.sl 2 (k + 1)))

abbrev cellIe (s : Fin 2) : sProp 𝕄 := semVal ((c : Thread nD τ), SemLoc.dma (semIe s).sem) 0
abbrev slotPIe (s : Fin 2) (f : Buf (Elt F) ((slotIe s).view.loc (c : Thread nD τ))) : sProp 𝕄 :=
  (slotIe s).view.loc (c : Thread nD τ) ↦[(slotIe s).view.set]{fullShare} f
abbrev homeIe (X : Buf (Elt F) ((Memref.whole main_arg5 : Memref sig .tc .hbm _ _).view.loc (c : Thread nD τ))) (b : Fin 8) : sProp 𝕄 :=
  (blkIe b).view.loc (c : Thread nD τ) ↦[(blkIe b).view.set]{fullShare} X
abbrev landedIe (X : Buf (Elt F) ((Memref.whole main_arg5 : Memref sig .tc .hbm _ _).view.loc (c : Thread nD τ))) (s : Fin 2) (b : Fin 8) (f : Buf (Elt F) ((slotIe s).view.loc (c : Thread nD τ))) : Buf (Elt F) ((slotIe s).view.loc (c : Thread nD τ)) :=
  (slotIe s).view.writes (Elt F) f [⟨Rect.whole S512x64, ReadAs.same.apply ((blkIe b).view.read (Elt F) X)⟩]
abbrev flightIe (X : Buf (Elt F) ((Memref.whole main_arg5 : Memref sig .tc .hbm _ _).view.loc (c : Thread nD τ))) (s : Fin 2) (b : Fin 8) (f : Buf (Elt F) ((slotIe s).view.loc (c : Thread nD τ))) : sProp 𝕄 :=
  Transfers.Flight countersEmb (c : Thread nD τ) (SemLoc.dma (semIe s).sem) () 8192 iprop(slotPIe c s (landedIe c X s b f) ∗ homeIe c X b)
theorem outIe (X : Buf (Elt F) ((Memref.whole main_arg5 : Memref sig .tc .hbm _ _).view.loc (c : Thread nD τ))) (k : ℕ) (hk : k + 1 < 8) :
    bigSep (Ring.homeSet 1 k) (homeIe c X) = iprop(homeIe c X (Ring.bk 8 (k + 1)) ∗ bigSep ((Ring.homeSet 1 k).erase (Ring.bk 8 (k + 1))) (homeIe c X)) := by
  conv_lhs => rw [Ring.homeSet_out 1 k hk, bigSep_insert (Ring.bkL_not_mem_erase 1 k)]
  rfl
theorem inIe (X : Buf (Elt F) ((Memref.whole main_arg5 : Memref sig .tc .hbm _ _).view.loc (c : Thread nD τ))) (k : ℕ) (hk : k + 1 < 8) :
    bigSep (Ring.homeSet 1 (k + 1)) (homeIe c X) = iprop(homeIe c X (Ring.bk 8 k) ∗ bigSep ((Ring.homeSet 1 k).erase (Ring.bk 8 (k + 1))) (homeIe c X)) := by
  conv_lhs => rw [Ring.homeSet_succ 1 k hk, bigSep_insert (Ring.bk_not_mem_erase 1 k (by omega) (by decide))]
  rfl
theorem endIe (X : Buf (Elt F) ((Memref.whole main_arg5 : Memref sig .tc .hbm _ _).view.loc (c : Thread nD τ))) (k : ℕ) (hk : k = 7) :
    bigSep Finset.univ (homeIe c X) = iprop(homeIe c X (Ring.bk 8 k) ∗ bigSep (Ring.homeSet 1 k) (homeIe c X)) := by
  conv_lhs => rw [← Ring.homeSet_last (NB := 8) 1 (k + 1) (by omega), Ring.homeSet_succ_tail 1 k (by omega) (by omega), bigSep_insert (Ring.bk_not_mem_homeSet 1 k (by omega) (by decide))]
  rfl
/-- The pieces of the buffer before trip `k`: block `k` on its way into slot `k % 2`, the other slot and its semaphore
    free, every other block of the array home. -/
def ringIe (X : Buf (Elt F) ((Memref.whole main_arg5 : Memref sig .tc .hbm _ _).view.loc (c : Thread nD τ))) (k : ℕ) : sProp 𝕄 :=
  iprop(bigSep (Ring.homeSet 1 k) (homeIe c X) ∗ (∃ f, flightIe c X (Ring.sl 2 k) (Ring.bk 8 k) f)
    ∗ (∃ f, slotPIe c (Ring.sl 2 (k + 1)) f) ∗ cellIe c (Ring.sl 2 (k + 1)))
/-- After the last trip `k`: both slots and semaphores free, every block home. -/
def ringEndIe (X : Buf (Elt F) ((Memref.whole main_arg5 : Memref sig .tc .hbm _ _).view.loc (c : Thread nD τ))) (k : ℕ) : sProp 𝕄 :=
  iprop(bigSep Finset.univ (homeIe c X) ∗ (∃ f, slotPIe c (Ring.sl 2 k) f) ∗ (∃ f, slotPIe c (Ring.sl 2 (k + 1)) f) ∗ cellIe c (Ring.sl 2 k) ∗ cellIe c (Ring.sl 2 (k + 1)))

end Pieces

section Weights
variable (c : Dev nD)
  (arg6 : Memref sig .tc .vmem S4096x64 .bf16) (arg7 : Memref sig .tc .vmem S1x64 .f32) (arg8 : Memref sig .tc .vmem S384x64 .bf16) (arg9 : Memref sig .tc .vmem S1x64 .f32)
  (g6 : Buf (Elt F) (arg6.view.loc (c : Thread nD τ))) (g7 : Buf (Elt F) (arg7.view.loc (c : Thread nD τ)))
  (g8 : Buf (Elt F) (arg8.view.loc (c : Thread nD τ))) (g9 : Buf (Elt F) (arg9.view.loc (c : Thread nD τ)))
abbrev wI := View.readAt (Elt F) arg6.view (Rect.unit (s := S4096x64) ![0, 0] S4096x64.size inb_S4096x64_S4096x64_0_0).toLoadRect g6
abbrev bI := View.readAt (Elt F) arg7.view (Rect.unit (s := S1x64) ![0, 0] S1x64.size inb_S1x64_S1x64_0_0).toLoadRect g7
abbrev wT := View.readAt (Elt F) arg8.view (Rect.unit (s := S384x64) ![0, 0] S384x64.size inb_S384x64_S384x64_0_0).toLoadRect g8
abbrev bT := View.readAt (Elt F) arg9.view (Rect.unit (s := S1x64) ![0, 0] S1x64.size inb_S1x64_S1x64_0_0).toLoadRect g9
abbrev st6 : sProp 𝕄 := arg6.view.loc (c : Thread nD τ) ↦[arg6.view.set]{fullShare} g6
abbrev st7 : sProp 𝕄 := arg7.view.loc (c : Thread nD τ) ↦[arg7.view.set]{fullShare} g7
abbrev st8 : sProp 𝕄 := arg8.view.loc (c : Thread nD τ) ↦[arg8.view.set]{fullShare} g8
abbrev st9 : sProp 𝕄 := arg9.view.loc (c : Thread nD τ) ↦[arg9.view.set]{fullShare} g9
end Weights

/-- Block `k` of what the pipeline stores in scratch array 20. -/
def outA_20 (c : Dev nD) (wI : S4096x64.Idx → Elt F .bf16) (wT : S384x64.Idx → Elt F .bf16) (bI : S1x64.Idx → Elt F .f32) (bT : S1x64.Idx → Elt F .f32) (XImg : Buf (Elt F) ((Memref.whole main_arg2 : Memref sig .tc .hbm _ _).view.loc (c : Thread nD τ))) (XTxt : Buf (Elt F) ((Memref.whole main_arg3 : Memref sig .tc .hbm _ _).view.loc (c : Thread nD τ))) (XIe : Buf (Elt F) ((Memref.whole main_arg5 : Memref sig .tc .hbm _ _).view.loc (c : Thread nD τ))) (k : ℕ) : S512x192.Idx → Elt F .bf16 :=
  valA_20 ((blkImg (Ring.bk 8 k)).view.read (Elt F) XImg) wI ((blkTxt (Ring.bk 8 k)).view.read (Elt F) XTxt) wT bI bT ((blkIe (Ring.bk 8 k)).view.read (Elt F) XIe)

section Trip
variable (c : Dev nD)
  (arg6 : Memref sig .tc .vmem S4096x64 .bf16) (harg6 : arg6.IsWhole) (arg7 : Memref sig .tc .vmem S1x64 .f32) (harg7 : arg7.IsWhole)
  (arg8 : Memref sig .tc .vmem S384x64 .bf16) (harg8 : arg8.IsWhole) (arg9 : Memref sig .tc .vmem S1x64 .f32) (harg9 : arg9.IsWhole)
  (v22 c0 : BitVec 32)
  (g6 : Buf (Elt F) (arg6.view.loc (c : Thread nD τ))) (g7 : Buf (Elt F) (arg7.view.loc (c : Thread nD τ)))
  (g8 : Buf (Elt F) (arg8.view.loc (c : Thread nD τ))) (g9 : Buf (Elt F) (arg9.view.loc (c : Thread nD τ)))
  (XImg : Buf (Elt F) ((Memref.whole main_arg2 : Memref sig .tc .hbm _ _).view.loc (c : Thread nD τ)))
  (XTxt : Buf (Elt F) ((Memref.whole main_arg3 : Memref sig .tc .hbm _ _).view.loc (c : Thread nD τ)))
  (XIe : Buf (Elt F) ((Memref.whole main_arg5 : Memref sig .tc .hbm _ _).view.loc (c : Thread nD τ)))

/-- Scratch array 20 with its first `k` blocks stored. -/
def scrA20 (k : ℕ) : sProp 𝕄 :=
  iprop(∃ f, ⌜UpTo (W := 512) (R := 4096) (D := 192) (by decide) a20.view (outA_20 c (wI c arg6 g6) (wT c arg8 g8) (bI c arg7 g7) (bT c arg9 g9) XImg XTxt XIe) k f⌝ ∗ own20 c f)
theorem scrA20_end (k : ℕ) (hk : k = 8) :
    scrA20 c arg6 arg7 arg8 arg9 g6 g7 g8 g9 XImg XTxt XIe k ⊢ own20 c (stack (W := 512) (R := 4096) (D := 192) (by decide) (outA_20 c (wI c arg6 g6) (wT c arg8 g8) (bI c arg7 g7) (bT c arg9 g9) XImg XTxt XIe) : S4096x192.Idx → Elt F .bf16) := by
  subst hk
  unfold scrA20
  iintro ⟨%f, %hU, H⟩
  have e : f = (stack (W := 512) (R := 4096) (D := 192) (by decide) (outA_20 c (wI c arg6 g6) (wT c arg8 g8) (bI c arg7 g7) (bT c arg9 g9) XImg XTxt XIe) : S4096x192.Idx → Elt F .bf16) := upTo_all (by decide) _ _ 8 (by decide) f hU
  subst e
  iexact H

def accA (k : ℕ) : BitVec 32 × BitVec 32 × BitVec 32 × BitVec 32 × BitVec 32 × BitVec 32 × BitVec 32 :=
  (w32 (k + 1), w32 k, w32 (k + 1), w32 k, w32 (k + 1), w32 k, w32 k)
/-- The loop's words between its trips. -/
def outAw (k : ℕ) : BitVec 32 × BitVec 32 × BitVec 32 × BitVec 32 × BitVec 32 × BitVec 32 × BitVec 32 :=
  (w32 (min (k + 1) 8), w32 k, w32 (min (k + 1) 8), w32 k, w32 (min (k + 1) 8), w32 k, w32 (k % 8))
abbrev tripA (k : T1) (acc : BitVec 32 × BitVec 32 × BitVec 32 × BitVec 32 × BitVec 32 × BitVec 32 × BitVec 32) :=
  k0_t1_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg6 harg6 arg7 harg7 arg8 harg8 arg9 harg9 (Memref.whole main_v6) (Memref.isWhole_whole _) (Memref.whole main_v13) (Memref.isWhole_whole _) (Memref.whole main_v22_0) (Memref.isWhole_whole _) (Memref.whole main_v22_1) (Memref.isWhole_whole _) (Memref.whole main_v22_2) (Memref.isWhole_whole _) (Memref.whole main_v22_3) (Memref.isWhole_whole _) (Memref.whole main_v22_4) (Memref.isWhole_whole _) (Memref.whole main_v22_5) (Memref.isWhole_whole _) (Memref.whole main_v22_6) (Memref.isWhole_whole _) (Memref.whole main_v22_7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 (Memref.whole cc0_scoped20) (Memref.isWhole_whole _) cc0_scoped21 (Memref.whole cc0_scoped22) (Memref.isWhole_whole _) cc0_scoped23 (Memref.whole cc0_scoped24) (Memref.isWhole_whole _) cc0_scoped25 (Memref.whole cc0_scoped26) (Memref.isWhole_whole _) cc0_scoped27 (Memref.whole cc0_scoped28) (Memref.isWhole_whole _) cc0_scoped29 (Memref.whole cc0_scoped30) (Memref.isWhole_whole _) cc0_scoped31 (Memref.whole cc0_scoped32) (Memref.isWhole_whole _) cc0_scoped33 (Memref.whole cc0_scoped34) (Memref.isWhole_whole _) cc0_scoped35 (Memref.whole cc0_scoped36) (Memref.isWhole_whole _) cc0_scoped37 v22 c0 k acc

set_option maxHeartbeats 4000000 in
theorem runA_mid (k : T1) (hk0 : k.val < 7) :
    iprop(st6 c arg6 g6 ∗ st7 c arg7 g7 ∗ st8 c arg8 g8 ∗ st9 c arg9 g9 ∗ scrA20 c arg6 arg7 arg8 arg9 g6 g7 g8 g9 XImg XTxt XIe k ∗ (∃ W, owes (c : Thread nD τ) 0 W) ∗ ringImg c XImg k ∗ ringTxt c XTxt k ∗ ringIe c XIe k)
      ⊢ wp frame (wpE (defs₀ (F := F)) 𝒱₀ (c : Thread nD τ) none) Set.univ (tripA arg6 harg6 arg7 harg7 arg8 harg8 arg9 harg9 v22 c0 k (accA k))
        (fun acc => iprop(⌜acc = outAw (k.val + 1)⌝ ∗ st6 c arg6 g6 ∗ st7 c arg7 g7 ∗ st8 c arg8 g8 ∗ st9 c arg9 g9 ∗ scrA20 c arg6 arg7 arg8 arg9 g6 g7 g8 g9 XImg XTxt XIe (k + 1) ∗ (∃ W, owes (c : Thread nD τ) 0 W) ∗ ringImg c XImg (k + 1) ∗ ringTxt c XTxt (k + 1) ∗ ringIe c XIe (k + 1))) := by
  have hlt : k.val < 8 := k.isLt
  have hk : k.val < 7 := by omega
  have hk8 : k.val + 1 < 8 := by omega
  have h1 := cond1_pos k hk
  have h2 := cond2_pos k hk
  have h3 := cond3_pos k hk
  have h4 := cond4_pos k
  have h5 := cond5_pos k
  have h6 := cond6_pos k
  have c4 := chk4_ok k
  have c3 := chk3_ok k
  have c2 := chk2_ok k
  have c1 := chk1_ok k
  unfold ringImg ringTxt ringIe scrA20
  rw [outImg c XImg k hk8, inImg c XImg k hk8]
  rw [outTxt c XTxt k hk8, inTxt c XTxt k hk8]
  rw [outIe c XIe k hk8, inIe c XIe k hk8]
  rw [Ring.sl_add]
  iintro ⟨H6, H7, H8, H9, ⟨%f20, %hU20, H20⟩, ⟨%W, HW⟩, ⟨⟨HbImg, HrImg⟩, ⟨%fImg, HFImg⟩, ⟨%sImg, HsImg⟩, HcImg⟩, ⟨⟨HbTxt, HrTxt⟩, ⟨%fTxt, HFTxt⟩, ⟨%sTxt, HsTxt⟩, HcTxt⟩, ⟨⟨HbIe, HrIe⟩, ⟨%fIe, HFIe⟩, ⟨%sIe, HsIe⟩, HcIe⟩⟩
  dsimp only [tripA, accA]
  sl_unfold [k0_t1_body]
  sl_exec_parts
  sl_step
  isplitr
  · ipureintro; clear * - k; unfold outAw; refine Prod.ext ?_ (Prod.ext ?_ (Prod.ext ?_ (Prod.ext ?_ (Prod.ext ?_ (Prod.ext ?_ ?_))))) <;> (revert k; decide)
  isplitl [H6]
  · iexact H6
  isplitl [H7]
  · iexact H7
  isplitl [H8]
  · iexact H8
  isplitl [H9]
  · iexact H9
  isplitl [H20]
  · iexists _
    isplitr
    rotate_left
    · iexact H20
    · ipureintro; exact upTo_succ (by decide) a20.view _ k.val f20 _ (off26_eq k) (valA_20 (shapeCast S512x4096 (View.readAt (Elt F) (Memref.whole cc0_scoped0 : Memref sig .tc .vmem S2x512x4096 .f32).view (Rect.unit (s := S2x512x4096) (k0_off23 (w32 k.val)) S1x512x4096.size (by rw [off23_eq k]; exact slotInbImg _)).toLoadRect ((slotImg (Ring.sl 2 k.val)).view.writes (Elt F) (slotImg (Ring.sl 2 k.val)).view.junk [⟨Rect.whole S512x4096, (blkImg (Ring.bk 8 k.val)).view.read (Elt F) XImg⟩])) shapeCasts_S1x512x4096_S512x4096) (wI c arg6 g6) (shapeCast S512x384 (View.readAt (Elt F) (Memref.whole cc0_scoped2 : Memref sig .tc .vmem S2x512x384 .f32).view (Rect.unit (s := S2x512x384) (k0_off24 (w32 k.val)) S1x512x384.size (by rw [off24_eq k]; exact slotInbTxt _)).toLoadRect ((slotTxt (Ring.sl 2 k.val)).view.writes (Elt F) (slotTxt (Ring.sl 2 k.val)).view.junk [⟨Rect.whole S512x384, (blkTxt (Ring.bk 8 k.val)).view.read (Elt F) XTxt⟩])) shapeCasts_S1x512x384_S512x384) (wT c arg8 g8) (bI c arg7 g7) (bT c arg9 g9) (shapeCast S512x64 (View.readAt (Elt F) (Memref.whole cc0_scoped4 : Memref sig .tc .vmem S2x512x64 .f32).view (Rect.unit (s := S2x512x64) (k0_off25 (w32 k.val)) S1x512x64.size (by rw [off25_eq k]; exact slotInbIe _)).toLoadRect ((slotIe (Ring.sl 2 k.val)).view.writes (Elt F) (slotIe (Ring.sl 2 k.val)).view.junk [⟨Rect.whole S512x64, (blkIe (Ring.bk 8 k.val)).view.read (Elt F) XIe⟩])) shapeCasts_S1x512x64_S512x64)) (by unfold outA_20; rw [loadImg (Ring.sl 2 k.val) (off23_eq k), loadTxt (Ring.sl 2 k.val) (off24_eq k), loadIe (Ring.sl 2 k.val) (off25_eq k)]) hU20
  isplitl [HW]
  · iexists _; iexact HW
  isplitl [HrImg HFImg_src HFImg_dst HFImg HcImg]
  · isplitl [HFImg_src HrImg]
    · isplitl [HFImg_src]; · iexact HFImg_src
      iexact HrImg
    isplitl [HcImg]; · iexists sImg; iexact HcImg
    isplitl [HFImg_dst]; · iexists _; iexact HFImg_dst
    iexact HFImg
  isplitl [HrTxt HFTxt_src HFTxt_dst HFTxt HcTxt]
  · isplitl [HFTxt_src HrTxt]
    · isplitl [HFTxt_src]; · iexact HFTxt_src
      iexact HrTxt
    isplitl [HcTxt]; · iexists sTxt; iexact HcTxt
    isplitl [HFTxt_dst]; · iexists _; iexact HFTxt_dst
    iexact HFTxt
  isplitl [HFIe_src HrIe]
  · isplitl [HFIe_src]; · iexact HFIe_src
    iexact HrIe
  isplitl [HcIe]; · iexists sIe; iexact HcIe
  isplitl [HFIe_dst]; · iexists _; iexact HFIe_dst
  iexact HFIe

set_option maxHeartbeats 4000000 in
theorem runA_last (k : T1) (hk0 : ¬ k.val < 7) :
    iprop(st6 c arg6 g6 ∗ st7 c arg7 g7 ∗ st8 c arg8 g8 ∗ st9 c arg9 g9 ∗ scrA20 c arg6 arg7 arg8 arg9 g6 g7 g8 g9 XImg XTxt XIe k ∗ (∃ W, owes (c : Thread nD τ) 0 W) ∗ ringImg c XImg k ∗ ringTxt c XTxt k ∗ ringIe c XIe k)
      ⊢ wp frame (wpE (defs₀ (F := F)) 𝒱₀ (c : Thread nD τ) none) Set.univ (tripA arg6 harg6 arg7 harg7 arg8 harg8 arg9 harg9 v22 c0 k (accA k))
        (fun acc => iprop(⌜acc = outAw (k.val + 1)⌝ ∗ st6 c arg6 g6 ∗ st7 c arg7 g7 ∗ st8 c arg8 g8 ∗ st9 c arg9 g9 ∗ scrA20 c arg6 arg7 arg8 arg9 g6 g7 g8 g9 XImg XTxt XIe (k + 1) ∗ (∃ W, owes (c : Thread nD τ) 0 W) ∗ ringEndImg c XImg k ∗ ringEndTxt c XTxt k ∗ ringEndIe c XIe k)) := by
  have hlt : k.val < 8 := k.isLt
  have hkl : k.val = 7 := by omega
  have hk : ¬ k.val < 7 := hk0
  have h1 := cond1_neg k hk
  have h2 := cond2_neg k hk
  have h3 := cond3_neg k hk
  have h4 := cond4_pos k
  have h5 := cond5_pos k
  have h6 := cond6_pos k
  have c4 := chk4_ok k
  have c3 := chk3_ok k
  have c2 := chk2_ok k
  have c1 := chk1_ok k
  unfold ringImg ringTxt ringIe scrA20 ringEndImg ringEndTxt ringEndIe
  rw [endImg c XImg k hkl]
  rw [endTxt c XTxt k hkl]
  rw [endIe c XIe k hkl]
  iintro ⟨H6, H7, H8, H9, ⟨%f20, %hU20, H20⟩, ⟨%W, HW⟩, ⟨HrImg, ⟨%fImg, HFImg⟩, ⟨%sImg, HsImg⟩, HcImg⟩, ⟨HrTxt, ⟨%fTxt, HFTxt⟩, ⟨%sTxt, HsTxt⟩, HcTxt⟩, ⟨HrIe, ⟨%fIe, HFIe⟩, ⟨%sIe, HsIe⟩, HcIe⟩⟩
  dsimp only [tripA, accA]
  sl_unfold [k0_t1_body]
  sl_exec_parts
  sl_step
  isplitr
  · ipureintro; clear * - k; unfold outAw; refine Prod.ext ?_ (Prod.ext ?_ (Prod.ext ?_ (Prod.ext ?_ (Prod.ext ?_ (Prod.ext ?_ ?_))))) <;> (revert k; decide)
  isplitl [H6]
  · iexact H6
  isplitl [H7]
  · iexact H7
  isplitl [H8]
  · iexact H8
  isplitl [H9]
  · iexact H9
  isplitl [H20]
  · iexists _
    isplitr
    rotate_left
    · iexact H20
    · ipureintro; exact upTo_succ (by decide) a20.view _ k.val f20 _ (off26_eq k) (valA_20 (shapeCast S512x4096 (View.readAt (Elt F) (Memref.whole cc0_scoped0 : Memref sig .tc .vmem S2x512x4096 .f32).view (Rect.unit (s := S2x512x4096) (k0_off23 (w32 k.val)) S1x512x4096.size (by rw [off23_eq k]; exact slotInbImg _)).toLoadRect ((slotImg (Ring.sl 2 k.val)).view.writes (Elt F) (slotImg (Ring.sl 2 k.val)).view.junk [⟨Rect.whole S512x4096, (blkImg (Ring.bk 8 k.val)).view.read (Elt F) XImg⟩])) shapeCasts_S1x512x4096_S512x4096) (wI c arg6 g6) (shapeCast S512x384 (View.readAt (Elt F) (Memref.whole cc0_scoped2 : Memref sig .tc .vmem S2x512x384 .f32).view (Rect.unit (s := S2x512x384) (k0_off24 (w32 k.val)) S1x512x384.size (by rw [off24_eq k]; exact slotInbTxt _)).toLoadRect ((slotTxt (Ring.sl 2 k.val)).view.writes (Elt F) (slotTxt (Ring.sl 2 k.val)).view.junk [⟨Rect.whole S512x384, (blkTxt (Ring.bk 8 k.val)).view.read (Elt F) XTxt⟩])) shapeCasts_S1x512x384_S512x384) (wT c arg8 g8) (bI c arg7 g7) (bT c arg9 g9) (shapeCast S512x64 (View.readAt (Elt F) (Memref.whole cc0_scoped4 : Memref sig .tc .vmem S2x512x64 .f32).view (Rect.unit (s := S2x512x64) (k0_off25 (w32 k.val)) S1x512x64.size (by rw [off25_eq k]; exact slotInbIe _)).toLoadRect ((slotIe (Ring.sl 2 k.val)).view.writes (Elt F) (slotIe (Ring.sl 2 k.val)).view.junk [⟨Rect.whole S512x64, (blkIe (Ring.bk 8 k.val)).view.read (Elt F) XIe⟩])) shapeCasts_S1x512x64_S512x64)) (by unfold outA_20; rw [loadImg (Ring.sl 2 k.val) (off23_eq k), loadTxt (Ring.sl 2 k.val) (off24_eq k), loadIe (Ring.sl 2 k.val) (off25_eq k)]) hU20
  isplitl [HW]
  · iexists _; iexact HW
  isplitl [HrImg HFImg_src HFImg_dst HFImg HcImg HsImg]
  · isplitl [HFImg_src HrImg]
    · isplitl [HFImg_src]; · iexact HFImg_src
      iexact HrImg
    isplitl [HFImg_dst]; · iexists _; iexact HFImg_dst
    isplitl [HsImg]; · iexists _; iexact HsImg
    isplitl [HFImg]; · iexact HFImg
    iexact HcImg
  isplitl [HrTxt HFTxt_src HFTxt_dst HFTxt HcTxt HsTxt]
  · isplitl [HFTxt_src HrTxt]
    · isplitl [HFTxt_src]; · iexact HFTxt_src
      iexact HrTxt
    isplitl [HFTxt_dst]; · iexists _; iexact HFTxt_dst
    isplitl [HsTxt]; · iexists _; iexact HsTxt
    isplitl [HFTxt]; · iexact HFTxt
    iexact HcTxt
  isplitl [HFIe_src HrIe]
  · isplitl [HFIe_src]; · iexact HFIe_src
    iexact HrIe
  isplitl [HFIe_dst]; · iexists _; iexact HFIe_dst
  isplitl [HsIe]; · iexists _; iexact HsIe
  isplitl [HFIe]; · iexact HFIe
  iexact HcIe

end Trip

end Cert.Proof.KI

end
-- ==== Proof.KI.LoopA.lean ====
/-
  Pipeline A as a whole: what holds between its trips, how it is entered and what it leaves.
-/
module

public import proofs.«01_k».proof.Proof.KI.A

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

/-- Both slots and both semaphores free. -/
def freeImg (c : Dev nD) : sProp 𝕄 :=
  iprop((∃ f, slotPImg c (Ring.sl 2 0) f) ∗ (∃ f, slotPImg c (Ring.sl 2 1) f) ∗ cellImg (F := F) c (Ring.sl 2 0) ∗ cellImg (F := F) c (Ring.sl 2 1))
theorem openImg (c : Dev nD) (X : Buf (Elt F) ((Memref.whole main_arg2 : Memref sig .tc .hbm _ _).view.loc (c : Thread nD τ))) :
    iprop(bigSep Finset.univ (homeImg c X) ∗ freeImg (F := F) c) ⊢ iprop(homeImg c X (Ring.bk 8 0) ∗ bigSep (Ring.homeSet 1 0) (homeImg c X)
      ∗ (∃ f, slotPImg c (Ring.sl 2 0) f) ∗ (∃ f, slotPImg c (Ring.sl 2 1) f) ∗ cellImg (F := F) c (Ring.sl 2 0) ∗ cellImg (F := F) c (Ring.sl 2 1)) := by
  have e : (Finset.univ : Finset (Fin 8)) = insert (Ring.bk 8 0) (Ring.homeSet (NB := 8) 1 0) := by decide
  have e' : bigSep Finset.univ (homeImg c X) = iprop(homeImg c X (Ring.bk 8 0) ∗ bigSep (Ring.homeSet 1 0) (homeImg c X)) := by
    rw [e, bigSep_insert (by decide)]; rfl
  unfold freeImg
  rw [e']
  iintro ⟨⟨H1, H2⟩, H3, H4, H5, H6⟩
  isplitl [H1]
  · iexact H1
  isplitl [H2]
  · iexact H2
  isplitl [H3]
  · iexact H3
  isplitl [H4]
  · iexact H4
  isplitl [H5]
  · iexact H5
  · iexact H6
theorem ringInImg (c : Dev nD) (X : Buf (Elt F) ((Memref.whole main_arg2 : Memref sig .tc .hbm _ _).view.loc (c : Thread nD τ))) :
    iprop(bigSep (Ring.homeSet 1 0) (homeImg c X) ∗ (∃ f, flightImg c X (Ring.sl 2 0) (Ring.bk 8 0) f)
      ∗ (∃ f, slotPImg c (Ring.sl 2 1) f) ∗ cellImg (F := F) c (Ring.sl 2 1)) ⊢ ringImg c X 0 := by
  unfold ringImg; exact .rfl
theorem ringOutImg (c : Dev nD) (X : Buf (Elt F) ((Memref.whole main_arg2 : Memref sig .tc .hbm _ _).view.loc (c : Thread nD τ))) :
    ringEndImg c X 7 ⊢ iprop(bigSep Finset.univ (homeImg c X) ∗ freeImg (F := F) c) := by
  unfold ringEndImg freeImg
  rw [show Ring.sl 2 7 = Ring.sl 2 1 from rfl, show Ring.sl 2 (7 + 1) = Ring.sl 2 0 from rfl]
  iintro ⟨H1, H2, H3, H4, H5⟩
  isplitl [H1]
  · iexact H1
  isplitl [H3]
  · iexact H3
  isplitl [H2]
  · iexact H2
  isplitl [H5]
  · iexact H5
  · iexact H4

/-- Both slots and both semaphores free. -/
def freeTxt (c : Dev nD) : sProp 𝕄 :=
  iprop((∃ f, slotPTxt c (Ring.sl 2 0) f) ∗ (∃ f, slotPTxt c (Ring.sl 2 1) f) ∗ cellTxt (F := F) c (Ring.sl 2 0) ∗ cellTxt (F := F) c (Ring.sl 2 1))
theorem openTxt (c : Dev nD) (X : Buf (Elt F) ((Memref.whole main_arg3 : Memref sig .tc .hbm _ _).view.loc (c : Thread nD τ))) :
    iprop(bigSep Finset.univ (homeTxt c X) ∗ freeTxt (F := F) c) ⊢ iprop(homeTxt c X (Ring.bk 8 0) ∗ bigSep (Ring.homeSet 1 0) (homeTxt c X)
      ∗ (∃ f, slotPTxt c (Ring.sl 2 0) f) ∗ (∃ f, slotPTxt c (Ring.sl 2 1) f) ∗ cellTxt (F := F) c (Ring.sl 2 0) ∗ cellTxt (F := F) c (Ring.sl 2 1)) := by
  have e : (Finset.univ : Finset (Fin 8)) = insert (Ring.bk 8 0) (Ring.homeSet (NB := 8) 1 0) := by decide
  have e' : bigSep Finset.univ (homeTxt c X) = iprop(homeTxt c X (Ring.bk 8 0) ∗ bigSep (Ring.homeSet 1 0) (homeTxt c X)) := by
    rw [e, bigSep_insert (by decide)]; rfl
  unfold freeTxt
  rw [e']
  iintro ⟨⟨H1, H2⟩, H3, H4, H5, H6⟩
  isplitl [H1]
  · iexact H1
  isplitl [H2]
  · iexact H2
  isplitl [H3]
  · iexact H3
  isplitl [H4]
  · iexact H4
  isplitl [H5]
  · iexact H5
  · iexact H6
theorem ringInTxt (c : Dev nD) (X : Buf (Elt F) ((Memref.whole main_arg3 : Memref sig .tc .hbm _ _).view.loc (c : Thread nD τ))) :
    iprop(bigSep (Ring.homeSet 1 0) (homeTxt c X) ∗ (∃ f, flightTxt c X (Ring.sl 2 0) (Ring.bk 8 0) f)
      ∗ (∃ f, slotPTxt c (Ring.sl 2 1) f) ∗ cellTxt (F := F) c (Ring.sl 2 1)) ⊢ ringTxt c X 0 := by
  unfold ringTxt; exact .rfl
theorem ringOutTxt (c : Dev nD) (X : Buf (Elt F) ((Memref.whole main_arg3 : Memref sig .tc .hbm _ _).view.loc (c : Thread nD τ))) :
    ringEndTxt c X 7 ⊢ iprop(bigSep Finset.univ (homeTxt c X) ∗ freeTxt (F := F) c) := by
  unfold ringEndTxt freeTxt
  rw [show Ring.sl 2 7 = Ring.sl 2 1 from rfl, show Ring.sl 2 (7 + 1) = Ring.sl 2 0 from rfl]
  iintro ⟨H1, H2, H3, H4, H5⟩
  isplitl [H1]
  · iexact H1
  isplitl [H3]
  · iexact H3
  isplitl [H2]
  · iexact H2
  isplitl [H5]
  · iexact H5
  · iexact H4

/-- Both slots and both semaphores free. -/
def freeIe (c : Dev nD) : sProp 𝕄 :=
  iprop((∃ f, slotPIe c (Ring.sl 2 0) f) ∗ (∃ f, slotPIe c (Ring.sl 2 1) f) ∗ cellIe (F := F) c (Ring.sl 2 0) ∗ cellIe (F := F) c (Ring.sl 2 1))
theorem openIe (c : Dev nD) (X : Buf (Elt F) ((Memref.whole main_arg5 : Memref sig .tc .hbm _ _).view.loc (c : Thread nD τ))) :
    iprop(bigSep Finset.univ (homeIe c X) ∗ freeIe (F := F) c) ⊢ iprop(homeIe c X (Ring.bk 8 0) ∗ bigSep (Ring.homeSet 1 0) (homeIe c X)
      ∗ (∃ f, slotPIe c (Ring.sl 2 0) f) ∗ (∃ f, slotPIe c (Ring.sl 2 1) f) ∗ cellIe (F := F) c (Ring.sl 2 0) ∗ cellIe (F := F) c (Ring.sl 2 1)) := by
  have e : (Finset.univ : Finset (Fin 8)) = insert (Ring.bk 8 0) (Ring.homeSet (NB := 8) 1 0) := by decide
  have e' : bigSep Finset.univ (homeIe c X) = iprop(homeIe c X (Ring.bk 8 0) ∗ bigSep (Ring.homeSet 1 0) (homeIe c X)) := by
    rw [e, bigSep_insert (by decide)]; rfl
  unfold freeIe
  rw [e']
  iintro ⟨⟨H1, H2⟩, H3, H4, H5, H6⟩
  isplitl [H1]
  · iexact H1
  isplitl [H2]
  · iexact H2
  isplitl [H3]
  · iexact H3
  isplitl [H4]
  · iexact H4
  isplitl [H5]
  · iexact H5
  · iexact H6
theorem ringInIe (c : Dev nD) (X : Buf (Elt F) ((Memref.whole main_arg5 : Memref sig .tc .hbm _ _).view.loc (c : Thread nD τ))) :
    iprop(bigSep (Ring.homeSet 1 0) (homeIe c X) ∗ (∃ f, flightIe c X (Ring.sl 2 0) (Ring.bk 8 0) f)
      ∗ (∃ f, slotPIe c (Ring.sl 2 1) f) ∗ cellIe (F := F) c (Ring.sl 2 1)) ⊢ ringIe c X 0 := by
  unfold ringIe; exact .rfl
theorem ringOutIe (c : Dev nD) (X : Buf (Elt F) ((Memref.whole main_arg5 : Memref sig .tc .hbm _ _).view.loc (c : Thread nD τ))) :
    ringEndIe c X 7 ⊢ iprop(bigSep Finset.univ (homeIe c X) ∗ freeIe (F := F) c) := by
  unfold ringEndIe freeIe
  rw [show Ring.sl 2 7 = Ring.sl 2 1 from rfl, show Ring.sl 2 (7 + 1) = Ring.sl 2 0 from rfl]
  iintro ⟨H1, H2, H3, H4, H5⟩
  isplitl [H1]
  · iexact H1
  isplitl [H3]
  · iexact H3
  isplitl [H2]
  · iexact H2
  isplitl [H5]
  · iexact H5
  · iexact H4

section Loop
variable (c : Dev nD)
  (arg6 : Memref sig .tc .vmem S4096x64 .bf16) (arg7 : Memref sig .tc .vmem S1x64 .f32) (arg8 : Memref sig .tc .vmem S384x64 .bf16) (arg9 : Memref sig .tc .vmem S1x64 .f32)
  (g6 : Buf (Elt F) (arg6.view.loc (c : Thread nD τ))) (g7 : Buf (Elt F) (arg7.view.loc (c : Thread nD τ)))
  (g8 : Buf (Elt F) (arg8.view.loc (c : Thread nD τ))) (g9 : Buf (Elt F) (arg9.view.loc (c : Thread nD τ)))
  (XImg : Buf (Elt F) ((Memref.whole main_arg2 : Memref sig .tc .hbm _ _).view.loc (c : Thread nD τ)))
  (XTxt : Buf (Elt F) ((Memref.whole main_arg3 : Memref sig .tc .hbm _ _).view.loc (c : Thread nD τ)))
  (XIe : Buf (Elt F) ((Memref.whole main_arg5 : Memref sig .tc .hbm _ _).view.loc (c : Thread nD τ)))

/-- The pipeline's buffers before trip `k`. -/
def ringsA (k : ℕ) : sProp 𝕄 := if k < 8 then iprop(ringImg c XImg k ∗ ringTxt c XTxt k ∗ ringIe c XIe k) else iprop(ringEndImg c XImg 7 ∗ ringEndTxt c XTxt 7 ∗ ringEndIe c XIe 7)
/-- What holds between the trips. -/
def invA (k : ℕ) (acc : BitVec 32 × BitVec 32 × BitVec 32 × BitVec 32 × BitVec 32 × BitVec 32 × BitVec 32) : sProp 𝕄 :=
  iprop(⌜acc = outAw k⌝ ∗ st6 c arg6 g6 ∗ st7 c arg7 g7 ∗ st8 c arg8 g8 ∗ st9 c arg9 g9 ∗ scrA20 c arg6 arg7 arg8 arg9 g6 g7 g8 g9 XImg XTxt XIe k ∗ (∃ W, owes (c : Thread nD τ) 0 W) ∗ ringsA c XImg XTxt XIe k)
theorem wordsA : ∀ k : T1, outAw k.val = accA k.val := by
  intro k; unfold outAw accA
  refine Prod.ext ?_ (Prod.ext ?_ (Prod.ext ?_ (Prod.ext ?_ (Prod.ext ?_ (Prod.ext ?_ ?_))))) <;> (revert k; decide)

section
variable
  (harg6 : arg6.IsWhole) (harg7 : arg7.IsWhole) (harg8 : arg8.IsWhole) (harg9 : arg9.IsWhole)  (v22 c0 : BitVec 32)
theorem tripA_step (k : T1) :
    iprop(st6 c arg6 g6 ∗ st7 c arg7 g7 ∗ st8 c arg8 g8 ∗ st9 c arg9 g9 ∗ scrA20 c arg6 arg7 arg8 arg9 g6 g7 g8 g9 XImg XTxt XIe k.val ∗ (∃ W, owes (c : Thread nD τ) 0 W) ∗ ringsA c XImg XTxt XIe k.val)
      ⊢ wp frame (wpE (defs₀ (F := F)) 𝒱₀ (c : Thread nD τ) none) Set.univ (tripA arg6 harg6 arg7 harg7 arg8 harg8 arg9 harg9 v22 c0 k (accA k))
        (fun acc => iprop(⌜acc = outAw (k.val + 1)⌝ ∗ st6 c arg6 g6 ∗ st7 c arg7 g7 ∗ st8 c arg8 g8 ∗ st9 c arg9 g9 ∗ scrA20 c arg6 arg7 arg8 arg9 g6 g7 g8 g9 XImg XTxt XIe (k.val + 1) ∗ (∃ W, owes (c : Thread nD τ) 0 W) ∗ ringsA c XImg XTxt XIe (k.val + 1))) := by
  have hlt : k.val < 8 := k.isLt
  by_cases h : k.val < 7
  · have e0 : ringsA c XImg XTxt XIe k.val = iprop(ringImg c XImg k.val ∗ ringTxt c XTxt k.val ∗ ringIe c XIe k.val) := if_pos hlt
    have e1 : ringsA c XImg XTxt XIe (k.val + 1) = iprop(ringImg c XImg (k.val + 1) ∗ ringTxt c XTxt (k.val + 1) ∗ ringIe c XIe (k.val + 1)) := (if_pos (by omega))
    rw [e0, e1]
    exact runA_mid c arg6 harg6 arg7 harg7 arg8 harg8 arg9 harg9 v22 c0 g6 g7 g8 g9 XImg XTxt XIe k h
  · have e0 : ringsA c XImg XTxt XIe k.val = iprop(ringImg c XImg k.val ∗ ringTxt c XTxt k.val ∗ ringIe c XIe k.val) := if_pos hlt
    have hkl : k.val = 7 := by omega
    have e1 : ringsA c XImg XTxt XIe (k.val + 1) = iprop(ringEndImg c XImg k.val ∗ ringEndTxt c XTxt k.val ∗ ringEndIe c XIe k.val) := by rw [hkl]; exact (if_neg (by decide))
    rw [e0, e1]
    exact runA_last c arg6 harg6 arg7 harg7 arg8 harg8 arg9 harg9 v22 c0 g6 g7 g8 g9 XImg XTxt XIe k h
/-- A trip keeps what holds between the trips. -/
theorem stepA (k : T1) (acc : BitVec 32 × BitVec 32 × BitVec 32 × BitVec 32 × BitVec 32 × BitVec 32 × BitVec 32) :
    invA c arg6 arg7 arg8 arg9 g6 g7 g8 g9 XImg XTxt XIe k.val acc
      ⊢ wp frame (wpE (defs₀ (F := F)) 𝒱₀ (c : Thread nD τ) none) Set.univ (tripA arg6 harg6 arg7 harg7 arg8 harg8 arg9 harg9 v22 c0 k acc)
        (invA c arg6 arg7 arg8 arg9 g6 g7 g8 g9 XImg XTxt XIe (k.val + 1)) := by
  unfold invA
  iintro ⟨%e, H⟩
  subst e
  rw [wordsA k]
  iapply (tripA_step c arg6 arg7 arg8 arg9 g6 g7 g8 g9 XImg XTxt XIe harg6 harg7 harg8 harg9 v22 c0 k)
  iexact H
end

theorem enterA :
    iprop(st6 c arg6 g6 ∗ st7 c arg7 g7 ∗ st8 c arg8 g8 ∗ st9 c arg9 g9 ∗ (∃ f, own20 (F := F) c f) ∗ (∃ W, owes (c : Thread nD τ) 0 W) ∗ ringImg c XImg 0 ∗ ringTxt c XTxt 0 ∗ ringIe c XIe 0) ⊢ invA c arg6 arg7 arg8 arg9 g6 g7 g8 g9 XImg XTxt XIe 0 (1#32, 0#32, 1#32, 0#32, 1#32, 0#32, 0#32) := by
  have e0 : ringsA c XImg XTxt XIe 0 = iprop(ringImg c XImg 0 ∗ ringTxt c XTxt 0 ∗ ringIe c XIe 0) := if_pos (by decide)
  unfold invA
  rw [e0]
  iintro ⟨S0, S1, S2, S3, N20, HW, RImg, RTxt, RIe⟩
  isplitr
  · ipureintro; rfl
  isplitl [S0]
  · iexact S0
  isplitl [S1]
  · iexact S1
  isplitl [S2]
  · iexact S2
  isplitl [S3]
  · iexact S3
  isplitl [N20]
  · unfold scrA20; icases N20 with ⟨%f, N⟩; iexists f; isplitr
    · ipureintro; exact upTo_zero (by decide) _ _ _
    · iexact N
  isplitl [HW]
  · iexact HW
  isplitl [RImg]
  · iexact RImg
  isplitl [RTxt]
  · iexact RTxt
  · iexact RIe

theorem exitA (n : ℕ) (hn : n = 8) (acc : BitVec 32 × BitVec 32 × BitVec 32 × BitVec 32 × BitVec 32 × BitVec 32 × BitVec 32) :
    invA c arg6 arg7 arg8 arg9 g6 g7 g8 g9 XImg XTxt XIe n acc ⊢ iprop(⌜acc = (8#32, 8#32, 8#32, 8#32, 8#32, 8#32, 0#32)⌝ ∗ st6 c arg6 g6 ∗ st7 c arg7 g7 ∗ st8 c arg8 g8 ∗ st9 c arg9 g9 ∗ own20 c (stack (W := 512) (R := 4096) (D := 192) (by decide) (outA_20 c (wI c arg6 g6) (wT c arg8 g8) (bI c arg7 g7) (bT c arg9 g9) XImg XTxt XIe) : S4096x192.Idx → Elt F .bf16) ∗ (∃ W, owes (c : Thread nD τ) 0 W) ∗ (bigSep Finset.univ (homeImg c XImg) ∗ freeImg (F := F) c) ∗ (bigSep Finset.univ (homeTxt c XTxt) ∗ freeTxt (F := F) c) ∗ (bigSep Finset.univ (homeIe c XIe) ∗ freeIe (F := F) c)) := by
  subst hn
  have e0 : ringsA c XImg XTxt XIe 8 = iprop(ringEndImg c XImg 7 ∗ ringEndTxt c XTxt 7 ∗ ringEndIe c XIe 7) := (if_neg (by decide))
  have ew : outAw 8 = (8#32, 8#32, 8#32, 8#32, 8#32, 8#32, 0#32) := rfl
  unfold invA
  rw [e0, ew]
  iintro ⟨%e, S0, S1, S2, S3, N20, HW, RImg, RTxt, RIe⟩
  isplitr
  · ipureintro; exact e
  isplitl [S0]
  · iexact S0
  isplitl [S1]
  · iexact S1
  isplitl [S2]
  · iexact S2
  isplitl [S3]
  · iexact S3
  isplitl [N20]
  · iapply (scrA20_end c arg6 arg7 arg8 arg9 g6 g7 g8 g9 XImg XTxt XIe 8 rfl); iexact N20
  isplitl [HW]
  · iexact HW
  isplitl [RImg]
  · iapply (ringOutImg c XImg); iexact RImg
  isplitl [RTxt]
  · iapply (ringOutTxt c XTxt); iexact RTxt
  · iapply (ringOutIe c XIe); iexact RIe
end Loop

end Cert.Proof.KI

end
-- ==== Proof.KI.B.lean ====
/-
  The second pipeline of the kernel: the user graph applied to the projected features.
-/
module

public import proofs.«01_k».proof.Proof.KI.Base

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

theorem slotInbBU (s : Fin 2) : ∀ a, slotOff s a + S1x512x4096.size a ≤ S2x512x4096.size a := by
  have := s.isLt; intro a; fin_cases a
  · show s.val + 1 ≤ 2; omega
  · show 0 + 512 ≤ 512; omega
  · show 0 + 4096 ≤ 4096; omega
/-- Slot `s` of the buffer. -/
def slotBU (s : Fin 2) : Memref sig .tc .vmem S512x4096 .f32 :=
  ((Memref.whole cc0_scoped6).slice (Rect.unit (s := S2x512x4096) (slotOff s) S1x512x4096.size (slotInbBU s)) (fun _ => rfl)).squeeze S512x4096 squeezes_S1x512x4096_S512x4096
theorem slotBU_congr {off : Fin 3 → Nat} {s : Fin 2} (e : off = slotOff s) (hh hs) :
    ((Memref.whole cc0_scoped6).slice (Rect.unit (s := S2x512x4096) off S1x512x4096.size hh) hs).squeeze S512x4096 squeezes_S1x512x4096_S512x4096 = slotBU s :=
  congrArg (fun M : Memref sig .tc .vmem S1x512x4096 .f32 => M.squeeze S512x4096 squeezes_S1x512x4096_S512x4096) (Memref.slice_unit_congr _ e _ _ _ _)
abbrev blkOffBU (b : Fin 16) : Fin 2 → Nat := ![512 * b.val, 0]
instance (b : Fin 16) : ClosedOff (blkOffBU b) := ⟨blkOffBU b, rfl⟩
theorem blkInbBU (b : Fin 16) : ∀ a, blkOffBU b a + S512x4096.size a ≤ S8192x4096.size a := by
  have := b.isLt; intro a; fin_cases a
  · show 512 * b.val + 512 ≤ 8192; omega
  · show 0 + 4096 ≤ 4096; omega
/-- Block `b` of the array: its rows from `512 * b`. -/
def blkBU (b : Fin 16) : Memref sig .tc .hbm S512x4096 .f32 :=
  (Memref.whole main_arg0).slice (Rect.unit (s := S8192x4096) (blkOffBU b) S512x4096.size (blkInbBU b)) (fun _ => rfl)
theorem blkBU_congr {off : Fin 2 → Nat} {b : Fin 16} (e : off = blkOffBU b) (hh hs) :
    (Memref.whole main_arg0).slice (Rect.unit (s := S8192x4096) off S512x4096.size hh) hs = blkBU b := Memref.slice_unit_congr _ e _ _ hs (fun _ => rfl)
abbrev semBU (s : Fin 2) : DmaSems sig S_ := semAt cc0_scoped7 s
/-- A load of the slot through the whole buffer reads what was delivered into the slot. -/
theorem loadBU {off : Fin 3 → Nat} (s : Fin 2) (e : off = slotOff s) (hh) (hs : S1x512x4096.ShapeCasts S512x4096) (f : (slotBU s).view.ty.Contents (Elt F)) (w : S512x4096.Idx → Elt F .f32) :
    shapeCast S512x4096 (View.readAt (Elt F) (Memref.whole cc0_scoped6 : Memref sig .tc .vmem S2x512x4096 .f32).view (Rect.unit (s := S2x512x4096) off S1x512x4096.size hh).toLoadRect
      ((slotBU s).view.writes (Elt F) f [⟨Rect.whole S512x4096, w⟩])) hs = w := by
  have h : ∀ g : (slotBU s).view.ty.Contents (Elt F), shapeCast S512x4096 (View.readAt (Elt F) (Memref.whole cc0_scoped6 : Memref sig .tc .vmem S2x512x4096 .f32).view (Rect.unit (s := S2x512x4096) off S1x512x4096.size hh).toLoadRect g) hs = (slotBU s).view.read (Elt F) g := by
    subst e; exact fun g => rfl
  exact (h _).trans (View.read_writes_whole (slotBU s).view f w)

theorem slotInbBN (s : Fin 2) : ∀ a, slotOff s a + S1x512x64.size a ≤ S2x512x64.size a := by
  have := s.isLt; intro a; fin_cases a
  · show s.val + 1 ≤ 2; omega
  · show 0 + 512 ≤ 512; omega
  · show 0 + 64 ≤ 64; omega
/-- Slot `s` of the buffer. -/
def slotBN (s : Fin 2) : Memref sig .tc .vmem S512x64 .f32 :=
  ((Memref.whole cc0_scoped8).slice (Rect.unit (s := S2x512x64) (slotOff s) S1x512x64.size (slotInbBN s)) (fun _ => rfl)).squeeze S512x64 squeezes_S1x512x64_S512x64
theorem slotBN_congr {off : Fin 3 → Nat} {s : Fin 2} (e : off = slotOff s) (hh hs) :
    ((Memref.whole cc0_scoped8).slice (Rect.unit (s := S2x512x64) off S1x512x64.size hh) hs).squeeze S512x64 squeezes_S1x512x64_S512x64 = slotBN s :=
  congrArg (fun M : Memref sig .tc .vmem S1x512x64 .f32 => M.squeeze S512x64 squeezes_S1x512x64_S512x64) (Memref.slice_unit_congr _ e _ _ _ _)
abbrev blkOffBN (b : Fin 16) : Fin 2 → Nat := ![512 * b.val, 0]
instance (b : Fin 16) : ClosedOff (blkOffBN b) := ⟨blkOffBN b, rfl⟩
theorem blkInbBN (b : Fin 16) : ∀ a, blkOffBN b a + S512x64.size a ≤ S8192x64.size a := by
  have := b.isLt; intro a; fin_cases a
  · show 512 * b.val + 512 ≤ 8192; omega
  · show 0 + 64 ≤ 64; omega
/-- Block `b` of the array: its rows from `512 * b`. -/
def blkBN (b : Fin 16) : Memref sig .tc .hbm S512x64 .f32 :=
  (Memref.whole main_v6).slice (Rect.unit (s := S8192x64) (blkOffBN b) S512x64.size (blkInbBN b)) (fun _ => rfl)
theorem blkBN_congr {off : Fin 2 → Nat} {b : Fin 16} (e : off = blkOffBN b) (hh hs) :
    (Memref.whole main_v6).slice (Rect.unit (s := S8192x64) off S512x64.size hh) hs = blkBN b := Memref.slice_unit_congr _ e _ _ hs (fun _ => rfl)
abbrev semBN (s : Fin 2) : DmaSems sig S_ := semAt cc0_scoped9 s
/-- A load of the slot through the whole buffer reads what was delivered into the slot. -/
theorem loadBN {off : Fin 3 → Nat} (s : Fin 2) (e : off = slotOff s) (hh) (hs : S1x512x64.ShapeCasts S512x64) (f : (slotBN s).view.ty.Contents (Elt F)) (w : S512x64.Idx → Elt F .f32) :
    shapeCast S512x64 (View.readAt (Elt F) (Memref.whole cc0_scoped8 : Memref sig .tc .vmem S2x512x64 .f32).view (Rect.unit (s := S2x512x64) off S1x512x64.size hh).toLoadRect
      ((slotBN s).view.writes (Elt F) f [⟨Rect.whole S512x64, w⟩])) hs = w := by
  have h : ∀ g : (slotBN s).view.ty.Contents (Elt F), shapeCast S512x64 (View.readAt (Elt F) (Memref.whole cc0_scoped8 : Memref sig .tc .vmem S2x512x64 .f32).view (Rect.unit (s := S2x512x64) off S1x512x64.size hh).toLoadRect g) hs = (slotBN s).view.read (Elt F) g := by
    subst e; exact fun g => rfl
  exact (h _).trans (View.read_writes_whole (slotBN s).view f w)

theorem slotInbBI (s : Fin 2) : ∀ a, slotOff s a + S1x512x64.size a ≤ S2x512x64.size a := by
  have := s.isLt; intro a; fin_cases a
  · show s.val + 1 ≤ 2; omega
  · show 0 + 512 ≤ 512; omega
  · show 0 + 64 ≤ 64; omega
/-- Slot `s` of the buffer. -/
def slotBI (s : Fin 2) : Memref sig .tc .vmem S512x64 .f32 :=
  ((Memref.whole cc0_scoped10).slice (Rect.unit (s := S2x512x64) (slotOff s) S1x512x64.size (slotInbBI s)) (fun _ => rfl)).squeeze S512x64 squeezes_S1x512x64_S512x64
theorem slotBI_congr {off : Fin 3 → Nat} {s : Fin 2} (e : off = slotOff s) (hh hs) :
    ((Memref.whole cc0_scoped10).slice (Rect.unit (s := S2x512x64) off S1x512x64.size hh) hs).squeeze S512x64 squeezes_S1x512x64_S512x64 = slotBI s :=
  congrArg (fun M : Memref sig .tc .vmem S1x512x64 .f32 => M.squeeze S512x64 squeezes_S1x512x64_S512x64) (Memref.slice_unit_congr _ e _ _ _ _)
abbrev blkOffBI (b : Fin 16) : Fin 2 → Nat := ![512 * b.val, 0]
instance (b : Fin 16) : ClosedOff (blkOffBI b) := ⟨blkOffBI b, rfl⟩
theorem blkInbBI (b : Fin 16) : ∀ a, blkOffBI b a + S512x64.size a ≤ S8192x64.size a := by
  have := b.isLt; intro a; fin_cases a
  · show 512 * b.val + 512 ≤ 8192; omega
  · show 0 + 64 ≤ 64; omega
/-- Block `b` of the array: its rows from `512 * b`. -/
def blkBI (b : Fin 16) : Memref sig .tc .hbm S512x64 .f32 :=
  (Memref.whole main_v22_4).slice (Rect.unit (s := S8192x64) (blkOffBI b) S512x64.size (blkInbBI b)) (fun _ => rfl)
theorem blkBI_congr {off : Fin 2 → Nat} {b : Fin 16} (e : off = blkOffBI b) (hh hs) :
    (Memref.whole main_v22_4).slice (Rect.unit (s := S8192x64) off S512x64.size hh) hs = blkBI b := Memref.slice_unit_congr _ e _ _ hs (fun _ => rfl)
abbrev semBI (s : Fin 2) : DmaSems sig S_ := semAt cc0_scoped11 s
/-- A store of the slot through the whole buffer is read back through the slot. -/
theorem storeBI {off : Fin 3 → Nat} (s : Fin 2) (e : off = slotOff s) (hh) (hs : S512x64.ShapeCasts S1x512x64) (f : (slotBI s).view.ty.Contents (Elt F)) (w : S512x64.Idx → Elt F .f32) :
    (slotBI s).view.read (Elt F) ((Memref.whole cc0_scoped10 : Memref sig .tc .vmem S2x512x64 .f32).view.writes (Elt F) f [⟨Rect.unit (s := S2x512x64) off S1x512x64.size hh, shapeCast S1x512x64 w hs⟩]) = w := by
  subst e; funext j
  refine (View.read_writes_cons_emb _ _ (Rect.unit (s := S2x512x64) (slotOff s) S1x512x64.size hh) _ [] (Shape.reshapeEquiv (show S512x64.numel = S1x512x64.numel by decide) j)).trans ?_
  show w (Shape.reshapeEquiv _ (Shape.reshapeEquiv _ j)) = w j
  congr 1
  exact reshape_back _ _ j

theorem slotInbBT (s : Fin 2) : ∀ a, slotOff s a + S1x512x64.size a ≤ S2x512x64.size a := by
  have := s.isLt; intro a; fin_cases a
  · show s.val + 1 ≤ 2; omega
  · show 0 + 512 ≤ 512; omega
  · show 0 + 64 ≤ 64; omega
/-- Slot `s` of the buffer. -/
def slotBT (s : Fin 2) : Memref sig .tc .vmem S512x64 .f32 :=
  ((Memref.whole cc0_scoped12).slice (Rect.unit (s := S2x512x64) (slotOff s) S1x512x64.size (slotInbBT s)) (fun _ => rfl)).squeeze S512x64 squeezes_S1x512x64_S512x64
theorem slotBT_congr {off : Fin 3 → Nat} {s : Fin 2} (e : off = slotOff s) (hh hs) :
    ((Memref.whole cc0_scoped12).slice (Rect.unit (s := S2x512x64) off S1x512x64.size hh) hs).squeeze S512x64 squeezes_S1x512x64_S512x64 = slotBT s :=
  congrArg (fun M : Memref sig .tc .vmem S1x512x64 .f32 => M.squeeze S512x64 squeezes_S1x512x64_S512x64) (Memref.slice_unit_congr _ e _ _ _ _)
abbrev blkOffBT (b : Fin 16) : Fin 2 → Nat := ![512 * b.val, 0]
instance (b : Fin 16) : ClosedOff (blkOffBT b) := ⟨blkOffBT b, rfl⟩
theorem blkInbBT (b : Fin 16) : ∀ a, blkOffBT b a + S512x64.size a ≤ S8192x64.size a := by
  have := b.isLt; intro a; fin_cases a
  · show 512 * b.val + 512 ≤ 8192; omega
  · show 0 + 64 ≤ 64; omega
/-- Block `b` of the array: its rows from `512 * b`. -/
def blkBT (b : Fin 16) : Memref sig .tc .hbm S512x64 .f32 :=
  (Memref.whole main_v22_5).slice (Rect.unit (s := S8192x64) (blkOffBT b) S512x64.size (blkInbBT b)) (fun _ => rfl)
theorem blkBT_congr {off : Fin 2 → Nat} {b : Fin 16} (e : off = blkOffBT b) (hh hs) :
    (Memref.whole main_v22_5).slice (Rect.unit (s := S8192x64) off S512x64.size hh) hs = blkBT b := Memref.slice_unit_congr _ e _ _ hs (fun _ => rfl)
abbrev semBT (s : Fin 2) : DmaSems sig S_ := semAt cc0_scoped13 s
/-- A store of the slot through the whole buffer is read back through the slot. -/
theorem storeBT {off : Fin 3 → Nat} (s : Fin 2) (e : off = slotOff s) (hh) (hs : S512x64.ShapeCasts S1x512x64) (f : (slotBT s).view.ty.Contents (Elt F)) (w : S512x64.Idx → Elt F .f32) :
    (slotBT s).view.read (Elt F) ((Memref.whole cc0_scoped12 : Memref sig .tc .vmem S2x512x64 .f32).view.writes (Elt F) f [⟨Rect.unit (s := S2x512x64) off S1x512x64.size hh, shapeCast S1x512x64 w hs⟩]) = w := by
  subst e; funext j
  refine (View.read_writes_cons_emb _ _ (Rect.unit (s := S2x512x64) (slotOff s) S1x512x64.size hh) _ [] (Shape.reshapeEquiv (show S512x64.numel = S1x512x64.numel by decide) j)).trans ?_
  show w (Shape.reshapeEquiv _ (Shape.reshapeEquiv _ j)) = w j
  congr 1
  exact reshape_back _ _ j

theorem t2_trips : k0_t2_loop.trips = 16 := by decide
abbrev T2 := Fin k0_t2_loop.trips

theorem off27_eq : ∀ k : T2, k0_off27 (w32 (k.val + 1)) = semOff (Ring.sl 2 (k.val + 1)) := by decide
theorem off28_eq : ∀ k : T2, k0_off28 (w32 (k.val + 1)) = slotOff (Ring.sl 2 (k.val + 1)) := by decide
theorem off29_eq : ∀ k : T2, k.val < 15 → k0_off29 (w32 k.val) = blkOffBU (Ring.bk 16 (k.val + 1)) := by decide
@[sl_canon] theorem semIBU (k : T2) (hh) :
    (cc0_scoped7.slice (Rect.unit (s := S2) (k0_off27 (w32 (k.val + 1))) S1.size hh)).squeeze S_ squeezes_S1_S_ = semBU (Ring.sl 2 (k.val + 1)) := semAt_congr _ (off27_eq k) _
@[sl_canon] theorem slotIBU (k : T2) (hh hs) :
    ((Memref.whole cc0_scoped6).slice (Rect.unit (s := S2x512x4096) (k0_off28 (w32 (k.val + 1))) S1x512x4096.size hh) hs).squeeze S512x4096 squeezes_S1x512x4096_S512x4096 = slotBU (Ring.sl 2 (k.val + 1)) := slotBU_congr (off28_eq k) _ _
@[sl_canon] theorem blkIBU (k : T2) (hk : k.val < 15) (hh hs) :
    (Memref.whole main_arg0).slice (Rect.unit (s := S8192x4096) (k0_off29 (w32 k.val)) S512x4096.size hh) hs = blkBU (Ring.bk 16 (k.val + 1)) := blkBU_congr (off29_eq k hk) _ _
theorem cond16_pos : ∀ k : T2, k.val < 15 → k0_cond16 k (w32 k.val) = 1#1 := by decide
theorem cond16_neg : ∀ k : T2, ¬ k.val < 15 → ¬ k0_cond16 k (w32 k.val) = 1#1 := by decide

theorem off30_eq : ∀ k : T2, k0_off30 (w32 (k.val + 1)) = semOff (Ring.sl 2 (k.val + 1)) := by decide
theorem off31_eq : ∀ k : T2, k0_off31 (w32 (k.val + 1)) = slotOff (Ring.sl 2 (k.val + 1)) := by decide
theorem off32_eq : ∀ k : T2, k.val < 15 → k0_off32 (w32 k.val) = blkOffBN (Ring.bk 16 (k.val + 1)) := by decide
@[sl_canon] theorem semIBN (k : T2) (hh) :
    (cc0_scoped9.slice (Rect.unit (s := S2) (k0_off30 (w32 (k.val + 1))) S1.size hh)).squeeze S_ squeezes_S1_S_ = semBN (Ring.sl 2 (k.val + 1)) := semAt_congr _ (off30_eq k) _
@[sl_canon] theorem slotIBN (k : T2) (hh hs) :
    ((Memref.whole cc0_scoped8).slice (Rect.unit (s := S2x512x64) (k0_off31 (w32 (k.val + 1))) S1x512x64.size hh) hs).squeeze S512x64 squeezes_S1x512x64_S512x64 = slotBN (Ring.sl 2 (k.val + 1)) := slotBN_congr (off31_eq k) _ _
@[sl_canon] theorem blkIBN (k : T2) (hk : k.val < 15) (hh hs) :
    (Memref.whole main_v6).slice (Rect.unit (s := S8192x64) (k0_off32 (w32 k.val)) S512x64.size hh) hs = blkBN (Ring.bk 16 (k.val + 1)) := blkBN_congr (off32_eq k hk) _ _
theorem cond17_pos : ∀ k : T2, k.val < 15 → k0_cond17 k (w32 k.val) = 1#1 := by decide
theorem cond17_neg : ∀ k : T2, ¬ k.val < 15 → ¬ k0_cond17 k (w32 k.val) = 1#1 := by decide

theorem off33_eq : ∀ k : T2, k0_off33 (w32 k.val) = semOff (Ring.sl 2 k.val) := by decide
theorem off34_eq : ∀ k : T2, k0_off34 (w32 k.val) = slotOff (Ring.sl 2 k.val) := by decide
theorem off35_eq : ∀ k : T2, k0_off35 (w32 k.val) = blkOffBU (Ring.bk 16 k.val) := by decide
@[sl_canon] theorem semWBU (k : T2) (hh) :
    (cc0_scoped7.slice (Rect.unit (s := S2) (k0_off33 (w32 k.val)) S1.size hh)).squeeze S_ squeezes_S1_S_ = semBU (Ring.sl 2 k.val) := semAt_congr _ (off33_eq k) _
@[sl_canon] theorem slotWBU (k : T2) (hh hs) :
    ((Memref.whole cc0_scoped6).slice (Rect.unit (s := S2x512x4096) (k0_off34 (w32 k.val)) S1x512x4096.size hh) hs).squeeze S512x4096 squeezes_S1x512x4096_S512x4096 = slotBU (Ring.sl 2 k.val) := slotBU_congr (off34_eq k) _ _
@[sl_canon] theorem blkWBU (k : T2) (hh hs) :
    (Memref.whole main_arg0).slice (Rect.unit (s := S8192x4096) (k0_off35 (w32 k.val)) S512x4096.size hh) hs = blkBU (Ring.bk 16 k.val) := blkBU_congr (off35_eq k) _ _
theorem cond18_pos : ∀ k : T2, k0_cond18 k (w32 k.val) = 1#1 := by decide

theorem off36_eq : ∀ k : T2, k0_off36 (w32 k.val) = semOff (Ring.sl 2 k.val) := by decide
theorem off37_eq : ∀ k : T2, k0_off37 (w32 k.val) = slotOff (Ring.sl 2 k.val) := by decide
theorem off38_eq : ∀ k : T2, k0_off38 (w32 k.val) = blkOffBN (Ring.bk 16 k.val) := by decide
@[sl_canon] theorem semWBN (k : T2) (hh) :
    (cc0_scoped9.slice (Rect.unit (s := S2) (k0_off36 (w32 k.val)) S1.size hh)).squeeze S_ squeezes_S1_S_ = semBN (Ring.sl 2 k.val) := semAt_congr _ (off36_eq k) _
@[sl_canon] theorem slotWBN (k : T2) (hh hs) :
    ((Memref.whole cc0_scoped8).slice (Rect.unit (s := S2x512x64) (k0_off37 (w32 k.val)) S1x512x64.size hh) hs).squeeze S512x64 squeezes_S1x512x64_S512x64 = slotBN (Ring.sl 2 k.val) := slotBN_congr (off37_eq k) _ _
@[sl_canon] theorem blkWBN (k : T2) (hh hs) :
    (Memref.whole main_v6).slice (Rect.unit (s := S8192x64) (k0_off38 (w32 k.val)) S512x64.size hh) hs = blkBN (Ring.bk 16 k.val) := blkBN_congr (off38_eq k) _ _
theorem cond19_pos : ∀ k : T2, k0_cond19 k (w32 k.val) = 1#1 := by decide

theorem off45_eq : ∀ k : T2, k0_off45 (w32 k.val) = semOff (Ring.sl 2 k.val) := by decide
theorem off47_eq : ∀ k : T2, k0_off47 (w32 k.val) = slotOff (Ring.sl 2 k.val) := by decide
theorem off46_eq : ∀ k : T2, k0_off46 (w32 k.val) = blkOffBI (Ring.bk 16 k.val) := by decide
@[sl_canon] theorem semIBI (k : T2) (hh) :
    (cc0_scoped11.slice (Rect.unit (s := S2) (k0_off45 (w32 k.val)) S1.size hh)).squeeze S_ squeezes_S1_S_ = semBI (Ring.sl 2 k.val) := semAt_congr _ (off45_eq k) _
@[sl_canon] theorem slotIBI (k : T2) (hh hs) :
    ((Memref.whole cc0_scoped10).slice (Rect.unit (s := S2x512x64) (k0_off47 (w32 k.val)) S1x512x64.size hh) hs).squeeze S512x64 squeezes_S1x512x64_S512x64 = slotBI (Ring.sl 2 k.val) := slotBI_congr (off47_eq k) _ _
@[sl_canon] theorem blkIBI (k : T2) (hh hs) :
    (Memref.whole main_v22_4).slice (Rect.unit (s := S8192x64) (k0_off46 (w32 k.val)) S512x64.size hh) hs = blkBI (Ring.bk 16 k.val) := blkBI_congr (off46_eq k) _ _
theorem cond28_pos : ∀ k : T2, k0_cond28 k (w32 k.val) = 1#1 := by decide

theorem off48_eq : ∀ k : T2, k0_off48 (w32 k.val) = semOff (Ring.sl 2 k.val) := by decide
theorem off50_eq : ∀ k : T2, k0_off50 (w32 k.val) = slotOff (Ring.sl 2 k.val) := by decide
theorem off49_eq : ∀ k : T2, k0_off49 (w32 k.val) = blkOffBT (Ring.bk 16 k.val) := by decide
@[sl_canon] theorem semIBT (k : T2) (hh) :
    (cc0_scoped13.slice (Rect.unit (s := S2) (k0_off48 (w32 k.val)) S1.size hh)).squeeze S_ squeezes_S1_S_ = semBT (Ring.sl 2 k.val) := semAt_congr _ (off48_eq k) _
@[sl_canon] theorem slotIBT (k : T2) (hh hs) :
    ((Memref.whole cc0_scoped12).slice (Rect.unit (s := S2x512x64) (k0_off50 (w32 k.val)) S1x512x64.size hh) hs).squeeze S512x64 squeezes_S1x512x64_S512x64 = slotBT (Ring.sl 2 k.val) := slotBT_congr (off50_eq k) _ _
@[sl_canon] theorem blkIBT (k : T2) (hh hs) :
    (Memref.whole main_v22_5).slice (Rect.unit (s := S8192x64) (k0_off49 (w32 k.val)) S512x64.size hh) hs = blkBT (Ring.bk 16 k.val) := blkBT_congr (off49_eq k) _ _
theorem cond29_pos : ∀ k : T2, k0_cond29 k (w32 k.val) = 1#1 := by decide

theorem off51_eq : ∀ k : T2, k0_off51 (w32 (k.val - 1)) = semOff (Ring.sl 2 (k.val - 1)) := by decide
theorem off53_eq : ∀ k : T2, k0_off53 (w32 (k.val - 1)) = slotOff (Ring.sl 2 (k.val - 1)) := by decide
theorem off52_eq : ∀ k : T2, 1 ≤ k.val → k0_off52 (w32 k.val) = blkOffBI (Ring.bk 16 (k.val - 1)) := by decide
@[sl_canon] theorem semWBI (k : T2) (hh) :
    (cc0_scoped11.slice (Rect.unit (s := S2) (k0_off51 (w32 (k.val - 1))) S1.size hh)).squeeze S_ squeezes_S1_S_ = semBI (Ring.sl 2 (k.val - 1)) := semAt_congr _ (off51_eq k) _
@[sl_canon] theorem slotWBI (k : T2) (hh hs) :
    ((Memref.whole cc0_scoped10).slice (Rect.unit (s := S2x512x64) (k0_off53 (w32 (k.val - 1))) S1x512x64.size hh) hs).squeeze S512x64 squeezes_S1x512x64_S512x64 = slotBI (Ring.sl 2 (k.val - 1)) := slotBI_congr (off53_eq k) _ _
@[sl_canon] theorem blkWBI (k : T2) (hk : 1 ≤ k.val) (hh hs) :
    (Memref.whole main_v22_4).slice (Rect.unit (s := S8192x64) (k0_off52 (w32 k.val)) S512x64.size hh) hs = blkBI (Ring.bk 16 (k.val - 1)) := blkBI_congr (off52_eq k hk) _ _
theorem cond36_pos : ∀ k : T2, 1 ≤ k.val → k0_cond36 k (w32 k.val) = 1#1 := by decide
theorem cond36_neg : ∀ k : T2, ¬ 1 ≤ k.val → ¬ k0_cond36 k (w32 k.val) = 1#1 := by decide

theorem off54_eq : ∀ k : T2, k0_off54 (w32 (k.val - 1)) = semOff (Ring.sl 2 (k.val - 1)) := by decide
theorem off56_eq : ∀ k : T2, k0_off56 (w32 (k.val - 1)) = slotOff (Ring.sl 2 (k.val - 1)) := by decide
theorem off55_eq : ∀ k : T2, 1 ≤ k.val → k0_off55 (w32 k.val) = blkOffBT (Ring.bk 16 (k.val - 1)) := by decide
@[sl_canon] theorem semWBT (k : T2) (hh) :
    (cc0_scoped13.slice (Rect.unit (s := S2) (k0_off54 (w32 (k.val - 1))) S1.size hh)).squeeze S_ squeezes_S1_S_ = semBT (Ring.sl 2 (k.val - 1)) := semAt_congr _ (off54_eq k) _
@[sl_canon] theorem slotWBT (k : T2) (hh hs) :
    ((Memref.whole cc0_scoped12).slice (Rect.unit (s := S2x512x64) (k0_off56 (w32 (k.val - 1))) S1x512x64.size hh) hs).squeeze S512x64 squeezes_S1x512x64_S512x64 = slotBT (Ring.sl 2 (k.val - 1)) := slotBT_congr (off56_eq k) _ _
@[sl_canon] theorem blkWBT (k : T2) (hk : 1 ≤ k.val) (hh hs) :
    (Memref.whole main_v22_5).slice (Rect.unit (s := S8192x64) (k0_off55 (w32 k.val)) S512x64.size hh) hs = blkBT (Ring.bk 16 (k.val - 1)) := blkBT_congr (off55_eq k hk) _ _
theorem cond37_pos : ∀ k : T2, 1 ≤ k.val → k0_cond37 k (w32 k.val) = 1#1 := by decide
theorem cond37_neg : ∀ k : T2, ¬ 1 ≤ k.val → ¬ k0_cond37 k (w32 k.val) = 1#1 := by decide
theorem off39_eq : ∀ k : T2, k0_off39 (w32 k.val) = slotOff (Ring.sl 2 k.val) := by decide
instance (k : T2) : ClosedOff (k0_off39 (w32 k.val)) := ⟨slotOff (Ring.sl 2 k.val), off39_eq k⟩
theorem off40_eq : ∀ k : T2, k0_off40 (w32 k.val) = slotOff (Ring.sl 2 k.val) := by decide
instance (k : T2) : ClosedOff (k0_off40 (w32 k.val)) := ⟨slotOff (Ring.sl 2 k.val), off40_eq k⟩
theorem off41_eq : ∀ k : T2, k0_off41 (w32 k.val) = slotOff (Ring.sl 2 k.val) := by decide
instance (k : T2) : ClosedOff (k0_off41 (w32 k.val)) := ⟨slotOff (Ring.sl 2 k.val), off41_eq k⟩
theorem off42_eq : ∀ k : T2, k0_off42 (w32 k.val) = slotOff (Ring.sl 2 k.val) := by decide
instance (k : T2) : ClosedOff (k0_off42 (w32 k.val)) := ⟨slotOff (Ring.sl 2 k.val), off42_eq k⟩
theorem off43_eq : ∀ k : T2, k0_off43 (w32 k.val) = ![512 * k.val, 0] := by decide
instance (k : T2) : ClosedOff (k0_off43 (w32 k.val)) := ⟨![512 * k.val, 0], off43_eq k⟩
theorem off44_eq : ∀ k : T2, k0_off44 (w32 k.val) = ![512 * k.val, 0] := by decide
instance (k : T2) : ClosedOff (k0_off44 (w32 k.val)) := ⟨![512 * k.val, 0], off44_eq k⟩
theorem chk9_ok : ∀ k : T2, k0_chk9 (w32 k.val) := by decide
theorem chk8_ok : ∀ k : T2, k0_chk8 (w32 k.val) := by decide
theorem chk7_ok : ∀ k : T2, k0_chk7 (w32 k.val) := by decide
theorem chk6_ok : ∀ k : T2, k0_chk6 (w32 k.val) := by decide
theorem chk5_ok : ∀ k : T2, k0_chk5 k (w32 (k.val + 1)) (w32 k.val) (w32 (k.val + 1)) (w32 k.val) (w32 k.val) (w32 (k.val - 1)) (w32 k.val) (w32 (k.val - 1)) (w32 k.val) := by decide

/-- The block stored in `main_v22_4`, from the blocks loaded. -/
def valB_BI (v175_r1 : FVec F S512x4096 .f32) (v177_r1 : Vec F S4096x192 .bf16) : FVec F S512x64 .f32 :=
  let v176_r1 : FVec F S512x4096 .bf16 := truncf .bf16 v175_r1 bitsLt_bf16_f32
  let cst_r1 : FVec F S512x192 .f32 := constant S512x192 .f32 0x00000000#32
  let v178_r1 : FVec F S512x192 .f32 := matmul dot_S512x4096_S4096x192_S512x192_1_0_0_1_n_n none v176_r1 v177_r1 cst_r1
  extractStridedSlice S512x64 ![0, 0] v178_r1 slices_S512x192_o0_0_S512x64

/-- The block stored in `main_v22_5`, from the blocks loaded. -/
def valB_BT (v175_r1 : FVec F S512x4096 .f32) (v177_r1 : Vec F S4096x192 .bf16) : FVec F S512x64 .f32 :=
  let v176_r1 : FVec F S512x4096 .bf16 := truncf .bf16 v175_r1 bitsLt_bf16_f32
  let cst_r1 : FVec F S512x192 .f32 := constant S512x192 .f32 0x00000000#32
  let v178_r1 : FVec F S512x192 .f32 := matmul dot_S512x4096_S4096x192_S512x192_1_0_0_1_n_n none v176_r1 v177_r1 cst_r1
  extractStridedSlice S512x64 ![0, 64] v178_r1 slices_S512x192_o0_64_S512x64

/-- The block stored in `arg23`, from the blocks loaded. -/
def valB_23 (v175_r1 : FVec F S512x4096 .f32) (v177_r1 : Vec F S4096x192 .bf16) : FVec F S512x64 .f32 :=
  let v176_r1 : FVec F S512x4096 .bf16 := truncf .bf16 v175_r1 bitsLt_bf16_f32
  let cst_r1 : FVec F S512x192 .f32 := constant S512x192 .f32 0x00000000#32
  let v178_r1 : FVec F S512x192 .f32 := matmul dot_S512x4096_S4096x192_S512x192_1_0_0_1_n_n none v176_r1 v177_r1 cst_r1
  let v197_r1 : FVec F S512x64 .f32 := extractStridedSlice S512x64 ![0, 0] v178_r1 slices_S512x192_o0_0_S512x64
  shapeCast S512x64 v197_r1 shapeCasts_S512x64_S512x64

/-- The block stored in `arg24`, from the blocks loaded. -/
def valB_24 (v175_r1 : FVec F S512x4096 .f32) (v177_r1 : Vec F S4096x192 .bf16) : FVec F S512x64 .f32 :=
  let v176_r1 : FVec F S512x4096 .bf16 := truncf .bf16 v175_r1 bitsLt_bf16_f32
  let cst_r1 : FVec F S512x192 .f32 := constant S512x192 .f32 0x00000000#32
  let v178_r1 : FVec F S512x192 .f32 := matmul dot_S512x4096_S4096x192_S512x192_1_0_0_1_n_n none v176_r1 v177_r1 cst_r1
  let v198_r1 : FVec F S512x64 .f32 := extractStridedSlice S512x64 ![0, 64] v178_r1 slices_S512x192_o0_64_S512x64
  shapeCast S512x64 v198_r1 shapeCasts_S512x64_S512x64

/-- The block stored in `arg22`, from the blocks loaded. -/
def valB_22 (v175_r1 : FVec F S512x4096 .f32) (v177_r1 : Vec F S4096x192 .bf16) (v192_r1 : FVec F S512x64 .f32) : FVec F S512x64 .f32 :=
  let v176_r1 : FVec F S512x4096 .bf16 := truncf .bf16 v175_r1 bitsLt_bf16_f32
  let cst_r1 : FVec F S512x192 .f32 := constant S512x192 .f32 0x00000000#32
  let v178_r1 : FVec F S512x192 .f32 := matmul dot_S512x4096_S4096x192_S512x192_1_0_0_1_n_n none v176_r1 v177_r1 cst_r1
  let v179_r1 : FVec F S512x64 .f32 := extractStridedSlice S512x64 ![0, 128] v178_r1 slices_S512x192_o0_128_S512x64
  let v186_r1 : FVec F S512x64 .f32 := absf v179_r1
  let cst_153_r1 : F .f32 := Scalar.ofBits .f32 0x00000000#32
  let v187_r1 : FVec F S512x64 .f32 := broadcast S512x64 cst_153_r1
  let v188_r1 : IVec S512x64 1 := cmpf .ogt v186_r1 v187_r1
  let v185_r1 : FVec F S512x64 .f32 := select (cmpf .olt v179_r1 (constant S512x64 .f32 0x00000000#32)) (constant S512x64 .f32 0xBF800000#32) (constant S512x64 .f32 0x3F800000#32)
  let v189_r1 : FVec F S512x64 .f32 := select v188_r1 v185_r1 v179_r1
  let v193_r1 : FVec F S512x64 .f32 := mulf v189_r1 v192_r1
  let cst_156_r1 : F .f32 := Scalar.ofBits .f32 0x3E4CCCCD#32
  let v194_r1 : FVec F S512x64 .f32 := broadcast S512x64 cst_156_r1
  let v195_r1 : FVec F S512x64 .f32 := mulf v193_r1 v194_r1
  let v196_r1 : FVec F S512x64 .f32 := addf v179_r1 v195_r1
  shapeCast S512x64 v196_r1 shapeCasts_S512x64_S512x64

/-- The block stored in `arg21`, from the blocks loaded. -/
def valB_21 (v175_r1 : FVec F S512x4096 .f32) (v177_r1 : Vec F S4096x192 .bf16) : FVec F S512x192 .bf16 :=
  let v176_r1 : FVec F S512x4096 .bf16 := truncf .bf16 v175_r1 bitsLt_bf16_f32
  let cst_r1 : FVec F S512x192 .f32 := constant S512x192 .f32 0x00000000#32
  let v178_r1 : FVec F S512x192 .f32 := matmul dot_S512x4096_S4096x192_S512x192_1_0_0_1_n_n none v176_r1 v177_r1 cst_r1
  let v219_r1 : FVec F S512x192 .bf16 := truncf .bf16 v178_r1 bitsLt_bf16_f32
  shapeCast S512x192 v219_r1 shapeCasts_S512x192_S512x192

section Pieces
variable (c : Dev nD)

abbrev cellBU (s : Fin 2) : sProp 𝕄 := semVal ((c : Thread nD τ), SemLoc.dma (semBU s).sem) 0
abbrev slotPBU (s : Fin 2) (f : Buf (Elt F) ((slotBU s).view.loc (c : Thread nD τ))) : sProp 𝕄 :=
  (slotBU s).view.loc (c : Thread nD τ) ↦[(slotBU s).view.set]{fullShare} f
abbrev homeBU (X : Buf (Elt F) ((Memref.whole main_arg0 : Memref sig .tc .hbm _ _).view.loc (c : Thread nD τ))) (b : Fin 16) : sProp 𝕄 :=
  (blkBU b).view.loc (c : Thread nD τ) ↦[(blkBU b).view.set]{fullShare} X
abbrev landedBU (X : Buf (Elt F) ((Memref.whole main_arg0 : Memref sig .tc .hbm _ _).view.loc (c : Thread nD τ))) (s : Fin 2) (b : Fin 16) (f : Buf (Elt F) ((slotBU s).view.loc (c : Thread nD τ))) : Buf (Elt F) ((slotBU s).view.loc (c : Thread nD τ)) :=
  (slotBU s).view.writes (Elt F) f [⟨Rect.whole S512x4096, ReadAs.same.apply ((blkBU b).view.read (Elt F) X)⟩]
abbrev flightBU (X : Buf (Elt F) ((Memref.whole main_arg0 : Memref sig .tc .hbm _ _).view.loc (c : Thread nD τ))) (s : Fin 2) (b : Fin 16) (f : Buf (Elt F) ((slotBU s).view.loc (c : Thread nD τ))) : sProp 𝕄 :=
  Transfers.Flight countersEmb (c : Thread nD τ) (SemLoc.dma (semBU s).sem) () 262144 iprop(slotPBU c s (landedBU c X s b f) ∗ homeBU c X b)
theorem outBU (X : Buf (Elt F) ((Memref.whole main_arg0 : Memref sig .tc .hbm _ _).view.loc (c : Thread nD τ))) (k : ℕ) (hk : k + 1 < 16) :
    bigSep (Ring.homeSet 1 k) (homeBU c X) = iprop(homeBU c X (Ring.bk 16 (k + 1)) ∗ bigSep ((Ring.homeSet 1 k).erase (Ring.bk 16 (k + 1))) (homeBU c X)) := by
  conv_lhs => rw [Ring.homeSet_out 1 k hk, bigSep_insert (Ring.bkL_not_mem_erase 1 k)]
  rfl
theorem inBU (X : Buf (Elt F) ((Memref.whole main_arg0 : Memref sig .tc .hbm _ _).view.loc (c : Thread nD τ))) (k : ℕ) (hk : k + 1 < 16) :
    bigSep (Ring.homeSet 1 (k + 1)) (homeBU c X) = iprop(homeBU c X (Ring.bk 16 k) ∗ bigSep ((Ring.homeSet 1 k).erase (Ring.bk 16 (k + 1))) (homeBU c X)) := by
  conv_lhs => rw [Ring.homeSet_succ 1 k hk, bigSep_insert (Ring.bk_not_mem_erase 1 k (by omega) (by decide))]
  rfl
theorem endBU (X : Buf (Elt F) ((Memref.whole main_arg0 : Memref sig .tc .hbm _ _).view.loc (c : Thread nD τ))) (k : ℕ) (hk : k = 15) :
    bigSep Finset.univ (homeBU c X) = iprop(homeBU c X (Ring.bk 16 k) ∗ bigSep (Ring.homeSet 1 k) (homeBU c X)) := by
  conv_lhs => rw [← Ring.homeSet_last (NB := 16) 1 (k + 1) (by omega), Ring.homeSet_succ_tail 1 k (by omega) (by omega), bigSep_insert (Ring.bk_not_mem_homeSet 1 k (by omega) (by decide))]
  rfl
/-- The pieces of the buffer before trip `k`: block `k` on its way into slot `k % 2`, the other slot and its semaphore
    free, every other block of the array home. -/
def ringBU (X : Buf (Elt F) ((Memref.whole main_arg0 : Memref sig .tc .hbm _ _).view.loc (c : Thread nD τ))) (k : ℕ) : sProp 𝕄 :=
  iprop(bigSep (Ring.homeSet 1 k) (homeBU c X) ∗ (∃ f, flightBU c X (Ring.sl 2 k) (Ring.bk 16 k) f)
    ∗ (∃ f, slotPBU c (Ring.sl 2 (k + 1)) f) ∗ cellBU c (Ring.sl 2 (k + 1)))
/-- After the last trip `k`: both slots and semaphores free, every block home. -/
def ringEndBU (X : Buf (Elt F) ((Memref.whole main_arg0 : Memref sig .tc .hbm _ _).view.loc (c : Thread nD τ))) (k : ℕ) : sProp 𝕄 :=
  iprop(bigSep Finset.univ (homeBU c X) ∗ (∃ f, slotPBU c (Ring.sl 2 k) f) ∗ (∃ f, slotPBU c (Ring.sl 2 (k + 1)) f) ∗ cellBU c (Ring.sl 2 k) ∗ cellBU c (Ring.sl 2 (k + 1)))

abbrev cellBN (s : Fin 2) : sProp 𝕄 := semVal ((c : Thread nD τ), SemLoc.dma (semBN s).sem) 0
abbrev slotPBN (s : Fin 2) (f : Buf (Elt F) ((slotBN s).view.loc (c : Thread nD τ))) : sProp 𝕄 :=
  (slotBN s).view.loc (c : Thread nD τ) ↦[(slotBN s).view.set]{fullShare} f
abbrev homeBN (X : Buf (Elt F) ((Memref.whole main_v6 : Memref sig .tc .hbm _ _).view.loc (c : Thread nD τ))) (b : Fin 16) : sProp 𝕄 :=
  (blkBN b).view.loc (c : Thread nD τ) ↦[(blkBN b).view.set]{fullShare} X
abbrev landedBN (X : Buf (Elt F) ((Memref.whole main_v6 : Memref sig .tc .hbm _ _).view.loc (c : Thread nD τ))) (s : Fin 2) (b : Fin 16) (f : Buf (Elt F) ((slotBN s).view.loc (c : Thread nD τ))) : Buf (Elt F) ((slotBN s).view.loc (c : Thread nD τ)) :=
  (slotBN s).view.writes (Elt F) f [⟨Rect.whole S512x64, ReadAs.same.apply ((blkBN b).view.read (Elt F) X)⟩]
abbrev flightBN (X : Buf (Elt F) ((Memref.whole main_v6 : Memref sig .tc .hbm _ _).view.loc (c : Thread nD τ))) (s : Fin 2) (b : Fin 16) (f : Buf (Elt F) ((slotBN s).view.loc (c : Thread nD τ))) : sProp 𝕄 :=
  Transfers.Flight countersEmb (c : Thread nD τ) (SemLoc.dma (semBN s).sem) () 8192 iprop(slotPBN c s (landedBN c X s b f) ∗ homeBN c X b)
theorem outBN (X : Buf (Elt F) ((Memref.whole main_v6 : Memref sig .tc .hbm _ _).view.loc (c : Thread nD τ))) (k : ℕ) (hk : k + 1 < 16) :
    bigSep (Ring.homeSet 1 k) (homeBN c X) = iprop(homeBN c X (Ring.bk 16 (k + 1)) ∗ bigSep ((Ring.homeSet 1 k).erase (Ring.bk 16 (k + 1))) (homeBN c X)) := by
  conv_lhs => rw [Ring.homeSet_out 1 k hk, bigSep_insert (Ring.bkL_not_mem_erase 1 k)]
  rfl
theorem inBN (X : Buf (Elt F) ((Memref.whole main_v6 : Memref sig .tc .hbm _ _).view.loc (c : Thread nD τ))) (k : ℕ) (hk : k + 1 < 16) :
    bigSep (Ring.homeSet 1 (k + 1)) (homeBN c X) = iprop(homeBN c X (Ring.bk 16 k) ∗ bigSep ((Ring.homeSet 1 k).erase (Ring.bk 16 (k + 1))) (homeBN c X)) := by
  conv_lhs => rw [Ring.homeSet_succ 1 k hk, bigSep_insert (Ring.bk_not_mem_erase 1 k (by omega) (by decide))]
  rfl
theorem endBN (X : Buf (Elt F) ((Memref.whole main_v6 : Memref sig .tc .hbm _ _).view.loc (c : Thread nD τ))) (k : ℕ) (hk : k = 15) :
    bigSep Finset.univ (homeBN c X) = iprop(homeBN c X (Ring.bk 16 k) ∗ bigSep (Ring.homeSet 1 k) (homeBN c X)) := by
  conv_lhs => rw [← Ring.homeSet_last (NB := 16) 1 (k + 1) (by omega), Ring.homeSet_succ_tail 1 k (by omega) (by omega), bigSep_insert (Ring.bk_not_mem_homeSet 1 k (by omega) (by decide))]
  rfl
/-- The pieces of the buffer before trip `k`: block `k` on its way into slot `k % 2`, the other slot and its semaphore
    free, every other block of the array home. -/
def ringBN (X : Buf (Elt F) ((Memref.whole main_v6 : Memref sig .tc .hbm _ _).view.loc (c : Thread nD τ))) (k : ℕ) : sProp 𝕄 :=
  iprop(bigSep (Ring.homeSet 1 k) (homeBN c X) ∗ (∃ f, flightBN c X (Ring.sl 2 k) (Ring.bk 16 k) f)
    ∗ (∃ f, slotPBN c (Ring.sl 2 (k + 1)) f) ∗ cellBN c (Ring.sl 2 (k + 1)))
/-- After the last trip `k`: both slots and semaphores free, every block home. -/
def ringEndBN (X : Buf (Elt F) ((Memref.whole main_v6 : Memref sig .tc .hbm _ _).view.loc (c : Thread nD τ))) (k : ℕ) : sProp 𝕄 :=
  iprop(bigSep Finset.univ (homeBN c X) ∗ (∃ f, slotPBN c (Ring.sl 2 k) f) ∗ (∃ f, slotPBN c (Ring.sl 2 (k + 1)) f) ∗ cellBN c (Ring.sl 2 k) ∗ cellBN c (Ring.sl 2 (k + 1)))

abbrev cellBI (s : Fin 2) : sProp 𝕄 := semVal ((c : Thread nD τ), SemLoc.dma (semBI s).sem) 0
abbrev slotPBI (s : Fin 2) (f : Buf (Elt F) ((slotBI s).view.loc (c : Thread nD τ))) : sProp 𝕄 :=
  (slotBI s).view.loc (c : Thread nD τ) ↦[(slotBI s).view.set]{fullShare} f
abbrev homeBI (X : Buf (Elt F) ((Memref.whole main_v22_4 : Memref sig .tc .hbm _ _).view.loc (c : Thread nD τ))) (b : Fin 16) : sProp 𝕄 :=
  (blkBI b).view.loc (c : Thread nD τ) ↦[(blkBI b).view.set]{fullShare} X
abbrev flightBI (X : Buf (Elt F) ((Memref.whole main_v22_4 : Memref sig .tc .hbm _ _).view.loc (c : Thread nD τ))) (s : Fin 2) (b : Fin 16) (g : Buf (Elt F) ((slotBI s).view.loc (c : Thread nD τ))) : sProp 𝕄 :=
  Transfers.Flight countersEmb (c : Thread nD τ) (SemLoc.dma (semBI s).sem) () 8192
    iprop(homeBI c ((blkBI b).view.writes (Elt F) X [⟨Rect.whole S512x64, ReadAs.same.apply ((slotBI s).view.read (Elt F) g)⟩]) b ∗ slotPBI c s g)
/-- A block of the result: written already if it is before block `k`, as it was otherwise. -/
def partBI (X Y : Buf (Elt F) ((Memref.whole main_v22_4 : Memref sig .tc .hbm _ _).view.loc (c : Thread nD τ))) (k : ℕ) (b : Fin 16) : sProp 𝕄 := homeBI c (if b.val < k then Y else X) b
theorem partBI_congr (X Y : Buf (Elt F) ((Memref.whole main_v22_4 : Memref sig .tc .hbm _ _).view.loc (c : Thread nD τ))) (k : ℕ) (hk : k < 16) :
    bigSep ((Ring.homeSetB 1 k).erase (Ring.bk 16 k)) (partBI c X Y (k + 1)) = bigSep ((Ring.homeSetB 1 k).erase (Ring.bk 16 k)) (partBI c X Y k) :=
  bigSep_congr fun b hb => by
    have hne : b.val ≠ k := fun h => (Finset.mem_erase.mp hb).1 (Fin.ext (by rw [h, Ring.bk_val hk]))
    unfold partBI
    by_cases h : b.val < k
    · rw [if_pos h, if_pos (by omega)]
    · rw [if_neg h, if_neg (by omega)]
theorem outBI (X Y : Buf (Elt F) ((Memref.whole main_v22_4 : Memref sig .tc .hbm _ _).view.loc (c : Thread nD τ))) (k : ℕ) (hk : k < 16) :
    bigSep (Ring.homeSetB 1 k) (partBI c X Y k) = iprop(homeBI c X (Ring.bk 16 k) ∗ bigSep ((Ring.homeSetB 1 k).erase (Ring.bk 16 k)) (partBI c X Y k)) := by
  rw [Ring.bigSep_take (Ring.bk_mem_homeSetB 1 k hk)]
  congr 1
  unfold partBI
  rw [if_neg (by rw [Ring.bk_val hk]; omega)]
theorem in0BI (X Y : Buf (Elt F) ((Memref.whole main_v22_4 : Memref sig .tc .hbm _ _).view.loc (c : Thread nD τ))) (k : ℕ) (hk : k = 0) :
    bigSep (Ring.homeSetB 1 (k + 1)) (partBI c X Y (k + 1)) = bigSep ((Ring.homeSetB 1 k).erase (Ring.bk 16 k)) (partBI c X Y k) := by
  rw [Ring.homeSetB_step_boot 1 k (by omega) (by omega), partBI_congr c X Y k (by omega)]
theorem inBI (X Y : Buf (Elt F) ((Memref.whole main_v22_4 : Memref sig .tc .hbm _ _).view.loc (c : Thread nD τ))) (k : ℕ) (hk : k < 16) (h1 : 1 ≤ k) :
    bigSep (Ring.homeSetB 1 (k + 1)) (partBI c X Y (k + 1)) = iprop(homeBI c Y (Ring.bk 16 (k - 1)) ∗ bigSep ((Ring.homeSetB 1 k).erase (Ring.bk 16 k)) (partBI c X Y k)) := by
  rw [Ring.homeSetB_step 1 k hk h1, Ring.bigSep_put (Ring.bk_sub_not_mem 1 k hk h1), partBI_congr c X Y k hk]
  congr 1
  unfold partBI
  rw [if_pos (by rw [Ring.bk_val (by omega)]; omega)]
/-- Past the last trip, the last block back from its copy completes the result. -/
theorem endBI (X Y : Buf (Elt F) ((Memref.whole main_v22_4 : Memref sig .tc .hbm _ _).view.loc (c : Thread nD τ))) (k : ℕ) (hk : k = 16) :
    bigSep Finset.univ (homeBI c Y) = iprop(homeBI c Y (Ring.bk 16 (k - 1)) ∗ bigSep (Ring.homeSetB 1 k) (partBI c X Y k)) := by
  subst hk
  rw [Ring.homeSetB_one_end, Ring.bigSep_take (Finset.mem_univ (Ring.bk 16 (16 - 1)))]
  congr 1
/-- A block of the result home from its copy is the result's block. -/
theorem doneBI (X Y : Buf (Elt F) ((Memref.whole main_v22_4 : Memref sig .tc .hbm _ _).view.loc (c : Thread nD τ))) (s : Fin 2) (k : ℕ) (hk : k < 16) (g : Buf (Elt F) ((slotBI s).view.loc (c : Thread nD τ))) (Q : ℕ → S512x64.Idx → Elt F .f32)
    (hY : Y = (stack (W := 512) (R := 8192) (D := 64) (by decide) Q : S8192x64.Idx → Elt F .f32)) (hg : (slotBI s).view.read (Elt F) g = Q k) :
    homeBI c ((blkBI (Ring.bk 16 k)).view.writes (Elt F) X [⟨Rect.whole S512x64, ReadAs.same.apply ((slotBI s).view.read (Elt F) g)⟩]) (Ring.bk 16 k) = homeBI c Y (Ring.bk 16 k) := by
  refine own_eq_of_read c (blkBI (Ring.bk 16 k)) _ _ ((View.read_writes_whole _ _ _).trans (hg.trans ?_))
  subst hY
  funext x
  refine (stack_block (W := 512) (R := 8192) (D := 64) (by decide) Q k x _ ?_ ?_).symm
  · show 512 * (Ring.bk 16 k).val + 1 * (x 0).val = _
    rw [Ring.bk_val hk]; omega
  · show 0 + 1 * (x 1).val = _
    omega
/-- The pieces of the buffer before trip `k` past the first: block `k - 1` on its way out of the other slot, slot `k % 2`
    and its semaphore free. -/
def ringBI (X Y : Buf (Elt F) ((Memref.whole main_v22_4 : Memref sig .tc .hbm _ _).view.loc (c : Thread nD τ))) (Q : ℕ → S512x64.Idx → Elt F .f32) (k : ℕ) : sProp 𝕄 :=
  iprop(bigSep (Ring.homeSetB 1 k) (partBI c X Y k) ∗ (∃ f, slotPBI c (Ring.sl 2 k) f) ∗ cellBI c (Ring.sl 2 k)
    ∗ (∃ g, ⌜(slotBI (Ring.sl 2 (k - 1))).view.read (Elt F) g = Q (k - 1)⌝ ∗ flightBI c X (Ring.sl 2 (k - 1)) (Ring.bk 16 (k - 1)) g))
/-- Before the first trip: both slots and semaphores free. -/
def ring0BI (X Y : Buf (Elt F) ((Memref.whole main_v22_4 : Memref sig .tc .hbm _ _).view.loc (c : Thread nD τ))) (k : ℕ) : sProp 𝕄 :=
  iprop(bigSep (Ring.homeSetB 1 k) (partBI c X Y k) ∗ (∃ f, slotPBI c (Ring.sl 2 k) f) ∗ cellBI c (Ring.sl 2 k)
    ∗ (∃ f, slotPBI c (Ring.sl 2 (k + 1)) f) ∗ cellBI c (Ring.sl 2 (k + 1)))

abbrev cellBT (s : Fin 2) : sProp 𝕄 := semVal ((c : Thread nD τ), SemLoc.dma (semBT s).sem) 0
abbrev slotPBT (s : Fin 2) (f : Buf (Elt F) ((slotBT s).view.loc (c : Thread nD τ))) : sProp 𝕄 :=
  (slotBT s).view.loc (c : Thread nD τ) ↦[(slotBT s).view.set]{fullShare} f
abbrev homeBT (X : Buf (Elt F) ((Memref.whole main_v22_5 : Memref sig .tc .hbm _ _).view.loc (c : Thread nD τ))) (b : Fin 16) : sProp 𝕄 :=
  (blkBT b).view.loc (c : Thread nD τ) ↦[(blkBT b).view.set]{fullShare} X
abbrev flightBT (X : Buf (Elt F) ((Memref.whole main_v22_5 : Memref sig .tc .hbm _ _).view.loc (c : Thread nD τ))) (s : Fin 2) (b : Fin 16) (g : Buf (Elt F) ((slotBT s).view.loc (c : Thread nD τ))) : sProp 𝕄 :=
  Transfers.Flight countersEmb (c : Thread nD τ) (SemLoc.dma (semBT s).sem) () 8192
    iprop(homeBT c ((blkBT b).view.writes (Elt F) X [⟨Rect.whole S512x64, ReadAs.same.apply ((slotBT s).view.read (Elt F) g)⟩]) b ∗ slotPBT c s g)
/-- A block of the result: written already if it is before block `k`, as it was otherwise. -/
def partBT (X Y : Buf (Elt F) ((Memref.whole main_v22_5 : Memref sig .tc .hbm _ _).view.loc (c : Thread nD τ))) (k : ℕ) (b : Fin 16) : sProp 𝕄 := homeBT c (if b.val < k then Y else X) b
theorem partBT_congr (X Y : Buf (Elt F) ((Memref.whole main_v22_5 : Memref sig .tc .hbm _ _).view.loc (c : Thread nD τ))) (k : ℕ) (hk : k < 16) :
    bigSep ((Ring.homeSetB 1 k).erase (Ring.bk 16 k)) (partBT c X Y (k + 1)) = bigSep ((Ring.homeSetB 1 k).erase (Ring.bk 16 k)) (partBT c X Y k) :=
  bigSep_congr fun b hb => by
    have hne : b.val ≠ k := fun h => (Finset.mem_erase.mp hb).1 (Fin.ext (by rw [h, Ring.bk_val hk]))
    unfold partBT
    by_cases h : b.val < k
    · rw [if_pos h, if_pos (by omega)]
    · rw [if_neg h, if_neg (by omega)]
theorem outBT (X Y : Buf (Elt F) ((Memref.whole main_v22_5 : Memref sig .tc .hbm _ _).view.loc (c : Thread nD τ))) (k : ℕ) (hk : k < 16) :
    bigSep (Ring.homeSetB 1 k) (partBT c X Y k) = iprop(homeBT c X (Ring.bk 16 k) ∗ bigSep ((Ring.homeSetB 1 k).erase (Ring.bk 16 k)) (partBT c X Y k)) := by
  rw [Ring.bigSep_take (Ring.bk_mem_homeSetB 1 k hk)]
  congr 1
  unfold partBT
  rw [if_neg (by rw [Ring.bk_val hk]; omega)]
theorem in0BT (X Y : Buf (Elt F) ((Memref.whole main_v22_5 : Memref sig .tc .hbm _ _).view.loc (c : Thread nD τ))) (k : ℕ) (hk : k = 0) :
    bigSep (Ring.homeSetB 1 (k + 1)) (partBT c X Y (k + 1)) = bigSep ((Ring.homeSetB 1 k).erase (Ring.bk 16 k)) (partBT c X Y k) := by
  rw [Ring.homeSetB_step_boot 1 k (by omega) (by omega), partBT_congr c X Y k (by omega)]
theorem inBT (X Y : Buf (Elt F) ((Memref.whole main_v22_5 : Memref sig .tc .hbm _ _).view.loc (c : Thread nD τ))) (k : ℕ) (hk : k < 16) (h1 : 1 ≤ k) :
    bigSep (Ring.homeSetB 1 (k + 1)) (partBT c X Y (k + 1)) = iprop(homeBT c Y (Ring.bk 16 (k - 1)) ∗ bigSep ((Ring.homeSetB 1 k).erase (Ring.bk 16 k)) (partBT c X Y k)) := by
  rw [Ring.homeSetB_step 1 k hk h1, Ring.bigSep_put (Ring.bk_sub_not_mem 1 k hk h1), partBT_congr c X Y k hk]
  congr 1
  unfold partBT
  rw [if_pos (by rw [Ring.bk_val (by omega)]; omega)]
/-- Past the last trip, the last block back from its copy completes the result. -/
theorem endBT (X Y : Buf (Elt F) ((Memref.whole main_v22_5 : Memref sig .tc .hbm _ _).view.loc (c : Thread nD τ))) (k : ℕ) (hk : k = 16) :
    bigSep Finset.univ (homeBT c Y) = iprop(homeBT c Y (Ring.bk 16 (k - 1)) ∗ bigSep (Ring.homeSetB 1 k) (partBT c X Y k)) := by
  subst hk
  rw [Ring.homeSetB_one_end, Ring.bigSep_take (Finset.mem_univ (Ring.bk 16 (16 - 1)))]
  congr 1
/-- A block of the result home from its copy is the result's block. -/
theorem doneBT (X Y : Buf (Elt F) ((Memref.whole main_v22_5 : Memref sig .tc .hbm _ _).view.loc (c : Thread nD τ))) (s : Fin 2) (k : ℕ) (hk : k < 16) (g : Buf (Elt F) ((slotBT s).view.loc (c : Thread nD τ))) (Q : ℕ → S512x64.Idx → Elt F .f32)
    (hY : Y = (stack (W := 512) (R := 8192) (D := 64) (by decide) Q : S8192x64.Idx → Elt F .f32)) (hg : (slotBT s).view.read (Elt F) g = Q k) :
    homeBT c ((blkBT (Ring.bk 16 k)).view.writes (Elt F) X [⟨Rect.whole S512x64, ReadAs.same.apply ((slotBT s).view.read (Elt F) g)⟩]) (Ring.bk 16 k) = homeBT c Y (Ring.bk 16 k) := by
  refine own_eq_of_read c (blkBT (Ring.bk 16 k)) _ _ ((View.read_writes_whole _ _ _).trans (hg.trans ?_))
  subst hY
  funext x
  refine (stack_block (W := 512) (R := 8192) (D := 64) (by decide) Q k x _ ?_ ?_).symm
  · show 512 * (Ring.bk 16 k).val + 1 * (x 0).val = _
    rw [Ring.bk_val hk]; omega
  · show 0 + 1 * (x 1).val = _
    omega
/-- The pieces of the buffer before trip `k` past the first: block `k - 1` on its way out of the other slot, slot `k % 2`
    and its semaphore free. -/
def ringBT (X Y : Buf (Elt F) ((Memref.whole main_v22_5 : Memref sig .tc .hbm _ _).view.loc (c : Thread nD τ))) (Q : ℕ → S512x64.Idx → Elt F .f32) (k : ℕ) : sProp 𝕄 :=
  iprop(bigSep (Ring.homeSetB 1 k) (partBT c X Y k) ∗ (∃ f, slotPBT c (Ring.sl 2 k) f) ∗ cellBT c (Ring.sl 2 k)
    ∗ (∃ g, ⌜(slotBT (Ring.sl 2 (k - 1))).view.read (Elt F) g = Q (k - 1)⌝ ∗ flightBT c X (Ring.sl 2 (k - 1)) (Ring.bk 16 (k - 1)) g))
/-- Before the first trip: both slots and semaphores free. -/
def ring0BT (X Y : Buf (Elt F) ((Memref.whole main_v22_5 : Memref sig .tc .hbm _ _).view.loc (c : Thread nD τ))) (k : ℕ) : sProp 𝕄 :=
  iprop(bigSep (Ring.homeSetB 1 k) (partBT c X Y k) ∗ (∃ f, slotPBT c (Ring.sl 2 k) f) ∗ cellBT c (Ring.sl 2 k)
    ∗ (∃ f, slotPBT c (Ring.sl 2 (k + 1)) f) ∗ cellBT c (Ring.sl 2 (k + 1)))

end Pieces

/-- Block `k` of what the pipeline stores. -/
def outB_BI (c : Dev nD) (XBU : Buf (Elt F) ((Memref.whole main_arg0 : Memref sig .tc .hbm _ _).view.loc (c : Thread nD τ))) (V20 : Buf (Elt F) (a20.view.loc (c : Thread nD τ))) (k : ℕ) : S512x64.Idx → Elt F .f32 :=
  valB_BI ((blkBU (Ring.bk 16 k)).view.read (Elt F) XBU) V20

/-- Block `k` of what the pipeline stores. -/
def outB_BT (c : Dev nD) (XBU : Buf (Elt F) ((Memref.whole main_arg0 : Memref sig .tc .hbm _ _).view.loc (c : Thread nD τ))) (V20 : Buf (Elt F) (a20.view.loc (c : Thread nD τ))) (k : ℕ) : S512x64.Idx → Elt F .f32 :=
  valB_BT ((blkBU (Ring.bk 16 k)).view.read (Elt F) XBU) V20

/-- Block `k` of what the pipeline stores in scratch array 23. -/
def outB_23 (c : Dev nD) (XBU : Buf (Elt F) ((Memref.whole main_arg0 : Memref sig .tc .hbm _ _).view.loc (c : Thread nD τ))) (V20 : Buf (Elt F) (a20.view.loc (c : Thread nD τ))) (k : ℕ) : S512x64.Idx → Elt F .f32 :=
  valB_23 ((blkBU (Ring.bk 16 k)).view.read (Elt F) XBU) V20

/-- Block `k` of what the pipeline stores in scratch array 24. -/
def outB_24 (c : Dev nD) (XBU : Buf (Elt F) ((Memref.whole main_arg0 : Memref sig .tc .hbm _ _).view.loc (c : Thread nD τ))) (V20 : Buf (Elt F) (a20.view.loc (c : Thread nD τ))) (k : ℕ) : S512x64.Idx → Elt F .f32 :=
  valB_24 ((blkBU (Ring.bk 16 k)).view.read (Elt F) XBU) V20

/-- Block `k` of what the pipeline stores in scratch array 22. -/
def outB_22 (c : Dev nD) (XBU : Buf (Elt F) ((Memref.whole main_arg0 : Memref sig .tc .hbm _ _).view.loc (c : Thread nD τ))) (XBN : Buf (Elt F) ((Memref.whole main_v6 : Memref sig .tc .hbm _ _).view.loc (c : Thread nD τ))) (V20 : Buf (Elt F) (a20.view.loc (c : Thread nD τ))) (k : ℕ) : S512x64.Idx → Elt F .f32 :=
  valB_22 ((blkBU (Ring.bk 16 k)).view.read (Elt F) XBU) V20 ((blkBN (Ring.bk 16 k)).view.read (Elt F) XBN)

/-- Block `k` of what the pipeline stores in scratch array 21. -/
def outB_21 (c : Dev nD) (XBU : Buf (Elt F) ((Memref.whole main_arg0 : Memref sig .tc .hbm _ _).view.loc (c : Thread nD τ))) (V20 : Buf (Elt F) (a20.view.loc (c : Thread nD τ))) (k : ℕ) : S512x192.Idx → Elt F .bf16 :=
  valB_21 ((blkBU (Ring.bk 16 k)).view.read (Elt F) XBU) V20

section Trip
variable (c : Dev nD)
  (arg6 : Memref sig .tc .vmem S4096x64 .bf16) (harg6 : arg6.IsWhole) (arg7 : Memref sig .tc .vmem S1x64 .f32) (harg7 : arg7.IsWhole)
  (arg8 : Memref sig .tc .vmem S384x64 .bf16) (harg8 : arg8.IsWhole) (arg9 : Memref sig .tc .vmem S1x64 .f32) (harg9 : arg9.IsWhole)
  (v23 : BitVec 32)
  (XBU : Buf (Elt F) ((Memref.whole main_arg0 : Memref sig .tc .hbm _ _).view.loc (c : Thread nD τ)))
  (XBN : Buf (Elt F) ((Memref.whole main_v6 : Memref sig .tc .hbm _ _).view.loc (c : Thread nD τ)))
  (V20 : Buf (Elt F) (a20.view.loc (c : Thread nD τ)))
  (OBI : Buf (Elt F) ((Memref.whole main_v22_4 : Memref sig .tc .hbm _ _).view.loc (c : Thread nD τ)))
  (OBT : Buf (Elt F) ((Memref.whole main_v22_5 : Memref sig .tc .hbm _ _).view.loc (c : Thread nD τ)))

/-- Scratch array 23 with its first `k` blocks stored. -/
def scrB23 (k : ℕ) : sProp 𝕄 :=
  iprop(∃ f, ⌜UpTo (W := 512) (R := 8192) (D := 64) (by decide) a23.view (outB_23 c XBU V20) k f⌝ ∗ own23 c f)
theorem scrB23_end (k : ℕ) (hk : k = 16) :
    scrB23 c XBU V20 k ⊢ own23 c (stack (W := 512) (R := 8192) (D := 64) (by decide) (outB_23 c XBU V20) : S8192x64.Idx → Elt F .f32) := by
  subst hk
  unfold scrB23
  iintro ⟨%f, %hU, H⟩
  have e : f = (stack (W := 512) (R := 8192) (D := 64) (by decide) (outB_23 c XBU V20) : S8192x64.Idx → Elt F .f32) := upTo_all (by decide) _ _ 16 (by decide) f hU
  subst e
  iexact H

/-- Scratch array 24 with its first `k` blocks stored. -/
def scrB24 (k : ℕ) : sProp 𝕄 :=
  iprop(∃ f, ⌜UpTo (W := 512) (R := 8192) (D := 64) (by decide) a24.view (outB_24 c XBU V20) k f⌝ ∗ own24 c f)
theorem scrB24_end (k : ℕ) (hk : k = 16) :
    scrB24 c XBU V20 k ⊢ own24 c (stack (W := 512) (R := 8192) (D := 64) (by decide) (outB_24 c XBU V20) : S8192x64.Idx → Elt F .f32) := by
  subst hk
  unfold scrB24
  iintro ⟨%f, %hU, H⟩
  have e : f = (stack (W := 512) (R := 8192) (D := 64) (by decide) (outB_24 c XBU V20) : S8192x64.Idx → Elt F .f32) := upTo_all (by decide) _ _ 16 (by decide) f hU
  subst e
  iexact H

/-- Scratch array 22 with its first `k` blocks stored. -/
def scrB22 (k : ℕ) : sProp 𝕄 :=
  iprop(∃ f, ⌜UpTo (W := 512) (R := 8192) (D := 64) (by decide) a22.view (outB_22 c XBU XBN V20) k f⌝ ∗ own22 c f)
theorem scrB22_end (k : ℕ) (hk : k = 16) :
    scrB22 c XBU XBN V20 k ⊢ own22 c (stack (W := 512) (R := 8192) (D := 64) (by decide) (outB_22 c XBU XBN V20) : S8192x64.Idx → Elt F .f32) := by
  subst hk
  unfold scrB22
  iintro ⟨%f, %hU, H⟩
  have e : f = (stack (W := 512) (R := 8192) (D := 64) (by decide) (outB_22 c XBU XBN V20) : S8192x64.Idx → Elt F .f32) := upTo_all (by decide) _ _ 16 (by decide) f hU
  subst e
  iexact H

/-- Scratch array 21 with its first `k` blocks stored. -/
def scrB21 (k : ℕ) : sProp 𝕄 :=
  iprop(∃ f, ⌜UpTo (W := 512) (R := 8192) (D := 192) (by decide) a21.view (outB_21 c XBU V20) k f⌝ ∗ own21 c f)
theorem scrB21_end (k : ℕ) (hk : k = 16) :
    scrB21 c XBU V20 k ⊢ own21 c (stack (W := 512) (R := 8192) (D := 192) (by decide) (outB_21 c XBU V20) : S8192x192.Idx → Elt F .bf16) := by
  subst hk
  unfold scrB21
  iintro ⟨%f, %hU, H⟩
  have e : f = (stack (W := 512) (R := 8192) (D := 192) (by decide) (outB_21 c XBU V20) : S8192x192.Idx → Elt F .bf16) := upTo_all (by decide) _ _ 16 (by decide) f hU
  subst e
  iexact H

/-- The result as the pipeline leaves it. -/
abbrev finBI : Buf (Elt F) ((Memref.whole main_v22_4 : Memref sig .tc .hbm _ _).view.loc (c : Thread nD τ)) := (stack (W := 512) (R := 8192) (D := 64) (by decide) (outB_BI c XBU V20) : S8192x64.Idx → Elt F .f32)

/-- The result as the pipeline leaves it. -/
abbrev finBT : Buf (Elt F) ((Memref.whole main_v22_5 : Memref sig .tc .hbm _ _).view.loc (c : Thread nD τ)) := (stack (W := 512) (R := 8192) (D := 64) (by decide) (outB_BT c XBU V20) : S8192x64.Idx → Elt F .f32)

def accB (k : ℕ) : BitVec 32 × BitVec 32 × BitVec 32 × BitVec 32 × BitVec 32 × BitVec 32 × BitVec 32 × BitVec 32 × BitVec 32 :=
  (w32 (k + 1), w32 k, w32 (k + 1), w32 k, w32 k, w32 (k - 1), w32 k, w32 (k - 1), w32 k)
/-- The loop's words between its trips. -/
def outBw (k : ℕ) : BitVec 32 × BitVec 32 × BitVec 32 × BitVec 32 × BitVec 32 × BitVec 32 × BitVec 32 × BitVec 32 × BitVec 32 :=
  (w32 (min (k + 1) 16), w32 k, w32 (min (k + 1) 16), w32 k, w32 k, w32 (k - 1), w32 k, w32 (k - 1), w32 (k % 16))
abbrev tripB (k : T2) (acc : BitVec 32 × BitVec 32 × BitVec 32 × BitVec 32 × BitVec 32 × BitVec 32 × BitVec 32 × BitVec 32 × BitVec 32) :=
  k0_t2_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg6 harg6 arg7 harg7 arg8 harg8 arg9 harg9 (Memref.whole main_v6) (Memref.isWhole_whole _) (Memref.whole main_v13) (Memref.isWhole_whole _) (Memref.whole main_v22_0) (Memref.isWhole_whole _) (Memref.whole main_v22_1) (Memref.isWhole_whole _) (Memref.whole main_v22_2) (Memref.isWhole_whole _) (Memref.whole main_v22_3) (Memref.isWhole_whole _) (Memref.whole main_v22_4) (Memref.isWhole_whole _) (Memref.whole main_v22_5) (Memref.isWhole_whole _) (Memref.whole main_v22_6) (Memref.isWhole_whole _) (Memref.whole main_v22_7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 (Memref.whole cc0_scoped20) (Memref.isWhole_whole _) cc0_scoped21 (Memref.whole cc0_scoped22) (Memref.isWhole_whole _) cc0_scoped23 (Memref.whole cc0_scoped24) (Memref.isWhole_whole _) cc0_scoped25 (Memref.whole cc0_scoped26) (Memref.isWhole_whole _) cc0_scoped27 (Memref.whole cc0_scoped28) (Memref.isWhole_whole _) cc0_scoped29 (Memref.whole cc0_scoped30) (Memref.isWhole_whole _) cc0_scoped31 (Memref.whole cc0_scoped32) (Memref.isWhole_whole _) cc0_scoped33 (Memref.whole cc0_scoped34) (Memref.isWhole_whole _) cc0_scoped35 (Memref.whole cc0_scoped36) (Memref.isWhole_whole _) cc0_scoped37 v23 k acc

set_option maxHeartbeats 4000000 in
theorem runB_first (k : T2) (hk0 : k.val = 0) :
    iprop(own20 c V20 ∗ scrB23 c XBU V20 k ∗ scrB24 c XBU V20 k ∗ scrB22 c XBU XBN V20 k ∗ scrB21 c XBU V20 k ∗ (∃ W, owes (c : Thread nD τ) 0 W) ∗ ringBU c XBU k ∗ ringBN c XBN k ∗ ring0BI c OBI (finBI c XBU V20) k ∗ ring0BT c OBT (finBT c XBU V20) k)
      ⊢ wp frame (wpE (defs₀ (F := F)) 𝒱₀ (c : Thread nD τ) none) Set.univ (tripB arg6 harg6 arg7 harg7 arg8 harg8 arg9 harg9 v23 k (accB k))
        (fun acc => iprop(⌜acc = outBw (k.val + 1)⌝ ∗ own20 c V20 ∗ scrB23 c XBU V20 (k + 1) ∗ scrB24 c XBU V20 (k + 1) ∗ scrB22 c XBU XBN V20 (k + 1) ∗ scrB21 c XBU V20 (k + 1) ∗ (∃ W, owes (c : Thread nD τ) 0 W) ∗ ringBU c XBU (k + 1) ∗ ringBN c XBN (k + 1) ∗ ringBI c OBI (finBI c XBU V20) (outB_BI c XBU V20) (k + 1) ∗ ringBT c OBT (finBT c XBU V20) (outB_BT c XBU V20) (k + 1))) := by
  have hlt : k.val < 16 := k.isLt
  have hk : k.val < 15 := by omega
  have hk8 : k.val + 1 < 16 := by omega
  have hk1 : ¬ 1 ≤ k.val := by omega
  have h16 := cond16_pos k hk
  have h17 := cond17_pos k hk
  have h18 := cond18_pos k
  have h19 := cond19_pos k
  have h28 := cond28_pos k
  have h29 := cond29_pos k
  have h36 := cond36_neg k hk1
  have h37 := cond37_neg k hk1
  have c9 := chk9_ok k
  have c8 := chk8_ok k
  have c7 := chk7_ok k
  have c6 := chk6_ok k
  have c5 := chk5_ok k
  unfold ringBU ringBN ring0BI ring0BT scrB23 scrB24 scrB22 scrB21 ringBI ringBT
  rw [outBU c XBU k hk8, inBU c XBU k hk8]
  rw [outBN c XBN k hk8, inBN c XBN k hk8]
  rw [outBI c OBI (finBI c XBU V20) k hlt, in0BI c OBI (finBI c XBU V20) k hk0]
  rw [outBT c OBT (finBT c XBU V20) k hlt, in0BT c OBT (finBT c XBU V20) k hk0]
  rw [Nat.add_sub_cancel]
  rw [Ring.sl_add]
  iintro ⟨H20, ⟨%f23, %hU23, H23⟩, ⟨%f24, %hU24, H24⟩, ⟨%f22, %hU22, H22⟩, ⟨%f21, %hU21, H21⟩, ⟨%W, HW⟩, ⟨⟨HbBU, HrBU⟩, ⟨%fBU, HFBU⟩, ⟨%sBU, HsBU⟩, HcBU⟩, ⟨⟨HbBN, HrBN⟩, ⟨%fBN, HFBN⟩, ⟨%sBN, HsBN⟩, HcBN⟩, ⟨⟨HbBI, HrBI⟩, ⟨%sBI, HsBI⟩, HcBI, ⟨%zBI, HzBI⟩, HyBI⟩, ⟨⟨HbBT, HrBT⟩, ⟨%sBT, HsBT⟩, HcBT, ⟨%zBT, HzBT⟩, HyBT⟩⟩
  dsimp only [tripB, accB]
  sl_unfold [k0_t2_body]
  sl_exec_parts
  sl_step
  isplitr
  · ipureintro; clear * - k; unfold outBw; refine Prod.ext ?_ (Prod.ext ?_ (Prod.ext ?_ (Prod.ext ?_ (Prod.ext ?_ (Prod.ext ?_ (Prod.ext ?_ (Prod.ext ?_ ?_))))))) <;> (revert k; decide)
  isplitl [H20]
  · iexact H20
  isplitl [H23]
  · iexists _
    isplitr
    rotate_left
    · iexact H23
    · ipureintro; exact upTo_succ (by decide) a23.view _ k.val f23 _ (off43_eq k) (valB_23 (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20)) (by unfold outB_23; rw [loadBU (Ring.sl 2 k.val) (off39_eq k), full20_eq]) hU23
  isplitl [H24]
  · iexists _
    isplitr
    rotate_left
    · iexact H24
    · ipureintro; exact upTo_succ (by decide) a24.view _ k.val f24 _ (off43_eq k) (valB_24 (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20)) (by unfold outB_24; rw [loadBU (Ring.sl 2 k.val) (off39_eq k), full20_eq]) hU24
  isplitl [H22]
  · iexists _
    isplitr
    rotate_left
    · iexact H22
    · ipureintro; exact upTo_succ (by decide) a22.view _ k.val f22 _ (off43_eq k) (valB_22 (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20) (shapeCast S512x64 (View.readAt (Elt F) (Memref.whole cc0_scoped8 : Memref sig .tc .vmem S2x512x64 .f32).view (Rect.unit (s := S2x512x64) (k0_off40 (w32 k.val)) S1x512x64.size (by rw [off40_eq k]; exact slotInbBN _)).toLoadRect ((slotBN (Ring.sl 2 k.val)).view.writes (Elt F) (slotBN (Ring.sl 2 k.val)).view.junk [⟨Rect.whole S512x64, (blkBN (Ring.bk 16 k.val)).view.read (Elt F) XBN⟩])) shapeCasts_S1x512x64_S512x64)) (by unfold outB_22; rw [loadBU (Ring.sl 2 k.val) (off39_eq k), full20_eq, loadBN (Ring.sl 2 k.val) (off40_eq k)]) hU22
  isplitl [H21]
  · iexists _
    isplitr
    rotate_left
    · iexact H21
    · ipureintro; exact upTo_succ (by decide) a21.view _ k.val f21 _ (off44_eq k) (valB_21 (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20)) (by unfold outB_21; rw [loadBU (Ring.sl 2 k.val) (off39_eq k), full20_eq]) hU21
  isplitl [HW]
  · iexists _; iexact HW
  isplitl [HrBU HFBU_src HFBU_dst HFBU HcBU]
  · isplitl [HFBU_src HrBU]
    · isplitl [HFBU_src]; · iexact HFBU_src
      iexact HrBU
    isplitl [HcBU]; · iexists sBU; iexact HcBU
    isplitl [HFBU_dst]; · iexists _; iexact HFBU_dst
    iexact HFBU
  isplitl [HrBN HFBN_src HFBN_dst HFBN HcBN]
  · isplitl [HFBN_src HrBN]
    · isplitl [HFBN_src]; · iexact HFBN_src
      iexact HrBN
    isplitl [HcBN]; · iexists sBN; iexact HcBN
    isplitl [HFBN_dst]; · iexists _; iexact HFBN_dst
    iexact HFBN
  isplitl [HrBI HcBI HzBI HyBI]
  · isplitl [HrBI]; · iexact HrBI
    isplitl [HzBI]; · iexists _; iexact HzBI
    isplitl [HyBI]; · iexact HyBI
    iexists _
    isplitr
    rotate_left
    · iexact HcBI
    · ipureintro; refine (storeBI (F := F) (Ring.sl 2 k.val) (off41_eq k) (by rw [off41_eq k]; exact slotInbBI _) shapeCasts_S512x64_S1x512x64 sBI (valB_BI (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20))).trans ?_
      unfold outB_BI; rw [loadBU (Ring.sl 2 k.val) (off39_eq k), full20_eq]
  isplitl [HrBT]; · iexact HrBT
  isplitl [HzBT]; · iexists _; iexact HzBT
  isplitl [HyBT]; · iexact HyBT
  iexists _
  isplitr
  rotate_left
  · iexact HcBT
  · ipureintro; refine (storeBT (F := F) (Ring.sl 2 k.val) (off42_eq k) (by rw [off42_eq k]; exact slotInbBT _) shapeCasts_S512x64_S1x512x64 sBT (valB_BT (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20))).trans ?_
    unfold outB_BT; rw [loadBU (Ring.sl 2 k.val) (off39_eq k), full20_eq]

set_option maxHeartbeats 4000000 in
theorem runB_mid (k : T2) (hk0 : 1 ≤ k.val ∧ k.val < 15) :
    iprop(own20 c V20 ∗ scrB23 c XBU V20 k ∗ scrB24 c XBU V20 k ∗ scrB22 c XBU XBN V20 k ∗ scrB21 c XBU V20 k ∗ (∃ W, owes (c : Thread nD τ) 0 W) ∗ ringBU c XBU k ∗ ringBN c XBN k ∗ ringBI c OBI (finBI c XBU V20) (outB_BI c XBU V20) k ∗ ringBT c OBT (finBT c XBU V20) (outB_BT c XBU V20) k)
      ⊢ wp frame (wpE (defs₀ (F := F)) 𝒱₀ (c : Thread nD τ) none) Set.univ (tripB arg6 harg6 arg7 harg7 arg8 harg8 arg9 harg9 v23 k (accB k))
        (fun acc => iprop(⌜acc = outBw (k.val + 1)⌝ ∗ own20 c V20 ∗ scrB23 c XBU V20 (k + 1) ∗ scrB24 c XBU V20 (k + 1) ∗ scrB22 c XBU XBN V20 (k + 1) ∗ scrB21 c XBU V20 (k + 1) ∗ (∃ W, owes (c : Thread nD τ) 0 W) ∗ ringBU c XBU (k + 1) ∗ ringBN c XBN (k + 1) ∗ ringBI c OBI (finBI c XBU V20) (outB_BI c XBU V20) (k + 1) ∗ ringBT c OBT (finBT c XBU V20) (outB_BT c XBU V20) (k + 1))) := by
  have hlt : k.val < 16 := k.isLt
  have hk : k.val < 15 := by omega
  have hk8 : k.val + 1 < 16 := by omega
  have hk1 : 1 ≤ k.val := by omega
  have h16 := cond16_pos k hk
  have h17 := cond17_pos k hk
  have h18 := cond18_pos k
  have h19 := cond19_pos k
  have h28 := cond28_pos k
  have h29 := cond29_pos k
  have h36 := cond36_pos k hk1
  have h37 := cond37_pos k hk1
  have c9 := chk9_ok k
  have c8 := chk8_ok k
  have c7 := chk7_ok k
  have c6 := chk6_ok k
  have c5 := chk5_ok k
  unfold ringBU ringBN ringBI ringBT scrB23 scrB24 scrB22 scrB21
  rw [outBU c XBU k hk8, inBU c XBU k hk8]
  rw [outBN c XBN k hk8, inBN c XBN k hk8]
  rw [outBI c OBI (finBI c XBU V20) k hlt, inBI c OBI (finBI c XBU V20) k hlt hk1]
  rw [outBT c OBT (finBT c XBU V20) k hlt, inBT c OBT (finBT c XBU V20) k hlt hk1]
  rw [Nat.add_sub_cancel]
  rw [Ring.sl_add]
  iintro ⟨H20, ⟨%f23, %hU23, H23⟩, ⟨%f24, %hU24, H24⟩, ⟨%f22, %hU22, H22⟩, ⟨%f21, %hU21, H21⟩, ⟨%W, HW⟩, ⟨⟨HbBU, HrBU⟩, ⟨%fBU, HFBU⟩, ⟨%sBU, HsBU⟩, HcBU⟩, ⟨⟨HbBN, HrBN⟩, ⟨%fBN, HFBN⟩, ⟨%sBN, HsBN⟩, HcBN⟩, ⟨⟨HbBI, HrBI⟩, ⟨%sBI, HsBI⟩, HcBI, ⟨%gBI, %hgBI, HFBI⟩⟩, ⟨⟨HbBT, HrBT⟩, ⟨%sBT, HsBT⟩, HcBT, ⟨%gBT, %hgBT, HFBT⟩⟩⟩
  dsimp only [tripB, accB]
  sl_unfold [k0_t2_body]
  sl_exec_parts
  sl_step
  isplitr
  · ipureintro; clear * - k; unfold outBw; refine Prod.ext ?_ (Prod.ext ?_ (Prod.ext ?_ (Prod.ext ?_ (Prod.ext ?_ (Prod.ext ?_ (Prod.ext ?_ (Prod.ext ?_ ?_))))))) <;> (revert k; decide)
  isplitl [H20]
  · iexact H20
  isplitl [H23]
  · iexists _
    isplitr
    rotate_left
    · iexact H23
    · ipureintro; exact upTo_succ (by decide) a23.view _ k.val f23 _ (off43_eq k) (valB_23 (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20)) (by unfold outB_23; rw [loadBU (Ring.sl 2 k.val) (off39_eq k), full20_eq]) hU23
  isplitl [H24]
  · iexists _
    isplitr
    rotate_left
    · iexact H24
    · ipureintro; exact upTo_succ (by decide) a24.view _ k.val f24 _ (off43_eq k) (valB_24 (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20)) (by unfold outB_24; rw [loadBU (Ring.sl 2 k.val) (off39_eq k), full20_eq]) hU24
  isplitl [H22]
  · iexists _
    isplitr
    rotate_left
    · iexact H22
    · ipureintro; exact upTo_succ (by decide) a22.view _ k.val f22 _ (off43_eq k) (valB_22 (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20) (shapeCast S512x64 (View.readAt (Elt F) (Memref.whole cc0_scoped8 : Memref sig .tc .vmem S2x512x64 .f32).view (Rect.unit (s := S2x512x64) (k0_off40 (w32 k.val)) S1x512x64.size (by rw [off40_eq k]; exact slotInbBN _)).toLoadRect ((slotBN (Ring.sl 2 k.val)).view.writes (Elt F) (slotBN (Ring.sl 2 k.val)).view.junk [⟨Rect.whole S512x64, (blkBN (Ring.bk 16 k.val)).view.read (Elt F) XBN⟩])) shapeCasts_S1x512x64_S512x64)) (by unfold outB_22; rw [loadBU (Ring.sl 2 k.val) (off39_eq k), full20_eq, loadBN (Ring.sl 2 k.val) (off40_eq k)]) hU22
  isplitl [H21]
  · iexists _
    isplitr
    rotate_left
    · iexact H21
    · ipureintro; exact upTo_succ (by decide) a21.view _ k.val f21 _ (off44_eq k) (valB_21 (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20)) (by unfold outB_21; rw [loadBU (Ring.sl 2 k.val) (off39_eq k), full20_eq]) hU21
  isplitl [HW]
  · iexists _; iexact HW
  isplitl [HrBU HFBU_src HFBU_dst HFBU HcBU]
  · isplitl [HFBU_src HrBU]
    · isplitl [HFBU_src]; · iexact HFBU_src
      iexact HrBU
    isplitl [HcBU]; · iexists sBU; iexact HcBU
    isplitl [HFBU_dst]; · iexists _; iexact HFBU_dst
    iexact HFBU
  isplitl [HrBN HFBN_src HFBN_dst HFBN HcBN]
  · isplitl [HFBN_src HrBN]
    · isplitl [HFBN_src]; · iexact HFBN_src
      iexact HrBN
    isplitl [HcBN]; · iexists sBN; iexact HcBN
    isplitl [HFBN_dst]; · iexists _; iexact HFBN_dst
    iexact HFBN
  isplitl [HrBI HFBI_src HFBI_dst HFBI HcBI]
  · isplitl [HFBI_dst HrBI]
    · isplitl [HFBI_dst]
      · iapply (entails_of_eq (doneBI c OBI _ (Ring.sl 2 (k.val - 1)) (k.val - 1) (by omega) gBI (outB_BI c XBU V20) rfl hgBI)); iexact HFBI_dst
      · iexact HrBI
    rw [Ring.sl2_succ_eq_pred k.val hk1]
    isplitl [HFBI_src]; · iexists _; iexact HFBI_src
    isplitl [HFBI]; · iexact HFBI
    iexists _
    isplitr
    rotate_left
    · iexact HcBI
    · ipureintro; refine (storeBI (F := F) (Ring.sl 2 k.val) (off41_eq k) (by rw [off41_eq k]; exact slotInbBI _) shapeCasts_S512x64_S1x512x64 sBI (valB_BI (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20))).trans ?_
      unfold outB_BI; rw [loadBU (Ring.sl 2 k.val) (off39_eq k), full20_eq]
  isplitl [HFBT_dst HrBT]
  · isplitl [HFBT_dst]
    · iapply (entails_of_eq (doneBT c OBT _ (Ring.sl 2 (k.val - 1)) (k.val - 1) (by omega) gBT (outB_BT c XBU V20) rfl hgBT)); iexact HFBT_dst
    · iexact HrBT
  rw [Ring.sl2_succ_eq_pred k.val hk1]
  isplitl [HFBT_src]; · iexists _; iexact HFBT_src
  isplitl [HFBT]; · iexact HFBT
  iexists _
  isplitr
  rotate_left
  · iexact HcBT
  · ipureintro; refine (storeBT (F := F) (Ring.sl 2 k.val) (off42_eq k) (by rw [off42_eq k]; exact slotInbBT _) shapeCasts_S512x64_S1x512x64 sBT (valB_BT (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20))).trans ?_
    unfold outB_BT; rw [loadBU (Ring.sl 2 k.val) (off39_eq k), full20_eq]

set_option maxHeartbeats 4000000 in
theorem runB_last (k : T2) (hk0 : ¬ k.val < 15) :
    iprop(own20 c V20 ∗ scrB23 c XBU V20 k ∗ scrB24 c XBU V20 k ∗ scrB22 c XBU XBN V20 k ∗ scrB21 c XBU V20 k ∗ (∃ W, owes (c : Thread nD τ) 0 W) ∗ ringBU c XBU k ∗ ringBN c XBN k ∗ ringBI c OBI (finBI c XBU V20) (outB_BI c XBU V20) k ∗ ringBT c OBT (finBT c XBU V20) (outB_BT c XBU V20) k)
      ⊢ wp frame (wpE (defs₀ (F := F)) 𝒱₀ (c : Thread nD τ) none) Set.univ (tripB arg6 harg6 arg7 harg7 arg8 harg8 arg9 harg9 v23 k (accB k))
        (fun acc => iprop(⌜acc = outBw (k.val + 1)⌝ ∗ own20 c V20 ∗ scrB23 c XBU V20 (k + 1) ∗ scrB24 c XBU V20 (k + 1) ∗ scrB22 c XBU XBN V20 (k + 1) ∗ scrB21 c XBU V20 (k + 1) ∗ (∃ W, owes (c : Thread nD τ) 0 W) ∗ ringEndBU c XBU k ∗ ringEndBN c XBN k ∗ ringBI c OBI (finBI c XBU V20) (outB_BI c XBU V20) (k + 1) ∗ ringBT c OBT (finBT c XBU V20) (outB_BT c XBU V20) (k + 1))) := by
  have hlt : k.val < 16 := k.isLt
  have hkl : k.val = 15 := by omega
  have hk : ¬ k.val < 15 := hk0
  have hk1 : 1 ≤ k.val := by omega
  have h16 := cond16_neg k hk
  have h17 := cond17_neg k hk
  have h18 := cond18_pos k
  have h19 := cond19_pos k
  have h28 := cond28_pos k
  have h29 := cond29_pos k
  have h36 := cond36_pos k hk1
  have h37 := cond37_pos k hk1
  have c9 := chk9_ok k
  have c8 := chk8_ok k
  have c7 := chk7_ok k
  have c6 := chk6_ok k
  have c5 := chk5_ok k
  unfold ringBU ringBN ringBI ringBT scrB23 scrB24 scrB22 scrB21 ringEndBU ringEndBN
  rw [endBU c XBU k hkl]
  rw [endBN c XBN k hkl]
  rw [outBI c OBI (finBI c XBU V20) k hlt, inBI c OBI (finBI c XBU V20) k hlt hk1]
  rw [outBT c OBT (finBT c XBU V20) k hlt, inBT c OBT (finBT c XBU V20) k hlt hk1]
  rw [Nat.add_sub_cancel]
  iintro ⟨H20, ⟨%f23, %hU23, H23⟩, ⟨%f24, %hU24, H24⟩, ⟨%f22, %hU22, H22⟩, ⟨%f21, %hU21, H21⟩, ⟨%W, HW⟩, ⟨HrBU, ⟨%fBU, HFBU⟩, ⟨%sBU, HsBU⟩, HcBU⟩, ⟨HrBN, ⟨%fBN, HFBN⟩, ⟨%sBN, HsBN⟩, HcBN⟩, ⟨⟨HbBI, HrBI⟩, ⟨%sBI, HsBI⟩, HcBI, ⟨%gBI, %hgBI, HFBI⟩⟩, ⟨⟨HbBT, HrBT⟩, ⟨%sBT, HsBT⟩, HcBT, ⟨%gBT, %hgBT, HFBT⟩⟩⟩
  dsimp only [tripB, accB]
  sl_unfold [k0_t2_body]
  sl_exec_parts
  sl_step
  isplitr
  · ipureintro; clear * - k; unfold outBw; refine Prod.ext ?_ (Prod.ext ?_ (Prod.ext ?_ (Prod.ext ?_ (Prod.ext ?_ (Prod.ext ?_ (Prod.ext ?_ (Prod.ext ?_ ?_))))))) <;> (revert k; decide)
  isplitl [H20]
  · iexact H20
  isplitl [H23]
  · iexists _
    isplitr
    rotate_left
    · iexact H23
    · ipureintro; exact upTo_succ (by decide) a23.view _ k.val f23 _ (off43_eq k) (valB_23 (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20)) (by unfold outB_23; rw [loadBU (Ring.sl 2 k.val) (off39_eq k), full20_eq]) hU23
  isplitl [H24]
  · iexists _
    isplitr
    rotate_left
    · iexact H24
    · ipureintro; exact upTo_succ (by decide) a24.view _ k.val f24 _ (off43_eq k) (valB_24 (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20)) (by unfold outB_24; rw [loadBU (Ring.sl 2 k.val) (off39_eq k), full20_eq]) hU24
  isplitl [H22]
  · iexists _
    isplitr
    rotate_left
    · iexact H22
    · ipureintro; exact upTo_succ (by decide) a22.view _ k.val f22 _ (off43_eq k) (valB_22 (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20) (shapeCast S512x64 (View.readAt (Elt F) (Memref.whole cc0_scoped8 : Memref sig .tc .vmem S2x512x64 .f32).view (Rect.unit (s := S2x512x64) (k0_off40 (w32 k.val)) S1x512x64.size (by rw [off40_eq k]; exact slotInbBN _)).toLoadRect ((slotBN (Ring.sl 2 k.val)).view.writes (Elt F) (slotBN (Ring.sl 2 k.val)).view.junk [⟨Rect.whole S512x64, (blkBN (Ring.bk 16 k.val)).view.read (Elt F) XBN⟩])) shapeCasts_S1x512x64_S512x64)) (by unfold outB_22; rw [loadBU (Ring.sl 2 k.val) (off39_eq k), full20_eq, loadBN (Ring.sl 2 k.val) (off40_eq k)]) hU22
  isplitl [H21]
  · iexists _
    isplitr
    rotate_left
    · iexact H21
    · ipureintro; exact upTo_succ (by decide) a21.view _ k.val f21 _ (off44_eq k) (valB_21 (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20)) (by unfold outB_21; rw [loadBU (Ring.sl 2 k.val) (off39_eq k), full20_eq]) hU21
  isplitl [HW]
  · iexists _; iexact HW
  isplitl [HrBU HFBU_src HFBU_dst HFBU HcBU HsBU]
  · isplitl [HFBU_src HrBU]
    · isplitl [HFBU_src]; · iexact HFBU_src
      iexact HrBU
    isplitl [HFBU_dst]; · iexists _; iexact HFBU_dst
    isplitl [HsBU]; · iexists _; iexact HsBU
    isplitl [HFBU]; · iexact HFBU
    iexact HcBU
  isplitl [HrBN HFBN_src HFBN_dst HFBN HcBN HsBN]
  · isplitl [HFBN_src HrBN]
    · isplitl [HFBN_src]; · iexact HFBN_src
      iexact HrBN
    isplitl [HFBN_dst]; · iexists _; iexact HFBN_dst
    isplitl [HsBN]; · iexists _; iexact HsBN
    isplitl [HFBN]; · iexact HFBN
    iexact HcBN
  isplitl [HrBI HFBI_src HFBI_dst HFBI HcBI]
  · isplitl [HFBI_dst HrBI]
    · isplitl [HFBI_dst]
      · iapply (entails_of_eq (doneBI c OBI _ (Ring.sl 2 (k.val - 1)) (k.val - 1) (by omega) gBI (outB_BI c XBU V20) rfl hgBI)); iexact HFBI_dst
      · iexact HrBI
    rw [Ring.sl2_succ_eq_pred k.val hk1]
    isplitl [HFBI_src]; · iexists _; iexact HFBI_src
    isplitl [HFBI]; · iexact HFBI
    iexists _
    isplitr
    rotate_left
    · iexact HcBI
    · ipureintro; refine (storeBI (F := F) (Ring.sl 2 k.val) (off41_eq k) (by rw [off41_eq k]; exact slotInbBI _) shapeCasts_S512x64_S1x512x64 sBI (valB_BI (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20))).trans ?_
      unfold outB_BI; rw [loadBU (Ring.sl 2 k.val) (off39_eq k), full20_eq]
  isplitl [HFBT_dst HrBT]
  · isplitl [HFBT_dst]
    · iapply (entails_of_eq (doneBT c OBT _ (Ring.sl 2 (k.val - 1)) (k.val - 1) (by omega) gBT (outB_BT c XBU V20) rfl hgBT)); iexact HFBT_dst
    · iexact HrBT
  rw [Ring.sl2_succ_eq_pred k.val hk1]
  isplitl [HFBT_src]; · iexists _; iexact HFBT_src
  isplitl [HFBT]; · iexact HFBT
  iexists _
  isplitr
  rotate_left
  · iexact HcBT
  · ipureintro; refine (storeBT (F := F) (Ring.sl 2 k.val) (off42_eq k) (by rw [off42_eq k]; exact slotInbBT _) shapeCasts_S512x64_S1x512x64 sBT (valB_BT (shapeCast S512x4096 (View.readAt (Elt F) (Memref.whole cc0_scoped6 : Memref sig .tc .vmem S2x512x4096 .f32).view (Rect.unit (s := S2x512x4096) (k0_off39 (w32 k.val)) S1x512x4096.size (by rw [off39_eq k]; exact slotInbBU _)).toLoadRect ((slotBU (Ring.sl 2 k.val)).view.writes (Elt F) (slotBU (Ring.sl 2 k.val)).view.junk [⟨Rect.whole S512x4096, (blkBU (Ring.bk 16 k.val)).view.read (Elt F) XBU⟩])) shapeCasts_S1x512x4096_S512x4096) (full20 c V20))).trans ?_
    unfold outB_BT; rw [loadBU (Ring.sl 2 k.val) (off39_eq k), full20_eq]

end Trip

end Cert.Proof.KI

end
-- ==== Proof.KI.LoopB.lean ====
/-
  Pipeline B as a whole: what holds between its trips, how it is entered and what it leaves.
-/
module

public import proofs.«01_k».proof.Proof.KI.B

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

/-- Both slots and both semaphores free. -/
def freeBU (c : Dev nD) : sProp 𝕄 :=
  iprop((∃ f, slotPBU c (Ring.sl 2 0) f) ∗ (∃ f, slotPBU c (Ring.sl 2 1) f) ∗ cellBU (F := F) c (Ring.sl 2 0) ∗ cellBU (F := F) c (Ring.sl 2 1))
theorem openBU (c : Dev nD) (X : Buf (Elt F) ((Memref.whole main_arg0 : Memref sig .tc .hbm _ _).view.loc (c : Thread nD τ))) :
    iprop(bigSep Finset.univ (homeBU c X) ∗ freeBU (F := F) c) ⊢ iprop(homeBU c X (Ring.bk 16 0) ∗ bigSep (Ring.homeSet 1 0) (homeBU c X)
      ∗ (∃ f, slotPBU c (Ring.sl 2 0) f) ∗ (∃ f, slotPBU c (Ring.sl 2 1) f) ∗ cellBU (F := F) c (Ring.sl 2 0) ∗ cellBU (F := F) c (Ring.sl 2 1)) := by
  have e : (Finset.univ : Finset (Fin 16)) = insert (Ring.bk 16 0) (Ring.homeSet (NB := 16) 1 0) := by decide
  have e' : bigSep Finset.univ (homeBU c X) = iprop(homeBU c X (Ring.bk 16 0) ∗ bigSep (Ring.homeSet 1 0) (homeBU c X)) := by
    rw [e, bigSep_insert (by decide)]; rfl
  unfold freeBU
  rw [e']
  iintro ⟨⟨H1, H2⟩, H3, H4, H5, H6⟩
  isplitl [H1]
  · iexact H1
  isplitl [H2]
  · iexact H2
  isplitl [H3]
  · iexact H3
  isplitl [H4]
  · iexact H4
  isplitl [H5]
  · iexact H5
  · iexact H6
theorem ringInBU (c : Dev nD) (X : Buf (Elt F) ((Memref.whole main_arg0 : Memref sig .tc .hbm _ _).view.loc (c : Thread nD τ))) :
    iprop(bigSep (Ring.homeSet 1 0) (homeBU c X) ∗ (∃ f, flightBU c X (Ring.sl 2 0) (Ring.bk 16 0) f)
      ∗ (∃ f, slotPBU c (Ring.sl 2 1) f) ∗ cellBU (F := F) c (Ring.sl 2 1)) ⊢ ringBU c X 0 := by
  unfold ringBU; exact .rfl
theorem ringOutBU (c : Dev nD) (X : Buf (Elt F) ((Memref.whole main_arg0 : Memref sig .tc .hbm _ _).view.loc (c : Thread nD τ))) :
    ringEndBU c X 15 ⊢ iprop(bigSep Finset.univ (homeBU c X) ∗ freeBU (F := F) c) := by
  unfold ringEndBU freeBU
  rw [show Ring.sl 2 15 = Ring.sl 2 1 from rfl, show Ring.sl 2 (15 + 1) = Ring.sl 2 0 from rfl]
  iintro ⟨H1, H2, H3, H4, H5⟩
  isplitl [H1]
  · iexact H1
  isplitl [H3]
  · iexact H3
  isplitl [H2]
  · iexact H2
  isplitl [H5]
  · iexact H5
  · iexact H4

/-- Both slots and both semaphores free. -/
def freeBN (c : Dev nD) : sProp 𝕄 :=
  iprop((∃ f, slotPBN c (Ring.sl 2 0) f) ∗ (∃ f, slotPBN c (Ring.sl 2 1) f) ∗ cellBN (F := F) c (Ring.sl 2 0) ∗ cellBN (F := F) c (Ring.sl 2 1))
theorem openBN (c : Dev nD) (X : Buf (Elt F) ((Memref.whole main_v6 : Memref sig .tc .hbm _ _).view.loc (c : Thread nD τ))) :
    iprop(bigSep Finset.univ (homeBN c X) ∗ freeBN (F := F) c) ⊢ iprop(homeBN c X (Ring.bk 16 0) ∗ bigSep (Ring.homeSet 1 0) (homeBN c X)
      ∗ (∃ f, slotPBN c (Ring.sl 2 0) f) ∗ (∃ f, slotPBN c (Ring.sl 2 1) f) ∗ cellBN (F := F) c (Ring.sl 2 0) ∗ cellBN (F := F) c (Ring.sl 2 1)) := by
  have e : (Finset.univ : Finset (Fin 16)) = insert (Ring.bk 16 0) (Ring.homeSet (NB := 16) 1 0) := by decide
  have e' : bigSep Finset.univ (homeBN c X) = iprop(homeBN c X (Ring.bk 16 0) ∗ bigSep (Ring.homeSet 1 0) (homeBN c X)) := by
    rw [e, bigSep_insert (by decide)]; rfl
  unfold freeBN
  rw [e']
  iintro ⟨⟨H1, H2⟩, H3, H4, H5, H6⟩
  isplitl [H1]
  · iexact H1
  isplitl [H2]
  · iexact H2
  isplitl [H3]
  · iexact H3
  isplitl [H4]
  · iexact H4
  isplitl [H5]
  · iexact H5
  · iexact H6
theorem ringInBN (c : Dev nD) (X : Buf (Elt F) ((Memref.whole main_v6 : Memref sig .tc .hbm _ _).view.loc (c : Thread nD τ))) :
    iprop(bigSep (Ring.homeSet 1 0) (homeBN c X) ∗ (∃ f, flightBN c X (Ring.sl 2 0) (Ring.bk 16 0) f)
      ∗ (∃ f, slotPBN c (Ring.sl 2 1) f) ∗ cellBN (F := F) c (Ring.sl 2 1)) ⊢ ringBN c X 0 := by
  unfold ringBN; exact .rfl
theorem ringOutBN (c : Dev nD) (X : Buf (Elt F) ((Memref.whole main_v6 : Memref sig .tc .hbm _ _).view.loc (c : Thread nD τ))) :
    ringEndBN c X 15 ⊢ iprop(bigSep Finset.univ (homeBN c X) ∗ freeBN (F := F) c) := by
  unfold ringEndBN freeBN
  rw [show Ring.sl 2 15 = Ring.sl 2 1 from rfl, show Ring.sl 2 (15 + 1) = Ring.sl 2 0 from rfl]
  iintro ⟨H1, H2, H3, H4, H5⟩
  isplitl [H1]
  · iexact H1
  isplitl [H3]
  · iexact H3
  isplitl [H2]
  · iexact H2
  isplitl [H5]
  · iexact H5
  · iexact H4

/-- Both slots and both semaphores free. -/
def freeBI (c : Dev nD) : sProp 𝕄 :=
  iprop((∃ f, slotPBI c (Ring.sl 2 0) f) ∗ (∃ f, slotPBI c (Ring.sl 2 1) f) ∗ cellBI (F := F) c (Ring.sl 2 0) ∗ cellBI (F := F) c (Ring.sl 2 1))
theorem ringInBI (c : Dev nD) (X Y : Buf (Elt F) ((Memref.whole main_v22_4 : Memref sig .tc .hbm _ _).view.loc (c : Thread nD τ))) :
    iprop(bigSep Finset.univ (homeBI c X) ∗ freeBI (F := F) c) ⊢ ring0BI c X Y 0 := by
  have e : bigSep (Ring.homeSetB 1 0) (partBI c X Y 0) = bigSep Finset.univ (homeBI c X) := by
    rw [Ring.homeSetB_zero]
    exact bigSep_congr fun b _ => by unfold partBI; rw [if_neg (by omega)]
  unfold freeBI ring0BI
  rw [e]
  iintro ⟨H1, H2, H3, H4, H5⟩
  isplitl [H1]
  · iexact H1
  isplitl [H2]
  · iexact H2
  isplitl [H4]
  · iexact H4
  isplitl [H3]
  · iexact H3
  · iexact H5
theorem ringOutBI (c : Dev nD) (X Y : Buf (Elt F) ((Memref.whole main_v22_4 : Memref sig .tc .hbm _ _).view.loc (c : Thread nD τ))) (Q : ℕ → S512x64.Idx → Elt F .f32) :
    ringBI c X Y Q 16 ⊢ iprop(bigSep (Ring.homeSetB 1 16) (partBI c X Y 16) ∗ (∃ f, slotPBI c (Ring.sl 2 0) f) ∗ cellBI (F := F) c (Ring.sl 2 0)
      ∗ (∃ g, ⌜(slotBI (Ring.sl 2 1)).view.read (Elt F) g = Q 15⌝ ∗ flightBI c X (Ring.sl 2 1) (Ring.bk 16 15) g)) := by
  unfold ringBI; exact .rfl
theorem closeBI (c : Dev nD) (J X Y : Buf (Elt F) ((Memref.whole main_v22_4 : Memref sig .tc .hbm _ _).view.loc (c : Thread nD τ))) (Q : ℕ → S512x64.Idx → Elt F .f32) (g : Buf (Elt F) ((slotBI (Ring.sl 2 1)).view.loc (c : Thread nD τ)))
    (hY : Y = (stack (W := 512) (R := 8192) (D := 64) (by decide) Q : S8192x64.Idx → Elt F .f32)) (hg : (slotBI (Ring.sl 2 1)).view.read (Elt F) g = Q 15) :
    iprop(homeBI c ((blkBI (Ring.bk 16 15)).view.writes (Elt F) J [⟨Rect.whole S512x64, ReadAs.same.apply ((slotBI (Ring.sl 2 1)).view.read (Elt F) g)⟩]) (Ring.bk 16 15)
      ∗ bigSep (Ring.homeSetB 1 16) (partBI c X Y 16) ∗ (∃ f, slotPBI c (Ring.sl 2 0) f) ∗ slotPBI c (Ring.sl 2 1) g ∗ cellBI (F := F) c (Ring.sl 2 0) ∗ cellBI (F := F) c (Ring.sl 2 1))
      ⊢ iprop(bigSep Finset.univ (homeBI c Y) ∗ freeBI (F := F) c) := by
  rw [doneBI c J Y (Ring.sl 2 1) 15 (by decide) g Q hY hg]
  unfold freeBI
  iintro ⟨H1, H2, H3, H4, H5, H6⟩
  isplitl [H1 H2]
  · iapply (entails_of_eq (endBI c X Y 16 rfl).symm)
    isplitl [H1]
    · iexact H1
    · iexact H2
  isplitl [H3]
  · iexact H3
  isplitl [H4]
  · iexists g; iexact H4
  isplitl [H5]
  · iexact H5
  · iexact H6

/-- Both slots and both semaphores free. -/
def freeBT (c : Dev nD) : sProp 𝕄 :=
  iprop((∃ f, slotPBT c (Ring.sl 2 0) f) ∗ (∃ f, slotPBT c (Ring.sl 2 1) f) ∗ cellBT (F := F) c (Ring.sl 2 0) ∗ cellBT (F := F) c (Ring.sl 2 1))
theorem ringInBT (c : Dev nD) (X Y : Buf (Elt F) ((Memref.whole main_v22_5 : Memref sig .tc .hbm _ _).view.loc (c : Thread nD τ))) :
    iprop(bigSep Finset.univ (homeBT c X) ∗ freeBT (F := F) c) ⊢ ring0BT c X Y 0 := by
  have e : bigSep (Ring.homeSetB 1 0) (partBT c X Y 0) = bigSep Finset.univ (homeBT c X) := by
    rw [Ring.homeSetB_zero]
    exact bigSep_congr fun b _ => by unfold partBT; rw [if_neg (by omega)]
  unfold freeBT ring0BT
  rw [e]
  iintro ⟨H1, H2, H3, H4, H5⟩
  isplitl [H1]
  · iexact H1
  isplitl [H2]
  · iexact H2
  isplitl [H4]
  · iexact H4
  isplitl [H3]
  · iexact H3
  · iexact H5
theorem ringOutBT (c : Dev nD) (X Y : Buf (Elt F) ((Memref.whole main_v22_5 : Memref sig .tc .hbm _ _).view.loc (c : Thread nD τ))) (Q : ℕ → S512x64.Idx → Elt F .f32) :
    ringBT c X Y Q 16 ⊢ iprop(bigSep (Ring.homeSetB 1 16) (partBT c X Y 16) ∗ (∃ f, slotPBT c (Ring.sl 2 0) f) ∗ cellBT (F := F) c (Ring.sl 2 0)
      ∗ (∃ g, ⌜(slotBT (Ring.sl 2 1)).view.read (Elt F) g = Q 15⌝ ∗ flightBT c X (Ring.sl 2 1) (Ring.bk 16 15) g)) := by
  unfold ringBT; exact .rfl
theorem closeBT (c : Dev nD) (J X Y : Buf (Elt F) ((Memref.whole main_v22_5 : Memref sig .tc .hbm _ _).view.loc (c : Thread nD τ))) (Q : ℕ → S512x64.Idx → Elt F .f32) (g : Buf (Elt F) ((slotBT (Ring.sl 2 1)).view.loc (c : Thread nD τ)))
    (hY : Y = (stack (W := 512) (R := 8192) (D := 64) (by decide) Q : S8192x64.Idx → Elt F .f32)) (hg : (slotBT (Ring.sl 2 1)).view.read (Elt F) g = Q 15) :
    iprop(homeBT c ((blkBT (Ring.bk 16 15)).view.writes (Elt F) J [⟨Rect.whole S512x64, ReadAs.same.apply ((slotBT (Ring.sl 2 1)).view.read (Elt F) g)⟩]) (Ring.bk 16 15)
      ∗ bigSep (Ring.homeSetB 1 16) (partBT c X Y 16) ∗ (∃ f, slotPBT c (Ring.sl 2 0) f) ∗ slotPBT c (Ring.sl 2 1) g ∗ cellBT (F := F) c (Ring.sl 2 0) ∗ cellBT (F := F) c (Ring.sl 2 1))
      ⊢ iprop(bigSep Finset.univ (homeBT c Y) ∗ freeBT (F := F) c) := by
  rw [doneBT c J Y (Ring.sl 2 1) 15 (by decide) g Q hY hg]
  unfold freeBT
  iintro ⟨H1, H2, H3, H4, H5, H6⟩
  isplitl [H1 H2]
  · iapply (entails_of_eq (endBT c X Y 16 rfl).symm)
    isplitl [H1]
    · iexact H1
    · iexact H2
  isplitl [H3]
  · iexact H3
  isplitl [H4]
  · iexists g; iexact H4
  isplitl [H5]
  · iexact H5
  · iexact H6

section Loop
variable (c : Dev nD)
  (XBU : Buf (Elt F) ((Memref.whole main_arg0 : Memref sig .tc .hbm _ _).view.loc (c : Thread nD τ)))
  (XBN : Buf (Elt F) ((Memref.whole main_v6 : Memref sig .tc .hbm _ _).view.loc (c : Thread nD τ)))
  (V20 : Buf (Elt F) (a20.view.loc (c : Thread nD τ)))
  (OBI : Buf (Elt F) ((Memref.whole main_v22_4 : Memref sig .tc .hbm _ _).view.loc (c : Thread nD τ)))
  (OBT : Buf (Elt F) ((Memref.whole main_v22_5 : Memref sig .tc .hbm _ _).view.loc (c : Thread nD τ)))

/-- The pipeline's buffers before trip `k`. -/
def ringsB (k : ℕ) : sProp 𝕄 := if k = 0 then iprop(ringBU c XBU 0 ∗ ringBN c XBN 0 ∗ ring0BI c OBI (finBI c XBU V20) 0 ∗ ring0BT c OBT (finBT c XBU V20) 0) else if k < 16 then iprop(ringBU c XBU k ∗ ringBN c XBN k ∗ ringBI c OBI (finBI c XBU V20) (outB_BI c XBU V20) k ∗ ringBT c OBT (finBT c XBU V20) (outB_BT c XBU V20) k) else iprop(ringEndBU c XBU 15 ∗ ringEndBN c XBN 15 ∗ ringBI c OBI (finBI c XBU V20) (outB_BI c XBU V20) 16 ∗ ringBT c OBT (finBT c XBU V20) (outB_BT c XBU V20) 16)
/-- What holds between the trips. -/
def invB (k : ℕ) (acc : BitVec 32 × BitVec 32 × BitVec 32 × BitVec 32 × BitVec 32 × BitVec 32 × BitVec 32 × BitVec 32 × BitVec 32) : sProp 𝕄 :=
  iprop(⌜acc = outBw k⌝ ∗ own20 c V20 ∗ scrB23 c XBU V20 k ∗ scrB24 c XBU V20 k ∗ scrB22 c XBU XBN V20 k ∗ scrB21 c XBU V20 k ∗ (∃ W, owes (c : Thread nD τ) 0 W) ∗ ringsB c XBU XBN V20 OBI OBT k)
theorem wordsB : ∀ k : T2, outBw k.val = accB k.val := by
  intro k; unfold outBw accB
  refine Prod.ext ?_ (Prod.ext ?_ (Prod.ext ?_ (Prod.ext ?_ (Prod.ext ?_ (Prod.ext ?_ (Prod.ext ?_ (Prod.ext ?_ ?_))))))) <;> (revert k; decide)

section
variable
  (arg6 : Memref sig .tc .vmem S4096x64 .bf16) (harg6 : arg6.IsWhole) (arg7 : Memref sig .tc .vmem S1x64 .f32) (harg7 : arg7.IsWhole)
  (arg8 : Memref sig .tc .vmem S384x64 .bf16) (harg8 : arg8.IsWhole) (arg9 : Memref sig .tc .vmem S1x64 .f32) (harg9 : arg9.IsWhole)
  (v23 : BitVec 32)
theorem tripB_step (k : T2) :
    iprop(own20 c V20 ∗ scrB23 c XBU V20 k.val ∗ scrB24 c XBU V20 k.val ∗ scrB22 c XBU XBN V20 k.val ∗ scrB21 c XBU V20 k.val ∗ (∃ W, owes (c : Thread nD τ) 0 W) ∗ ringsB c XBU XBN V20 OBI OBT k.val)
      ⊢ wp frame (wpE (defs₀ (F := F)) 𝒱₀ (c : Thread nD τ) none) Set.univ (tripB arg6 harg6 arg7 harg7 arg8 harg8 arg9 harg9 v23 k (accB k))
        (fun acc => iprop(⌜acc = outBw (k.val + 1)⌝ ∗ own20 c V20 ∗ scrB23 c XBU V20 (k.val + 1) ∗ scrB24 c XBU V20 (k.val + 1) ∗ scrB22 c XBU XBN V20 (k.val + 1) ∗ scrB21 c XBU V20 (k.val + 1) ∗ (∃ W, owes (c : Thread nD τ) 0 W) ∗ ringsB c XBU XBN V20 OBI OBT (k.val + 1))) := by
  have hlt : k.val < 16 := k.isLt
  by_cases h0 : k.val = 0
  · have e0 : ringsB c XBU XBN V20 OBI OBT k.val = iprop(ringBU c XBU k.val ∗ ringBN c XBN k.val ∗ ring0BI c OBI (finBI c XBU V20) k.val ∗ ring0BT c OBT (finBT c XBU V20) k.val) := by rw [h0]; exact if_pos rfl
    have e1 : ringsB c XBU XBN V20 OBI OBT (k.val + 1) = iprop(ringBU c XBU (k.val + 1) ∗ ringBN c XBN (k.val + 1) ∗ ringBI c OBI (finBI c XBU V20) (outB_BI c XBU V20) (k.val + 1) ∗ ringBT c OBT (finBT c XBU V20) (outB_BT c XBU V20) (k.val + 1)) := (if_neg (by omega)).trans (if_pos (by omega))
    rw [e0, e1]
    exact runB_first c arg6 harg6 arg7 harg7 arg8 harg8 arg9 harg9 v23 XBU XBN V20 OBI OBT k h0
  by_cases h : k.val < 15
  · have e0 : ringsB c XBU XBN V20 OBI OBT k.val = iprop(ringBU c XBU k.val ∗ ringBN c XBN k.val ∗ ringBI c OBI (finBI c XBU V20) (outB_BI c XBU V20) k.val ∗ ringBT c OBT (finBT c XBU V20) (outB_BT c XBU V20) k.val) := (if_neg h0).trans (if_pos hlt)
    have e1 : ringsB c XBU XBN V20 OBI OBT (k.val + 1) = iprop(ringBU c XBU (k.val + 1) ∗ ringBN c XBN (k.val + 1) ∗ ringBI c OBI (finBI c XBU V20) (outB_BI c XBU V20) (k.val + 1) ∗ ringBT c OBT (finBT c XBU V20) (outB_BT c XBU V20) (k.val + 1)) := (if_neg (by omega)).trans (if_pos (by omega))
    rw [e0, e1]
    exact runB_mid c arg6 harg6 arg7 harg7 arg8 harg8 arg9 harg9 v23 XBU XBN V20 OBI OBT k ⟨by omega, h⟩
  · have e0 : ringsB c XBU XBN V20 OBI OBT k.val = iprop(ringBU c XBU k.val ∗ ringBN c XBN k.val ∗ ringBI c OBI (finBI c XBU V20) (outB_BI c XBU V20) k.val ∗ ringBT c OBT (finBT c XBU V20) (outB_BT c XBU V20) k.val) := (if_neg h0).trans (if_pos hlt)
    have hkl : k.val = 15 := by omega
    have e1 : ringsB c XBU XBN V20 OBI OBT (k.val + 1) = iprop(ringEndBU c XBU k.val ∗ ringEndBN c XBN k.val ∗ ringBI c OBI (finBI c XBU V20) (outB_BI c XBU V20) (k.val + 1) ∗ ringBT c OBT (finBT c XBU V20) (outB_BT c XBU V20) (k.val + 1)) := by rw [hkl]; exact (if_neg (by omega)).trans (if_neg (by decide))
    rw [e0, e1]
    exact runB_last c arg6 harg6 arg7 harg7 arg8 harg8 arg9 harg9 v23 XBU XBN V20 OBI OBT k h
/-- A trip keeps what holds between the trips. -/
theorem stepB (k : T2) (acc : BitVec 32 × BitVec 32 × BitVec 32 × BitVec 32 × BitVec 32 × BitVec 32 × BitVec 32 × BitVec 32 × BitVec 32) :
    invB c XBU XBN V20 OBI OBT k.val acc
      ⊢ wp frame (wpE (defs₀ (F := F)) 𝒱₀ (c : Thread nD τ) none) Set.univ (tripB arg6 harg6 arg7 harg7 arg8 harg8 arg9 harg9 v23 k acc)
        (invB c XBU XBN V20 OBI OBT (k.val + 1)) := by
  unfold invB
  iintro ⟨%e, H⟩
  subst e
  rw [wordsB k]
  iapply (tripB_step c XBU XBN V20 OBI OBT arg6 harg6 arg7 harg7 arg8 harg8 arg9 harg9 v23 k)
  iexact H
end

theorem enterB :
    iprop(own20 c V20 ∗ (∃ f, own23 (F := F) c f) ∗ (∃ f, own24 (F := F) c f) ∗ (∃ f, own22 (F := F) c f) ∗ (∃ f, own21 (F := F) c f) ∗ (∃ W, owes (c : Thread nD τ) 0 W) ∗ ringBU c XBU 0 ∗ ringBN c XBN 0 ∗ ring0BI c OBI (finBI c XBU V20) 0 ∗ ring0BT c OBT (finBT c XBU V20) 0) ⊢ invB c XBU XBN V20 OBI OBT 0 (1#32, 0#32, 1#32, 0#32, 0#32, 0#32, 0#32, 0#32, 0#32) := by
  have e0 : ringsB c XBU XBN V20 OBI OBT 0 = iprop(ringBU c XBU 0 ∗ ringBN c XBN 0 ∗ ring0BI c OBI (finBI c XBU V20) 0 ∗ ring0BT c OBT (finBT c XBU V20) 0) := if_pos rfl
  unfold invB
  rw [e0]
  iintro ⟨S0, N23, N24, N22, N21, HW, RBU, RBN, RBI, RBT⟩
  isplitr
  · ipureintro; rfl
  isplitl [S0]
  · iexact S0
  isplitl [N23]
  · unfold scrB23; icases N23 with ⟨%f, N⟩; iexists f; isplitr
    · ipureintro; exact upTo_zero (by decide) _ _ _
    · iexact N
  isplitl [N24]
  · unfold scrB24; icases N24 with ⟨%f, N⟩; iexists f; isplitr
    · ipureintro; exact upTo_zero (by decide) _ _ _
    · iexact N
  isplitl [N22]
  · unfold scrB22; icases N22 with ⟨%f, N⟩; iexists f; isplitr
    · ipureintro; exact upTo_zero (by decide) _ _ _
    · iexact N
  isplitl [N21]
  · unfold scrB21; icases N21 with ⟨%f, N⟩; iexists f; isplitr
    · ipureintro; exact upTo_zero (by decide) _ _ _
    · iexact N
  isplitl [HW]
  · iexact HW
  isplitl [RBU]
  · iexact RBU
  isplitl [RBN]
  · iexact RBN
  isplitl [RBI]
  · iexact RBI
  · iexact RBT

theorem exitB (n : ℕ) (hn : n = 16) (acc : BitVec 32 × BitVec 32 × BitVec 32 × BitVec 32 × BitVec 32 × BitVec 32 × BitVec 32 × BitVec 32 × BitVec 32) :
    invB c XBU XBN V20 OBI OBT n acc ⊢ iprop(⌜acc = (16#32, 16#32, 16#32, 16#32, 16#32, 15#32, 16#32, 15#32, 0#32)⌝ ∗ own20 c V20 ∗ own23 c (stack (W := 512) (R := 8192) (D := 64) (by decide) (outB_23 c XBU V20) : S8192x64.Idx → Elt F .f32) ∗ own24 c (stack (W := 512) (R := 8192) (D := 64) (by decide) (outB_24 c XBU V20) : S8192x64.Idx → Elt F .f32) ∗ own22 c (stack (W := 512) (R := 8192) (D := 64) (by decide) (outB_22 c XBU XBN V20) : S8192x64.Idx → Elt F .f32) ∗ own21 c (stack (W := 512) (R := 8192) (D := 192) (by decide) (outB_21 c XBU V20) : S8192x192.Idx → Elt F .bf16) ∗ (∃ W, owes (c : Thread nD τ) 0 W) ∗ (bigSep Finset.univ (homeBU c XBU) ∗ freeBU (F := F) c) ∗ (bigSep Finset.univ (homeBN c XBN) ∗ freeBN (F := F) c) ∗ ringBI c OBI (finBI c XBU V20) (outB_BI c XBU V20) 16 ∗ ringBT c OBT (finBT c XBU V20) (outB_BT c XBU V20) 16) := by
  subst hn
  have e0 : ringsB c XBU XBN V20 OBI OBT 16 = iprop(ringEndBU c XBU 15 ∗ ringEndBN c XBN 15 ∗ ringBI c OBI (finBI c XBU V20) (outB_BI c XBU V20) 16 ∗ ringBT c OBT (finBT c XBU V20) (outB_BT c XBU V20) 16) := (if_neg (by decide)).trans (if_neg (by decide))
  have ew : outBw 16 = (16#32, 16#32, 16#32, 16#32, 16#32, 15#32, 16#32, 15#32, 0#32) := rfl
  unfold invB
  rw [e0, ew]
  iintro ⟨%e, S0, N23, N24, N22, N21, HW, RBU, RBN, RBI, RBT⟩
  isplitr
  · ipureintro; exact e
  isplitl [S0]
  · iexact S0
  isplitl [N23]
  · iapply (scrB23_end c XBU V20 16 rfl); iexact N23
  isplitl [N24]
  · iapply (scrB24_end c XBU V20 16 rfl); iexact N24
  isplitl [N22]
  · iapply (scrB22_end c XBU XBN V20 16 rfl); iexact N22
  isplitl [N21]
  · iapply (scrB21_end c XBU V20 16 rfl); iexact N21
  isplitl [HW]
  · iexact HW
  isplitl [RBU]
  · iapply (ringOutBU c XBU); iexact RBU
  isplitl [RBN]
  · iapply (ringOutBN c XBN); iexact RBN
  isplitl [RBI]
  · iexact RBI
  · iexact RBT
end Loop

end Cert.Proof.KI

end
-- ==== Proof.KI.C.lean ====
/-
  The third pipeline of the kernel: the item graph applied to what the second one stored.
-/
module

public import proofs.«01_k».proof.Proof.KI.Base

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

theorem slotInbCU (s : Fin 2) : ∀ a, slotOff s a + S1x256x8192.size a ≤ S2x256x8192.size a := by
  have := s.isLt; intro a; fin_cases a
  · show s.val + 1 ≤ 2; omega
  · show 0 + 256 ≤ 256; omega
  · show 0 + 8192 ≤ 8192; omega
/-- Slot `s` of the buffer. -/
def slotCU (s : Fin 2) : Memref sig .tc .vmem S256x8192 .f32 :=
  ((Memref.whole cc0_scoped14).slice (Rect.unit (s := S2x256x8192) (slotOff s) S1x256x8192.size (slotInbCU s)) (fun _ => rfl)).squeeze S256x8192 squeezes_S1x256x8192_S256x8192
theorem slotCU_congr {off : Fin 3 → Nat} {s : Fin 2} (e : off = slotOff s) (hh hs) :
    ((Memref.whole cc0_scoped14).slice (Rect.unit (s := S2x256x8192) off S1x256x8192.size hh) hs).squeeze S256x8192 squeezes_S1x256x8192_S256x8192 = slotCU s :=
  congrArg (fun M : Memref sig .tc .vmem S1x256x8192 .f32 => M.squeeze S256x8192 squeezes_S1x256x8192_S256x8192) (Memref.slice_unit_congr _ e _ _ _ _)
abbrev blkOffCU (b : Fin 16) : Fin 2 → Nat := ![256 * b.val, 0]
instance (b : Fin 16) : ClosedOff (blkOffCU b) := ⟨blkOffCU b, rfl⟩
theorem blkInbCU (b : Fin 16) : ∀ a, blkOffCU b a + S256x8192.size a ≤ S4096x8192.size a := by
  have := b.isLt; intro a; fin_cases a
  · show 256 * b.val + 256 ≤ 4096; omega
  · show 0 + 8192 ≤ 8192; omega
/-- Block `b` of the array: its rows from `256 * b`. -/
def blkCU (b : Fin 16) : Memref sig .tc .hbm S256x8192 .f32 :=
  (Memref.whole main_arg1).slice (Rect.unit (s := S4096x8192) (blkOffCU b) S256x8192.size (blkInbCU b)) (fun _ => rfl)
theorem blkCU_congr {off : Fin 2 → Nat} {b : Fin 16} (e : off = blkOffCU b) (hh hs) :
    (Memref.whole main_arg1).slice (Rect.unit (s := S4096x8192) off S256x8192.size hh) hs = blkCU b := Memref.slice_unit_congr _ e _ _ hs (fun _ => rfl)
abbrev semCU (s : Fin 2) : DmaSems sig S_ := semAt cc0_scoped15 s
/-- A load of the slot through the whole buffer reads what was delivered into the slot. -/
theorem loadCU {off : Fin 3 → Nat} (s : Fin 2) (e : off = slotOff s) (hh) (hs : S1x256x8192.ShapeCasts S256x8192) (f : (slotCU s).view.ty.Contents (Elt F)) (w : S256x8192.Idx → Elt F .f32) :
    shapeCast S256x8192 (View.readAt (Elt F) (Memref.whole cc0_scoped14 : Memref sig .tc .vmem S2x256x8192 .f32).view (Rect.unit (s := S2x256x8192) off S1x256x8192.size hh).toLoadRect
      ((slotCU s).view.writes (Elt F) f [⟨Rect.whole S256x8192, w⟩])) hs = w := by
  have h : ∀ g : (slotCU s).view.ty.Contents (Elt F), shapeCast S256x8192 (View.readAt (Elt F) (Memref.whole cc0_scoped14 : Memref sig .tc .vmem S2x256x8192 .f32).view (Rect.unit (s := S2x256x8192) off S1x256x8192.size hh).toLoadRect g) hs = (slotCU s).view.read (Elt F) g := by
    subst e; exact fun g => rfl
  exact (h _).trans (View.read_writes_whole (slotCU s).view f w)

theorem slotInbCN (s : Fin 2) : ∀ a, slotOff s a + S1x256x64.size a ≤ S2x256x64.size a := by
  have := s.isLt; intro a; fin_cases a
  · show s.val + 1 ≤ 2; omega
  · show 0 + 256 ≤ 256; omega
  · show 0 + 64 ≤ 64; omega
/-- Slot `s` of the buffer. -/
def slotCN (s : Fin 2) : Memref sig .tc .vmem S256x64 .f32 :=
  ((Memref.whole cc0_scoped16).slice (Rect.unit (s := S2x256x64) (slotOff s) S1x256x64.size (slotInbCN s)) (fun _ => rfl)).squeeze S256x64 squeezes_S1x256x64_S256x64
theorem slotCN_congr {off : Fin 3 → Nat} {s : Fin 2} (e : off = slotOff s) (hh hs) :
    ((Memref.whole cc0_scoped16).slice (Rect.unit (s := S2x256x64) off S1x256x64.size hh) hs).squeeze S256x64 squeezes_S1x256x64_S256x64 = slotCN s :=
  congrArg (fun M : Memref sig .tc .vmem S1x256x64 .f32 => M.squeeze S256x64 squeezes_S1x256x64_S256x64) (Memref.slice_unit_congr _ e _ _ _ _)
abbrev blkOffCN (b : Fin 16) : Fin 2 → Nat := ![256 * b.val, 0]
instance (b : Fin 16) : ClosedOff (blkOffCN b) := ⟨blkOffCN b, rfl⟩
theorem blkInbCN (b : Fin 16) : ∀ a, blkOffCN b a + S256x64.size a ≤ S4096x64.size a := by
  have := b.isLt; intro a; fin_cases a
  · show 256 * b.val + 256 ≤ 4096; omega
  · show 0 + 64 ≤ 64; omega
/-- Block `b` of the array: its rows from `256 * b`. -/
def blkCN (b : Fin 16) : Memref sig .tc .hbm S256x64 .f32 :=
  (Memref.whole main_v13).slice (Rect.unit (s := S4096x64) (blkOffCN b) S256x64.size (blkInbCN b)) (fun _ => rfl)
theorem blkCN_congr {off : Fin 2 → Nat} {b : Fin 16} (e : off = blkOffCN b) (hh hs) :
    (Memref.whole main_v13).slice (Rect.unit (s := S4096x64) off S256x64.size hh) hs = blkCN b := Memref.slice_unit_congr _ e _ _ hs (fun _ => rfl)
abbrev semCN (s : Fin 2) : DmaSems sig S_ := semAt cc0_scoped17 s
/-- A load of the slot through the whole buffer reads what was delivered into the slot. -/
theorem loadCN {off : Fin 3 → Nat} (s : Fin 2) (e : off = slotOff s) (hh) (hs : S1x256x64.ShapeCasts S256x64) (f : (slotCN s).view.ty.Contents (Elt F)) (w : S256x64.Idx → Elt F .f32) :
    shapeCast S256x64 (View.readAt (Elt F) (Memref.whole cc0_scoped16 : Memref sig .tc .vmem S2x256x64 .f32).view (Rect.unit (s := S2x256x64) off S1x256x64.size hh).toLoadRect
      ((slotCN s).view.writes (Elt F) f [⟨Rect.whole S256x64, w⟩])) hs = w := by
  have h : ∀ g : (slotCN s).view.ty.Contents (Elt F), shapeCast S256x64 (View.readAt (Elt F) (Memref.whole cc0_scoped16 : Memref sig .tc .vmem S2x256x64 .f32).view (Rect.unit (s := S2x256x64) off S1x256x64.size hh).toLoadRect g) hs = (slotCN s).view.read (Elt F) g := by
    subst e; exact fun g => rfl
  exact (h _).trans (View.read_writes_whole (slotCN s).view f w)

theorem slotInbCI (s : Fin 2) : ∀ a, slotOff s a + S1x256x64.size a ≤ S2x256x64.size a := by
  have := s.isLt; intro a; fin_cases a
  · show s.val + 1 ≤ 2; omega
  · show 0 + 256 ≤ 256; omega
  · show 0 + 64 ≤ 64; omega
/-- Slot `s` of the buffer. -/
def slotCI (s : Fin 2) : Memref sig .tc .vmem S256x64 .f32 :=
  ((Memref.whole cc0_scoped18).slice (Rect.unit (s := S2x256x64) (slotOff s) S1x256x64.size (slotInbCI s)) (fun _ => rfl)).squeeze S256x64 squeezes_S1x256x64_S256x64
theorem slotCI_congr {off : Fin 3 → Nat} {s : Fin 2} (e : off = slotOff s) (hh hs) :
    ((Memref.whole cc0_scoped18).slice (Rect.unit (s := S2x256x64) off S1x256x64.size hh) hs).squeeze S256x64 squeezes_S1x256x64_S256x64 = slotCI s :=
  congrArg (fun M : Memref sig .tc .vmem S1x256x64 .f32 => M.squeeze S256x64 squeezes_S1x256x64_S256x64) (Memref.slice_unit_congr _ e _ _ _ _)
abbrev blkOffCI (b : Fin 16) : Fin 2 → Nat := ![256 * b.val, 0]
instance (b : Fin 16) : ClosedOff (blkOffCI b) := ⟨blkOffCI b, rfl⟩
theorem blkInbCI (b : Fin 16) : ∀ a, blkOffCI b a + S256x64.size a ≤ S4096x64.size a := by
  have := b.isLt; intro a; fin_cases a
  · show 256 * b.val + 256 ≤ 4096; omega
  · show 0 + 64 ≤ 64; omega
/-- Block `b` of the array: its rows from `256 * b`. -/
def blkCI (b : Fin 16) : Memref sig .tc .hbm S256x64 .f32 :=
  (Memref.whole main_v22_2).slice (Rect.unit (s := S4096x64) (blkOffCI b) S256x64.size (blkInbCI b)) (fun _ => rfl)
theorem blkCI_congr {off : Fin 2 → Nat} {b : Fin 16} (e : off = blkOffCI b) (hh hs) :
    (Memref.whole main_v22_2).slice (Rect.unit (s := S4096x64) off S256x64.size hh) hs = blkCI b := Memref.slice_unit_congr _ e _ _ hs (fun _ => rfl)
abbrev semCI (s : Fin 2) : DmaSems sig S_ := semAt cc0_scoped19 s
/-- A store of the slot through the whole buffer is read back through the slot. -/
theorem storeCI {off : Fin 3 → Nat} (s : Fin 2) (e : off = slotOff s) (hh) (hs : S256x64.ShapeCasts S1x256x64) (f : (slotCI s).view.ty.Contents (Elt F)) (w : S256x64.Idx → Elt F .f32) :
    (slotCI s).view.read (Elt F) ((Memref.whole cc0_scoped18 : Memref sig .tc .vmem S2x256x64 .f32).view.writes (Elt F) f [⟨Rect.unit (s := S2x256x64) off S1x256x64.size hh, shapeCast S1x256x64 w hs⟩]) = w := by
  subst e; funext j
  refine (View.read_writes_cons_emb _ _ (Rect.unit (s := S2x256x64) (slotOff s) S1x256x64.size hh) _ [] (Shape.reshapeEquiv (show S256x64.numel = S1x256x64.numel by decide) j)).trans ?_
  show w (Shape.reshapeEquiv _ (Shape.reshapeEquiv _ j)) = w j
  congr 1
  exact reshape_back _ _ j

theorem slotInbCT (s : Fin 2) : ∀ a, slotOff s a + S1x256x64.size a ≤ S2x256x64.size a := by
  have := s.isLt; intro a; fin_cases a
  · show s.val + 1 ≤ 2; omega
  · show 0 + 256 ≤ 256; omega
  · show 0 + 64 ≤ 64; omega
/-- Slot `s` of the buffer. -/
def slotCT (s : Fin 2) : Memref sig .tc .vmem S256x64 .f32 :=
  ((Memref.whole cc0_scoped20).slice (Rect.unit (s := S2x256x64) (slotOff s) S1x256x64.size (slotInbCT s)) (fun _ => rfl)).squeeze S256x64 squeezes_S1x256x64_S256x64
theorem slotCT_congr {off : Fin 3 → Nat} {s : Fin 2} (e : off = slotOff s) (hh hs) :
    ((Memref.whole cc0_scoped20).slice (Rect.unit (s := S2x256x64) off S1x256x64.size hh) hs).squeeze S256x64 squeezes_S1x256x64_S256x64 = slotCT s :=
  congrArg (fun M : Memref sig .tc .vmem S1x256x64 .f32 => M.squeeze S256x64 squeezes_S1x256x64_S256x64) (Memref.slice_unit_congr _ e _ _ _ _)
abbrev blkOffCT (b : Fin 16) : Fin 2 → Nat := ![256 * b.val, 0]
instance (b : Fin 16) : ClosedOff (blkOffCT b) := ⟨blkOffCT b, rfl⟩
theorem blkInbCT (b : Fin 16) : ∀ a, blkOffCT b a + S256x64.size a ≤ S4096x64.size a := by
  have := b.isLt; intro a; fin_cases a
  · show 256 * b.val + 256 ≤ 4096; omega
  · show 0 + 64 ≤ 64; omega
/-- Block `b` of the array: its rows from `256 * b`. -/
def blkCT (b : Fin 16) : Memref sig .tc .hbm S256x64 .f32 :=
  (Memref.whole main_v22_3).slice (Rect.unit (s := S4096x64) (blkOffCT b) S256x64.size (blkInbCT b)) (fun _ => rfl)
theorem blkCT_congr {off : Fin 2 → Nat} {b : Fin 16} (e : off = blkOffCT b) (hh hs) :
    (Memref.whole main_v22_3).slice (Rect.unit (s := S4096x64) off S256x64.size hh) hs = blkCT b := Memref.slice_unit_congr _ e _ _ hs (fun _ => rfl)
abbrev semCT (s : Fin 2) : DmaSems sig S_ := semAt cc0_scoped21 s
/-- A store of the slot through the whole buffer is read back through the slot. -/
theorem storeCT {off : Fin 3 → Nat} (s : Fin 2) (e : off = slotOff s) (hh) (hs : S256x64.ShapeCasts S1x256x64) (f : (slotCT s).view.ty.Contents (Elt F)) (w : S256x64.Idx → Elt F .f32) :
    (slotCT s).view.read (Elt F) ((Memref.whole cc0_scoped20 : Memref sig .tc .vmem S2x256x64 .f32).view.writes (Elt F) f [⟨Rect.unit (s := S2x256x64) off S1x256x64.size hh, shapeCast S1x256x64 w hs⟩]) = w := by
  subst e; funext j
  refine (View.read_writes_cons_emb _ _ (Rect.unit (s := S2x256x64) (slotOff s) S1x256x64.size hh) _ [] (Shape.reshapeEquiv (show S256x64.numel = S1x256x64.numel by decide) j)).trans ?_
  show w (Shape.reshapeEquiv _ (Shape.reshapeEquiv _ j)) = w j
  congr 1
  exact reshape_back _ _ j

theorem t3_trips : k0_t3_loop.trips = 16 := by decide
abbrev T3 := Fin k0_t3_loop.trips

theorem off66_eq : ∀ k : T3, k0_off66 (w32 (k.val + 1)) = semOff (Ring.sl 2 (k.val + 1)) := by decide
theorem off67_eq : ∀ k : T3, k0_off67 (w32 (k.val + 1)) = slotOff (Ring.sl 2 (k.val + 1)) := by decide
theorem off68_eq : ∀ k : T3, k.val < 15 → k0_off68 (w32 k.val) = blkOffCU (Ring.bk 16 (k.val + 1)) := by decide
@[sl_canon] theorem semICU (k : T3) (hh) :
    (cc0_scoped15.slice (Rect.unit (s := S2) (k0_off66 (w32 (k.val + 1))) S1.size hh)).squeeze S_ squeezes_S1_S_ = semCU (Ring.sl 2 (k.val + 1)) := semAt_congr _ (off66_eq k) _
@[sl_canon] theorem slotICU (k : T3) (hh hs) :
    ((Memref.whole cc0_scoped14).slice (Rect.unit (s := S2x256x8192) (k0_off67 (w32 (k.val + 1))) S1x256x8192.size hh) hs).squeeze S256x8192 squeezes_S1x256x8192_S256x8192 = slotCU (Ring.sl 2 (k.val + 1)) := slotCU_congr (off67_eq k) _ _
@[sl_canon] theorem blkICU (k : T3) (hk : k.val < 15) (hh hs) :
    (Memref.whole main_arg1).slice (Rect.unit (s := S4096x8192) (k0_off68 (w32 k.val)) S256x8192.size hh) hs = blkCU (Ring.bk 16 (k.val + 1)) := blkCU_congr (off68_eq k hk) _ _
theorem cond42_pos : ∀ k : T3, k.val < 15 → k0_cond42 k (w32 k.val) = 1#1 := by decide
theorem cond42_neg : ∀ k : T3, ¬ k.val < 15 → ¬ k0_cond42 k (w32 k.val) = 1#1 := by decide

theorem off69_eq : ∀ k : T3, k0_off69 (w32 (k.val + 1)) = semOff (Ring.sl 2 (k.val + 1)) := by decide
theorem off70_eq : ∀ k : T3, k0_off70 (w32 (k.val + 1)) = slotOff (Ring.sl 2 (k.val + 1)) := by decide
theorem off71_eq : ∀ k : T3, k.val < 15 → k0_off71 (w32 k.val) = blkOffCN (Ring.bk 16 (k.val + 1)) := by decide
@[sl_canon] theorem semICN (k : T3) (hh) :
    (cc0_scoped17.slice (Rect.unit (s := S2) (k0_off69 (w32 (k.val + 1))) S1.size hh)).squeeze S_ squeezes_S1_S_ = semCN (Ring.sl 2 (k.val + 1)) := semAt_congr _ (off69_eq k) _
@[sl_canon] theorem slotICN (k : T3) (hh hs) :
    ((Memref.whole cc0_scoped16).slice (Rect.unit (s := S2x256x64) (k0_off70 (w32 (k.val + 1))) S1x256x64.size hh) hs).squeeze S256x64 squeezes_S1x256x64_S256x64 = slotCN (Ring.sl 2 (k.val + 1)) := slotCN_congr (off70_eq k) _ _
@[sl_canon] theorem blkICN (k : T3) (hk : k.val < 15) (hh hs) :
    (Memref.whole main_v13).slice (Rect.unit (s := S4096x64) (k0_off71 (w32 k.val)) S256x64.size hh) hs = blkCN (Ring.bk 16 (k.val + 1)) := blkCN_congr (off71_eq k hk) _ _
theorem cond43_pos : ∀ k : T3, k.val < 15 → k0_cond43 k (w32 k.val) = 1#1 := by decide
theorem cond43_neg : ∀ k : T3, ¬ k.val < 15 → ¬ k0_cond43 k (w32 k.val) = 1#1 := by decide

theorem off72_eq : ∀ k : T3, k0_off72 (w32 k.val) = semOff (Ring.sl 2 k.val) := by decide
theorem off73_eq : ∀ k : T3, k0_off73 (w32 k.val) = slotOff (Ring.sl 2 k.val) := by decide
theorem off74_eq : ∀ k : T3, k0_off74 (w32 k.val) = blkOffCU (Ring.bk 16 k.val) := by decide
@[sl_canon] theorem semWCU (k : T3) (hh) :
    (cc0_scoped15.slice (Rect.unit (s := S2) (k0_off72 (w32 k.val)) S1.size hh)).squeeze S_ squeezes_S1_S_ = semCU (Ring.sl 2 k.val) := semAt_congr _ (off72_eq k) _
@[sl_canon] theorem slotWCU (k : T3) (hh hs) :
    ((Memref.whole cc0_scoped14).slice (Rect.unit (s := S2x256x8192) (k0_off73 (w32 k.val)) S1x256x8192.size hh) hs).squeeze S256x8192 squeezes_S1x256x8192_S256x8192 = slotCU (Ring.sl 2 k.val) := slotCU_congr (off73_eq k) _ _
@[sl_canon] theorem blkWCU (k : T3) (hh hs) :
    (Memref.whole main_arg1).slice (Rect.unit (s := S4096x8192) (k0_off74 (w32 k.val)) S256x8192.size hh) hs = blkCU (Ring.bk 16 k.val) := blkCU_congr (off74_eq k) _ _
theorem cond44_pos : ∀ k : T3, k0_cond44 k (w32 k.val) = 1#1 := by decide

theorem off75_eq : ∀ k : T3, k0_off75 (w32 k.val) = semOff (Ring.sl 2 k.val) := by decide
theorem off76_eq : ∀ k : T3, k0_off76 (w32 k.val) = slotOff (Ring.sl 2 k.val) := by decide
theorem off77_eq : ∀ k : T3, k0_off77 (w32 k.val) = blkOffCN (Ring.bk 16 k.val) := by decide
@[sl_canon] theorem semWCN (k : T3) (hh) :
    (cc0_scoped17.slice (Rect.unit (s := S2) (k0_off75 (w32 k.val)) S1.size hh)).squeeze S_ squeezes_S1_S_ = semCN (Ring.sl 2 k.val) := semAt_congr _ (off75_eq k) _
@[sl_canon] theorem slotWCN (k : T3) (hh hs) :
    ((Memref.whole cc0_scoped16).slice (Rect.unit (s := S2x256x64) (k0_off76 (w32 k.val)) S1x256x64.size hh) hs).squeeze S256x64 squeezes_S1x256x64_S256x64 = slotCN (Ring.sl 2 k.val) := slotCN_congr (off76_eq k) _ _
@[sl_canon] theorem blkWCN (k : T3) (hh hs) :
    (Memref.whole main_v13).slice (Rect.unit (s := S4096x64) (k0_off77 (w32 k.val)) S256x64.size hh) hs = blkCN (Ring.bk 16 k.val) := blkCN_congr (off77_eq k) _ _
theorem cond45_pos : ∀ k : T3, k0_cond45 k (w32 k.val) = 1#1 := by decide

theorem off83_eq : ∀ k : T3, k0_off83 (w32 k.val) = semOff (Ring.sl 2 k.val) := by decide
theorem off85_eq : ∀ k : T3, k0_off85 (w32 k.val) = slotOff (Ring.sl 2 k.val) := by decide
theorem off84_eq : ∀ k : T3, k0_off84 (w32 k.val) = blkOffCI (Ring.bk 16 k.val) := by decide
@[sl_canon] theorem semICI (k : T3) (hh) :
    (cc0_scoped19.slice (Rect.unit (s := S2) (k0_off83 (w32 k.val)) S1.size hh)).squeeze S_ squeezes_S1_S_ = semCI (Ring.sl 2 k.val) := semAt_congr _ (off83_eq k) _
@[sl_canon] theorem slotICI (k : T3) (hh hs) :
    ((Memref.whole cc0_scoped18).slice (Rect.unit (s := S2x256x64) (k0_off85 (w32 k.val)) S1x256x64.size hh) hs).squeeze S256x64 squeezes_S1x256x64_S256x64 = slotCI (Ring.sl 2 k.val) := slotCI_congr (off85_eq k) _ _
@[sl_canon] theorem blkICI (k : T3) (hh hs) :
    (Memref.whole main_v22_2).slice (Rect.unit (s := S4096x64) (k0_off84 (w32 k.val)) S256x64.size hh) hs = blkCI (Ring.bk 16 k.val) := blkCI_congr (off84_eq k) _ _
theorem cond54_pos : ∀ k : T3, k0_cond54 k (w32 k.val) = 1#1 := by decide

theorem off86_eq : ∀ k : T3, k0_off86 (w32 k.val) = semOff (Ring.sl 2 k.val) := by decide
theorem off88_eq : ∀ k : T3, k0_off88 (w32 k.val) = slotOff (Ring.sl 2 k.val) := by decide
theorem off87_eq : ∀ k : T3, k0_off87 (w32 k.val) = blkOffCT (Ring.bk 16 k.val) := by decide
@[sl_canon] theorem semICT (k : T3) (hh) :
    (cc0_scoped21.slice (Rect.unit (s := S2) (k0_off86 (w32 k.val)) S1.size hh)).squeeze S_ squeezes_S1_S_ = semCT (Ring.sl 2 k.val) := semAt_congr _ (off86_eq k) _
@[sl_canon] theorem slotICT (k : T3) (hh hs) :
    ((Memref.whole cc0_scoped20).slice (Rect.unit (s := S2x256x64) (k0_off88 (w32 k.val)) S1x256x64.size hh) hs).squeeze S256x64 squeezes_S1x256x64_S256x64 = slotCT (Ring.sl 2 k.val) := slotCT_congr (off88_eq k) _ _
@[sl_canon] theorem blkICT (k : T3) (hh hs) :
    (Memref.whole main_v22_3).slice (Rect.unit (s := S4096x64) (k0_off87 (w32 k.val)) S256x64.size hh) hs = blkCT (Ring.bk 16 k.val) := blkCT_congr (off87_eq k) _ _
theorem cond55_pos : ∀ k : T3, k0_cond55 k (w32 k.val) = 1#1 := by decide

theorem off89_eq : ∀ k : T3, k0_off89 (w32 (k.val - 1)) = semOff (Ring.sl 2 (k.val - 1)) := by decide
theorem off91_eq : ∀ k : T3, k0_off91 (w32 (k.val - 1)) = slotOff (Ring.sl 2 (k.val - 1)) := by decide
theorem off90_eq : ∀ k : T3, 1 ≤ k.val → k0_off90 (w32 k.val) = blkOffCI (Ring.bk 16 (k.val - 1)) := by decide
@[sl_canon] theorem semWCI (k : T3) (hh) :
    (cc0_scoped19.slice (Rect.unit (s := S2) (k0_off89 (w32 (k.val - 1))) S1.size hh)).squeeze S_ squeezes_S1_S_ = semCI (Ring.sl 2 (k.val - 1)) := semAt_congr _ (off89_eq k) _
@[sl_canon] theorem slotWCI (k : T3) (hh hs) :
    ((Memref.whole cc0_scoped18).slice (Rect.unit (s := S2x256x64) (k0_off91 (w32 (k.val - 1))) S1x256x64.size hh) hs).squeeze S256x64 squeezes_S1x256x64_S256x64 = slotCI (Ring.sl 2 (k.val - 1)) := slotCI_congr (off91_eq k) _ _
@[sl_canon] theorem blkWCI (k : T3) (hk : 1 ≤ k.val) (hh hs) :
    (Memref.whole main_v22_2).slice (Rect.unit (s := S4096x64) (k0_off90 (w32 k.val)) S256x64.size hh) hs = blkCI (Ring.bk 16 (k.val - 1)) := blkCI_congr (off90_eq k hk) _ _
theorem cond62_pos : ∀ k : T3, 1 ≤ k.val → k0_cond62 k (w32 k.val) = 1#1 := by decide
theorem cond62_neg : ∀ k : T3, ¬ 1 ≤ k.val → ¬ k0_cond62 k (w32 k.val) = 1#1 := by decide

theorem off92_eq : ∀ k : T3, k0_off92 (w32 (k.val - 1)) = semOff (Ring.sl 2 (k.val - 1)) := by decide
theorem off94_eq : ∀ k : T3, k0_off94 (w32 (k.val - 1)) = slotOff (Ring.sl 2 (k.val - 1)) := by decide
theorem off93_eq : ∀ k : T3, 1 ≤ k.val → k0_off93 (w32 k.val) = blkOffCT (Ring.bk 16 (k.val - 1)) := by decide
@[sl_canon] theorem semWCT (k : T3) (hh) :
    (cc0_scoped21.slice (Rect.unit (s := S2) (k0_off92 (w32 (k.val - 1))) S1.size hh)).squeeze S_ squeezes_S1_S_ = semCT (Ring.sl 2 (k.val - 1)) := semAt_congr _ (off92_eq k) _
@[sl_canon] theorem slotWCT (k : T3) (hh hs) :
    ((Memref.whole cc0_scoped20).slice (Rect.unit (s := S2x256x64) (k0_off94 (w32 (k.val - 1))) S1x256x64.size hh) hs).squeeze S256x64 squeezes_S1x256x64_S256x64 = slotCT (Ring.sl 2 (k.val - 1)) := slotCT_congr (off94_eq k) _ _
@[sl_canon] theorem blkWCT (k : T3) (hk : 1 ≤ k.val) (hh hs) :
    (Memref.whole main_v22_3).slice (Rect.unit (s := S4096x64) (k0_off93 (w32 k.val)) S256x64.size hh) hs = blkCT (Ring.bk 16 (k.val - 1)) := blkCT_congr (off93_eq k hk) _ _
theorem cond63_pos : ∀ k : T3, 1 ≤ k.val → k0_cond63 k (w32 k.val) = 1#1 := by decide
theorem cond63_neg : ∀ k : T3, ¬ 1 ≤ k.val → ¬ k0_cond63 k (w32 k.val) = 1#1 := by decide
theorem off78_eq : ∀ k : T3, k0_off78 (w32 k.val) = slotOff (Ring.sl 2 k.val) := by decide
instance (k : T3) : ClosedOff (k0_off78 (w32 k.val)) := ⟨slotOff (Ring.sl 2 k.val), off78_eq k⟩
theorem off79_eq : ∀ k : T3, k0_off79 (w32 k.val) = slotOff (Ring.sl 2 k.val) := by decide
instance (k : T3) : ClosedOff (k0_off79 (w32 k.val)) := ⟨slotOff (Ring.sl 2 k.val), off79_eq k⟩
theorem off80_eq : ∀ k : T3, k0_off80 (w32 k.val) = slotOff (Ring.sl 2 k.val) := by decide
instance (k : T3) : ClosedOff (k0_off80 (w32 k.val)) := ⟨slotOff (Ring.sl 2 k.val), off80_eq k⟩
theorem off81_eq : ∀ k : T3, k0_off81 (w32 k.val) = slotOff (Ring.sl 2 k.val) := by decide
instance (k : T3) : ClosedOff (k0_off81 (w32 k.val)) := ⟨slotOff (Ring.sl 2 k.val), off81_eq k⟩
theorem off82_eq : ∀ k : T3, k0_off82 (w32 k.val) = ![256 * k.val, 0] := by decide
instance (k : T3) : ClosedOff (k0_off82 (w32 k.val)) := ⟨![256 * k.val, 0], off82_eq k⟩
theorem chk17_ok : ∀ k : T3, k0_chk17 (w32 k.val) := by decide
theorem chk16_ok : ∀ k : T3, k0_chk16 (w32 k.val) := by decide
theorem chk15_ok : ∀ k : T3, k0_chk15 (w32 k.val) := by decide
theorem chk14_ok : ∀ k : T3, k0_chk14 (w32 k.val) := by decide
theorem chk13_ok : ∀ k : T3, k0_chk13 k (w32 (k.val + 1)) (w32 k.val) (w32 (k.val + 1)) (w32 k.val) (w32 k.val) (w32 (k.val - 1)) (w32 k.val) (w32 (k.val - 1)) (w32 k.val) := by decide

/-- The block stored in `main_v22_2`, from the blocks loaded. -/
def valC_CI (v175_r2 : FVec F S256x8192 .f32) (v177_r2 : Vec F S8192x192 .bf16) : FVec F S256x64 .f32 :=
  let v176_r2 : FVec F S256x8192 .bf16 := truncf .bf16 v175_r2 bitsLt_bf16_f32
  let cst_r2 : FVec F S256x192 .f32 := constant S256x192 .f32 0x00000000#32
  let v178_r2 : FVec F S256x192 .f32 := matmul dot_S256x8192_S8192x192_S256x192_1_0_0_1_n_n none v176_r2 v177_r2 cst_r2
  extractStridedSlice S256x64 ![0, 0] v178_r2 slices_S256x192_o0_0_S256x64

/-- The block stored in `main_v22_3`, from the blocks loaded. -/
def valC_CT (v175_r2 : FVec F S256x8192 .f32) (v177_r2 : Vec F S8192x192 .bf16) : FVec F S256x64 .f32 :=
  let v176_r2 : FVec F S256x8192 .bf16 := truncf .bf16 v175_r2 bitsLt_bf16_f32
  let cst_r2 : FVec F S256x192 .f32 := constant S256x192 .f32 0x00000000#32
  let v178_r2 : FVec F S256x192 .f32 := matmul dot_S256x8192_S8192x192_S256x192_1_0_0_1_n_n none v176_r2 v177_r2 cst_r2
  extractStridedSlice S256x64 ![0, 64] v178_r2 slices_S256x192_o0_64_S256x64

/-- The block stored in `arg27`, from the blocks loaded. -/
def valC_27 (v175_r2 : FVec F S256x8192 .f32) (v177_r2 : Vec F S8192x192 .bf16) : FVec F S256x64 .f32 :=
  let v176_r2 : FVec F S256x8192 .bf16 := truncf .bf16 v175_r2 bitsLt_bf16_f32
  let cst_r2 : FVec F S256x192 .f32 := constant S256x192 .f32 0x00000000#32
  let v178_r2 : FVec F S256x192 .f32 := matmul dot_S256x8192_S8192x192_S256x192_1_0_0_1_n_n none v176_r2 v177_r2 cst_r2
  let v197_r2 : FVec F S256x64 .f32 := extractStridedSlice S256x64 ![0, 0] v178_r2 slices_S256x192_o0_0_S256x64
  shapeCast S256x64 v197_r2 shapeCasts_S256x64_S256x64

/-- The block stored in `arg28`, from the blocks loaded. -/
def valC_28 (v175_r2 : FVec F S256x8192 .f32) (v177_r2 : Vec F S8192x192 .bf16) : FVec F S256x64 .f32 :=
  let v176_r2 : FVec F S256x8192 .bf16 := truncf .bf16 v175_r2 bitsLt_bf16_f32
  let cst_r2 : FVec F S256x192 .f32 := constant S256x192 .f32 0x00000000#32
  let v178_r2 : FVec F S256x192 .f32 := matmul dot_S256x8192_S8192x192_S256x192_1_0_0_1_n_n none v176_r2 v177_r2 cst_r2
  let v198_r2 : FVec F S256x64 .f32 := extractStridedSlice S256x64 ![0, 64] v178_r2 slices_S256x192_o0_64_S256x64
  shapeCast S256x64 v198_r2 shapeCasts_S256x64_S256x64

/-- The block stored in `arg26`, from the blocks loaded. -/
def valC_26 (v175_r2 : FVec F S256x8192 .f32) (v177_r2 : Vec F S8192x192 .bf16) (v192_r2 : FVec F S256x64 .f32) : FVec F S256x64 .f32 :=
  let v176_r2 : FVec F S256x8192 .bf16 := truncf .bf16 v175_r2 bitsLt_bf16_f32
  let cst_r2 : FVec F S256x192 .f32 := constant S256x192 .f32 0x00000000#32
  let v178_r2 : FVec F S256x192 .f32 := matmul dot_S256x8192_S8192x192_S256x192_1_0_0_1_n_n none v176_r2 v177_r2 cst_r2
  let v179_r2 : FVec F S256x64 .f32 := extractStridedSlice S256x64 ![0, 128] v178_r2 slices_S256x192_o0_128_S256x64
  let v186_r2 : FVec F S256x64 .f32 := absf v179_r2
  let cst_153_r2 : F .f32 := Scalar.ofBits .f32 0x00000000#32
  let v187_r2 : FVec F S256x64 .f32 := broadcast S256x64 cst_153_r2
  let v188_r2 : IVec S256x64 1 := cmpf .ogt v186_r2 v187_r2
  let v185_r2 : FVec F S256x64 .f32 := select (cmpf .olt v179_r2 (constant S256x64 .f32 0x00000000#32)) (constant S256x64 .f32 0xBF800000#32) (constant S256x64 .f32 0x3F800000#32)
  let v189_r2 : FVec F S256x64 .f32 := select v188_r2 v185_r2 v179_r2
  let v193_r2 : FVec F S256x64 .f32 := mulf v189_r2 v192_r2
  let cst_156_r2 : F .f32 := Scalar.ofBits .f32 0x3E4CCCCD#32
  let v194_r2 : FVec F S256x64 .f32 := broadcast S256x64 cst_156_r2
  let v195_r2 : FVec F S256x64 .f32 := mulf v193_r2 v194_r2
  let v196_r2 : FVec F S256x64 .f32 := addf v179_r2 v195_r2
  shapeCast S256x64 v196_r2 shapeCasts_S256x64_S256x64

/-- The block stored in `arg25`, from the blocks loaded. -/
def valC_25 (v175_r2 : FVec F S256x8192 .f32) (v177_r2 : Vec F S8192x192 .bf16) (v192_r2 : FVec F S256x64 .f32) : FVec F S256x64 .bf16 :=
  let v176_r2 : FVec F S256x8192 .bf16 := truncf .bf16 v175_r2 bitsLt_bf16_f32
  let cst_r2 : FVec F S256x192 .f32 := constant S256x192 .f32 0x00000000#32
  let v178_r2 : FVec F S256x192 .f32 := matmul dot_S256x8192_S8192x192_S256x192_1_0_0_1_n_n none v176_r2 v177_r2 cst_r2
  let v179_r2 : FVec F S256x64 .f32 := extractStridedSlice S256x64 ![0, 128] v178_r2 slices_S256x192_o0_128_S256x64
  let v186_r2 : FVec F S256x64 .f32 := absf v179_r2
  let cst_153_r2 : F .f32 := Scalar.ofBits .f32 0x00000000#32
  let v187_r2 : FVec F S256x64 .f32 := broadcast S256x64 cst_153_r2
  let v188_r2 : IVec S256x64 1 := cmpf .ogt v186_r2 v187_r2
  let v185_r2 : FVec F S256x64 .f32 := select (cmpf .olt v179_r2 (constant S256x64 .f32 0x00000000#32)) (constant S256x64 .f32 0xBF800000#32) (constant S256x64 .f32 0x3F800000#32)
  let v189_r2 : FVec F S256x64 .f32 := select v188_r2 v185_r2 v179_r2
  let v193_r2 : FVec F S256x64 .f32 := mulf v189_r2 v192_r2
  let cst_156_r2 : F .f32 := Scalar.ofBits .f32 0x3E4CCCCD#32
  let v194_r2 : FVec F S256x64 .f32 := broadcast S256x64 cst_156_r2
  let v195_r2 : FVec F S256x64 .f32 := mulf v193_r2 v194_r2
  let v196_r2 : FVec F S256x64 .f32 := addf v179_r2 v195_r2
  let v219_r2 : FVec F S256x64 .bf16 := truncf .bf16 v196_r2 bitsLt_bf16_f32
  shapeCast S256x64 v219_r2 shapeCasts_S256x64_S256x64

section Pieces
variable (c : Dev nD)

abbrev cellCU (s : Fin 2) : sProp 𝕄 := semVal ((c : Thread nD τ), SemLoc.dma (semCU s).sem) 0
abbrev slotPCU (s : Fin 2) (f : Buf (Elt F) ((slotCU s).view.loc (c : Thread nD τ))) : sProp 𝕄 :=
  (slotCU s).view.loc (c : Thread nD τ) ↦[(slotCU s).view.set]{fullShare} f
abbrev homeCU (X : Buf (Elt F) ((Memref.whole main_arg1 : Memref sig .tc .hbm _ _).view.loc (c : Thread nD τ))) (b : Fin 16) : sProp 𝕄 :=
  (blkCU b).view.loc (c : Thread nD τ) ↦[(blkCU b).view.set]{fullShare} X
abbrev landedCU (X : Buf (Elt F) ((Memref.whole main_arg1 : Memref sig .tc .hbm _ _).view.loc (c : Thread nD τ))) (s : Fin 2) (b : Fin 16) (f : Buf (Elt F) ((slotCU s).view.loc (c : Thread nD τ))) : Buf (Elt F) ((slotCU s).view.loc (c : Thread nD τ)) :=
  (slotCU s).view.writes (Elt F) f [⟨Rect.whole S256x8192, ReadAs.same.apply ((blkCU b).view.read (Elt F) X)⟩]
abbrev flightCU (X : Buf (Elt F) ((Memref.whole main_arg1 : Memref sig .tc .hbm _ _).view.loc (c : Thread nD τ))) (s : Fin 2) (b : Fin 16) (f : Buf (Elt F) ((slotCU s).view.loc (c : Thread nD τ))) : sProp 𝕄 :=
  Transfers.Flight countersEmb (c : Thread nD τ) (SemLoc.dma (semCU s).sem) () 262144 iprop(slotPCU c s (landedCU c X s b f) ∗ homeCU c X b)
theorem outCU (X : Buf (Elt F) ((Memref.whole main_arg1 : Memref sig .tc .hbm _ _).view.loc (c : Thread nD τ))) (k : ℕ) (hk : k + 1 < 16) :
    bigSep (Ring.homeSet 1 k) (homeCU c X) = iprop(homeCU c X (Ring.bk 16 (k + 1)) ∗ bigSep ((Ring.homeSet 1 k).erase (Ring.bk 16 (k + 1))) (homeCU c X)) := by
  conv_lhs => rw [Ring.homeSet_out 1 k hk, bigSep_insert (Ring.bkL_not_mem_erase 1 k)]
  rfl
theorem inCU (X : Buf (Elt F) ((Memref.whole main_arg1 : Memref sig .tc .hbm _ _).view.loc (c : Thread nD τ))) (k : ℕ) (hk : k + 1 < 16) :
    bigSep (Ring.homeSet 1 (k + 1)) (homeCU c X) = iprop(homeCU c X (Ring.bk 16 k) ∗ bigSep ((Ring.homeSet 1 k).erase (Ring.bk 16 (k + 1))) (homeCU c X)) := by
  conv_lhs => rw [Ring.homeSet_succ 1 k hk, bigSep_insert (Ring.bk_not_mem_erase 1 k (by omega) (by decide))]
  rfl
theorem endCU (X : Buf (Elt F) ((Memref.whole main_arg1 : Memref sig .tc .hbm _ _).view.loc (c : Thread nD τ))) (k : ℕ) (hk : k = 15) :
    bigSep Finset.univ (homeCU c X) = iprop(homeCU c X (Ring.bk 16 k) ∗ bigSep (Ring.homeSet 1 k) (homeCU c X)) := by
  conv_lhs => rw [← Ring.homeSet_last (NB := 16) 1 (k + 1) (by omega), Ring.homeSet_succ_tail 1 k (by omega) (by omega), bigSep_insert (Ring.bk_not_mem_homeSet 1 k (by omega) (by decide))]
  rfl
/-- The pieces of the buffer before trip `k`: block `k` on its way into slot `k % 2`, the other slot and its semaphore
    free, every other block of the array home. -/
def ringCU (X : Buf (Elt F) ((Memref.whole main_arg1 : Memref sig .tc .hbm _ _).view.loc (c : Thread nD τ))) (k : ℕ) : sProp 𝕄 :=
  iprop(bigSep (Ring.homeSet 1 k) (homeCU c X) ∗ (∃ f, flightCU c X (Ring.sl 2 k) (Ring.bk 16 k) f)
    ∗ (∃ f, slotPCU c (Ring.sl 2 (k + 1)) f) ∗ cellCU c (Ring.sl 2 (k + 1)))
/-- After the last trip `k`: both slots and semaphores free, every block home. -/
def ringEndCU (X : Buf (Elt F) ((Memref.whole main_arg1 : Memref sig .tc .hbm _ _).view.loc (c : Thread nD τ))) (k : ℕ) : sProp 𝕄 :=
  iprop(bigSep Finset.univ (homeCU c X) ∗ (∃ f, slotPCU c (Ring.sl 2 k) f) ∗ (∃ f, slotPCU c (Ring.sl 2 (k + 1)) f) ∗ cellCU c (Ring.sl 2 k) ∗ cellCU c (Ring.sl 2 (k + 1)))

abbrev cellCN (s : Fin 2) : sProp 𝕄 := semVal ((c : Thread nD τ), SemLoc.dma (semCN s).sem) 0
abbrev slotPCN (s : Fin 2) (f : Buf (Elt F) ((slotCN s).view.loc (c : Thread nD τ))) : sProp 𝕄 :=
  (slotCN s).view.loc (c : Thread nD τ) ↦[(slotCN s).view.set]{fullShare} f
abbrev homeCN (X : Buf (Elt F) ((Memref.whole main_v13 : Memref sig .tc .hbm _ _).view.loc (c : Thread nD τ))) (b : Fin 16) : sProp 𝕄 :=
  (blkCN b).view.loc (c : Thread nD τ) ↦[(blkCN b).view.set]{fullShare} X
abbrev landedCN (X : Buf (Elt F) ((Memref.whole main_v13 : Memref sig .tc .hbm _ _).view.loc (c : Thread nD τ))) (s : Fin 2) (b : Fin 16) (f : Buf (Elt F) ((slotCN s).view.loc (c : Thread nD τ))) : Buf (Elt F) ((slotCN s).view.loc (c : Thread nD τ)) :=
  (slotCN s).view.writes (Elt F) f [⟨Rect.whole S256x64, ReadAs.same.apply ((blkCN b).view.read (Elt F) X)⟩]
abbrev flightCN (X : Buf (Elt F) ((Memref.whole main_v13 : Memref sig .tc .hbm _ _).view.loc (c : Thread nD τ))) (s : Fin 2) (b : Fin 16) (f : Buf (Elt F) ((slotCN s).view.loc (c : Thread nD τ))) : sProp 𝕄 :=
  Transfers.Flight countersEmb (c : Thread nD τ) (SemLoc.dma (semCN s).sem) () 4096 iprop(slotPCN c s (landedCN c X s b f) ∗ homeCN c X b)
theorem outCN (X : Buf (Elt F) ((Memref.whole main_v13 : Memref sig .tc .hbm _ _).view.loc (c : Thread nD τ))) (k : ℕ) (hk : k + 1 < 16) :
    bigSep (Ring.homeSet 1 k) (homeCN c X) = iprop(homeCN c X (Ring.bk 16 (k + 1)) ∗ bigSep ((Ring.homeSet 1 k).erase (Ring.bk 16 (k + 1))) (homeCN c X)) := by
  conv_lhs => rw [Ring.homeSet_out 1 k hk, bigSep_insert (Ring.bkL_not_mem_erase 1 k)]
  rfl
theorem inCN (X : Buf (Elt F) ((Memref.whole main_v13 : Memref sig .tc .hbm _ _).view.loc (c : Thread nD τ))) (k : ℕ) (hk : k + 1 < 16) :
    bigSep (Ring.homeSet 1 (k + 1)) (homeCN c X) = iprop(homeCN c X (Ring.bk 16 k) ∗ bigSep ((Ring.homeSet 1 k).erase (Ring.bk 16 (k + 1))) (homeCN c X)) := by
  conv_lhs => rw [Ring.homeSet_succ 1 k hk, bigSep_insert (Ring.bk_not_mem_erase 1 k (by omega) (by decide))]
  rfl
theorem endCN (X : Buf (Elt F) ((Memref.whole main_v13 : Memref sig .tc .hbm _ _).view.loc (c : Thread nD τ))) (k : ℕ) (hk : k = 15) :
    bigSep Finset.univ (homeCN c X) = iprop(homeCN c X (Ring.bk 16 k) ∗ bigSep (Ring.homeSet 1 k) (homeCN c X)) := by
  conv_lhs => rw [← Ring.homeSet_last (NB := 16) 1 (k + 1) (by omega), Ring.homeSet_succ_tail 1 k (by omega) (by omega), bigSep_insert (Ring.bk_not_mem_homeSet 1 k (by omega) (by decide))]
  rfl
/-- The pieces of the buffer before trip `k`: block `k` on its way into slot `k % 2`, the other slot and its semaphore
    free, every other block of the array home. -/
def ringCN (X : Buf (Elt F) ((Memref.whole main_v13 : Memref sig .tc .hbm _ _).view.loc (c : Thread nD τ))) (k : ℕ) : sProp 𝕄 :=
  iprop(bigSep (Ring.homeSet 1 k) (homeCN c X) ∗ (∃ f, flightCN c X (Ring.sl 2 k) (Ring.bk 16 k) f)
    ∗ (∃ f, slotPCN c (Ring.sl 2 (k + 1)) f) ∗ cellCN c (Ring.sl 2 (k + 1)))
/-- After the last trip `k`: both slots and semaphores free, every block home. -/
def ringEndCN (X : Buf (Elt F) ((Memref.whole main_v13 : Memref sig .tc .hbm _ _).view.loc (c : Thread nD τ))) (k : ℕ) : sProp 𝕄 :=
  iprop(bigSep Finset.univ (homeCN c X) ∗ (∃ f, slotPCN c (Ring.sl 2 k) f) ∗ (∃ f, slotPCN c (Ring.sl 2 (k + 1)) f) ∗ cellCN c (Ring.sl 2 k) ∗ cellCN c (Ring.sl 2 (k + 1)))

abbrev cellCI (s : Fin 2) : sProp 𝕄 := semVal ((c : Thread nD τ), SemLoc.dma (semCI s).sem) 0
abbrev slotPCI (s : Fin 2) (f : Buf (Elt F) ((slotCI s).view.loc (c : Thread nD τ))) : sProp 𝕄 :=
  (slotCI s).view.loc (c : Thread nD τ) ↦[(slotCI s).view.set]{fullShare} f
abbrev homeCI (X : Buf (Elt F) ((Memref.whole main_v22_2 : Memref sig .tc .hbm _ _).view.loc (c : Thread nD τ))) (b : Fin 16) : sProp 𝕄 :=
  (blkCI b).view.loc (c : Thread nD τ) ↦[(blkCI b).view.set]{fullShare} X
abbrev flightCI (X : Buf (Elt F) ((Memref.whole main_v22_2 : Memref sig .tc .hbm _ _).view.loc (c : Thread nD τ))) (s : Fin 2) (b : Fin 16) (g : Buf (Elt F) ((slotCI s).view.loc (c : Thread nD τ))) : sProp 𝕄 :=
  Transfers.Flight countersEmb (c : Thread nD τ) (SemLoc.dma (semCI s).sem) () 4096
    iprop(homeCI c ((blkCI b).view.writes (Elt F) X [⟨Rect.whole S256x64, ReadAs.same.apply ((slotCI s).view.read (Elt F) g)⟩]) b ∗ slotPCI c s g)
/-- A block of the result: written already if it is before block `k`, as it was otherwise. -/
def partCI (X Y : Buf (Elt F) ((Memref.whole main_v22_2 : Memref sig .tc .hbm _ _).view.loc (c : Thread nD τ))) (k : ℕ) (b : Fin 16) : sProp 𝕄 := homeCI c (if b.val < k then Y else X) b
theorem partCI_congr (X Y : Buf (Elt F) ((Memref.whole main_v22_2 : Memref sig .tc .hbm _ _).view.loc (c : Thread nD τ))) (k : ℕ) (hk : k < 16) :
    bigSep ((Ring.homeSetB 1 k).erase (Ring.bk 16 k)) (partCI c X Y (k + 1)) = bigSep ((Ring.homeSetB 1 k).erase (Ring.bk 16 k)) (partCI c X Y k) :=
  bigSep_congr fun b hb => by
    have hne : b.val ≠ k := fun h => (Finset.mem_erase.mp hb).1 (Fin.ext (by rw [h, Ring.bk_val hk]))
    unfold partCI
    by_cases h : b.val < k
    · rw [if_pos h, if_pos (by omega)]
    · rw [if_neg h, if_neg (by omega)]
theorem outCI (X Y : Buf (Elt F) ((Memref.whole main_v22_2 : Memref sig .tc .hbm _ _).view.loc (c : Thread nD τ))) (k : ℕ) (hk : k < 16) :
    bigSep (Ring.homeSetB 1 k) (partCI c X Y k) = iprop(homeCI c X (Ring.bk 16 k) ∗ bigSep ((Ring.homeSetB 1 k).erase (Ring.bk 16 k)) (partCI c X Y k)) := by
  rw [Ring.bigSep_take (Ring.bk_mem_homeSetB 1 k hk)]
  congr 1
  unfold partCI
  rw [if_neg (by rw [Ring.bk_val hk]; omega)]
theorem in0CI (X Y : Buf (Elt F) ((Memref.whole main_v22_2 : Memref sig .tc .hbm _ _).view.loc (c : Thread nD τ))) (k : ℕ) (hk : k = 0) :
    bigSep (Ring.homeSetB 1 (k + 1)) (partCI c X Y (k + 1)) = bigSep ((Ring.homeSetB 1 k).erase (Ring.bk 16 k)) (partCI c X Y k) := by
  rw [Ring.homeSetB_step_boot 1 k (by omega) (by omega), partCI_congr c X Y k (by omega)]
theorem inCI (X Y : Buf (Elt F) ((Memref.whole main_v22_2 : Memref sig .tc .hbm _ _).view.loc (c : Thread nD τ))) (k : ℕ) (hk : k < 16) (h1 : 1 ≤ k) :
    bigSep (Ring.homeSetB 1 (k + 1)) (partCI c X Y (k + 1)) = iprop(homeCI c Y (Ring.bk 16 (k - 1)) ∗ bigSep ((Ring.homeSetB 1 k).erase (Ring.bk 16 k)) (partCI c X Y k)) := by
  rw [Ring.homeSetB_step 1 k hk h1, Ring.bigSep_put (Ring.bk_sub_not_mem 1 k hk h1), partCI_congr c X Y k hk]
  congr 1
  unfold partCI
  rw [if_pos (by rw [Ring.bk_val (by omega)]; omega)]
/-- Past the last trip, the last block back from its copy completes the result. -/
theorem endCI (X Y : Buf (Elt F) ((Memref.whole main_v22_2 : Memref sig .tc .hbm _ _).view.loc (c : Thread nD τ))) (k : ℕ) (hk : k = 16) :
    bigSep Finset.univ (homeCI c Y) = iprop(homeCI c Y (Ring.bk 16 (k - 1)) ∗ bigSep (Ring.homeSetB 1 k) (partCI c X Y k)) := by
  subst hk
  rw [Ring.homeSetB_one_end, Ring.bigSep_take (Finset.mem_univ (Ring.bk 16 (16 - 1)))]
  congr 1
/-- A block of the result home from its copy is the result's block. -/
theorem doneCI (X Y : Buf (Elt F) ((Memref.whole main_v22_2 : Memref sig .tc .hbm _ _).view.loc (c : Thread nD τ))) (s : Fin 2) (k : ℕ) (hk : k < 16) (g : Buf (Elt F) ((slotCI s).view.loc (c : Thread nD τ))) (Q : ℕ → S256x64.Idx → Elt F .f32)
    (hY : Y = (stack (W := 256) (R := 4096) (D := 64) (by decide) Q : S4096x64.Idx → Elt F .f32)) (hg : (slotCI s).view.read (Elt F) g = Q k) :
    homeCI c ((blkCI (Ring.bk 16 k)).view.writes (Elt F) X [⟨Rect.whole S256x64, ReadAs.same.apply ((slotCI s).view.read (Elt F) g)⟩]) (Ring.bk 16 k) = homeCI c Y (Ring.bk 16 k) := by
  refine own_eq_of_read c (blkCI (Ring.bk 16 k)) _ _ ((View.read_writes_whole _ _ _).trans (hg.trans ?_))
  subst hY
  funext x
  refine (stack_block (W := 256) (R := 4096) (D := 64) (by decide) Q k x _ ?_ ?_).symm
  · show 256 * (Ring.bk 16 k).val + 1 * (x 0).val = _
    rw [Ring.bk_val hk]; omega
  · show 0 + 1 * (x 1).val = _
    omega
/-- The pieces of the buffer before trip `k` past the first: block `k - 1` on its way out of the other slot, slot `k % 2`
    and its semaphore free. -/
def ringCI (X Y : Buf (Elt F) ((Memref.whole main_v22_2 : Memref sig .tc .hbm _ _).view.loc (c : Thread nD τ))) (Q : ℕ → S256x64.Idx → Elt F .f32) (k : ℕ) : sProp 𝕄 :=
  iprop(bigSep (Ring.homeSetB 1 k) (partCI c X Y k) ∗ (∃ f, slotPCI c (Ring.sl 2 k) f) ∗ cellCI c (Ring.sl 2 k)
    ∗ (∃ g, ⌜(slotCI (Ring.sl 2 (k - 1))).view.read (Elt F) g = Q (k - 1)⌝ ∗ flightCI c X (Ring.sl 2 (k - 1)) (Ring.bk 16 (k - 1)) g))
/-- Before the first trip: both slots and semaphores free. -/
def ring0CI (X Y : Buf (Elt F) ((Memref.whole main_v22_2 : Memref sig .tc .hbm _ _).view.loc (c : Thread nD τ))) (k : ℕ) : sProp 𝕄 :=
  iprop(bigSep (Ring.homeSetB 1 k) (partCI c X Y k) ∗ (∃ f, slotPCI c (Ring.sl 2 k) f) ∗ cellCI c (Ring.sl 2 k)
    ∗ (∃ f, slotPCI c (Ring.sl 2 (k + 1)) f) ∗ cellCI c (Ring.sl 2 (k + 1)))

abbrev cellCT (s : Fin 2) : sProp 𝕄 := semVal ((c : Thread nD τ), SemLoc.dma (semCT s).sem) 0
abbrev slotPCT (s : Fin 2) (f : Buf (Elt F) ((slotCT s).view.loc (c : Thread nD τ))) : sProp 𝕄 :=
  (slotCT s).view.loc (c : Thread nD τ) ↦[(slotCT s).view.set]{fullShare} f
abbrev homeCT (X : Buf (Elt F) ((Memref.whole main_v22_3 : Memref sig .tc .hbm _ _).view.loc (c : Thread nD τ))) (b : Fin 16) : sProp 𝕄 :=
  (blkCT b).view.loc (c : Thread nD τ) ↦[(blkCT b).view.set]{fullShare} X
abbrev flightCT (X : Buf (Elt F) ((Memref.whole main_v22_3 : Memref sig .tc .hbm _ _).view.loc (c : Thread nD τ))) (s : Fin 2) (b : Fin 16) (g : Buf (Elt F) ((slotCT s).view.loc (c : Thread nD τ))) : sProp 𝕄 :=
  Transfers.Flight countersEmb (c : Thread nD τ) (SemLoc.dma (semCT s).sem) () 4096
    iprop(homeCT c ((blkCT b).view.writes (Elt F) X [⟨Rect.whole S256x64, ReadAs.same.apply ((slotCT s).view.read (Elt F) g)⟩]) b ∗ slotPCT c s g)
/-- A block of the result: written already if it is before block `k`, as it was otherwise. -/
def partCT (X Y : Buf (Elt F) ((Memref.whole main_v22_3 : Memref sig .tc .hbm _ _).view.loc (c : Thread nD τ))) (k : ℕ) (b : Fin 16) : sProp 𝕄 := homeCT c (if b.val < k then Y else X) b
theorem partCT_congr (X Y : Buf (Elt F) ((Memref.whole main_v22_3 : Memref sig .tc .hbm _ _).view.loc (c : Thread nD τ))) (k : ℕ) (hk : k < 16) :
    bigSep ((Ring.homeSetB 1 k).erase (Ring.bk 16 k)) (partCT c X Y (k + 1)) = bigSep ((Ring.homeSetB 1 k).erase (Ring.bk 16 k)) (partCT c X Y k) :=
  bigSep_congr fun b hb => by
    have hne : b.val ≠ k := fun h => (Finset.mem_erase.mp hb).1 (Fin.ext (by rw [h, Ring.bk_val hk]))
    unfold partCT
    by_cases h : b.val < k
    · rw [if_pos h, if_pos (by omega)]
    · rw [if_neg h, if_neg (by omega)]
theorem outCT (X Y : Buf (Elt F) ((Memref.whole main_v22_3 : Memref sig .tc .hbm _ _).view.loc (c : Thread nD τ))) (k : ℕ) (hk : k < 16) :
    bigSep (Ring.homeSetB 1 k) (partCT c X Y k) = iprop(homeCT c X (Ring.bk 16 k) ∗ bigSep ((Ring.homeSetB 1 k).erase (Ring.bk 16 k)) (partCT c X Y k)) := by
  rw [Ring.bigSep_take (Ring.bk_mem_homeSetB 1 k hk)]
  congr 1
  unfold partCT
  rw [if_neg (by rw [Ring.bk_val hk]; omega)]
theorem in0CT (X Y : Buf (Elt F) ((Memref.whole main_v22_3 : Memref sig .tc .hbm _ _).view.loc (c : Thread nD τ))) (k : ℕ) (hk : k = 0) :
    bigSep (Ring.homeSetB 1 (k + 1)) (partCT c X Y (k + 1)) = bigSep ((Ring.homeSetB 1 k).erase (Ring.bk 16 k)) (partCT c X Y k) := by
  rw [Ring.homeSetB_step_boot 1 k (by omega) (by omega), partCT_congr c X Y k (by omega)]
theorem inCT (X Y : Buf (Elt F) ((Memref.whole main_v22_3 : Memref sig .tc .hbm _ _).view.loc (c : Thread nD τ))) (k : ℕ) (hk : k < 16) (h1 : 1 ≤ k) :
    bigSep (Ring.homeSetB 1 (k + 1)) (partCT c X Y (k + 1)) = iprop(homeCT c Y (Ring.bk 16 (k - 1)) ∗ bigSep ((Ring.homeSetB 1 k).erase (Ring.bk 16 k)) (partCT c X Y k)) := by
  rw [Ring.homeSetB_step 1 k hk h1, Ring.bigSep_put (Ring.bk_sub_not_mem 1 k hk h1), partCT_congr c X Y k hk]
  congr 1
  unfold partCT
  rw [if_pos (by rw [Ring.bk_val (by omega)]; omega)]
/-- Past the last trip, the last block back from its copy completes the result. -/
theorem endCT (X Y : Buf (Elt F) ((Memref.whole main_v22_3 : Memref sig .tc .hbm _ _).view.loc (c : Thread nD τ))) (k : ℕ) (hk : k = 16) :
    bigSep Finset.univ (homeCT c Y) = iprop(homeCT c Y (Ring.bk 16 (k - 1)) ∗ bigSep (Ring.homeSetB 1 k) (partCT c X Y k)) := by
  subst hk
  rw [Ring.homeSetB_one_end, Ring.bigSep_take (Finset.mem_univ (Ring.bk 16 (16 - 1)))]
  congr 1
/-- A block of the result home from its copy is the result's block. -/
theorem doneCT (X Y : Buf (Elt F) ((Memref.whole main_v22_3 : Memref sig .tc .hbm _ _).view.loc (c : Thread nD τ))) (s : Fin 2) (k : ℕ) (hk : k < 16) (g : Buf (Elt F) ((slotCT s).view.loc (c : Thread nD τ))) (Q : ℕ → S256x64.Idx → Elt F .f32)
    (hY : Y = (stack (W := 256) (R := 4096) (D := 64) (by decide) Q : S4096x64.Idx → Elt F .f32)) (hg : (slotCT s).view.read (Elt F) g = Q k) :
    homeCT c ((blkCT (Ring.bk 16 k)).view.writes (Elt F) X [⟨Rect.whole S256x64, ReadAs.same.apply ((slotCT s).view.read (Elt F) g)⟩]) (Ring.bk 16 k) = homeCT c Y (Ring.bk 16 k) := by
  refine own_eq_of_read c (blkCT (Ring.bk 16 k)) _ _ ((View.read_writes_whole _ _ _).trans (hg.trans ?_))
  subst hY
  funext x
  refine (stack_block (W := 256) (R := 4096) (D := 64) (by decide) Q k x _ ?_ ?_).symm
  · show 256 * (Ring.bk 16 k).val + 1 * (x 0).val = _
    rw [Ring.bk_val hk]; omega
  · show 0 + 1 * (x 1).val = _
    omega
/-- The pieces of the buffer before trip `k` past the first: block `k - 1` on its way out of the other slot, slot `k % 2`
    and its semaphore free. -/
def ringCT (X Y : Buf (Elt F) ((Memref.whole main_v22_3 : Memref sig .tc .hbm _ _).view.loc (c : Thread nD τ))) (Q : ℕ → S256x64.Idx → Elt F .f32) (k : ℕ) : sProp 𝕄 :=
  iprop(bigSep (Ring.homeSetB 1 k) (partCT c X Y k) ∗ (∃ f, slotPCT c (Ring.sl 2 k) f) ∗ cellCT c (Ring.sl 2 k)
    ∗ (∃ g, ⌜(slotCT (Ring.sl 2 (k - 1))).view.read (Elt F) g = Q (k - 1)⌝ ∗ flightCT c X (Ring.sl 2 (k - 1)) (Ring.bk 16 (k - 1)) g))
/-- Before the first trip: both slots and semaphores free. -/
def ring0CT (X Y : Buf (Elt F) ((Memref.whole main_v22_3 : Memref sig .tc .hbm _ _).view.loc (c : Thread nD τ))) (k : ℕ) : sProp 𝕄 :=
  iprop(bigSep (Ring.homeSetB 1 k) (partCT c X Y k) ∗ (∃ f, slotPCT c (Ring.sl 2 k) f) ∗ cellCT c (Ring.sl 2 k)
    ∗ (∃ f, slotPCT c (Ring.sl 2 (k + 1)) f) ∗ cellCT c (Ring.sl 2 (k + 1)))

end Pieces

/-- Block `k` of what the pipeline stores. -/
def outC_CI (c : Dev nD) (XCU : Buf (Elt F) ((Memref.whole main_arg1 : Memref sig .tc .hbm _ _).view.loc (c : Thread nD τ))) (V21 : Buf (Elt F) (a21.view.loc (c : Thread nD τ))) (k : ℕ) : S256x64.Idx → Elt F .f32 :=
  valC_CI ((blkCU (Ring.bk 16 k)).view.read (Elt F) XCU) V21

/-- Block `k` of what the pipeline stores. -/
def outC_CT (c : Dev nD) (XCU : Buf (Elt F) ((Memref.whole main_arg1 : Memref sig .tc .hbm _ _).view.loc (c : Thread nD τ))) (V21 : Buf (Elt F) (a21.view.loc (c : Thread nD τ))) (k : ℕ) : S256x64.Idx → Elt F .f32 :=
  valC_CT ((blkCU (Ring.bk 16 k)).view.read (Elt F) XCU) V21

/-- Block `k` of what the pipeline stores in scratch array 27. -/
def outC_27 (c : Dev nD) (XCU : Buf (Elt F) ((Memref.whole main_arg1 : Memref sig .tc .hbm _ _).view.loc (c : Thread nD τ))) (V21 : Buf (Elt F) (a21.view.loc (c : Thread nD τ))) (k : ℕ) : S256x64.Idx → Elt F .f32 :=
  valC_27 ((blkCU (Ring.bk 16 k)).view.read (Elt F) XCU) V21

/-- Block `k` of what the pipeline stores in scratch array 28. -/
def outC_28 (c : Dev nD) (XCU : Buf (Elt F) ((Memref.whole main_arg1 : Memref sig .tc .hbm _ _).view.loc (c : Thread nD τ))) (V21 : Buf (Elt F) (a21.view.loc (c : Thread nD τ))) (k : ℕ) : S256x64.Idx → Elt F .f32 :=
  valC_28 ((blkCU (Ring.bk 16 k)).view.read (Elt F) XCU) V21

/-- Block `k` of what the pipeline stores in scratch array 26. -/
def outC_26 (c : Dev nD) (XCU : Buf (Elt F) ((Memref.whole main_arg1 : Memref sig .tc .hbm _ _).view.loc (c : Thread nD τ))) (XCN : Buf (Elt F) ((Memref.whole main_v13 : Memref sig .tc .hbm _ _).view.loc (c : Thread nD τ))) (V21 : Buf (Elt F) (a21.view.loc (c : Thread nD τ))) (k : ℕ) : S256x64.Idx → Elt F .f32 :=
  valC_26 ((blkCU (Ring.bk 16 k)).view.read (Elt F) XCU) V21 ((blkCN (Ring.bk 16 k)).view.read (Elt F) XCN)

/-- Block `k` of what the pipeline stores in scratch array 25. -/
def outC_25 (c : Dev nD) (XCU : Buf (Elt F) ((Memref.whole main_arg1 : Memref sig .tc .hbm _ _).view.loc (c : Thread nD τ))) (XCN : Buf (Elt F) ((Memref.whole main_v13 : Memref sig .tc .hbm _ _).view.loc (c : Thread nD τ))) (V21 : Buf (Elt F) (a21.view.loc (c : Thread nD τ))) (k : ℕ) : S256x64.Idx → Elt F .bf16 :=
  valC_25 ((blkCU (Ring.bk 16 k)).view.read (Elt F) XCU) V21 ((blkCN (Ring.bk 16 k)).view.read (Elt F) XCN)

section Trip
variable (c : Dev nD)
  (arg6 : Memref sig .tc .vmem S4096x64 .bf16) (harg6 : arg6.IsWhole) (arg7 : Memref sig .tc .vmem S1x64 .f32) (harg7 : arg7.IsWhole)
  (arg8 : Memref sig .tc .vmem S384x64 .bf16) (harg8 : arg8.IsWhole) (arg9 : Memref sig .tc .vmem S1x64 .f32) (harg9 : arg9.IsWhole)
  (v23 v30 e37 e38 e39 e40 e41 e42 e43 : BitVec 32)
  (XCU : Buf (Elt F) ((Memref.whole main_arg1 : Memref sig .tc .hbm _ _).view.loc (c : Thread nD τ)))
  (XCN : Buf (Elt F) ((Memref.whole main_v13 : Memref sig .tc .hbm _ _).view.loc (c : Thread nD τ)))
  (V21 : Buf (Elt F) (a21.view.loc (c : Thread nD τ)))
  (OCI : Buf (Elt F) ((Memref.whole main_v22_2 : Memref sig .tc .hbm _ _).view.loc (c : Thread nD τ)))
  (OCT : Buf (Elt F) ((Memref.whole main_v22_3 : Memref sig .tc .hbm _ _).view.loc (c : Thread nD τ)))

/-- Scratch array 27 with its first `k` blocks stored. -/
def scrC27 (k : ℕ) : sProp 𝕄 :=
  iprop(∃ f, ⌜UpTo (W := 256) (R := 4096) (D := 64) (by decide) a27.view (outC_27 c XCU V21) k f⌝ ∗ own27 c f)
theorem scrC27_end (k : ℕ) (hk : k = 16) :
    scrC27 c XCU V21 k ⊢ own27 c (stack (W := 256) (R := 4096) (D := 64) (by decide) (outC_27 c XCU V21) : S4096x64.Idx → Elt F .f32) := by
  subst hk
  unfold scrC27
  iintro ⟨%f, %hU, H⟩
  have e : f = (stack (W := 256) (R := 4096) (D := 64) (by decide) (outC_27 c XCU V21) : S4096x64.Idx → Elt F .f32) := upTo_all (by decide) _ _ 16 (by decide) f hU
  subst e
  iexact H

/-- Scratch array 28 with its first `k` blocks stored. -/
def scrC28 (k : ℕ) : sProp 𝕄 :=
  iprop(∃ f, ⌜UpTo (W := 256) (R := 4096) (D := 64) (by decide) a28.view (outC_28 c XCU V21) k f⌝ ∗ own28 c f)
theorem scrC28_end (k : ℕ) (hk : k = 16) :
    scrC28 c XCU V21 k ⊢ own28 c (stack (W := 256) (R := 4096) (D := 64) (by decide) (outC_28 c XCU V21) : S4096x64.Idx → Elt F .f32) := by
  subst hk
  unfold scrC28
  iintro ⟨%f, %hU, H⟩
  have e : f = (stack (W := 256) (R := 4096) (D := 64) (by decide) (outC_28 c XCU V21) : S4096x64.Idx → Elt F .f32) := upTo_all (by decide) _ _ 16 (by decide) f hU
  subst e
  iexact H

/-- Scratch array 26 with its first `k` blocks stored. -/
def scrC26 (k : ℕ) : sProp 𝕄 :=
  iprop(∃ f, ⌜UpTo (W := 256) (R := 4096) (D := 64) (by decide) a26.view (outC_26 c XCU XCN V21) k f⌝ ∗ own26 c f)
theorem scrC26_end (k : ℕ) (hk : k = 16) :
    scrC26 c XCU XCN V21 k ⊢ own26 c (stack (W := 256) (R := 4096) (D := 64) (by decide) (outC_26 c XCU XCN V21) : S4096x64.Idx → Elt F .f32) := by
  subst hk
  unfold scrC26
  iintro ⟨%f, %hU, H⟩
  have e : f = (stack (W := 256) (R := 4096) (D := 64) (by decide) (outC_26 c XCU XCN V21) : S4096x64.Idx → Elt F .f32) := upTo_all (by decide) _ _ 16 (by decide) f hU
  subst e
  iexact H

/-- Scratch array 25 with its first `k` blocks stored. -/
def scrC25 (k : ℕ) : sProp 𝕄 :=
  iprop(∃ f, ⌜UpTo (W := 256) (R := 4096) (D := 64) (by decide) a25.view (outC_25 c XCU XCN V21) k f⌝ ∗ own25 c f)
theorem scrC25_end (k : ℕ) (hk : k = 16) :
    scrC25 c XCU XCN V21 k ⊢ own25 c (stack (W := 256) (R := 4096) (D := 64) (by decide) (outC_25 c XCU XCN V21) : S4096x64.Idx → Elt F .bf16) := by
  subst hk
  unfold scrC25
  iintro ⟨%f, %hU, H⟩
  have e : f = (stack (W := 256) (R := 4096) (D := 64) (by decide) (outC_25 c XCU XCN V21) : S4096x64.Idx → Elt F .bf16) := upTo_all (by decide) _ _ 16 (by decide) f hU
  subst e
  iexact H

/-- The result as the pipeline leaves it. -/
abbrev finCI : Buf (Elt F) ((Memref.whole main_v22_2 : Memref sig .tc .hbm _ _).view.loc (c : Thread nD τ)) := (stack (W := 256) (R := 4096) (D := 64) (by decide) (outC_CI c XCU V21) : S4096x64.Idx → Elt F .f32)

/-- The result as the pipeline leaves it. -/
abbrev finCT : Buf (Elt F) ((Memref.whole main_v22_3 : Memref sig .tc .hbm _ _).view.loc (c : Thread nD τ)) := (stack (W := 256) (R := 4096) (D := 64) (by decide) (outC_CT c XCU V21) : S4096x64.Idx → Elt F .f32)

def accC (k : ℕ) : BitVec 32 × BitVec 32 × BitVec 32 × BitVec 32 × BitVec 32 × BitVec 32 × BitVec 32 × BitVec 32 × BitVec 32 :=
  (w32 (k + 1), w32 k, w32 (k + 1), w32 k, w32 k, w32 (k - 1), w32 k, w32 (k - 1), w32 k)
/-- The loop's words between its trips. -/
def outCw (k : ℕ) : BitVec 32 × BitVec 32 × BitVec 32 × BitVec 32 × BitVec 32 × BitVec 32 × BitVec 32 × BitVec 32 × BitVec 32 :=
  (w32 (min (k + 1) 16), w32 k, w32 (min (k + 1) 16), w32 k, w32 k, w32 (k - 1), w32 k, w32 (k - 1), w32 (k % 16))
abbrev tripC (k : T3) (acc : BitVec 32 × BitVec 32 × BitVec 32 × BitVec 32 × BitVec 32 × BitVec 32 × BitVec 32 × BitVec 32 × BitVec 32) :=
  k0_t3_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg6 harg6 arg7 harg7 arg8 harg8 arg9 harg9 (Memref.whole main_v6) (Memref.isWhole_whole _) (Memref.whole main_v13) (Memref.isWhole_whole _) (Memref.whole main_v22_0) (Memref.isWhole_whole _) (Memref.whole main_v22_1) (Memref.isWhole_whole _) (Memref.whole main_v22_2) (Memref.isWhole_whole _) (Memref.whole main_v22_3) (Memref.isWhole_whole _) (Memref.whole main_v22_4) (Memref.isWhole_whole _) (Memref.whole main_v22_5) (Memref.isWhole_whole _) (Memref.whole main_v22_6) (Memref.isWhole_whole _) (Memref.whole main_v22_7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 (Memref.whole cc0_scoped20) (Memref.isWhole_whole _) cc0_scoped21 (Memref.whole cc0_scoped22) (Memref.isWhole_whole _) cc0_scoped23 (Memref.whole cc0_scoped24) (Memref.isWhole_whole _) cc0_scoped25 (Memref.whole cc0_scoped26) (Memref.isWhole_whole _) cc0_scoped27 (Memref.whole cc0_scoped28) (Memref.isWhole_whole _) cc0_scoped29 (Memref.whole cc0_scoped30) (Memref.isWhole_whole _) cc0_scoped31 (Memref.whole cc0_scoped32) (Memref.isWhole_whole _) cc0_scoped33 (Memref.whole cc0_scoped34) (Memref.isWhole_whole _) cc0_scoped35 (Memref.whole cc0_scoped36) (Memref.isWhole_whole _) cc0_scoped37 v23 v30 e37 e38 e39 e40 e41 e42 e43 0#32 k acc

set_option maxHeartbeats 4000000 in
theorem runC_first (k : T3) (hk0 : k.val = 0) :
    iprop(own21 c V21 ∗ scrC27 c XCU V21 k ∗ scrC28 c XCU V21 k ∗ scrC26 c XCU XCN V21 k ∗ scrC25 c XCU XCN V21 k ∗ (∃ W, owes (c : Thread nD τ) 0 W) ∗ ringCU c XCU k ∗ ringCN c XCN k ∗ ring0CI c OCI (finCI c XCU V21) k ∗ ring0CT c OCT (finCT c XCU V21) k)
      ⊢ wp frame (wpE (defs₀ (F := F)) 𝒱₀ (c : Thread nD τ) none) Set.univ (tripC arg6 harg6 arg7 harg7 arg8 harg8 arg9 harg9 v23 v30 e37 e38 e39 e40 e41 e42 e43 k (accC k))
        (fun acc => iprop(⌜acc = outCw (k.val + 1)⌝ ∗ own21 c V21 ∗ scrC27 c XCU V21 (k + 1) ∗ scrC28 c XCU V21 (k + 1) ∗ scrC26 c XCU XCN V21 (k + 1) ∗ scrC25 c XCU XCN V21 (k + 1) ∗ (∃ W, owes (c : Thread nD τ) 0 W) ∗ ringCU c XCU (k + 1) ∗ ringCN c XCN (k + 1) ∗ ringCI c OCI (finCI c XCU V21) (outC_CI c XCU V21) (k + 1) ∗ ringCT c OCT (finCT c XCU V21) (outC_CT c XCU V21) (k + 1))) := by
  have hlt : k.val < 16 := k.isLt
  have hk : k.val < 15 := by omega
  have hk8 : k.val + 1 < 16 := by omega
  have hk1 : ¬ 1 ≤ k.val := by omega
  have h42 := cond42_pos k hk
  have h43 := cond43_pos k hk
  have h44 := cond44_pos k
  have h45 := cond45_pos k
  have h54 := cond54_pos k
  have h55 := cond55_pos k
  have h62 := cond62_neg k hk1
  have h63 := cond63_neg k hk1
  have c17 := chk17_ok k
  have c16 := chk16_ok k
  have c15 := chk15_ok k
  have c14 := chk14_ok k
  have c13 := chk13_ok k
  unfold ringCU ringCN ring0CI ring0CT scrC27 scrC28 scrC26 scrC25 ringCI ringCT
  rw [outCU c XCU k hk8, inCU c XCU k hk8]
  rw [outCN c XCN k hk8, inCN c XCN k hk8]
  rw [outCI c OCI (finCI c XCU V21) k hlt, in0CI c OCI (finCI c XCU V21) k hk0]
  rw [outCT c OCT (finCT c XCU V21) k hlt, in0CT c OCT (finCT c XCU V21) k hk0]
  rw [Nat.add_sub_cancel]
  rw [Ring.sl_add]
  iintro ⟨H21, ⟨%f27, %hU27, H27⟩, ⟨%f28, %hU28, H28⟩, ⟨%f26, %hU26, H26⟩, ⟨%f25, %hU25, H25⟩, ⟨%W, HW⟩, ⟨⟨HbCU, HrCU⟩, ⟨%fCU, HFCU⟩, ⟨%sCU, HsCU⟩, HcCU⟩, ⟨⟨HbCN, HrCN⟩, ⟨%fCN, HFCN⟩, ⟨%sCN, HsCN⟩, HcCN⟩, ⟨⟨HbCI, HrCI⟩, ⟨%sCI, HsCI⟩, HcCI, ⟨%zCI, HzCI⟩, HyCI⟩, ⟨⟨HbCT, HrCT⟩, ⟨%sCT, HsCT⟩, HcCT, ⟨%zCT, HzCT⟩, HyCT⟩⟩
  dsimp only [tripC, accC]
  sl_unfold [k0_t3_body]
  sl_exec_parts
  sl_step
  isplitr
  · ipureintro; clear * - k; unfold outCw; refine Prod.ext ?_ (Prod.ext ?_ (Prod.ext ?_ (Prod.ext ?_ (Prod.ext ?_ (Prod.ext ?_ (Prod.ext ?_ (Prod.ext ?_ ?_))))))) <;> (revert k; decide)
  isplitl [H21]
  · iexact H21
  isplitl [H27]
  · iexists _
    isplitr
    rotate_left
    · iexact H27
    · ipureintro; exact upTo_succ (by decide) a27.view _ k.val f27 _ (off82_eq k) (valC_27 (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21)) (by unfold outC_27; rw [loadCU (Ring.sl 2 k.val) (off78_eq k), full21_eq]) hU27
  isplitl [H28]
  · iexists _
    isplitr
    rotate_left
    · iexact H28
    · ipureintro; exact upTo_succ (by decide) a28.view _ k.val f28 _ (off82_eq k) (valC_28 (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21)) (by unfold outC_28; rw [loadCU (Ring.sl 2 k.val) (off78_eq k), full21_eq]) hU28
  isplitl [H26]
  · iexists _
    isplitr
    rotate_left
    · iexact H26
    · ipureintro; exact upTo_succ (by decide) a26.view _ k.val f26 _ (off82_eq k) (valC_26 (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21) (shapeCast S256x64 (View.readAt (Elt F) (Memref.whole cc0_scoped16 : Memref sig .tc .vmem S2x256x64 .f32).view (Rect.unit (s := S2x256x64) (k0_off79 (w32 k.val)) S1x256x64.size (by rw [off79_eq k]; exact slotInbCN _)).toLoadRect ((slotCN (Ring.sl 2 k.val)).view.writes (Elt F) (slotCN (Ring.sl 2 k.val)).view.junk [⟨Rect.whole S256x64, (blkCN (Ring.bk 16 k.val)).view.read (Elt F) XCN⟩])) shapeCasts_S1x256x64_S256x64)) (by unfold outC_26; rw [loadCU (Ring.sl 2 k.val) (off78_eq k), full21_eq, loadCN (Ring.sl 2 k.val) (off79_eq k)]) hU26
  isplitl [H25]
  · iexists _
    isplitr
    rotate_left
    · iexact H25
    · ipureintro; exact upTo_succ (by decide) a25.view _ k.val f25 _ (off82_eq k) (valC_25 (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21) (shapeCast S256x64 (View.readAt (Elt F) (Memref.whole cc0_scoped16 : Memref sig .tc .vmem S2x256x64 .f32).view (Rect.unit (s := S2x256x64) (k0_off79 (w32 k.val)) S1x256x64.size (by rw [off79_eq k]; exact slotInbCN _)).toLoadRect ((slotCN (Ring.sl 2 k.val)).view.writes (Elt F) (slotCN (Ring.sl 2 k.val)).view.junk [⟨Rect.whole S256x64, (blkCN (Ring.bk 16 k.val)).view.read (Elt F) XCN⟩])) shapeCasts_S1x256x64_S256x64)) (by unfold outC_25; rw [loadCU (Ring.sl 2 k.val) (off78_eq k), full21_eq, loadCN (Ring.sl 2 k.val) (off79_eq k)]) hU25
  isplitl [HW]
  · iexists _; iexact HW
  isplitl [HrCU HFCU_src HFCU_dst HFCU HcCU]
  · isplitl [HFCU_src HrCU]
    · isplitl [HFCU_src]; · iexact HFCU_src
      iexact HrCU
    isplitl [HcCU]; · iexists sCU; iexact HcCU
    isplitl [HFCU_dst]; · iexists _; iexact HFCU_dst
    iexact HFCU
  isplitl [HrCN HFCN_src HFCN_dst HFCN HcCN]
  · isplitl [HFCN_src HrCN]
    · isplitl [HFCN_src]; · iexact HFCN_src
      iexact HrCN
    isplitl [HcCN]; · iexists sCN; iexact HcCN
    isplitl [HFCN_dst]; · iexists _; iexact HFCN_dst
    iexact HFCN
  isplitl [HrCI HcCI HzCI HyCI]
  · isplitl [HrCI]; · iexact HrCI
    isplitl [HzCI]; · iexists _; iexact HzCI
    isplitl [HyCI]; · iexact HyCI
    iexists _
    isplitr
    rotate_left
    · iexact HcCI
    · ipureintro; refine (storeCI (F := F) (Ring.sl 2 k.val) (off80_eq k) (by rw [off80_eq k]; exact slotInbCI _) shapeCasts_S256x64_S1x256x64 sCI (valC_CI (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21))).trans ?_
      unfold outC_CI; rw [loadCU (Ring.sl 2 k.val) (off78_eq k), full21_eq]
  isplitl [HrCT]; · iexact HrCT
  isplitl [HzCT]; · iexists _; iexact HzCT
  isplitl [HyCT]; · iexact HyCT
  iexists _
  isplitr
  rotate_left
  · iexact HcCT
  · ipureintro; refine (storeCT (F := F) (Ring.sl 2 k.val) (off81_eq k) (by rw [off81_eq k]; exact slotInbCT _) shapeCasts_S256x64_S1x256x64 sCT (valC_CT (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21))).trans ?_
    unfold outC_CT; rw [loadCU (Ring.sl 2 k.val) (off78_eq k), full21_eq]

set_option maxHeartbeats 4000000 in
theorem runC_mid (k : T3) (hk0 : 1 ≤ k.val ∧ k.val < 15) :
    iprop(own21 c V21 ∗ scrC27 c XCU V21 k ∗ scrC28 c XCU V21 k ∗ scrC26 c XCU XCN V21 k ∗ scrC25 c XCU XCN V21 k ∗ (∃ W, owes (c : Thread nD τ) 0 W) ∗ ringCU c XCU k ∗ ringCN c XCN k ∗ ringCI c OCI (finCI c XCU V21) (outC_CI c XCU V21) k ∗ ringCT c OCT (finCT c XCU V21) (outC_CT c XCU V21) k)
      ⊢ wp frame (wpE (defs₀ (F := F)) 𝒱₀ (c : Thread nD τ) none) Set.univ (tripC arg6 harg6 arg7 harg7 arg8 harg8 arg9 harg9 v23 v30 e37 e38 e39 e40 e41 e42 e43 k (accC k))
        (fun acc => iprop(⌜acc = outCw (k.val + 1)⌝ ∗ own21 c V21 ∗ scrC27 c XCU V21 (k + 1) ∗ scrC28 c XCU V21 (k + 1) ∗ scrC26 c XCU XCN V21 (k + 1) ∗ scrC25 c XCU XCN V21 (k + 1) ∗ (∃ W, owes (c : Thread nD τ) 0 W) ∗ ringCU c XCU (k + 1) ∗ ringCN c XCN (k + 1) ∗ ringCI c OCI (finCI c XCU V21) (outC_CI c XCU V21) (k + 1) ∗ ringCT c OCT (finCT c XCU V21) (outC_CT c XCU V21) (k + 1))) := by
  have hlt : k.val < 16 := k.isLt
  have hk : k.val < 15 := by omega
  have hk8 : k.val + 1 < 16 := by omega
  have hk1 : 1 ≤ k.val := by omega
  have h42 := cond42_pos k hk
  have h43 := cond43_pos k hk
  have h44 := cond44_pos k
  have h45 := cond45_pos k
  have h54 := cond54_pos k
  have h55 := cond55_pos k
  have h62 := cond62_pos k hk1
  have h63 := cond63_pos k hk1
  have c17 := chk17_ok k
  have c16 := chk16_ok k
  have c15 := chk15_ok k
  have c14 := chk14_ok k
  have c13 := chk13_ok k
  unfold ringCU ringCN ringCI ringCT scrC27 scrC28 scrC26 scrC25
  rw [outCU c XCU k hk8, inCU c XCU k hk8]
  rw [outCN c XCN k hk8, inCN c XCN k hk8]
  rw [outCI c OCI (finCI c XCU V21) k hlt, inCI c OCI (finCI c XCU V21) k hlt hk1]
  rw [outCT c OCT (finCT c XCU V21) k hlt, inCT c OCT (finCT c XCU V21) k hlt hk1]
  rw [Nat.add_sub_cancel]
  rw [Ring.sl_add]
  iintro ⟨H21, ⟨%f27, %hU27, H27⟩, ⟨%f28, %hU28, H28⟩, ⟨%f26, %hU26, H26⟩, ⟨%f25, %hU25, H25⟩, ⟨%W, HW⟩, ⟨⟨HbCU, HrCU⟩, ⟨%fCU, HFCU⟩, ⟨%sCU, HsCU⟩, HcCU⟩, ⟨⟨HbCN, HrCN⟩, ⟨%fCN, HFCN⟩, ⟨%sCN, HsCN⟩, HcCN⟩, ⟨⟨HbCI, HrCI⟩, ⟨%sCI, HsCI⟩, HcCI, ⟨%gCI, %hgCI, HFCI⟩⟩, ⟨⟨HbCT, HrCT⟩, ⟨%sCT, HsCT⟩, HcCT, ⟨%gCT, %hgCT, HFCT⟩⟩⟩
  dsimp only [tripC, accC]
  sl_unfold [k0_t3_body]
  sl_exec_parts
  sl_step
  isplitr
  · ipureintro; clear * - k; unfold outCw; refine Prod.ext ?_ (Prod.ext ?_ (Prod.ext ?_ (Prod.ext ?_ (Prod.ext ?_ (Prod.ext ?_ (Prod.ext ?_ (Prod.ext ?_ ?_))))))) <;> (revert k; decide)
  isplitl [H21]
  · iexact H21
  isplitl [H27]
  · iexists _
    isplitr
    rotate_left
    · iexact H27
    · ipureintro; exact upTo_succ (by decide) a27.view _ k.val f27 _ (off82_eq k) (valC_27 (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21)) (by unfold outC_27; rw [loadCU (Ring.sl 2 k.val) (off78_eq k), full21_eq]) hU27
  isplitl [H28]
  · iexists _
    isplitr
    rotate_left
    · iexact H28
    · ipureintro; exact upTo_succ (by decide) a28.view _ k.val f28 _ (off82_eq k) (valC_28 (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21)) (by unfold outC_28; rw [loadCU (Ring.sl 2 k.val) (off78_eq k), full21_eq]) hU28
  isplitl [H26]
  · iexists _
    isplitr
    rotate_left
    · iexact H26
    · ipureintro; exact upTo_succ (by decide) a26.view _ k.val f26 _ (off82_eq k) (valC_26 (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21) (shapeCast S256x64 (View.readAt (Elt F) (Memref.whole cc0_scoped16 : Memref sig .tc .vmem S2x256x64 .f32).view (Rect.unit (s := S2x256x64) (k0_off79 (w32 k.val)) S1x256x64.size (by rw [off79_eq k]; exact slotInbCN _)).toLoadRect ((slotCN (Ring.sl 2 k.val)).view.writes (Elt F) (slotCN (Ring.sl 2 k.val)).view.junk [⟨Rect.whole S256x64, (blkCN (Ring.bk 16 k.val)).view.read (Elt F) XCN⟩])) shapeCasts_S1x256x64_S256x64)) (by unfold outC_26; rw [loadCU (Ring.sl 2 k.val) (off78_eq k), full21_eq, loadCN (Ring.sl 2 k.val) (off79_eq k)]) hU26
  isplitl [H25]
  · iexists _
    isplitr
    rotate_left
    · iexact H25
    · ipureintro; exact upTo_succ (by decide) a25.view _ k.val f25 _ (off82_eq k) (valC_25 (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21) (shapeCast S256x64 (View.readAt (Elt F) (Memref.whole cc0_scoped16 : Memref sig .tc .vmem S2x256x64 .f32).view (Rect.unit (s := S2x256x64) (k0_off79 (w32 k.val)) S1x256x64.size (by rw [off79_eq k]; exact slotInbCN _)).toLoadRect ((slotCN (Ring.sl 2 k.val)).view.writes (Elt F) (slotCN (Ring.sl 2 k.val)).view.junk [⟨Rect.whole S256x64, (blkCN (Ring.bk 16 k.val)).view.read (Elt F) XCN⟩])) shapeCasts_S1x256x64_S256x64)) (by unfold outC_25; rw [loadCU (Ring.sl 2 k.val) (off78_eq k), full21_eq, loadCN (Ring.sl 2 k.val) (off79_eq k)]) hU25
  isplitl [HW]
  · iexists _; iexact HW
  isplitl [HrCU HFCU_src HFCU_dst HFCU HcCU]
  · isplitl [HFCU_src HrCU]
    · isplitl [HFCU_src]; · iexact HFCU_src
      iexact HrCU
    isplitl [HcCU]; · iexists sCU; iexact HcCU
    isplitl [HFCU_dst]; · iexists _; iexact HFCU_dst
    iexact HFCU
  isplitl [HrCN HFCN_src HFCN_dst HFCN HcCN]
  · isplitl [HFCN_src HrCN]
    · isplitl [HFCN_src]; · iexact HFCN_src
      iexact HrCN
    isplitl [HcCN]; · iexists sCN; iexact HcCN
    isplitl [HFCN_dst]; · iexists _; iexact HFCN_dst
    iexact HFCN
  isplitl [HrCI HFCI_src HFCI_dst HFCI HcCI]
  · isplitl [HFCI_dst HrCI]
    · isplitl [HFCI_dst]
      · iapply (entails_of_eq (doneCI c OCI _ (Ring.sl 2 (k.val - 1)) (k.val - 1) (by omega) gCI (outC_CI c XCU V21) rfl hgCI)); iexact HFCI_dst
      · iexact HrCI
    rw [Ring.sl2_succ_eq_pred k.val hk1]
    isplitl [HFCI_src]; · iexists _; iexact HFCI_src
    isplitl [HFCI]; · iexact HFCI
    iexists _
    isplitr
    rotate_left
    · iexact HcCI
    · ipureintro; refine (storeCI (F := F) (Ring.sl 2 k.val) (off80_eq k) (by rw [off80_eq k]; exact slotInbCI _) shapeCasts_S256x64_S1x256x64 sCI (valC_CI (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21))).trans ?_
      unfold outC_CI; rw [loadCU (Ring.sl 2 k.val) (off78_eq k), full21_eq]
  isplitl [HFCT_dst HrCT]
  · isplitl [HFCT_dst]
    · iapply (entails_of_eq (doneCT c OCT _ (Ring.sl 2 (k.val - 1)) (k.val - 1) (by omega) gCT (outC_CT c XCU V21) rfl hgCT)); iexact HFCT_dst
    · iexact HrCT
  rw [Ring.sl2_succ_eq_pred k.val hk1]
  isplitl [HFCT_src]; · iexists _; iexact HFCT_src
  isplitl [HFCT]; · iexact HFCT
  iexists _
  isplitr
  rotate_left
  · iexact HcCT
  · ipureintro; refine (storeCT (F := F) (Ring.sl 2 k.val) (off81_eq k) (by rw [off81_eq k]; exact slotInbCT _) shapeCasts_S256x64_S1x256x64 sCT (valC_CT (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21))).trans ?_
    unfold outC_CT; rw [loadCU (Ring.sl 2 k.val) (off78_eq k), full21_eq]

set_option maxHeartbeats 4000000 in
theorem runC_last (k : T3) (hk0 : ¬ k.val < 15) :
    iprop(own21 c V21 ∗ scrC27 c XCU V21 k ∗ scrC28 c XCU V21 k ∗ scrC26 c XCU XCN V21 k ∗ scrC25 c XCU XCN V21 k ∗ (∃ W, owes (c : Thread nD τ) 0 W) ∗ ringCU c XCU k ∗ ringCN c XCN k ∗ ringCI c OCI (finCI c XCU V21) (outC_CI c XCU V21) k ∗ ringCT c OCT (finCT c XCU V21) (outC_CT c XCU V21) k)
      ⊢ wp frame (wpE (defs₀ (F := F)) 𝒱₀ (c : Thread nD τ) none) Set.univ (tripC arg6 harg6 arg7 harg7 arg8 harg8 arg9 harg9 v23 v30 e37 e38 e39 e40 e41 e42 e43 k (accC k))
        (fun acc => iprop(⌜acc = outCw (k.val + 1)⌝ ∗ own21 c V21 ∗ scrC27 c XCU V21 (k + 1) ∗ scrC28 c XCU V21 (k + 1) ∗ scrC26 c XCU XCN V21 (k + 1) ∗ scrC25 c XCU XCN V21 (k + 1) ∗ (∃ W, owes (c : Thread nD τ) 0 W) ∗ ringEndCU c XCU k ∗ ringEndCN c XCN k ∗ ringCI c OCI (finCI c XCU V21) (outC_CI c XCU V21) (k + 1) ∗ ringCT c OCT (finCT c XCU V21) (outC_CT c XCU V21) (k + 1))) := by
  have hlt : k.val < 16 := k.isLt
  have hkl : k.val = 15 := by omega
  have hk : ¬ k.val < 15 := hk0
  have hk1 : 1 ≤ k.val := by omega
  have h42 := cond42_neg k hk
  have h43 := cond43_neg k hk
  have h44 := cond44_pos k
  have h45 := cond45_pos k
  have h54 := cond54_pos k
  have h55 := cond55_pos k
  have h62 := cond62_pos k hk1
  have h63 := cond63_pos k hk1
  have c17 := chk17_ok k
  have c16 := chk16_ok k
  have c15 := chk15_ok k
  have c14 := chk14_ok k
  have c13 := chk13_ok k
  unfold ringCU ringCN ringCI ringCT scrC27 scrC28 scrC26 scrC25 ringEndCU ringEndCN
  rw [endCU c XCU k hkl]
  rw [endCN c XCN k hkl]
  rw [outCI c OCI (finCI c XCU V21) k hlt, inCI c OCI (finCI c XCU V21) k hlt hk1]
  rw [outCT c OCT (finCT c XCU V21) k hlt, inCT c OCT (finCT c XCU V21) k hlt hk1]
  rw [Nat.add_sub_cancel]
  iintro ⟨H21, ⟨%f27, %hU27, H27⟩, ⟨%f28, %hU28, H28⟩, ⟨%f26, %hU26, H26⟩, ⟨%f25, %hU25, H25⟩, ⟨%W, HW⟩, ⟨HrCU, ⟨%fCU, HFCU⟩, ⟨%sCU, HsCU⟩, HcCU⟩, ⟨HrCN, ⟨%fCN, HFCN⟩, ⟨%sCN, HsCN⟩, HcCN⟩, ⟨⟨HbCI, HrCI⟩, ⟨%sCI, HsCI⟩, HcCI, ⟨%gCI, %hgCI, HFCI⟩⟩, ⟨⟨HbCT, HrCT⟩, ⟨%sCT, HsCT⟩, HcCT, ⟨%gCT, %hgCT, HFCT⟩⟩⟩
  dsimp only [tripC, accC]
  sl_unfold [k0_t3_body]
  sl_exec_parts
  sl_step
  isplitr
  · ipureintro; clear * - k; unfold outCw; refine Prod.ext ?_ (Prod.ext ?_ (Prod.ext ?_ (Prod.ext ?_ (Prod.ext ?_ (Prod.ext ?_ (Prod.ext ?_ (Prod.ext ?_ ?_))))))) <;> (revert k; decide)
  isplitl [H21]
  · iexact H21
  isplitl [H27]
  · iexists _
    isplitr
    rotate_left
    · iexact H27
    · ipureintro; exact upTo_succ (by decide) a27.view _ k.val f27 _ (off82_eq k) (valC_27 (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21)) (by unfold outC_27; rw [loadCU (Ring.sl 2 k.val) (off78_eq k), full21_eq]) hU27
  isplitl [H28]
  · iexists _
    isplitr
    rotate_left
    · iexact H28
    · ipureintro; exact upTo_succ (by decide) a28.view _ k.val f28 _ (off82_eq k) (valC_28 (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21)) (by unfold outC_28; rw [loadCU (Ring.sl 2 k.val) (off78_eq k), full21_eq]) hU28
  isplitl [H26]
  · iexists _
    isplitr
    rotate_left
    · iexact H26
    · ipureintro; exact upTo_succ (by decide) a26.view _ k.val f26 _ (off82_eq k) (valC_26 (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21) (shapeCast S256x64 (View.readAt (Elt F) (Memref.whole cc0_scoped16 : Memref sig .tc .vmem S2x256x64 .f32).view (Rect.unit (s := S2x256x64) (k0_off79 (w32 k.val)) S1x256x64.size (by rw [off79_eq k]; exact slotInbCN _)).toLoadRect ((slotCN (Ring.sl 2 k.val)).view.writes (Elt F) (slotCN (Ring.sl 2 k.val)).view.junk [⟨Rect.whole S256x64, (blkCN (Ring.bk 16 k.val)).view.read (Elt F) XCN⟩])) shapeCasts_S1x256x64_S256x64)) (by unfold outC_26; rw [loadCU (Ring.sl 2 k.val) (off78_eq k), full21_eq, loadCN (Ring.sl 2 k.val) (off79_eq k)]) hU26
  isplitl [H25]
  · iexists _
    isplitr
    rotate_left
    · iexact H25
    · ipureintro; exact upTo_succ (by decide) a25.view _ k.val f25 _ (off82_eq k) (valC_25 (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21) (shapeCast S256x64 (View.readAt (Elt F) (Memref.whole cc0_scoped16 : Memref sig .tc .vmem S2x256x64 .f32).view (Rect.unit (s := S2x256x64) (k0_off79 (w32 k.val)) S1x256x64.size (by rw [off79_eq k]; exact slotInbCN _)).toLoadRect ((slotCN (Ring.sl 2 k.val)).view.writes (Elt F) (slotCN (Ring.sl 2 k.val)).view.junk [⟨Rect.whole S256x64, (blkCN (Ring.bk 16 k.val)).view.read (Elt F) XCN⟩])) shapeCasts_S1x256x64_S256x64)) (by unfold outC_25; rw [loadCU (Ring.sl 2 k.val) (off78_eq k), full21_eq, loadCN (Ring.sl 2 k.val) (off79_eq k)]) hU25
  isplitl [HW]
  · iexists _; iexact HW
  isplitl [HrCU HFCU_src HFCU_dst HFCU HcCU HsCU]
  · isplitl [HFCU_src HrCU]
    · isplitl [HFCU_src]; · iexact HFCU_src
      iexact HrCU
    isplitl [HFCU_dst]; · iexists _; iexact HFCU_dst
    isplitl [HsCU]; · iexists _; iexact HsCU
    isplitl [HFCU]; · iexact HFCU
    iexact HcCU
  isplitl [HrCN HFCN_src HFCN_dst HFCN HcCN HsCN]
  · isplitl [HFCN_src HrCN]
    · isplitl [HFCN_src]; · iexact HFCN_src
      iexact HrCN
    isplitl [HFCN_dst]; · iexists _; iexact HFCN_dst
    isplitl [HsCN]; · iexists _; iexact HsCN
    isplitl [HFCN]; · iexact HFCN
    iexact HcCN
  isplitl [HrCI HFCI_src HFCI_dst HFCI HcCI]
  · isplitl [HFCI_dst HrCI]
    · isplitl [HFCI_dst]
      · iapply (entails_of_eq (doneCI c OCI _ (Ring.sl 2 (k.val - 1)) (k.val - 1) (by omega) gCI (outC_CI c XCU V21) rfl hgCI)); iexact HFCI_dst
      · iexact HrCI
    rw [Ring.sl2_succ_eq_pred k.val hk1]
    isplitl [HFCI_src]; · iexists _; iexact HFCI_src
    isplitl [HFCI]; · iexact HFCI
    iexists _
    isplitr
    rotate_left
    · iexact HcCI
    · ipureintro; refine (storeCI (F := F) (Ring.sl 2 k.val) (off80_eq k) (by rw [off80_eq k]; exact slotInbCI _) shapeCasts_S256x64_S1x256x64 sCI (valC_CI (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21))).trans ?_
      unfold outC_CI; rw [loadCU (Ring.sl 2 k.val) (off78_eq k), full21_eq]
  isplitl [HFCT_dst HrCT]
  · isplitl [HFCT_dst]
    · iapply (entails_of_eq (doneCT c OCT _ (Ring.sl 2 (k.val - 1)) (k.val - 1) (by omega) gCT (outC_CT c XCU V21) rfl hgCT)); iexact HFCT_dst
    · iexact HrCT
  rw [Ring.sl2_succ_eq_pred k.val hk1]
  isplitl [HFCT_src]; · iexists _; iexact HFCT_src
  isplitl [HFCT]; · iexact HFCT
  iexists _
  isplitr
  rotate_left
  · iexact HcCT
  · ipureintro; refine (storeCT (F := F) (Ring.sl 2 k.val) (off81_eq k) (by rw [off81_eq k]; exact slotInbCT _) shapeCasts_S256x64_S1x256x64 sCT (valC_CT (shapeCast S256x8192 (View.readAt (Elt F) (Memref.whole cc0_scoped14 : Memref sig .tc .vmem S2x256x8192 .f32).view (Rect.unit (s := S2x256x8192) (k0_off78 (w32 k.val)) S1x256x8192.size (by rw [off78_eq k]; exact slotInbCU _)).toLoadRect ((slotCU (Ring.sl 2 k.val)).view.writes (Elt F) (slotCU (Ring.sl 2 k.val)).view.junk [⟨Rect.whole S256x8192, (blkCU (Ring.bk 16 k.val)).view.read (Elt F) XCU⟩])) shapeCasts_S1x256x8192_S256x8192) (full21 c V21))).trans ?_
    unfold outC_CT; rw [loadCU (Ring.sl 2 k.val) (off78_eq k), full21_eq]

end Trip

end Cert.Proof.KI

end
-- ==== Proof.KI.LoopC.lean ====
/-
  Pipeline C as a whole: what holds between its trips, how it is entered and what it leaves.
-/
module

public import proofs.«01_k».proof.Proof.KI.C

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

/-- Both slots and both semaphores free. -/
def freeCU (c : Dev nD) : sProp 𝕄 :=
  iprop((∃ f, slotPCU c (Ring.sl 2 0) f) ∗ (∃ f, slotPCU c (Ring.sl 2 1) f) ∗ cellCU (F := F) c (Ring.sl 2 0) ∗ cellCU (F := F) c (Ring.sl 2 1))
theorem openCU (c : Dev nD) (X : Buf (Elt F) ((Memref.whole main_arg1 : Memref sig .tc .hbm _ _).view.loc (c : Thread nD τ))) :
    iprop(bigSep Finset.univ (homeCU c X) ∗ freeCU (F := F) c) ⊢ iprop(homeCU c X (Ring.bk 16 0) ∗ bigSep (Ring.homeSet 1 0) (homeCU c X)
      ∗ (∃ f, slotPCU c (Ring.sl 2 0) f) ∗ (∃ f, slotPCU c (Ring.sl 2 1) f) ∗ cellCU (F := F) c (Ring.sl 2 0) ∗ cellCU (F := F) c (Ring.sl 2 1)) := by
  have e : (Finset.univ : Finset (Fin 16)) = insert (Ring.bk 16 0) (Ring.homeSet (NB := 16) 1 0) := by decide
  have e' : bigSep Finset.univ (homeCU c X) = iprop(homeCU c X (Ring.bk 16 0) ∗ bigSep (Ring.homeSet 1 0) (homeCU c X)) := by
    rw [e, bigSep_insert (by decide)]; rfl
  unfold freeCU
  rw [e']
  iintro ⟨⟨H1, H2⟩, H3, H4, H5, H6⟩
  isplitl [H1]
  · iexact H1
  isplitl [H2]
  · iexact H2
  isplitl [H3]
  · iexact H3
  isplitl [H4]
  · iexact H4
  isplitl [H5]
  · iexact H5
  · iexact H6
theorem ringInCU (c : Dev nD) (X : Buf (Elt F) ((Memref.whole main_arg1 : Memref sig .tc .hbm _ _).view.loc (c : Thread nD τ))) :
    iprop(bigSep (Ring.homeSet 1 0) (homeCU c X) ∗ (∃ f, flightCU c X (Ring.sl 2 0) (Ring.bk 16 0) f)
      ∗ (∃ f, slotPCU c (Ring.sl 2 1) f) ∗ cellCU (F := F) c (Ring.sl 2 1)) ⊢ ringCU c X 0 := by
  unfold ringCU; exact .rfl
theorem ringOutCU (c : Dev nD) (X : Buf (Elt F) ((Memref.whole main_arg1 : Memref sig .tc .hbm _ _).view.loc (c : Thread nD τ))) :
    ringEndCU c X 15 ⊢ iprop(bigSep Finset.univ (homeCU c X) ∗ freeCU (F := F) c) := by
  unfold ringEndCU freeCU
  rw [show Ring.sl 2 15 = Ring.sl 2 1 from rfl, show Ring.sl 2 (15 + 1) = Ring.sl 2 0 from rfl]
  iintro ⟨H1, H2, H3, H4, H5⟩
  isplitl [H1]
  · iexact H1
  isplitl [H3]
  · iexact H3
  isplitl [H2]
  · iexact H2
  isplitl [H5]
  · iexact H5
  · iexact H4

/-- Both slots and both semaphores free. -/
def freeCN (c : Dev nD) : sProp 𝕄 :=
  iprop((∃ f, slotPCN c (Ring.sl 2 0) f) ∗ (∃ f, slotPCN c (Ring.sl 2 1) f) ∗ cellCN (F := F) c (Ring.sl 2 0) ∗ cellCN (F := F) c (Ring.sl 2 1))
theorem openCN (c : Dev nD) (X : Buf (Elt F) ((Memref.whole main_v13 : Memref sig .tc .hbm _ _).view.loc (c : Thread nD τ))) :
    iprop(bigSep Finset.univ (homeCN c X) ∗ freeCN (F := F) c) ⊢ iprop(homeCN c X (Ring.bk 16 0) ∗ bigSep (Ring.homeSet 1 0) (homeCN c X)
      ∗ (∃ f, slotPCN c (Ring.sl 2 0) f) ∗ (∃ f, slotPCN c (Ring.sl 2 1) f) ∗ cellCN (F := F) c (Ring.sl 2 0) ∗ cellCN (F := F) c (Ring.sl 2 1)) := by
  have e : (Finset.univ : Finset (Fin 16)) = insert (Ring.bk 16 0) (Ring.homeSet (NB := 16) 1 0) := by decide
  have e' : bigSep Finset.univ (homeCN c X) = iprop(homeCN c X (Ring.bk 16 0) ∗ bigSep (Ring.homeSet 1 0) (homeCN c X)) := by
    rw [e, bigSep_insert (by decide)]; rfl
  unfold freeCN
  rw [e']
  iintro ⟨⟨H1, H2⟩, H3, H4, H5, H6⟩
  isplitl [H1]
  · iexact H1
  isplitl [H2]
  · iexact H2
  isplitl [H3]
  · iexact H3
  isplitl [H4]
  · iexact H4
  isplitl [H5]
  · iexact H5
  · iexact H6
theorem ringInCN (c : Dev nD) (X : Buf (Elt F) ((Memref.whole main_v13 : Memref sig .tc .hbm _ _).view.loc (c : Thread nD τ))) :
    iprop(bigSep (Ring.homeSet 1 0) (homeCN c X) ∗ (∃ f, flightCN c X (Ring.sl 2 0) (Ring.bk 16 0) f)
      ∗ (∃ f, slotPCN c (Ring.sl 2 1) f) ∗ cellCN (F := F) c (Ring.sl 2 1)) ⊢ ringCN c X 0 := by
  unfold ringCN; exact .rfl
theorem ringOutCN (c : Dev nD) (X : Buf (Elt F) ((Memref.whole main_v13 : Memref sig .tc .hbm _ _).view.loc (c : Thread nD τ))) :
    ringEndCN c X 15 ⊢ iprop(bigSep Finset.univ (homeCN c X) ∗ freeCN (F := F) c) := by
  unfold ringEndCN freeCN
  rw [show Ring.sl 2 15 = Ring.sl 2 1 from rfl, show Ring.sl 2 (15 + 1) = Ring.sl 2 0 from rfl]
  iintro ⟨H1, H2, H3, H4, H5⟩
  isplitl [H1]
  · iexact H1
  isplitl [H3]
  · iexact H3
  isplitl [H2]
  · iexact H2
  isplitl [H5]
  · iexact H5
  · iexact H4

/-- Both slots and both semaphores free. -/
def freeCI (c : Dev nD) : sProp 𝕄 :=
  iprop((∃ f, slotPCI c (Ring.sl 2 0) f) ∗ (∃ f, slotPCI c (Ring.sl 2 1) f) ∗ cellCI (F := F) c (Ring.sl 2 0) ∗ cellCI (F := F) c (Ring.sl 2 1))
theorem ringInCI (c : Dev nD) (X Y : Buf (Elt F) ((Memref.whole main_v22_2 : Memref sig .tc .hbm _ _).view.loc (c : Thread nD τ))) :
    iprop(bigSep Finset.univ (homeCI c X) ∗ freeCI (F := F) c) ⊢ ring0CI c X Y 0 := by
  have e : bigSep (Ring.homeSetB 1 0) (partCI c X Y 0) = bigSep Finset.univ (homeCI c X) := by
    rw [Ring.homeSetB_zero]
    exact bigSep_congr fun b _ => by unfold partCI; rw [if_neg (by omega)]
  unfold freeCI ring0CI
  rw [e]
  iintro ⟨H1, H2, H3, H4, H5⟩
  isplitl [H1]
  · iexact H1
  isplitl [H2]
  · iexact H2
  isplitl [H4]
  · iexact H4
  isplitl [H3]
  · iexact H3
  · iexact H5
theorem ringOutCI (c : Dev nD) (X Y : Buf (Elt F) ((Memref.whole main_v22_2 : Memref sig .tc .hbm _ _).view.loc (c : Thread nD τ))) (Q : ℕ → S256x64.Idx → Elt F .f32) :
    ringCI c X Y Q 16 ⊢ iprop(bigSep (Ring.homeSetB 1 16) (partCI c X Y 16) ∗ (∃ f, slotPCI c (Ring.sl 2 0) f) ∗ cellCI (F := F) c (Ring.sl 2 0)
      ∗ (∃ g, ⌜(slotCI (Ring.sl 2 1)).view.read (Elt F) g = Q 15⌝ ∗ flightCI c X (Ring.sl 2 1) (Ring.bk 16 15) g)) := by
  unfold ringCI; exact .rfl
theorem closeCI (c : Dev nD) (J X Y : Buf (Elt F) ((Memref.whole main_v22_2 : Memref sig .tc .hbm _ _).view.loc (c : Thread nD τ))) (Q : ℕ → S256x64.Idx → Elt F .f32) (g : Buf (Elt F) ((slotCI (Ring.sl 2 1)).view.loc (c : Thread nD τ)))
    (hY : Y = (stack (W := 256) (R := 4096) (D := 64) (by decide) Q : S4096x64.Idx → Elt F .f32)) (hg : (slotCI (Ring.sl 2 1)).view.read (Elt F) g = Q 15) :
    iprop(homeCI c ((blkCI (Ring.bk 16 15)).view.writes (Elt F) J [⟨Rect.whole S256x64, ReadAs.same.apply ((slotCI (Ring.sl 2 1)).view.read (Elt F) g)⟩]) (Ring.bk 16 15)
      ∗ bigSep (Ring.homeSetB 1 16) (partCI c X Y 16) ∗ (∃ f, slotPCI c (Ring.sl 2 0) f) ∗ slotPCI c (Ring.sl 2 1) g ∗ cellCI (F := F) c (Ring.sl 2 0) ∗ cellCI (F := F) c (Ring.sl 2 1))
      ⊢ iprop(bigSep Finset.univ (homeCI c Y) ∗ freeCI (F := F) c) := by
  rw [doneCI c J Y (Ring.sl 2 1) 15 (by decide) g Q hY hg]
  unfold freeCI
  iintro ⟨H1, H2, H3, H4, H5, H6⟩
  isplitl [H1 H2]
  · iapply (entails_of_eq (endCI c X Y 16 rfl).symm)
    isplitl [H1]
    · iexact H1
    · iexact H2
  isplitl [H3]
  · iexact H3
  isplitl [H4]
  · iexists g; iexact H4
  isplitl [H5]
  · iexact H5
  · iexact H6

/-- Both slots and both semaphores free. -/
def freeCT (c : Dev nD) : sProp 𝕄 :=
  iprop((∃ f, slotPCT c (Ring.sl 2 0) f) ∗ (∃ f, slotPCT c (Ring.sl 2 1) f) ∗ cellCT (F := F) c (Ring.sl 2 0) ∗ cellCT (F := F) c (Ring.sl 2 1))
theorem ringInCT (c : Dev nD) (X Y : Buf (Elt F) ((Memref.whole main_v22_3 : Memref sig .tc .hbm _ _).view.loc (c : Thread nD τ))) :
    iprop(bigSep Finset.univ (homeCT c X) ∗ freeCT (F := F) c) ⊢ ring0CT c X Y 0 := by
  have e : bigSep (Ring.homeSetB 1 0) (partCT c X Y 0) = bigSep Finset.univ (homeCT c X) := by
    rw [Ring.homeSetB_zero]
    exact bigSep_congr fun b _ => by unfold partCT; rw [if_neg (by omega)]
  unfold freeCT ring0CT
  rw [e]
  iintro ⟨H1, H2, H3, H4, H5⟩
  isplitl [H1]
  · iexact H1
  isplitl [H2]
  · iexact H2
  isplitl [H4]
  · iexact H4
  isplitl [H3]
  · iexact H3
  · iexact H5
theorem ringOutCT (c : Dev nD) (X Y : Buf (Elt F) ((Memref.whole main_v22_3 : Memref sig .tc .hbm _ _).view.loc (c : Thread nD τ))) (Q : ℕ → S256x64.Idx → Elt F .f32) :
    ringCT c X Y Q 16 ⊢ iprop(bigSep (Ring.homeSetB 1 16) (partCT c X Y 16) ∗ (∃ f, slotPCT c (Ring.sl 2 0) f) ∗ cellCT (F := F) c (Ring.sl 2 0)
      ∗ (∃ g, ⌜(slotCT (Ring.sl 2 1)).view.read (Elt F) g = Q 15⌝ ∗ flightCT c X (Ring.sl 2 1) (Ring.bk 16 15) g)) := by
  unfold ringCT; exact .rfl
theorem closeCT (c : Dev nD) (J X Y : Buf (Elt F) ((Memref.whole main_v22_3 : Memref sig .tc .hbm _ _).view.loc (c : Thread nD τ))) (Q : ℕ → S256x64.Idx → Elt F .f32) (g : Buf (Elt F) ((slotCT (Ring.sl 2 1)).view.loc (c : Thread nD τ)))
    (hY : Y = (stack (W := 256) (R := 4096) (D := 64) (by decide) Q : S4096x64.Idx → Elt F .f32)) (hg : (slotCT (Ring.sl 2 1)).view.read (Elt F) g = Q 15) :
    iprop(homeCT c ((blkCT (Ring.bk 16 15)).view.writes (Elt F) J [⟨Rect.whole S256x64, ReadAs.same.apply ((slotCT (Ring.sl 2 1)).view.read (Elt F) g)⟩]) (Ring.bk 16 15)
      ∗ bigSep (Ring.homeSetB 1 16) (partCT c X Y 16) ∗ (∃ f, slotPCT c (Ring.sl 2 0) f) ∗ slotPCT c (Ring.sl 2 1) g ∗ cellCT (F := F) c (Ring.sl 2 0) ∗ cellCT (F := F) c (Ring.sl 2 1))
      ⊢ iprop(bigSep Finset.univ (homeCT c Y) ∗ freeCT (F := F) c) := by
  rw [doneCT c J Y (Ring.sl 2 1) 15 (by decide) g Q hY hg]
  unfold freeCT
  iintro ⟨H1, H2, H3, H4, H5, H6⟩
  isplitl [H1 H2]
  · iapply (entails_of_eq (endCT c X Y 16 rfl).symm)
    isplitl [H1]
    · iexact H1
    · iexact H2
  isplitl [H3]
  · iexact H3
  isplitl [H4]
  · iexists g; iexact H4
  isplitl [H5]
  · iexact H5
  · iexact H6

section Loop
variable (c : Dev nD)
  (XCU : Buf (Elt F) ((Memref.whole main_arg1 : Memref sig .tc .hbm _ _).view.loc (c : Thread nD τ)))
  (XCN : Buf (Elt F) ((Memref.whole main_v13 : Memref sig .tc .hbm _ _).view.loc (c : Thread nD τ)))
  (V21 : Buf (Elt F) (a21.view.loc (c : Thread nD τ)))
  (OCI : Buf (Elt F) ((Memref.whole main_v22_2 : Memref sig .tc .hbm _ _).view.loc (c : Thread nD τ)))
  (OCT : Buf (Elt F) ((Memref.whole main_v22_3 : Memref sig .tc .hbm _ _).view.loc (c : Thread nD τ)))

/-- The pipeline's buffers before trip `k`. -/
def ringsC (k : ℕ) : sProp 𝕄 := if k = 0 then iprop(ringCU c XCU 0 ∗ ringCN c XCN 0 ∗ ring0CI c OCI (finCI c XCU V21) 0 ∗ ring0CT c OCT (finCT c XCU V21) 0) else if k < 16 then iprop(ringCU c XCU k ∗ ringCN c XCN k ∗ ringCI c OCI (finCI c XCU V21) (outC_CI c XCU V21) k ∗ ringCT c OCT (finCT c XCU V21) (outC_CT c XCU V21) k) else iprop(ringEndCU c XCU 15 ∗ ringEndCN c XCN 15 ∗ ringCI c OCI (finCI c XCU V21) (outC_CI c XCU V21) 16 ∗ ringCT c OCT (finCT c XCU V21) (outC_CT c XCU V21) 16)
/-- What holds between the trips. -/
def invC (k : ℕ) (acc : BitVec 32 × BitVec 32 × BitVec 32 × BitVec 32 × BitVec 32 × BitVec 32 × BitVec 32 × BitVec 32 × BitVec 32) : sProp 𝕄 :=
  iprop(⌜acc = outCw k⌝ ∗ own21 c V21 ∗ scrC27 c XCU V21 k ∗ scrC28 c XCU V21 k ∗ scrC26 c XCU XCN V21 k ∗ scrC25 c XCU XCN V21 k ∗ (∃ W, owes (c : Thread nD τ) 0 W) ∗ ringsC c XCU XCN V21 OCI OCT k)
theorem wordsC : ∀ k : T3, outCw k.val = accC k.val := by
  intro k; unfold outCw accC
  refine Prod.ext ?_ (Prod.ext ?_ (Prod.ext ?_ (Prod.ext ?_ (Prod.ext ?_ (Prod.ext ?_ (Prod.ext ?_ (Prod.ext ?_ ?_))))))) <;> (revert k; decide)

section
variable
  (arg6 : Memref sig .tc .vmem S4096x64 .bf16) (harg6 : arg6.IsWhole) (arg7 : Memref sig .tc .vmem S1x64 .f32) (harg7 : arg7.IsWhole)
  (arg8 : Memref sig .tc .vmem S384x64 .bf16) (harg8 : arg8.IsWhole) (arg9 : Memref sig .tc .vmem S1x64 .f32) (harg9 : arg9.IsWhole)
  (v23 v30 e37 e38 e39 e40 e41 e42 e43 : BitVec 32)
theorem tripC_step (k : T3) :
    iprop(own21 c V21 ∗ scrC27 c XCU V21 k.val ∗ scrC28 c XCU V21 k.val ∗ scrC26 c XCU XCN V21 k.val ∗ scrC25 c XCU XCN V21 k.val ∗ (∃ W, owes (c : Thread nD τ) 0 W) ∗ ringsC c XCU XCN V21 OCI OCT k.val)
      ⊢ wp frame (wpE (defs₀ (F := F)) 𝒱₀ (c : Thread nD τ) none) Set.univ (tripC arg6 harg6 arg7 harg7 arg8 harg8 arg9 harg9 v23 v30 e37 e38 e39 e40 e41 e42 e43 k (accC k))
        (fun acc => iprop(⌜acc = outCw (k.val + 1)⌝ ∗ own21 c V21 ∗ scrC27 c XCU V21 (k.val + 1) ∗ scrC28 c XCU V21 (k.val + 1) ∗ scrC26 c XCU XCN V21 (k.val + 1) ∗ scrC25 c XCU XCN V21 (k.val + 1) ∗ (∃ W, owes (c : Thread nD τ) 0 W) ∗ ringsC c XCU XCN V21 OCI OCT (k.val + 1))) := by
  have hlt : k.val < 16 := k.isLt
  by_cases h0 : k.val = 0
  · have e0 : ringsC c XCU XCN V21 OCI OCT k.val = iprop(ringCU c XCU k.val ∗ ringCN c XCN k.val ∗ ring0CI c OCI (finCI c XCU V21) k.val ∗ ring0CT c OCT (finCT c XCU V21) k.val) := by rw [h0]; exact if_pos rfl
    have e1 : ringsC c XCU XCN V21 OCI OCT (k.val + 1) = iprop(ringCU c XCU (k.val + 1) ∗ ringCN c XCN (k.val + 1) ∗ ringCI c OCI (finCI c XCU V21) (outC_CI c XCU V21) (k.val + 1) ∗ ringCT c OCT (finCT c XCU V21) (outC_CT c XCU V21) (k.val + 1)) := (if_neg (by omega)).trans (if_pos (by omega))
    rw [e0, e1]
    exact runC_first c arg6 harg6 arg7 harg7 arg8 harg8 arg9 harg9 v23 v30 e37 e38 e39 e40 e41 e42 e43 XCU XCN V21 OCI OCT k h0
  by_cases h : k.val < 15
  · have e0 : ringsC c XCU XCN V21 OCI OCT k.val = iprop(ringCU c XCU k.val ∗ ringCN c XCN k.val ∗ ringCI c OCI (finCI c XCU V21) (outC_CI c XCU V21) k.val ∗ ringCT c OCT (finCT c XCU V21) (outC_CT c XCU V21) k.val) := (if_neg h0).trans (if_pos hlt)
    have e1 : ringsC c XCU XCN V21 OCI OCT (k.val + 1) = iprop(ringCU c XCU (k.val + 1) ∗ ringCN c XCN (k.val + 1) ∗ ringCI c OCI (finCI c XCU V21) (outC_CI c XCU V21) (k.val + 1) ∗ ringCT c OCT (finCT c XCU V21) (outC_CT c XCU V21) (k.val + 1)) := (if_neg (by omega)).trans (if_pos (by omega))
    rw [e0, e1]
    exact runC_mid c arg6 harg6 arg7 harg7 arg8 harg8 arg9 harg9 v23 v30 e37 e38 e39 e40 e41 e42 e43 XCU XCN V21 OCI OCT k ⟨by omega, h⟩
  · have e0 : ringsC c XCU XCN V21 OCI OCT k.val = iprop(ringCU c XCU k.val ∗ ringCN c XCN k.val ∗ ringCI c OCI (finCI c XCU V21) (outC_CI c XCU V21) k.val ∗ ringCT c OCT (finCT c XCU V21) (outC_CT c XCU V21) k.val) := (if_neg h0).trans (if_pos hlt)
    have hkl : k.val = 15 := by omega
    have e1 : ringsC c XCU XCN V21 OCI OCT (k.val + 1) = iprop(ringEndCU c XCU k.val ∗ ringEndCN c XCN k.val ∗ ringCI c OCI (finCI c XCU V21) (outC_CI c XCU V21) (k.val + 1) ∗ ringCT c OCT (finCT c XCU V21) (outC_CT c XCU V21) (k.val + 1)) := by rw [hkl]; exact (if_neg (by omega)).trans (if_neg (by decide))
    rw [e0, e1]
    exact runC_last c arg6 harg6 arg7 harg7 arg8 harg8 arg9 harg9 v23 v30 e37 e38 e39 e40 e41 e42 e43 XCU XCN V21 OCI OCT k h
/-- A trip keeps what holds between the trips. -/
theorem stepC (k : T3) (acc : BitVec 32 × BitVec 32 × BitVec 32 × BitVec 32 × BitVec 32 × BitVec 32 × BitVec 32 × BitVec 32 × BitVec 32) :
    invC c XCU XCN V21 OCI OCT k.val acc
      ⊢ wp frame (wpE (defs₀ (F := F)) 𝒱₀ (c : Thread nD τ) none) Set.univ (tripC arg6 harg6 arg7 harg7 arg8 harg8 arg9 harg9 v23 v30 e37 e38 e39 e40 e41 e42 e43 k acc)
        (invC c XCU XCN V21 OCI OCT (k.val + 1)) := by
  unfold invC
  iintro ⟨%e, H⟩
  subst e
  rw [wordsC k]
  iapply (tripC_step c XCU XCN V21 OCI OCT arg6 harg6 arg7 harg7 arg8 harg8 arg9 harg9 v23 v30 e37 e38 e39 e40 e41 e42 e43 k)
  iexact H
end

theorem enterC :
    iprop(own21 c V21 ∗ (∃ f, own27 (F := F) c f) ∗ (∃ f, own28 (F := F) c f) ∗ (∃ f, own26 (F := F) c f) ∗ (∃ f, own25 (F := F) c f) ∗ (∃ W, owes (c : Thread nD τ) 0 W) ∗ ringCU c XCU 0 ∗ ringCN c XCN 0 ∗ ring0CI c OCI (finCI c XCU V21) 0 ∗ ring0CT c OCT (finCT c XCU V21) 0) ⊢ invC c XCU XCN V21 OCI OCT 0 (1#32, 0#32, 1#32, 0#32, 0#32, 0#32, 0#32, 0#32, 0#32) := by
  have e0 : ringsC c XCU XCN V21 OCI OCT 0 = iprop(ringCU c XCU 0 ∗ ringCN c XCN 0 ∗ ring0CI c OCI (finCI c XCU V21) 0 ∗ ring0CT c OCT (finCT c XCU V21) 0) := if_pos rfl
  unfold invC
  rw [e0]
  iintro ⟨S0, N27, N28, N26, N25, HW, RCU, RCN, RCI, RCT⟩
  isplitr
  · ipureintro; rfl
  isplitl [S0]
  · iexact S0
  isplitl [N27]
  · unfold scrC27; icases N27 with ⟨%f, N⟩; iexists f; isplitr
    · ipureintro; exact upTo_zero (by decide) _ _ _
    · iexact N
  isplitl [N28]
  · unfold scrC28; icases N28 with ⟨%f, N⟩; iexists f; isplitr
    · ipureintro; exact upTo_zero (by decide) _ _ _
    · iexact N
  isplitl [N26]
  · unfold scrC26; icases N26 with ⟨%f, N⟩; iexists f; isplitr
    · ipureintro; exact upTo_zero (by decide) _ _ _
    · iexact N
  isplitl [N25]
  · unfold scrC25; icases N25 with ⟨%f, N⟩; iexists f; isplitr
    · ipureintro; exact upTo_zero (by decide) _ _ _
    · iexact N
  isplitl [HW]
  · iexact HW
  isplitl [RCU]
  · iexact RCU
  isplitl [RCN]
  · iexact RCN
  isplitl [RCI]
  · iexact RCI
  · iexact RCT

theorem exitC (n : ℕ) (hn : n = 16) (acc : BitVec 32 × BitVec 32 × BitVec 32 × BitVec 32 × BitVec 32 × BitVec 32 × BitVec 32 × BitVec 32 × BitVec 32) :
    invC c XCU XCN V21 OCI OCT n acc ⊢ iprop(⌜acc = (16#32, 16#32, 16#32, 16#32, 16#32, 15#32, 16#32, 15#32, 0#32)⌝ ∗ own21 c V21 ∗ own27 c (stack (W := 256) (R := 4096) (D := 64) (by decide) (outC_27 c XCU V21) : S4096x64.Idx → Elt F .f32) ∗ own28 c (stack (W := 256) (R := 4096) (D := 64) (by decide) (outC_28 c XCU V21) : S4096x64.Idx → Elt F .f32) ∗ own26 c (stack (W := 256) (R := 4096) (D := 64) (by decide) (outC_26 c XCU XCN V21) : S4096x64.Idx → Elt F .f32) ∗ own25 c (stack (W := 256) (R := 4096) (D := 64) (by decide) (outC_25 c XCU XCN V21) : S4096x64.Idx → Elt F .bf16) ∗ (∃ W, owes (c : Thread nD τ) 0 W) ∗ (bigSep Finset.univ (homeCU c XCU) ∗ freeCU (F := F) c) ∗ (bigSep Finset.univ (homeCN c XCN) ∗ freeCN (F := F) c) ∗ ringCI c OCI (finCI c XCU V21) (outC_CI c XCU V21) 16 ∗ ringCT c OCT (finCT c XCU V21) (outC_CT c XCU V21) 16) := by
  subst hn
  have e0 : ringsC c XCU XCN V21 OCI OCT 16 = iprop(ringEndCU c XCU 15 ∗ ringEndCN c XCN 15 ∗ ringCI c OCI (finCI c XCU V21) (outC_CI c XCU V21) 16 ∗ ringCT c OCT (finCT c XCU V21) (outC_CT c XCU V21) 16) := (if_neg (by decide)).trans (if_neg (by decide))
  have ew : outCw 16 = (16#32, 16#32, 16#32, 16#32, 16#32, 15#32, 16#32, 15#32, 0#32) := rfl
  unfold invC
  rw [e0, ew]
  iintro ⟨%e, S0, N27, N28, N26, N25, HW, RCU, RCN, RCI, RCT⟩
  isplitr
  · ipureintro; exact e
  isplitl [S0]
  · iexact S0
  isplitl [N27]
  · iapply (scrC27_end c XCU V21 16 rfl); iexact N27
  isplitl [N28]
  · iapply (scrC28_end c XCU V21 16 rfl); iexact N28
  isplitl [N26]
  · iapply (scrC26_end c XCU XCN V21 16 rfl); iexact N26
  isplitl [N25]
  · iapply (scrC25_end c XCU XCN V21 16 rfl); iexact N25
  isplitl [HW]
  · iexact HW
  isplitl [RCU]
  · iapply (ringOutCU c XCU); iexact RCU
  isplitl [RCN]
  · iapply (ringOutCN c XCN); iexact RCN
  isplitl [RCI]
  · iexact RCI
  · iexact RCT
end Loop

end Cert.Proof.KI

end
-- ==== Proof.KI.D.lean ====
/-
  The fourth pipeline of the kernel: the user graph applied to the items' first layer, and the user results.
-/
module

public import proofs.«01_k».proof.Proof.KI.Base

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

theorem slotInbDU (s : Fin 2) : ∀ a, slotOff s a + S1x512x4096.size a ≤ S2x512x4096.size a := by
  have := s.isLt; intro a; fin_cases a
  · show s.val + 1 ≤ 2; omega
  · show 0 + 512 ≤ 512; omega
  · show 0 + 4096 ≤ 4096; omega
/-- Slot `s` of the buffer. -/
def slotDU (s : Fin 2) : Memref sig .tc .vmem S512x4096 .f32 :=
  ((Memref.whole cc0_scoped22).slice (Rect.unit (s := S2x512x4096) (slotOff s) S1x512x4096.size (slotInbDU s)) (fun _ => rfl)).squeeze S512x4096 squeezes_S1x512x4096_S512x4096
theorem slotDU_congr {off : Fin 3 → Nat} {s : Fin 2} (e : off = slotOff s) (hh hs) :
    ((Memref.whole cc0_scoped22).slice (Rect.unit (s := S2x512x4096) off S1x512x4096.size hh) hs).squeeze S512x4096 squeezes_S1x512x4096_S512x4096 = slotDU s :=
  congrArg (fun M : Memref sig .tc .vmem S1x512x4096 .f32 => M.squeeze S512x4096 squeezes_S1x512x4096_S512x4096) (Memref.slice_unit_congr _ e _ _ _ _)
abbrev blkOffDU (b : Fin 16) : Fin 2 → Nat := ![512 * b.val, 0]
instance (b : Fin 16) : ClosedOff (blkOffDU b) := ⟨blkOffDU b, rfl⟩
theorem blkInbDU (b : Fin 16) : ∀ a, blkOffDU b a + S512x4096.size a ≤ S8192x4096.size a := by
  have := b.isLt; intro a; fin_cases a
  · show 512 * b.val + 512 ≤ 8192; omega
  · show 0 + 4096 ≤ 4096; omega
/-- Block `b` of the array: its rows from `512 * b`. -/
def blkDU (b : Fin 16) : Memref sig .tc .hbm S512x4096 .f32 :=
  (Memref.whole main_arg0).slice (Rect.unit (s := S8192x4096) (blkOffDU b) S512x4096.size (blkInbDU b)) (fun _ => rfl)
theorem blkDU_congr {off : Fin 2 → Nat} {b : Fin 16} (e : off = blkOffDU b) (hh hs) :
    (Memref.whole main_arg0).slice (Rect.unit (s := S8192x4096) off S512x4096.size hh) hs = blkDU b := Memref.slice_unit_congr _ e _ _ hs (fun _ => rfl)
abbrev semDU (s : Fin 2) : DmaSems sig S_ := semAt cc0_scoped23 s
/-- A load of the slot through the whole buffer reads what was delivered into the slot. -/
theorem loadDU {off : Fin 3 → Nat} (s : Fin 2) (e : off = slotOff s) (hh) (hs : S1x512x4096.ShapeCasts S512x4096) (f : (slotDU s).view.ty.Contents (Elt F)) (w : S512x4096.Idx → Elt F .f32) :
    shapeCast S512x4096 (View.readAt (Elt F) (Memref.whole cc0_scoped22 : Memref sig .tc .vmem S2x512x4096 .f32).view (Rect.unit (s := S2x512x4096) off S1x512x4096.size hh).toLoadRect
      ((slotDU s).view.writes (Elt F) f [⟨Rect.whole S512x4096, w⟩])) hs = w := by
  have h : ∀ g : (slotDU s).view.ty.Contents (Elt F), shapeCast S512x4096 (View.readAt (Elt F) (Memref.whole cc0_scoped22 : Memref sig .tc .vmem S2x512x4096 .f32).view (Rect.unit (s := S2x512x4096) off S1x512x4096.size hh).toLoadRect g) hs = (slotDU s).view.read (Elt F) g := by
    subst e; exact fun g => rfl
  exact (h _).trans (View.read_writes_whole (slotDU s).view f w)

theorem slotInbDN (s : Fin 2) : ∀ a, slotOff s a + S1x512x64.size a ≤ S2x512x64.size a := by
  have := s.isLt; intro a; fin_cases a
  · show s.val + 1 ≤ 2; omega
  · show 0 + 512 ≤ 512; omega
  · show 0 + 64 ≤ 64; omega
/-- Slot `s` of the buffer. -/
def slotDN (s : Fin 2) : Memref sig .tc .vmem S512x64 .f32 :=
  ((Memref.whole cc0_scoped24).slice (Rect.unit (s := S2x512x64) (slotOff s) S1x512x64.size (slotInbDN s)) (fun _ => rfl)).squeeze S512x64 squeezes_S1x512x64_S512x64
theorem slotDN_congr {off : Fin 3 → Nat} {s : Fin 2} (e : off = slotOff s) (hh hs) :
    ((Memref.whole cc0_scoped24).slice (Rect.unit (s := S2x512x64) off S1x512x64.size hh) hs).squeeze S512x64 squeezes_S1x512x64_S512x64 = slotDN s :=
  congrArg (fun M : Memref sig .tc .vmem S1x512x64 .f32 => M.squeeze S512x64 squeezes_S1x512x64_S512x64) (Memref.slice_unit_congr _ e _ _ _ _)
abbrev blkOffDN (b : Fin 16) : Fin 2 → Nat := ![512 * b.val, 0]
instance (b : Fin 16) : ClosedOff (blkOffDN b) := ⟨blkOffDN b, rfl⟩
theorem blkInbDN (b : Fin 16) : ∀ a, blkOffDN b a + S512x64.size a ≤ S8192x64.size a := by
  have := b.isLt; intro a; fin_cases a
  · show 512 * b.val + 512 ≤ 8192; omega
  · show 0 + 64 ≤ 64; omega
/-- Block `b` of the array: its rows from `512 * b`. -/
def blkDN (b : Fin 16) : Memref sig .tc .hbm S512x64 .f32 :=
  (Memref.whole main_arg4).slice (Rect.unit (s := S8192x64) (blkOffDN b) S512x64.size (blkInbDN b)) (fun _ => rfl)
theorem blkDN_congr {off : Fin 2 → Nat} {b : Fin 16} (e : off = blkOffDN b) (hh hs) :
    (Memref.whole main_arg4).slice (Rect.unit (s := S8192x64) off S512x64.size hh) hs = blkDN b := Memref.slice_unit_congr _ e _ _ hs (fun _ => rfl)
abbrev semDN (s : Fin 2) : DmaSems sig S_ := semAt cc0_scoped25 s
/-- A load of the slot through the whole buffer reads what was delivered into the slot. -/
theorem loadDN {off : Fin 3 → Nat} (s : Fin 2) (e : off = slotOff s) (hh) (hs : S1x512x64.ShapeCasts S512x64) (f : (slotDN s).view.ty.Contents (Elt F)) (w : S512x64.Idx → Elt F .f32) :
    shapeCast S512x64 (View.readAt (Elt F) (Memref.whole cc0_scoped24 : Memref sig .tc .vmem S2x512x64 .f32).view (Rect.unit (s := S2x512x64) off S1x512x64.size hh).toLoadRect
      ((slotDN s).view.writes (Elt F) f [⟨Rect.whole S512x64, w⟩])) hs = w := by
  have h : ∀ g : (slotDN s).view.ty.Contents (Elt F), shapeCast S512x64 (View.readAt (Elt F) (Memref.whole cc0_scoped24 : Memref sig .tc .vmem S2x512x64 .f32).view (Rect.unit (s := S2x512x64) off S1x512x64.size hh).toLoadRect g) hs = (slotDN s).view.read (Elt F) g := by
    subst e; exact fun g => rfl
  exact (h _).trans (View.read_writes_whole (slotDN s).view f w)

theorem slotInbDI (s : Fin 2) : ∀ a, slotOff s a + S1x512x64.size a ≤ S2x512x64.size a := by
  have := s.isLt; intro a; fin_cases a
  · show s.val + 1 ≤ 2; omega
  · show 0 + 512 ≤ 512; omega
  · show 0 + 64 ≤ 64; omega
/-- Slot `s` of the buffer. -/
def slotDI (s : Fin 2) : Memref sig .tc .vmem S512x64 .f32 :=
  ((Memref.whole cc0_scoped26).slice (Rect.unit (s := S2x512x64) (slotOff s) S1x512x64.size (slotInbDI s)) (fun _ => rfl)).squeeze S512x64 squeezes_S1x512x64_S512x64
theorem slotDI_congr {off : Fin 3 → Nat} {s : Fin 2} (e : off = slotOff s) (hh hs) :
    ((Memref.whole cc0_scoped26).slice (Rect.unit (s := S2x512x64) off S1x512x64.size hh) hs).squeeze S512x64 squeezes_S1x512x64_S512x64 = slotDI s :=
  congrArg (fun M : Memref sig .tc .vmem S1x512x64 .f32 => M.squeeze S512x64 squeezes_S1x512x64_S512x64) (Memref.slice_unit_congr _ e _ _ _ _)
abbrev blkOffDI (b : Fin 16) : Fin 2 → Nat := ![512 * b.val, 0]
instance (b : Fin 16) : ClosedOff (blkOffDI b) := ⟨blkOffDI b, rfl⟩
theorem blkInbDI (b : Fin 16) : ∀ a, blkOffDI b a + S512x64.size a ≤ S8192x64.size a := by
  have := b.isLt; intro a; fin_cases a
  · show 512 * b.val + 512 ≤ 8192; omega
  · show 0 + 64 ≤ 64; omega
/-- Block `b` of the array: its rows from `512 * b`. -/
def blkDI (b : Fin 16) : Memref sig .tc .hbm S512x64 .f32 :=
  (Memref.whole main_v22_0).slice (Rect.unit (s := S8192x64) (blkOffDI b) S512x64.size (blkInbDI b)) (fun _ => rfl)
theorem blkDI_congr {off : Fin 2 → Nat} {b : Fin 16} (e : off = blkOffDI b) (hh hs) :
    (Memref.whole main_v22_0).slice (Rect.unit (s := S8192x64) off S512x64.size hh) hs = blkDI b := Memref.slice_unit_congr _ e _ _ hs (fun _ => rfl)
abbrev semDI (s : Fin 2) : DmaSems sig S_ := semAt cc0_scoped27 s
/-- A store of the slot through the whole buffer is read back through the slot. -/
theorem storeDI {off : Fin 3 → Nat} (s : Fin 2) (e : off = slotOff s) (hh) (hs : S512x64.ShapeCasts S1x512x64) (f : (slotDI s).view.ty.Contents (Elt F)) (w : S512x64.Idx → Elt F .f32) :
    (slotDI s).view.read (Elt F) ((Memref.whole cc0_scoped26 : Memref sig .tc .vmem S2x512x64 .f32).view.writes (Elt F) f [⟨Rect.unit (s := S2x512x64) off S1x512x64.size hh, shapeCast S1x512x64 w hs⟩]) = w := by
  subst e; funext j
  refine (View.read_writes_cons_emb _ _ (Rect.unit (s := S2x512x64) (slotOff s) S1x512x64.size hh) _ [] (Shape.reshapeEquiv (show S512x64.numel = S1x512x64.numel by decide) j)).trans ?_
  show w (Shape.reshapeEquiv _ (Shape.reshapeEquiv _ j)) = w j
  congr 1
  exact reshape_back _ _ j

theorem slotInbDT (s : Fin 2) : ∀ a, slotOff s a + S1x512x64.size a ≤ S2x512x64.size a := by
  have := s.isLt; intro a; fin_cases a
  · show s.val + 1 ≤ 2; omega
  · show 0 + 512 ≤ 512; omega
  · show 0 + 64 ≤ 64; omega
/-- Slot `s` of the buffer. -/
def slotDT (s : Fin 2) : Memref sig .tc .vmem S512x64 .f32 :=
  ((Memref.whole cc0_scoped28).slice (Rect.unit (s := S2x512x64) (slotOff s) S1x512x64.size (slotInbDT s)) (fun _ => rfl)).squeeze S512x64 squeezes_S1x512x64_S512x64
theorem slotDT_congr {off : Fin 3 → Nat} {s : Fin 2} (e : off = slotOff s) (hh hs) :
    ((Memref.whole cc0_scoped28).slice (Rect.unit (s := S2x512x64) off S1x512x64.size hh) hs).squeeze S512x64 squeezes_S1x512x64_S512x64 = slotDT s :=
  congrArg (fun M : Memref sig .tc .vmem S1x512x64 .f32 => M.squeeze S512x64 squeezes_S1x512x64_S512x64) (Memref.slice_unit_congr _ e _ _ _ _)
abbrev blkOffDT (b : Fin 16) : Fin 2 → Nat := ![512 * b.val, 0]
instance (b : Fin 16) : ClosedOff (blkOffDT b) := ⟨blkOffDT b, rfl⟩
theorem blkInbDT (b : Fin 16) : ∀ a, blkOffDT b a + S512x64.size a ≤ S8192x64.size a := by
  have := b.isLt; intro a; fin_cases a
  · show 512 * b.val + 512 ≤ 8192; omega
  · show 0 + 64 ≤ 64; omega
/-- Block `b` of the array: its rows from `512 * b`. -/
def blkDT (b : Fin 16) : Memref sig .tc .hbm S512x64 .f32 :=
  (Memref.whole main_v22_6).slice (Rect.unit (s := S8192x64) (blkOffDT b) S512x64.size (blkInbDT b)) (fun _ => rfl)
theorem blkDT_congr {off : Fin 2 → Nat} {b : Fin 16} (e : off = blkOffDT b) (hh hs) :
    (Memref.whole main_v22_6).slice (Rect.unit (s := S8192x64) off S512x64.size hh) hs = blkDT b := Memref.slice_unit_congr _ e _ _ hs (fun _ => rfl)
abbrev semDT (s : Fin 2) : DmaSems sig S_ := semAt cc0_scoped29 s
/-- A store of the slot through the whole buffer is read back through the slot. -/
theorem storeDT {off : Fin 3 → Nat} (s : Fin 2) (e : off = slotOff s) (hh) (hs : S512x64.ShapeCasts S1x512x64) (f : (slotDT s).view.ty.Contents (Elt F)) (w : S512x64.Idx → Elt F .f32) :
    (slotDT s).view.read (Elt F) ((Memref.whole cc0_scoped28 : Memref sig .tc .vmem S2x512x64 .f32).view.writes (Elt F) f [⟨Rect.unit (s := S2x512x64) off S1x512x64.size hh, shapeCast S1x512x64 w hs⟩]) = w := by
  subst e; funext j
  refine (View.read_writes_cons_emb _ _ (Rect.unit (s := S2x512x64) (slotOff s) S1x512x64.size hh) _ [] (Shape.reshapeEquiv (show S512x64.numel = S1x512x64.numel by decide) j)).trans ?_
  show w (Shape.reshapeEquiv _ (Shape.reshapeEquiv _ j)) = w j
  congr 1
  exact reshape_back _ _ j

theorem t4_trips : k0_t4_loop.trips = 16 := by decide
abbrev T4 := Fin k0_t4_loop.trips

theorem off104_eq : ∀ k : T4, k0_off104 (w32 (k.val + 1)) = semOff (Ring.sl 2 (k.val + 1)) := by decide
theorem off105_eq : ∀ k : T4, k0_off105 (w32 (k.val + 1)) = slotOff (Ring.sl 2 (k.val + 1)) := by decide
theorem off106_eq : ∀ k : T4, k.val < 15 → k0_off106 (w32 k.val) = blkOffDU (Ring.bk 16 (k.val + 1)) := by decide
@[sl_canon] theorem semIDU (k : T4) (hh) :
    (cc0_scoped23.slice (Rect.unit (s := S2) (k0_off104 (w32 (k.val + 1))) S1.size hh)).squeeze S_ squeezes_S1_S_ = semDU (Ring.sl 2 (k.val + 1)) := semAt_congr _ (off104_eq k) _
@[sl_canon] theorem slotIDU (k : T4) (hh hs) :
    ((Memref.whole cc0_scoped22).slice (Rect.unit (s := S2x512x4096) (k0_off105 (w32 (k.val + 1))) S1x512x4096.size hh) hs).squeeze S512x4096 squeezes_S1x512x4096_S512x4096 = slotDU (Ring.sl 2 (k.val + 1)) := slotDU_congr (off105_eq k) _ _
@[sl_canon] theorem blkIDU (k : T4) (hk : k.val < 15) (hh hs) :
    (Memref.whole main_arg0).slice (Rect.unit (s := S8192x4096) (k0_off106 (w32 k.val)) S512x4096.size hh) hs = blkDU (Ring.bk 16 (k.val + 1)) := blkDU_congr (off106_eq k hk) _ _
theorem cond68_pos : ∀ k : T4, k.val < 15 → k0_cond68 k (w32 k.val) = 1#1 := by decide
theorem cond68_neg : ∀ k : T4, ¬ k.val < 15 → ¬ k0_cond68 k (w32 k.val) = 1#1 := by decide

theorem off107_eq : ∀ k : T4, k0_off107 (w32 (k.val + 1)) = semOff (Ring.sl 2 (k.val + 1)) := by decide
theorem off108_eq : ∀ k : T4, k0_off108 (w32 (k.val + 1)) = slotOff (Ring.sl 2 (k.val + 1)) := by decide
theorem off109_eq : ∀ k : T4, k.val < 15 → k0_off109 (w32 k.val) = blkOffDN (Ring.bk 16 (k.val + 1)) := by decide
@[sl_canon] theorem semIDN (k : T4) (hh) :
    (cc0_scoped25.slice (Rect.unit (s := S2) (k0_off107 (w32 (k.val + 1))) S1.size hh)).squeeze S_ squeezes_S1_S_ = semDN (Ring.sl 2 (k.val + 1)) := semAt_congr _ (off107_eq k) _
@[sl_canon] theorem slotIDN (k : T4) (hh hs) :
    ((Memref.whole cc0_scoped24).slice (Rect.unit (s := S2x512x64) (k0_off108 (w32 (k.val + 1))) S1x512x64.size hh) hs).squeeze S512x64 squeezes_S1x512x64_S512x64 = slotDN (Ring.sl 2 (k.val + 1)) := slotDN_congr (off108_eq k) _ _
@[sl_canon] theorem blkIDN (k : T4) (hk : k.val < 15) (hh hs) :
    (Memref.whole main_arg4).slice (Rect.unit (s := S8192x64) (k0_off109 (w32 k.val)) S512x64.size hh) hs = blkDN (Ring.bk 16 (k.val + 1)) := blkDN_congr (off109_eq k hk) _ _
theorem cond69_pos : ∀ k : T4, k.val < 15 → k0_cond69 k (w32 k.val) = 1#1 := by decide
theorem cond69_neg : ∀ k : T4, ¬ k.val < 15 → ¬ k0_cond69 k (w32 k.val) = 1#1 := by decide

theorem off110_eq : ∀ k : T4, k0_off110 (w32 k.val) = semOff (Ring.sl 2 k.val) := by decide
theorem off111_eq : ∀ k : T4, k0_off111 (w32 k.val) = slotOff (Ring.sl 2 k.val) := by decide
theorem off112_eq : ∀ k : T4, k0_off112 (w32 k.val) = blkOffDU (Ring.bk 16 k.val) := by decide
@[sl_canon] theorem semWDU (k : T4) (hh) :
    (cc0_scoped23.slice (Rect.unit (s := S2) (k0_off110 (w32 k.val)) S1.size hh)).squeeze S_ squeezes_S1_S_ = semDU (Ring.sl 2 k.val) := semAt_congr _ (off110_eq k) _
@[sl_canon] theorem slotWDU (k : T4) (hh hs) :
    ((Memref.whole cc0_scoped22).slice (Rect.unit (s := S2x512x4096) (k0_off111 (w32 k.val)) S1x512x4096.size hh) hs).squeeze S512x4096 squeezes_S1x512x4096_S512x4096 = slotDU (Ring.sl 2 k.val) := slotDU_congr (off111_eq k) _ _
@[sl_canon] theorem blkWDU (k : T4) (hh hs) :
    (Memref.whole main_arg0).slice (Rect.unit (s := S8192x4096) (k0_off112 (w32 k.val)) S512x4096.size hh) hs = blkDU (Ring.bk 16 k.val) := blkDU_congr (off112_eq k) _ _
theorem cond73_pos : ∀ k : T4, k0_cond73 k (w32 k.val) = 1#1 := by decide

theorem off113_eq : ∀ k : T4, k0_off113 (w32 k.val) = semOff (Ring.sl 2 k.val) := by decide
theorem off114_eq : ∀ k : T4, k0_off114 (w32 k.val) = slotOff (Ring.sl 2 k.val) := by decide
theorem off115_eq : ∀ k : T4, k0_off115 (w32 k.val) = blkOffDN (Ring.bk 16 k.val) := by decide
@[sl_canon] theorem semWDN (k : T4) (hh) :
    (cc0_scoped25.slice (Rect.unit (s := S2) (k0_off113 (w32 k.val)) S1.size hh)).squeeze S_ squeezes_S1_S_ = semDN (Ring.sl 2 k.val) := semAt_congr _ (off113_eq k) _
@[sl_canon] theorem slotWDN (k : T4) (hh hs) :
    ((Memref.whole cc0_scoped24).slice (Rect.unit (s := S2x512x64) (k0_off114 (w32 k.val)) S1x512x64.size hh) hs).squeeze S512x64 squeezes_S1x512x64_S512x64 = slotDN (Ring.sl 2 k.val) := slotDN_congr (off114_eq k) _ _
@[sl_canon] theorem blkWDN (k : T4) (hh hs) :
    (Memref.whole main_arg4).slice (Rect.unit (s := S8192x64) (k0_off115 (w32 k.val)) S512x64.size hh) hs = blkDN (Ring.bk 16 k.val) := blkDN_congr (off115_eq k) _ _
theorem cond74_pos : ∀ k : T4, k0_cond74 k (w32 k.val) = 1#1 := by decide

theorem off122_eq : ∀ k : T4, k0_off122 (w32 k.val) = semOff (Ring.sl 2 k.val) := by decide
theorem off124_eq : ∀ k : T4, k0_off124 (w32 k.val) = slotOff (Ring.sl 2 k.val) := by decide
theorem off123_eq : ∀ k : T4, k0_off123 (w32 k.val) = blkOffDI (Ring.bk 16 k.val) := by decide
@[sl_canon] theorem semIDI (k : T4) (hh) :
    (cc0_scoped27.slice (Rect.unit (s := S2) (k0_off122 (w32 k.val)) S1.size hh)).squeeze S_ squeezes_S1_S_ = semDI (Ring.sl 2 k.val) := semAt_congr _ (off122_eq k) _
@[sl_canon] theorem slotIDI (k : T4) (hh hs) :
    ((Memref.whole cc0_scoped26).slice (Rect.unit (s := S2x512x64) (k0_off124 (w32 k.val)) S1x512x64.size hh) hs).squeeze S512x64 squeezes_S1x512x64_S512x64 = slotDI (Ring.sl 2 k.val) := slotDI_congr (off124_eq k) _ _
@[sl_canon] theorem blkIDI (k : T4) (hh hs) :
    (Memref.whole main_v22_0).slice (Rect.unit (s := S8192x64) (k0_off123 (w32 k.val)) S512x64.size hh) hs = blkDI (Ring.bk 16 k.val) := blkDI_congr (off123_eq k) _ _
theorem cond86_pos : ∀ k : T4, k0_cond86 k (w32 k.val) = 1#1 := by decide

theorem off125_eq : ∀ k : T4, k0_off125 (w32 k.val) = semOff (Ring.sl 2 k.val) := by decide
theorem off127_eq : ∀ k : T4, k0_off127 (w32 k.val) = slotOff (Ring.sl 2 k.val) := by decide
theorem off126_eq : ∀ k : T4, k0_off126 (w32 k.val) = blkOffDT (Ring.bk 16 k.val) := by decide
@[sl_canon] theorem semIDT (k : T4) (hh) :
    (cc0_scoped29.slice (Rect.unit (s := S2) (k0_off125 (w32 k.val)) S1.size hh)).squeeze S_ squeezes_S1_S_ = semDT (Ring.sl 2 k.val) := semAt_congr _ (off125_eq k) _
@[sl_canon] theorem slotIDT (k : T4) (hh hs) :
    ((Memref.whole cc0_scoped28).slice (Rect.unit (s := S2x512x64) (k0_off127 (w32 k.val)) S1x512x64.size hh) hs).squeeze S512x64 squeezes_S1x512x64_S512x64 = slotDT (Ring.sl 2 k.val) := slotDT_congr (off127_eq k) _ _
@[sl_canon] theorem blkIDT (k : T4) (hh hs) :
    (Memref.whole main_v22_6).slice (Rect.unit (s := S8192x64) (k0_off126 (w32 k.val)) S512x64.size hh) hs = blkDT (Ring.bk 16 k.val) := blkDT_congr (off126_eq k) _ _
theorem cond87_pos : ∀ k : T4, k0_cond87 k (w32 k.val) = 1#1 := by decide

theorem off128_eq : ∀ k : T4, k0_off128 (w32 (k.val - 1)) = semOff (Ring.sl 2 (k.val - 1)) := by decide
theorem off130_eq : ∀ k : T4, k0_off130 (w32 (k.val - 1)) = slotOff (Ring.sl 2 (k.val - 1)) := by decide
theorem off129_eq : ∀ k : T4, 1 ≤ k.val → k0_off129 (w32 k.val) = blkOffDI (Ring.bk 16 (k.val - 1)) := by decide
@[sl_canon] theorem semWDI (k : T4) (hh) :
    (cc0_scoped27.slice (Rect.unit (s := S2) (k0_off128 (w32 (k.val - 1))) S1.size hh)).squeeze S_ squeezes_S1_S_ = semDI (Ring.sl 2 (k.val - 1)) := semAt_congr _ (off128_eq k) _
@[sl_canon] theorem slotWDI (k : T4) (hh hs) :
    ((Memref.whole cc0_scoped26).slice (Rect.unit (s := S2x512x64) (k0_off130 (w32 (k.val - 1))) S1x512x64.size hh) hs).squeeze S512x64 squeezes_S1x512x64_S512x64 = slotDI (Ring.sl 2 (k.val - 1)) := slotDI_congr (off130_eq k) _ _
@[sl_canon] theorem blkWDI (k : T4) (hk : 1 ≤ k.val) (hh hs) :
    (Memref.whole main_v22_0).slice (Rect.unit (s := S8192x64) (k0_off129 (w32 k.val)) S512x64.size hh) hs = blkDI (Ring.bk 16 (k.val - 1)) := blkDI_congr (off129_eq k hk) _ _
theorem cond94_pos : ∀ k : T4, 1 ≤ k.val → k0_cond94 k (w32 k.val) = 1#1 := by decide
theorem cond94_neg : ∀ k : T4, ¬ 1 ≤ k.val → ¬ k0_cond94 k (w32 k.val) = 1#1 := by decide

theorem off131_eq : ∀ k : T4, k0_off131 (w32 (k.val - 1)) = semOff (Ring.sl 2 (k.val - 1)) := by decide
theorem off133_eq : ∀ k : T4, k0_off133 (w32 (k.val - 1)) = slotOff (Ring.sl 2 (k.val - 1)) := by decide
theorem off132_eq : ∀ k : T4, 1 ≤ k.val → k0_off132 (w32 k.val) = blkOffDT (Ring.bk 16 (k.val - 1)) := by decide
@[sl_canon] theorem semWDT (k : T4) (hh) :
    (cc0_scoped29.slice (Rect.unit (s := S2) (k0_off131 (w32 (k.val - 1))) S1.size hh)).squeeze S_ squeezes_S1_S_ = semDT (Ring.sl 2 (k.val - 1)) := semAt_congr _ (off131_eq k) _
@[sl_canon] theorem slotWDT (k : T4) (hh hs) :
    ((Memref.whole cc0_scoped28).slice (Rect.unit (s := S2x512x64) (k0_off133 (w32 (k.val - 1))) S1x512x64.size hh) hs).squeeze S512x64 squeezes_S1x512x64_S512x64 = slotDT (Ring.sl 2 (k.val - 1)) := slotDT_congr (off133_eq k) _ _
@[sl_canon] theorem blkWDT (k : T4) (hk : 1 ≤ k.val) (hh hs) :
    (Memref.whole main_v22_6).slice (Rect.unit (s := S8192x64) (k0_off132 (w32 k.val)) S512x64.size hh) hs = blkDT (Ring.bk 16 (k.val - 1)) := blkDT_congr (off132_eq k hk) _ _
theorem cond95_pos : ∀ k : T4, 1 ≤ k.val → k0_cond95 k (w32 k.val) = 1#1 := by decide
theorem cond95_neg : ∀ k : T4, ¬ 1 ≤ k.val → ¬ k0_cond95 k (w32 k.val) = 1#1 := by decide
theorem off116_eq : ∀ k : T4, k0_off116 (w32 k.val) = slotOff (Ring.sl 2 k.val) := by decide
instance (k : T4) : ClosedOff (k0_off116 (w32 k.val)) := ⟨slotOff (Ring.sl 2 k.val), off116_eq k⟩
theorem off117_eq : ∀ k : T4, k0_off117 (w32 k.val) = ![512 * k.val, 0] := by decide
instance (k : T4) : ClosedOff (k0_off117 (w32 k.val)) := ⟨![512 * k.val, 0], off117_eq k⟩
theorem off118_eq : ∀ k : T4, k0_off118 (w32 k.val) = slotOff (Ring.sl 2 k.val) := by decide
instance (k : T4) : ClosedOff (k0_off118 (w32 k.val)) := ⟨slotOff (Ring.sl 2 k.val), off118_eq k⟩
theorem off119_eq : ∀ k : T4, k0_off119 (w32 k.val) = slotOff (Ring.sl 2 k.val) := by decide
instance (k : T4) : ClosedOff (k0_off119 (w32 k.val)) := ⟨slotOff (Ring.sl 2 k.val), off119_eq k⟩
theorem off120_eq : ∀ k : T4, k0_off120 (w32 k.val) = slotOff (Ring.sl 2 k.val) := by decide
instance (k : T4) : ClosedOff (k0_off120 (w32 k.val)) := ⟨slotOff (Ring.sl 2 k.val), off120_eq k⟩
theorem off121_eq : ∀ k : T4, k0_off121 (w32 k.val) = ![512 * k.val, 0] := by decide
instance (k : T4) : ClosedOff (k0_off121 (w32 k.val)) := ⟨![512 * k.val, 0], off121_eq k⟩
theorem chk25_ok : ∀ k : T4, k0_chk25 (w32 k.val) := by decide
theorem chk24_ok : ∀ k : T4, k0_chk24 (w32 k.val) := by decide
theorem chk23_ok : ∀ k : T4, k0_chk23 (w32 k.val) := by decide
theorem chk22_ok : ∀ k : T4, k0_chk22 (w32 k.val) := by decide
theorem chk21_ok : ∀ k : T4, k0_chk21 k (w32 (k.val + 1)) (w32 k.val) (w32 (k.val + 1)) (w32 k.val) (w32 k.val) (w32 (k.val - 1)) (w32 k.val) (w32 (k.val - 1)) (w32 k.val) := by decide

/-- The block stored in `main_v22_0`, from the blocks loaded. -/
def valD_DI (v187_r3 : FVec F S512x4096 .f32) (v189_r3 : Vec F S4096x64 .bf16) (v192_r3 : Vec F S512x64 .f32) (v204_r3 : Vec F S512x64 .f32) (v218_r3 : FVec F S512x64 .f32) (v220_r3 : Vec F S512x64 .f32) : FVec F S512x64 .f32 :=
  let v221_r3 : FVec F S512x64 .f32 := addf v218_r3 v220_r3
  let v188_r3 : FVec F S512x4096 .bf16 := truncf .bf16 v187_r3 bitsLt_bf16_f32
  let cst_r3 : FVec F S512x64 .f32 := constant S512x64 .f32 0x00000000#32
  let v190_r3 : FVec F S512x64 .f32 := matmul dot_S512x4096_S4096x64_S512x64_1_0_0_1_n_n none v188_r3 v189_r3 cst_r3
  let v222_r3 : FVec F S512x64 .f32 := addf v221_r3 v190_r3
  let cst_173_r3 : F .f32 := Named.named κ "third" 0x3EAAAAAB#32
  let v223_r3 : FVec F S512x64 .f32 := broadcast S512x64 cst_173_r3
  let v224_r3 : FVec F S512x64 .f32 := mulf v222_r3 v223_r3
  let cst_165_r3 : F .f32 := Scalar.ofBits .f32 0x3F0CCCCD#32
  let v201_r3 : FVec F S512x64 .f32 := broadcast S512x64 cst_165_r3
  let cst_164_r3 : F .f32 := Scalar.ofBits .f32 0x2B8CBCCC#32
  let v197_r3 : FVec F S512x1 .f32 := broadcast S512x1 cst_164_r3
  let v193_r3 : FVec F S512x64 .f32 := mulf v192_r3 v192_r3
  let v194_r3 : FVec F S512 .f32 := multiReduction .add [1] S512 v193_r3 0x00000000#32 reduces_S512x64_S512 (.inl rfl) rfl
  let v195_r3 : FVec F S512x1 .f32 := shapeCast S512x1 v194_r3 shapeCasts_S512_S512x1
  let v196_r3 : FVec F S512x1 .f32 := sqrt v195_r3
  let v198_r3 : FVec F S512x1 .f32 := maximumf v197_r3 v196_r3
  let v199_r3 : FVec F S512x64 .f32 := broadcastTo S512x64 v198_r3 broadcasts_S512x1_S512x64
  let v200_r3 : FVec F S512x64 .f32 := divf v192_r3 v199_r3
  let v202_r3 : FVec F S512x64 .f32 := mulf v201_r3 v200_r3
  let cst_169_r3 : F .f32 := Scalar.ofBits .f32 0x3F0CCCCD#32
  let v213_r3 : FVec F S512x64 .f32 := broadcast S512x64 cst_169_r3
  let cst_168_r3 : F .f32 := Scalar.ofBits .f32 0x2B8CBCCC#32
  let v209_r3 : FVec F S512x1 .f32 := broadcast S512x1 cst_168_r3
  let v205_r3 : FVec F S512x64 .f32 := mulf v204_r3 v204_r3
  let v206_r3 : FVec F S512 .f32 := multiReduction .add [1] S512 v205_r3 0x00000000#32 reduces_S512x64_S512 (.inl rfl) rfl
  let v207_r3 : FVec F S512x1 .f32 := shapeCast S512x1 v206_r3 shapeCasts_S512_S512x1
  let v208_r3 : FVec F S512x1 .f32 := sqrt v207_r3
  let v210_r3 : FVec F S512x1 .f32 := maximumf v209_r3 v208_r3
  let v211_r3 : FVec F S512x64 .f32 := broadcastTo S512x64 v210_r3 broadcasts_S512x1_S512x64
  let v212_r3 : FVec F S512x64 .f32 := divf v204_r3 v211_r3
  let v214_r3 : FVec F S512x64 .f32 := mulf v213_r3 v212_r3
  let v215_r3 : FVec F S512x64 .f32 := addf v202_r3 v214_r3
  addf v224_r3 v215_r3

/-- The block stored in `main_v22_6`, from the blocks loaded. -/
def valD_DT (v187_r3 : FVec F S512x4096 .f32) (v189_r3 : Vec F S4096x64 .bf16) (v192_r3 : Vec F S512x64 .f32) (v204_r3 : Vec F S512x64 .f32) : FVec F S512x64 .f32 :=
  let v188_r3 : FVec F S512x4096 .bf16 := truncf .bf16 v187_r3 bitsLt_bf16_f32
  let cst_r3 : FVec F S512x64 .f32 := constant S512x64 .f32 0x00000000#32
  let v190_r3 : FVec F S512x64 .f32 := matmul dot_S512x4096_S4096x64_S512x64_1_0_0_1_n_n none v188_r3 v189_r3 cst_r3
  let cst_165_r3 : F .f32 := Scalar.ofBits .f32 0x3F0CCCCD#32
  let v201_r3 : FVec F S512x64 .f32 := broadcast S512x64 cst_165_r3
  let cst_164_r3 : F .f32 := Scalar.ofBits .f32 0x2B8CBCCC#32
  let v197_r3 : FVec F S512x1 .f32 := broadcast S512x1 cst_164_r3
  let v193_r3 : FVec F S512x64 .f32 := mulf v192_r3 v192_r3
  let v194_r3 : FVec F S512 .f32 := multiReduction .add [1] S512 v193_r3 0x00000000#32 reduces_S512x64_S512 (.inl rfl) rfl
  let v195_r3 : FVec F S512x1 .f32 := shapeCast S512x1 v194_r3 shapeCasts_S512_S512x1
  let v196_r3 : FVec F S512x1 .f32 := sqrt v195_r3
  let v198_r3 : FVec F S512x1 .f32 := maximumf v197_r3 v196_r3
  let v199_r3 : FVec F S512x64 .f32 := broadcastTo S512x64 v198_r3 broadcasts_S512x1_S512x64
  let v200_r3 : FVec F S512x64 .f32 := divf v192_r3 v199_r3
  let v202_r3 : FVec F S512x64 .f32 := mulf v201_r3 v200_r3
  let cst_169_r3 : F .f32 := Scalar.ofBits .f32 0x3F0CCCCD#32
  let v213_r3 : FVec F S512x64 .f32 := broadcast S512x64 cst_169_r3
  let cst_168_r3 : F .f32 := Scalar.ofBits .f32 0x2B8CBCCC#32
  let v209_r3 : FVec F S512x1 .f32 := broadcast S512x1 cst_168_r3
  let v205_r3 : FVec F S512x64 .f32 := mulf v204_r3 v204_r3
  let v206_r3 : FVec F S512 .f32 := multiReduction .add [1] S512 v205_r3 0x00000000#32 reduces_S512x64_S512 (.inl rfl) rfl
  let v207_r3 : FVec F S512x1 .f32 := shapeCast S512x1 v206_r3 shapeCasts_S512_S512x1
  let v208_r3 : FVec F S512x1 .f32 := sqrt v207_r3
  let v210_r3 : FVec F S512x1 .f32 := maximumf v209_r3 v208_r3
  let v211_r3 : FVec F S512x64 .f32 := broadcastTo S512x64 v210_r3 broadcasts_S512x1_S512x64
  let v212_r3 : FVec F S512x64 .f32 := divf v204_r3 v211_r3
  let v214_r3 : FVec F S512x64 .f32 := mulf v213_r3 v212_r3
  let v215_r3 : FVec F S512x64 .f32 := addf v202_r3 v214_r3
  addf v190_r3 v215_r3

/-- The block stored in `arg29`, from the blocks loaded. -/
def valD_29 (v187_r3 : FVec F S512x4096 .f32) (v189_r3 : Vec F S4096x64 .bf16) : FVec F S512x64 .bf16 :=
  let v188_r3 : FVec F S512x4096 .bf16 := truncf .bf16 v187_r3 bitsLt_bf16_f32
  let cst_r3 : FVec F S512x64 .f32 := constant S512x64 .f32 0x00000000#32
  let v190_r3 : FVec F S512x64 .f32 := matmul dot_S512x4096_S4096x64_S512x64_1_0_0_1_n_n none v188_r3 v189_r3 cst_r3
  let v235_r3 : FVec F S512x64 .bf16 := truncf .bf16 v190_r3 bitsLt_bf16_f32
  shapeCast S512x64 v235_r3 shapeCasts_S512x64_S512x64

section Pieces
variable (c : Dev nD)

abbrev cellDU (s : Fin 2) : sProp 𝕄 := semVal ((c : Thread nD τ), SemLoc.dma (semDU s).sem) 0
abbrev slotPDU (s : Fin 2) (f : Buf (Elt F) ((slotDU s).view.loc (c : Thread nD τ))) : sProp 𝕄 :=
  (slotDU s).view.loc (c : Thread nD τ) ↦[(slotDU s).view.set]{fullShare} f
abbrev homeDU (X : Buf (Elt F) ((Memref.whole main_arg0 : Memref sig .tc .hbm _ _).view.loc (c : Thread nD τ))) (b : Fin 16) : sProp 𝕄 :=
  (blkDU b).view.loc (c : Thread nD τ) ↦[(blkDU b).view.set]{fullShare} X
abbrev landedDU (X : Buf (Elt F) ((Memref.whole main_arg0 : Memref sig .tc .hbm _ _).view.loc (c : Thread nD τ))) (s : Fin 2) (b : Fin 16) (f : Buf (Elt F) ((slotDU s).view.loc (c : Thread nD τ))) : Buf (Elt F) ((slotDU s).view.loc (c : Thread nD τ)) :=
  (slotDU s).view.writes (Elt F) f [⟨Rect.whole S512x4096, ReadAs.same.apply ((blkDU b).view.read (Elt F) X)⟩]
abbrev flightDU (X : Buf (Elt F) ((Memref.whole main_arg0 : Memref sig .tc .hbm _ _).view.loc (c : Thread nD τ))) (s : Fin 2) (b : Fin 16) (f : Buf (Elt F) ((slotDU s).view.loc (c : Thread nD τ))) : sProp 𝕄 :=
  Transfers.Flight countersEmb (c : Thread nD τ) (SemLoc.dma (semDU s).sem) () 262144 iprop(slotPDU c s (landedDU c X s b f) ∗ homeDU c X b)
theorem outDU (X : Buf (Elt F) ((Memref.whole main_arg0 : Memref sig .tc .hbm _ _).view.loc (c : Thread nD τ))) (k : ℕ) (hk : k + 1 < 16) :
    bigSep (Ring.homeSet 1 k) (homeDU c X) = iprop(homeDU c X (Ring.bk 16 (k + 1)) ∗ bigSep ((Ring.homeSet 1 k).erase (Ring.bk 16 (k + 1))) (homeDU c X)) := by
  conv_lhs => rw [Ring.homeSet_out 1 k hk, bigSep_insert (Ring.bkL_not_mem_erase 1 k)]
  rfl
theorem inDU (X : Buf (Elt F) ((Memref.whole main_arg0 : Memref sig .tc .hbm _ _).view.loc (c : Thread nD τ))) (k : ℕ) (hk : k + 1 < 16) :
    bigSep (Ring.homeSet 1 (k + 1)) (homeDU c X) = iprop(homeDU c X (Ring.bk 16 k) ∗ bigSep ((Ring.homeSet 1 k).erase (Ring.bk 16 (k + 1))) (homeDU c X)) := by
  conv_lhs => rw [Ring.homeSet_succ 1 k hk, bigSep_insert (Ring.bk_not_mem_erase 1 k (by omega) (by decide))]
  rfl
theorem endDU (X : Buf (Elt F) ((Memref.whole main_arg0 : Memref sig .tc .hbm _ _).view.loc (c : Thread nD τ))) (k : ℕ) (hk : k = 15) :
    bigSep Finset.univ (homeDU c X) = iprop(homeDU c X (Ring.bk 16 k) ∗ bigSep (Ring.homeSet 1 k) (homeDU c X)) := by
  conv_lhs => rw [← Ring.homeSet_last (NB := 16) 1 (k + 1) (by omega), Ring.homeSet_succ_tail 1 k (by omega) (by omega), bigSep_insert (Ring.bk_not_mem_homeSet 1 k (by omega) (by decide))]
  rfl
/-- The pieces of the buffer before trip `k`: block `k` on its way into slot `k % 2`, the other slot and its semaphore
    free, every other block of the array home. -/
def ringDU (X : Buf (Elt F) ((Memref.whole main_arg0 : Memref sig .tc .hbm _ _).view.loc (c : Thread nD τ))) (k : ℕ) : sProp 𝕄 :=
  iprop(bigSep (Ring.homeSet 1 k) (homeDU c X) ∗ (∃ f, flightDU c X (Ring.sl 2 k) (Ring.bk 16 k) f)
    ∗ (∃ f, slotPDU c (Ring.sl 2 (k + 1)) f) ∗ cellDU c (Ring.sl 2 (k + 1)))
/-- After the last trip `k`: both slots and semaphores free, every block home. -/
def ringEndDU (X : Buf (Elt F) ((Memref.whole main_arg0 : Memref sig .tc .hbm _ _).view.loc (c : Thread nD τ))) (k : ℕ) : sProp 𝕄 :=
  iprop(bigSep Finset.univ (homeDU c X) ∗ (∃ f, slotPDU c (Ring.sl 2 k) f) ∗ (∃ f, slotPDU c (Ring.sl 2 (k + 1)) f) ∗ cellDU c (Ring.sl 2 k) ∗ cellDU c (Ring.sl 2 (k + 1)))

abbrev cellDN (s : Fin 2) : sProp 𝕄 := semVal ((c : Thread nD τ), SemLoc.dma (semDN s).sem) 0
abbrev slotPDN (s : Fin 2) (f : Buf (Elt F) ((slotDN s).view.loc (c : Thread nD τ))) : sProp 𝕄 :=
  (slotDN s).view.loc (c : Thread nD τ) ↦[(slotDN s).view.set]{fullShare} f
abbrev homeDN (X : Buf (Elt F) ((Memref.whole main_arg4 : Memref sig .tc .hbm _ _).view.loc (c : Thread nD τ))) (b : Fin 16) : sProp 𝕄 :=
  (blkDN b).view.loc (c : Thread nD τ) ↦[(blkDN b).view.set]{fullShare} X
abbrev landedDN (X : Buf (Elt F) ((Memref.whole main_arg4 : Memref sig .tc .hbm _ _).view.loc (c : Thread nD τ))) (s : Fin 2) (b : Fin 16) (f : Buf (Elt F) ((slotDN s).view.loc (c : Thread nD τ))) : Buf (Elt F) ((slotDN s).view.loc (c : Thread nD τ)) :=
  (slotDN s).view.writes (Elt F) f [⟨Rect.whole S512x64, ReadAs.same.apply ((blkDN b).view.read (Elt F) X)⟩]
abbrev flightDN (X : Buf (Elt F) ((Memref.whole main_arg4 : Memref sig .tc .hbm _ _).view.loc (c : Thread nD τ))) (s : Fin 2) (b : Fin 16) (f : Buf (Elt F) ((slotDN s).view.loc (c : Thread nD τ))) : sProp 𝕄 :=
  Transfers.Flight countersEmb (c : Thread nD τ) (SemLoc.dma (semDN s).sem) () 8192 iprop(slotPDN c s (landedDN c X s b f) ∗ homeDN c X b)
theorem outDN (X : Buf (Elt F) ((Memref.whole main_arg4 : Memref sig .tc .hbm _ _).view.loc (c : Thread nD τ))) (k : ℕ) (hk : k + 1 < 16) :
    bigSep (Ring.homeSet 1 k) (homeDN c X) = iprop(homeDN c X (Ring.bk 16 (k + 1)) ∗ bigSep ((Ring.homeSet 1 k).erase (Ring.bk 16 (k + 1))) (homeDN c X)) := by
  conv_lhs => rw [Ring.homeSet_out 1 k hk, bigSep_insert (Ring.bkL_not_mem_erase 1 k)]
  rfl
theorem inDN (X : Buf (Elt F) ((Memref.whole main_arg4 : Memref sig .tc .hbm _ _).view.loc (c : Thread nD τ))) (k : ℕ) (hk : k + 1 < 16) :
    bigSep (Ring.homeSet 1 (k + 1)) (homeDN c X) = iprop(homeDN c X (Ring.bk 16 k) ∗ bigSep ((Ring.homeSet 1 k).erase (Ring.bk 16 (k + 1))) (homeDN c X)) := by
  conv_lhs => rw [Ring.homeSet_succ 1 k hk, bigSep_insert (Ring.bk_not_mem_erase 1 k (by omega) (by decide))]
  rfl
theorem endDN (X : Buf (Elt F) ((Memref.whole main_arg4 : Memref sig .tc .hbm _ _).view.loc (c : Thread nD τ))) (k : ℕ) (hk : k = 15) :
    bigSep Finset.univ (homeDN c X) = iprop(homeDN c X (Ring.bk 16 k) ∗ bigSep (Ring.homeSet 1 k) (homeDN c X)) := by
  conv_lhs => rw [← Ring.homeSet_last (NB := 16) 1 (k + 1) (by omega), Ring.homeSet_succ_tail 1 k (by omega) (by omega), bigSep_insert (Ring.bk_not_mem_homeSet 1 k (by omega) (by decide))]
  rfl
/-- The pieces of the buffer before trip `k`: block `k` on its way into slot `k % 2`, the other slot and its semaphore
    free, every other block of the array home. -/
def ringDN (X : Buf (Elt F) ((Memref.whole main_arg4 : Memref sig .tc .hbm _ _).view.loc (c : Thread nD τ))) (k : ℕ) : sProp 𝕄 :=
  iprop(bigSep (Ring.homeSet 1 k) (homeDN c X) ∗ (∃ f, flightDN c X (Ring.sl 2 k) (Ring.bk 16 k) f)
    ∗ (∃ f, slotPDN c (Ring.sl 2 (k + 1)) f) ∗ cellDN c (Ring.sl 2 (k + 1)))
/-- After the last trip `k`: both slots and semaphores free, every block home. -/
def ringEndDN (X : Buf (Elt F) ((Memref.whole main_arg4 : Memref sig .tc .hbm _ _).view.loc (c : Thread nD τ))) (k : ℕ) : sProp 𝕄 :=
  iprop(bigSep Finset.univ (homeDN c X) ∗ (∃ f, slotPDN c (Ring.sl 2 k) f) ∗ (∃ f, slotPDN c (Ring.sl 2 (k + 1)) f) ∗ cellDN c (Ring.sl 2 k) ∗ cellDN c (Ring.sl 2 (k + 1)))

abbrev cellDI (s : Fin 2) : sProp 𝕄 := semVal ((c : Thread nD τ), SemLoc.dma (semDI s).sem) 0
abbrev slotPDI (s : Fin 2) (f : Buf (Elt F) ((slotDI s).view.loc (c : Thread nD τ))) : sProp 𝕄 :=
  (slotDI s).view.loc (c : Thread nD τ) ↦[(slotDI s).view.set]{fullShare} f
abbrev homeDI (X : Buf (Elt F) ((Memref.whole main_v22_0 : Memref sig .tc .hbm _ _).view.loc (c : Thread nD τ))) (b : Fin 16) : sProp 𝕄 :=
  (blkDI b).view.loc (c : Thread nD τ) ↦[(blkDI b).view.set]{fullShare} X
abbrev flightDI (X : Buf (Elt F) ((Memref.whole main_v22_0 : Memref sig .tc .hbm _ _).view.loc (c : Thread nD τ))) (s : Fin 2) (b : Fin 16) (g : Buf (Elt F) ((slotDI s).view.loc (c : Thread nD τ))) : sProp 𝕄 :=
  Transfers.Flight countersEmb (c : Thread nD τ) (SemLoc.dma (semDI s).sem) () 8192
    iprop(homeDI c ((blkDI b).view.writes (Elt F) X [⟨Rect.whole S512x64, ReadAs.same.apply ((slotDI s).view.read (Elt F) g)⟩]) b ∗ slotPDI c s g)
/-- A block of the result: written already if it is before block `k`, as it was otherwise. -/
def partDI (X Y : Buf (Elt F) ((Memref.whole main_v22_0 : Memref sig .tc .hbm _ _).view.loc (c : Thread nD τ))) (k : ℕ) (b : Fin 16) : sProp 𝕄 := homeDI c (if b.val < k then Y else X) b
theorem partDI_congr (X Y : Buf (Elt F) ((Memref.whole main_v22_0 : Memref sig .tc .hbm _ _).view.loc (c : Thread nD τ))) (k : ℕ) (hk : k < 16) :
    bigSep ((Ring.homeSetB 1 k).erase (Ring.bk 16 k)) (partDI c X Y (k + 1)) = bigSep ((Ring.homeSetB 1 k).erase (Ring.bk 16 k)) (partDI c X Y k) :=
  bigSep_congr fun b hb => by
    have hne : b.val ≠ k := fun h => (Finset.mem_erase.mp hb).1 (Fin.ext (by rw [h, Ring.bk_val hk]))
    unfold partDI
    by_cases h : b.val < k
    · rw [if_pos h, if_pos (by omega)]
    · rw [if_neg h, if_neg (by omega)]
theorem outDI (X Y : Buf (Elt F) ((Memref.whole main_v22_0 : Memref sig .tc .hbm _ _).view.loc (c : Thread nD τ))) (k : ℕ) (hk : k < 16) :
    bigSep (Ring.homeSetB 1 k) (partDI c X Y k) = iprop(homeDI c X (Ring.bk 16 k) ∗ bigSep ((Ring.homeSetB 1 k).erase (Ring.bk 16 k)) (partDI c X Y k)) := by
  rw [Ring.bigSep_take (Ring.bk_mem_homeSetB 1 k hk)]
  congr 1
  unfold partDI
  rw [if_neg (by rw [Ring.bk_val hk]; omega)]
theorem in0DI (X Y : Buf (Elt F) ((Memref.whole main_v22_0 : Memref sig .tc .hbm _ _).view.loc (c : Thread nD τ))) (k : ℕ) (hk : k = 0) :
    bigSep (Ring.homeSetB 1 (k + 1)) (partDI c X Y (k + 1)) = bigSep ((Ring.homeSetB 1 k).erase (Ring.bk 16 k)) (partDI c X Y k) := by
  rw [Ring.homeSetB_step_boot 1 k (by omega) (by omega), partDI_congr c X Y k (by omega)]
theorem inDI (X Y : Buf (Elt F) ((Memref.whole main_v22_0 : Memref sig .tc .hbm _ _).view.loc (c : Thread nD τ))) (k : ℕ) (hk : k < 16) (h1 : 1 ≤ k) :
    bigSep (Ring.homeSetB 1 (k + 1)) (partDI c X Y (k + 1)) = iprop(homeDI c Y (Ring.bk 16 (k - 1)) ∗ bigSep ((Ring.homeSetB 1 k).erase (Ring.bk 16 k)) (partDI c X Y k)) := by
  rw [Ring.homeSetB_step 1 k hk h1, Ring.bigSep_put (Ring.bk_sub_not_mem 1 k hk h1), partDI_congr c X Y k hk]
  congr 1
  unfold partDI
  rw [if_pos (by rw [Ring.bk_val (by omega)]; omega)]
/-- Past the last trip, the last block back from its copy completes the result. -/
theorem endDI (X Y : Buf (Elt F) ((Memref.whole main_v22_0 : Memref sig .tc .hbm _ _).view.loc (c : Thread nD τ))) (k : ℕ) (hk : k = 16) :
    bigSep Finset.univ (homeDI c Y) = iprop(homeDI c Y (Ring.bk 16 (k - 1)) ∗ bigSep (Ring.homeSetB 1 k) (partDI c X Y k)) := by
  subst hk
  rw [Ring.homeSetB_one_end, Ring.bigSep_take (Finset.mem_univ (Ring.bk 16 (16 - 1)))]
  congr 1
/-- A block of the result home from its copy is the result's block. -/
theorem doneDI (X Y : Buf (Elt F) ((Memref.whole main_v22_0 : Memref sig .tc .hbm _ _).view.loc (c : Thread nD τ))) (s : Fin 2) (k : ℕ) (hk : k < 16) (g : Buf (Elt F) ((slotDI s).view.loc (c : Thread nD τ))) (Q : ℕ → S512x64.Idx → Elt F .f32)
    (hY : Y = (stack (W := 512) (R := 8192) (D := 64) (by decide) Q : S8192x64.Idx → Elt F .f32)) (hg : (slotDI s).view.read (Elt F) g = Q k) :
    homeDI c ((blkDI (Ring.bk 16 k)).view.writes (Elt F) X [⟨Rect.whole S512x64, ReadAs.same.apply ((slotDI s).view.read (Elt F) g)⟩]) (Ring.bk 16 k) = homeDI c Y (Ring.bk 16 k) := by
  refine own_eq_of_read c (blkDI (Ring.bk 16 k)) _ _ ((View.read_writes_whole _ _ _).trans (hg.trans ?_))
  subst hY
  funext x
  refine (stack_block (W := 512) (R := 8192) (D := 64) (by decide) Q k x _ ?_ ?_).symm
  · show 512 * (Ring.bk 16 k).val + 1 * (x 0).val = _
    rw [Ring.bk_val hk]; omega
  · show 0 + 1 * (x 1).val = _
    omega
/-- The pieces of the buffer before trip `k` past the first: block `k - 1` on its way out of the other slot, slot `k % 2`
    and its semaphore free. -/
def ringDI (X Y : Buf (Elt F) ((Memref.whole main_v22_0 : Memref sig .tc .hbm _ _).view.loc (c : Thread nD τ))) (Q : ℕ → S512x64.Idx → Elt F .f32) (k : ℕ) : sProp 𝕄 :=
  iprop(bigSep (Ring.homeSetB 1 k) (partDI c X Y k) ∗ (∃ f, slotPDI c (Ring.sl 2 k) f) ∗ cellDI c (Ring.sl 2 k)
    ∗ (∃ g, ⌜(slotDI (Ring.sl 2 (k - 1))).view.read (Elt F) g = Q (k - 1)⌝ ∗ flightDI c X (Ring.sl 2 (k - 1)) (Ring.bk 16 (k - 1)) g))
/-- Before the first trip: both slots and semaphores free. -/
def ring0DI (X Y : Buf (Elt F) ((Memref.whole main_v22_0 : Memref sig .tc .hbm _ _).view.loc (c : Thread nD τ))) (k : ℕ) : sProp 𝕄 :=
  iprop(bigSep (Ring.homeSetB 1 k) (partDI c X Y k) ∗ (∃ f, slotPDI c (Ring.sl 2 k) f) ∗ cellDI c (Ring.sl 2 k)
    ∗ (∃ f, slotPDI c (Ring.sl 2 (k + 1)) f) ∗ cellDI c (Ring.sl 2 (k + 1)))

abbrev cellDT (s : Fin 2) : sProp 𝕄 := semVal ((c : Thread nD τ), SemLoc.dma (semDT s).sem) 0
abbrev slotPDT (s : Fin 2) (f : Buf (Elt F) ((slotDT s).view.loc (c : Thread nD τ))) : sProp 𝕄 :=
  (slotDT s).view.loc (c : Thread nD τ) ↦[(slotDT s).view.set]{fullShare} f
abbrev homeDT (X : Buf (Elt F) ((Memref.whole main_v22_6 : Memref sig .tc .hbm _ _).view.loc (c : Thread nD τ))) (b : Fin 16) : sProp 𝕄 :=
  (blkDT b).view.loc (c : Thread nD τ) ↦[(blkDT b).view.set]{fullShare} X
abbrev flightDT (X : Buf (Elt F) ((Memref.whole main_v22_6 : Memref sig .tc .hbm _ _).view.loc (c : Thread nD τ))) (s : Fin 2) (b : Fin 16) (g : Buf (Elt F) ((slotDT s).view.loc (c : Thread nD τ))) : sProp 𝕄 :=
  Transfers.Flight countersEmb (c : Thread nD τ) (SemLoc.dma (semDT s).sem) () 8192
    iprop(homeDT c ((blkDT b).view.writes (Elt F) X [⟨Rect.whole S512x64, ReadAs.same.apply ((slotDT s).view.read (Elt F) g)⟩]) b ∗ slotPDT c s g)
/-- A block of the result: written already if it is before block `k`, as it was otherwise. -/
def partDT (X Y : Buf (Elt F) ((Memref.whole main_v22_6 : Memref sig .tc .hbm _ _).view.loc (c : Thread nD τ))) (k : ℕ) (b : Fin 16) : sProp 𝕄 := homeDT c (if b.val < k then Y else X) b
theorem partDT_congr (X Y : Buf (Elt F) ((Memref.whole main_v22_6 : Memref sig .tc .hbm _ _).view.loc (c : Thread nD τ))) (k : ℕ) (hk : k < 16) :
    bigSep ((Ring.homeSetB 1 k).erase (Ring.bk 16 k)) (partDT c X Y (k + 1)) = bigSep ((Ring.homeSetB 1 k).erase (Ring.bk 16 k)) (partDT c X Y k) :=
  bigSep_congr fun b hb => by
    have hne : b.val ≠ k := fun h => (Finset.mem_erase.mp hb).1 (Fin.ext (by rw [h, Ring.bk_val hk]))
    unfold partDT
    by_cases h : b.val < k
    · rw [if_pos h, if_pos (by omega)]
    · rw [if_neg h, if_neg (by omega)]
theorem outDT (X Y : Buf (Elt F) ((Memref.whole main_v22_6 : Memref sig .tc .hbm _ _).view.loc (c : Thread nD τ))) (k : ℕ) (hk : k < 16) :
    bigSep (Ring.homeSetB 1 k) (partDT c X Y k) = iprop(homeDT c X (Ring.bk 16 k) ∗ bigSep ((Ring.homeSetB 1 k).erase (Ring.bk 16 k)) (partDT c X Y k)) := by
  rw [Ring.bigSep_take (Ring.bk_mem_homeSetB 1 k hk)]
  congr 1
  unfold partDT
  rw [if_neg (by rw [Ring.bk_val hk]; omega)]
theorem in0DT (X Y : Buf (Elt F) ((Memref.whole main_v22_6 : Memref sig .tc .hbm _ _).view.loc (c : Thread nD τ))) (k : ℕ) (hk : k = 0) :
    bigSep (Ring.homeSetB 1 (k + 1)) (partDT c X Y (k + 1)) = bigSep ((Ring.homeSetB 1 k).erase (Ring.bk 16 k)) (partDT c X Y k) := by
  rw [Ring.homeSetB_step_boot 1 k (by omega) (by omega), partDT_congr c X Y k (by omega)]
theorem inDT (X Y : Buf (Elt F) ((Memref.whole main_v22_6 : Memref sig .tc .hbm _ _).view.loc (c : Thread nD τ))) (k : ℕ) (hk : k < 16) (h1 : 1 ≤ k) :
    bigSep (Ring.homeSetB 1 (k + 1)) (partDT c X Y (k + 1)) = iprop(homeDT c Y (Ring.bk 16 (k - 1)) ∗ bigSep ((Ring.homeSetB 1 k).erase (Ring.bk 16 k)) (partDT c X Y k)) := by
  rw [Ring.homeSetB_step 1 k hk h1, Ring.bigSep_put (Ring.bk_sub_not_mem 1 k hk h1), partDT_congr c X Y k hk]
  congr 1
  unfold partDT
  rw [if_pos (by rw [Ring.bk_val (by omega)]; omega)]
/-- Past the last trip, the last block back from its copy completes the result. -/
theorem endDT (X Y : Buf (Elt F) ((Memref.whole main_v22_6 : Memref sig .tc .hbm _ _).view.loc (c : Thread nD τ))) (k : ℕ) (hk : k = 16) :
    bigSep Finset.univ (homeDT c Y) = iprop(homeDT c Y (Ring.bk 16 (k - 1)) ∗ bigSep (Ring.homeSetB 1 k) (partDT c X Y k)) := by
  subst hk
  rw [Ring.homeSetB_one_end, Ring.bigSep_take (Finset.mem_univ (Ring.bk 16 (16 - 1)))]
  congr 1
/-- A block of the result home from its copy is the result's block. -/
theorem doneDT (X Y : Buf (Elt F) ((Memref.whole main_v22_6 : Memref sig .tc .hbm _ _).view.loc (c : Thread nD τ))) (s : Fin 2) (k : ℕ) (hk : k < 16) (g : Buf (Elt F) ((slotDT s).view.loc (c : Thread nD τ))) (Q : ℕ → S512x64.Idx → Elt F .f32)
    (hY : Y = (stack (W := 512) (R := 8192) (D := 64) (by decide) Q : S8192x64.Idx → Elt F .f32)) (hg : (slotDT s).view.read (Elt F) g = Q k) :
    homeDT c ((blkDT (Ring.bk 16 k)).view.writes (Elt F) X [⟨Rect.whole S512x64, ReadAs.same.apply ((slotDT s).view.read (Elt F) g)⟩]) (Ring.bk 16 k) = homeDT c Y (Ring.bk 16 k) := by
  refine own_eq_of_read c (blkDT (Ring.bk 16 k)) _ _ ((View.read_writes_whole _ _ _).trans (hg.trans ?_))
  subst hY
  funext x
  refine (stack_block (W := 512) (R := 8192) (D := 64) (by decide) Q k x _ ?_ ?_).symm
  · show 512 * (Ring.bk 16 k).val + 1 * (x 0).val = _
    rw [Ring.bk_val hk]; omega
  · show 0 + 1 * (x 1).val = _
    omega
/-- The pieces of the buffer before trip `k` past the first: block `k - 1` on its way out of the other slot, slot `k % 2`
    and its semaphore free. -/
def ringDT (X Y : Buf (Elt F) ((Memref.whole main_v22_6 : Memref sig .tc .hbm _ _).view.loc (c : Thread nD τ))) (Q : ℕ → S512x64.Idx → Elt F .f32) (k : ℕ) : sProp 𝕄 :=
  iprop(bigSep (Ring.homeSetB 1 k) (partDT c X Y k) ∗ (∃ f, slotPDT c (Ring.sl 2 k) f) ∗ cellDT c (Ring.sl 2 k)
    ∗ (∃ g, ⌜(slotDT (Ring.sl 2 (k - 1))).view.read (Elt F) g = Q (k - 1)⌝ ∗ flightDT c X (Ring.sl 2 (k - 1)) (Ring.bk 16 (k - 1)) g))
/-- Before the first trip: both slots and semaphores free. -/
def ring0DT (X Y : Buf (Elt F) ((Memref.whole main_v22_6 : Memref sig .tc .hbm _ _).view.loc (c : Thread nD τ))) (k : ℕ) : sProp 𝕄 :=
  iprop(bigSep (Ring.homeSetB 1 k) (partDT c X Y k) ∗ (∃ f, slotPDT c (Ring.sl 2 k) f) ∗ cellDT c (Ring.sl 2 k)
    ∗ (∃ f, slotPDT c (Ring.sl 2 (k + 1)) f) ∗ cellDT c (Ring.sl 2 (k + 1)))

end Pieces

/-- Block `k` of what the pipeline stores. -/
def outD_DI (c : Dev nD) (XDU : Buf (Elt F) ((Memref.whole main_arg0 : Memref sig .tc .hbm _ _).view.loc (c : Thread nD τ))) (XDN : Buf (Elt F) ((Memref.whole main_arg4 : Memref sig .tc .hbm _ _).view.loc (c : Thread nD τ))) (V25 : Buf (Elt F) (a25.view.loc (c : Thread nD τ))) (Q23 : ℕ → S512x64.Idx → Elt F .f32) (Q24 : ℕ → S512x64.Idx → Elt F .f32) (Q22 : ℕ → S512x64.Idx → Elt F .f32) (k : ℕ) : S512x64.Idx → Elt F .f32 :=
  valD_DI ((blkDU (Ring.bk 16 k)).view.read (Elt F) XDU) V25 (Q23 k) (Q24 k) ((blkDN (Ring.bk 16 k)).view.read (Elt F) XDN) (Q22 k)

/-- Block `k` of what the pipeline stores. -/
def outD_DT (c : Dev nD) (XDU : Buf (Elt F) ((Memref.whole main_arg0 : Memref sig .tc .hbm _ _).view.loc (c : Thread nD τ))) (V25 : Buf (Elt F) (a25.view.loc (c : Thread nD τ))) (Q23 : ℕ → S512x64.Idx → Elt F .f32) (Q24 : ℕ → S512x64.Idx → Elt F .f32) (k : ℕ) : S512x64.Idx → Elt F .f32 :=
  valD_DT ((blkDU (Ring.bk 16 k)).view.read (Elt F) XDU) V25 (Q23 k) (Q24 k)

/-- Block `k` of what the pipeline stores in scratch array 29. -/
def outD_29 (c : Dev nD) (XDU : Buf (Elt F) ((Memref.whole main_arg0 : Memref sig .tc .hbm _ _).view.loc (c : Thread nD τ))) (V25 : Buf (Elt F) (a25.view.loc (c : Thread nD τ))) (k : ℕ) : S512x64.Idx → Elt F .bf16 :=
  valD_29 ((blkDU (Ring.bk 16 k)).view.read (Elt F) XDU) V25

section Trip
variable (c : Dev nD)
  (arg6 : Memref sig .tc .vmem S4096x64 .bf16) (harg6 : arg6.IsWhole) (arg7 : Memref sig .tc .vmem S1x64 .f32) (harg7 : arg7.IsWhole)
  (arg8 : Memref sig .tc .vmem S384x64 .bf16) (harg8 : arg8.IsWhole) (arg9 : Memref sig .tc .vmem S1x64 .f32) (harg9 : arg9.IsWhole)
  (v23 : BitVec 32)
  (XDU : Buf (Elt F) ((Memref.whole main_arg0 : Memref sig .tc .hbm _ _).view.loc (c : Thread nD τ)))
  (XDN : Buf (Elt F) ((Memref.whole main_arg4 : Memref sig .tc .hbm _ _).view.loc (c : Thread nD τ)))
  (V25 : Buf (Elt F) (a25.view.loc (c : Thread nD τ)))
  (Q23 : ℕ → S512x64.Idx → Elt F .f32)
  (Q24 : ℕ → S512x64.Idx → Elt F .f32)
  (Q22 : ℕ → S512x64.Idx → Elt F .f32)
  (ODI : Buf (Elt F) ((Memref.whole main_v22_0 : Memref sig .tc .hbm _ _).view.loc (c : Thread nD τ)))
  (ODT : Buf (Elt F) ((Memref.whole main_v22_6 : Memref sig .tc .hbm _ _).view.loc (c : Thread nD τ)))

/-- Scratch array 29 with its first `k` blocks stored. -/
def scrD29 (k : ℕ) : sProp 𝕄 :=
  iprop(∃ f, ⌜UpTo (W := 512) (R := 8192) (D := 64) (by decide) a29.view (outD_29 c XDU V25) k f⌝ ∗ own29 c f)
theorem scrD29_end (k : ℕ) (hk : k = 16) :
    scrD29 c XDU V25 k ⊢ own29 c (stack (W := 512) (R := 8192) (D := 64) (by decide) (outD_29 c XDU V25) : S8192x64.Idx → Elt F .bf16) := by
  subst hk
  unfold scrD29
  iintro ⟨%f, %hU, H⟩
  have e : f = (stack (W := 512) (R := 8192) (D := 64) (by decide) (outD_29 c XDU V25) : S8192x64.Idx → Elt F .bf16) := upTo_all (by decide) _ _ 16 (by decide) f hU
  subst e
  iexact H

/-- The result as the pipeline leaves it. -/
abbrev finDI : Buf (Elt F) ((Memref.whole main_v22_0 : Memref sig .tc .hbm _ _).view.loc (c : Thread nD τ)) := (stack (W := 512) (R := 8192) (D := 64) (by decide) (outD_DI c XDU XDN V25 Q23 Q24 Q22) : S8192x64.Idx → Elt F .f32)

/-- The result as the pipeline leaves it. -/
abbrev finDT : Buf (Elt F) ((Memref.whole main_v22_6 : Memref sig .tc .hbm _ _).view.loc (c : Thread nD τ)) := (stack (W := 512) (R := 8192) (D := 64) (by decide) (outD_DT c XDU V25 Q23 Q24) : S8192x64.Idx → Elt F .f32)

def accD (k : ℕ) : BitVec 32 × BitVec 32 × BitVec 32 × BitVec 32 × BitVec 32 × BitVec 32 × BitVec 32 × BitVec 32 × BitVec 32 :=
  (w32 (k + 1), w32 k, w32 (k + 1), w32 k, w32 k, w32 (k - 1), w32 k, w32 (k - 1), w32 k)
/-- The loop's words between its trips. -/
def outDw (k : ℕ) : BitVec 32 × BitVec 32 × BitVec 32 × BitVec 32 × BitVec 32 × BitVec 32 × BitVec 32 × BitVec 32 × BitVec 32 :=
  (w32 (min (k + 1) 16), w32 k, w32 (min (k + 1) 16), w32 k, w32 k, w32 (k - 1), w32 k, w32 (k - 1), w32 (k % 16))
abbrev tripD (k : T4) (acc : BitVec 32 × BitVec 32 × BitVec 32 × BitVec 32 × BitVec 32 × BitVec 32 × BitVec 32 × BitVec 32 × BitVec 32) :=
  k0_t4_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg6 harg6 arg7 harg7 arg8 harg8 arg9 harg9 (Memref.whole main_v6) (Memref.isWhole_whole _) (Memref.whole main_v13) (Memref.isWhole_whole _) (Memref.whole main_v22_0) (Memref.isWhole_whole _) (Memref.whole main_v22_1) (Memref.isWhole_whole _) (Memref.whole main_v22_2) (Memref.isWhole_whole _) (Memref.whole main_v22_3) (Memref.isWhole_whole _) (Memref.whole main_v22_4) (Memref.isWhole_whole _) (Memref.whole main_v22_5) (Memref.isWhole_whole _) (Memref.whole main_v22_6) (Memref.isWhole_whole _) (Memref.whole main_v22_7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 (Memref.whole cc0_scoped20) (Memref.isWhole_whole _) cc0_scoped21 (Memref.whole cc0_scoped22) (Memref.isWhole_whole _) cc0_scoped23 (Memref.whole cc0_scoped24) (Memref.isWhole_whole _) cc0_scoped25 (Memref.whole cc0_scoped26) (Memref.isWhole_whole _) cc0_scoped27 (Memref.whole cc0_scoped28) (Memref.isWhole_whole _) cc0_scoped29 (Memref.whole cc0_scoped30) (Memref.isWhole_whole _) cc0_scoped31 (Memref.whole cc0_scoped32) (Memref.isWhole_whole _) cc0_scoped33 (Memref.whole cc0_scoped34) (Memref.isWhole_whole _) cc0_scoped35 (Memref.whole cc0_scoped36) (Memref.isWhole_whole _) cc0_scoped37 v23 k acc

set_option maxHeartbeats 4000000 in
theorem runD_first (k : T4) (hk0 : k.val = 0) :
    iprop(own25 c V25 ∗ own23 c (stack (W := 512) (R := 8192) (D := 64) (by decide) Q23 : S8192x64.Idx → Elt F .f32) ∗ own24 c (stack (W := 512) (R := 8192) (D := 64) (by decide) Q24 : S8192x64.Idx → Elt F .f32) ∗ own22 c (stack (W := 512) (R := 8192) (D := 64) (by decide) Q22 : S8192x64.Idx → Elt F .f32) ∗ scrD29 c XDU V25 k ∗ (∃ W, owes (c : Thread nD τ) 0 W) ∗ ringDU c XDU k ∗ ringDN c XDN k ∗ ring0DI c ODI (finDI c XDU XDN V25 Q23 Q24 Q22) k ∗ ring0DT c ODT (finDT c XDU V25 Q23 Q24) k)
      ⊢ wp frame (wpE (defs₀ (F := F)) 𝒱₀ (c : Thread nD τ) none) Set.univ (tripD arg6 harg6 arg7 harg7 arg8 harg8 arg9 harg9 v23 k (accD k))
        (fun acc => iprop(⌜acc = outDw (k.val + 1)⌝ ∗ own25 c V25 ∗ own23 c (stack (W := 512) (R := 8192) (D := 64) (by decide) Q23 : S8192x64.Idx → Elt F .f32) ∗ own24 c (stack (W := 512) (R := 8192) (D := 64) (by decide) Q24 : S8192x64.Idx → Elt F .f32) ∗ own22 c (stack (W := 512) (R := 8192) (D := 64) (by decide) Q22 : S8192x64.Idx → Elt F .f32) ∗ scrD29 c XDU V25 (k + 1) ∗ (∃ W, owes (c : Thread nD τ) 0 W) ∗ ringDU c XDU (k + 1) ∗ ringDN c XDN (k + 1) ∗ ringDI c ODI (finDI c XDU XDN V25 Q23 Q24 Q22) (outD_DI c XDU XDN V25 Q23 Q24 Q22) (k + 1) ∗ ringDT c ODT (finDT c XDU V25 Q23 Q24) (outD_DT c XDU V25 Q23 Q24) (k + 1))) := by
  have hlt : k.val < 16 := k.isLt
  have hk : k.val < 15 := by omega
  have hk8 : k.val + 1 < 16 := by omega
  have hk1 : ¬ 1 ≤ k.val := by omega
  have h68 := cond68_pos k hk
  have h69 := cond69_pos k hk
  have h73 := cond73_pos k
  have h74 := cond74_pos k
  have h86 := cond86_pos k
  have h87 := cond87_pos k
  have h94 := cond94_neg k hk1
  have h95 := cond95_neg k hk1
  have c25 := chk25_ok k
  have c24 := chk24_ok k
  have c23 := chk23_ok k
  have c22 := chk22_ok k
  have c21 := chk21_ok k
  unfold ringDU ringDN ring0DI ring0DT scrD29 ringDI ringDT
  rw [outDU c XDU k hk8, inDU c XDU k hk8]
  rw [outDN c XDN k hk8, inDN c XDN k hk8]
  rw [outDI c ODI (finDI c XDU XDN V25 Q23 Q24 Q22) k hlt, in0DI c ODI (finDI c XDU XDN V25 Q23 Q24 Q22) k hk0]
  rw [outDT c ODT (finDT c XDU V25 Q23 Q24) k hlt, in0DT c ODT (finDT c XDU V25 Q23 Q24) k hk0]
  rw [Nat.add_sub_cancel]
  rw [Ring.sl_add]
  iintro ⟨H25, H23, H24, H22, ⟨%f29, %hU29, H29⟩, ⟨%W, HW⟩, ⟨⟨HbDU, HrDU⟩, ⟨%fDU, HFDU⟩, ⟨%sDU, HsDU⟩, HcDU⟩, ⟨⟨HbDN, HrDN⟩, ⟨%fDN, HFDN⟩, ⟨%sDN, HsDN⟩, HcDN⟩, ⟨⟨HbDI, HrDI⟩, ⟨%sDI, HsDI⟩, HcDI, ⟨%zDI, HzDI⟩, HyDI⟩, ⟨⟨HbDT, HrDT⟩, ⟨%sDT, HsDT⟩, HcDT, ⟨%zDT, HzDT⟩, HyDT⟩⟩
  dsimp only [tripD, accD]
  sl_unfold [k0_t4_body]
  sl_exec_parts
  sl_step
  isplitr
  · ipureintro; clear * - k; unfold outDw; refine Prod.ext ?_ (Prod.ext ?_ (Prod.ext ?_ (Prod.ext ?_ (Prod.ext ?_ (Prod.ext ?_ (Prod.ext ?_ (Prod.ext ?_ ?_))))))) <;> (revert k; decide)
  isplitl [H25]
  · iexact H25
  isplitl [H23]
  · iexact H23
  isplitl [H24]
  · iexact H24
  isplitl [H22]
  · iexact H22
  isplitl [H29]
  · iexists _
    isplitr
    rotate_left
    · iexact H29
    · ipureintro; exact upTo_succ (by decide) a29.view _ k.val f29 _ (off121_eq k) (valD_29 (shapeCast S512x4096 (View.readAt (Elt F) (Memref.whole cc0_scoped22 : Memref sig .tc .vmem S2x512x4096 .f32).view (Rect.unit (s := S2x512x4096) (k0_off116 (w32 k.val)) S1x512x4096.size (by rw [off116_eq k]; exact slotInbDU _)).toLoadRect ((slotDU (Ring.sl 2 k.val)).view.writes (Elt F) (slotDU (Ring.sl 2 k.val)).view.junk [⟨Rect.whole S512x4096, (blkDU (Ring.bk 16 k.val)).view.read (Elt F) XDU⟩])) shapeCasts_S1x512x4096_S512x4096) (full25 c V25)) (by unfold outD_29; rw [loadDU (Ring.sl 2 k.val) (off116_eq k), full25_eq]) hU29
  isplitl [HW]
  · iexists _; iexact HW
  isplitl [HrDU HFDU_src HFDU_dst HFDU HcDU]
  · isplitl [HFDU_src HrDU]
    · isplitl [HFDU_src]; · iexact HFDU_src
      iexact HrDU
    isplitl [HcDU]; · iexists sDU; iexact HcDU
    isplitl [HFDU_dst]; · iexists _; iexact HFDU_dst
    iexact HFDU
  isplitl [HrDN HFDN_src HFDN_dst HFDN HcDN]
  · isplitl [HFDN_src HrDN]
    · isplitl [HFDN_src]; · iexact HFDN_src
      iexact HrDN
    isplitl [HcDN]; · iexists sDN; iexact HcDN
    isplitl [HFDN_dst]; · iexists _; iexact HFDN_dst
    iexact HFDN
  isplitl [HrDI HcDI HzDI HyDI]
  · isplitl [HrDI]; · iexact HrDI
    isplitl [HzDI]; · iexists _; iexact HzDI
    isplitl [HyDI]; · iexact HyDI
    iexists _
    isplitr
    rotate_left
    · iexact HcDI
    · ipureintro; refine (storeDI (F := F) (Ring.sl 2 k.val) (off119_eq k) (by rw [off119_eq k]; exact slotInbDI _) shapeCasts_S512x64_S1x512x64 sDI (valD_DI (shapeCast S512x4096 (View.readAt (Elt F) (Memref.whole cc0_scoped22 : Memref sig .tc .vmem S2x512x4096 .f32).view (Rect.unit (s := S2x512x4096) (k0_off116 (w32 k.val)) S1x512x4096.size (by rw [off116_eq k]; exact slotInbDU _)).toLoadRect ((slotDU (Ring.sl 2 k.val)).view.writes (Elt F) (slotDU (Ring.sl 2 k.val)).view.junk [⟨Rect.whole S512x4096, (blkDU (Ring.bk 16 k.val)).view.read (Elt F) XDU⟩])) shapeCasts_S1x512x4096_S512x4096) (full25 c V25) (View.readAt (Elt F) a23.view (Rect.unit (s := S8192x64) (k0_off117 (w32 k.val)) S512x64.size (by rw [off117_eq k]; exact rowsInb (N := 16) hlt)).toLoadRect (stack (W := 512) (R := 8192) (D := 64) (by decide) Q23 : S8192x64.Idx → Elt F .f32)) (View.readAt (Elt F) a24.view (Rect.unit (s := S8192x64) (k0_off117 (w32 k.val)) S512x64.size (by rw [off117_eq k]; exact rowsInb (N := 16) hlt)).toLoadRect (stack (W := 512) (R := 8192) (D := 64) (by decide) Q24 : S8192x64.Idx → Elt F .f32)) (shapeCast S512x64 (View.readAt (Elt F) (Memref.whole cc0_scoped24 : Memref sig .tc .vmem S2x512x64 .f32).view (Rect.unit (s := S2x512x64) (k0_off118 (w32 k.val)) S1x512x64.size (by rw [off118_eq k]; exact slotInbDN _)).toLoadRect ((slotDN (Ring.sl 2 k.val)).view.writes (Elt F) (slotDN (Ring.sl 2 k.val)).view.junk [⟨Rect.whole S512x64, (blkDN (Ring.bk 16 k.val)).view.read (Elt F) XDN⟩])) shapeCasts_S1x512x64_S512x64) (View.readAt (Elt F) a22.view (Rect.unit (s := S8192x64) (k0_off117 (w32 k.val)) S512x64.size (by rw [off117_eq k]; exact rowsInb (N := 16) hlt)).toLoadRect (stack (W := 512) (R := 8192) (D := 64) (by decide) Q22 : S8192x64.Idx → Elt F .f32)))).trans ?_
      unfold outD_DI; rw [loadDU (Ring.sl 2 k.val) (off116_eq k), full25_eq, loadRows (Val := Elt F) (W := 512) (R := 8192) (D := 64) (by decide) a23.view Q23 k.val (stack (W := 512) (R := 8192) (D := 64) (by decide) Q23 : S8192x64.Idx → Elt F .f32) rfl (off117_eq k), loadRows (Val := Elt F) (W := 512) (R := 8192) (D := 64) (by decide) a24.view Q24 k.val (stack (W := 512) (R := 8192) (D := 64) (by decide) Q24 : S8192x64.Idx → Elt F .f32) rfl (off117_eq k), loadDN (Ring.sl 2 k.val) (off118_eq k), loadRows (Val := Elt F) (W := 512) (R := 8192) (D := 64) (by decide) a22.view Q22 k.val (stack (W := 512) (R := 8192) (D := 64) (by decide) Q22 : S8192x64.Idx → Elt F .f32) rfl (off117_eq k)]
  isplitl [HrDT]; · iexact HrDT
  isplitl [HzDT]; · iexists _; iexact HzDT
  isplitl [HyDT]; · iexact HyDT
  iexists _
  isplitr
  rotate_left
  · iexact HcDT
  · ipureintro; refine (storeDT (F := F) (Ring.sl 2 k.val) (off120_eq k) (by rw [off120_eq k]; exact slotInbDT _) shapeCasts_S512x64_S1x512x64 sDT (valD_DT (shapeCast S512x4096 (View.readAt (Elt F) (Memref.whole cc0_scoped22 : Memref sig .tc .vmem S2x512x4096 .f32).view (Rect.unit (s := S2x512x4096) (k0_off116 (w32 k.val)) S1x512x4096.size (by rw [off116_eq k]; exact slotInbDU _)).toLoadRect ((slotDU (Ring.sl 2 k.val)).view.writes (Elt F) (slotDU (Ring.sl 2 k.val)).view.junk [⟨Rect.whole S512x4096, (blkDU (Ring.bk 16 k.val)).view.read (Elt F) XDU⟩])) shapeCasts_S1x512x4096_S512x4096) (full25 c V25) (View.readAt (Elt F) a23.view (Rect.unit (s := S8192x64) (k0_off117 (w32 k.val)) S512x64.size (by rw [off117_eq k]; exact rowsInb (N := 16) hlt)).toLoadRect (stack (W := 512) (R := 8192) (D := 64) (by decide) Q23 : S8192x64.Idx → Elt F .f32)) (View.readAt (Elt F) a24.view (Rect.unit (s := S8192x64) (k0_off117 (w32 k.val)) S512x64.size (by rw [off117_eq k]; exact rowsInb (N := 16) hlt)).toLoadRect (stack (W := 512) (R := 8192) (D := 64) (by decide) Q24 : S8192x64.Idx → Elt F .f32)))).trans ?_
    unfold outD_DT; rw [loadDU (Ring.sl 2 k.val) (off116_eq k), full25_eq, loadRows (Val := Elt F) (W := 512) (R := 8192) (D := 64) (by decide) a23.view Q23 k.val (stack (W := 512) (R := 8192) (D := 64) (by decide) Q23 : S8192x64.Idx → Elt F .f32) rfl (off117_eq k), loadRows (Val := Elt F) (W := 512) (R := 8192) (D := 64) (by decide) a24.view Q24 k.val (stack (W := 512) (R := 8192) (D := 64) (by decide) Q24 : S8192x64.Idx → Elt F .f32) rfl (off117_eq k)]

set_option maxHeartbeats 4000000 in
theorem runD_mid (k : T4) (hk0 : 1 ≤ k.val ∧ k.val < 15) :
    iprop(own25 c V25 ∗ own23 c (stack (W := 512) (R := 8192) (D := 64) (by decide) Q23 : S8192x64.Idx → Elt F .f32) ∗ own24 c (stack (W := 512) (R := 8192) (D := 64) (by decide) Q24 : S8192x64.Idx → Elt F .f32) ∗ own22 c (stack (W := 512) (R := 8192) (D := 64) (by decide) Q22 : S8192x64.Idx → Elt F .f32) ∗ scrD29 c XDU V25 k ∗ (∃ W, owes (c : Thread nD τ) 0 W) ∗ ringDU c XDU k ∗ ringDN c XDN k ∗ ringDI c ODI (finDI c XDU XDN V25 Q23 Q24 Q22) (outD_DI c XDU XDN V25 Q23 Q24 Q22) k ∗ ringDT c ODT (finDT c XDU V25 Q23 Q24) (outD_DT c XDU V25 Q23 Q24) k)
      ⊢ wp frame (wpE (defs₀ (F := F)) 𝒱₀ (c : Thread nD τ) none) Set.univ (tripD arg6 harg6 arg7 harg7 arg8 harg8 arg9 harg9 v23 k (accD k))
        (fun acc => iprop(⌜acc = outDw (k.val + 1)⌝ ∗ own25 c V25 ∗ own23 c (stack (W := 512) (R := 8192) (D := 64) (by decide) Q23 : S8192x64.Idx → Elt F .f32) ∗ own24 c (stack (W := 512) (R := 8192) (D := 64) (by decide) Q24 : S8192x64.Idx → Elt F .f32) ∗ own22 c (stack (W := 512) (R := 8192) (D := 64) (by decide) Q22 : S8192x64.Idx → Elt F .f32) ∗ scrD29 c XDU V25 (k + 1) ∗ (∃ W, owes (c : Thread nD τ) 0 W) ∗ ringDU c XDU (k + 1) ∗ ringDN c XDN (k + 1) ∗ ringDI c ODI (finDI c XDU XDN V25 Q23 Q24 Q22) (outD_DI c XDU XDN V25 Q23 Q24 Q22) (k + 1) ∗ ringDT c ODT (finDT c XDU V25 Q23 Q24) (outD_DT c XDU V25 Q23 Q24) (k + 1))) := by
  have hlt : k.val < 16 := k.isLt
  have hk : k.val < 15 := by omega
  have hk8 : k.val + 1 < 16 := by omega
  have hk1 : 1 ≤ k.val := by omega
  have h68 := cond68_pos k hk
  have h69 := cond69_pos k hk
  have h73 := cond73_pos k
  have h74 := cond74_pos k
  have h86 := cond86_pos k
  have h87 := cond87_pos k
  have h94 := cond94_pos k hk1
  have h95 := cond95_pos k hk1
  have c25 := chk25_ok k
  have c24 := chk24_ok k
  have c23 := chk23_ok k
  have c22 := chk22_ok k
  have c21 := chk21_ok k
  unfold ringDU ringDN ringDI ringDT scrD29
  rw [outDU c XDU k hk8, inDU c XDU k hk8]
  rw [outDN c XDN k hk8, inDN c XDN k hk8]
  rw [outDI c ODI (finDI c XDU XDN V25 Q23 Q24 Q22) k hlt, inDI c ODI (finDI c XDU XDN V25 Q23 Q24 Q22) k hlt hk1]
  rw [outDT c ODT (finDT c XDU V25 Q23 Q24) k hlt, inDT c ODT (finDT c XDU V25 Q23 Q24) k hlt hk1]
  rw [Nat.add_sub_cancel]
  rw [Ring.sl_add]
  iintro ⟨H25, H23, H24, H22, ⟨%f29, %hU29, H29⟩, ⟨%W, HW⟩, ⟨⟨HbDU, HrDU⟩, ⟨%fDU, HFDU⟩, ⟨%sDU, HsDU⟩, HcDU⟩, ⟨⟨HbDN, HrDN⟩, ⟨%fDN, HFDN⟩, ⟨%sDN, HsDN⟩, HcDN⟩, ⟨⟨HbDI, HrDI⟩, ⟨%sDI, HsDI⟩, HcDI, ⟨%gDI, %hgDI, HFDI⟩⟩, ⟨⟨HbDT, HrDT⟩, ⟨%sDT, HsDT⟩, HcDT, ⟨%gDT, %hgDT, HFDT⟩⟩⟩
  dsimp only [tripD, accD]
  sl_unfold [k0_t4_body]
  sl_exec_parts
  sl_step
  isplitr
  · ipureintro; clear * - k; unfold outDw; refine Prod.ext ?_ (Prod.ext ?_ (Prod.ext ?_ (Prod.ext ?_ (Prod.ext ?_ (Prod.ext ?_ (Prod.ext ?_ (Prod.ext ?_ ?_))))))) <;> (revert k; decide)
  isplitl [H25]
  · iexact H25
  isplitl [H23]
  · iexact H23
  isplitl [H24]
  · iexact H24
  isplitl [H22]
  · iexact H22
  isplitl [H29]
  · iexists _
    isplitr
    rotate_left
    · iexact H29
    · ipureintro; exact upTo_succ (by decide) a29.view _ k.val f29 _ (off121_eq k) (valD_29 (shapeCast S512x4096 (View.readAt (Elt F) (Memref.whole cc0_scoped22 : Memref sig .tc .vmem S2x512x4096 .f32).view (Rect.unit (s := S2x512x4096) (k0_off116 (w32 k.val)) S1x512x4096.size (by rw [off116_eq k]; exact slotInbDU _)).toLoadRect ((slotDU (Ring.sl 2 k.val)).view.writes (Elt F) (slotDU (Ring.sl 2 k.val)).view.junk [⟨Rect.whole S512x4096, (blkDU (Ring.bk 16 k.val)).view.read (Elt F) XDU⟩])) shapeCasts_S1x512x4096_S512x4096) (full25 c V25)) (by unfold outD_29; rw [loadDU (Ring.sl 2 k.val) (off116_eq k), full25_eq]) hU29
  isplitl [HW]
  · iexists _; iexact HW
  isplitl [HrDU HFDU_src HFDU_dst HFDU HcDU]
  · isplitl [HFDU_src HrDU]
    · isplitl [HFDU_src]; · iexact HFDU_src
      iexact HrDU
    isplitl [HcDU]; · iexists sDU; iexact HcDU
    isplitl [HFDU_dst]; · iexists _; iexact HFDU_dst
    iexact HFDU
  isplitl [HrDN HFDN_src HFDN_dst HFDN HcDN]
  · isplitl [HFDN_src HrDN]
    · isplitl [HFDN_src]; · iexact HFDN_src
      iexact HrDN
    isplitl [HcDN]; · iexists sDN; iexact HcDN
    isplitl [HFDN_dst]; · iexists _; iexact HFDN_dst
    iexact HFDN
  isplitl [HrDI HFDI_src HFDI_dst HFDI HcDI]
  · isplitl [HFDI_dst HrDI]
    · isplitl [HFDI_dst]
      · iapply (entails_of_eq (doneDI c ODI _ (Ring.sl 2 (k.val - 1)) (k.val - 1) (by omega) gDI (outD_DI c XDU XDN V25 Q23 Q24 Q22) rfl hgDI)); iexact HFDI_dst
      · iexact HrDI
    rw [Ring.sl2_succ_eq_pred k.val hk1]
    isplitl [HFDI_src]; · iexists _; iexact HFDI_src
    isplitl [HFDI]; · iexact HFDI
    iexists _
    isplitr
    rotate_left
    · iexact HcDI
    · ipureintro; refine (storeDI (F := F) (Ring.sl 2 k.val) (off119_eq k) (by rw [off119_eq k]; exact slotInbDI _) shapeCasts_S512x64_S1x512x64 sDI (valD_DI (shapeCast S512x4096 (View.readAt (Elt F) (Memref.whole cc0_scoped22 : Memref sig .tc .vmem S2x512x4096 .f32).view (Rect.unit (s := S2x512x4096) (k0_off116 (w32 k.val)) S1x512x4096.size (by rw [off116_eq k]; exact slotInbDU _)).toLoadRect ((slotDU (Ring.sl 2 k.val)).view.writes (Elt F) (slotDU (Ring.sl 2 k.val)).view.junk [⟨Rect.whole S512x4096, (blkDU (Ring.bk 16 k.val)).view.read (Elt F) XDU⟩])) shapeCasts_S1x512x4096_S512x4096) (full25 c V25) (View.readAt (Elt F) a23.view (Rect.unit (s := S8192x64) (k0_off117 (w32 k.val)) S512x64.size (by rw [off117_eq k]; exact rowsInb (N := 16) hlt)).toLoadRect (stack (W := 512) (R := 8192) (D := 64) (by decide) Q23 : S8192x64.Idx → Elt F .f32)) (View.readAt (Elt F) a24.view (Rect.unit (s := S8192x64) (k0_off117 (w32 k.val)) S512x64.size (by rw [off117_eq k]; exact rowsInb (N := 16) hlt)).toLoadRect (stack (W := 512) (R := 8192) (D := 64) (by decide) Q24 : S8192x64.Idx → Elt F .f32)) (shapeCast S512x64 (View.readAt (Elt F) (Memref.whole cc0_scoped24 : Memref sig .tc .vmem S2x512x64 .f32).view (Rect.unit (s := S2x512x64) (k0_off118 (w32 k.val)) S1x512x64.size (by rw [off118_eq k]; exact slotInbDN _)).toLoadRect ((slotDN (Ring.sl 2 k.val)).view.writes (Elt F) (slotDN (Ring.sl 2 k.val)).view.junk [⟨Rect.whole S512x64, (blkDN (Ring.bk 16 k.val)).view.read (Elt F) XDN⟩])) shapeCasts_S1x512x64_S512x64) (View.readAt (Elt F) a22.view (Rect.unit (s := S8192x64) (k0_off117 (w32 k.val)) S512x64.size (by rw [off117_eq k]; exact rowsInb (N := 16) hlt)).toLoadRect (stack (W := 512) (R := 8192) (D := 64) (by decide) Q22 : S8192x64.Idx → Elt F .f32)))).trans ?_
      unfold outD_DI; rw [loadDU (Ring.sl 2 k.val) (off116_eq k), full25_eq, loadRows (Val := Elt F) (W := 512) (R := 8192) (D := 64) (by decide) a23.view Q23 k.val (stack (W := 512) (R := 8192) (D := 64) (by decide) Q23 : S8192x64.Idx → Elt F .f32) rfl (off117_eq k), loadRows (Val := Elt F) (W := 512) (R := 8192) (D := 64) (by decide) a24.view Q24 k.val (stack (W := 512) (R := 8192) (D := 64) (by decide) Q24 : S8192x64.Idx → Elt F .f32) rfl (off117_eq k), loadDN (Ring.sl 2 k.val) (off118_eq k), loadRows (Val := Elt F) (W := 512) (R := 8192) (D := 64) (by decide) a22.view Q22 k.val (stack (W := 512) (R := 8192) (D := 64) (by decide) Q22 : S8192x64.Idx → Elt F .f32) rfl (off117_eq k)]
  isplitl [HFDT_dst HrDT]
  · isplitl [HFDT_dst]
    · iapply (entails_of_eq (doneDT c ODT _ (Ring.sl 2 (k.val - 1)) (k.val - 1) (by omega) gDT (outD_DT c XDU V25 Q23 Q24) rfl hgDT)); iexact HFDT_dst
    · iexact HrDT
  rw [Ring.sl2_succ_eq_pred k.val hk1]
  isplitl [HFDT_src]; · iexists _; iexact HFDT_src
  isplitl [HFDT]; · iexact HFDT
  iexists _
  isplitr
  rotate_left
  · iexact HcDT
  · ipureintro; refine (storeDT (F := F) (Ring.sl 2 k.val) (off120_eq k) (by rw [off120_eq k]; exact slotInbDT _) shapeCasts_S512x64_S1x512x64 sDT (valD_DT (shapeCast S512x4096 (View.readAt (Elt F) (Memref.whole cc0_scoped22 : Memref sig .tc .vmem S2x512x4096 .f32).view (Rect.unit (s := S2x512x4096) (k0_off116 (w32 k.val)) S1x512x4096.size (by rw [off116_eq k]; exact slotInbDU _)).toLoadRect ((slotDU (Ring.sl 2 k.val)).view.writes (Elt F) (slotDU (Ring.sl 2 k.val)).view.junk [⟨Rect.whole S512x4096, (blkDU (Ring.bk 16 k.val)).view.read (Elt F) XDU⟩])) shapeCasts_S1x512x4096_S512x4096) (full25 c V25) (View.readAt (Elt F) a23.view (Rect.unit (s := S8192x64) (k0_off117 (w32 k.val)) S512x64.size (by rw [off117_eq k]; exact rowsInb (N := 16) hlt)).toLoadRect (stack (W := 512) (R := 8192) (D := 64) (by decide) Q23 : S8192x64.Idx → Elt F .f32)) (View.readAt (Elt F) a24.view (Rect.unit (s := S8192x64) (k0_off117 (w32 k.val)) S512x64.size (by rw [off117_eq k]; exact rowsInb (N := 16) hlt)).toLoadRect (stack (W := 512) (R := 8192) (D := 64) (by decide) Q24 : S8192x64.Idx → Elt F .f32)))).trans ?_
    unfold outD_DT; rw [loadDU (Ring.sl 2 k.val) (off116_eq k), full25_eq, loadRows (Val := Elt F) (W := 512) (R := 8192) (D := 64) (by decide) a23.view Q23 k.val (stack (W := 512) (R := 8192) (D := 64) (by decide) Q23 : S8192x64.Idx → Elt F .f32) rfl (off117_eq k), loadRows (Val := Elt F) (W := 512) (R := 8192) (D := 64) (by decide) a24.view Q24 k.val (stack (W := 512) (R := 8192) (D := 64) (by decide) Q24 : S8192x64.Idx → Elt F .f32) rfl (off117_eq k)]

set_option maxHeartbeats 4000000 in
theorem runD_last (k : T4) (hk0 : ¬ k.val < 15) :
    iprop(own25 c V25 ∗ own23 c (stack (W := 512) (R := 8192) (D := 64) (by decide) Q23 : S8192x64.Idx → Elt F .f32) ∗ own24 c (stack (W := 512) (R := 8192) (D := 64) (by decide) Q24 : S8192x64.Idx → Elt F .f32) ∗ own22 c (stack (W := 512) (R := 8192) (D := 64) (by decide) Q22 : S8192x64.Idx → Elt F .f32) ∗ scrD29 c XDU V25 k ∗ (∃ W, owes (c : Thread nD τ) 0 W) ∗ ringDU c XDU k ∗ ringDN c XDN k ∗ ringDI c ODI (finDI c XDU XDN V25 Q23 Q24 Q22) (outD_DI c XDU XDN V25 Q23 Q24 Q22) k ∗ ringDT c ODT (finDT c XDU V25 Q23 Q24) (outD_DT c XDU V25 Q23 Q24) k)
      ⊢ wp frame (wpE (defs₀ (F := F)) 𝒱₀ (c : Thread nD τ) none) Set.univ (tripD arg6 harg6 arg7 harg7 arg8 harg8 arg9 harg9 v23 k (accD k))
        (fun acc => iprop(⌜acc = outDw (k.val + 1)⌝ ∗ own25 c V25 ∗ own23 c (stack (W := 512) (R := 8192) (D := 64) (by decide) Q23 : S8192x64.Idx → Elt F .f32) ∗ own24 c (stack (W := 512) (R := 8192) (D := 64) (by decide) Q24 : S8192x64.Idx → Elt F .f32) ∗ own22 c (stack (W := 512) (R := 8192) (D := 64) (by decide) Q22 : S8192x64.Idx → Elt F .f32) ∗ scrD29 c XDU V25 (k + 1) ∗ (∃ W, owes (c : Thread nD τ) 0 W) ∗ ringEndDU c XDU k ∗ ringEndDN c XDN k ∗ ringDI c ODI (finDI c XDU XDN V25 Q23 Q24 Q22) (outD_DI c XDU XDN V25 Q23 Q24 Q22) (k + 1) ∗ ringDT c ODT (finDT c XDU V25 Q23 Q24) (outD_DT c XDU V25 Q23 Q24) (k + 1))) := by
  have hlt : k.val < 16 := k.isLt
  have hkl : k.val = 15 := by omega
  have hk : ¬ k.val < 15 := hk0
  have hk1 : 1 ≤ k.val := by omega
  have h68 := cond68_neg k hk
  have h69 := cond69_neg k hk
  have h73 := cond73_pos k
  have h74 := cond74_pos k
  have h86 := cond86_pos k
  have h87 := cond87_pos k
  have h94 := cond94_pos k hk1
  have h95 := cond95_pos k hk1
  have c25 := chk25_ok k
  have c24 := chk24_ok k
  have c23 := chk23_ok k
  have c22 := chk22_ok k
  have c21 := chk21_ok k
  unfold ringDU ringDN ringDI ringDT scrD29 ringEndDU ringEndDN
  rw [endDU c XDU k hkl]
  rw [endDN c XDN k hkl]
  rw [outDI c ODI (finDI c XDU XDN V25 Q23 Q24 Q22) k hlt, inDI c ODI (finDI c XDU XDN V25 Q23 Q24 Q22) k hlt hk1]
  rw [outDT c ODT (finDT c XDU V25 Q23 Q24) k hlt, inDT c ODT (finDT c XDU V25 Q23 Q24) k hlt hk1]
  rw [Nat.add_sub_cancel]
  iintro ⟨H25, H23, H24, H22, ⟨%f29, %hU29, H29⟩, ⟨%W, HW⟩, ⟨HrDU, ⟨%fDU, HFDU⟩, ⟨%sDU, HsDU⟩, HcDU⟩, ⟨HrDN, ⟨%fDN, HFDN⟩, ⟨%sDN, HsDN⟩, HcDN⟩, ⟨⟨HbDI, HrDI⟩, ⟨%sDI, HsDI⟩, HcDI, ⟨%gDI, %hgDI, HFDI⟩⟩, ⟨⟨HbDT, HrDT⟩, ⟨%sDT, HsDT⟩, HcDT, ⟨%gDT, %hgDT, HFDT⟩⟩⟩
  dsimp only [tripD, accD]
  sl_unfold [k0_t4_body]
  sl_exec_parts
  sl_step
  isplitr
  · ipureintro; clear * - k; unfold outDw; refine Prod.ext ?_ (Prod.ext ?_ (Prod.ext ?_ (Prod.ext ?_ (Prod.ext ?_ (Prod.ext ?_ (Prod.ext ?_ (Prod.ext ?_ ?_))))))) <;> (revert k; decide)
  isplitl [H25]
  · iexact H25
  isplitl [H23]
  · iexact H23
  isplitl [H24]
  · iexact H24
  isplitl [H22]
  · iexact H22
  isplitl [H29]
  · iexists _
    isplitr
    rotate_left
    · iexact H29
    · ipureintro; exact upTo_succ (by decide) a29.view _ k.val f29 _ (off121_eq k) (valD_29 (shapeCast S512x4096 (View.readAt (Elt F) (Memref.whole cc0_scoped22 : Memref sig .tc .vmem S2x512x4096 .f32).view (Rect.unit (s := S2x512x4096) (k0_off116 (w32 k.val)) S1x512x4096.size (by rw [off116_eq k]; exact slotInbDU _)).toLoadRect ((slotDU (Ring.sl 2 k.val)).view.writes (Elt F) (slotDU (Ring.sl 2 k.val)).view.junk [⟨Rect.whole S512x4096, (blkDU (Ring.bk 16 k.val)).view.read (Elt F) XDU⟩])) shapeCasts_S1x512x4096_S512x4096) (full25 c V25)) (by unfold outD_29; rw [loadDU (Ring.sl 2 k.val) (off116_eq k), full25_eq]) hU29
  isplitl [HW]
  · iexists _; iexact HW
  isplitl [HrDU HFDU_src HFDU_dst HFDU HcDU HsDU]
  · isplitl [HFDU_src HrDU]
    · isplitl [HFDU_src]; · iexact HFDU_src
      iexact HrDU
    isplitl [HFDU_dst]; · iexists _; iexact HFDU_dst
    isplitl [HsDU]; · iexists _; iexact HsDU
    isplitl [HFDU]; · iexact HFDU
    iexact HcDU
  isplitl [HrDN HFDN_src HFDN_dst HFDN HcDN HsDN]
  · isplitl [HFDN_src HrDN]
    · isplitl [HFDN_src]; · iexact HFDN_src
      iexact HrDN
    isplitl [HFDN_dst]; · iexists _; iexact HFDN_dst
    isplitl [HsDN]; · iexists _; iexact HsDN
    isplitl [HFDN]; · iexact HFDN
    iexact HcDN
  isplitl [HrDI HFDI_src HFDI_dst HFDI HcDI]
  · isplitl [HFDI_dst HrDI]
    · isplitl [HFDI_dst]
      · iapply (entails_of_eq (doneDI c ODI _ (Ring.sl 2 (k.val - 1)) (k.val - 1) (by omega) gDI (outD_DI c XDU XDN V25 Q23 Q24 Q22) rfl hgDI)); iexact HFDI_dst
      · iexact HrDI
    rw [Ring.sl2_succ_eq_pred k.val hk1]
    isplitl [HFDI_src]; · iexists _; iexact HFDI_src
    isplitl [HFDI]; · iexact HFDI
    iexists _
    isplitr
    rotate_left
    · iexact HcDI
    · ipureintro; refine (storeDI (F := F) (Ring.sl 2 k.val) (off119_eq k) (by rw [off119_eq k]; exact slotInbDI _) shapeCasts_S512x64_S1x512x64 sDI (valD_DI (shapeCast S512x4096 (View.readAt (Elt F) (Memref.whole cc0_scoped22 : Memref sig .tc .vmem S2x512x4096 .f32).view (Rect.unit (s := S2x512x4096) (k0_off116 (w32 k.val)) S1x512x4096.size (by rw [off116_eq k]; exact slotInbDU _)).toLoadRect ((slotDU (Ring.sl 2 k.val)).view.writes (Elt F) (slotDU (Ring.sl 2 k.val)).view.junk [⟨Rect.whole S512x4096, (blkDU (Ring.bk 16 k.val)).view.read (Elt F) XDU⟩])) shapeCasts_S1x512x4096_S512x4096) (full25 c V25) (View.readAt (Elt F) a23.view (Rect.unit (s := S8192x64) (k0_off117 (w32 k.val)) S512x64.size (by rw [off117_eq k]; exact rowsInb (N := 16) hlt)).toLoadRect (stack (W := 512) (R := 8192) (D := 64) (by decide) Q23 : S8192x64.Idx → Elt F .f32)) (View.readAt (Elt F) a24.view (Rect.unit (s := S8192x64) (k0_off117 (w32 k.val)) S512x64.size (by rw [off117_eq k]; exact rowsInb (N := 16) hlt)).toLoadRect (stack (W := 512) (R := 8192) (D := 64) (by decide) Q24 : S8192x64.Idx → Elt F .f32)) (shapeCast S512x64 (View.readAt (Elt F) (Memref.whole cc0_scoped24 : Memref sig .tc .vmem S2x512x64 .f32).view (Rect.unit (s := S2x512x64) (k0_off118 (w32 k.val)) S1x512x64.size (by rw [off118_eq k]; exact slotInbDN _)).toLoadRect ((slotDN (Ring.sl 2 k.val)).view.writes (Elt F) (slotDN (Ring.sl 2 k.val)).view.junk [⟨Rect.whole S512x64, (blkDN (Ring.bk 16 k.val)).view.read (Elt F) XDN⟩])) shapeCasts_S1x512x64_S512x64) (View.readAt (Elt F) a22.view (Rect.unit (s := S8192x64) (k0_off117 (w32 k.val)) S512x64.size (by rw [off117_eq k]; exact rowsInb (N := 16) hlt)).toLoadRect (stack (W := 512) (R := 8192) (D := 64) (by decide) Q22 : S8192x64.Idx → Elt F .f32)))).trans ?_
      unfold outD_DI; rw [loadDU (Ring.sl 2 k.val) (off116_eq k), full25_eq, loadRows (Val := Elt F) (W := 512) (R := 8192) (D := 64) (by decide) a23.view Q23 k.val (stack (W := 512) (R := 8192) (D := 64) (by decide) Q23 : S8192x64.Idx → Elt F .f32) rfl (off117_eq k), loadRows (Val := Elt F) (W := 512) (R := 8192) (D := 64) (by decide) a24.view Q24 k.val (stack (W := 512) (R := 8192) (D := 64) (by decide) Q24 : S8192x64.Idx → Elt F .f32) rfl (off117_eq k), loadDN (Ring.sl 2 k.val) (off118_eq k), loadRows (Val := Elt F) (W := 512) (R := 8192) (D := 64) (by decide) a22.view Q22 k.val (stack (W := 512) (R := 8192) (D := 64) (by decide) Q22 : S8192x64.Idx → Elt F .f32) rfl (off117_eq k)]
  isplitl [HFDT_dst HrDT]
  · isplitl [HFDT_dst]
    · iapply (entails_of_eq (doneDT c ODT _ (Ring.sl 2 (k.val - 1)) (k.val - 1) (by omega) gDT (outD_DT c XDU V25 Q23 Q24) rfl hgDT)); iexact HFDT_dst
    · iexact HrDT
  rw [Ring.sl2_succ_eq_pred k.val hk1]
  isplitl [HFDT_src]; · iexists _; iexact HFDT_src
  isplitl [HFDT]; · iexact HFDT
  iexists _
  isplitr
  rotate_left
  · iexact HcDT
  · ipureintro; refine (storeDT (F := F) (Ring.sl 2 k.val) (off120_eq k) (by rw [off120_eq k]; exact slotInbDT _) shapeCasts_S512x64_S1x512x64 sDT (valD_DT (shapeCast S512x4096 (View.readAt (Elt F) (Memref.whole cc0_scoped22 : Memref sig .tc .vmem S2x512x4096 .f32).view (Rect.unit (s := S2x512x4096) (k0_off116 (w32 k.val)) S1x512x4096.size (by rw [off116_eq k]; exact slotInbDU _)).toLoadRect ((slotDU (Ring.sl 2 k.val)).view.writes (Elt F) (slotDU (Ring.sl 2 k.val)).view.junk [⟨Rect.whole S512x4096, (blkDU (Ring.bk 16 k.val)).view.read (Elt F) XDU⟩])) shapeCasts_S1x512x4096_S512x4096) (full25 c V25) (View.readAt (Elt F) a23.view (Rect.unit (s := S8192x64) (k0_off117 (w32 k.val)) S512x64.size (by rw [off117_eq k]; exact rowsInb (N := 16) hlt)).toLoadRect (stack (W := 512) (R := 8192) (D := 64) (by decide) Q23 : S8192x64.Idx → Elt F .f32)) (View.readAt (Elt F) a24.view (Rect.unit (s := S8192x64) (k0_off117 (w32 k.val)) S512x64.size (by rw [off117_eq k]; exact rowsInb (N := 16) hlt)).toLoadRect (stack (W := 512) (R := 8192) (D := 64) (by decide) Q24 : S8192x64.Idx → Elt F .f32)))).trans ?_
    unfold outD_DT; rw [loadDU (Ring.sl 2 k.val) (off116_eq k), full25_eq, loadRows (Val := Elt F) (W := 512) (R := 8192) (D := 64) (by decide) a23.view Q23 k.val (stack (W := 512) (R := 8192) (D := 64) (by decide) Q23 : S8192x64.Idx → Elt F .f32) rfl (off117_eq k), loadRows (Val := Elt F) (W := 512) (R := 8192) (D := 64) (by decide) a24.view Q24 k.val (stack (W := 512) (R := 8192) (D := 64) (by decide) Q24 : S8192x64.Idx → Elt F .f32) rfl (off117_eq k)]

end Trip

end Cert.Proof.KI

end
-- ==== Proof.KI.LoopD.lean ====
/-
  Pipeline D as a whole: what holds between its trips, how it is entered and what it leaves.
-/
module

public import proofs.«01_k».proof.Proof.KI.D

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

/-- Both slots and both semaphores free. -/
def freeDU (c : Dev nD) : sProp 𝕄 :=
  iprop((∃ f, slotPDU c (Ring.sl 2 0) f) ∗ (∃ f, slotPDU c (Ring.sl 2 1) f) ∗ cellDU (F := F) c (Ring.sl 2 0) ∗ cellDU (F := F) c (Ring.sl 2 1))
theorem openDU (c : Dev nD) (X : Buf (Elt F) ((Memref.whole main_arg0 : Memref sig .tc .hbm _ _).view.loc (c : Thread nD τ))) :
    iprop(bigSep Finset.univ (homeDU c X) ∗ freeDU (F := F) c) ⊢ iprop(homeDU c X (Ring.bk 16 0) ∗ bigSep (Ring.homeSet 1 0) (homeDU c X)
      ∗ (∃ f, slotPDU c (Ring.sl 2 0) f) ∗ (∃ f, slotPDU c (Ring.sl 2 1) f) ∗ cellDU (F := F) c (Ring.sl 2 0) ∗ cellDU (F := F) c (Ring.sl 2 1)) := by
  have e : (Finset.univ : Finset (Fin 16)) = insert (Ring.bk 16 0) (Ring.homeSet (NB := 16) 1 0) := by decide
  have e' : bigSep Finset.univ (homeDU c X) = iprop(homeDU c X (Ring.bk 16 0) ∗ bigSep (Ring.homeSet 1 0) (homeDU c X)) := by
    rw [e, bigSep_insert (by decide)]; rfl
  unfold freeDU
  rw [e']
  iintro ⟨⟨H1, H2⟩, H3, H4, H5, H6⟩
  isplitl [H1]
  · iexact H1
  isplitl [H2]
  · iexact H2
  isplitl [H3]
  · iexact H3
  isplitl [H4]
  · iexact H4
  isplitl [H5]
  · iexact H5
  · iexact H6
theorem ringInDU (c : Dev nD) (X : Buf (Elt F) ((Memref.whole main_arg0 : Memref sig .tc .hbm _ _).view.loc (c : Thread nD τ))) :
    iprop(bigSep (Ring.homeSet 1 0) (homeDU c X) ∗ (∃ f, flightDU c X (Ring.sl 2 0) (Ring.bk 16 0) f)
      ∗ (∃ f, slotPDU c (Ring.sl 2 1) f) ∗ cellDU (F := F) c (Ring.sl 2 1)) ⊢ ringDU c X 0 := by
  unfold ringDU; exact .rfl
theorem ringOutDU (c : Dev nD) (X : Buf (Elt F) ((Memref.whole main_arg0 : Memref sig .tc .hbm _ _).view.loc (c : Thread nD τ))) :
    ringEndDU c X 15 ⊢ iprop(bigSep Finset.univ (homeDU c X) ∗ freeDU (F := F) c) := by
  unfold ringEndDU freeDU
  rw [show Ring.sl 2 15 = Ring.sl 2 1 from rfl, show Ring.sl 2 (15 + 1) = Ring.sl 2 0 from rfl]
  iintro ⟨H1, H2, H3, H4, H5⟩
  isplitl [H1]
  · iexact H1
  isplitl [H3]
  · iexact H3
  isplitl [H2]
  · iexact H2
  isplitl [H5]
  · iexact H5
  · iexact H4

/-- Both slots and both semaphores free. -/
def freeDN (c : Dev nD) : sProp 𝕄 :=
  iprop((∃ f, slotPDN c (Ring.sl 2 0) f) ∗ (∃ f, slotPDN c (Ring.sl 2 1) f) ∗ cellDN (F := F) c (Ring.sl 2 0) ∗ cellDN (F := F) c (Ring.sl 2 1))
theorem openDN (c : Dev nD) (X : Buf (Elt F) ((Memref.whole main_arg4 : Memref sig .tc .hbm _ _).view.loc (c : Thread nD τ))) :
    iprop(bigSep Finset.univ (homeDN c X) ∗ freeDN (F := F) c) ⊢ iprop(homeDN c X (Ring.bk 16 0) ∗ bigSep (Ring.homeSet 1 0) (homeDN c X)
      ∗ (∃ f, slotPDN c (Ring.sl 2 0) f) ∗ (∃ f, slotPDN c (Ring.sl 2 1) f) ∗ cellDN (F := F) c (Ring.sl 2 0) ∗ cellDN (F := F) c (Ring.sl 2 1)) := by
  have e : (Finset.univ : Finset (Fin 16)) = insert (Ring.bk 16 0) (Ring.homeSet (NB := 16) 1 0) := by decide
  have e' : bigSep Finset.univ (homeDN c X) = iprop(homeDN c X (Ring.bk 16 0) ∗ bigSep (Ring.homeSet 1 0) (homeDN c X)) := by
    rw [e, bigSep_insert (by decide)]; rfl
  unfold freeDN
  rw [e']
  iintro ⟨⟨H1, H2⟩, H3, H4, H5, H6⟩
  isplitl [H1]
  · iexact H1
  isplitl [H2]
  · iexact H2
  isplitl [H3]
  · iexact H3
  isplitl [H4]
  · iexact H4
  isplitl [H5]
  · iexact H5
  · iexact H6
theorem ringInDN (c : Dev nD) (X : Buf (Elt F) ((Memref.whole main_arg4 : Memref sig .tc .hbm _ _).view.loc (c : Thread nD τ))) :
    iprop(bigSep (Ring.homeSet 1 0) (homeDN c X) ∗ (∃ f, flightDN c X (Ring.sl 2 0) (Ring.bk 16 0) f)
      ∗ (∃ f, slotPDN c (Ring.sl 2 1) f) ∗ cellDN (F := F) c (Ring.sl 2 1)) ⊢ ringDN c X 0 := by
  unfold ringDN; exact .rfl
theorem ringOutDN (c : Dev nD) (X : Buf (Elt F) ((Memref.whole main_arg4 : Memref sig .tc .hbm _ _).view.loc (c : Thread nD τ))) :
    ringEndDN c X 15 ⊢ iprop(bigSep Finset.univ (homeDN c X) ∗ freeDN (F := F) c) := by
  unfold ringEndDN freeDN
  rw [show Ring.sl 2 15 = Ring.sl 2 1 from rfl, show Ring.sl 2 (15 + 1) = Ring.sl 2 0 from rfl]
  iintro ⟨H1, H2, H3, H4, H5⟩
  isplitl [H1]
  · iexact H1
  isplitl [H3]
  · iexact H3
  isplitl [H2]
  · iexact H2
  isplitl [H5]
  · iexact H5
  · iexact H4

/-- Both slots and both semaphores free. -/
def freeDI (c : Dev nD) : sProp 𝕄 :=
  iprop((∃ f, slotPDI c (Ring.sl 2 0) f) ∗ (∃ f, slotPDI c (Ring.sl 2 1) f) ∗ cellDI (F := F) c (Ring.sl 2 0) ∗ cellDI (F := F) c (Ring.sl 2 1))
theorem ringInDI (c : Dev nD) (X Y : Buf (Elt F) ((Memref.whole main_v22_0 : Memref sig .tc .hbm _ _).view.loc (c : Thread nD τ))) :
    iprop(bigSep Finset.univ (homeDI c X) ∗ freeDI (F := F) c) ⊢ ring0DI c X Y 0 := by
  have e : bigSep (Ring.homeSetB 1 0) (partDI c X Y 0) = bigSep Finset.univ (homeDI c X) := by
    rw [Ring.homeSetB_zero]
    exact bigSep_congr fun b _ => by unfold partDI; rw [if_neg (by omega)]
  unfold freeDI ring0DI
  rw [e]
  iintro ⟨H1, H2, H3, H4, H5⟩
  isplitl [H1]
  · iexact H1
  isplitl [H2]
  · iexact H2
  isplitl [H4]
  · iexact H4
  isplitl [H3]
  · iexact H3
  · iexact H5
theorem ringOutDI (c : Dev nD) (X Y : Buf (Elt F) ((Memref.whole main_v22_0 : Memref sig .tc .hbm _ _).view.loc (c : Thread nD τ))) (Q : ℕ → S512x64.Idx → Elt F .f32) :
    ringDI c X Y Q 16 ⊢ iprop(bigSep (Ring.homeSetB 1 16) (partDI c X Y 16) ∗ (∃ f, slotPDI c (Ring.sl 2 0) f) ∗ cellDI (F := F) c (Ring.sl 2 0)
      ∗ (∃ g, ⌜(slotDI (Ring.sl 2 1)).view.read (Elt F) g = Q 15⌝ ∗ flightDI c X (Ring.sl 2 1) (Ring.bk 16 15) g)) := by
  unfold ringDI; exact .rfl
theorem closeDI (c : Dev nD) (J X Y : Buf (Elt F) ((Memref.whole main_v22_0 : Memref sig .tc .hbm _ _).view.loc (c : Thread nD τ))) (Q : ℕ → S512x64.Idx → Elt F .f32) (g : Buf (Elt F) ((slotDI (Ring.sl 2 1)).view.loc (c : Thread nD τ)))
    (hY : Y = (stack (W := 512) (R := 8192) (D := 64) (by decide) Q : S8192x64.Idx → Elt F .f32)) (hg : (slotDI (Ring.sl 2 1)).view.read (Elt F) g = Q 15) :
    iprop(homeDI c ((blkDI (Ring.bk 16 15)).view.writes (Elt F) J [⟨Rect.whole S512x64, ReadAs.same.apply ((slotDI (Ring.sl 2 1)).view.read (Elt F) g)⟩]) (Ring.bk 16 15)
      ∗ bigSep (Ring.homeSetB 1 16) (partDI c X Y 16) ∗ (∃ f, slotPDI c (Ring.sl 2 0) f) ∗ slotPDI c (Ring.sl 2 1) g ∗ cellDI (F := F) c (Ring.sl 2 0) ∗ cellDI (F := F) c (Ring.sl 2 1))
      ⊢ iprop(bigSep Finset.univ (homeDI c Y) ∗ freeDI (F := F) c) := by
  rw [doneDI c J Y (Ring.sl 2 1) 15 (by decide) g Q hY hg]
  unfold freeDI
  iintro ⟨H1, H2, H3, H4, H5, H6⟩
  isplitl [H1 H2]
  · iapply (entails_of_eq (endDI c X Y 16 rfl).symm)
    isplitl [H1]
    · iexact H1
    · iexact H2
  isplitl [H3]
  · iexact H3
  isplitl [H4]
  · iexists g; iexact H4
  isplitl [H5]
  · iexact H5
  · iexact H6

/-- Both slots and both semaphores free. -/
def freeDT (c : Dev nD) : sProp 𝕄 :=
  iprop((∃ f, slotPDT c (Ring.sl 2 0) f) ∗ (∃ f, slotPDT c (Ring.sl 2 1) f) ∗ cellDT (F := F) c (Ring.sl 2 0) ∗ cellDT (F := F) c (Ring.sl 2 1))
theorem ringInDT (c : Dev nD) (X Y : Buf (Elt F) ((Memref.whole main_v22_6 : Memref sig .tc .hbm _ _).view.loc (c : Thread nD τ))) :
    iprop(bigSep Finset.univ (homeDT c X) ∗ freeDT (F := F) c) ⊢ ring0DT c X Y 0 := by
  have e : bigSep (Ring.homeSetB 1 0) (partDT c X Y 0) = bigSep Finset.univ (homeDT c X) := by
    rw [Ring.homeSetB_zero]
    exact bigSep_congr fun b _ => by unfold partDT; rw [if_neg (by omega)]
  unfold freeDT ring0DT
  rw [e]
  iintro ⟨H1, H2, H3, H4, H5⟩
  isplitl [H1]
  · iexact H1
  isplitl [H2]
  · iexact H2
  isplitl [H4]
  · iexact H4
  isplitl [H3]
  · iexact H3
  · iexact H5
theorem ringOutDT (c : Dev nD) (X Y : Buf (Elt F) ((Memref.whole main_v22_6 : Memref sig .tc .hbm _ _).view.loc (c : Thread nD τ))) (Q : ℕ → S512x64.Idx → Elt F .f32) :
    ringDT c X Y Q 16 ⊢ iprop(bigSep (Ring.homeSetB 1 16) (partDT c X Y 16) ∗ (∃ f, slotPDT c (Ring.sl 2 0) f) ∗ cellDT (F := F) c (Ring.sl 2 0)
      ∗ (∃ g, ⌜(slotDT (Ring.sl 2 1)).view.read (Elt F) g = Q 15⌝ ∗ flightDT c X (Ring.sl 2 1) (Ring.bk 16 15) g)) := by
  unfold ringDT; exact .rfl
theorem closeDT (c : Dev nD) (J X Y : Buf (Elt F) ((Memref.whole main_v22_6 : Memref sig .tc .hbm _ _).view.loc (c : Thread nD τ))) (Q : ℕ → S512x64.Idx → Elt F .f32) (g : Buf (Elt F) ((slotDT (Ring.sl 2 1)).view.loc (c : Thread nD τ)))
    (hY : Y = (stack (W := 512) (R := 8192) (D := 64) (by decide) Q : S8192x64.Idx → Elt F .f32)) (hg : (slotDT (Ring.sl 2 1)).view.read (Elt F) g = Q 15) :
    iprop(homeDT c ((blkDT (Ring.bk 16 15)).view.writes (Elt F) J [⟨Rect.whole S512x64, ReadAs.same.apply ((slotDT (Ring.sl 2 1)).view.read (Elt F) g)⟩]) (Ring.bk 16 15)
      ∗ bigSep (Ring.homeSetB 1 16) (partDT c X Y 16) ∗ (∃ f, slotPDT c (Ring.sl 2 0) f) ∗ slotPDT c (Ring.sl 2 1) g ∗ cellDT (F := F) c (Ring.sl 2 0) ∗ cellDT (F := F) c (Ring.sl 2 1))
      ⊢ iprop(bigSep Finset.univ (homeDT c Y) ∗ freeDT (F := F) c) := by
  rw [doneDT c J Y (Ring.sl 2 1) 15 (by decide) g Q hY hg]
  unfold freeDT
  iintro ⟨H1, H2, H3, H4, H5, H6⟩
  isplitl [H1 H2]
  · iapply (entails_of_eq (endDT c X Y 16 rfl).symm)
    isplitl [H1]
    · iexact H1
    · iexact H2
  isplitl [H3]
  · iexact H3
  isplitl [H4]
  · iexists g; iexact H4
  isplitl [H5]
  · iexact H5
  · iexact H6

section Loop
variable (c : Dev nD)
  (XDU : Buf (Elt F) ((Memref.whole main_arg0 : Memref sig .tc .hbm _ _).view.loc (c : Thread nD τ)))
  (XDN : Buf (Elt F) ((Memref.whole main_arg4 : Memref sig .tc .hbm _ _).view.loc (c : Thread nD τ)))
  (V25 : Buf (Elt F) (a25.view.loc (c : Thread nD τ)))
  (Q23 : ℕ → S512x64.Idx → Elt F .f32)
  (Q24 : ℕ → S512x64.Idx → Elt F .f32)
  (Q22 : ℕ → S512x64.Idx → Elt F .f32)
  (ODI : Buf (Elt F) ((Memref.whole main_v22_0 : Memref sig .tc .hbm _ _).view.loc (c : Thread nD τ)))
  (ODT : Buf (Elt F) ((Memref.whole main_v22_6 : Memref sig .tc .hbm _ _).view.loc (c : Thread nD τ)))

/-- The pipeline's buffers before trip `k`. -/
def ringsD (k : ℕ) : sProp 𝕄 := if k = 0 then iprop(ringDU c XDU 0 ∗ ringDN c XDN 0 ∗ ring0DI c ODI (finDI c XDU XDN V25 Q23 Q24 Q22) 0 ∗ ring0DT c ODT (finDT c XDU V25 Q23 Q24) 0) else if k < 16 then iprop(ringDU c XDU k ∗ ringDN c XDN k ∗ ringDI c ODI (finDI c XDU XDN V25 Q23 Q24 Q22) (outD_DI c XDU XDN V25 Q23 Q24 Q22) k ∗ ringDT c ODT (finDT c XDU V25 Q23 Q24) (outD_DT c XDU V25 Q23 Q24) k) else iprop(ringEndDU c XDU 15 ∗ ringEndDN c XDN 15 ∗ ringDI c ODI (finDI c XDU XDN V25 Q23 Q24 Q22) (outD_DI c XDU XDN V25 Q23 Q24 Q22) 16 ∗ ringDT c ODT (finDT c XDU V25 Q23 Q24) (outD_DT c XDU V25 Q23 Q24) 16)
/-- What holds between the trips. -/
def invD (k : ℕ) (acc : BitVec 32 × BitVec 32 × BitVec 32 × BitVec 32 × BitVec 32 × BitVec 32 × BitVec 32 × BitVec 32 × BitVec 32) : sProp 𝕄 :=
  iprop(⌜acc = outDw k⌝ ∗ own25 c V25 ∗ own23 c (stack (W := 512) (R := 8192) (D := 64) (by decide) Q23 : S8192x64.Idx → Elt F .f32) ∗ own24 c (stack (W := 512) (R := 8192) (D := 64) (by decide) Q24 : S8192x64.Idx → Elt F .f32) ∗ own22 c (stack (W := 512) (R := 8192) (D := 64) (by decide) Q22 : S8192x64.Idx → Elt F .f32) ∗ scrD29 c XDU V25 k ∗ (∃ W, owes (c : Thread nD τ) 0 W) ∗ ringsD c XDU XDN V25 Q23 Q24 Q22 ODI ODT k)
theorem wordsD : ∀ k : T4, outDw k.val = accD k.val := by
  intro k; unfold outDw accD
  refine Prod.ext ?_ (Prod.ext ?_ (Prod.ext ?_ (Prod.ext ?_ (Prod.ext ?_ (Prod.ext ?_ (Prod.ext ?_ (Prod.ext ?_ ?_))))))) <;> (revert k; decide)

section
variable
  (arg6 : Memref sig .tc .vmem S4096x64 .bf16) (harg6 : arg6.IsWhole) (arg7 : Memref sig .tc .vmem S1x64 .f32) (harg7 : arg7.IsWhole)
  (arg8 : Memref sig .tc .vmem S384x64 .bf16) (harg8 : arg8.IsWhole) (arg9 : Memref sig .tc .vmem S1x64 .f32) (harg9 : arg9.IsWhole)
  (v23 : BitVec 32)
theorem tripD_step (k : T4) :
    iprop(own25 c V25 ∗ own23 c (stack (W := 512) (R := 8192) (D := 64) (by decide) Q23 : S8192x64.Idx → Elt F .f32) ∗ own24 c (stack (W := 512) (R := 8192) (D := 64) (by decide) Q24 : S8192x64.Idx → Elt F .f32) ∗ own22 c (stack (W := 512) (R := 8192) (D := 64) (by decide) Q22 : S8192x64.Idx → Elt F .f32) ∗ scrD29 c XDU V25 k.val ∗ (∃ W, owes (c : Thread nD τ) 0 W) ∗ ringsD c XDU XDN V25 Q23 Q24 Q22 ODI ODT k.val)
      ⊢ wp frame (wpE (defs₀ (F := F)) 𝒱₀ (c : Thread nD τ) none) Set.univ (tripD arg6 harg6 arg7 harg7 arg8 harg8 arg9 harg9 v23 k (accD k))
        (fun acc => iprop(⌜acc = outDw (k.val + 1)⌝ ∗ own25 c V25 ∗ own23 c (stack (W := 512) (R := 8192) (D := 64) (by decide) Q23 : S8192x64.Idx → Elt F .f32) ∗ own24 c (stack (W := 512) (R := 8192) (D := 64) (by decide) Q24 : S8192x64.Idx → Elt F .f32) ∗ own22 c (stack (W := 512) (R := 8192) (D := 64) (by decide) Q22 : S8192x64.Idx → Elt F .f32) ∗ scrD29 c XDU V25 (k.val + 1) ∗ (∃ W, owes (c : Thread nD τ) 0 W) ∗ ringsD c XDU XDN V25 Q23 Q24 Q22 ODI ODT (k.val + 1))) := by
  have hlt : k.val < 16 := k.isLt
  by_cases h0 : k.val = 0
  · have e0 : ringsD c XDU XDN V25 Q23 Q24 Q22 ODI ODT k.val = iprop(ringDU c XDU k.val ∗ ringDN c XDN k.val ∗ ring0DI c ODI (finDI c XDU XDN V25 Q23 Q24 Q22) k.val ∗ ring0DT c ODT (finDT c XDU V25 Q23 Q24) k.val) := by rw [h0]; exact if_pos rfl
    have e1 : ringsD c XDU XDN V25 Q23 Q24 Q22 ODI ODT (k.val + 1) = iprop(ringDU c XDU (k.val + 1) ∗ ringDN c XDN (k.val + 1) ∗ ringDI c ODI (finDI c XDU XDN V25 Q23 Q24 Q22) (outD_DI c XDU XDN V25 Q23 Q24 Q22) (k.val + 1) ∗ ringDT c ODT (finDT c XDU V25 Q23 Q24) (outD_DT c XDU V25 Q23 Q24) (k.val + 1)) := (if_neg (by omega)).trans (if_pos (by omega))
    rw [e0, e1]
    exact runD_first c arg6 harg6 arg7 harg7 arg8 harg8 arg9 harg9 v23 XDU XDN V25 Q23 Q24 Q22 ODI ODT k h0
  by_cases h : k.val < 15
  · have e0 : ringsD c XDU XDN V25 Q23 Q24 Q22 ODI ODT k.val = iprop(ringDU c XDU k.val ∗ ringDN c XDN k.val ∗ ringDI c ODI (finDI c XDU XDN V25 Q23 Q24 Q22) (outD_DI c XDU XDN V25 Q23 Q24 Q22) k.val ∗ ringDT c ODT (finDT c XDU V25 Q23 Q24) (outD_DT c XDU V25 Q23 Q24) k.val) := (if_neg h0).trans (if_pos hlt)
    have e1 : ringsD c XDU XDN V25 Q23 Q24 Q22 ODI ODT (k.val + 1) = iprop(ringDU c XDU (k.val + 1) ∗ ringDN c XDN (k.val + 1) ∗ ringDI c ODI (finDI c XDU XDN V25 Q23 Q24 Q22) (outD_DI c XDU XDN V25 Q23 Q24 Q22) (k.val + 1) ∗ ringDT c ODT (finDT c XDU V25 Q23 Q24) (outD_DT c XDU V25 Q23 Q24) (k.val + 1)) := (if_neg (by omega)).trans (if_pos (by omega))
    rw [e0, e1]
    exact runD_mid c arg6 harg6 arg7 harg7 arg8 harg8 arg9 harg9 v23 XDU XDN V25 Q23 Q24 Q22 ODI ODT k ⟨by omega, h⟩
  · have e0 : ringsD c XDU XDN V25 Q23 Q24 Q22 ODI ODT k.val = iprop(ringDU c XDU k.val ∗ ringDN c XDN k.val ∗ ringDI c ODI (finDI c XDU XDN V25 Q23 Q24 Q22) (outD_DI c XDU XDN V25 Q23 Q24 Q22) k.val ∗ ringDT c ODT (finDT c XDU V25 Q23 Q24) (outD_DT c XDU V25 Q23 Q24) k.val) := (if_neg h0).trans (if_pos hlt)
    have hkl : k.val = 15 := by omega
    have e1 : ringsD c XDU XDN V25 Q23 Q24 Q22 ODI ODT (k.val + 1) = iprop(ringEndDU c XDU k.val ∗ ringEndDN c XDN k.val ∗ ringDI c ODI (finDI c XDU XDN V25 Q23 Q24 Q22) (outD_DI c XDU XDN V25 Q23 Q24 Q22) (k.val + 1) ∗ ringDT c ODT (finDT c XDU V25 Q23 Q24) (outD_DT c XDU V25 Q23 Q24) (k.val + 1)) := by rw [hkl]; exact (if_neg (by omega)).trans (if_neg (by decide))
    rw [e0, e1]
    exact runD_last c arg6 harg6 arg7 harg7 arg8 harg8 arg9 harg9 v23 XDU XDN V25 Q23 Q24 Q22 ODI ODT k h
/-- A trip keeps what holds between the trips. -/
theorem stepD (k : T4) (acc : BitVec 32 × BitVec 32 × BitVec 32 × BitVec 32 × BitVec 32 × BitVec 32 × BitVec 32 × BitVec 32 × BitVec 32) :
    invD c XDU XDN V25 Q23 Q24 Q22 ODI ODT k.val acc
      ⊢ wp frame (wpE (defs₀ (F := F)) 𝒱₀ (c : Thread nD τ) none) Set.univ (tripD arg6 harg6 arg7 harg7 arg8 harg8 arg9 harg9 v23 k acc)
        (invD c XDU XDN V25 Q23 Q24 Q22 ODI ODT (k.val + 1)) := by
  unfold invD
  iintro ⟨%e, H⟩
  subst e
  rw [wordsD k]
  iapply (tripD_step c XDU XDN V25 Q23 Q24 Q22 ODI ODT arg6 harg6 arg7 harg7 arg8 harg8 arg9 harg9 v23 k)
  iexact H
end

theorem enterD :
    iprop(own25 c V25 ∗ own23 c (stack (W := 512) (R := 8192) (D := 64) (by decide) Q23 : S8192x64.Idx → Elt F .f32) ∗ own24 c (stack (W := 512) (R := 8192) (D := 64) (by decide) Q24 : S8192x64.Idx → Elt F .f32) ∗ own22 c (stack (W := 512) (R := 8192) (D := 64) (by decide) Q22 : S8192x64.Idx → Elt F .f32) ∗ (∃ f, own29 (F := F) c f) ∗ (∃ W, owes (c : Thread nD τ) 0 W) ∗ ringDU c XDU 0 ∗ ringDN c XDN 0 ∗ ring0DI c ODI (finDI c XDU XDN V25 Q23 Q24 Q22) 0 ∗ ring0DT c ODT (finDT c XDU V25 Q23 Q24) 0) ⊢ invD c XDU XDN V25 Q23 Q24 Q22 ODI ODT 0 (1#32, 0#32, 1#32, 0#32, 0#32, 0#32, 0#32, 0#32, 0#32) := by
  have e0 : ringsD c XDU XDN V25 Q23 Q24 Q22 ODI ODT 0 = iprop(ringDU c XDU 0 ∗ ringDN c XDN 0 ∗ ring0DI c ODI (finDI c XDU XDN V25 Q23 Q24 Q22) 0 ∗ ring0DT c ODT (finDT c XDU V25 Q23 Q24) 0) := if_pos rfl
  unfold invD
  rw [e0]
  iintro ⟨S0, S1, S2, S3, N29, HW, RDU, RDN, RDI, RDT⟩
  isplitr
  · ipureintro; rfl
  isplitl [S0]
  · iexact S0
  isplitl [S1]
  · iexact S1
  isplitl [S2]
  · iexact S2
  isplitl [S3]
  · iexact S3
  isplitl [N29]
  · unfold scrD29; icases N29 with ⟨%f, N⟩; iexists f; isplitr
    · ipureintro; exact upTo_zero (by decide) _ _ _
    · iexact N
  isplitl [HW]
  · iexact HW
  isplitl [RDU]
  · iexact RDU
  isplitl [RDN]
  · iexact RDN
  isplitl [RDI]
  · iexact RDI
  · iexact RDT

theorem exitD (n : ℕ) (hn : n = 16) (acc : BitVec 32 × BitVec 32 × BitVec 32 × BitVec 32 × BitVec 32 × BitVec 32 × BitVec 32 × BitVec 32 × BitVec 32) :
    invD c XDU XDN V25 Q23 Q24 Q22 ODI ODT n acc ⊢ iprop(⌜acc = (16#32, 16#32, 16#32, 16#32, 16#32, 15#32, 16#32, 15#32, 0#32)⌝ ∗ own25 c V25 ∗ own23 c (stack (W := 512) (R := 8192) (D := 64) (by decide) Q23 : S8192x64.Idx → Elt F .f32) ∗ own24 c (stack (W := 512) (R := 8192) (D := 64) (by decide) Q24 : S8192x64.Idx → Elt F .f32) ∗ own22 c (stack (W := 512) (R := 8192) (D := 64) (by decide) Q22 : S8192x64.Idx → Elt F .f32) ∗ own29 c (stack (W := 512) (R := 8192) (D := 64) (by decide) (outD_29 c XDU V25) : S8192x64.Idx → Elt F .bf16) ∗ (∃ W, owes (c : Thread nD τ) 0 W) ∗ (bigSep Finset.univ (homeDU c XDU) ∗ freeDU (F := F) c) ∗ (bigSep Finset.univ (homeDN c XDN) ∗ freeDN (F := F) c) ∗ ringDI c ODI (finDI c XDU XDN V25 Q23 Q24 Q22) (outD_DI c XDU XDN V25 Q23 Q24 Q22) 16 ∗ ringDT c ODT (finDT c XDU V25 Q23 Q24) (outD_DT c XDU V25 Q23 Q24) 16) := by
  subst hn
  have e0 : ringsD c XDU XDN V25 Q23 Q24 Q22 ODI ODT 16 = iprop(ringEndDU c XDU 15 ∗ ringEndDN c XDN 15 ∗ ringDI c ODI (finDI c XDU XDN V25 Q23 Q24 Q22) (outD_DI c XDU XDN V25 Q23 Q24 Q22) 16 ∗ ringDT c ODT (finDT c XDU V25 Q23 Q24) (outD_DT c XDU V25 Q23 Q24) 16) := (if_neg (by decide)).trans (if_neg (by decide))
  have ew : outDw 16 = (16#32, 16#32, 16#32, 16#32, 16#32, 15#32, 16#32, 15#32, 0#32) := rfl
  unfold invD
  rw [e0, ew]
  iintro ⟨%e, S0, S1, S2, S3, N29, HW, RDU, RDN, RDI, RDT⟩
  isplitr
  · ipureintro; exact e
  isplitl [S0]
  · iexact S0
  isplitl [S1]
  · iexact S1
  isplitl [S2]
  · iexact S2
  isplitl [S3]
  · iexact S3
  isplitl [N29]
  · iapply (scrD29_end c XDU V25 16 rfl); iexact N29
  isplitl [HW]
  · iexact HW
  isplitl [RDU]
  · iapply (ringOutDU c XDU); iexact RDU
  isplitl [RDN]
  · iapply (ringOutDN c XDN); iexact RDN
  isplitl [RDI]
  · iexact RDI
  · iexact RDT
end Loop

end Cert.Proof.KI

end
-- ==== Proof.KI.E.lean ====
/-
  The fifth pipeline of the kernel: the item graph applied to the users' second layer, and the item results.
-/
module

public import proofs.«01_k».proof.Proof.KI.Base

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

theorem slotInbEU (s : Fin 2) : ∀ a, slotOff s a + S1x256x8192.size a ≤ S2x256x8192.size a := by
  have := s.isLt; intro a; fin_cases a
  · show s.val + 1 ≤ 2; omega
  · show 0 + 256 ≤ 256; omega
  · show 0 + 8192 ≤ 8192; omega
/-- Slot `s` of the buffer. -/
def slotEU (s : Fin 2) : Memref sig .tc .vmem S256x8192 .f32 :=
  ((Memref.whole cc0_scoped30).slice (Rect.unit (s := S2x256x8192) (slotOff s) S1x256x8192.size (slotInbEU s)) (fun _ => rfl)).squeeze S256x8192 squeezes_S1x256x8192_S256x8192
theorem slotEU_congr {off : Fin 3 → Nat} {s : Fin 2} (e : off = slotOff s) (hh hs) :
    ((Memref.whole cc0_scoped30).slice (Rect.unit (s := S2x256x8192) off S1x256x8192.size hh) hs).squeeze S256x8192 squeezes_S1x256x8192_S256x8192 = slotEU s :=
  congrArg (fun M : Memref sig .tc .vmem S1x256x8192 .f32 => M.squeeze S256x8192 squeezes_S1x256x8192_S256x8192) (Memref.slice_unit_congr _ e _ _ _ _)
abbrev blkOffEU (b : Fin 16) : Fin 2 → Nat := ![256 * b.val, 0]
instance (b : Fin 16) : ClosedOff (blkOffEU b) := ⟨blkOffEU b, rfl⟩
theorem blkInbEU (b : Fin 16) : ∀ a, blkOffEU b a + S256x8192.size a ≤ S4096x8192.size a := by
  have := b.isLt; intro a; fin_cases a
  · show 256 * b.val + 256 ≤ 4096; omega
  · show 0 + 8192 ≤ 8192; omega
/-- Block `b` of the array: its rows from `256 * b`. -/
def blkEU (b : Fin 16) : Memref sig .tc .hbm S256x8192 .f32 :=
  (Memref.whole main_arg1).slice (Rect.unit (s := S4096x8192) (blkOffEU b) S256x8192.size (blkInbEU b)) (fun _ => rfl)
theorem blkEU_congr {off : Fin 2 → Nat} {b : Fin 16} (e : off = blkOffEU b) (hh hs) :
    (Memref.whole main_arg1).slice (Rect.unit (s := S4096x8192) off S256x8192.size hh) hs = blkEU b := Memref.slice_unit_congr _ e _ _ hs (fun _ => rfl)
abbrev semEU (s : Fin 2) : DmaSems sig S_ := semAt cc0_scoped31 s
/-- A load of the slot through the whole buffer reads what was delivered into the slot. -/
theorem loadEU {off : Fin 3 → Nat} (s : Fin 2) (e : off = slotOff s) (hh) (hs : S1x256x8192.ShapeCasts S256x8192) (f : (slotEU s).view.ty.Contents (Elt F)) (w : S256x8192.Idx → Elt F .f32) :
    shapeCast S256x8192 (View.readAt (Elt F) (Memref.whole cc0_scoped30 : Memref sig .tc .vmem S2x256x8192 .f32).view (Rect.unit (s := S2x256x8192) off S1x256x8192.size hh).toLoadRect
      ((slotEU s).view.writes (Elt F) f [⟨Rect.whole S256x8192, w⟩])) hs = w := by
  have h : ∀ g : (slotEU s).view.ty.Contents (Elt F), shapeCast S256x8192 (View.readAt (Elt F) (Memref.whole cc0_scoped30 : Memref sig .tc .vmem S2x256x8192 .f32).view (Rect.unit (s := S2x256x8192) off S1x256x8192.size hh).toLoadRect g) hs = (slotEU s).view.read (Elt F) g := by
    subst e; exact fun g => rfl
  exact (h _).trans (View.read_writes_whole (slotEU s).view f w)

theorem slotInbEN (s : Fin 2) : ∀ a, slotOff s a + S1x256x64.size a ≤ S2x256x64.size a := by
  have := s.isLt; intro a; fin_cases a
  · show s.val + 1 ≤ 2; omega
  · show 0 + 256 ≤ 256; omega
  · show 0 + 64 ≤ 64; omega
/-- Slot `s` of the buffer. -/
def slotEN (s : Fin 2) : Memref sig .tc .vmem S256x64 .f32 :=
  ((Memref.whole cc0_scoped32).slice (Rect.unit (s := S2x256x64) (slotOff s) S1x256x64.size (slotInbEN s)) (fun _ => rfl)).squeeze S256x64 squeezes_S1x256x64_S256x64
theorem slotEN_congr {off : Fin 3 → Nat} {s : Fin 2} (e : off = slotOff s) (hh hs) :
    ((Memref.whole cc0_scoped32).slice (Rect.unit (s := S2x256x64) off S1x256x64.size hh) hs).squeeze S256x64 squeezes_S1x256x64_S256x64 = slotEN s :=
  congrArg (fun M : Memref sig .tc .vmem S1x256x64 .f32 => M.squeeze S256x64 squeezes_S1x256x64_S256x64) (Memref.slice_unit_congr _ e _ _ _ _)
abbrev blkOffEN (b : Fin 16) : Fin 2 → Nat := ![256 * b.val, 0]
instance (b : Fin 16) : ClosedOff (blkOffEN b) := ⟨blkOffEN b, rfl⟩
theorem blkInbEN (b : Fin 16) : ∀ a, blkOffEN b a + S256x64.size a ≤ S4096x64.size a := by
  have := b.isLt; intro a; fin_cases a
  · show 256 * b.val + 256 ≤ 4096; omega
  · show 0 + 64 ≤ 64; omega
/-- Block `b` of the array: its rows from `256 * b`. -/
def blkEN (b : Fin 16) : Memref sig .tc .hbm S256x64 .f32 :=
  (Memref.whole main_arg5).slice (Rect.unit (s := S4096x64) (blkOffEN b) S256x64.size (blkInbEN b)) (fun _ => rfl)
theorem blkEN_congr {off : Fin 2 → Nat} {b : Fin 16} (e : off = blkOffEN b) (hh hs) :
    (Memref.whole main_arg5).slice (Rect.unit (s := S4096x64) off S256x64.size hh) hs = blkEN b := Memref.slice_unit_congr _ e _ _ hs (fun _ => rfl)
abbrev semEN (s : Fin 2) : DmaSems sig S_ := semAt cc0_scoped33 s
/-- A load of the slot through the whole buffer reads what was delivered into the slot. -/
theorem loadEN {off : Fin 3 → Nat} (s : Fin 2) (e : off = slotOff s) (hh) (hs : S1x256x64.ShapeCasts S256x64) (f : (slotEN s).view.ty.Contents (Elt F)) (w : S256x64.Idx → Elt F .f32) :
    shapeCast S256x64 (View.readAt (Elt F) (Memref.whole cc0_scoped32 : Memref sig .tc .vmem S2x256x64 .f32).view (Rect.unit (s := S2x256x64) off S1x256x64.size hh).toLoadRect
      ((slotEN s).view.writes (Elt F) f [⟨Rect.whole S256x64, w⟩])) hs = w := by
  have h : ∀ g : (slotEN s).view.ty.Contents (Elt F), shapeCast S256x64 (View.readAt (Elt F) (Memref.whole cc0_scoped32 : Memref sig .tc .vmem S2x256x64 .f32).view (Rect.unit (s := S2x256x64) off S1x256x64.size hh).toLoadRect g) hs = (slotEN s).view.read (Elt F) g := by
    subst e; exact fun g => rfl
  exact (h _).trans (View.read_writes_whole (slotEN s).view f w)

theorem slotInbEI (s : Fin 2) : ∀ a, slotOff s a + S1x256x64.size a ≤ S2x256x64.size a := by
  have := s.isLt; intro a; fin_cases a
  · show s.val + 1 ≤ 2; omega
  · show 0 + 256 ≤ 256; omega
  · show 0 + 64 ≤ 64; omega
/-- Slot `s` of the buffer. -/
def slotEI (s : Fin 2) : Memref sig .tc .vmem S256x64 .f32 :=
  ((Memref.whole cc0_scoped34).slice (Rect.unit (s := S2x256x64) (slotOff s) S1x256x64.size (slotInbEI s)) (fun _ => rfl)).squeeze S256x64 squeezes_S1x256x64_S256x64
theorem slotEI_congr {off : Fin 3 → Nat} {s : Fin 2} (e : off = slotOff s) (hh hs) :
    ((Memref.whole cc0_scoped34).slice (Rect.unit (s := S2x256x64) off S1x256x64.size hh) hs).squeeze S256x64 squeezes_S1x256x64_S256x64 = slotEI s :=
  congrArg (fun M : Memref sig .tc .vmem S1x256x64 .f32 => M.squeeze S256x64 squeezes_S1x256x64_S256x64) (Memref.slice_unit_congr _ e _ _ _ _)
abbrev blkOffEI (b : Fin 16) : Fin 2 → Nat := ![256 * b.val, 0]
instance (b : Fin 16) : ClosedOff (blkOffEI b) := ⟨blkOffEI b, rfl⟩
theorem blkInbEI (b : Fin 16) : ∀ a, blkOffEI b a + S256x64.size a ≤ S4096x64.size a := by
  have := b.isLt; intro a; fin_cases a
  · show 256 * b.val + 256 ≤ 4096; omega
  · show 0 + 64 ≤ 64; omega
/-- Block `b` of the array: its rows from `256 * b`. -/
def blkEI (b : Fin 16) : Memref sig .tc .hbm S256x64 .f32 :=
  (Memref.whole main_v22_1).slice (Rect.unit (s := S4096x64) (blkOffEI b) S256x64.size (blkInbEI b)) (fun _ => rfl)
theorem blkEI_congr {off : Fin 2 → Nat} {b : Fin 16} (e : off = blkOffEI b) (hh hs) :
    (Memref.whole main_v22_1).slice (Rect.unit (s := S4096x64) off S256x64.size hh) hs = blkEI b := Memref.slice_unit_congr _ e _ _ hs (fun _ => rfl)
abbrev semEI (s : Fin 2) : DmaSems sig S_ := semAt cc0_scoped35 s
/-- A store of the slot through the whole buffer is read back through the slot. -/
theorem storeEI {off : Fin 3 → Nat} (s : Fin 2) (e : off = slotOff s) (hh) (hs : S256x64.ShapeCasts S1x256x64) (f : (slotEI s).view.ty.Contents (Elt F)) (w : S256x64.Idx → Elt F .f32) :
    (slotEI s).view.read (Elt F) ((Memref.whole cc0_scoped34 : Memref sig .tc .vmem S2x256x64 .f32).view.writes (Elt F) f [⟨Rect.unit (s := S2x256x64) off S1x256x64.size hh, shapeCast S1x256x64 w hs⟩]) = w := by
  subst e; funext j
  refine (View.read_writes_cons_emb _ _ (Rect.unit (s := S2x256x64) (slotOff s) S1x256x64.size hh) _ [] (Shape.reshapeEquiv (show S256x64.numel = S1x256x64.numel by decide) j)).trans ?_
  show w (Shape.reshapeEquiv _ (Shape.reshapeEquiv _ j)) = w j
  congr 1
  exact reshape_back _ _ j

theorem slotInbET (s : Fin 2) : ∀ a, slotOff s a + S1x256x64.size a ≤ S2x256x64.size a := by
  have := s.isLt; intro a; fin_cases a
  · show s.val + 1 ≤ 2; omega
  · show 0 + 256 ≤ 256; omega
  · show 0 + 64 ≤ 64; omega
/-- Slot `s` of the buffer. -/
def slotET (s : Fin 2) : Memref sig .tc .vmem S256x64 .f32 :=
  ((Memref.whole cc0_scoped36).slice (Rect.unit (s := S2x256x64) (slotOff s) S1x256x64.size (slotInbET s)) (fun _ => rfl)).squeeze S256x64 squeezes_S1x256x64_S256x64
theorem slotET_congr {off : Fin 3 → Nat} {s : Fin 2} (e : off = slotOff s) (hh hs) :
    ((Memref.whole cc0_scoped36).slice (Rect.unit (s := S2x256x64) off S1x256x64.size hh) hs).squeeze S256x64 squeezes_S1x256x64_S256x64 = slotET s :=
  congrArg (fun M : Memref sig .tc .vmem S1x256x64 .f32 => M.squeeze S256x64 squeezes_S1x256x64_S256x64) (Memref.slice_unit_congr _ e _ _ _ _)
abbrev blkOffET (b : Fin 16) : Fin 2 → Nat := ![256 * b.val, 0]
instance (b : Fin 16) : ClosedOff (blkOffET b) := ⟨blkOffET b, rfl⟩
theorem blkInbET (b : Fin 16) : ∀ a, blkOffET b a + S256x64.size a ≤ S4096x64.size a := by
  have := b.isLt; intro a; fin_cases a
  · show 256 * b.val + 256 ≤ 4096; omega
  · show 0 + 64 ≤ 64; omega
/-- Block `b` of the array: its rows from `256 * b`. -/
def blkET (b : Fin 16) : Memref sig .tc .hbm S256x64 .f32 :=
  (Memref.whole main_v22_7).slice (Rect.unit (s := S4096x64) (blkOffET b) S256x64.size (blkInbET b)) (fun _ => rfl)
theorem blkET_congr {off : Fin 2 → Nat} {b : Fin 16} (e : off = blkOffET b) (hh hs) :
    (Memref.whole main_v22_7).slice (Rect.unit (s := S4096x64) off S256x64.size hh) hs = blkET b := Memref.slice_unit_congr _ e _ _ hs (fun _ => rfl)
abbrev semET (s : Fin 2) : DmaSems sig S_ := semAt cc0_scoped37 s
/-- A store of the slot through the whole buffer is read back through the slot. -/
theorem storeET {off : Fin 3 → Nat} (s : Fin 2) (e : off = slotOff s) (hh) (hs : S256x64.ShapeCasts S1x256x64) (f : (slotET s).view.ty.Contents (Elt F)) (w : S256x64.Idx → Elt F .f32) :
    (slotET s).view.read (Elt F) ((Memref.whole cc0_scoped36 : Memref sig .tc .vmem S2x256x64 .f32).view.writes (Elt F) f [⟨Rect.unit (s := S2x256x64) off S1x256x64.size hh, shapeCast S1x256x64 w hs⟩]) = w := by
  subst e; funext j
  refine (View.read_writes_cons_emb _ _ (Rect.unit (s := S2x256x64) (slotOff s) S1x256x64.size hh) _ [] (Shape.reshapeEquiv (show S256x64.numel = S1x256x64.numel by decide) j)).trans ?_
  show w (Shape.reshapeEquiv _ (Shape.reshapeEquiv _ j)) = w j
  congr 1
  exact reshape_back _ _ j

theorem t5_trips : k0_t5_loop.trips = 16 := by decide
abbrev T5 := Fin k0_t5_loop.trips

theorem off143_eq : ∀ k : T5, k0_off143 (w32 (k.val + 1)) = semOff (Ring.sl 2 (k.val + 1)) := by decide
theorem off144_eq : ∀ k : T5, k0_off144 (w32 (k.val + 1)) = slotOff (Ring.sl 2 (k.val + 1)) := by decide
theorem off145_eq : ∀ k : T5, k.val < 15 → k0_off145 (w32 k.val) = blkOffEU (Ring.bk 16 (k.val + 1)) := by decide
@[sl_canon] theorem semIEU (k : T5) (hh) :
    (cc0_scoped31.slice (Rect.unit (s := S2) (k0_off143 (w32 (k.val + 1))) S1.size hh)).squeeze S_ squeezes_S1_S_ = semEU (Ring.sl 2 (k.val + 1)) := semAt_congr _ (off143_eq k) _
@[sl_canon] theorem slotIEU (k : T5) (hh hs) :
    ((Memref.whole cc0_scoped30).slice (Rect.unit (s := S2x256x8192) (k0_off144 (w32 (k.val + 1))) S1x256x8192.size hh) hs).squeeze S256x8192 squeezes_S1x256x8192_S256x8192 = slotEU (Ring.sl 2 (k.val + 1)) := slotEU_congr (off144_eq k) _ _
@[sl_canon] theorem blkIEU (k : T5) (hk : k.val < 15) (hh hs) :
    (Memref.whole main_arg1).slice (Rect.unit (s := S4096x8192) (k0_off145 (w32 k.val)) S256x8192.size hh) hs = blkEU (Ring.bk 16 (k.val + 1)) := blkEU_congr (off145_eq k hk) _ _
theorem cond97_pos : ∀ k : T5, k.val < 15 → k0_cond97 k (w32 k.val) = 1#1 := by decide
theorem cond97_neg : ∀ k : T5, ¬ k.val < 15 → ¬ k0_cond97 k (w32 k.val) = 1#1 := by decide

theorem off146_eq : ∀ k : T5, k0_off146 (w32 (k.val + 1)) = semOff (Ring.sl 2 (k.val + 1)) := by decide
theorem off147_eq : ∀ k : T5, k0_off147 (w32 (k.val + 1)) = slotOff (Ring.sl 2 (k.val + 1)) := by decide
theorem off148_eq : ∀ k : T5, k.val < 15 → k0_off148 (w32 k.val) = blkOffEN (Ring.bk 16 (k.val + 1)) := by decide
@[sl_canon] theorem semIEN (k : T5) (hh) :
    (cc0_scoped33.slice (Rect.unit (s := S2) (k0_off146 (w32 (k.val + 1))) S1.size hh)).squeeze S_ squeezes_S1_S_ = semEN (Ring.sl 2 (k.val + 1)) := semAt_congr _ (off146_eq k) _
@[sl_canon] theorem slotIEN (k : T5) (hh hs) :
    ((Memref.whole cc0_scoped32).slice (Rect.unit (s := S2x256x64) (k0_off147 (w32 (k.val + 1))) S1x256x64.size hh) hs).squeeze S256x64 squeezes_S1x256x64_S256x64 = slotEN (Ring.sl 2 (k.val + 1)) := slotEN_congr (off147_eq k) _ _
@[sl_canon] theorem blkIEN (k : T5) (hk : k.val < 15) (hh hs) :
    (Memref.whole main_arg5).slice (Rect.unit (s := S4096x64) (k0_off148 (w32 k.val)) S256x64.size hh) hs = blkEN (Ring.bk 16 (k.val + 1)) := blkEN_congr (off148_eq k hk) _ _
theorem cond98_pos : ∀ k : T5, k.val < 15 → k0_cond98 k (w32 k.val) = 1#1 := by decide
theorem cond98_neg : ∀ k : T5, ¬ k.val < 15 → ¬ k0_cond98 k (w32 k.val) = 1#1 := by decide

theorem off149_eq : ∀ k : T5, k0_off149 (w32 k.val) = semOff (Ring.sl 2 k.val) := by decide
theorem off150_eq : ∀ k : T5, k0_off150 (w32 k.val) = slotOff (Ring.sl 2 k.val) := by decide
theorem off151_eq : ∀ k : T5, k0_off151 (w32 k.val) = blkOffEU (Ring.bk 16 k.val) := by decide
@[sl_canon] theorem semWEU (k : T5) (hh) :
    (cc0_scoped31.slice (Rect.unit (s := S2) (k0_off149 (w32 k.val)) S1.size hh)).squeeze S_ squeezes_S1_S_ = semEU (Ring.sl 2 k.val) := semAt_congr _ (off149_eq k) _
@[sl_canon] theorem slotWEU (k : T5) (hh hs) :
    ((Memref.whole cc0_scoped30).slice (Rect.unit (s := S2x256x8192) (k0_off150 (w32 k.val)) S1x256x8192.size hh) hs).squeeze S256x8192 squeezes_S1x256x8192_S256x8192 = slotEU (Ring.sl 2 k.val) := slotEU_congr (off150_eq k) _ _
@[sl_canon] theorem blkWEU (k : T5) (hh hs) :
    (Memref.whole main_arg1).slice (Rect.unit (s := S4096x8192) (k0_off151 (w32 k.val)) S256x8192.size hh) hs = blkEU (Ring.bk 16 k.val) := blkEU_congr (off151_eq k) _ _
theorem cond102_pos : ∀ k : T5, k0_cond102 k (w32 k.val) = 1#1 := by decide

theorem off152_eq : ∀ k : T5, k0_off152 (w32 k.val) = semOff (Ring.sl 2 k.val) := by decide
theorem off153_eq : ∀ k : T5, k0_off153 (w32 k.val) = slotOff (Ring.sl 2 k.val) := by decide
theorem off154_eq : ∀ k : T5, k0_off154 (w32 k.val) = blkOffEN (Ring.bk 16 k.val) := by decide
@[sl_canon] theorem semWEN (k : T5) (hh) :
    (cc0_scoped33.slice (Rect.unit (s := S2) (k0_off152 (w32 k.val)) S1.size hh)).squeeze S_ squeezes_S1_S_ = semEN (Ring.sl 2 k.val) := semAt_congr _ (off152_eq k) _
@[sl_canon] theorem slotWEN (k : T5) (hh hs) :
    ((Memref.whole cc0_scoped32).slice (Rect.unit (s := S2x256x64) (k0_off153 (w32 k.val)) S1x256x64.size hh) hs).squeeze S256x64 squeezes_S1x256x64_S256x64 = slotEN (Ring.sl 2 k.val) := slotEN_congr (off153_eq k) _ _
@[sl_canon] theorem blkWEN (k : T5) (hh hs) :
    (Memref.whole main_arg5).slice (Rect.unit (s := S4096x64) (k0_off154 (w32 k.val)) S256x64.size hh) hs = blkEN (Ring.bk 16 k.val) := blkEN_congr (off154_eq k) _ _
theorem cond103_pos : ∀ k : T5, k0_cond103 k (w32 k.val) = 1#1 := by decide

theorem off160_eq : ∀ k : T5, k0_off160 (w32 k.val) = semOff (Ring.sl 2 k.val) := by decide
theorem off162_eq : ∀ k : T5, k0_off162 (w32 k.val) = slotOff (Ring.sl 2 k.val) := by decide
theorem off161_eq : ∀ k : T5, k0_off161 (w32 k.val) = blkOffEI (Ring.bk 16 k.val) := by decide
@[sl_canon] theorem semIEI (k : T5) (hh) :
    (cc0_scoped35.slice (Rect.unit (s := S2) (k0_off160 (w32 k.val)) S1.size hh)).squeeze S_ squeezes_S1_S_ = semEI (Ring.sl 2 k.val) := semAt_congr _ (off160_eq k) _
@[sl_canon] theorem slotIEI (k : T5) (hh hs) :
    ((Memref.whole cc0_scoped34).slice (Rect.unit (s := S2x256x64) (k0_off162 (w32 k.val)) S1x256x64.size hh) hs).squeeze S256x64 squeezes_S1x256x64_S256x64 = slotEI (Ring.sl 2 k.val) := slotEI_congr (off162_eq k) _ _
@[sl_canon] theorem blkIEI (k : T5) (hh hs) :
    (Memref.whole main_v22_1).slice (Rect.unit (s := S4096x64) (k0_off161 (w32 k.val)) S256x64.size hh) hs = blkEI (Ring.bk 16 k.val) := blkEI_congr (off161_eq k) _ _
theorem cond114_pos : ∀ k : T5, k0_cond114 k (w32 k.val) = 1#1 := by decide

theorem off163_eq : ∀ k : T5, k0_off163 (w32 k.val) = semOff (Ring.sl 2 k.val) := by decide
theorem off165_eq : ∀ k : T5, k0_off165 (w32 k.val) = slotOff (Ring.sl 2 k.val) := by decide
theorem off164_eq : ∀ k : T5, k0_off164 (w32 k.val) = blkOffET (Ring.bk 16 k.val) := by decide
@[sl_canon] theorem semIET (k : T5) (hh) :
    (cc0_scoped37.slice (Rect.unit (s := S2) (k0_off163 (w32 k.val)) S1.size hh)).squeeze S_ squeezes_S1_S_ = semET (Ring.sl 2 k.val) := semAt_congr _ (off163_eq k) _
@[sl_canon] theorem slotIET (k : T5) (hh hs) :
    ((Memref.whole cc0_scoped36).slice (Rect.unit (s := S2x256x64) (k0_off165 (w32 k.val)) S1x256x64.size hh) hs).squeeze S256x64 squeezes_S1x256x64_S256x64 = slotET (Ring.sl 2 k.val) := slotET_congr (off165_eq k) _ _
@[sl_canon] theorem blkIET (k : T5) (hh hs) :
    (Memref.whole main_v22_7).slice (Rect.unit (s := S4096x64) (k0_off164 (w32 k.val)) S256x64.size hh) hs = blkET (Ring.bk 16 k.val) := blkET_congr (off164_eq k) _ _
theorem cond115_pos : ∀ k : T5, k0_cond115 k (w32 k.val) = 1#1 := by decide

theorem off166_eq : ∀ k : T5, k0_off166 (w32 (k.val - 1)) = semOff (Ring.sl 2 (k.val - 1)) := by decide
theorem off168_eq : ∀ k : T5, k0_off168 (w32 (k.val - 1)) = slotOff (Ring.sl 2 (k.val - 1)) := by decide
theorem off167_eq : ∀ k : T5, 1 ≤ k.val → k0_off167 (w32 k.val) = blkOffEI (Ring.bk 16 (k.val - 1)) := by decide
@[sl_canon] theorem semWEI (k : T5) (hh) :
    (cc0_scoped35.slice (Rect.unit (s := S2) (k0_off166 (w32 (k.val - 1))) S1.size hh)).squeeze S_ squeezes_S1_S_ = semEI (Ring.sl 2 (k.val - 1)) := semAt_congr _ (off166_eq k) _
@[sl_canon] theorem slotWEI (k : T5) (hh hs) :
    ((Memref.whole cc0_scoped34).slice (Rect.unit (s := S2x256x64) (k0_off168 (w32 (k.val - 1))) S1x256x64.size hh) hs).squeeze S256x64 squeezes_S1x256x64_S256x64 = slotEI (Ring.sl 2 (k.val - 1)) := slotEI_congr (off168_eq k) _ _
@[sl_canon] theorem blkWEI (k : T5) (hk : 1 ≤ k.val) (hh hs) :
    (Memref.whole main_v22_1).slice (Rect.unit (s := S4096x64) (k0_off167 (w32 k.val)) S256x64.size hh) hs = blkEI (Ring.bk 16 (k.val - 1)) := blkEI_congr (off167_eq k hk) _ _
theorem cond121_pos : ∀ k : T5, 1 ≤ k.val → k0_cond121 k (w32 k.val) = 1#1 := by decide
theorem cond121_neg : ∀ k : T5, ¬ 1 ≤ k.val → ¬ k0_cond121 k (w32 k.val) = 1#1 := by decide

theorem off169_eq : ∀ k : T5, k0_off169 (w32 (k.val - 1)) = semOff (Ring.sl 2 (k.val - 1)) := by decide
theorem off171_eq : ∀ k : T5, k0_off171 (w32 (k.val - 1)) = slotOff (Ring.sl 2 (k.val - 1)) := by decide
theorem off170_eq : ∀ k : T5, 1 ≤ k.val → k0_off170 (w32 k.val) = blkOffET (Ring.bk 16 (k.val - 1)) := by decide
@[sl_canon] theorem semWET (k : T5) (hh) :
    (cc0_scoped37.slice (Rect.unit (s := S2) (k0_off169 (w32 (k.val - 1))) S1.size hh)).squeeze S_ squeezes_S1_S_ = semET (Ring.sl 2 (k.val - 1)) := semAt_congr _ (off169_eq k) _
@[sl_canon] theorem slotWET (k : T5) (hh hs) :
    ((Memref.whole cc0_scoped36).slice (Rect.unit (s := S2x256x64) (k0_off171 (w32 (k.val - 1))) S1x256x64.size hh) hs).squeeze S256x64 squeezes_S1x256x64_S256x64 = slotET (Ring.sl 2 (k.val - 1)) := slotET_congr (off171_eq k) _ _
@[sl_canon] theorem blkWET (k : T5) (hk : 1 ≤ k.val) (hh hs) :
    (Memref.whole main_v22_7).slice (Rect.unit (s := S4096x64) (k0_off170 (w32 k.val)) S256x64.size hh) hs = blkET (Ring.bk 16 (k.val - 1)) := blkET_congr (off170_eq k hk) _ _
theorem cond122_pos : ∀ k : T5, 1 ≤ k.val → k0_cond122 k (w32 k.val) = 1#1 := by decide
theorem cond122_neg : ∀ k : T5, ¬ 1 ≤ k.val → ¬ k0_cond122 k (w32 k.val) = 1#1 := by decide
theorem off155_eq : ∀ k : T5, k0_off155 (w32 k.val) = slotOff (Ring.sl 2 k.val) := by decide
instance (k : T5) : ClosedOff (k0_off155 (w32 k.val)) := ⟨slotOff (Ring.sl 2 k.val), off155_eq k⟩
theorem off156_eq : ∀ k : T5, k0_off156 (w32 k.val) = ![256 * k.val, 0] := by decide
instance (k : T5) : ClosedOff (k0_off156 (w32 k.val)) := ⟨![256 * k.val, 0], off156_eq k⟩
theorem off157_eq : ∀ k : T5, k0_off157 (w32 k.val) = slotOff (Ring.sl 2 k.val) := by decide
instance (k : T5) : ClosedOff (k0_off157 (w32 k.val)) := ⟨slotOff (Ring.sl 2 k.val), off157_eq k⟩
theorem off158_eq : ∀ k : T5, k0_off158 (w32 k.val) = slotOff (Ring.sl 2 k.val) := by decide
instance (k : T5) : ClosedOff (k0_off158 (w32 k.val)) := ⟨slotOff (Ring.sl 2 k.val), off158_eq k⟩
theorem off159_eq : ∀ k : T5, k0_off159 (w32 k.val) = slotOff (Ring.sl 2 k.val) := by decide
instance (k : T5) : ClosedOff (k0_off159 (w32 k.val)) := ⟨slotOff (Ring.sl 2 k.val), off159_eq k⟩
theorem chk33_ok : ∀ k : T5, k0_chk33 (w32 k.val) := by decide
theorem chk32_ok : ∀ k : T5, k0_chk32 (w32 k.val) := by decide
theorem chk31_ok : ∀ k : T5, k0_chk31 (w32 k.val) := by decide
theorem chk30_ok : ∀ k : T5, k0_chk30 (w32 k.val) := by decide
theorem chk29_ok : ∀ k : T5, k0_chk29 k (w32 (k.val + 1)) (w32 k.val) (w32 (k.val + 1)) (w32 k.val) (w32 k.val) (w32 (k.val - 1)) (w32 k.val) (w32 (k.val - 1)) (w32 k.val) := by decide

/-- The block stored in `main_v22_1`, from the blocks loaded. -/
def valE_EI (v179_r4 : FVec F S256x8192 .f32) (v181_r4 : Vec F S8192x64 .bf16) (v184_r4 : Vec F S256x64 .f32) (v196_r4 : Vec F S256x64 .f32) (v210_r4 : FVec F S256x64 .f32) (v212_r4 : Vec F S256x64 .f32) : FVec F S256x64 .f32 :=
  let v213_r4 : FVec F S256x64 .f32 := addf v210_r4 v212_r4
  let v180_r4 : FVec F S256x8192 .bf16 := truncf .bf16 v179_r4 bitsLt_bf16_f32
  let cst_r4 : FVec F S256x64 .f32 := constant S256x64 .f32 0x00000000#32
  let v182_r4 : FVec F S256x64 .f32 := matmul dot_S256x8192_S8192x64_S256x64_1_0_0_1_n_n none v180_r4 v181_r4 cst_r4
  let v214_r4 : FVec F S256x64 .f32 := addf v213_r4 v182_r4
  let cst_164_r4 : F .f32 := Named.named κ "third" 0x3EAAAAAB#32
  let v215_r4 : FVec F S256x64 .f32 := broadcast S256x64 cst_164_r4
  let v216_r4 : FVec F S256x64 .f32 := mulf v214_r4 v215_r4
  let cst_156_r4 : F .f32 := Scalar.ofBits .f32 0x3F0CCCCD#32
  let v193_r4 : FVec F S256x64 .f32 := broadcast S256x64 cst_156_r4
  let cst_155_r4 : F .f32 := Scalar.ofBits .f32 0x2B8CBCCC#32
  let v189_r4 : FVec F S256x1 .f32 := broadcast S256x1 cst_155_r4
  let v185_r4 : FVec F S256x64 .f32 := mulf v184_r4 v184_r4
  let v186_r4 : FVec F S256 .f32 := multiReduction .add [1] S256 v185_r4 0x00000000#32 reduces_S256x64_S256 (.inl rfl) rfl
  let v187_r4 : FVec F S256x1 .f32 := shapeCast S256x1 v186_r4 shapeCasts_S256_S256x1
  let v188_r4 : FVec F S256x1 .f32 := sqrt v187_r4
  let v190_r4 : FVec F S256x1 .f32 := maximumf v189_r4 v188_r4
  let v191_r4 : FVec F S256x64 .f32 := broadcastTo S256x64 v190_r4 broadcasts_S256x1_S256x64
  let v192_r4 : FVec F S256x64 .f32 := divf v184_r4 v191_r4
  let v194_r4 : FVec F S256x64 .f32 := mulf v193_r4 v192_r4
  let cst_160_r4 : F .f32 := Scalar.ofBits .f32 0x3F0CCCCD#32
  let v205_r4 : FVec F S256x64 .f32 := broadcast S256x64 cst_160_r4
  let cst_159_r4 : F .f32 := Scalar.ofBits .f32 0x2B8CBCCC#32
  let v201_r4 : FVec F S256x1 .f32 := broadcast S256x1 cst_159_r4
  let v197_r4 : FVec F S256x64 .f32 := mulf v196_r4 v196_r4
  let v198_r4 : FVec F S256 .f32 := multiReduction .add [1] S256 v197_r4 0x00000000#32 reduces_S256x64_S256 (.inl rfl) rfl
  let v199_r4 : FVec F S256x1 .f32 := shapeCast S256x1 v198_r4 shapeCasts_S256_S256x1
  let v200_r4 : FVec F S256x1 .f32 := sqrt v199_r4
  let v202_r4 : FVec F S256x1 .f32 := maximumf v201_r4 v200_r4
  let v203_r4 : FVec F S256x64 .f32 := broadcastTo S256x64 v202_r4 broadcasts_S256x1_S256x64
  let v204_r4 : FVec F S256x64 .f32 := divf v196_r4 v203_r4
  let v206_r4 : FVec F S256x64 .f32 := mulf v205_r4 v204_r4
  let v207_r4 : FVec F S256x64 .f32 := addf v194_r4 v206_r4
  addf v216_r4 v207_r4

/-- The block stored in `main_v22_7`, from the blocks loaded. -/
def valE_ET (v179_r4 : FVec F S256x8192 .f32) (v181_r4 : Vec F S8192x64 .bf16) (v184_r4 : Vec F S256x64 .f32) (v196_r4 : Vec F S256x64 .f32) : FVec F S256x64 .f32 :=
  let v180_r4 : FVec F S256x8192 .bf16 := truncf .bf16 v179_r4 bitsLt_bf16_f32
  let cst_r4 : FVec F S256x64 .f32 := constant S256x64 .f32 0x00000000#32
  let v182_r4 : FVec F S256x64 .f32 := matmul dot_S256x8192_S8192x64_S256x64_1_0_0_1_n_n none v180_r4 v181_r4 cst_r4
  let cst_156_r4 : F .f32 := Scalar.ofBits .f32 0x3F0CCCCD#32
  let v193_r4 : FVec F S256x64 .f32 := broadcast S256x64 cst_156_r4
  let cst_155_r4 : F .f32 := Scalar.ofBits .f32 0x2B8CBCCC#32
  let v189_r4 : FVec F S256x1 .f32 := broadcast S256x1 cst_155_r4
  let v185_r4 : FVec F S256x64 .f32 := mulf v184_r4 v184_r4
  let v186_r4 : FVec F S256 .f32 := multiReduction .add [1] S256 v185_r4 0x00000000#32 reduces_S256x64_S256 (.inl rfl) rfl
  let v187_r4 : FVec F S256x1 .f32 := shapeCast S256x1 v186_r4 shapeCasts_S256_S256x1
  let v188_r4 : FVec F S256x1 .f32 := sqrt v187_r4
  let v190_r4 : FVec F S256x1 .f32 := maximumf v189_r4 v188_r4
  let v191_r4 : FVec F S256x64 .f32 := broadcastTo S256x64 v190_r4 broadcasts_S256x1_S256x64
  let v192_r4 : FVec F S256x64 .f32 := divf v184_r4 v191_r4
  let v194_r4 : FVec F S256x64 .f32 := mulf v193_r4 v192_r4
  let cst_160_r4 : F .f32 := Scalar.ofBits .f32 0x3F0CCCCD#32
  let v205_r4 : FVec F S256x64 .f32 := broadcast S256x64 cst_160_r4
  let cst_159_r4 : F .f32 := Scalar.ofBits .f32 0x2B8CBCCC#32
  let v201_r4 : FVec F S256x1 .f32 := broadcast S256x1 cst_159_r4
  let v197_r4 : FVec F S256x64 .f32 := mulf v196_r4 v196_r4
  let v198_r4 : FVec F S256 .f32 := multiReduction .add [1] S256 v197_r4 0x00000000#32 reduces_S256x64_S256 (.inl rfl) rfl
  let v199_r4 : FVec F S256x1 .f32 := shapeCast S256x1 v198_r4 shapeCasts_S256_S256x1
  let v200_r4 : FVec F S256x1 .f32 := sqrt v199_r4
  let v202_r4 : FVec F S256x1 .f32 := maximumf v201_r4 v200_r4
  let v203_r4 : FVec F S256x64 .f32 := broadcastTo S256x64 v202_r4 broadcasts_S256x1_S256x64
  let v204_r4 : FVec F S256x64 .f32 := divf v196_r4 v203_r4
  let v206_r4 : FVec F S256x64 .f32 := mulf v205_r4 v204_r4
  let v207_r4 : FVec F S256x64 .f32 := addf v194_r4 v206_r4
  addf v182_r4 v207_r4

section Pieces
variable (c : Dev nD)

abbrev cellEU (s : Fin 2) : sProp 𝕄 := semVal ((c : Thread nD τ), SemLoc.dma (semEU s).sem) 0
abbrev slotPEU (s : Fin 2) (f : Buf (Elt F) ((slotEU s).view.loc (c : Thread nD τ))) : sProp 𝕄 :=
  (slotEU s).view.loc (c : Thread nD τ) ↦[(slotEU s).view.set]{fullShare} f
abbrev homeEU (X : Buf (Elt F) ((Memref.whole main_arg1 : Memref sig .tc .hbm _ _).view.loc (c : Thread nD τ))) (b : Fin 16) : sProp 𝕄 :=
  (blkEU b).view.loc (c : Thread nD τ) ↦[(blkEU b).view.set]{fullShare} X
abbrev landedEU (X : Buf (Elt F) ((Memref.whole main_arg1 : Memref sig .tc .hbm _ _).view.loc (c : Thread nD τ))) (s : Fin 2) (b : Fin 16) (f : Buf (Elt F) ((slotEU s).view.loc (c : Thread nD τ))) : Buf (Elt F) ((slotEU s).view.loc (c : Thread nD τ)) :=
  (slotEU s).view.writes (Elt F) f [⟨Rect.whole S256x8192, ReadAs.same.apply ((blkEU b).view.read (Elt F) X)⟩]
abbrev flightEU (X : Buf (Elt F) ((Memref.whole main_arg1 : Memref sig .tc .hbm _ _).view.loc (c : Thread nD τ))) (s : Fin 2) (b : Fin 16) (f : Buf (Elt F) ((slotEU s).view.loc (c : Thread nD τ))) : sProp 𝕄 :=
  Transfers.Flight countersEmb (c : Thread nD τ) (SemLoc.dma (semEU s).sem) () 262144 iprop(slotPEU c s (landedEU c X s b f) ∗ homeEU c X b)
theorem outEU (X : Buf (Elt F) ((Memref.whole main_arg1 : Memref sig .tc .hbm _ _).view.loc (c : Thread nD τ))) (k : ℕ) (hk : k + 1 < 16) :
    bigSep (Ring.homeSet 1 k) (homeEU c X) = iprop(homeEU c X (Ring.bk 16 (k + 1)) ∗ bigSep ((Ring.homeSet 1 k).erase (Ring.bk 16 (k + 1))) (homeEU c X)) := by
  conv_lhs => rw [Ring.homeSet_out 1 k hk, bigSep_insert (Ring.bkL_not_mem_erase 1 k)]
  rfl
theorem inEU (X : Buf (Elt F) ((Memref.whole main_arg1 : Memref sig .tc .hbm _ _).view.loc (c : Thread nD τ))) (k : ℕ) (hk : k + 1 < 16) :
    bigSep (Ring.homeSet 1 (k + 1)) (homeEU c X) = iprop(homeEU c X (Ring.bk 16 k) ∗ bigSep ((Ring.homeSet 1 k).erase (Ring.bk 16 (k + 1))) (homeEU c X)) := by
  conv_lhs => rw [Ring.homeSet_succ 1 k hk, bigSep_insert (Ring.bk_not_mem_erase 1 k (by omega) (by decide))]
  rfl
theorem endEU (X : Buf (Elt F) ((Memref.whole main_arg1 : Memref sig .tc .hbm _ _).view.loc (c : Thread nD τ))) (k : ℕ) (hk : k = 15) :
    bigSep Finset.univ (homeEU c X) = iprop(homeEU c X (Ring.bk 16 k) ∗ bigSep (Ring.homeSet 1 k) (homeEU c X)) := by
  conv_lhs => rw [← Ring.homeSet_last (NB := 16) 1 (k + 1) (by omega), Ring.homeSet_succ_tail 1 k (by omega) (by omega), bigSep_insert (Ring.bk_not_mem_homeSet 1 k (by omega) (by decide))]
  rfl
/-- The pieces of the buffer before trip `k`: block `k` on its way into slot `k % 2`, the other slot and its semaphore
    free, every other block of the array home. -/
def ringEU (X : Buf (Elt F) ((Memref.whole main_arg1 : Memref sig .tc .hbm _ _).view.loc (c : Thread nD τ))) (k : ℕ) : sProp 𝕄 :=
  iprop(bigSep (Ring.homeSet 1 k) (homeEU c X) ∗ (∃ f, flightEU c X (Ring.sl 2 k) (Ring.bk 16 k) f)
    ∗ (∃ f, slotPEU c (Ring.sl 2 (k + 1)) f) ∗ cellEU c (Ring.sl 2 (k + 1)))
/-- After the last trip `k`: both slots and semaphores free, every block home. -/
def ringEndEU (X : Buf (Elt F) ((Memref.whole main_arg1 : Memref sig .tc .hbm _ _).view.loc (c : Thread nD τ))) (k : ℕ) : sProp 𝕄 :=
  iprop(bigSep Finset.univ (homeEU c X) ∗ (∃ f, slotPEU c (Ring.sl 2 k) f) ∗ (∃ f, slotPEU c (Ring.sl 2 (k + 1)) f) ∗ cellEU c (Ring.sl 2 k) ∗ cellEU c (Ring.sl 2 (k + 1)))

abbrev cellEN (s : Fin 2) : sProp 𝕄 := semVal ((c : Thread nD τ), SemLoc.dma (semEN s).sem) 0
abbrev slotPEN (s : Fin 2) (f : Buf (Elt F) ((slotEN s).view.loc (c : Thread nD τ))) : sProp 𝕄 :=
  (slotEN s).view.loc (c : Thread nD τ) ↦[(slotEN s).view.set]{fullShare} f
abbrev homeEN (X : Buf (Elt F) ((Memref.whole main_arg5 : Memref sig .tc .hbm _ _).view.loc (c : Thread nD τ))) (b : Fin 16) : sProp 𝕄 :=
  (blkEN b).view.loc (c : Thread nD τ) ↦[(blkEN b).view.set]{fullShare} X
abbrev landedEN (X : Buf (Elt F) ((Memref.whole main_arg5 : Memref sig .tc .hbm _ _).view.loc (c : Thread nD τ))) (s : Fin 2) (b : Fin 16) (f : Buf (Elt F) ((slotEN s).view.loc (c : Thread nD τ))) : Buf (Elt F) ((slotEN s).view.loc (c : Thread nD τ)) :=
  (slotEN s).view.writes (Elt F) f [⟨Rect.whole S256x64, ReadAs.same.apply ((blkEN b).view.read (Elt F) X)⟩]
abbrev flightEN (X : Buf (Elt F) ((Memref.whole main_arg5 : Memref sig .tc .hbm _ _).view.loc (c : Thread nD τ))) (s : Fin 2) (b : Fin 16) (f : Buf (Elt F) ((slotEN s).view.loc (c : Thread nD τ))) : sProp 𝕄 :=
  Transfers.Flight countersEmb (c : Thread nD τ) (SemLoc.dma (semEN s).sem) () 4096 iprop(slotPEN c s (landedEN c X s b f) ∗ homeEN c X b)
theorem outEN (X : Buf (Elt F) ((Memref.whole main_arg5 : Memref sig .tc .hbm _ _).view.loc (c : Thread nD τ))) (k : ℕ) (hk : k + 1 < 16) :
    bigSep (Ring.homeSet 1 k) (homeEN c X) = iprop(homeEN c X (Ring.bk 16 (k + 1)) ∗ bigSep ((Ring.homeSet 1 k).erase (Ring.bk 16 (k + 1))) (homeEN c X)) := by
  conv_lhs => rw [Ring.homeSet_out 1 k hk, bigSep_insert (Ring.bkL_not_mem_erase 1 k)]
  rfl
theorem inEN (X : Buf (Elt F) ((Memref.whole main_arg5 : Memref sig .tc .hbm _ _).view.loc (c : Thread nD τ))) (k : ℕ) (hk : k + 1 < 16) :
    bigSep (Ring.homeSet 1 (k + 1)) (homeEN c X) = iprop(homeEN c X (Ring.bk 16 k) ∗ bigSep ((Ring.homeSet 1 k).erase (Ring.bk 16 (k + 1))) (homeEN c X)) := by
  conv_lhs => rw [Ring.homeSet_succ 1 k hk, bigSep_insert (Ring.bk_not_mem_erase 1 k (by omega) (by decide))]
  rfl
theorem endEN (X : Buf (Elt F) ((Memref.whole main_arg5 : Memref sig .tc .hbm _ _).view.loc (c : Thread nD τ))) (k : ℕ) (hk : k = 15) :
    bigSep Finset.univ (homeEN c X) = iprop(homeEN c X (Ring.bk 16 k) ∗ bigSep (Ring.homeSet 1 k) (homeEN c X)) := by
  conv_lhs => rw [← Ring.homeSet_last (NB := 16) 1 (k + 1) (by omega), Ring.homeSet_succ_tail 1 k (by omega) (by omega), bigSep_insert (Ring.bk_not_mem_homeSet 1 k (by omega) (by decide))]
  rfl
/-- The pieces of the buffer before trip `k`: block `k` on its way into slot `k % 2`, the other slot and its semaphore
    free, every other block of the array home. -/
def ringEN (X : Buf (Elt F) ((Memref.whole main_arg5 : Memref sig .tc .hbm _ _).view.loc (c : Thread nD τ))) (k : ℕ) : sProp 𝕄 :=
  iprop(bigSep (Ring.homeSet 1 k) (homeEN c X) ∗ (∃ f, flightEN c X (Ring.sl 2 k) (Ring.bk 16 k) f)
    ∗ (∃ f, slotPEN c (Ring.sl 2 (k + 1)) f) ∗ cellEN c (Ring.sl 2 (k + 1)))
/-- After the last trip `k`: both slots and semaphores free, every block home. -/
def ringEndEN (X : Buf (Elt F) ((Memref.whole main_arg5 : Memref sig .tc .hbm _ _).view.loc (c : Thread nD τ))) (k : ℕ) : sProp 𝕄 :=
  iprop(bigSep Finset.univ (homeEN c X) ∗ (∃ f, slotPEN c (Ring.sl 2 k) f) ∗ (∃ f, slotPEN c (Ring.sl 2 (k + 1)) f) ∗ cellEN c (Ring.sl 2 k) ∗ cellEN c (Ring.sl 2 (k + 1)))

abbrev cellEI (s : Fin 2) : sProp 𝕄 := semVal ((c : Thread nD τ), SemLoc.dma (semEI s).sem) 0
abbrev slotPEI (s : Fin 2) (f : Buf (Elt F) ((slotEI s).view.loc (c : Thread nD τ))) : sProp 𝕄 :=
  (slotEI s).view.loc (c : Thread nD τ) ↦[(slotEI s).view.set]{fullShare} f
abbrev homeEI (X : Buf (Elt F) ((Memref.whole main_v22_1 : Memref sig .tc .hbm _ _).view.loc (c : Thread nD τ))) (b : Fin 16) : sProp 𝕄 :=
  (blkEI b).view.loc (c : Thread nD τ) ↦[(blkEI b).view.set]{fullShare} X
abbrev flightEI (X : Buf (Elt F) ((Memref.whole main_v22_1 : Memref sig .tc .hbm _ _).view.loc (c : Thread nD τ))) (s : Fin 2) (b : Fin 16) (g : Buf (Elt F) ((slotEI s).view.loc (c : Thread nD τ))) : sProp 𝕄 :=
  Transfers.Flight countersEmb (c : Thread nD τ) (SemLoc.dma (semEI s).sem) () 4096
    iprop(homeEI c ((blkEI b).view.writes (Elt F) X [⟨Rect.whole S256x64, ReadAs.same.apply ((slotEI s).view.read (Elt F) g)⟩]) b ∗ slotPEI c s g)
/-- A block of the result: written already if it is before block `k`, as it was otherwise. -/
def partEI (X Y : Buf (Elt F) ((Memref.whole main_v22_1 : Memref sig .tc .hbm _ _).view.loc (c : Thread nD τ))) (k : ℕ) (b : Fin 16) : sProp 𝕄 := homeEI c (if b.val < k then Y else X) b
theorem partEI_congr (X Y : Buf (Elt F) ((Memref.whole main_v22_1 : Memref sig .tc .hbm _ _).view.loc (c : Thread nD τ))) (k : ℕ) (hk : k < 16) :
    bigSep ((Ring.homeSetB 1 k).erase (Ring.bk 16 k)) (partEI c X Y (k + 1)) = bigSep ((Ring.homeSetB 1 k).erase (Ring.bk 16 k)) (partEI c X Y k) :=
  bigSep_congr fun b hb => by
    have hne : b.val ≠ k := fun h => (Finset.mem_erase.mp hb).1 (Fin.ext (by rw [h, Ring.bk_val hk]))
    unfold partEI
    by_cases h : b.val < k
    · rw [if_pos h, if_pos (by omega)]
    · rw [if_neg h, if_neg (by omega)]
theorem outEI (X Y : Buf (Elt F) ((Memref.whole main_v22_1 : Memref sig .tc .hbm _ _).view.loc (c : Thread nD τ))) (k : ℕ) (hk : k < 16) :
    bigSep (Ring.homeSetB 1 k) (partEI c X Y k) = iprop(homeEI c X (Ring.bk 16 k) ∗ bigSep ((Ring.homeSetB 1 k).erase (Ring.bk 16 k)) (partEI c X Y k)) := by
  rw [Ring.bigSep_take (Ring.bk_mem_homeSetB 1 k hk)]
  congr 1
  unfold partEI
  rw [if_neg (by rw [Ring.bk_val hk]; omega)]
theorem in0EI (X Y : Buf (Elt F) ((Memref.whole main_v22_1 : Memref sig .tc .hbm _ _).view.loc (c : Thread nD τ))) (k : ℕ) (hk : k = 0) :
    bigSep (Ring.homeSetB 1 (k + 1)) (partEI c X Y (k + 1)) = bigSep ((Ring.homeSetB 1 k).erase (Ring.bk 16 k)) (partEI c X Y k) := by
  rw [Ring.homeSetB_step_boot 1 k (by omega) (by omega), partEI_congr c X Y k (by omega)]
theorem inEI (X Y : Buf (Elt F) ((Memref.whole main_v22_1 : Memref sig .tc .hbm _ _).view.loc (c : Thread nD τ))) (k : ℕ) (hk : k < 16) (h1 : 1 ≤ k) :
    bigSep (Ring.homeSetB 1 (k + 1)) (partEI c X Y (k + 1)) = iprop(homeEI c Y (Ring.bk 16 (k - 1)) ∗ bigSep ((Ring.homeSetB 1 k).erase (Ring.bk 16 k)) (partEI c X Y k)) := by
  rw [Ring.homeSetB_step 1 k hk h1, Ring.bigSep_put (Ring.bk_sub_not_mem 1 k hk h1), partEI_congr c X Y k hk]
  congr 1
  unfold partEI
  rw [if_pos (by rw [Ring.bk_val (by omega)]; omega)]
/-- Past the last trip, the last block back from its copy completes the result. -/
theorem endEI (X Y : Buf (Elt F) ((Memref.whole main_v22_1 : Memref sig .tc .hbm _ _).view.loc (c : Thread nD τ))) (k : ℕ) (hk : k = 16) :
    bigSep Finset.univ (homeEI c Y) = iprop(homeEI c Y (Ring.bk 16 (k - 1)) ∗ bigSep (Ring.homeSetB 1 k) (partEI c X Y k)) := by
  subst hk
  rw [Ring.homeSetB_one_end, Ring.bigSep_take (Finset.mem_univ (Ring.bk 16 (16 - 1)))]
  congr 1
/-- A block of the result home from its copy is the result's block. -/
theorem doneEI (X Y : Buf (Elt F) ((Memref.whole main_v22_1 : Memref sig .tc .hbm _ _).view.loc (c : Thread nD τ))) (s : Fin 2) (k : ℕ) (hk : k < 16) (g : Buf (Elt F) ((slotEI s).view.loc (c : Thread nD τ))) (Q : ℕ → S256x64.Idx → Elt F .f32)
    (hY : Y = (stack (W := 256) (R := 4096) (D := 64) (by decide) Q : S4096x64.Idx → Elt F .f32)) (hg : (slotEI s).view.read (Elt F) g = Q k) :
    homeEI c ((blkEI (Ring.bk 16 k)).view.writes (Elt F) X [⟨Rect.whole S256x64, ReadAs.same.apply ((slotEI s).view.read (Elt F) g)⟩]) (Ring.bk 16 k) = homeEI c Y (Ring.bk 16 k) := by
  refine own_eq_of_read c (blkEI (Ring.bk 16 k)) _ _ ((View.read_writes_whole _ _ _).trans (hg.trans ?_))
  subst hY
  funext x
  refine (stack_block (W := 256) (R := 4096) (D := 64) (by decide) Q k x _ ?_ ?_).symm
  · show 256 * (Ring.bk 16 k).val + 1 * (x 0).val = _
    rw [Ring.bk_val hk]; omega
  · show 0 + 1 * (x 1).val = _
    omega
/-- The pieces of the buffer before trip `k` past the first: block `k - 1` on its way out of the other slot, slot `k % 2`
    and its semaphore free. -/
def ringEI (X Y : Buf (Elt F) ((Memref.whole main_v22_1 : Memref sig .tc .hbm _ _).view.loc (c : Thread nD τ))) (Q : ℕ → S256x64.Idx → Elt F .f32) (k : ℕ) : sProp 𝕄 :=
  iprop(bigSep (Ring.homeSetB 1 k) (partEI c X Y k) ∗ (∃ f, slotPEI c (Ring.sl 2 k) f) ∗ cellEI c (Ring.sl 2 k)
    ∗ (∃ g, ⌜(slotEI (Ring.sl 2 (k - 1))).view.read (Elt F) g = Q (k - 1)⌝ ∗ flightEI c X (Ring.sl 2 (k - 1)) (Ring.bk 16 (k - 1)) g))
/-- Before the first trip: both slots and semaphores free. -/
def ring0EI (X Y : Buf (Elt F) ((Memref.whole main_v22_1 : Memref sig .tc .hbm _ _).view.loc (c : Thread nD τ))) (k : ℕ) : sProp 𝕄 :=
  iprop(bigSep (Ring.homeSetB 1 k) (partEI c X Y k) ∗ (∃ f, slotPEI c (Ring.sl 2 k) f) ∗ cellEI c (Ring.sl 2 k)
    ∗ (∃ f, slotPEI c (Ring.sl 2 (k + 1)) f) ∗ cellEI c (Ring.sl 2 (k + 1)))

abbrev cellET (s : Fin 2) : sProp 𝕄 := semVal ((c : Thread nD τ), SemLoc.dma (semET s).sem) 0
abbrev slotPET (s : Fin 2) (f : Buf (Elt F) ((slotET s).view.loc (c : Thread nD τ))) : sProp 𝕄 :=
  (slotET s).view.loc (c : Thread nD τ) ↦[(slotET s).view.set]{fullShare} f
abbrev homeET (X : Buf (Elt F) ((Memref.whole main_v22_7 : Memref sig .tc .hbm _ _).view.loc (c : Thread nD τ))) (b : Fin 16) : sProp 𝕄 :=
  (blkET b).view.loc (c : Thread nD τ) ↦[(blkET b).view.set]{fullShare} X
abbrev flightET (X : Buf (Elt F) ((Memref.whole main_v22_7 : Memref sig .tc .hbm _ _).view.loc (c : Thread nD τ))) (s : Fin 2) (b : Fin 16) (g : Buf (Elt F) ((slotET s).view.loc (c : Thread nD τ))) : sProp 𝕄 :=
  Transfers.Flight countersEmb (c : Thread nD τ) (SemLoc.dma (semET s).sem) () 4096
    iprop(homeET c ((blkET b).view.writes (Elt F) X [⟨Rect.whole S256x64, ReadAs.same.apply ((slotET s).view.read (Elt F) g)⟩]) b ∗ slotPET c s g)
/-- A block of the result: written already if it is before block `k`, as it was otherwise. -/
def partET (X Y : Buf (Elt F) ((Memref.whole main_v22_7 : Memref sig .tc .hbm _ _).view.loc (c : Thread nD τ))) (k : ℕ) (b : Fin 16) : sProp 𝕄 := homeET c (if b.val < k then Y else X) b
theorem partET_congr (X Y : Buf (Elt F) ((Memref.whole main_v22_7 : Memref sig .tc .hbm _ _).view.loc (c : Thread nD τ))) (k : ℕ) (hk : k < 16) :
    bigSep ((Ring.homeSetB 1 k).erase (Ring.bk 16 k)) (partET c X Y (k + 1)) = bigSep ((Ring.homeSetB 1 k).erase (Ring.bk 16 k)) (partET c X Y k) :=
  bigSep_congr fun b hb => by
    have hne : b.val ≠ k := fun h => (Finset.mem_erase.mp hb).1 (Fin.ext (by rw [h, Ring.bk_val hk]))
    unfold partET
    by_cases h : b.val < k
    · rw [if_pos h, if_pos (by omega)]
    · rw [if_neg h, if_neg (by omega)]
theorem outET (X Y : Buf (Elt F) ((Memref.whole main_v22_7 : Memref sig .tc .hbm _ _).view.loc (c : Thread nD τ))) (k : ℕ) (hk : k < 16) :
    bigSep (Ring.homeSetB 1 k) (partET c X Y k) = iprop(homeET c X (Ring.bk 16 k) ∗ bigSep ((Ring.homeSetB 1 k).erase (Ring.bk 16 k)) (partET c X Y k)) := by
  rw [Ring.bigSep_take (Ring.bk_mem_homeSetB 1 k hk)]
  congr 1
  unfold partET
  rw [if_neg (by rw [Ring.bk_val hk]; omega)]
theorem in0ET (X Y : Buf (Elt F) ((Memref.whole main_v22_7 : Memref sig .tc .hbm _ _).view.loc (c : Thread nD τ))) (k : ℕ) (hk : k = 0) :
    bigSep (Ring.homeSetB 1 (k + 1)) (partET c X Y (k + 1)) = bigSep ((Ring.homeSetB 1 k).erase (Ring.bk 16 k)) (partET c X Y k) := by
  rw [Ring.homeSetB_step_boot 1 k (by omega) (by omega), partET_congr c X Y k (by omega)]
theorem inET (X Y : Buf (Elt F) ((Memref.whole main_v22_7 : Memref sig .tc .hbm _ _).view.loc (c : Thread nD τ))) (k : ℕ) (hk : k < 16) (h1 : 1 ≤ k) :
    bigSep (Ring.homeSetB 1 (k + 1)) (partET c X Y (k + 1)) = iprop(homeET c Y (Ring.bk 16 (k - 1)) ∗ bigSep ((Ring.homeSetB 1 k).erase (Ring.bk 16 k)) (partET c X Y k)) := by
  rw [Ring.homeSetB_step 1 k hk h1, Ring.bigSep_put (Ring.bk_sub_not_mem 1 k hk h1), partET_congr c X Y k hk]
  congr 1
  unfold partET
  rw [if_pos (by rw [Ring.bk_val (by omega)]; omega)]
/-- Past the last trip, the last block back from its copy completes the result. -/
theorem endET (X Y : Buf (Elt F) ((Memref.whole main_v22_7 : Memref sig .tc .hbm _ _).view.loc (c : Thread nD τ))) (k : ℕ) (hk : k = 16) :
    bigSep Finset.univ (homeET c Y) = iprop(homeET c Y (Ring.bk 16 (k - 1)) ∗ bigSep (Ring.homeSetB 1 k) (partET c X Y k)) := by
  subst hk
  rw [Ring.homeSetB_one_end, Ring.bigSep_take (Finset.mem_univ (Ring.bk 16 (16 - 1)))]
  congr 1
/-- A block of the result home from its copy is the result's block. -/
theorem doneET (X Y : Buf (Elt F) ((Memref.whole main_v22_7 : Memref sig .tc .hbm _ _).view.loc (c : Thread nD τ))) (s : Fin 2) (k : ℕ) (hk : k < 16) (g : Buf (Elt F) ((slotET s).view.loc (c : Thread nD τ))) (Q : ℕ → S256x64.Idx → Elt F .f32)
    (hY : Y = (stack (W := 256) (R := 4096) (D := 64) (by decide) Q : S4096x64.Idx → Elt F .f32)) (hg : (slotET s).view.read (Elt F) g = Q k) :
    homeET c ((blkET (Ring.bk 16 k)).view.writes (Elt F) X [⟨Rect.whole S256x64, ReadAs.same.apply ((slotET s).view.read (Elt F) g)⟩]) (Ring.bk 16 k) = homeET c Y (Ring.bk 16 k) := by
  refine own_eq_of_read c (blkET (Ring.bk 16 k)) _ _ ((View.read_writes_whole _ _ _).trans (hg.trans ?_))
  subst hY
  funext x
  refine (stack_block (W := 256) (R := 4096) (D := 64) (by decide) Q k x _ ?_ ?_).symm
  · show 256 * (Ring.bk 16 k).val + 1 * (x 0).val = _
    rw [Ring.bk_val hk]; omega
  · show 0 + 1 * (x 1).val = _
    omega
/-- The pieces of the buffer before trip `k` past the first: block `k - 1` on its way out of the other slot, slot `k % 2`
    and its semaphore free. -/
def ringET (X Y : Buf (Elt F) ((Memref.whole main_v22_7 : Memref sig .tc .hbm _ _).view.loc (c : Thread nD τ))) (Q : ℕ → S256x64.Idx → Elt F .f32) (k : ℕ) : sProp 𝕄 :=
  iprop(bigSep (Ring.homeSetB 1 k) (partET c X Y k) ∗ (∃ f, slotPET c (Ring.sl 2 k) f) ∗ cellET c (Ring.sl 2 k)
    ∗ (∃ g, ⌜(slotET (Ring.sl 2 (k - 1))).view.read (Elt F) g = Q (k - 1)⌝ ∗ flightET c X (Ring.sl 2 (k - 1)) (Ring.bk 16 (k - 1)) g))
/-- Before the first trip: both slots and semaphores free. -/
def ring0ET (X Y : Buf (Elt F) ((Memref.whole main_v22_7 : Memref sig .tc .hbm _ _).view.loc (c : Thread nD τ))) (k : ℕ) : sProp 𝕄 :=
  iprop(bigSep (Ring.homeSetB 1 k) (partET c X Y k) ∗ (∃ f, slotPET c (Ring.sl 2 k) f) ∗ cellET c (Ring.sl 2 k)
    ∗ (∃ f, slotPET c (Ring.sl 2 (k + 1)) f) ∗ cellET c (Ring.sl 2 (k + 1)))

end Pieces

/-- Block `k` of what the pipeline stores. -/
def outE_EI (c : Dev nD) (XEU : Buf (Elt F) ((Memref.whole main_arg1 : Memref sig .tc .hbm _ _).view.loc (c : Thread nD τ))) (XEN : Buf (Elt F) ((Memref.whole main_arg5 : Memref sig .tc .hbm _ _).view.loc (c : Thread nD τ))) (V29 : Buf (Elt F) (a29.view.loc (c : Thread nD τ))) (Q27 : ℕ → S256x64.Idx → Elt F .f32) (Q28 : ℕ → S256x64.Idx → Elt F .f32) (Q26 : ℕ → S256x64.Idx → Elt F .f32) (k : ℕ) : S256x64.Idx → Elt F .f32 :=
  valE_EI ((blkEU (Ring.bk 16 k)).view.read (Elt F) XEU) V29 (Q27 k) (Q28 k) ((blkEN (Ring.bk 16 k)).view.read (Elt F) XEN) (Q26 k)

/-- Block `k` of what the pipeline stores. -/
def outE_ET (c : Dev nD) (XEU : Buf (Elt F) ((Memref.whole main_arg1 : Memref sig .tc .hbm _ _).view.loc (c : Thread nD τ))) (V29 : Buf (Elt F) (a29.view.loc (c : Thread nD τ))) (Q27 : ℕ → S256x64.Idx → Elt F .f32) (Q28 : ℕ → S256x64.Idx → Elt F .f32) (k : ℕ) : S256x64.Idx → Elt F .f32 :=
  valE_ET ((blkEU (Ring.bk 16 k)).view.read (Elt F) XEU) V29 (Q27 k) (Q28 k)

section Trip
variable (c : Dev nD)
  (arg6 : Memref sig .tc .vmem S4096x64 .bf16) (harg6 : arg6.IsWhole) (arg7 : Memref sig .tc .vmem S1x64 .f32) (harg7 : arg7.IsWhole)
  (arg8 : Memref sig .tc .vmem S384x64 .bf16) (harg8 : arg8.IsWhole) (arg9 : Memref sig .tc .vmem S1x64 .f32) (harg9 : arg9.IsWhole)
  (v23 v30 e35 e36 e37 e38 e39 e40 : BitVec 32)
  (XEU : Buf (Elt F) ((Memref.whole main_arg1 : Memref sig .tc .hbm _ _).view.loc (c : Thread nD τ)))
  (XEN : Buf (Elt F) ((Memref.whole main_arg5 : Memref sig .tc .hbm _ _).view.loc (c : Thread nD τ)))
  (V29 : Buf (Elt F) (a29.view.loc (c : Thread nD τ)))
  (Q27 : ℕ → S256x64.Idx → Elt F .f32)
  (Q28 : ℕ → S256x64.Idx → Elt F .f32)
  (Q26 : ℕ → S256x64.Idx → Elt F .f32)
  (OEI : Buf (Elt F) ((Memref.whole main_v22_1 : Memref sig .tc .hbm _ _).view.loc (c : Thread nD τ)))
  (OET : Buf (Elt F) ((Memref.whole main_v22_7 : Memref sig .tc .hbm _ _).view.loc (c : Thread nD τ)))

/-- The result as the pipeline leaves it. -/
abbrev finEI : Buf (Elt F) ((Memref.whole main_v22_1 : Memref sig .tc .hbm _ _).view.loc (c : Thread nD τ)) := (stack (W := 256) (R := 4096) (D := 64) (by decide) (outE_EI c XEU XEN V29 Q27 Q28 Q26) : S4096x64.Idx → Elt F .f32)

/-- The result as the pipeline leaves it. -/
abbrev finET : Buf (Elt F) ((Memref.whole main_v22_7 : Memref sig .tc .hbm _ _).view.loc (c : Thread nD τ)) := (stack (W := 256) (R := 4096) (D := 64) (by decide) (outE_ET c XEU V29 Q27 Q28) : S4096x64.Idx → Elt F .f32)

def accE (k : ℕ) : BitVec 32 × BitVec 32 × BitVec 32 × BitVec 32 × BitVec 32 × BitVec 32 × BitVec 32 × BitVec 32 × BitVec 32 :=
  (w32 (k + 1), w32 k, w32 (k + 1), w32 k, w32 k, w32 (k - 1), w32 k, w32 (k - 1), w32 k)
/-- The loop's words between its trips. -/
def outEw (k : ℕ) : BitVec 32 × BitVec 32 × BitVec 32 × BitVec 32 × BitVec 32 × BitVec 32 × BitVec 32 × BitVec 32 × BitVec 32 :=
  (w32 (min (k + 1) 16), w32 k, w32 (min (k + 1) 16), w32 k, w32 k, w32 (k - 1), w32 k, w32 (k - 1), w32 (k % 16))
abbrev tripE (k : T5) (acc : BitVec 32 × BitVec 32 × BitVec 32 × BitVec 32 × BitVec 32 × BitVec 32 × BitVec 32 × BitVec 32 × BitVec 32) :=
  k0_t5_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg6 harg6 arg7 harg7 arg8 harg8 arg9 harg9 (Memref.whole main_v6) (Memref.isWhole_whole _) (Memref.whole main_v13) (Memref.isWhole_whole _) (Memref.whole main_v22_0) (Memref.isWhole_whole _) (Memref.whole main_v22_1) (Memref.isWhole_whole _) (Memref.whole main_v22_2) (Memref.isWhole_whole _) (Memref.whole main_v22_3) (Memref.isWhole_whole _) (Memref.whole main_v22_4) (Memref.isWhole_whole _) (Memref.whole main_v22_5) (Memref.isWhole_whole _) (Memref.whole main_v22_6) (Memref.isWhole_whole _) (Memref.whole main_v22_7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 (Memref.whole cc0_scoped20) (Memref.isWhole_whole _) cc0_scoped21 (Memref.whole cc0_scoped22) (Memref.isWhole_whole _) cc0_scoped23 (Memref.whole cc0_scoped24) (Memref.isWhole_whole _) cc0_scoped25 (Memref.whole cc0_scoped26) (Memref.isWhole_whole _) cc0_scoped27 (Memref.whole cc0_scoped28) (Memref.isWhole_whole _) cc0_scoped29 (Memref.whole cc0_scoped30) (Memref.isWhole_whole _) cc0_scoped31 (Memref.whole cc0_scoped32) (Memref.isWhole_whole _) cc0_scoped33 (Memref.whole cc0_scoped34) (Memref.isWhole_whole _) cc0_scoped35 (Memref.whole cc0_scoped36) (Memref.isWhole_whole _) cc0_scoped37 v23 v30 e35 e36 e37 e38 e39 e40 k acc

set_option maxHeartbeats 4000000 in
theorem runE_first (k : T5) (hk0 : k.val = 0) :
    iprop(own29 c V29 ∗ own27 c (stack (W := 256) (R := 4096) (D := 64) (by decide) Q27 : S4096x64.Idx → Elt F .f32) ∗ own28 c (stack (W := 256) (R := 4096) (D := 64) (by decide) Q28 : S4096x64.Idx → Elt F .f32) ∗ own26 c (stack (W := 256) (R := 4096) (D := 64) (by decide) Q26 : S4096x64.Idx → Elt F .f32) ∗ (∃ W, owes (c : Thread nD τ) 0 W) ∗ ringEU c XEU k ∗ ringEN c XEN k ∗ ring0EI c OEI (finEI c XEU XEN V29 Q27 Q28 Q26) k ∗ ring0ET c OET (finET c XEU V29 Q27 Q28) k)
      ⊢ wp frame (wpE (defs₀ (F := F)) 𝒱₀ (c : Thread nD τ) none) Set.univ (tripE arg6 harg6 arg7 harg7 arg8 harg8 arg9 harg9 v23 v30 e35 e36 e37 e38 e39 e40 k (accE k))
        (fun acc => iprop(⌜acc = outEw (k.val + 1)⌝ ∗ own29 c V29 ∗ own27 c (stack (W := 256) (R := 4096) (D := 64) (by decide) Q27 : S4096x64.Idx → Elt F .f32) ∗ own28 c (stack (W := 256) (R := 4096) (D := 64) (by decide) Q28 : S4096x64.Idx → Elt F .f32) ∗ own26 c (stack (W := 256) (R := 4096) (D := 64) (by decide) Q26 : S4096x64.Idx → Elt F .f32) ∗ (∃ W, owes (c : Thread nD τ) 0 W) ∗ ringEU c XEU (k + 1) ∗ ringEN c XEN (k + 1) ∗ ringEI c OEI (finEI c XEU XEN V29 Q27 Q28 Q26) (outE_EI c XEU XEN V29 Q27 Q28 Q26) (k + 1) ∗ ringET c OET (finET c XEU V29 Q27 Q28) (outE_ET c XEU V29 Q27 Q28) (k + 1))) := by
  have hlt : k.val < 16 := k.isLt
  have hk : k.val < 15 := by omega
  have hk8 : k.val + 1 < 16 := by omega
  have hk1 : ¬ 1 ≤ k.val := by omega
  have h97 := cond97_pos k hk
  have h98 := cond98_pos k hk
  have h102 := cond102_pos k
  have h103 := cond103_pos k
  have h114 := cond114_pos k
  have h115 := cond115_pos k
  have h121 := cond121_neg k hk1
  have h122 := cond122_neg k hk1
  have c33 := chk33_ok k
  have c32 := chk32_ok k
  have c31 := chk31_ok k
  have c30 := chk30_ok k
  have c29 := chk29_ok k
  unfold ringEU ringEN ring0EI ring0ET ringEI ringET
  rw [outEU c XEU k hk8, inEU c XEU k hk8]
  rw [outEN c XEN k hk8, inEN c XEN k hk8]
  rw [outEI c OEI (finEI c XEU XEN V29 Q27 Q28 Q26) k hlt, in0EI c OEI (finEI c XEU XEN V29 Q27 Q28 Q26) k hk0]
  rw [outET c OET (finET c XEU V29 Q27 Q28) k hlt, in0ET c OET (finET c XEU V29 Q27 Q28) k hk0]
  rw [Nat.add_sub_cancel]
  rw [Ring.sl_add]
  iintro ⟨H29, H27, H28, H26, ⟨%W, HW⟩, ⟨⟨HbEU, HrEU⟩, ⟨%fEU, HFEU⟩, ⟨%sEU, HsEU⟩, HcEU⟩, ⟨⟨HbEN, HrEN⟩, ⟨%fEN, HFEN⟩, ⟨%sEN, HsEN⟩, HcEN⟩, ⟨⟨HbEI, HrEI⟩, ⟨%sEI, HsEI⟩, HcEI, ⟨%zEI, HzEI⟩, HyEI⟩, ⟨⟨HbET, HrET⟩, ⟨%sET, HsET⟩, HcET, ⟨%zET, HzET⟩, HyET⟩⟩
  dsimp only [tripE, accE]
  sl_unfold [k0_t5_body]
  sl_exec_parts
  sl_step
  isplitr
  · ipureintro; clear * - k; unfold outEw; refine Prod.ext ?_ (Prod.ext ?_ (Prod.ext ?_ (Prod.ext ?_ (Prod.ext ?_ (Prod.ext ?_ (Prod.ext ?_ (Prod.ext ?_ ?_))))))) <;> (revert k; decide)
  isplitl [H29]
  · iexact H29
  isplitl [H27]
  · iexact H27
  isplitl [H28]
  · iexact H28
  isplitl [H26]
  · iexact H26
  isplitl [HW]
  · iexists _; iexact HW
  isplitl [HrEU HFEU_src HFEU_dst HFEU HcEU]
  · isplitl [HFEU_src HrEU]
    · isplitl [HFEU_src]; · iexact HFEU_src
      iexact HrEU
    isplitl [HcEU]; · iexists sEU; iexact HcEU
    isplitl [HFEU_dst]; · iexists _; iexact HFEU_dst
    iexact HFEU
  isplitl [HrEN HFEN_src HFEN_dst HFEN HcEN]
  · isplitl [HFEN_src HrEN]
    · isplitl [HFEN_src]; · iexact HFEN_src
      iexact HrEN
    isplitl [HcEN]; · iexists sEN; iexact HcEN
    isplitl [HFEN_dst]; · iexists _; iexact HFEN_dst
    iexact HFEN
  isplitl [HrEI HcEI HzEI HyEI]
  · isplitl [HrEI]; · iexact HrEI
    isplitl [HzEI]; · iexists _; iexact HzEI
    isplitl [HyEI]; · iexact HyEI
    iexists _
    isplitr
    rotate_left
    · iexact HcEI
    · ipureintro; refine (storeEI (F := F) (Ring.sl 2 k.val) (off158_eq k) (by rw [off158_eq k]; exact slotInbEI _) shapeCasts_S256x64_S1x256x64 sEI (valE_EI (shapeCast S256x8192 (View.readAt (Elt F) (Memref.whole cc0_scoped30 : Memref sig .tc .vmem S2x256x8192 .f32).view (Rect.unit (s := S2x256x8192) (k0_off155 (w32 k.val)) S1x256x8192.size (by rw [off155_eq k]; exact slotInbEU _)).toLoadRect ((slotEU (Ring.sl 2 k.val)).view.writes (Elt F) (slotEU (Ring.sl 2 k.val)).view.junk [⟨Rect.whole S256x8192, (blkEU (Ring.bk 16 k.val)).view.read (Elt F) XEU⟩])) shapeCasts_S1x256x8192_S256x8192) (full29 c V29) (View.readAt (Elt F) a27.view (Rect.unit (s := S4096x64) (k0_off156 (w32 k.val)) S256x64.size (by rw [off156_eq k]; exact rowsInb (N := 16) hlt)).toLoadRect (stack (W := 256) (R := 4096) (D := 64) (by decide) Q27 : S4096x64.Idx → Elt F .f32)) (View.readAt (Elt F) a28.view (Rect.unit (s := S4096x64) (k0_off156 (w32 k.val)) S256x64.size (by rw [off156_eq k]; exact rowsInb (N := 16) hlt)).toLoadRect (stack (W := 256) (R := 4096) (D := 64) (by decide) Q28 : S4096x64.Idx → Elt F .f32)) (shapeCast S256x64 (View.readAt (Elt F) (Memref.whole cc0_scoped32 : Memref sig .tc .vmem S2x256x64 .f32).view (Rect.unit (s := S2x256x64) (k0_off157 (w32 k.val)) S1x256x64.size (by rw [off157_eq k]; exact slotInbEN _)).toLoadRect ((slotEN (Ring.sl 2 k.val)).view.writes (Elt F) (slotEN (Ring.sl 2 k.val)).view.junk [⟨Rect.whole S256x64, (blkEN (Ring.bk 16 k.val)).view.read (Elt F) XEN⟩])) shapeCasts_S1x256x64_S256x64) (View.readAt (Elt F) a26.view (Rect.unit (s := S4096x64) (k0_off156 (w32 k.val)) S256x64.size (by rw [off156_eq k]; exact rowsInb (N := 16) hlt)).toLoadRect (stack (W := 256) (R := 4096) (D := 64) (by decide) Q26 : S4096x64.Idx → Elt F .f32)))).trans ?_
      unfold outE_EI; rw [loadEU (Ring.sl 2 k.val) (off155_eq k), full29_eq, loadRows (Val := Elt F) (W := 256) (R := 4096) (D := 64) (by decide) a27.view Q27 k.val (stack (W := 256) (R := 4096) (D := 64) (by decide) Q27 : S4096x64.Idx → Elt F .f32) rfl (off156_eq k), loadRows (Val := Elt F) (W := 256) (R := 4096) (D := 64) (by decide) a28.view Q28 k.val (stack (W := 256) (R := 4096) (D := 64) (by decide) Q28 : S4096x64.Idx → Elt F .f32) rfl (off156_eq k), loadEN (Ring.sl 2 k.val) (off157_eq k), loadRows (Val := Elt F) (W := 256) (R := 4096) (D := 64) (by decide) a26.view Q26 k.val (stack (W := 256) (R := 4096) (D := 64) (by decide) Q26 : S4096x64.Idx → Elt F .f32) rfl (off156_eq k)]
  isplitl [HrET]; · iexact HrET
  isplitl [HzET]; · iexists _; iexact HzET
  isplitl [HyET]; · iexact HyET
  iexists _
  isplitr
  rotate_left
  · iexact HcET
  · ipureintro; refine (storeET (F := F) (Ring.sl 2 k.val) (off159_eq k) (by rw [off159_eq k]; exact slotInbET _) shapeCasts_S256x64_S1x256x64 sET (valE_ET (shapeCast S256x8192 (View.readAt (Elt F) (Memref.whole cc0_scoped30 : Memref sig .tc .vmem S2x256x8192 .f32).view (Rect.unit (s := S2x256x8192) (k0_off155 (w32 k.val)) S1x256x8192.size (by rw [off155_eq k]; exact slotInbEU _)).toLoadRect ((slotEU (Ring.sl 2 k.val)).view.writes (Elt F) (slotEU (Ring.sl 2 k.val)).view.junk [⟨Rect.whole S256x8192, (blkEU (Ring.bk 16 k.val)).view.read (Elt F) XEU⟩])) shapeCasts_S1x256x8192_S256x8192) (full29 c V29) (View.readAt (Elt F) a27.view (Rect.unit (s := S4096x64) (k0_off156 (w32 k.val)) S256x64.size (by rw [off156_eq k]; exact rowsInb (N := 16) hlt)).toLoadRect (stack (W := 256) (R := 4096) (D := 64) (by decide) Q27 : S4096x64.Idx → Elt F .f32)) (View.readAt (Elt F) a28.view (Rect.unit (s := S4096x64) (k0_off156 (w32 k.val)) S256x64.size (by rw [off156_eq k]; exact rowsInb (N := 16) hlt)).toLoadRect (stack (W := 256) (R := 4096) (D := 64) (by decide) Q28 : S4096x64.Idx → Elt F .f32)))).trans ?_
    unfold outE_ET; rw [loadEU (Ring.sl 2 k.val) (off155_eq k), full29_eq, loadRows (Val := Elt F) (W := 256) (R := 4096) (D := 64) (by decide) a27.view Q27 k.val (stack (W := 256) (R := 4096) (D := 64) (by decide) Q27 : S4096x64.Idx → Elt F .f32) rfl (off156_eq k), loadRows (Val := Elt F) (W := 256) (R := 4096) (D := 64) (by decide) a28.view Q28 k.val (stack (W := 256) (R := 4096) (D := 64) (by decide) Q28 : S4096x64.Idx → Elt F .f32) rfl (off156_eq k)]

set_option maxHeartbeats 4000000 in
theorem runE_mid (k : T5) (hk0 : 1 ≤ k.val ∧ k.val < 15) :
    iprop(own29 c V29 ∗ own27 c (stack (W := 256) (R := 4096) (D := 64) (by decide) Q27 : S4096x64.Idx → Elt F .f32) ∗ own28 c (stack (W := 256) (R := 4096) (D := 64) (by decide) Q28 : S4096x64.Idx → Elt F .f32) ∗ own26 c (stack (W := 256) (R := 4096) (D := 64) (by decide) Q26 : S4096x64.Idx → Elt F .f32) ∗ (∃ W, owes (c : Thread nD τ) 0 W) ∗ ringEU c XEU k ∗ ringEN c XEN k ∗ ringEI c OEI (finEI c XEU XEN V29 Q27 Q28 Q26) (outE_EI c XEU XEN V29 Q27 Q28 Q26) k ∗ ringET c OET (finET c XEU V29 Q27 Q28) (outE_ET c XEU V29 Q27 Q28) k)
      ⊢ wp frame (wpE (defs₀ (F := F)) 𝒱₀ (c : Thread nD τ) none) Set.univ (tripE arg6 harg6 arg7 harg7 arg8 harg8 arg9 harg9 v23 v30 e35 e36 e37 e38 e39 e40 k (accE k))
        (fun acc => iprop(⌜acc = outEw (k.val + 1)⌝ ∗ own29 c V29 ∗ own27 c (stack (W := 256) (R := 4096) (D := 64) (by decide) Q27 : S4096x64.Idx → Elt F .f32) ∗ own28 c (stack (W := 256) (R := 4096) (D := 64) (by decide) Q28 : S4096x64.Idx → Elt F .f32) ∗ own26 c (stack (W := 256) (R := 4096) (D := 64) (by decide) Q26 : S4096x64.Idx → Elt F .f32) ∗ (∃ W, owes (c : Thread nD τ) 0 W) ∗ ringEU c XEU (k + 1) ∗ ringEN c XEN (k + 1) ∗ ringEI c OEI (finEI c XEU XEN V29 Q27 Q28 Q26) (outE_EI c XEU XEN V29 Q27 Q28 Q26) (k + 1) ∗ ringET c OET (finET c XEU V29 Q27 Q28) (outE_ET c XEU V29 Q27 Q28) (k + 1))) := by
  have hlt : k.val < 16 := k.isLt
  have hk : k.val < 15 := by omega
  have hk8 : k.val + 1 < 16 := by omega
  have hk1 : 1 ≤ k.val := by omega
  have h97 := cond97_pos k hk
  have h98 := cond98_pos k hk
  have h102 := cond102_pos k
  have h103 := cond103_pos k
  have h114 := cond114_pos k
  have h115 := cond115_pos k
  have h121 := cond121_pos k hk1
  have h122 := cond122_pos k hk1
  have c33 := chk33_ok k
  have c32 := chk32_ok k
  have c31 := chk31_ok k
  have c30 := chk30_ok k
  have c29 := chk29_ok k
  unfold ringEU ringEN ringEI ringET
  rw [outEU c XEU k hk8, inEU c XEU k hk8]
  rw [outEN c XEN k hk8, inEN c XEN k hk8]
  rw [outEI c OEI (finEI c XEU XEN V29 Q27 Q28 Q26) k hlt, inEI c OEI (finEI c XEU XEN V29 Q27 Q28 Q26) k hlt hk1]
  rw [outET c OET (finET c XEU V29 Q27 Q28) k hlt, inET c OET (finET c XEU V29 Q27 Q28) k hlt hk1]
  rw [Nat.add_sub_cancel]
  rw [Ring.sl_add]
  iintro ⟨H29, H27, H28, H26, ⟨%W, HW⟩, ⟨⟨HbEU, HrEU⟩, ⟨%fEU, HFEU⟩, ⟨%sEU, HsEU⟩, HcEU⟩, ⟨⟨HbEN, HrEN⟩, ⟨%fEN, HFEN⟩, ⟨%sEN, HsEN⟩, HcEN⟩, ⟨⟨HbEI, HrEI⟩, ⟨%sEI, HsEI⟩, HcEI, ⟨%gEI, %hgEI, HFEI⟩⟩, ⟨⟨HbET, HrET⟩, ⟨%sET, HsET⟩, HcET, ⟨%gET, %hgET, HFET⟩⟩⟩
  dsimp only [tripE, accE]
  sl_unfold [k0_t5_body]
  sl_exec_parts
  sl_step
  isplitr
  · ipureintro; clear * - k; unfold outEw; refine Prod.ext ?_ (Prod.ext ?_ (Prod.ext ?_ (Prod.ext ?_ (Prod.ext ?_ (Prod.ext ?_ (Prod.ext ?_ (Prod.ext ?_ ?_))))))) <;> (revert k; decide)
  isplitl [H29]
  · iexact H29
  isplitl [H27]
  · iexact H27
  isplitl [H28]
  · iexact H28
  isplitl [H26]
  · iexact H26
  isplitl [HW]
  · iexists _; iexact HW
  isplitl [HrEU HFEU_src HFEU_dst HFEU HcEU]
  · isplitl [HFEU_src HrEU]
    · isplitl [HFEU_src]; · iexact HFEU_src
      iexact HrEU
    isplitl [HcEU]; · iexists sEU; iexact HcEU
    isplitl [HFEU_dst]; · iexists _; iexact HFEU_dst
    iexact HFEU
  isplitl [HrEN HFEN_src HFEN_dst HFEN HcEN]
  · isplitl [HFEN_src HrEN]
    · isplitl [HFEN_src]; · iexact HFEN_src
      iexact HrEN
    isplitl [HcEN]; · iexists sEN; iexact HcEN
    isplitl [HFEN_dst]; · iexists _; iexact HFEN_dst
    iexact HFEN
  isplitl [HrEI HFEI_src HFEI_dst HFEI HcEI]
  · isplitl [HFEI_dst HrEI]
    · isplitl [HFEI_dst]
      · iapply (entails_of_eq (doneEI c OEI _ (Ring.sl 2 (k.val - 1)) (k.val - 1) (by omega) gEI (outE_EI c XEU XEN V29 Q27 Q28 Q26) rfl hgEI)); iexact HFEI_dst
      · iexact HrEI
    rw [Ring.sl2_succ_eq_pred k.val hk1]
    isplitl [HFEI_src]; · iexists _; iexact HFEI_src
    isplitl [HFEI]; · iexact HFEI
    iexists _
    isplitr
    rotate_left
    · iexact HcEI
    · ipureintro; refine (storeEI (F := F) (Ring.sl 2 k.val) (off158_eq k) (by rw [off158_eq k]; exact slotInbEI _) shapeCasts_S256x64_S1x256x64 sEI (valE_EI (shapeCast S256x8192 (View.readAt (Elt F) (Memref.whole cc0_scoped30 : Memref sig .tc .vmem S2x256x8192 .f32).view (Rect.unit (s := S2x256x8192) (k0_off155 (w32 k.val)) S1x256x8192.size (by rw [off155_eq k]; exact slotInbEU _)).toLoadRect ((slotEU (Ring.sl 2 k.val)).view.writes (Elt F) (slotEU (Ring.sl 2 k.val)).view.junk [⟨Rect.whole S256x8192, (blkEU (Ring.bk 16 k.val)).view.read (Elt F) XEU⟩])) shapeCasts_S1x256x8192_S256x8192) (full29 c V29) (View.readAt (Elt F) a27.view (Rect.unit (s := S4096x64) (k0_off156 (w32 k.val)) S256x64.size (by rw [off156_eq k]; exact rowsInb (N := 16) hlt)).toLoadRect (stack (W := 256) (R := 4096) (D := 64) (by decide) Q27 : S4096x64.Idx → Elt F .f32)) (View.readAt (Elt F) a28.view (Rect.unit (s := S4096x64) (k0_off156 (w32 k.val)) S256x64.size (by rw [off156_eq k]; exact rowsInb (N := 16) hlt)).toLoadRect (stack (W := 256) (R := 4096) (D := 64) (by decide) Q28 : S4096x64.Idx → Elt F .f32)) (shapeCast S256x64 (View.readAt (Elt F) (Memref.whole cc0_scoped32 : Memref sig .tc .vmem S2x256x64 .f32).view (Rect.unit (s := S2x256x64) (k0_off157 (w32 k.val)) S1x256x64.size (by rw [off157_eq k]; exact slotInbEN _)).toLoadRect ((slotEN (Ring.sl 2 k.val)).view.writes (Elt F) (slotEN (Ring.sl 2 k.val)).view.junk [⟨Rect.whole S256x64, (blkEN (Ring.bk 16 k.val)).view.read (Elt F) XEN⟩])) shapeCasts_S1x256x64_S256x64) (View.readAt (Elt F) a26.view (Rect.unit (s := S4096x64) (k0_off156 (w32 k.val)) S256x64.size (by rw [off156_eq k]; exact rowsInb (N := 16) hlt)).toLoadRect (stack (W := 256) (R := 4096) (D := 64) (by decide) Q26 : S4096x64.Idx → Elt F .f32)))).trans ?_
      unfold outE_EI; rw [loadEU (Ring.sl 2 k.val) (off155_eq k), full29_eq, loadRows (Val := Elt F) (W := 256) (R := 4096) (D := 64) (by decide) a27.view Q27 k.val (stack (W := 256) (R := 4096) (D := 64) (by decide) Q27 : S4096x64.Idx → Elt F .f32) rfl (off156_eq k), loadRows (Val := Elt F) (W := 256) (R := 4096) (D := 64) (by decide) a28.view Q28 k.val (stack (W := 256) (R := 4096) (D := 64) (by decide) Q28 : S4096x64.Idx → Elt F .f32) rfl (off156_eq k), loadEN (Ring.sl 2 k.val) (off157_eq k), loadRows (Val := Elt F) (W := 256) (R := 4096) (D := 64) (by decide) a26.view Q26 k.val (stack (W := 256) (R := 4096) (D := 64) (by decide) Q26 : S4096x64.Idx → Elt F .f32) rfl (off156_eq k)]
  isplitl [HFET_dst HrET]
  · isplitl [HFET_dst]
    · iapply (entails_of_eq (doneET c OET _ (Ring.sl 2 (k.val - 1)) (k.val - 1) (by omega) gET (outE_ET c XEU V29 Q27 Q28) rfl hgET)); iexact HFET_dst
    · iexact HrET
  rw [Ring.sl2_succ_eq_pred k.val hk1]
  isplitl [HFET_src]; · iexists _; iexact HFET_src
  isplitl [HFET]; · iexact HFET
  iexists _
  isplitr
  rotate_left
  · iexact HcET
  · ipureintro; refine (storeET (F := F) (Ring.sl 2 k.val) (off159_eq k) (by rw [off159_eq k]; exact slotInbET _) shapeCasts_S256x64_S1x256x64 sET (valE_ET (shapeCast S256x8192 (View.readAt (Elt F) (Memref.whole cc0_scoped30 : Memref sig .tc .vmem S2x256x8192 .f32).view (Rect.unit (s := S2x256x8192) (k0_off155 (w32 k.val)) S1x256x8192.size (by rw [off155_eq k]; exact slotInbEU _)).toLoadRect ((slotEU (Ring.sl 2 k.val)).view.writes (Elt F) (slotEU (Ring.sl 2 k.val)).view.junk [⟨Rect.whole S256x8192, (blkEU (Ring.bk 16 k.val)).view.read (Elt F) XEU⟩])) shapeCasts_S1x256x8192_S256x8192) (full29 c V29) (View.readAt (Elt F) a27.view (Rect.unit (s := S4096x64) (k0_off156 (w32 k.val)) S256x64.size (by rw [off156_eq k]; exact rowsInb (N := 16) hlt)).toLoadRect (stack (W := 256) (R := 4096) (D := 64) (by decide) Q27 : S4096x64.Idx → Elt F .f32)) (View.readAt (Elt F) a28.view (Rect.unit (s := S4096x64) (k0_off156 (w32 k.val)) S256x64.size (by rw [off156_eq k]; exact rowsInb (N := 16) hlt)).toLoadRect (stack (W := 256) (R := 4096) (D := 64) (by decide) Q28 : S4096x64.Idx → Elt F .f32)))).trans ?_
    unfold outE_ET; rw [loadEU (Ring.sl 2 k.val) (off155_eq k), full29_eq, loadRows (Val := Elt F) (W := 256) (R := 4096) (D := 64) (by decide) a27.view Q27 k.val (stack (W := 256) (R := 4096) (D := 64) (by decide) Q27 : S4096x64.Idx → Elt F .f32) rfl (off156_eq k), loadRows (Val := Elt F) (W := 256) (R := 4096) (D := 64) (by decide) a28.view Q28 k.val (stack (W := 256) (R := 4096) (D := 64) (by decide) Q28 : S4096x64.Idx → Elt F .f32) rfl (off156_eq k)]

set_option maxHeartbeats 4000000 in
theorem runE_last (k : T5) (hk0 : ¬ k.val < 15) :
    iprop(own29 c V29 ∗ own27 c (stack (W := 256) (R := 4096) (D := 64) (by decide) Q27 : S4096x64.Idx → Elt F .f32) ∗ own28 c (stack (W := 256) (R := 4096) (D := 64) (by decide) Q28 : S4096x64.Idx → Elt F .f32) ∗ own26 c (stack (W := 256) (R := 4096) (D := 64) (by decide) Q26 : S4096x64.Idx → Elt F .f32) ∗ (∃ W, owes (c : Thread nD τ) 0 W) ∗ ringEU c XEU k ∗ ringEN c XEN k ∗ ringEI c OEI (finEI c XEU XEN V29 Q27 Q28 Q26) (outE_EI c XEU XEN V29 Q27 Q28 Q26) k ∗ ringET c OET (finET c XEU V29 Q27 Q28) (outE_ET c XEU V29 Q27 Q28) k)
      ⊢ wp frame (wpE (defs₀ (F := F)) 𝒱₀ (c : Thread nD τ) none) Set.univ (tripE arg6 harg6 arg7 harg7 arg8 harg8 arg9 harg9 v23 v30 e35 e36 e37 e38 e39 e40 k (accE k))
        (fun acc => iprop(⌜acc = outEw (k.val + 1)⌝ ∗ own29 c V29 ∗ own27 c (stack (W := 256) (R := 4096) (D := 64) (by decide) Q27 : S4096x64.Idx → Elt F .f32) ∗ own28 c (stack (W := 256) (R := 4096) (D := 64) (by decide) Q28 : S4096x64.Idx → Elt F .f32) ∗ own26 c (stack (W := 256) (R := 4096) (D := 64) (by decide) Q26 : S4096x64.Idx → Elt F .f32) ∗ (∃ W, owes (c : Thread nD τ) 0 W) ∗ ringEndEU c XEU k ∗ ringEndEN c XEN k ∗ ringEI c OEI (finEI c XEU XEN V29 Q27 Q28 Q26) (outE_EI c XEU XEN V29 Q27 Q28 Q26) (k + 1) ∗ ringET c OET (finET c XEU V29 Q27 Q28) (outE_ET c XEU V29 Q27 Q28) (k + 1))) := by
  have hlt : k.val < 16 := k.isLt
  have hkl : k.val = 15 := by omega
  have hk : ¬ k.val < 15 := hk0
  have hk1 : 1 ≤ k.val := by omega
  have h97 := cond97_neg k hk
  have h98 := cond98_neg k hk
  have h102 := cond102_pos k
  have h103 := cond103_pos k
  have h114 := cond114_pos k
  have h115 := cond115_pos k
  have h121 := cond121_pos k hk1
  have h122 := cond122_pos k hk1
  have c33 := chk33_ok k
  have c32 := chk32_ok k
  have c31 := chk31_ok k
  have c30 := chk30_ok k
  have c29 := chk29_ok k
  unfold ringEU ringEN ringEI ringET ringEndEU ringEndEN
  rw [endEU c XEU k hkl]
  rw [endEN c XEN k hkl]
  rw [outEI c OEI (finEI c XEU XEN V29 Q27 Q28 Q26) k hlt, inEI c OEI (finEI c XEU XEN V29 Q27 Q28 Q26) k hlt hk1]
  rw [outET c OET (finET c XEU V29 Q27 Q28) k hlt, inET c OET (finET c XEU V29 Q27 Q28) k hlt hk1]
  rw [Nat.add_sub_cancel]
  iintro ⟨H29, H27, H28, H26, ⟨%W, HW⟩, ⟨HrEU, ⟨%fEU, HFEU⟩, ⟨%sEU, HsEU⟩, HcEU⟩, ⟨HrEN, ⟨%fEN, HFEN⟩, ⟨%sEN, HsEN⟩, HcEN⟩, ⟨⟨HbEI, HrEI⟩, ⟨%sEI, HsEI⟩, HcEI, ⟨%gEI, %hgEI, HFEI⟩⟩, ⟨⟨HbET, HrET⟩, ⟨%sET, HsET⟩, HcET, ⟨%gET, %hgET, HFET⟩⟩⟩
  dsimp only [tripE, accE]
  sl_unfold [k0_t5_body]
  sl_exec_parts
  sl_step
  isplitr
  · ipureintro; clear * - k; unfold outEw; refine Prod.ext ?_ (Prod.ext ?_ (Prod.ext ?_ (Prod.ext ?_ (Prod.ext ?_ (Prod.ext ?_ (Prod.ext ?_ (Prod.ext ?_ ?_))))))) <;> (revert k; decide)
  isplitl [H29]
  · iexact H29
  isplitl [H27]
  · iexact H27
  isplitl [H28]
  · iexact H28
  isplitl [H26]
  · iexact H26
  isplitl [HW]
  · iexists _; iexact HW
  isplitl [HrEU HFEU_src HFEU_dst HFEU HcEU HsEU]
  · isplitl [HFEU_src HrEU]
    · isplitl [HFEU_src]; · iexact HFEU_src
      iexact HrEU
    isplitl [HFEU_dst]; · iexists _; iexact HFEU_dst
    isplitl [HsEU]; · iexists _; iexact HsEU
    isplitl [HFEU]; · iexact HFEU
    iexact HcEU
  isplitl [HrEN HFEN_src HFEN_dst HFEN HcEN HsEN]
  · isplitl [HFEN_src HrEN]
    · isplitl [HFEN_src]; · iexact HFEN_src
      iexact HrEN
    isplitl [HFEN_dst]; · iexists _; iexact HFEN_dst
    isplitl [HsEN]; · iexists _; iexact HsEN
    isplitl [HFEN]; · iexact HFEN
    iexact HcEN
  isplitl [HrEI HFEI_src HFEI_dst HFEI HcEI]
  · isplitl [HFEI_dst HrEI]
    · isplitl [HFEI_dst]
      · iapply (entails_of_eq (doneEI c OEI _ (Ring.sl 2 (k.val - 1)) (k.val - 1) (by omega) gEI (outE_EI c XEU XEN V29 Q27 Q28 Q26) rfl hgEI)); iexact HFEI_dst
      · iexact HrEI
    rw [Ring.sl2_succ_eq_pred k.val hk1]
    isplitl [HFEI_src]; · iexists _; iexact HFEI_src
    isplitl [HFEI]; · iexact HFEI
    iexists _
    isplitr
    rotate_left
    · iexact HcEI
    · ipureintro; refine (storeEI (F := F) (Ring.sl 2 k.val) (off158_eq k) (by rw [off158_eq k]; exact slotInbEI _) shapeCasts_S256x64_S1x256x64 sEI (valE_EI (shapeCast S256x8192 (View.readAt (Elt F) (Memref.whole cc0_scoped30 : Memref sig .tc .vmem S2x256x8192 .f32).view (Rect.unit (s := S2x256x8192) (k0_off155 (w32 k.val)) S1x256x8192.size (by rw [off155_eq k]; exact slotInbEU _)).toLoadRect ((slotEU (Ring.sl 2 k.val)).view.writes (Elt F) (slotEU (Ring.sl 2 k.val)).view.junk [⟨Rect.whole S256x8192, (blkEU (Ring.bk 16 k.val)).view.read (Elt F) XEU⟩])) shapeCasts_S1x256x8192_S256x8192) (full29 c V29) (View.readAt (Elt F) a27.view (Rect.unit (s := S4096x64) (k0_off156 (w32 k.val)) S256x64.size (by rw [off156_eq k]; exact rowsInb (N := 16) hlt)).toLoadRect (stack (W := 256) (R := 4096) (D := 64) (by decide) Q27 : S4096x64.Idx → Elt F .f32)) (View.readAt (Elt F) a28.view (Rect.unit (s := S4096x64) (k0_off156 (w32 k.val)) S256x64.size (by rw [off156_eq k]; exact rowsInb (N := 16) hlt)).toLoadRect (stack (W := 256) (R := 4096) (D := 64) (by decide) Q28 : S4096x64.Idx → Elt F .f32)) (shapeCast S256x64 (View.readAt (Elt F) (Memref.whole cc0_scoped32 : Memref sig .tc .vmem S2x256x64 .f32).view (Rect.unit (s := S2x256x64) (k0_off157 (w32 k.val)) S1x256x64.size (by rw [off157_eq k]; exact slotInbEN _)).toLoadRect ((slotEN (Ring.sl 2 k.val)).view.writes (Elt F) (slotEN (Ring.sl 2 k.val)).view.junk [⟨Rect.whole S256x64, (blkEN (Ring.bk 16 k.val)).view.read (Elt F) XEN⟩])) shapeCasts_S1x256x64_S256x64) (View.readAt (Elt F) a26.view (Rect.unit (s := S4096x64) (k0_off156 (w32 k.val)) S256x64.size (by rw [off156_eq k]; exact rowsInb (N := 16) hlt)).toLoadRect (stack (W := 256) (R := 4096) (D := 64) (by decide) Q26 : S4096x64.Idx → Elt F .f32)))).trans ?_
      unfold outE_EI; rw [loadEU (Ring.sl 2 k.val) (off155_eq k), full29_eq, loadRows (Val := Elt F) (W := 256) (R := 4096) (D := 64) (by decide) a27.view Q27 k.val (stack (W := 256) (R := 4096) (D := 64) (by decide) Q27 : S4096x64.Idx → Elt F .f32) rfl (off156_eq k), loadRows (Val := Elt F) (W := 256) (R := 4096) (D := 64) (by decide) a28.view Q28 k.val (stack (W := 256) (R := 4096) (D := 64) (by decide) Q28 : S4096x64.Idx → Elt F .f32) rfl (off156_eq k), loadEN (Ring.sl 2 k.val) (off157_eq k), loadRows (Val := Elt F) (W := 256) (R := 4096) (D := 64) (by decide) a26.view Q26 k.val (stack (W := 256) (R := 4096) (D := 64) (by decide) Q26 : S4096x64.Idx → Elt F .f32) rfl (off156_eq k)]
  isplitl [HFET_dst HrET]
  · isplitl [HFET_dst]
    · iapply (entails_of_eq (doneET c OET _ (Ring.sl 2 (k.val - 1)) (k.val - 1) (by omega) gET (outE_ET c XEU V29 Q27 Q28) rfl hgET)); iexact HFET_dst
    · iexact HrET
  rw [Ring.sl2_succ_eq_pred k.val hk1]
  isplitl [HFET_src]; · iexists _; iexact HFET_src
  isplitl [HFET]; · iexact HFET
  iexists _
  isplitr
  rotate_left
  · iexact HcET
  · ipureintro; refine (storeET (F := F) (Ring.sl 2 k.val) (off159_eq k) (by rw [off159_eq k]; exact slotInbET _) shapeCasts_S256x64_S1x256x64 sET (valE_ET (shapeCast S256x8192 (View.readAt (Elt F) (Memref.whole cc0_scoped30 : Memref sig .tc .vmem S2x256x8192 .f32).view (Rect.unit (s := S2x256x8192) (k0_off155 (w32 k.val)) S1x256x8192.size (by rw [off155_eq k]; exact slotInbEU _)).toLoadRect ((slotEU (Ring.sl 2 k.val)).view.writes (Elt F) (slotEU (Ring.sl 2 k.val)).view.junk [⟨Rect.whole S256x8192, (blkEU (Ring.bk 16 k.val)).view.read (Elt F) XEU⟩])) shapeCasts_S1x256x8192_S256x8192) (full29 c V29) (View.readAt (Elt F) a27.view (Rect.unit (s := S4096x64) (k0_off156 (w32 k.val)) S256x64.size (by rw [off156_eq k]; exact rowsInb (N := 16) hlt)).toLoadRect (stack (W := 256) (R := 4096) (D := 64) (by decide) Q27 : S4096x64.Idx → Elt F .f32)) (View.readAt (Elt F) a28.view (Rect.unit (s := S4096x64) (k0_off156 (w32 k.val)) S256x64.size (by rw [off156_eq k]; exact rowsInb (N := 16) hlt)).toLoadRect (stack (W := 256) (R := 4096) (D := 64) (by decide) Q28 : S4096x64.Idx → Elt F .f32)))).trans ?_
    unfold outE_ET; rw [loadEU (Ring.sl 2 k.val) (off155_eq k), full29_eq, loadRows (Val := Elt F) (W := 256) (R := 4096) (D := 64) (by decide) a27.view Q27 k.val (stack (W := 256) (R := 4096) (D := 64) (by decide) Q27 : S4096x64.Idx → Elt F .f32) rfl (off156_eq k), loadRows (Val := Elt F) (W := 256) (R := 4096) (D := 64) (by decide) a28.view Q28 k.val (stack (W := 256) (R := 4096) (D := 64) (by decide) Q28 : S4096x64.Idx → Elt F .f32) rfl (off156_eq k)]

end Trip

end Cert.Proof.KI

end
-- ==== Proof.KI.LoopE.lean ====
/-
  Pipeline E as a whole: what holds between its trips, how it is entered and what it leaves.
-/
module

public import proofs.«01_k».proof.Proof.KI.E

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

/-- Both slots and both semaphores free. -/
def freeEU (c : Dev nD) : sProp 𝕄 :=
  iprop((∃ f, slotPEU c (Ring.sl 2 0) f) ∗ (∃ f, slotPEU c (Ring.sl 2 1) f) ∗ cellEU (F := F) c (Ring.sl 2 0) ∗ cellEU (F := F) c (Ring.sl 2 1))
theorem openEU (c : Dev nD) (X : Buf (Elt F) ((Memref.whole main_arg1 : Memref sig .tc .hbm _ _).view.loc (c : Thread nD τ))) :
    iprop(bigSep Finset.univ (homeEU c X) ∗ freeEU (F := F) c) ⊢ iprop(homeEU c X (Ring.bk 16 0) ∗ bigSep (Ring.homeSet 1 0) (homeEU c X)
      ∗ (∃ f, slotPEU c (Ring.sl 2 0) f) ∗ (∃ f, slotPEU c (Ring.sl 2 1) f) ∗ cellEU (F := F) c (Ring.sl 2 0) ∗ cellEU (F := F) c (Ring.sl 2 1)) := by
  have e : (Finset.univ : Finset (Fin 16)) = insert (Ring.bk 16 0) (Ring.homeSet (NB := 16) 1 0) := by decide
  have e' : bigSep Finset.univ (homeEU c X) = iprop(homeEU c X (Ring.bk 16 0) ∗ bigSep (Ring.homeSet 1 0) (homeEU c X)) := by
    rw [e, bigSep_insert (by decide)]; rfl
  unfold freeEU
  rw [e']
  iintro ⟨⟨H1, H2⟩, H3, H4, H5, H6⟩
  isplitl [H1]
  · iexact H1
  isplitl [H2]
  · iexact H2
  isplitl [H3]
  · iexact H3
  isplitl [H4]
  · iexact H4
  isplitl [H5]
  · iexact H5
  · iexact H6
theorem ringInEU (c : Dev nD) (X : Buf (Elt F) ((Memref.whole main_arg1 : Memref sig .tc .hbm _ _).view.loc (c : Thread nD τ))) :
    iprop(bigSep (Ring.homeSet 1 0) (homeEU c X) ∗ (∃ f, flightEU c X (Ring.sl 2 0) (Ring.bk 16 0) f)
      ∗ (∃ f, slotPEU c (Ring.sl 2 1) f) ∗ cellEU (F := F) c (Ring.sl 2 1)) ⊢ ringEU c X 0 := by
  unfold ringEU; exact .rfl
theorem ringOutEU (c : Dev nD) (X : Buf (Elt F) ((Memref.whole main_arg1 : Memref sig .tc .hbm _ _).view.loc (c : Thread nD τ))) :
    ringEndEU c X 15 ⊢ iprop(bigSep Finset.univ (homeEU c X) ∗ freeEU (F := F) c) := by
  unfold ringEndEU freeEU
  rw [show Ring.sl 2 15 = Ring.sl 2 1 from rfl, show Ring.sl 2 (15 + 1) = Ring.sl 2 0 from rfl]
  iintro ⟨H1, H2, H3, H4, H5⟩
  isplitl [H1]
  · iexact H1
  isplitl [H3]
  · iexact H3
  isplitl [H2]
  · iexact H2
  isplitl [H5]
  · iexact H5
  · iexact H4

/-- Both slots and both semaphores free. -/
def freeEN (c : Dev nD) : sProp 𝕄 :=
  iprop((∃ f, slotPEN c (Ring.sl 2 0) f) ∗ (∃ f, slotPEN c (Ring.sl 2 1) f) ∗ cellEN (F := F) c (Ring.sl 2 0) ∗ cellEN (F := F) c (Ring.sl 2 1))
theorem openEN (c : Dev nD) (X : Buf (Elt F) ((Memref.whole main_arg5 : Memref sig .tc .hbm _ _).view.loc (c : Thread nD τ))) :
    iprop(bigSep Finset.univ (homeEN c X) ∗ freeEN (F := F) c) ⊢ iprop(homeEN c X (Ring.bk 16 0) ∗ bigSep (Ring.homeSet 1 0) (homeEN c X)
      ∗ (∃ f, slotPEN c (Ring.sl 2 0) f) ∗ (∃ f, slotPEN c (Ring.sl 2 1) f) ∗ cellEN (F := F) c (Ring.sl 2 0) ∗ cellEN (F := F) c (Ring.sl 2 1)) := by
  have e : (Finset.univ : Finset (Fin 16)) = insert (Ring.bk 16 0) (Ring.homeSet (NB := 16) 1 0) := by decide
  have e' : bigSep Finset.univ (homeEN c X) = iprop(homeEN c X (Ring.bk 16 0) ∗ bigSep (Ring.homeSet 1 0) (homeEN c X)) := by
    rw [e, bigSep_insert (by decide)]; rfl
  unfold freeEN
  rw [e']
  iintro ⟨⟨H1, H2⟩, H3, H4, H5, H6⟩
  isplitl [H1]
  · iexact H1
  isplitl [H2]
  · iexact H2
  isplitl [H3]
  · iexact H3
  isplitl [H4]
  · iexact H4
  isplitl [H5]
  · iexact H5
  · iexact H6
theorem ringInEN (c : Dev nD) (X : Buf (Elt F) ((Memref.whole main_arg5 : Memref sig .tc .hbm _ _).view.loc (c : Thread nD τ))) :
    iprop(bigSep (Ring.homeSet 1 0) (homeEN c X) ∗ (∃ f, flightEN c X (Ring.sl 2 0) (Ring.bk 16 0) f)
      ∗ (∃ f, slotPEN c (Ring.sl 2 1) f) ∗ cellEN (F := F) c (Ring.sl 2 1)) ⊢ ringEN c X 0 := by
  unfold ringEN; exact .rfl
theorem ringOutEN (c : Dev nD) (X : Buf (Elt F) ((Memref.whole main_arg5 : Memref sig .tc .hbm _ _).view.loc (c : Thread nD τ))) :
    ringEndEN c X 15 ⊢ iprop(bigSep Finset.univ (homeEN c X) ∗ freeEN (F := F) c) := by
  unfold ringEndEN freeEN
  rw [show Ring.sl 2 15 = Ring.sl 2 1 from rfl, show Ring.sl 2 (15 + 1) = Ring.sl 2 0 from rfl]
  iintro ⟨H1, H2, H3, H4, H5⟩
  isplitl [H1]
  · iexact H1
  isplitl [H3]
  · iexact H3
  isplitl [H2]
  · iexact H2
  isplitl [H5]
  · iexact H5
  · iexact H4

/-- Both slots and both semaphores free. -/
def freeEI (c : Dev nD) : sProp 𝕄 :=
  iprop((∃ f, slotPEI c (Ring.sl 2 0) f) ∗ (∃ f, slotPEI c (Ring.sl 2 1) f) ∗ cellEI (F := F) c (Ring.sl 2 0) ∗ cellEI (F := F) c (Ring.sl 2 1))
theorem ringInEI (c : Dev nD) (X Y : Buf (Elt F) ((Memref.whole main_v22_1 : Memref sig .tc .hbm _ _).view.loc (c : Thread nD τ))) :
    iprop(bigSep Finset.univ (homeEI c X) ∗ freeEI (F := F) c) ⊢ ring0EI c X Y 0 := by
  have e : bigSep (Ring.homeSetB 1 0) (partEI c X Y 0) = bigSep Finset.univ (homeEI c X) := by
    rw [Ring.homeSetB_zero]
    exact bigSep_congr fun b _ => by unfold partEI; rw [if_neg (by omega)]
  unfold freeEI ring0EI
  rw [e]
  iintro ⟨H1, H2, H3, H4, H5⟩
  isplitl [H1]
  · iexact H1
  isplitl [H2]
  · iexact H2
  isplitl [H4]
  · iexact H4
  isplitl [H3]
  · iexact H3
  · iexact H5
theorem ringOutEI (c : Dev nD) (X Y : Buf (Elt F) ((Memref.whole main_v22_1 : Memref sig .tc .hbm _ _).view.loc (c : Thread nD τ))) (Q : ℕ → S256x64.Idx → Elt F .f32) :
    ringEI c X Y Q 16 ⊢ iprop(bigSep (Ring.homeSetB 1 16) (partEI c X Y 16) ∗ (∃ f, slotPEI c (Ring.sl 2 0) f) ∗ cellEI (F := F) c (Ring.sl 2 0)
      ∗ (∃ g, ⌜(slotEI (Ring.sl 2 1)).view.read (Elt F) g = Q 15⌝ ∗ flightEI c X (Ring.sl 2 1) (Ring.bk 16 15) g)) := by
  unfold ringEI; exact .rfl
theorem closeEI (c : Dev nD) (J X Y : Buf (Elt F) ((Memref.whole main_v22_1 : Memref sig .tc .hbm _ _).view.loc (c : Thread nD τ))) (Q : ℕ → S256x64.Idx → Elt F .f32) (g : Buf (Elt F) ((slotEI (Ring.sl 2 1)).view.loc (c : Thread nD τ)))
    (hY : Y = (stack (W := 256) (R := 4096) (D := 64) (by decide) Q : S4096x64.Idx → Elt F .f32)) (hg : (slotEI (Ring.sl 2 1)).view.read (Elt F) g = Q 15) :
    iprop(homeEI c ((blkEI (Ring.bk 16 15)).view.writes (Elt F) J [⟨Rect.whole S256x64, ReadAs.same.apply ((slotEI (Ring.sl 2 1)).view.read (Elt F) g)⟩]) (Ring.bk 16 15)
      ∗ bigSep (Ring.homeSetB 1 16) (partEI c X Y 16) ∗ (∃ f, slotPEI c (Ring.sl 2 0) f) ∗ slotPEI c (Ring.sl 2 1) g ∗ cellEI (F := F) c (Ring.sl 2 0) ∗ cellEI (F := F) c (Ring.sl 2 1))
      ⊢ iprop(bigSep Finset.univ (homeEI c Y) ∗ freeEI (F := F) c) := by
  rw [doneEI c J Y (Ring.sl 2 1) 15 (by decide) g Q hY hg]
  unfold freeEI
  iintro ⟨H1, H2, H3, H4, H5, H6⟩
  isplitl [H1 H2]
  · iapply (entails_of_eq (endEI c X Y 16 rfl).symm)
    isplitl [H1]
    · iexact H1
    · iexact H2
  isplitl [H3]
  · iexact H3
  isplitl [H4]
  · iexists g; iexact H4
  isplitl [H5]
  · iexact H5
  · iexact H6

/-- Both slots and both semaphores free. -/
def freeET (c : Dev nD) : sProp 𝕄 :=
  iprop((∃ f, slotPET c (Ring.sl 2 0) f) ∗ (∃ f, slotPET c (Ring.sl 2 1) f) ∗ cellET (F := F) c (Ring.sl 2 0) ∗ cellET (F := F) c (Ring.sl 2 1))
theorem ringInET (c : Dev nD) (X Y : Buf (Elt F) ((Memref.whole main_v22_7 : Memref sig .tc .hbm _ _).view.loc (c : Thread nD τ))) :
    iprop(bigSep Finset.univ (homeET c X) ∗ freeET (F := F) c) ⊢ ring0ET c X Y 0 := by
  have e : bigSep (Ring.homeSetB 1 0) (partET c X Y 0) = bigSep Finset.univ (homeET c X) := by
    rw [Ring.homeSetB_zero]
    exact bigSep_congr fun b _ => by unfold partET; rw [if_neg (by omega)]
  unfold freeET ring0ET
  rw [e]
  iintro ⟨H1, H2, H3, H4, H5⟩
  isplitl [H1]
  · iexact H1
  isplitl [H2]
  · iexact H2
  isplitl [H4]
  · iexact H4
  isplitl [H3]
  · iexact H3
  · iexact H5
theorem ringOutET (c : Dev nD) (X Y : Buf (Elt F) ((Memref.whole main_v22_7 : Memref sig .tc .hbm _ _).view.loc (c : Thread nD τ))) (Q : ℕ → S256x64.Idx → Elt F .f32) :
    ringET c X Y Q 16 ⊢ iprop(bigSep (Ring.homeSetB 1 16) (partET c X Y 16) ∗ (∃ f, slotPET c (Ring.sl 2 0) f) ∗ cellET (F := F) c (Ring.sl 2 0)
      ∗ (∃ g, ⌜(slotET (Ring.sl 2 1)).view.read (Elt F) g = Q 15⌝ ∗ flightET c X (Ring.sl 2 1) (Ring.bk 16 15) g)) := by
  unfold ringET; exact .rfl
theorem closeET (c : Dev nD) (J X Y : Buf (Elt F) ((Memref.whole main_v22_7 : Memref sig .tc .hbm _ _).view.loc (c : Thread nD τ))) (Q : ℕ → S256x64.Idx → Elt F .f32) (g : Buf (Elt F) ((slotET (Ring.sl 2 1)).view.loc (c : Thread nD τ)))
    (hY : Y = (stack (W := 256) (R := 4096) (D := 64) (by decide) Q : S4096x64.Idx → Elt F .f32)) (hg : (slotET (Ring.sl 2 1)).view.read (Elt F) g = Q 15) :
    iprop(homeET c ((blkET (Ring.bk 16 15)).view.writes (Elt F) J [⟨Rect.whole S256x64, ReadAs.same.apply ((slotET (Ring.sl 2 1)).view.read (Elt F) g)⟩]) (Ring.bk 16 15)
      ∗ bigSep (Ring.homeSetB 1 16) (partET c X Y 16) ∗ (∃ f, slotPET c (Ring.sl 2 0) f) ∗ slotPET c (Ring.sl 2 1) g ∗ cellET (F := F) c (Ring.sl 2 0) ∗ cellET (F := F) c (Ring.sl 2 1))
      ⊢ iprop(bigSep Finset.univ (homeET c Y) ∗ freeET (F := F) c) := by
  rw [doneET c J Y (Ring.sl 2 1) 15 (by decide) g Q hY hg]
  unfold freeET
  iintro ⟨H1, H2, H3, H4, H5, H6⟩
  isplitl [H1 H2]
  · iapply (entails_of_eq (endET c X Y 16 rfl).symm)
    isplitl [H1]
    · iexact H1
    · iexact H2
  isplitl [H3]
  · iexact H3
  isplitl [H4]
  · iexists g; iexact H4
  isplitl [H5]
  · iexact H5
  · iexact H6

section Loop
variable (c : Dev nD)
  (XEU : Buf (Elt F) ((Memref.whole main_arg1 : Memref sig .tc .hbm _ _).view.loc (c : Thread nD τ)))
  (XEN : Buf (Elt F) ((Memref.whole main_arg5 : Memref sig .tc .hbm _ _).view.loc (c : Thread nD τ)))
  (V29 : Buf (Elt F) (a29.view.loc (c : Thread nD τ)))
  (Q27 : ℕ → S256x64.Idx → Elt F .f32)
  (Q28 : ℕ → S256x64.Idx → Elt F .f32)
  (Q26 : ℕ → S256x64.Idx → Elt F .f32)
  (OEI : Buf (Elt F) ((Memref.whole main_v22_1 : Memref sig .tc .hbm _ _).view.loc (c : Thread nD τ)))
  (OET : Buf (Elt F) ((Memref.whole main_v22_7 : Memref sig .tc .hbm _ _).view.loc (c : Thread nD τ)))

/-- The pipeline's buffers before trip `k`. -/
def ringsE (k : ℕ) : sProp 𝕄 := if k = 0 then iprop(ringEU c XEU 0 ∗ ringEN c XEN 0 ∗ ring0EI c OEI (finEI c XEU XEN V29 Q27 Q28 Q26) 0 ∗ ring0ET c OET (finET c XEU V29 Q27 Q28) 0) else if k < 16 then iprop(ringEU c XEU k ∗ ringEN c XEN k ∗ ringEI c OEI (finEI c XEU XEN V29 Q27 Q28 Q26) (outE_EI c XEU XEN V29 Q27 Q28 Q26) k ∗ ringET c OET (finET c XEU V29 Q27 Q28) (outE_ET c XEU V29 Q27 Q28) k) else iprop(ringEndEU c XEU 15 ∗ ringEndEN c XEN 15 ∗ ringEI c OEI (finEI c XEU XEN V29 Q27 Q28 Q26) (outE_EI c XEU XEN V29 Q27 Q28 Q26) 16 ∗ ringET c OET (finET c XEU V29 Q27 Q28) (outE_ET c XEU V29 Q27 Q28) 16)
/-- What holds between the trips. -/
def invE (k : ℕ) (acc : BitVec 32 × BitVec 32 × BitVec 32 × BitVec 32 × BitVec 32 × BitVec 32 × BitVec 32 × BitVec 32 × BitVec 32) : sProp 𝕄 :=
  iprop(⌜acc = outEw k⌝ ∗ own29 c V29 ∗ own27 c (stack (W := 256) (R := 4096) (D := 64) (by decide) Q27 : S4096x64.Idx → Elt F .f32) ∗ own28 c (stack (W := 256) (R := 4096) (D := 64) (by decide) Q28 : S4096x64.Idx → Elt F .f32) ∗ own26 c (stack (W := 256) (R := 4096) (D := 64) (by decide) Q26 : S4096x64.Idx → Elt F .f32) ∗ (∃ W, owes (c : Thread nD τ) 0 W) ∗ ringsE c XEU XEN V29 Q27 Q28 Q26 OEI OET k)
theorem wordsE : ∀ k : T5, outEw k.val = accE k.val := by
  intro k; unfold outEw accE
  refine Prod.ext ?_ (Prod.ext ?_ (Prod.ext ?_ (Prod.ext ?_ (Prod.ext ?_ (Prod.ext ?_ (Prod.ext ?_ (Prod.ext ?_ ?_))))))) <;> (revert k; decide)

section
variable
  (arg6 : Memref sig .tc .vmem S4096x64 .bf16) (harg6 : arg6.IsWhole) (arg7 : Memref sig .tc .vmem S1x64 .f32) (harg7 : arg7.IsWhole)
  (arg8 : Memref sig .tc .vmem S384x64 .bf16) (harg8 : arg8.IsWhole) (arg9 : Memref sig .tc .vmem S1x64 .f32) (harg9 : arg9.IsWhole)
  (v23 v30 e35 e36 e37 e38 e39 e40 : BitVec 32)
theorem tripE_step (k : T5) :
    iprop(own29 c V29 ∗ own27 c (stack (W := 256) (R := 4096) (D := 64) (by decide) Q27 : S4096x64.Idx → Elt F .f32) ∗ own28 c (stack (W := 256) (R := 4096) (D := 64) (by decide) Q28 : S4096x64.Idx → Elt F .f32) ∗ own26 c (stack (W := 256) (R := 4096) (D := 64) (by decide) Q26 : S4096x64.Idx → Elt F .f32) ∗ (∃ W, owes (c : Thread nD τ) 0 W) ∗ ringsE c XEU XEN V29 Q27 Q28 Q26 OEI OET k.val)
      ⊢ wp frame (wpE (defs₀ (F := F)) 𝒱₀ (c : Thread nD τ) none) Set.univ (tripE arg6 harg6 arg7 harg7 arg8 harg8 arg9 harg9 v23 v30 e35 e36 e37 e38 e39 e40 k (accE k))
        (fun acc => iprop(⌜acc = outEw (k.val + 1)⌝ ∗ own29 c V29 ∗ own27 c (stack (W := 256) (R := 4096) (D := 64) (by decide) Q27 : S4096x64.Idx → Elt F .f32) ∗ own28 c (stack (W := 256) (R := 4096) (D := 64) (by decide) Q28 : S4096x64.Idx → Elt F .f32) ∗ own26 c (stack (W := 256) (R := 4096) (D := 64) (by decide) Q26 : S4096x64.Idx → Elt F .f32) ∗ (∃ W, owes (c : Thread nD τ) 0 W) ∗ ringsE c XEU XEN V29 Q27 Q28 Q26 OEI OET (k.val + 1))) := by
  have hlt : k.val < 16 := k.isLt
  by_cases h0 : k.val = 0
  · have e0 : ringsE c XEU XEN V29 Q27 Q28 Q26 OEI OET k.val = iprop(ringEU c XEU k.val ∗ ringEN c XEN k.val ∗ ring0EI c OEI (finEI c XEU XEN V29 Q27 Q28 Q26) k.val ∗ ring0ET c OET (finET c XEU V29 Q27 Q28) k.val) := by rw [h0]; exact if_pos rfl
    have e1 : ringsE c XEU XEN V29 Q27 Q28 Q26 OEI OET (k.val + 1) = iprop(ringEU c XEU (k.val + 1) ∗ ringEN c XEN (k.val + 1) ∗ ringEI c OEI (finEI c XEU XEN V29 Q27 Q28 Q26) (outE_EI c XEU XEN V29 Q27 Q28 Q26) (k.val + 1) ∗ ringET c OET (finET c XEU V29 Q27 Q28) (outE_ET c XEU V29 Q27 Q28) (k.val + 1)) := (if_neg (by omega)).trans (if_pos (by omega))
    rw [e0, e1]
    exact runE_first c arg6 harg6 arg7 harg7 arg8 harg8 arg9 harg9 v23 v30 e35 e36 e37 e38 e39 e40 XEU XEN V29 Q27 Q28 Q26 OEI OET k h0
  by_cases h : k.val < 15
  · have e0 : ringsE c XEU XEN V29 Q27 Q28 Q26 OEI OET k.val = iprop(ringEU c XEU k.val ∗ ringEN c XEN k.val ∗ ringEI c OEI (finEI c XEU XEN V29 Q27 Q28 Q26) (outE_EI c XEU XEN V29 Q27 Q28 Q26) k.val ∗ ringET c OET (finET c XEU V29 Q27 Q28) (outE_ET c XEU V29 Q27 Q28) k.val) := (if_neg h0).trans (if_pos hlt)
    have e1 : ringsE c XEU XEN V29 Q27 Q28 Q26 OEI OET (k.val + 1) = iprop(ringEU c XEU (k.val + 1) ∗ ringEN c XEN (k.val + 1) ∗ ringEI c OEI (finEI c XEU XEN V29 Q27 Q28 Q26) (outE_EI c XEU XEN V29 Q27 Q28 Q26) (k.val + 1) ∗ ringET c OET (finET c XEU V29 Q27 Q28) (outE_ET c XEU V29 Q27 Q28) (k.val + 1)) := (if_neg (by omega)).trans (if_pos (by omega))
    rw [e0, e1]
    exact runE_mid c arg6 harg6 arg7 harg7 arg8 harg8 arg9 harg9 v23 v30 e35 e36 e37 e38 e39 e40 XEU XEN V29 Q27 Q28 Q26 OEI OET k ⟨by omega, h⟩
  · have e0 : ringsE c XEU XEN V29 Q27 Q28 Q26 OEI OET k.val = iprop(ringEU c XEU k.val ∗ ringEN c XEN k.val ∗ ringEI c OEI (finEI c XEU XEN V29 Q27 Q28 Q26) (outE_EI c XEU XEN V29 Q27 Q28 Q26) k.val ∗ ringET c OET (finET c XEU V29 Q27 Q28) (outE_ET c XEU V29 Q27 Q28) k.val) := (if_neg h0).trans (if_pos hlt)
    have hkl : k.val = 15 := by omega
    have e1 : ringsE c XEU XEN V29 Q27 Q28 Q26 OEI OET (k.val + 1) = iprop(ringEndEU c XEU k.val ∗ ringEndEN c XEN k.val ∗ ringEI c OEI (finEI c XEU XEN V29 Q27 Q28 Q26) (outE_EI c XEU XEN V29 Q27 Q28 Q26) (k.val + 1) ∗ ringET c OET (finET c XEU V29 Q27 Q28) (outE_ET c XEU V29 Q27 Q28) (k.val + 1)) := by rw [hkl]; exact (if_neg (by omega)).trans (if_neg (by decide))
    rw [e0, e1]
    exact runE_last c arg6 harg6 arg7 harg7 arg8 harg8 arg9 harg9 v23 v30 e35 e36 e37 e38 e39 e40 XEU XEN V29 Q27 Q28 Q26 OEI OET k h
/-- A trip keeps what holds between the trips. -/
theorem stepE (k : T5) (acc : BitVec 32 × BitVec 32 × BitVec 32 × BitVec 32 × BitVec 32 × BitVec 32 × BitVec 32 × BitVec 32 × BitVec 32) :
    invE c XEU XEN V29 Q27 Q28 Q26 OEI OET k.val acc
      ⊢ wp frame (wpE (defs₀ (F := F)) 𝒱₀ (c : Thread nD τ) none) Set.univ (tripE arg6 harg6 arg7 harg7 arg8 harg8 arg9 harg9 v23 v30 e35 e36 e37 e38 e39 e40 k acc)
        (invE c XEU XEN V29 Q27 Q28 Q26 OEI OET (k.val + 1)) := by
  unfold invE
  iintro ⟨%e, H⟩
  subst e
  rw [wordsE k]
  iapply (tripE_step c XEU XEN V29 Q27 Q28 Q26 OEI OET arg6 harg6 arg7 harg7 arg8 harg8 arg9 harg9 v23 v30 e35 e36 e37 e38 e39 e40 k)
  iexact H
end

theorem enterE :
    iprop(own29 c V29 ∗ own27 c (stack (W := 256) (R := 4096) (D := 64) (by decide) Q27 : S4096x64.Idx → Elt F .f32) ∗ own28 c (stack (W := 256) (R := 4096) (D := 64) (by decide) Q28 : S4096x64.Idx → Elt F .f32) ∗ own26 c (stack (W := 256) (R := 4096) (D := 64) (by decide) Q26 : S4096x64.Idx → Elt F .f32) ∗ (∃ W, owes (c : Thread nD τ) 0 W) ∗ ringEU c XEU 0 ∗ ringEN c XEN 0 ∗ ring0EI c OEI (finEI c XEU XEN V29 Q27 Q28 Q26) 0 ∗ ring0ET c OET (finET c XEU V29 Q27 Q28) 0) ⊢ invE c XEU XEN V29 Q27 Q28 Q26 OEI OET 0 (1#32, 0#32, 1#32, 0#32, 0#32, 0#32, 0#32, 0#32, 0#32) := by
  have e0 : ringsE c XEU XEN V29 Q27 Q28 Q26 OEI OET 0 = iprop(ringEU c XEU 0 ∗ ringEN c XEN 0 ∗ ring0EI c OEI (finEI c XEU XEN V29 Q27 Q28 Q26) 0 ∗ ring0ET c OET (finET c XEU V29 Q27 Q28) 0) := if_pos rfl
  unfold invE
  rw [e0]
  iintro ⟨S0, S1, S2, S3, HW, REU, REN, REI, RET⟩
  isplitr
  · ipureintro; rfl
  isplitl [S0]
  · iexact S0
  isplitl [S1]
  · iexact S1
  isplitl [S2]
  · iexact S2
  isplitl [S3]
  · iexact S3
  isplitl [HW]
  · iexact HW
  isplitl [REU]
  · iexact REU
  isplitl [REN]
  · iexact REN
  isplitl [REI]
  · iexact REI
  · iexact RET

theorem exitE (n : ℕ) (hn : n = 16) (acc : BitVec 32 × BitVec 32 × BitVec 32 × BitVec 32 × BitVec 32 × BitVec 32 × BitVec 32 × BitVec 32 × BitVec 32) :
    invE c XEU XEN V29 Q27 Q28 Q26 OEI OET n acc ⊢ iprop(⌜acc = (16#32, 16#32, 16#32, 16#32, 16#32, 15#32, 16#32, 15#32, 0#32)⌝ ∗ own29 c V29 ∗ own27 c (stack (W := 256) (R := 4096) (D := 64) (by decide) Q27 : S4096x64.Idx → Elt F .f32) ∗ own28 c (stack (W := 256) (R := 4096) (D := 64) (by decide) Q28 : S4096x64.Idx → Elt F .f32) ∗ own26 c (stack (W := 256) (R := 4096) (D := 64) (by decide) Q26 : S4096x64.Idx → Elt F .f32) ∗ (∃ W, owes (c : Thread nD τ) 0 W) ∗ (bigSep Finset.univ (homeEU c XEU) ∗ freeEU (F := F) c) ∗ (bigSep Finset.univ (homeEN c XEN) ∗ freeEN (F := F) c) ∗ ringEI c OEI (finEI c XEU XEN V29 Q27 Q28 Q26) (outE_EI c XEU XEN V29 Q27 Q28 Q26) 16 ∗ ringET c OET (finET c XEU V29 Q27 Q28) (outE_ET c XEU V29 Q27 Q28) 16) := by
  subst hn
  have e0 : ringsE c XEU XEN V29 Q27 Q28 Q26 OEI OET 16 = iprop(ringEndEU c XEU 15 ∗ ringEndEN c XEN 15 ∗ ringEI c OEI (finEI c XEU XEN V29 Q27 Q28 Q26) (outE_EI c XEU XEN V29 Q27 Q28 Q26) 16 ∗ ringET c OET (finET c XEU V29 Q27 Q28) (outE_ET c XEU V29 Q27 Q28) 16) := (if_neg (by decide)).trans (if_neg (by decide))
  have ew : outEw 16 = (16#32, 16#32, 16#32, 16#32, 16#32, 15#32, 16#32, 15#32, 0#32) := rfl
  unfold invE
  rw [e0, ew]
  iintro ⟨%e, S0, S1, S2, S3, HW, REU, REN, REI, RET⟩
  isplitr
  · ipureintro; exact e
  isplitl [S0]
  · iexact S0
  isplitl [S1]
  · iexact S1
  isplitl [S2]
  · iexact S2
  isplitl [S3]
  · iexact S3
  isplitl [HW]
  · iexact HW
  isplitl [REU]
  · iapply (ringOutEU c XEU); iexact REU
  isplitl [REN]
  · iapply (ringOutEN c XEN); iexact REN
  isplitl [REI]
  · iexact REI
  · iexact RET
end Loop

end Cert.Proof.KI

end
-- ==== Proof.KI.Canon.lean ====
/-
  Between the pipelines: what the kernel names before a pipeline's first trip and after its last one, and how the arrays
  and the buffers are cut into blocks and slots.
-/
module

public import proofs.«01_k».proof.Proof.KI.LoopA
public import proofs.«01_k».proof.Proof.KI.LoopB
public import proofs.«01_k».proof.Proof.KI.LoopC
public import proofs.«01_k».proof.Proof.KI.LoopD
public import proofs.«01_k».proof.Proof.KI.LoopE

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

theorem sep_fin2 (Φ : Fin 2 → sProp 𝕄) : bigSep Finset.univ Φ = iprop(Φ (Ring.sl 2 0) ∗ Φ (Ring.sl 2 1)) :=
  bigSep_univ_eq_bigSepL [(Ring.sl 2 0 : Fin 2), (Ring.sl 2 1 : Fin 2)] (by decide) (by decide) Φ

@[sl_canon] theorem semPImg (hh) :
    (cc0_scoped1.slice (Rect.unit (s := S2) k0_off1 S1.size hh)).squeeze S_ squeezes_S1_S_ = semImg (Ring.sl 2 0) := semAt_congr _ (by decide) _
@[sl_canon] theorem slotPrImg (hh hs) :
    ((Memref.whole cc0_scoped0).slice (Rect.unit (s := S2x512x4096) k0_off2 S1x512x4096.size hh) hs).squeeze S512x4096 squeezes_S1x512x4096_S512x4096 = slotImg (Ring.sl 2 0) := slotImg_congr (by decide) _ _
@[sl_canon] theorem blkPImg (hh hs) :
    (Memref.whole main_arg2).slice (Rect.unit (s := S4096x4096) ![0, 0] S512x4096.size hh) hs = blkImg (Ring.bk 8 0) := blkImg_congr (by decide) _ _

@[sl_canon] theorem semPTxt (hh) :
    (cc0_scoped3.slice (Rect.unit (s := S2) k0_off1 S1.size hh)).squeeze S_ squeezes_S1_S_ = semTxt (Ring.sl 2 0) := semAt_congr _ (by decide) _
@[sl_canon] theorem slotPrTxt (hh hs) :
    ((Memref.whole cc0_scoped2).slice (Rect.unit (s := S2x512x384) k0_off3 S1x512x384.size hh) hs).squeeze S512x384 squeezes_S1x512x384_S512x384 = slotTxt (Ring.sl 2 0) := slotTxt_congr (by decide) _ _
@[sl_canon] theorem blkPTxt (hh hs) :
    (Memref.whole main_arg3).slice (Rect.unit (s := S4096x384) ![0, 0] S512x384.size hh) hs = blkTxt (Ring.bk 8 0) := blkTxt_congr (by decide) _ _

@[sl_canon] theorem semPIe (hh) :
    (cc0_scoped5.slice (Rect.unit (s := S2) k0_off1 S1.size hh)).squeeze S_ squeezes_S1_S_ = semIe (Ring.sl 2 0) := semAt_congr _ (by decide) _
@[sl_canon] theorem slotPrIe (hh hs) :
    ((Memref.whole cc0_scoped4).slice (Rect.unit (s := S2x512x64) k0_off4 S1x512x64.size hh) hs).squeeze S512x64 squeezes_S1x512x64_S512x64 = slotIe (Ring.sl 2 0) := slotIe_congr (by decide) _ _
@[sl_canon] theorem blkPIe (hh hs) :
    (Memref.whole main_arg5).slice (Rect.unit (s := S4096x64) ![0, 0] S512x64.size hh) hs = blkIe (Ring.bk 8 0) := blkIe_congr (by decide) _ _

@[sl_canon] theorem semPBU (hh) :
    (cc0_scoped7.slice (Rect.unit (s := S2) k0_off1 S1.size hh)).squeeze S_ squeezes_S1_S_ = semBU (Ring.sl 2 0) := semAt_congr _ (by decide) _
@[sl_canon] theorem slotPrBU (hh hs) :
    ((Memref.whole cc0_scoped6).slice (Rect.unit (s := S2x512x4096) k0_off2 S1x512x4096.size hh) hs).squeeze S512x4096 squeezes_S1x512x4096_S512x4096 = slotBU (Ring.sl 2 0) := slotBU_congr (by decide) _ _
@[sl_canon] theorem blkPBU (hh hs) :
    (Memref.whole main_arg0).slice (Rect.unit (s := S8192x4096) ![0, 0] S512x4096.size hh) hs = blkBU (Ring.bk 16 0) := blkBU_congr (by decide) _ _

@[sl_canon] theorem semPBN (hh) :
    (cc0_scoped9.slice (Rect.unit (s := S2) k0_off1 S1.size hh)).squeeze S_ squeezes_S1_S_ = semBN (Ring.sl 2 0) := semAt_congr _ (by decide) _
@[sl_canon] theorem slotPrBN (hh hs) :
    ((Memref.whole cc0_scoped8).slice (Rect.unit (s := S2x512x64) k0_off4 S1x512x64.size hh) hs).squeeze S512x64 squeezes_S1x512x64_S512x64 = slotBN (Ring.sl 2 0) := slotBN_congr (by decide) _ _
@[sl_canon] theorem blkPBN (hh hs) :
    (Memref.whole main_v6).slice (Rect.unit (s := S8192x64) ![0, 0] S512x64.size hh) hs = blkBN (Ring.bk 16 0) := blkBN_congr (by decide) _ _

theorem off57_last : k0_off57 15#32 = semOff (Ring.sl 2 1) := by decide
theorem off58_last : k0_off58 0#32 = blkOffBI (Ring.bk 16 15) := by decide
theorem off59_last : k0_off59 15#32 = slotOff (Ring.sl 2 1) := by decide
@[sl_canon] theorem semLBI (hh) :
    (cc0_scoped11.slice (Rect.unit (s := S2) (k0_off57 15#32) S1.size hh)).squeeze S_ squeezes_S1_S_ = semBI (Ring.sl 2 1) := semAt_congr _ off57_last _
@[sl_canon] theorem slotLBI (hh hs) :
    ((Memref.whole cc0_scoped10).slice (Rect.unit (s := S2x512x64) (k0_off59 15#32) S1x512x64.size hh) hs).squeeze S512x64 squeezes_S1x512x64_S512x64 = slotBI (Ring.sl 2 1) := slotBI_congr off59_last _ _
@[sl_canon] theorem blkLBI (hh hs) :
    (Memref.whole main_v22_4).slice (Rect.unit (s := S8192x64) (k0_off58 0#32) S512x64.size hh) hs = blkBI (Ring.bk 16 15) := blkBI_congr off58_last _ _

theorem off60_last : k0_off60 15#32 = semOff (Ring.sl 2 1) := by decide
theorem off61_last : k0_off61 0#32 = blkOffBT (Ring.bk 16 15) := by decide
theorem off62_last : k0_off62 15#32 = slotOff (Ring.sl 2 1) := by decide
@[sl_canon] theorem semLBT (hh) :
    (cc0_scoped13.slice (Rect.unit (s := S2) (k0_off60 15#32) S1.size hh)).squeeze S_ squeezes_S1_S_ = semBT (Ring.sl 2 1) := semAt_congr _ off60_last _
@[sl_canon] theorem slotLBT (hh hs) :
    ((Memref.whole cc0_scoped12).slice (Rect.unit (s := S2x512x64) (k0_off62 15#32) S1x512x64.size hh) hs).squeeze S512x64 squeezes_S1x512x64_S512x64 = slotBT (Ring.sl 2 1) := slotBT_congr off62_last _ _
@[sl_canon] theorem blkLBT (hh hs) :
    (Memref.whole main_v22_5).slice (Rect.unit (s := S8192x64) (k0_off61 0#32) S512x64.size hh) hs = blkBT (Ring.bk 16 15) := blkBT_congr off61_last _ _
theorem chk10_last : k0_chk10 15#32 := by decide
theorem chk11_last : k0_chk11 0#32 := by decide
theorem chk12_last : k0_chk12 15#32 := by decide

@[sl_canon] theorem semPCU (hh) :
    (cc0_scoped15.slice (Rect.unit (s := S2) k0_off63 S1.size hh)).squeeze S_ squeezes_S1_S_ = semCU (Ring.sl 2 0) := semAt_congr _ (by decide) _
@[sl_canon] theorem slotPrCU (hh hs) :
    ((Memref.whole cc0_scoped14).slice (Rect.unit (s := S2x256x8192) k0_off64 S1x256x8192.size hh) hs).squeeze S256x8192 squeezes_S1x256x8192_S256x8192 = slotCU (Ring.sl 2 0) := slotCU_congr (by decide) _ _
@[sl_canon] theorem blkPCU (hh hs) :
    (Memref.whole main_arg1).slice (Rect.unit (s := S4096x8192) ![0, 0] S256x8192.size hh) hs = blkCU (Ring.bk 16 0) := blkCU_congr (by decide) _ _

@[sl_canon] theorem semPCN (hh) :
    (cc0_scoped17.slice (Rect.unit (s := S2) k0_off63 S1.size hh)).squeeze S_ squeezes_S1_S_ = semCN (Ring.sl 2 0) := semAt_congr _ (by decide) _
@[sl_canon] theorem slotPrCN (hh hs) :
    ((Memref.whole cc0_scoped16).slice (Rect.unit (s := S2x256x64) k0_off65 S1x256x64.size hh) hs).squeeze S256x64 squeezes_S1x256x64_S256x64 = slotCN (Ring.sl 2 0) := slotCN_congr (by decide) _ _
@[sl_canon] theorem blkPCN (hh hs) :
    (Memref.whole main_v13).slice (Rect.unit (s := S4096x64) ![0, 0] S256x64.size hh) hs = blkCN (Ring.bk 16 0) := blkCN_congr (by decide) _ _

theorem off95_last : k0_off95 15#32 = semOff (Ring.sl 2 1) := by decide
theorem off96_last : k0_off96 0#32 = blkOffCI (Ring.bk 16 15) := by decide
theorem off97_last : k0_off97 15#32 = slotOff (Ring.sl 2 1) := by decide
@[sl_canon] theorem semLCI (hh) :
    (cc0_scoped19.slice (Rect.unit (s := S2) (k0_off95 15#32) S1.size hh)).squeeze S_ squeezes_S1_S_ = semCI (Ring.sl 2 1) := semAt_congr _ off95_last _
@[sl_canon] theorem slotLCI (hh hs) :
    ((Memref.whole cc0_scoped18).slice (Rect.unit (s := S2x256x64) (k0_off97 15#32) S1x256x64.size hh) hs).squeeze S256x64 squeezes_S1x256x64_S256x64 = slotCI (Ring.sl 2 1) := slotCI_congr off97_last _ _
@[sl_canon] theorem blkLCI (hh hs) :
    (Memref.whole main_v22_2).slice (Rect.unit (s := S4096x64) (k0_off96 0#32) S256x64.size hh) hs = blkCI (Ring.bk 16 15) := blkCI_congr off96_last _ _

theorem off98_last : k0_off98 15#32 = semOff (Ring.sl 2 1) := by decide
theorem off99_last : k0_off99 0#32 = blkOffCT (Ring.bk 16 15) := by decide
theorem off100_last : k0_off100 15#32 = slotOff (Ring.sl 2 1) := by decide
@[sl_canon] theorem semLCT (hh) :
    (cc0_scoped21.slice (Rect.unit (s := S2) (k0_off98 15#32) S1.size hh)).squeeze S_ squeezes_S1_S_ = semCT (Ring.sl 2 1) := semAt_congr _ off98_last _
@[sl_canon] theorem slotLCT (hh hs) :
    ((Memref.whole cc0_scoped20).slice (Rect.unit (s := S2x256x64) (k0_off100 15#32) S1x256x64.size hh) hs).squeeze S256x64 squeezes_S1x256x64_S256x64 = slotCT (Ring.sl 2 1) := slotCT_congr off100_last _ _
@[sl_canon] theorem blkLCT (hh hs) :
    (Memref.whole main_v22_3).slice (Rect.unit (s := S4096x64) (k0_off99 0#32) S256x64.size hh) hs = blkCT (Ring.bk 16 15) := blkCT_congr off99_last _ _
theorem chk18_last : k0_chk18 15#32 := by decide
theorem chk19_last : k0_chk19 0#32 := by decide
theorem chk20_last : k0_chk20 15#32 := by decide

@[sl_canon] theorem semPDU (hh) :
    (cc0_scoped23.slice (Rect.unit (s := S2) k0_off101 S1.size hh)).squeeze S_ squeezes_S1_S_ = semDU (Ring.sl 2 0) := semAt_congr _ (by decide) _
@[sl_canon] theorem slotPrDU (hh hs) :
    ((Memref.whole cc0_scoped22).slice (Rect.unit (s := S2x512x4096) k0_off102 S1x512x4096.size hh) hs).squeeze S512x4096 squeezes_S1x512x4096_S512x4096 = slotDU (Ring.sl 2 0) := slotDU_congr (by decide) _ _
theorem blkDU_same (b : Fin 16) : blkDU b = blkBU b := rfl

@[sl_canon] theorem semPDN (hh) :
    (cc0_scoped25.slice (Rect.unit (s := S2) k0_off101 S1.size hh)).squeeze S_ squeezes_S1_S_ = semDN (Ring.sl 2 0) := semAt_congr _ (by decide) _
@[sl_canon] theorem slotPrDN (hh hs) :
    ((Memref.whole cc0_scoped24).slice (Rect.unit (s := S2x512x64) k0_off103 S1x512x64.size hh) hs).squeeze S512x64 squeezes_S1x512x64_S512x64 = slotDN (Ring.sl 2 0) := slotDN_congr (by decide) _ _
@[sl_canon] theorem blkPDN (hh hs) :
    (Memref.whole main_arg4).slice (Rect.unit (s := S8192x64) ![0, 0] S512x64.size hh) hs = blkDN (Ring.bk 16 0) := blkDN_congr (by decide) _ _

theorem off134_last : k0_off134 15#32 = semOff (Ring.sl 2 1) := by decide
theorem off135_last : k0_off135 0#32 = blkOffDI (Ring.bk 16 15) := by decide
theorem off136_last : k0_off136 15#32 = slotOff (Ring.sl 2 1) := by decide
@[sl_canon] theorem semLDI (hh) :
    (cc0_scoped27.slice (Rect.unit (s := S2) (k0_off134 15#32) S1.size hh)).squeeze S_ squeezes_S1_S_ = semDI (Ring.sl 2 1) := semAt_congr _ off134_last _
@[sl_canon] theorem slotLDI (hh hs) :
    ((Memref.whole cc0_scoped26).slice (Rect.unit (s := S2x512x64) (k0_off136 15#32) S1x512x64.size hh) hs).squeeze S512x64 squeezes_S1x512x64_S512x64 = slotDI (Ring.sl 2 1) := slotDI_congr off136_last _ _
@[sl_canon] theorem blkLDI (hh hs) :
    (Memref.whole main_v22_0).slice (Rect.unit (s := S8192x64) (k0_off135 0#32) S512x64.size hh) hs = blkDI (Ring.bk 16 15) := blkDI_congr off135_last _ _

theorem off137_last : k0_off137 15#32 = semOff (Ring.sl 2 1) := by decide
theorem off138_last : k0_off138 0#32 = blkOffDT (Ring.bk 16 15) := by decide
theorem off139_last : k0_off139 15#32 = slotOff (Ring.sl 2 1) := by decide
@[sl_canon] theorem semLDT (hh) :
    (cc0_scoped29.slice (Rect.unit (s := S2) (k0_off137 15#32) S1.size hh)).squeeze S_ squeezes_S1_S_ = semDT (Ring.sl 2 1) := semAt_congr _ off137_last _
@[sl_canon] theorem slotLDT (hh hs) :
    ((Memref.whole cc0_scoped28).slice (Rect.unit (s := S2x512x64) (k0_off139 15#32) S1x512x64.size hh) hs).squeeze S512x64 squeezes_S1x512x64_S512x64 = slotDT (Ring.sl 2 1) := slotDT_congr off139_last _ _
@[sl_canon] theorem blkLDT (hh hs) :
    (Memref.whole main_v22_6).slice (Rect.unit (s := S8192x64) (k0_off138 0#32) S512x64.size hh) hs = blkDT (Ring.bk 16 15) := blkDT_congr off138_last _ _
theorem chk26_last : k0_chk26 15#32 := by decide
theorem chk27_last : k0_chk27 0#32 := by decide
theorem chk28_last : k0_chk28 15#32 := by decide

@[sl_canon] theorem semPEU (hh) :
    (cc0_scoped31.slice (Rect.unit (s := S2) k0_off140 S1.size hh)).squeeze S_ squeezes_S1_S_ = semEU (Ring.sl 2 0) := semAt_congr _ (by decide) _
@[sl_canon] theorem slotPrEU (hh hs) :
    ((Memref.whole cc0_scoped30).slice (Rect.unit (s := S2x256x8192) k0_off141 S1x256x8192.size hh) hs).squeeze S256x8192 squeezes_S1x256x8192_S256x8192 = slotEU (Ring.sl 2 0) := slotEU_congr (by decide) _ _
theorem blkEU_same (b : Fin 16) : blkEU b = blkCU b := rfl

@[sl_canon] theorem semPEN (hh) :
    (cc0_scoped33.slice (Rect.unit (s := S2) k0_off140 S1.size hh)).squeeze S_ squeezes_S1_S_ = semEN (Ring.sl 2 0) := semAt_congr _ (by decide) _
@[sl_canon] theorem slotPrEN (hh hs) :
    ((Memref.whole cc0_scoped32).slice (Rect.unit (s := S2x256x64) k0_off142 S1x256x64.size hh) hs).squeeze S256x64 squeezes_S1x256x64_S256x64 = slotEN (Ring.sl 2 0) := slotEN_congr (by decide) _ _
@[sl_canon] theorem blkPEN (hh hs) :
    (Memref.whole main_arg5).slice (Rect.unit (s := S4096x64) ![0, 0] S256x64.size hh) hs = blkEN (Ring.bk 16 0) := blkEN_congr (by decide) _ _

theorem off172_last : k0_off172 15#32 = semOff (Ring.sl 2 1) := by decide
theorem off173_last : k0_off173 0#32 = blkOffEI (Ring.bk 16 15) := by decide
theorem off174_last : k0_off174 15#32 = slotOff (Ring.sl 2 1) := by decide
@[sl_canon] theorem semLEI (hh) :
    (cc0_scoped35.slice (Rect.unit (s := S2) (k0_off172 15#32) S1.size hh)).squeeze S_ squeezes_S1_S_ = semEI (Ring.sl 2 1) := semAt_congr _ off172_last _
@[sl_canon] theorem slotLEI (hh hs) :
    ((Memref.whole cc0_scoped34).slice (Rect.unit (s := S2x256x64) (k0_off174 15#32) S1x256x64.size hh) hs).squeeze S256x64 squeezes_S1x256x64_S256x64 = slotEI (Ring.sl 2 1) := slotEI_congr off174_last _ _
@[sl_canon] theorem blkLEI (hh hs) :
    (Memref.whole main_v22_1).slice (Rect.unit (s := S4096x64) (k0_off173 0#32) S256x64.size hh) hs = blkEI (Ring.bk 16 15) := blkEI_congr off173_last _ _

theorem off175_last : k0_off175 15#32 = semOff (Ring.sl 2 1) := by decide
theorem off176_last : k0_off176 0#32 = blkOffET (Ring.bk 16 15) := by decide
theorem off177_last : k0_off177 15#32 = slotOff (Ring.sl 2 1) := by decide
@[sl_canon] theorem semLET (hh) :
    (cc0_scoped37.slice (Rect.unit (s := S2) (k0_off175 15#32) S1.size hh)).squeeze S_ squeezes_S1_S_ = semET (Ring.sl 2 1) := semAt_congr _ off175_last _
@[sl_canon] theorem slotLET (hh hs) :
    ((Memref.whole cc0_scoped36).slice (Rect.unit (s := S2x256x64) (k0_off177 15#32) S1x256x64.size hh) hs).squeeze S256x64 squeezes_S1x256x64_S256x64 = slotET (Ring.sl 2 1) := slotET_congr off177_last _ _
@[sl_canon] theorem blkLET (hh hs) :
    (Memref.whole main_v22_7).slice (Rect.unit (s := S4096x64) (k0_off176 0#32) S256x64.size hh) hs = blkET (Ring.bk 16 15) := blkET_congr off176_last _ _
theorem chk34_last : k0_chk34 15#32 := by decide
theorem chk35_last : k0_chk35 0#32 := by decide
theorem chk36_last : k0_chk36 15#32 := by decide

theorem blkSetImg (b : Fin 8) : (blkImg b : Memref sig .tc .hbm _ _).view.set = (Rect.unit (s := S4096x4096) (blkOffImg b) S512x4096.size (blkInbImg b)).set := View.set_slice_whole _ _
theorem memBlkImg (b : Fin 8) (y : S4096x4096.Idx) : y ∈ (Rect.unit (s := S4096x4096) (blkOffImg b) S512x4096.size (blkInbImg b)).set ↔ (y 0).val / 512 = b.val := by
  rw [Rect.mem_set_unit]
  have h1 : (y 1).val < 4096 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 4096; omega
/-- The array whole is its blocks. -/
theorem arrImg (c : Dev nD) (X : Buf (Elt F) ((Memref.whole main_arg2 : Memref sig .tc .hbm _ _).view.loc (c : Thread nD τ))) :
    ((c : Thread nD τ).loc main_arg2 ↦{fullShare} X : sProp 𝕄) = bigSep Finset.univ (homeImg c X) := by
  rw [Ring.pointsTo_blocks (ℓ := (c : Thread nD τ).loc main_arg2) (fun b : Fin 8 => (Rect.unit (s := S4096x4096) (blkOffImg b) S512x4096.size (blkInbImg b)).set)
    (by intro b b' hne; rw [Finset.disjoint_left]; intro y hy hy'; exact hne (Fin.ext (((memBlkImg b y).mp hy).symm.trans ((memBlkImg b' y).mp hy'))))
    (by
      ext y; simp only [Finset.mem_biUnion, Finset.mem_univ, true_and, iff_true]
      have h0 : (y 0).val < 4096 := (y 0).isLt
      exact ⟨⟨(y 0).val / 512, by omega⟩, (memBlkImg _ y).mpr rfl⟩)]
  exact bigSep_congr fun b _ => by rw [← blkSetImg]; rfl
abbrev S2Img (s : Fin 2) : Finset (S2x512x4096).Idx := (Rect.unit (s := S2x512x4096) (slotOff s) S1x512x4096.size (slotInbImg s)).set
theorem slotSetImg (s : Fin 2) : (slotImg s : Memref sig .tc .vmem _ _).view.set = S2Img s := (View.set_reshape _ _).trans (View.set_slice_whole _ _)
theorem memSlotImg (s : Fin 2) (y : S2x512x4096.Idx) : y ∈ S2Img s ↔ (y 0).val = s.val := by
  rw [Rect.mem_set_unit]
  have h1 : (y 1).val < 512 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 4096; omega
theorem disjImg : ∀ s s' : Fin 2, s ≠ s' → Disjoint (S2Img s) (S2Img s') := by
  intro s s' hne; rw [Finset.disjoint_left]; intro y hy hy'; exact hne (Fin.ext (((memSlotImg s y).mp hy).symm.trans ((memSlotImg s' y).mp hy')))
theorem coverImg : (Finset.univ : Finset (Fin 2)).biUnion S2Img = Finset.univ := by
  ext y; simp only [Finset.mem_biUnion, Finset.mem_univ, true_and, iff_true]
  have h0 : (y 0).val < 2 := (y 0).isLt
  exact ⟨⟨(y 0).val, h0⟩, (memSlotImg _ y).mpr rfl⟩
theorem slotPImg_eq (c : Dev nD) (s : Fin 2) (f) : slotPImg c s f = (((c : Thread nD τ).loc cc0_scoped0) ↦[S2Img s]{fullShare} f : sProp 𝕄) :=
  congrArg (fun S => (_ ↦[S]{fullShare} f : sProp 𝕄)) (slotSetImg s)
/-- The buffer whole is its two slots, and back. -/
theorem splitImg (c : Dev nD) :
    iprop((∃ f : Buf (Elt F) ((c : Thread nD τ).loc cc0_scoped0), ((c : Thread nD τ).loc cc0_scoped0) ↦{fullShare} f) ∗ cellImg (F := F) c (Ring.sl 2 0) ∗ cellImg (F := F) c (Ring.sl 2 1)) ⊢ freeImg (F := F) c := by
  unfold freeImg
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped0) S2Img disjImg coverImg f).trans (sep_fin2 _))) $$ H
  icases H2 with ⟨H0, H1⟩
  isplitl [H0]
  · iexists f; iapply (entails_of_eq (slotPImg_eq c (Ring.sl 2 0) f).symm); iexact H0
  isplitl [H1]
  · iexists f; iapply (entails_of_eq (slotPImg_eq c (Ring.sl 2 1) f).symm); iexact H1
  · iexact Hc
theorem joinImg (c : Dev nD) :
    freeImg (F := F) c ⊢ iprop((∃ f : Buf (Elt F) ((c : Thread nD τ).loc cc0_scoped0), ((c : Thread nD τ).loc cc0_scoped0) ↦{fullShare} f) ∗ cellImg (F := F) c (Ring.sl 2 0) ∗ cellImg (F := F) c (Ring.sl 2 1)) := by
  unfold freeImg
  iintro ⟨⟨%f0, H0⟩, ⟨%f1, H1⟩, Hc⟩
  isplitl [H0 H1]
  · iapply (Ring.pointsTo_blocks_join_exists (ℓ := (c : Thread nD τ).loc cc0_scoped0) S2Img disjImg coverImg f0)
    irw [sep_fin2]
    isplitl [H0]
    · iexists f0; iapply (entails_of_eq (slotPImg_eq c (Ring.sl 2 0) f0)); iexact H0
    · iexists f1; iapply (entails_of_eq (slotPImg_eq c (Ring.sl 2 1) f1)); iexact H1
  · iexact Hc

theorem blkSetTxt (b : Fin 8) : (blkTxt b : Memref sig .tc .hbm _ _).view.set = (Rect.unit (s := S4096x384) (blkOffTxt b) S512x384.size (blkInbTxt b)).set := View.set_slice_whole _ _
theorem memBlkTxt (b : Fin 8) (y : S4096x384.Idx) : y ∈ (Rect.unit (s := S4096x384) (blkOffTxt b) S512x384.size (blkInbTxt b)).set ↔ (y 0).val / 512 = b.val := by
  rw [Rect.mem_set_unit]
  have h1 : (y 1).val < 384 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 384; omega
/-- The array whole is its blocks. -/
theorem arrTxt (c : Dev nD) (X : Buf (Elt F) ((Memref.whole main_arg3 : Memref sig .tc .hbm _ _).view.loc (c : Thread nD τ))) :
    ((c : Thread nD τ).loc main_arg3 ↦{fullShare} X : sProp 𝕄) = bigSep Finset.univ (homeTxt c X) := by
  rw [Ring.pointsTo_blocks (ℓ := (c : Thread nD τ).loc main_arg3) (fun b : Fin 8 => (Rect.unit (s := S4096x384) (blkOffTxt b) S512x384.size (blkInbTxt b)).set)
    (by intro b b' hne; rw [Finset.disjoint_left]; intro y hy hy'; exact hne (Fin.ext (((memBlkTxt b y).mp hy).symm.trans ((memBlkTxt b' y).mp hy'))))
    (by
      ext y; simp only [Finset.mem_biUnion, Finset.mem_univ, true_and, iff_true]
      have h0 : (y 0).val < 4096 := (y 0).isLt
      exact ⟨⟨(y 0).val / 512, by omega⟩, (memBlkTxt _ y).mpr rfl⟩)]
  exact bigSep_congr fun b _ => by rw [← blkSetTxt]; rfl
abbrev S2Txt (s : Fin 2) : Finset (S2x512x384).Idx := (Rect.unit (s := S2x512x384) (slotOff s) S1x512x384.size (slotInbTxt s)).set
theorem slotSetTxt (s : Fin 2) : (slotTxt s : Memref sig .tc .vmem _ _).view.set = S2Txt s := (View.set_reshape _ _).trans (View.set_slice_whole _ _)
theorem memSlotTxt (s : Fin 2) (y : S2x512x384.Idx) : y ∈ S2Txt s ↔ (y 0).val = s.val := by
  rw [Rect.mem_set_unit]
  have h1 : (y 1).val < 512 := (y 1).isLt
  have h2 : (y 2).val < 384 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 384; omega
theorem disjTxt : ∀ s s' : Fin 2, s ≠ s' → Disjoint (S2Txt s) (S2Txt s') := by
  intro s s' hne; rw [Finset.disjoint_left]; intro y hy hy'; exact hne (Fin.ext (((memSlotTxt s y).mp hy).symm.trans ((memSlotTxt s' y).mp hy')))
theorem coverTxt : (Finset.univ : Finset (Fin 2)).biUnion S2Txt = Finset.univ := by
  ext y; simp only [Finset.mem_biUnion, Finset.mem_univ, true_and, iff_true]
  have h0 : (y 0).val < 2 := (y 0).isLt
  exact ⟨⟨(y 0).val, h0⟩, (memSlotTxt _ y).mpr rfl⟩
theorem slotPTxt_eq (c : Dev nD) (s : Fin 2) (f) : slotPTxt c s f = (((c : Thread nD τ).loc cc0_scoped2) ↦[S2Txt s]{fullShare} f : sProp 𝕄) :=
  congrArg (fun S => (_ ↦[S]{fullShare} f : sProp 𝕄)) (slotSetTxt s)
/-- The buffer whole is its two slots, and back. -/
theorem splitTxt (c : Dev nD) :
    iprop((∃ f : Buf (Elt F) ((c : Thread nD τ).loc cc0_scoped2), ((c : Thread nD τ).loc cc0_scoped2) ↦{fullShare} f) ∗ cellTxt (F := F) c (Ring.sl 2 0) ∗ cellTxt (F := F) c (Ring.sl 2 1)) ⊢ freeTxt (F := F) c := by
  unfold freeTxt
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped2) S2Txt disjTxt coverTxt f).trans (sep_fin2 _))) $$ H
  icases H2 with ⟨H0, H1⟩
  isplitl [H0]
  · iexists f; iapply (entails_of_eq (slotPTxt_eq c (Ring.sl 2 0) f).symm); iexact H0
  isplitl [H1]
  · iexists f; iapply (entails_of_eq (slotPTxt_eq c (Ring.sl 2 1) f).symm); iexact H1
  · iexact Hc
theorem joinTxt (c : Dev nD) :
    freeTxt (F := F) c ⊢ iprop((∃ f : Buf (Elt F) ((c : Thread nD τ).loc cc0_scoped2), ((c : Thread nD τ).loc cc0_scoped2) ↦{fullShare} f) ∗ cellTxt (F := F) c (Ring.sl 2 0) ∗ cellTxt (F := F) c (Ring.sl 2 1)) := by
  unfold freeTxt
  iintro ⟨⟨%f0, H0⟩, ⟨%f1, H1⟩, Hc⟩
  isplitl [H0 H1]
  · iapply (Ring.pointsTo_blocks_join_exists (ℓ := (c : Thread nD τ).loc cc0_scoped2) S2Txt disjTxt coverTxt f0)
    irw [sep_fin2]
    isplitl [H0]
    · iexists f0; iapply (entails_of_eq (slotPTxt_eq c (Ring.sl 2 0) f0)); iexact H0
    · iexists f1; iapply (entails_of_eq (slotPTxt_eq c (Ring.sl 2 1) f1)); iexact H1
  · iexact Hc

theorem blkSetIe (b : Fin 8) : (blkIe b : Memref sig .tc .hbm _ _).view.set = (Rect.unit (s := S4096x64) (blkOffIe b) S512x64.size (blkInbIe b)).set := View.set_slice_whole _ _
theorem memBlkIe (b : Fin 8) (y : S4096x64.Idx) : y ∈ (Rect.unit (s := S4096x64) (blkOffIe b) S512x64.size (blkInbIe b)).set ↔ (y 0).val / 512 = b.val := by
  rw [Rect.mem_set_unit]
  have h1 : (y 1).val < 64 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 64; omega
/-- The array whole is its blocks. -/
theorem arrIe (c : Dev nD) (X : Buf (Elt F) ((Memref.whole main_arg5 : Memref sig .tc .hbm _ _).view.loc (c : Thread nD τ))) :
    ((c : Thread nD τ).loc main_arg5 ↦{fullShare} X : sProp 𝕄) = bigSep Finset.univ (homeIe c X) := by
  rw [Ring.pointsTo_blocks (ℓ := (c : Thread nD τ).loc main_arg5) (fun b : Fin 8 => (Rect.unit (s := S4096x64) (blkOffIe b) S512x64.size (blkInbIe b)).set)
    (by intro b b' hne; rw [Finset.disjoint_left]; intro y hy hy'; exact hne (Fin.ext (((memBlkIe b y).mp hy).symm.trans ((memBlkIe b' y).mp hy'))))
    (by
      ext y; simp only [Finset.mem_biUnion, Finset.mem_univ, true_and, iff_true]
      have h0 : (y 0).val < 4096 := (y 0).isLt
      exact ⟨⟨(y 0).val / 512, by omega⟩, (memBlkIe _ y).mpr rfl⟩)]
  exact bigSep_congr fun b _ => by rw [← blkSetIe]; rfl
abbrev S2Ie (s : Fin 2) : Finset (S2x512x64).Idx := (Rect.unit (s := S2x512x64) (slotOff s) S1x512x64.size (slotInbIe s)).set
theorem slotSetIe (s : Fin 2) : (slotIe s : Memref sig .tc .vmem _ _).view.set = S2Ie s := (View.set_reshape _ _).trans (View.set_slice_whole _ _)
theorem memSlotIe (s : Fin 2) (y : S2x512x64.Idx) : y ∈ S2Ie s ↔ (y 0).val = s.val := by
  rw [Rect.mem_set_unit]
  have h1 : (y 1).val < 512 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 64; omega
theorem disjIe : ∀ s s' : Fin 2, s ≠ s' → Disjoint (S2Ie s) (S2Ie s') := by
  intro s s' hne; rw [Finset.disjoint_left]; intro y hy hy'; exact hne (Fin.ext (((memSlotIe s y).mp hy).symm.trans ((memSlotIe s' y).mp hy')))
theorem coverIe : (Finset.univ : Finset (Fin 2)).biUnion S2Ie = Finset.univ := by
  ext y; simp only [Finset.mem_biUnion, Finset.mem_univ, true_and, iff_true]
  have h0 : (y 0).val < 2 := (y 0).isLt
  exact ⟨⟨(y 0).val, h0⟩, (memSlotIe _ y).mpr rfl⟩
theorem slotPIe_eq (c : Dev nD) (s : Fin 2) (f) : slotPIe c s f = (((c : Thread nD τ).loc cc0_scoped4) ↦[S2Ie s]{fullShare} f : sProp 𝕄) :=
  congrArg (fun S => (_ ↦[S]{fullShare} f : sProp 𝕄)) (slotSetIe s)
/-- The buffer whole is its two slots, and back. -/
theorem splitIe (c : Dev nD) :
    iprop((∃ f : Buf (Elt F) ((c : Thread nD τ).loc cc0_scoped4), ((c : Thread nD τ).loc cc0_scoped4) ↦{fullShare} f) ∗ cellIe (F := F) c (Ring.sl 2 0) ∗ cellIe (F := F) c (Ring.sl 2 1)) ⊢ freeIe (F := F) c := by
  unfold freeIe
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped4) S2Ie disjIe coverIe f).trans (sep_fin2 _))) $$ H
  icases H2 with ⟨H0, H1⟩
  isplitl [H0]
  · iexists f; iapply (entails_of_eq (slotPIe_eq c (Ring.sl 2 0) f).symm); iexact H0
  isplitl [H1]
  · iexists f; iapply (entails_of_eq (slotPIe_eq c (Ring.sl 2 1) f).symm); iexact H1
  · iexact Hc
theorem joinIe (c : Dev nD) :
    freeIe (F := F) c ⊢ iprop((∃ f : Buf (Elt F) ((c : Thread nD τ).loc cc0_scoped4), ((c : Thread nD τ).loc cc0_scoped4) ↦{fullShare} f) ∗ cellIe (F := F) c (Ring.sl 2 0) ∗ cellIe (F := F) c (Ring.sl 2 1)) := by
  unfold freeIe
  iintro ⟨⟨%f0, H0⟩, ⟨%f1, H1⟩, Hc⟩
  isplitl [H0 H1]
  · iapply (Ring.pointsTo_blocks_join_exists (ℓ := (c : Thread nD τ).loc cc0_scoped4) S2Ie disjIe coverIe f0)
    irw [sep_fin2]
    isplitl [H0]
    · iexists f0; iapply (entails_of_eq (slotPIe_eq c (Ring.sl 2 0) f0)); iexact H0
    · iexists f1; iapply (entails_of_eq (slotPIe_eq c (Ring.sl 2 1) f1)); iexact H1
  · iexact Hc

theorem blkSetBU (b : Fin 16) : (blkBU b : Memref sig .tc .hbm _ _).view.set = (Rect.unit (s := S8192x4096) (blkOffBU b) S512x4096.size (blkInbBU b)).set := View.set_slice_whole _ _
theorem memBlkBU (b : Fin 16) (y : S8192x4096.Idx) : y ∈ (Rect.unit (s := S8192x4096) (blkOffBU b) S512x4096.size (blkInbBU b)).set ↔ (y 0).val / 512 = b.val := by
  rw [Rect.mem_set_unit]
  have h1 : (y 1).val < 4096 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 4096; omega
/-- The array whole is its blocks. -/
theorem arrBU (c : Dev nD) (X : Buf (Elt F) ((Memref.whole main_arg0 : Memref sig .tc .hbm _ _).view.loc (c : Thread nD τ))) :
    ((c : Thread nD τ).loc main_arg0 ↦{fullShare} X : sProp 𝕄) = bigSep Finset.univ (homeBU c X) := by
  rw [Ring.pointsTo_blocks (ℓ := (c : Thread nD τ).loc main_arg0) (fun b : Fin 16 => (Rect.unit (s := S8192x4096) (blkOffBU b) S512x4096.size (blkInbBU b)).set)
    (by intro b b' hne; rw [Finset.disjoint_left]; intro y hy hy'; exact hne (Fin.ext (((memBlkBU b y).mp hy).symm.trans ((memBlkBU b' y).mp hy'))))
    (by
      ext y; simp only [Finset.mem_biUnion, Finset.mem_univ, true_and, iff_true]
      have h0 : (y 0).val < 8192 := (y 0).isLt
      exact ⟨⟨(y 0).val / 512, by omega⟩, (memBlkBU _ y).mpr rfl⟩)]
  exact bigSep_congr fun b _ => by rw [← blkSetBU]; rfl
abbrev S2BU (s : Fin 2) : Finset (S2x512x4096).Idx := (Rect.unit (s := S2x512x4096) (slotOff s) S1x512x4096.size (slotInbBU s)).set
theorem slotSetBU (s : Fin 2) : (slotBU s : Memref sig .tc .vmem _ _).view.set = S2BU s := (View.set_reshape _ _).trans (View.set_slice_whole _ _)
theorem memSlotBU (s : Fin 2) (y : S2x512x4096.Idx) : y ∈ S2BU s ↔ (y 0).val = s.val := by
  rw [Rect.mem_set_unit]
  have h1 : (y 1).val < 512 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 4096; omega
theorem disjBU : ∀ s s' : Fin 2, s ≠ s' → Disjoint (S2BU s) (S2BU s') := by
  intro s s' hne; rw [Finset.disjoint_left]; intro y hy hy'; exact hne (Fin.ext (((memSlotBU s y).mp hy).symm.trans ((memSlotBU s' y).mp hy')))
theorem coverBU : (Finset.univ : Finset (Fin 2)).biUnion S2BU = Finset.univ := by
  ext y; simp only [Finset.mem_biUnion, Finset.mem_univ, true_and, iff_true]
  have h0 : (y 0).val < 2 := (y 0).isLt
  exact ⟨⟨(y 0).val, h0⟩, (memSlotBU _ y).mpr rfl⟩
theorem slotPBU_eq (c : Dev nD) (s : Fin 2) (f) : slotPBU c s f = (((c : Thread nD τ).loc cc0_scoped6) ↦[S2BU s]{fullShare} f : sProp 𝕄) :=
  congrArg (fun S => (_ ↦[S]{fullShare} f : sProp 𝕄)) (slotSetBU s)
/-- The buffer whole is its two slots, and back. -/
theorem splitBU (c : Dev nD) :
    iprop((∃ f : Buf (Elt F) ((c : Thread nD τ).loc cc0_scoped6), ((c : Thread nD τ).loc cc0_scoped6) ↦{fullShare} f) ∗ cellBU (F := F) c (Ring.sl 2 0) ∗ cellBU (F := F) c (Ring.sl 2 1)) ⊢ freeBU (F := F) c := by
  unfold freeBU
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped6) S2BU disjBU coverBU f).trans (sep_fin2 _))) $$ H
  icases H2 with ⟨H0, H1⟩
  isplitl [H0]
  · iexists f; iapply (entails_of_eq (slotPBU_eq c (Ring.sl 2 0) f).symm); iexact H0
  isplitl [H1]
  · iexists f; iapply (entails_of_eq (slotPBU_eq c (Ring.sl 2 1) f).symm); iexact H1
  · iexact Hc
theorem joinBU (c : Dev nD) :
    freeBU (F := F) c ⊢ iprop((∃ f : Buf (Elt F) ((c : Thread nD τ).loc cc0_scoped6), ((c : Thread nD τ).loc cc0_scoped6) ↦{fullShare} f) ∗ cellBU (F := F) c (Ring.sl 2 0) ∗ cellBU (F := F) c (Ring.sl 2 1)) := by
  unfold freeBU
  iintro ⟨⟨%f0, H0⟩, ⟨%f1, H1⟩, Hc⟩
  isplitl [H0 H1]
  · iapply (Ring.pointsTo_blocks_join_exists (ℓ := (c : Thread nD τ).loc cc0_scoped6) S2BU disjBU coverBU f0)
    irw [sep_fin2]
    isplitl [H0]
    · iexists f0; iapply (entails_of_eq (slotPBU_eq c (Ring.sl 2 0) f0)); iexact H0
    · iexists f1; iapply (entails_of_eq (slotPBU_eq c (Ring.sl 2 1) f1)); iexact H1
  · iexact Hc

theorem blkSetBN (b : Fin 16) : (blkBN b : Memref sig .tc .hbm _ _).view.set = (Rect.unit (s := S8192x64) (blkOffBN b) S512x64.size (blkInbBN b)).set := View.set_slice_whole _ _
theorem memBlkBN (b : Fin 16) (y : S8192x64.Idx) : y ∈ (Rect.unit (s := S8192x64) (blkOffBN b) S512x64.size (blkInbBN b)).set ↔ (y 0).val / 512 = b.val := by
  rw [Rect.mem_set_unit]
  have h1 : (y 1).val < 64 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 64; omega
/-- The array whole is its blocks. -/
theorem arrBN (c : Dev nD) (X : Buf (Elt F) ((Memref.whole main_v6 : Memref sig .tc .hbm _ _).view.loc (c : Thread nD τ))) :
    ((c : Thread nD τ).loc main_v6 ↦{fullShare} X : sProp 𝕄) = bigSep Finset.univ (homeBN c X) := by
  rw [Ring.pointsTo_blocks (ℓ := (c : Thread nD τ).loc main_v6) (fun b : Fin 16 => (Rect.unit (s := S8192x64) (blkOffBN b) S512x64.size (blkInbBN b)).set)
    (by intro b b' hne; rw [Finset.disjoint_left]; intro y hy hy'; exact hne (Fin.ext (((memBlkBN b y).mp hy).symm.trans ((memBlkBN b' y).mp hy'))))
    (by
      ext y; simp only [Finset.mem_biUnion, Finset.mem_univ, true_and, iff_true]
      have h0 : (y 0).val < 8192 := (y 0).isLt
      exact ⟨⟨(y 0).val / 512, by omega⟩, (memBlkBN _ y).mpr rfl⟩)]
  exact bigSep_congr fun b _ => by rw [← blkSetBN]; rfl
abbrev S2BN (s : Fin 2) : Finset (S2x512x64).Idx := (Rect.unit (s := S2x512x64) (slotOff s) S1x512x64.size (slotInbBN s)).set
theorem slotSetBN (s : Fin 2) : (slotBN s : Memref sig .tc .vmem _ _).view.set = S2BN s := (View.set_reshape _ _).trans (View.set_slice_whole _ _)
theorem memSlotBN (s : Fin 2) (y : S2x512x64.Idx) : y ∈ S2BN s ↔ (y 0).val = s.val := by
  rw [Rect.mem_set_unit]
  have h1 : (y 1).val < 512 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 64; omega
theorem disjBN : ∀ s s' : Fin 2, s ≠ s' → Disjoint (S2BN s) (S2BN s') := by
  intro s s' hne; rw [Finset.disjoint_left]; intro y hy hy'; exact hne (Fin.ext (((memSlotBN s y).mp hy).symm.trans ((memSlotBN s' y).mp hy')))
theorem coverBN : (Finset.univ : Finset (Fin 2)).biUnion S2BN = Finset.univ := by
  ext y; simp only [Finset.mem_biUnion, Finset.mem_univ, true_and, iff_true]
  have h0 : (y 0).val < 2 := (y 0).isLt
  exact ⟨⟨(y 0).val, h0⟩, (memSlotBN _ y).mpr rfl⟩
theorem slotPBN_eq (c : Dev nD) (s : Fin 2) (f) : slotPBN c s f = (((c : Thread nD τ).loc cc0_scoped8) ↦[S2BN s]{fullShare} f : sProp 𝕄) :=
  congrArg (fun S => (_ ↦[S]{fullShare} f : sProp 𝕄)) (slotSetBN s)
/-- The buffer whole is its two slots, and back. -/
theorem splitBN (c : Dev nD) :
    iprop((∃ f : Buf (Elt F) ((c : Thread nD τ).loc cc0_scoped8), ((c : Thread nD τ).loc cc0_scoped8) ↦{fullShare} f) ∗ cellBN (F := F) c (Ring.sl 2 0) ∗ cellBN (F := F) c (Ring.sl 2 1)) ⊢ freeBN (F := F) c := by
  unfold freeBN
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped8) S2BN disjBN coverBN f).trans (sep_fin2 _))) $$ H
  icases H2 with ⟨H0, H1⟩
  isplitl [H0]
  · iexists f; iapply (entails_of_eq (slotPBN_eq c (Ring.sl 2 0) f).symm); iexact H0
  isplitl [H1]
  · iexists f; iapply (entails_of_eq (slotPBN_eq c (Ring.sl 2 1) f).symm); iexact H1
  · iexact Hc
theorem joinBN (c : Dev nD) :
    freeBN (F := F) c ⊢ iprop((∃ f : Buf (Elt F) ((c : Thread nD τ).loc cc0_scoped8), ((c : Thread nD τ).loc cc0_scoped8) ↦{fullShare} f) ∗ cellBN (F := F) c (Ring.sl 2 0) ∗ cellBN (F := F) c (Ring.sl 2 1)) := by
  unfold freeBN
  iintro ⟨⟨%f0, H0⟩, ⟨%f1, H1⟩, Hc⟩
  isplitl [H0 H1]
  · iapply (Ring.pointsTo_blocks_join_exists (ℓ := (c : Thread nD τ).loc cc0_scoped8) S2BN disjBN coverBN f0)
    irw [sep_fin2]
    isplitl [H0]
    · iexists f0; iapply (entails_of_eq (slotPBN_eq c (Ring.sl 2 0) f0)); iexact H0
    · iexists f1; iapply (entails_of_eq (slotPBN_eq c (Ring.sl 2 1) f1)); iexact H1
  · iexact Hc

theorem blkSetBI (b : Fin 16) : (blkBI b : Memref sig .tc .hbm _ _).view.set = (Rect.unit (s := S8192x64) (blkOffBI b) S512x64.size (blkInbBI b)).set := View.set_slice_whole _ _
theorem memBlkBI (b : Fin 16) (y : S8192x64.Idx) : y ∈ (Rect.unit (s := S8192x64) (blkOffBI b) S512x64.size (blkInbBI b)).set ↔ (y 0).val / 512 = b.val := by
  rw [Rect.mem_set_unit]
  have h1 : (y 1).val < 64 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 64; omega
/-- The array whole is its blocks. -/
theorem arrBI (c : Dev nD) (X : Buf (Elt F) ((Memref.whole main_v22_4 : Memref sig .tc .hbm _ _).view.loc (c : Thread nD τ))) :
    ((c : Thread nD τ).loc main_v22_4 ↦{fullShare} X : sProp 𝕄) = bigSep Finset.univ (homeBI c X) := by
  rw [Ring.pointsTo_blocks (ℓ := (c : Thread nD τ).loc main_v22_4) (fun b : Fin 16 => (Rect.unit (s := S8192x64) (blkOffBI b) S512x64.size (blkInbBI b)).set)
    (by intro b b' hne; rw [Finset.disjoint_left]; intro y hy hy'; exact hne (Fin.ext (((memBlkBI b y).mp hy).symm.trans ((memBlkBI b' y).mp hy'))))
    (by
      ext y; simp only [Finset.mem_biUnion, Finset.mem_univ, true_and, iff_true]
      have h0 : (y 0).val < 8192 := (y 0).isLt
      exact ⟨⟨(y 0).val / 512, by omega⟩, (memBlkBI _ y).mpr rfl⟩)]
  exact bigSep_congr fun b _ => by rw [← blkSetBI]; rfl
abbrev S2BI (s : Fin 2) : Finset (S2x512x64).Idx := (Rect.unit (s := S2x512x64) (slotOff s) S1x512x64.size (slotInbBI s)).set
theorem slotSetBI (s : Fin 2) : (slotBI s : Memref sig .tc .vmem _ _).view.set = S2BI s := (View.set_reshape _ _).trans (View.set_slice_whole _ _)
theorem memSlotBI (s : Fin 2) (y : S2x512x64.Idx) : y ∈ S2BI s ↔ (y 0).val = s.val := by
  rw [Rect.mem_set_unit]
  have h1 : (y 1).val < 512 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 64; omega
theorem disjBI : ∀ s s' : Fin 2, s ≠ s' → Disjoint (S2BI s) (S2BI s') := by
  intro s s' hne; rw [Finset.disjoint_left]; intro y hy hy'; exact hne (Fin.ext (((memSlotBI s y).mp hy).symm.trans ((memSlotBI s' y).mp hy')))
theorem coverBI : (Finset.univ : Finset (Fin 2)).biUnion S2BI = Finset.univ := by
  ext y; simp only [Finset.mem_biUnion, Finset.mem_univ, true_and, iff_true]
  have h0 : (y 0).val < 2 := (y 0).isLt
  exact ⟨⟨(y 0).val, h0⟩, (memSlotBI _ y).mpr rfl⟩
theorem slotPBI_eq (c : Dev nD) (s : Fin 2) (f) : slotPBI c s f = (((c : Thread nD τ).loc cc0_scoped10) ↦[S2BI s]{fullShare} f : sProp 𝕄) :=
  congrArg (fun S => (_ ↦[S]{fullShare} f : sProp 𝕄)) (slotSetBI s)
/-- The buffer whole is its two slots, and back. -/
theorem splitBI (c : Dev nD) :
    iprop((∃ f : Buf (Elt F) ((c : Thread nD τ).loc cc0_scoped10), ((c : Thread nD τ).loc cc0_scoped10) ↦{fullShare} f) ∗ cellBI (F := F) c (Ring.sl 2 0) ∗ cellBI (F := F) c (Ring.sl 2 1)) ⊢ freeBI (F := F) c := by
  unfold freeBI
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped10) S2BI disjBI coverBI f).trans (sep_fin2 _))) $$ H
  icases H2 with ⟨H0, H1⟩
  isplitl [H0]
  · iexists f; iapply (entails_of_eq (slotPBI_eq c (Ring.sl 2 0) f).symm); iexact H0
  isplitl [H1]
  · iexists f; iapply (entails_of_eq (slotPBI_eq c (Ring.sl 2 1) f).symm); iexact H1
  · iexact Hc
theorem joinBI (c : Dev nD) :
    freeBI (F := F) c ⊢ iprop((∃ f : Buf (Elt F) ((c : Thread nD τ).loc cc0_scoped10), ((c : Thread nD τ).loc cc0_scoped10) ↦{fullShare} f) ∗ cellBI (F := F) c (Ring.sl 2 0) ∗ cellBI (F := F) c (Ring.sl 2 1)) := by
  unfold freeBI
  iintro ⟨⟨%f0, H0⟩, ⟨%f1, H1⟩, Hc⟩
  isplitl [H0 H1]
  · iapply (Ring.pointsTo_blocks_join_exists (ℓ := (c : Thread nD τ).loc cc0_scoped10) S2BI disjBI coverBI f0)
    irw [sep_fin2]
    isplitl [H0]
    · iexists f0; iapply (entails_of_eq (slotPBI_eq c (Ring.sl 2 0) f0)); iexact H0
    · iexists f1; iapply (entails_of_eq (slotPBI_eq c (Ring.sl 2 1) f1)); iexact H1
  · iexact Hc

theorem blkSetBT (b : Fin 16) : (blkBT b : Memref sig .tc .hbm _ _).view.set = (Rect.unit (s := S8192x64) (blkOffBT b) S512x64.size (blkInbBT b)).set := View.set_slice_whole _ _
theorem memBlkBT (b : Fin 16) (y : S8192x64.Idx) : y ∈ (Rect.unit (s := S8192x64) (blkOffBT b) S512x64.size (blkInbBT b)).set ↔ (y 0).val / 512 = b.val := by
  rw [Rect.mem_set_unit]
  have h1 : (y 1).val < 64 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 64; omega
/-- The array whole is its blocks. -/
theorem arrBT (c : Dev nD) (X : Buf (Elt F) ((Memref.whole main_v22_5 : Memref sig .tc .hbm _ _).view.loc (c : Thread nD τ))) :
    ((c : Thread nD τ).loc main_v22_5 ↦{fullShare} X : sProp 𝕄) = bigSep Finset.univ (homeBT c X) := by
  rw [Ring.pointsTo_blocks (ℓ := (c : Thread nD τ).loc main_v22_5) (fun b : Fin 16 => (Rect.unit (s := S8192x64) (blkOffBT b) S512x64.size (blkInbBT b)).set)
    (by intro b b' hne; rw [Finset.disjoint_left]; intro y hy hy'; exact hne (Fin.ext (((memBlkBT b y).mp hy).symm.trans ((memBlkBT b' y).mp hy'))))
    (by
      ext y; simp only [Finset.mem_biUnion, Finset.mem_univ, true_and, iff_true]
      have h0 : (y 0).val < 8192 := (y 0).isLt
      exact ⟨⟨(y 0).val / 512, by omega⟩, (memBlkBT _ y).mpr rfl⟩)]
  exact bigSep_congr fun b _ => by rw [← blkSetBT]; rfl
abbrev S2BT (s : Fin 2) : Finset (S2x512x64).Idx := (Rect.unit (s := S2x512x64) (slotOff s) S1x512x64.size (slotInbBT s)).set
theorem slotSetBT (s : Fin 2) : (slotBT s : Memref sig .tc .vmem _ _).view.set = S2BT s := (View.set_reshape _ _).trans (View.set_slice_whole _ _)
theorem memSlotBT (s : Fin 2) (y : S2x512x64.Idx) : y ∈ S2BT s ↔ (y 0).val = s.val := by
  rw [Rect.mem_set_unit]
  have h1 : (y 1).val < 512 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 64; omega
theorem disjBT : ∀ s s' : Fin 2, s ≠ s' → Disjoint (S2BT s) (S2BT s') := by
  intro s s' hne; rw [Finset.disjoint_left]; intro y hy hy'; exact hne (Fin.ext (((memSlotBT s y).mp hy).symm.trans ((memSlotBT s' y).mp hy')))
theorem coverBT : (Finset.univ : Finset (Fin 2)).biUnion S2BT = Finset.univ := by
  ext y; simp only [Finset.mem_biUnion, Finset.mem_univ, true_and, iff_true]
  have h0 : (y 0).val < 2 := (y 0).isLt
  exact ⟨⟨(y 0).val, h0⟩, (memSlotBT _ y).mpr rfl⟩
theorem slotPBT_eq (c : Dev nD) (s : Fin 2) (f) : slotPBT c s f = (((c : Thread nD τ).loc cc0_scoped12) ↦[S2BT s]{fullShare} f : sProp 𝕄) :=
  congrArg (fun S => (_ ↦[S]{fullShare} f : sProp 𝕄)) (slotSetBT s)
/-- The buffer whole is its two slots, and back. -/
theorem splitBT (c : Dev nD) :
    iprop((∃ f : Buf (Elt F) ((c : Thread nD τ).loc cc0_scoped12), ((c : Thread nD τ).loc cc0_scoped12) ↦{fullShare} f) ∗ cellBT (F := F) c (Ring.sl 2 0) ∗ cellBT (F := F) c (Ring.sl 2 1)) ⊢ freeBT (F := F) c := by
  unfold freeBT
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped12) S2BT disjBT coverBT f).trans (sep_fin2 _))) $$ H
  icases H2 with ⟨H0, H1⟩
  isplitl [H0]
  · iexists f; iapply (entails_of_eq (slotPBT_eq c (Ring.sl 2 0) f).symm); iexact H0
  isplitl [H1]
  · iexists f; iapply (entails_of_eq (slotPBT_eq c (Ring.sl 2 1) f).symm); iexact H1
  · iexact Hc
theorem joinBT (c : Dev nD) :
    freeBT (F := F) c ⊢ iprop((∃ f : Buf (Elt F) ((c : Thread nD τ).loc cc0_scoped12), ((c : Thread nD τ).loc cc0_scoped12) ↦{fullShare} f) ∗ cellBT (F := F) c (Ring.sl 2 0) ∗ cellBT (F := F) c (Ring.sl 2 1)) := by
  unfold freeBT
  iintro ⟨⟨%f0, H0⟩, ⟨%f1, H1⟩, Hc⟩
  isplitl [H0 H1]
  · iapply (Ring.pointsTo_blocks_join_exists (ℓ := (c : Thread nD τ).loc cc0_scoped12) S2BT disjBT coverBT f0)
    irw [sep_fin2]
    isplitl [H0]
    · iexists f0; iapply (entails_of_eq (slotPBT_eq c (Ring.sl 2 0) f0)); iexact H0
    · iexists f1; iapply (entails_of_eq (slotPBT_eq c (Ring.sl 2 1) f1)); iexact H1
  · iexact Hc

theorem blkSetCU (b : Fin 16) : (blkCU b : Memref sig .tc .hbm _ _).view.set = (Rect.unit (s := S4096x8192) (blkOffCU b) S256x8192.size (blkInbCU b)).set := View.set_slice_whole _ _
theorem memBlkCU (b : Fin 16) (y : S4096x8192.Idx) : y ∈ (Rect.unit (s := S4096x8192) (blkOffCU b) S256x8192.size (blkInbCU b)).set ↔ (y 0).val / 256 = b.val := by
  rw [Rect.mem_set_unit]
  have h1 : (y 1).val < 8192 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 8192; omega
/-- The array whole is its blocks. -/
theorem arrCU (c : Dev nD) (X : Buf (Elt F) ((Memref.whole main_arg1 : Memref sig .tc .hbm _ _).view.loc (c : Thread nD τ))) :
    ((c : Thread nD τ).loc main_arg1 ↦{fullShare} X : sProp 𝕄) = bigSep Finset.univ (homeCU c X) := by
  rw [Ring.pointsTo_blocks (ℓ := (c : Thread nD τ).loc main_arg1) (fun b : Fin 16 => (Rect.unit (s := S4096x8192) (blkOffCU b) S256x8192.size (blkInbCU b)).set)
    (by intro b b' hne; rw [Finset.disjoint_left]; intro y hy hy'; exact hne (Fin.ext (((memBlkCU b y).mp hy).symm.trans ((memBlkCU b' y).mp hy'))))
    (by
      ext y; simp only [Finset.mem_biUnion, Finset.mem_univ, true_and, iff_true]
      have h0 : (y 0).val < 4096 := (y 0).isLt
      exact ⟨⟨(y 0).val / 256, by omega⟩, (memBlkCU _ y).mpr rfl⟩)]
  exact bigSep_congr fun b _ => by rw [← blkSetCU]; rfl
abbrev S2CU (s : Fin 2) : Finset (S2x256x8192).Idx := (Rect.unit (s := S2x256x8192) (slotOff s) S1x256x8192.size (slotInbCU s)).set
theorem slotSetCU (s : Fin 2) : (slotCU s : Memref sig .tc .vmem _ _).view.set = S2CU s := (View.set_reshape _ _).trans (View.set_slice_whole _ _)
theorem memSlotCU (s : Fin 2) (y : S2x256x8192.Idx) : y ∈ S2CU s ↔ (y 0).val = s.val := by
  rw [Rect.mem_set_unit]
  have h1 : (y 1).val < 256 := (y 1).isLt
  have h2 : (y 2).val < 8192 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 8192; omega
theorem disjCU : ∀ s s' : Fin 2, s ≠ s' → Disjoint (S2CU s) (S2CU s') := by
  intro s s' hne; rw [Finset.disjoint_left]; intro y hy hy'; exact hne (Fin.ext (((memSlotCU s y).mp hy).symm.trans ((memSlotCU s' y).mp hy')))
theorem coverCU : (Finset.univ : Finset (Fin 2)).biUnion S2CU = Finset.univ := by
  ext y; simp only [Finset.mem_biUnion, Finset.mem_univ, true_and, iff_true]
  have h0 : (y 0).val < 2 := (y 0).isLt
  exact ⟨⟨(y 0).val, h0⟩, (memSlotCU _ y).mpr rfl⟩
theorem slotPCU_eq (c : Dev nD) (s : Fin 2) (f) : slotPCU c s f = (((c : Thread nD τ).loc cc0_scoped14) ↦[S2CU s]{fullShare} f : sProp 𝕄) :=
  congrArg (fun S => (_ ↦[S]{fullShare} f : sProp 𝕄)) (slotSetCU s)
/-- The buffer whole is its two slots, and back. -/
theorem splitCU (c : Dev nD) :
    iprop((∃ f : Buf (Elt F) ((c : Thread nD τ).loc cc0_scoped14), ((c : Thread nD τ).loc cc0_scoped14) ↦{fullShare} f) ∗ cellCU (F := F) c (Ring.sl 2 0) ∗ cellCU (F := F) c (Ring.sl 2 1)) ⊢ freeCU (F := F) c := by
  unfold freeCU
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped14) S2CU disjCU coverCU f).trans (sep_fin2 _))) $$ H
  icases H2 with ⟨H0, H1⟩
  isplitl [H0]
  · iexists f; iapply (entails_of_eq (slotPCU_eq c (Ring.sl 2 0) f).symm); iexact H0
  isplitl [H1]
  · iexists f; iapply (entails_of_eq (slotPCU_eq c (Ring.sl 2 1) f).symm); iexact H1
  · iexact Hc
theorem joinCU (c : Dev nD) :
    freeCU (F := F) c ⊢ iprop((∃ f : Buf (Elt F) ((c : Thread nD τ).loc cc0_scoped14), ((c : Thread nD τ).loc cc0_scoped14) ↦{fullShare} f) ∗ cellCU (F := F) c (Ring.sl 2 0) ∗ cellCU (F := F) c (Ring.sl 2 1)) := by
  unfold freeCU
  iintro ⟨⟨%f0, H0⟩, ⟨%f1, H1⟩, Hc⟩
  isplitl [H0 H1]
  · iapply (Ring.pointsTo_blocks_join_exists (ℓ := (c : Thread nD τ).loc cc0_scoped14) S2CU disjCU coverCU f0)
    irw [sep_fin2]
    isplitl [H0]
    · iexists f0; iapply (entails_of_eq (slotPCU_eq c (Ring.sl 2 0) f0)); iexact H0
    · iexists f1; iapply (entails_of_eq (slotPCU_eq c (Ring.sl 2 1) f1)); iexact H1
  · iexact Hc

theorem blkSetCN (b : Fin 16) : (blkCN b : Memref sig .tc .hbm _ _).view.set = (Rect.unit (s := S4096x64) (blkOffCN b) S256x64.size (blkInbCN b)).set := View.set_slice_whole _ _
theorem memBlkCN (b : Fin 16) (y : S4096x64.Idx) : y ∈ (Rect.unit (s := S4096x64) (blkOffCN b) S256x64.size (blkInbCN b)).set ↔ (y 0).val / 256 = b.val := by
  rw [Rect.mem_set_unit]
  have h1 : (y 1).val < 64 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 64; omega
/-- The array whole is its blocks. -/
theorem arrCN (c : Dev nD) (X : Buf (Elt F) ((Memref.whole main_v13 : Memref sig .tc .hbm _ _).view.loc (c : Thread nD τ))) :
    ((c : Thread nD τ).loc main_v13 ↦{fullShare} X : sProp 𝕄) = bigSep Finset.univ (homeCN c X) := by
  rw [Ring.pointsTo_blocks (ℓ := (c : Thread nD τ).loc main_v13) (fun b : Fin 16 => (Rect.unit (s := S4096x64) (blkOffCN b) S256x64.size (blkInbCN b)).set)
    (by intro b b' hne; rw [Finset.disjoint_left]; intro y hy hy'; exact hne (Fin.ext (((memBlkCN b y).mp hy).symm.trans ((memBlkCN b' y).mp hy'))))
    (by
      ext y; simp only [Finset.mem_biUnion, Finset.mem_univ, true_and, iff_true]
      have h0 : (y 0).val < 4096 := (y 0).isLt
      exact ⟨⟨(y 0).val / 256, by omega⟩, (memBlkCN _ y).mpr rfl⟩)]
  exact bigSep_congr fun b _ => by rw [← blkSetCN]; rfl
abbrev S2CN (s : Fin 2) : Finset (S2x256x64).Idx := (Rect.unit (s := S2x256x64) (slotOff s) S1x256x64.size (slotInbCN s)).set
theorem slotSetCN (s : Fin 2) : (slotCN s : Memref sig .tc .vmem _ _).view.set = S2CN s := (View.set_reshape _ _).trans (View.set_slice_whole _ _)
theorem memSlotCN (s : Fin 2) (y : S2x256x64.Idx) : y ∈ S2CN s ↔ (y 0).val = s.val := by
  rw [Rect.mem_set_unit]
  have h1 : (y 1).val < 256 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 64; omega
theorem disjCN : ∀ s s' : Fin 2, s ≠ s' → Disjoint (S2CN s) (S2CN s') := by
  intro s s' hne; rw [Finset.disjoint_left]; intro y hy hy'; exact hne (Fin.ext (((memSlotCN s y).mp hy).symm.trans ((memSlotCN s' y).mp hy')))
theorem coverCN : (Finset.univ : Finset (Fin 2)).biUnion S2CN = Finset.univ := by
  ext y; simp only [Finset.mem_biUnion, Finset.mem_univ, true_and, iff_true]
  have h0 : (y 0).val < 2 := (y 0).isLt
  exact ⟨⟨(y 0).val, h0⟩, (memSlotCN _ y).mpr rfl⟩
theorem slotPCN_eq (c : Dev nD) (s : Fin 2) (f) : slotPCN c s f = (((c : Thread nD τ).loc cc0_scoped16) ↦[S2CN s]{fullShare} f : sProp 𝕄) :=
  congrArg (fun S => (_ ↦[S]{fullShare} f : sProp 𝕄)) (slotSetCN s)
/-- The buffer whole is its two slots, and back. -/
theorem splitCN (c : Dev nD) :
    iprop((∃ f : Buf (Elt F) ((c : Thread nD τ).loc cc0_scoped16), ((c : Thread nD τ).loc cc0_scoped16) ↦{fullShare} f) ∗ cellCN (F := F) c (Ring.sl 2 0) ∗ cellCN (F := F) c (Ring.sl 2 1)) ⊢ freeCN (F := F) c := by
  unfold freeCN
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped16) S2CN disjCN coverCN f).trans (sep_fin2 _))) $$ H
  icases H2 with ⟨H0, H1⟩
  isplitl [H0]
  · iexists f; iapply (entails_of_eq (slotPCN_eq c (Ring.sl 2 0) f).symm); iexact H0
  isplitl [H1]
  · iexists f; iapply (entails_of_eq (slotPCN_eq c (Ring.sl 2 1) f).symm); iexact H1
  · iexact Hc
theorem joinCN (c : Dev nD) :
    freeCN (F := F) c ⊢ iprop((∃ f : Buf (Elt F) ((c : Thread nD τ).loc cc0_scoped16), ((c : Thread nD τ).loc cc0_scoped16) ↦{fullShare} f) ∗ cellCN (F := F) c (Ring.sl 2 0) ∗ cellCN (F := F) c (Ring.sl 2 1)) := by
  unfold freeCN
  iintro ⟨⟨%f0, H0⟩, ⟨%f1, H1⟩, Hc⟩
  isplitl [H0 H1]
  · iapply (Ring.pointsTo_blocks_join_exists (ℓ := (c : Thread nD τ).loc cc0_scoped16) S2CN disjCN coverCN f0)
    irw [sep_fin2]
    isplitl [H0]
    · iexists f0; iapply (entails_of_eq (slotPCN_eq c (Ring.sl 2 0) f0)); iexact H0
    · iexists f1; iapply (entails_of_eq (slotPCN_eq c (Ring.sl 2 1) f1)); iexact H1
  · iexact Hc

theorem blkSetCI (b : Fin 16) : (blkCI b : Memref sig .tc .hbm _ _).view.set = (Rect.unit (s := S4096x64) (blkOffCI b) S256x64.size (blkInbCI b)).set := View.set_slice_whole _ _
theorem memBlkCI (b : Fin 16) (y : S4096x64.Idx) : y ∈ (Rect.unit (s := S4096x64) (blkOffCI b) S256x64.size (blkInbCI b)).set ↔ (y 0).val / 256 = b.val := by
  rw [Rect.mem_set_unit]
  have h1 : (y 1).val < 64 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 64; omega
/-- The array whole is its blocks. -/
theorem arrCI (c : Dev nD) (X : Buf (Elt F) ((Memref.whole main_v22_2 : Memref sig .tc .hbm _ _).view.loc (c : Thread nD τ))) :
    ((c : Thread nD τ).loc main_v22_2 ↦{fullShare} X : sProp 𝕄) = bigSep Finset.univ (homeCI c X) := by
  rw [Ring.pointsTo_blocks (ℓ := (c : Thread nD τ).loc main_v22_2) (fun b : Fin 16 => (Rect.unit (s := S4096x64) (blkOffCI b) S256x64.size (blkInbCI b)).set)
    (by intro b b' hne; rw [Finset.disjoint_left]; intro y hy hy'; exact hne (Fin.ext (((memBlkCI b y).mp hy).symm.trans ((memBlkCI b' y).mp hy'))))
    (by
      ext y; simp only [Finset.mem_biUnion, Finset.mem_univ, true_and, iff_true]
      have h0 : (y 0).val < 4096 := (y 0).isLt
      exact ⟨⟨(y 0).val / 256, by omega⟩, (memBlkCI _ y).mpr rfl⟩)]
  exact bigSep_congr fun b _ => by rw [← blkSetCI]; rfl
abbrev S2CI (s : Fin 2) : Finset (S2x256x64).Idx := (Rect.unit (s := S2x256x64) (slotOff s) S1x256x64.size (slotInbCI s)).set
theorem slotSetCI (s : Fin 2) : (slotCI s : Memref sig .tc .vmem _ _).view.set = S2CI s := (View.set_reshape _ _).trans (View.set_slice_whole _ _)
theorem memSlotCI (s : Fin 2) (y : S2x256x64.Idx) : y ∈ S2CI s ↔ (y 0).val = s.val := by
  rw [Rect.mem_set_unit]
  have h1 : (y 1).val < 256 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 64; omega
theorem disjCI : ∀ s s' : Fin 2, s ≠ s' → Disjoint (S2CI s) (S2CI s') := by
  intro s s' hne; rw [Finset.disjoint_left]; intro y hy hy'; exact hne (Fin.ext (((memSlotCI s y).mp hy).symm.trans ((memSlotCI s' y).mp hy')))
theorem coverCI : (Finset.univ : Finset (Fin 2)).biUnion S2CI = Finset.univ := by
  ext y; simp only [Finset.mem_biUnion, Finset.mem_univ, true_and, iff_true]
  have h0 : (y 0).val < 2 := (y 0).isLt
  exact ⟨⟨(y 0).val, h0⟩, (memSlotCI _ y).mpr rfl⟩
theorem slotPCI_eq (c : Dev nD) (s : Fin 2) (f) : slotPCI c s f = (((c : Thread nD τ).loc cc0_scoped18) ↦[S2CI s]{fullShare} f : sProp 𝕄) :=
  congrArg (fun S => (_ ↦[S]{fullShare} f : sProp 𝕄)) (slotSetCI s)
/-- The buffer whole is its two slots, and back. -/
theorem splitCI (c : Dev nD) :
    iprop((∃ f : Buf (Elt F) ((c : Thread nD τ).loc cc0_scoped18), ((c : Thread nD τ).loc cc0_scoped18) ↦{fullShare} f) ∗ cellCI (F := F) c (Ring.sl 2 0) ∗ cellCI (F := F) c (Ring.sl 2 1)) ⊢ freeCI (F := F) c := by
  unfold freeCI
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped18) S2CI disjCI coverCI f).trans (sep_fin2 _))) $$ H
  icases H2 with ⟨H0, H1⟩
  isplitl [H0]
  · iexists f; iapply (entails_of_eq (slotPCI_eq c (Ring.sl 2 0) f).symm); iexact H0
  isplitl [H1]
  · iexists f; iapply (entails_of_eq (slotPCI_eq c (Ring.sl 2 1) f).symm); iexact H1
  · iexact Hc
theorem joinCI (c : Dev nD) :
    freeCI (F := F) c ⊢ iprop((∃ f : Buf (Elt F) ((c : Thread nD τ).loc cc0_scoped18), ((c : Thread nD τ).loc cc0_scoped18) ↦{fullShare} f) ∗ cellCI (F := F) c (Ring.sl 2 0) ∗ cellCI (F := F) c (Ring.sl 2 1)) := by
  unfold freeCI
  iintro ⟨⟨%f0, H0⟩, ⟨%f1, H1⟩, Hc⟩
  isplitl [H0 H1]
  · iapply (Ring.pointsTo_blocks_join_exists (ℓ := (c : Thread nD τ).loc cc0_scoped18) S2CI disjCI coverCI f0)
    irw [sep_fin2]
    isplitl [H0]
    · iexists f0; iapply (entails_of_eq (slotPCI_eq c (Ring.sl 2 0) f0)); iexact H0
    · iexists f1; iapply (entails_of_eq (slotPCI_eq c (Ring.sl 2 1) f1)); iexact H1
  · iexact Hc

theorem blkSetCT (b : Fin 16) : (blkCT b : Memref sig .tc .hbm _ _).view.set = (Rect.unit (s := S4096x64) (blkOffCT b) S256x64.size (blkInbCT b)).set := View.set_slice_whole _ _
theorem memBlkCT (b : Fin 16) (y : S4096x64.Idx) : y ∈ (Rect.unit (s := S4096x64) (blkOffCT b) S256x64.size (blkInbCT b)).set ↔ (y 0).val / 256 = b.val := by
  rw [Rect.mem_set_unit]
  have h1 : (y 1).val < 64 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 64; omega
/-- The array whole is its blocks. -/
theorem arrCT (c : Dev nD) (X : Buf (Elt F) ((Memref.whole main_v22_3 : Memref sig .tc .hbm _ _).view.loc (c : Thread nD τ))) :
    ((c : Thread nD τ).loc main_v22_3 ↦{fullShare} X : sProp 𝕄) = bigSep Finset.univ (homeCT c X) := by
  rw [Ring.pointsTo_blocks (ℓ := (c : Thread nD τ).loc main_v22_3) (fun b : Fin 16 => (Rect.unit (s := S4096x64) (blkOffCT b) S256x64.size (blkInbCT b)).set)
    (by intro b b' hne; rw [Finset.disjoint_left]; intro y hy hy'; exact hne (Fin.ext (((memBlkCT b y).mp hy).symm.trans ((memBlkCT b' y).mp hy'))))
    (by
      ext y; simp only [Finset.mem_biUnion, Finset.mem_univ, true_and, iff_true]
      have h0 : (y 0).val < 4096 := (y 0).isLt
      exact ⟨⟨(y 0).val / 256, by omega⟩, (memBlkCT _ y).mpr rfl⟩)]
  exact bigSep_congr fun b _ => by rw [← blkSetCT]; rfl
abbrev S2CT (s : Fin 2) : Finset (S2x256x64).Idx := (Rect.unit (s := S2x256x64) (slotOff s) S1x256x64.size (slotInbCT s)).set
theorem slotSetCT (s : Fin 2) : (slotCT s : Memref sig .tc .vmem _ _).view.set = S2CT s := (View.set_reshape _ _).trans (View.set_slice_whole _ _)
theorem memSlotCT (s : Fin 2) (y : S2x256x64.Idx) : y ∈ S2CT s ↔ (y 0).val = s.val := by
  rw [Rect.mem_set_unit]
  have h1 : (y 1).val < 256 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 64; omega
theorem disjCT : ∀ s s' : Fin 2, s ≠ s' → Disjoint (S2CT s) (S2CT s') := by
  intro s s' hne; rw [Finset.disjoint_left]; intro y hy hy'; exact hne (Fin.ext (((memSlotCT s y).mp hy).symm.trans ((memSlotCT s' y).mp hy')))
theorem coverCT : (Finset.univ : Finset (Fin 2)).biUnion S2CT = Finset.univ := by
  ext y; simp only [Finset.mem_biUnion, Finset.mem_univ, true_and, iff_true]
  have h0 : (y 0).val < 2 := (y 0).isLt
  exact ⟨⟨(y 0).val, h0⟩, (memSlotCT _ y).mpr rfl⟩
theorem slotPCT_eq (c : Dev nD) (s : Fin 2) (f) : slotPCT c s f = (((c : Thread nD τ).loc cc0_scoped20) ↦[S2CT s]{fullShare} f : sProp 𝕄) :=
  congrArg (fun S => (_ ↦[S]{fullShare} f : sProp 𝕄)) (slotSetCT s)
/-- The buffer whole is its two slots, and back. -/
theorem splitCT (c : Dev nD) :
    iprop((∃ f : Buf (Elt F) ((c : Thread nD τ).loc cc0_scoped20), ((c : Thread nD τ).loc cc0_scoped20) ↦{fullShare} f) ∗ cellCT (F := F) c (Ring.sl 2 0) ∗ cellCT (F := F) c (Ring.sl 2 1)) ⊢ freeCT (F := F) c := by
  unfold freeCT
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped20) S2CT disjCT coverCT f).trans (sep_fin2 _))) $$ H
  icases H2 with ⟨H0, H1⟩
  isplitl [H0]
  · iexists f; iapply (entails_of_eq (slotPCT_eq c (Ring.sl 2 0) f).symm); iexact H0
  isplitl [H1]
  · iexists f; iapply (entails_of_eq (slotPCT_eq c (Ring.sl 2 1) f).symm); iexact H1
  · iexact Hc
theorem joinCT (c : Dev nD) :
    freeCT (F := F) c ⊢ iprop((∃ f : Buf (Elt F) ((c : Thread nD τ).loc cc0_scoped20), ((c : Thread nD τ).loc cc0_scoped20) ↦{fullShare} f) ∗ cellCT (F := F) c (Ring.sl 2 0) ∗ cellCT (F := F) c (Ring.sl 2 1)) := by
  unfold freeCT
  iintro ⟨⟨%f0, H0⟩, ⟨%f1, H1⟩, Hc⟩
  isplitl [H0 H1]
  · iapply (Ring.pointsTo_blocks_join_exists (ℓ := (c : Thread nD τ).loc cc0_scoped20) S2CT disjCT coverCT f0)
    irw [sep_fin2]
    isplitl [H0]
    · iexists f0; iapply (entails_of_eq (slotPCT_eq c (Ring.sl 2 0) f0)); iexact H0
    · iexists f1; iapply (entails_of_eq (slotPCT_eq c (Ring.sl 2 1) f1)); iexact H1
  · iexact Hc

theorem blkSetDU (b : Fin 16) : (blkDU b : Memref sig .tc .hbm _ _).view.set = (Rect.unit (s := S8192x4096) (blkOffDU b) S512x4096.size (blkInbDU b)).set := View.set_slice_whole _ _
theorem memBlkDU (b : Fin 16) (y : S8192x4096.Idx) : y ∈ (Rect.unit (s := S8192x4096) (blkOffDU b) S512x4096.size (blkInbDU b)).set ↔ (y 0).val / 512 = b.val := by
  rw [Rect.mem_set_unit]
  have h1 : (y 1).val < 4096 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 4096; omega
/-- The array whole is its blocks. -/
theorem arrDU (c : Dev nD) (X : Buf (Elt F) ((Memref.whole main_arg0 : Memref sig .tc .hbm _ _).view.loc (c : Thread nD τ))) :
    ((c : Thread nD τ).loc main_arg0 ↦{fullShare} X : sProp 𝕄) = bigSep Finset.univ (homeDU c X) := by
  rw [Ring.pointsTo_blocks (ℓ := (c : Thread nD τ).loc main_arg0) (fun b : Fin 16 => (Rect.unit (s := S8192x4096) (blkOffDU b) S512x4096.size (blkInbDU b)).set)
    (by intro b b' hne; rw [Finset.disjoint_left]; intro y hy hy'; exact hne (Fin.ext (((memBlkDU b y).mp hy).symm.trans ((memBlkDU b' y).mp hy'))))
    (by
      ext y; simp only [Finset.mem_biUnion, Finset.mem_univ, true_and, iff_true]
      have h0 : (y 0).val < 8192 := (y 0).isLt
      exact ⟨⟨(y 0).val / 512, by omega⟩, (memBlkDU _ y).mpr rfl⟩)]
  exact bigSep_congr fun b _ => by rw [← blkSetDU]; rfl
abbrev S2DU (s : Fin 2) : Finset (S2x512x4096).Idx := (Rect.unit (s := S2x512x4096) (slotOff s) S1x512x4096.size (slotInbDU s)).set
theorem slotSetDU (s : Fin 2) : (slotDU s : Memref sig .tc .vmem _ _).view.set = S2DU s := (View.set_reshape _ _).trans (View.set_slice_whole _ _)
theorem memSlotDU (s : Fin 2) (y : S2x512x4096.Idx) : y ∈ S2DU s ↔ (y 0).val = s.val := by
  rw [Rect.mem_set_unit]
  have h1 : (y 1).val < 512 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 4096; omega
theorem disjDU : ∀ s s' : Fin 2, s ≠ s' → Disjoint (S2DU s) (S2DU s') := by
  intro s s' hne; rw [Finset.disjoint_left]; intro y hy hy'; exact hne (Fin.ext (((memSlotDU s y).mp hy).symm.trans ((memSlotDU s' y).mp hy')))
theorem coverDU : (Finset.univ : Finset (Fin 2)).biUnion S2DU = Finset.univ := by
  ext y; simp only [Finset.mem_biUnion, Finset.mem_univ, true_and, iff_true]
  have h0 : (y 0).val < 2 := (y 0).isLt
  exact ⟨⟨(y 0).val, h0⟩, (memSlotDU _ y).mpr rfl⟩
theorem slotPDU_eq (c : Dev nD) (s : Fin 2) (f) : slotPDU c s f = (((c : Thread nD τ).loc cc0_scoped22) ↦[S2DU s]{fullShare} f : sProp 𝕄) :=
  congrArg (fun S => (_ ↦[S]{fullShare} f : sProp 𝕄)) (slotSetDU s)
/-- The buffer whole is its two slots, and back. -/
theorem splitDU (c : Dev nD) :
    iprop((∃ f : Buf (Elt F) ((c : Thread nD τ).loc cc0_scoped22), ((c : Thread nD τ).loc cc0_scoped22) ↦{fullShare} f) ∗ cellDU (F := F) c (Ring.sl 2 0) ∗ cellDU (F := F) c (Ring.sl 2 1)) ⊢ freeDU (F := F) c := by
  unfold freeDU
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped22) S2DU disjDU coverDU f).trans (sep_fin2 _))) $$ H
  icases H2 with ⟨H0, H1⟩
  isplitl [H0]
  · iexists f; iapply (entails_of_eq (slotPDU_eq c (Ring.sl 2 0) f).symm); iexact H0
  isplitl [H1]
  · iexists f; iapply (entails_of_eq (slotPDU_eq c (Ring.sl 2 1) f).symm); iexact H1
  · iexact Hc
theorem joinDU (c : Dev nD) :
    freeDU (F := F) c ⊢ iprop((∃ f : Buf (Elt F) ((c : Thread nD τ).loc cc0_scoped22), ((c : Thread nD τ).loc cc0_scoped22) ↦{fullShare} f) ∗ cellDU (F := F) c (Ring.sl 2 0) ∗ cellDU (F := F) c (Ring.sl 2 1)) := by
  unfold freeDU
  iintro ⟨⟨%f0, H0⟩, ⟨%f1, H1⟩, Hc⟩
  isplitl [H0 H1]
  · iapply (Ring.pointsTo_blocks_join_exists (ℓ := (c : Thread nD τ).loc cc0_scoped22) S2DU disjDU coverDU f0)
    irw [sep_fin2]
    isplitl [H0]
    · iexists f0; iapply (entails_of_eq (slotPDU_eq c (Ring.sl 2 0) f0)); iexact H0
    · iexists f1; iapply (entails_of_eq (slotPDU_eq c (Ring.sl 2 1) f1)); iexact H1
  · iexact Hc

theorem blkSetDN (b : Fin 16) : (blkDN b : Memref sig .tc .hbm _ _).view.set = (Rect.unit (s := S8192x64) (blkOffDN b) S512x64.size (blkInbDN b)).set := View.set_slice_whole _ _
theorem memBlkDN (b : Fin 16) (y : S8192x64.Idx) : y ∈ (Rect.unit (s := S8192x64) (blkOffDN b) S512x64.size (blkInbDN b)).set ↔ (y 0).val / 512 = b.val := by
  rw [Rect.mem_set_unit]
  have h1 : (y 1).val < 64 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 64; omega
/-- The array whole is its blocks. -/
theorem arrDN (c : Dev nD) (X : Buf (Elt F) ((Memref.whole main_arg4 : Memref sig .tc .hbm _ _).view.loc (c : Thread nD τ))) :
    ((c : Thread nD τ).loc main_arg4 ↦{fullShare} X : sProp 𝕄) = bigSep Finset.univ (homeDN c X) := by
  rw [Ring.pointsTo_blocks (ℓ := (c : Thread nD τ).loc main_arg4) (fun b : Fin 16 => (Rect.unit (s := S8192x64) (blkOffDN b) S512x64.size (blkInbDN b)).set)
    (by intro b b' hne; rw [Finset.disjoint_left]; intro y hy hy'; exact hne (Fin.ext (((memBlkDN b y).mp hy).symm.trans ((memBlkDN b' y).mp hy'))))
    (by
      ext y; simp only [Finset.mem_biUnion, Finset.mem_univ, true_and, iff_true]
      have h0 : (y 0).val < 8192 := (y 0).isLt
      exact ⟨⟨(y 0).val / 512, by omega⟩, (memBlkDN _ y).mpr rfl⟩)]
  exact bigSep_congr fun b _ => by rw [← blkSetDN]; rfl
abbrev S2DN (s : Fin 2) : Finset (S2x512x64).Idx := (Rect.unit (s := S2x512x64) (slotOff s) S1x512x64.size (slotInbDN s)).set
theorem slotSetDN (s : Fin 2) : (slotDN s : Memref sig .tc .vmem _ _).view.set = S2DN s := (View.set_reshape _ _).trans (View.set_slice_whole _ _)
theorem memSlotDN (s : Fin 2) (y : S2x512x64.Idx) : y ∈ S2DN s ↔ (y 0).val = s.val := by
  rw [Rect.mem_set_unit]
  have h1 : (y 1).val < 512 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 64; omega
theorem disjDN : ∀ s s' : Fin 2, s ≠ s' → Disjoint (S2DN s) (S2DN s') := by
  intro s s' hne; rw [Finset.disjoint_left]; intro y hy hy'; exact hne (Fin.ext (((memSlotDN s y).mp hy).symm.trans ((memSlotDN s' y).mp hy')))
theorem coverDN : (Finset.univ : Finset (Fin 2)).biUnion S2DN = Finset.univ := by
  ext y; simp only [Finset.mem_biUnion, Finset.mem_univ, true_and, iff_true]
  have h0 : (y 0).val < 2 := (y 0).isLt
  exact ⟨⟨(y 0).val, h0⟩, (memSlotDN _ y).mpr rfl⟩
theorem slotPDN_eq (c : Dev nD) (s : Fin 2) (f) : slotPDN c s f = (((c : Thread nD τ).loc cc0_scoped24) ↦[S2DN s]{fullShare} f : sProp 𝕄) :=
  congrArg (fun S => (_ ↦[S]{fullShare} f : sProp 𝕄)) (slotSetDN s)
/-- The buffer whole is its two slots, and back. -/
theorem splitDN (c : Dev nD) :
    iprop((∃ f : Buf (Elt F) ((c : Thread nD τ).loc cc0_scoped24), ((c : Thread nD τ).loc cc0_scoped24) ↦{fullShare} f) ∗ cellDN (F := F) c (Ring.sl 2 0) ∗ cellDN (F := F) c (Ring.sl 2 1)) ⊢ freeDN (F := F) c := by
  unfold freeDN
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped24) S2DN disjDN coverDN f).trans (sep_fin2 _))) $$ H
  icases H2 with ⟨H0, H1⟩
  isplitl [H0]
  · iexists f; iapply (entails_of_eq (slotPDN_eq c (Ring.sl 2 0) f).symm); iexact H0
  isplitl [H1]
  · iexists f; iapply (entails_of_eq (slotPDN_eq c (Ring.sl 2 1) f).symm); iexact H1
  · iexact Hc
theorem joinDN (c : Dev nD) :
    freeDN (F := F) c ⊢ iprop((∃ f : Buf (Elt F) ((c : Thread nD τ).loc cc0_scoped24), ((c : Thread nD τ).loc cc0_scoped24) ↦{fullShare} f) ∗ cellDN (F := F) c (Ring.sl 2 0) ∗ cellDN (F := F) c (Ring.sl 2 1)) := by
  unfold freeDN
  iintro ⟨⟨%f0, H0⟩, ⟨%f1, H1⟩, Hc⟩
  isplitl [H0 H1]
  · iapply (Ring.pointsTo_blocks_join_exists (ℓ := (c : Thread nD τ).loc cc0_scoped24) S2DN disjDN coverDN f0)
    irw [sep_fin2]
    isplitl [H0]
    · iexists f0; iapply (entails_of_eq (slotPDN_eq c (Ring.sl 2 0) f0)); iexact H0
    · iexists f1; iapply (entails_of_eq (slotPDN_eq c (Ring.sl 2 1) f1)); iexact H1
  · iexact Hc

theorem blkSetDI (b : Fin 16) : (blkDI b : Memref sig .tc .hbm _ _).view.set = (Rect.unit (s := S8192x64) (blkOffDI b) S512x64.size (blkInbDI b)).set := View.set_slice_whole _ _
theorem memBlkDI (b : Fin 16) (y : S8192x64.Idx) : y ∈ (Rect.unit (s := S8192x64) (blkOffDI b) S512x64.size (blkInbDI b)).set ↔ (y 0).val / 512 = b.val := by
  rw [Rect.mem_set_unit]
  have h1 : (y 1).val < 64 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 64; omega
/-- The array whole is its blocks. -/
theorem arrDI (c : Dev nD) (X : Buf (Elt F) ((Memref.whole main_v22_0 : Memref sig .tc .hbm _ _).view.loc (c : Thread nD τ))) :
    ((c : Thread nD τ).loc main_v22_0 ↦{fullShare} X : sProp 𝕄) = bigSep Finset.univ (homeDI c X) := by
  rw [Ring.pointsTo_blocks (ℓ := (c : Thread nD τ).loc main_v22_0) (fun b : Fin 16 => (Rect.unit (s := S8192x64) (blkOffDI b) S512x64.size (blkInbDI b)).set)
    (by intro b b' hne; rw [Finset.disjoint_left]; intro y hy hy'; exact hne (Fin.ext (((memBlkDI b y).mp hy).symm.trans ((memBlkDI b' y).mp hy'))))
    (by
      ext y; simp only [Finset.mem_biUnion, Finset.mem_univ, true_and, iff_true]
      have h0 : (y 0).val < 8192 := (y 0).isLt
      exact ⟨⟨(y 0).val / 512, by omega⟩, (memBlkDI _ y).mpr rfl⟩)]
  exact bigSep_congr fun b _ => by rw [← blkSetDI]; rfl
abbrev S2DI (s : Fin 2) : Finset (S2x512x64).Idx := (Rect.unit (s := S2x512x64) (slotOff s) S1x512x64.size (slotInbDI s)).set
theorem slotSetDI (s : Fin 2) : (slotDI s : Memref sig .tc .vmem _ _).view.set = S2DI s := (View.set_reshape _ _).trans (View.set_slice_whole _ _)
theorem memSlotDI (s : Fin 2) (y : S2x512x64.Idx) : y ∈ S2DI s ↔ (y 0).val = s.val := by
  rw [Rect.mem_set_unit]
  have h1 : (y 1).val < 512 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 64; omega
theorem disjDI : ∀ s s' : Fin 2, s ≠ s' → Disjoint (S2DI s) (S2DI s') := by
  intro s s' hne; rw [Finset.disjoint_left]; intro y hy hy'; exact hne (Fin.ext (((memSlotDI s y).mp hy).symm.trans ((memSlotDI s' y).mp hy')))
theorem coverDI : (Finset.univ : Finset (Fin 2)).biUnion S2DI = Finset.univ := by
  ext y; simp only [Finset.mem_biUnion, Finset.mem_univ, true_and, iff_true]
  have h0 : (y 0).val < 2 := (y 0).isLt
  exact ⟨⟨(y 0).val, h0⟩, (memSlotDI _ y).mpr rfl⟩
theorem slotPDI_eq (c : Dev nD) (s : Fin 2) (f) : slotPDI c s f = (((c : Thread nD τ).loc cc0_scoped26) ↦[S2DI s]{fullShare} f : sProp 𝕄) :=
  congrArg (fun S => (_ ↦[S]{fullShare} f : sProp 𝕄)) (slotSetDI s)
/-- The buffer whole is its two slots, and back. -/
theorem splitDI (c : Dev nD) :
    iprop((∃ f : Buf (Elt F) ((c : Thread nD τ).loc cc0_scoped26), ((c : Thread nD τ).loc cc0_scoped26) ↦{fullShare} f) ∗ cellDI (F := F) c (Ring.sl 2 0) ∗ cellDI (F := F) c (Ring.sl 2 1)) ⊢ freeDI (F := F) c := by
  unfold freeDI
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped26) S2DI disjDI coverDI f).trans (sep_fin2 _))) $$ H
  icases H2 with ⟨H0, H1⟩
  isplitl [H0]
  · iexists f; iapply (entails_of_eq (slotPDI_eq c (Ring.sl 2 0) f).symm); iexact H0
  isplitl [H1]
  · iexists f; iapply (entails_of_eq (slotPDI_eq c (Ring.sl 2 1) f).symm); iexact H1
  · iexact Hc
theorem joinDI (c : Dev nD) :
    freeDI (F := F) c ⊢ iprop((∃ f : Buf (Elt F) ((c : Thread nD τ).loc cc0_scoped26), ((c : Thread nD τ).loc cc0_scoped26) ↦{fullShare} f) ∗ cellDI (F := F) c (Ring.sl 2 0) ∗ cellDI (F := F) c (Ring.sl 2 1)) := by
  unfold freeDI
  iintro ⟨⟨%f0, H0⟩, ⟨%f1, H1⟩, Hc⟩
  isplitl [H0 H1]
  · iapply (Ring.pointsTo_blocks_join_exists (ℓ := (c : Thread nD τ).loc cc0_scoped26) S2DI disjDI coverDI f0)
    irw [sep_fin2]
    isplitl [H0]
    · iexists f0; iapply (entails_of_eq (slotPDI_eq c (Ring.sl 2 0) f0)); iexact H0
    · iexists f1; iapply (entails_of_eq (slotPDI_eq c (Ring.sl 2 1) f1)); iexact H1
  · iexact Hc

theorem blkSetDT (b : Fin 16) : (blkDT b : Memref sig .tc .hbm _ _).view.set = (Rect.unit (s := S8192x64) (blkOffDT b) S512x64.size (blkInbDT b)).set := View.set_slice_whole _ _
theorem memBlkDT (b : Fin 16) (y : S8192x64.Idx) : y ∈ (Rect.unit (s := S8192x64) (blkOffDT b) S512x64.size (blkInbDT b)).set ↔ (y 0).val / 512 = b.val := by
  rw [Rect.mem_set_unit]
  have h1 : (y 1).val < 64 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 64; omega
/-- The array whole is its blocks. -/
theorem arrDT (c : Dev nD) (X : Buf (Elt F) ((Memref.whole main_v22_6 : Memref sig .tc .hbm _ _).view.loc (c : Thread nD τ))) :
    ((c : Thread nD τ).loc main_v22_6 ↦{fullShare} X : sProp 𝕄) = bigSep Finset.univ (homeDT c X) := by
  rw [Ring.pointsTo_blocks (ℓ := (c : Thread nD τ).loc main_v22_6) (fun b : Fin 16 => (Rect.unit (s := S8192x64) (blkOffDT b) S512x64.size (blkInbDT b)).set)
    (by intro b b' hne; rw [Finset.disjoint_left]; intro y hy hy'; exact hne (Fin.ext (((memBlkDT b y).mp hy).symm.trans ((memBlkDT b' y).mp hy'))))
    (by
      ext y; simp only [Finset.mem_biUnion, Finset.mem_univ, true_and, iff_true]
      have h0 : (y 0).val < 8192 := (y 0).isLt
      exact ⟨⟨(y 0).val / 512, by omega⟩, (memBlkDT _ y).mpr rfl⟩)]
  exact bigSep_congr fun b _ => by rw [← blkSetDT]; rfl
abbrev S2DT (s : Fin 2) : Finset (S2x512x64).Idx := (Rect.unit (s := S2x512x64) (slotOff s) S1x512x64.size (slotInbDT s)).set
theorem slotSetDT (s : Fin 2) : (slotDT s : Memref sig .tc .vmem _ _).view.set = S2DT s := (View.set_reshape _ _).trans (View.set_slice_whole _ _)
theorem memSlotDT (s : Fin 2) (y : S2x512x64.Idx) : y ∈ S2DT s ↔ (y 0).val = s.val := by
  rw [Rect.mem_set_unit]
  have h1 : (y 1).val < 512 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 64; omega
theorem disjDT : ∀ s s' : Fin 2, s ≠ s' → Disjoint (S2DT s) (S2DT s') := by
  intro s s' hne; rw [Finset.disjoint_left]; intro y hy hy'; exact hne (Fin.ext (((memSlotDT s y).mp hy).symm.trans ((memSlotDT s' y).mp hy')))
theorem coverDT : (Finset.univ : Finset (Fin 2)).biUnion S2DT = Finset.univ := by
  ext y; simp only [Finset.mem_biUnion, Finset.mem_univ, true_and, iff_true]
  have h0 : (y 0).val < 2 := (y 0).isLt
  exact ⟨⟨(y 0).val, h0⟩, (memSlotDT _ y).mpr rfl⟩
theorem slotPDT_eq (c : Dev nD) (s : Fin 2) (f) : slotPDT c s f = (((c : Thread nD τ).loc cc0_scoped28) ↦[S2DT s]{fullShare} f : sProp 𝕄) :=
  congrArg (fun S => (_ ↦[S]{fullShare} f : sProp 𝕄)) (slotSetDT s)
/-- The buffer whole is its two slots, and back. -/
theorem splitDT (c : Dev nD) :
    iprop((∃ f : Buf (Elt F) ((c : Thread nD τ).loc cc0_scoped28), ((c : Thread nD τ).loc cc0_scoped28) ↦{fullShare} f) ∗ cellDT (F := F) c (Ring.sl 2 0) ∗ cellDT (F := F) c (Ring.sl 2 1)) ⊢ freeDT (F := F) c := by
  unfold freeDT
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped28) S2DT disjDT coverDT f).trans (sep_fin2 _))) $$ H
  icases H2 with ⟨H0, H1⟩
  isplitl [H0]
  · iexists f; iapply (entails_of_eq (slotPDT_eq c (Ring.sl 2 0) f).symm); iexact H0
  isplitl [H1]
  · iexists f; iapply (entails_of_eq (slotPDT_eq c (Ring.sl 2 1) f).symm); iexact H1
  · iexact Hc
theorem joinDT (c : Dev nD) :
    freeDT (F := F) c ⊢ iprop((∃ f : Buf (Elt F) ((c : Thread nD τ).loc cc0_scoped28), ((c : Thread nD τ).loc cc0_scoped28) ↦{fullShare} f) ∗ cellDT (F := F) c (Ring.sl 2 0) ∗ cellDT (F := F) c (Ring.sl 2 1)) := by
  unfold freeDT
  iintro ⟨⟨%f0, H0⟩, ⟨%f1, H1⟩, Hc⟩
  isplitl [H0 H1]
  · iapply (Ring.pointsTo_blocks_join_exists (ℓ := (c : Thread nD τ).loc cc0_scoped28) S2DT disjDT coverDT f0)
    irw [sep_fin2]
    isplitl [H0]
    · iexists f0; iapply (entails_of_eq (slotPDT_eq c (Ring.sl 2 0) f0)); iexact H0
    · iexists f1; iapply (entails_of_eq (slotPDT_eq c (Ring.sl 2 1) f1)); iexact H1
  · iexact Hc

theorem blkSetEU (b : Fin 16) : (blkEU b : Memref sig .tc .hbm _ _).view.set = (Rect.unit (s := S4096x8192) (blkOffEU b) S256x8192.size (blkInbEU b)).set := View.set_slice_whole _ _
theorem memBlkEU (b : Fin 16) (y : S4096x8192.Idx) : y ∈ (Rect.unit (s := S4096x8192) (blkOffEU b) S256x8192.size (blkInbEU b)).set ↔ (y 0).val / 256 = b.val := by
  rw [Rect.mem_set_unit]
  have h1 : (y 1).val < 8192 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 8192; omega
/-- The array whole is its blocks. -/
theorem arrEU (c : Dev nD) (X : Buf (Elt F) ((Memref.whole main_arg1 : Memref sig .tc .hbm _ _).view.loc (c : Thread nD τ))) :
    ((c : Thread nD τ).loc main_arg1 ↦{fullShare} X : sProp 𝕄) = bigSep Finset.univ (homeEU c X) := by
  rw [Ring.pointsTo_blocks (ℓ := (c : Thread nD τ).loc main_arg1) (fun b : Fin 16 => (Rect.unit (s := S4096x8192) (blkOffEU b) S256x8192.size (blkInbEU b)).set)
    (by intro b b' hne; rw [Finset.disjoint_left]; intro y hy hy'; exact hne (Fin.ext (((memBlkEU b y).mp hy).symm.trans ((memBlkEU b' y).mp hy'))))
    (by
      ext y; simp only [Finset.mem_biUnion, Finset.mem_univ, true_and, iff_true]
      have h0 : (y 0).val < 4096 := (y 0).isLt
      exact ⟨⟨(y 0).val / 256, by omega⟩, (memBlkEU _ y).mpr rfl⟩)]
  exact bigSep_congr fun b _ => by rw [← blkSetEU]; rfl
abbrev S2EU (s : Fin 2) : Finset (S2x256x8192).Idx := (Rect.unit (s := S2x256x8192) (slotOff s) S1x256x8192.size (slotInbEU s)).set
theorem slotSetEU (s : Fin 2) : (slotEU s : Memref sig .tc .vmem _ _).view.set = S2EU s := (View.set_reshape _ _).trans (View.set_slice_whole _ _)
theorem memSlotEU (s : Fin 2) (y : S2x256x8192.Idx) : y ∈ S2EU s ↔ (y 0).val = s.val := by
  rw [Rect.mem_set_unit]
  have h1 : (y 1).val < 256 := (y 1).isLt
  have h2 : (y 2).val < 8192 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 8192; omega
theorem disjEU : ∀ s s' : Fin 2, s ≠ s' → Disjoint (S2EU s) (S2EU s') := by
  intro s s' hne; rw [Finset.disjoint_left]; intro y hy hy'; exact hne (Fin.ext (((memSlotEU s y).mp hy).symm.trans ((memSlotEU s' y).mp hy')))
theorem coverEU : (Finset.univ : Finset (Fin 2)).biUnion S2EU = Finset.univ := by
  ext y; simp only [Finset.mem_biUnion, Finset.mem_univ, true_and, iff_true]
  have h0 : (y 0).val < 2 := (y 0).isLt
  exact ⟨⟨(y 0).val, h0⟩, (memSlotEU _ y).mpr rfl⟩
theorem slotPEU_eq (c : Dev nD) (s : Fin 2) (f) : slotPEU c s f = (((c : Thread nD τ).loc cc0_scoped30) ↦[S2EU s]{fullShare} f : sProp 𝕄) :=
  congrArg (fun S => (_ ↦[S]{fullShare} f : sProp 𝕄)) (slotSetEU s)
/-- The buffer whole is its two slots, and back. -/
theorem splitEU (c : Dev nD) :
    iprop((∃ f : Buf (Elt F) ((c : Thread nD τ).loc cc0_scoped30), ((c : Thread nD τ).loc cc0_scoped30) ↦{fullShare} f) ∗ cellEU (F := F) c (Ring.sl 2 0) ∗ cellEU (F := F) c (Ring.sl 2 1)) ⊢ freeEU (F := F) c := by
  unfold freeEU
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped30) S2EU disjEU coverEU f).trans (sep_fin2 _))) $$ H
  icases H2 with ⟨H0, H1⟩
  isplitl [H0]
  · iexists f; iapply (entails_of_eq (slotPEU_eq c (Ring.sl 2 0) f).symm); iexact H0
  isplitl [H1]
  · iexists f; iapply (entails_of_eq (slotPEU_eq c (Ring.sl 2 1) f).symm); iexact H1
  · iexact Hc
theorem joinEU (c : Dev nD) :
    freeEU (F := F) c ⊢ iprop((∃ f : Buf (Elt F) ((c : Thread nD τ).loc cc0_scoped30), ((c : Thread nD τ).loc cc0_scoped30) ↦{fullShare} f) ∗ cellEU (F := F) c (Ring.sl 2 0) ∗ cellEU (F := F) c (Ring.sl 2 1)) := by
  unfold freeEU
  iintro ⟨⟨%f0, H0⟩, ⟨%f1, H1⟩, Hc⟩
  isplitl [H0 H1]
  · iapply (Ring.pointsTo_blocks_join_exists (ℓ := (c : Thread nD τ).loc cc0_scoped30) S2EU disjEU coverEU f0)
    irw [sep_fin2]
    isplitl [H0]
    · iexists f0; iapply (entails_of_eq (slotPEU_eq c (Ring.sl 2 0) f0)); iexact H0
    · iexists f1; iapply (entails_of_eq (slotPEU_eq c (Ring.sl 2 1) f1)); iexact H1
  · iexact Hc

theorem blkSetEN (b : Fin 16) : (blkEN b : Memref sig .tc .hbm _ _).view.set = (Rect.unit (s := S4096x64) (blkOffEN b) S256x64.size (blkInbEN b)).set := View.set_slice_whole _ _
theorem memBlkEN (b : Fin 16) (y : S4096x64.Idx) : y ∈ (Rect.unit (s := S4096x64) (blkOffEN b) S256x64.size (blkInbEN b)).set ↔ (y 0).val / 256 = b.val := by
  rw [Rect.mem_set_unit]
  have h1 : (y 1).val < 64 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 64; omega
/-- The array whole is its blocks. -/
theorem arrEN (c : Dev nD) (X : Buf (Elt F) ((Memref.whole main_arg5 : Memref sig .tc .hbm _ _).view.loc (c : Thread nD τ))) :
    ((c : Thread nD τ).loc main_arg5 ↦{fullShare} X : sProp 𝕄) = bigSep Finset.univ (homeEN c X) := by
  rw [Ring.pointsTo_blocks (ℓ := (c : Thread nD τ).loc main_arg5) (fun b : Fin 16 => (Rect.unit (s := S4096x64) (blkOffEN b) S256x64.size (blkInbEN b)).set)
    (by intro b b' hne; rw [Finset.disjoint_left]; intro y hy hy'; exact hne (Fin.ext (((memBlkEN b y).mp hy).symm.trans ((memBlkEN b' y).mp hy'))))
    (by
      ext y; simp only [Finset.mem_biUnion, Finset.mem_univ, true_and, iff_true]
      have h0 : (y 0).val < 4096 := (y 0).isLt
      exact ⟨⟨(y 0).val / 256, by omega⟩, (memBlkEN _ y).mpr rfl⟩)]
  exact bigSep_congr fun b _ => by rw [← blkSetEN]; rfl
abbrev S2EN (s : Fin 2) : Finset (S2x256x64).Idx := (Rect.unit (s := S2x256x64) (slotOff s) S1x256x64.size (slotInbEN s)).set
theorem slotSetEN (s : Fin 2) : (slotEN s : Memref sig .tc .vmem _ _).view.set = S2EN s := (View.set_reshape _ _).trans (View.set_slice_whole _ _)
theorem memSlotEN (s : Fin 2) (y : S2x256x64.Idx) : y ∈ S2EN s ↔ (y 0).val = s.val := by
  rw [Rect.mem_set_unit]
  have h1 : (y 1).val < 256 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 64; omega
theorem disjEN : ∀ s s' : Fin 2, s ≠ s' → Disjoint (S2EN s) (S2EN s') := by
  intro s s' hne; rw [Finset.disjoint_left]; intro y hy hy'; exact hne (Fin.ext (((memSlotEN s y).mp hy).symm.trans ((memSlotEN s' y).mp hy')))
theorem coverEN : (Finset.univ : Finset (Fin 2)).biUnion S2EN = Finset.univ := by
  ext y; simp only [Finset.mem_biUnion, Finset.mem_univ, true_and, iff_true]
  have h0 : (y 0).val < 2 := (y 0).isLt
  exact ⟨⟨(y 0).val, h0⟩, (memSlotEN _ y).mpr rfl⟩
theorem slotPEN_eq (c : Dev nD) (s : Fin 2) (f) : slotPEN c s f = (((c : Thread nD τ).loc cc0_scoped32) ↦[S2EN s]{fullShare} f : sProp 𝕄) :=
  congrArg (fun S => (_ ↦[S]{fullShare} f : sProp 𝕄)) (slotSetEN s)
/-- The buffer whole is its two slots, and back. -/
theorem splitEN (c : Dev nD) :
    iprop((∃ f : Buf (Elt F) ((c : Thread nD τ).loc cc0_scoped32), ((c : Thread nD τ).loc cc0_scoped32) ↦{fullShare} f) ∗ cellEN (F := F) c (Ring.sl 2 0) ∗ cellEN (F := F) c (Ring.sl 2 1)) ⊢ freeEN (F := F) c := by
  unfold freeEN
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped32) S2EN disjEN coverEN f).trans (sep_fin2 _))) $$ H
  icases H2 with ⟨H0, H1⟩
  isplitl [H0]
  · iexists f; iapply (entails_of_eq (slotPEN_eq c (Ring.sl 2 0) f).symm); iexact H0
  isplitl [H1]
  · iexists f; iapply (entails_of_eq (slotPEN_eq c (Ring.sl 2 1) f).symm); iexact H1
  · iexact Hc
theorem joinEN (c : Dev nD) :
    freeEN (F := F) c ⊢ iprop((∃ f : Buf (Elt F) ((c : Thread nD τ).loc cc0_scoped32), ((c : Thread nD τ).loc cc0_scoped32) ↦{fullShare} f) ∗ cellEN (F := F) c (Ring.sl 2 0) ∗ cellEN (F := F) c (Ring.sl 2 1)) := by
  unfold freeEN
  iintro ⟨⟨%f0, H0⟩, ⟨%f1, H1⟩, Hc⟩
  isplitl [H0 H1]
  · iapply (Ring.pointsTo_blocks_join_exists (ℓ := (c : Thread nD τ).loc cc0_scoped32) S2EN disjEN coverEN f0)
    irw [sep_fin2]
    isplitl [H0]
    · iexists f0; iapply (entails_of_eq (slotPEN_eq c (Ring.sl 2 0) f0)); iexact H0
    · iexists f1; iapply (entails_of_eq (slotPEN_eq c (Ring.sl 2 1) f1)); iexact H1
  · iexact Hc

theorem blkSetEI (b : Fin 16) : (blkEI b : Memref sig .tc .hbm _ _).view.set = (Rect.unit (s := S4096x64) (blkOffEI b) S256x64.size (blkInbEI b)).set := View.set_slice_whole _ _
theorem memBlkEI (b : Fin 16) (y : S4096x64.Idx) : y ∈ (Rect.unit (s := S4096x64) (blkOffEI b) S256x64.size (blkInbEI b)).set ↔ (y 0).val / 256 = b.val := by
  rw [Rect.mem_set_unit]
  have h1 : (y 1).val < 64 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 64; omega
/-- The array whole is its blocks. -/
theorem arrEI (c : Dev nD) (X : Buf (Elt F) ((Memref.whole main_v22_1 : Memref sig .tc .hbm _ _).view.loc (c : Thread nD τ))) :
    ((c : Thread nD τ).loc main_v22_1 ↦{fullShare} X : sProp 𝕄) = bigSep Finset.univ (homeEI c X) := by
  rw [Ring.pointsTo_blocks (ℓ := (c : Thread nD τ).loc main_v22_1) (fun b : Fin 16 => (Rect.unit (s := S4096x64) (blkOffEI b) S256x64.size (blkInbEI b)).set)
    (by intro b b' hne; rw [Finset.disjoint_left]; intro y hy hy'; exact hne (Fin.ext (((memBlkEI b y).mp hy).symm.trans ((memBlkEI b' y).mp hy'))))
    (by
      ext y; simp only [Finset.mem_biUnion, Finset.mem_univ, true_and, iff_true]
      have h0 : (y 0).val < 4096 := (y 0).isLt
      exact ⟨⟨(y 0).val / 256, by omega⟩, (memBlkEI _ y).mpr rfl⟩)]
  exact bigSep_congr fun b _ => by rw [← blkSetEI]; rfl
abbrev S2EI (s : Fin 2) : Finset (S2x256x64).Idx := (Rect.unit (s := S2x256x64) (slotOff s) S1x256x64.size (slotInbEI s)).set
theorem slotSetEI (s : Fin 2) : (slotEI s : Memref sig .tc .vmem _ _).view.set = S2EI s := (View.set_reshape _ _).trans (View.set_slice_whole _ _)
theorem memSlotEI (s : Fin 2) (y : S2x256x64.Idx) : y ∈ S2EI s ↔ (y 0).val = s.val := by
  rw [Rect.mem_set_unit]
  have h1 : (y 1).val < 256 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 64; omega
theorem disjEI : ∀ s s' : Fin 2, s ≠ s' → Disjoint (S2EI s) (S2EI s') := by
  intro s s' hne; rw [Finset.disjoint_left]; intro y hy hy'; exact hne (Fin.ext (((memSlotEI s y).mp hy).symm.trans ((memSlotEI s' y).mp hy')))
theorem coverEI : (Finset.univ : Finset (Fin 2)).biUnion S2EI = Finset.univ := by
  ext y; simp only [Finset.mem_biUnion, Finset.mem_univ, true_and, iff_true]
  have h0 : (y 0).val < 2 := (y 0).isLt
  exact ⟨⟨(y 0).val, h0⟩, (memSlotEI _ y).mpr rfl⟩
theorem slotPEI_eq (c : Dev nD) (s : Fin 2) (f) : slotPEI c s f = (((c : Thread nD τ).loc cc0_scoped34) ↦[S2EI s]{fullShare} f : sProp 𝕄) :=
  congrArg (fun S => (_ ↦[S]{fullShare} f : sProp 𝕄)) (slotSetEI s)
/-- The buffer whole is its two slots, and back. -/
theorem splitEI (c : Dev nD) :
    iprop((∃ f : Buf (Elt F) ((c : Thread nD τ).loc cc0_scoped34), ((c : Thread nD τ).loc cc0_scoped34) ↦{fullShare} f) ∗ cellEI (F := F) c (Ring.sl 2 0) ∗ cellEI (F := F) c (Ring.sl 2 1)) ⊢ freeEI (F := F) c := by
  unfold freeEI
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped34) S2EI disjEI coverEI f).trans (sep_fin2 _))) $$ H
  icases H2 with ⟨H0, H1⟩
  isplitl [H0]
  · iexists f; iapply (entails_of_eq (slotPEI_eq c (Ring.sl 2 0) f).symm); iexact H0
  isplitl [H1]
  · iexists f; iapply (entails_of_eq (slotPEI_eq c (Ring.sl 2 1) f).symm); iexact H1
  · iexact Hc
theorem joinEI (c : Dev nD) :
    freeEI (F := F) c ⊢ iprop((∃ f : Buf (Elt F) ((c : Thread nD τ).loc cc0_scoped34), ((c : Thread nD τ).loc cc0_scoped34) ↦{fullShare} f) ∗ cellEI (F := F) c (Ring.sl 2 0) ∗ cellEI (F := F) c (Ring.sl 2 1)) := by
  unfold freeEI
  iintro ⟨⟨%f0, H0⟩, ⟨%f1, H1⟩, Hc⟩
  isplitl [H0 H1]
  · iapply (Ring.pointsTo_blocks_join_exists (ℓ := (c : Thread nD τ).loc cc0_scoped34) S2EI disjEI coverEI f0)
    irw [sep_fin2]
    isplitl [H0]
    · iexists f0; iapply (entails_of_eq (slotPEI_eq c (Ring.sl 2 0) f0)); iexact H0
    · iexists f1; iapply (entails_of_eq (slotPEI_eq c (Ring.sl 2 1) f1)); iexact H1
  · iexact Hc

theorem blkSetET (b : Fin 16) : (blkET b : Memref sig .tc .hbm _ _).view.set = (Rect.unit (s := S4096x64) (blkOffET b) S256x64.size (blkInbET b)).set := View.set_slice_whole _ _
theorem memBlkET (b : Fin 16) (y : S4096x64.Idx) : y ∈ (Rect.unit (s := S4096x64) (blkOffET b) S256x64.size (blkInbET b)).set ↔ (y 0).val / 256 = b.val := by
  rw [Rect.mem_set_unit]
  have h1 : (y 1).val < 64 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 64; omega
/-- The array whole is its blocks. -/
theorem arrET (c : Dev nD) (X : Buf (Elt F) ((Memref.whole main_v22_7 : Memref sig .tc .hbm _ _).view.loc (c : Thread nD τ))) :
    ((c : Thread nD τ).loc main_v22_7 ↦{fullShare} X : sProp 𝕄) = bigSep Finset.univ (homeET c X) := by
  rw [Ring.pointsTo_blocks (ℓ := (c : Thread nD τ).loc main_v22_7) (fun b : Fin 16 => (Rect.unit (s := S4096x64) (blkOffET b) S256x64.size (blkInbET b)).set)
    (by intro b b' hne; rw [Finset.disjoint_left]; intro y hy hy'; exact hne (Fin.ext (((memBlkET b y).mp hy).symm.trans ((memBlkET b' y).mp hy'))))
    (by
      ext y; simp only [Finset.mem_biUnion, Finset.mem_univ, true_and, iff_true]
      have h0 : (y 0).val < 4096 := (y 0).isLt
      exact ⟨⟨(y 0).val / 256, by omega⟩, (memBlkET _ y).mpr rfl⟩)]
  exact bigSep_congr fun b _ => by rw [← blkSetET]; rfl
abbrev S2ET (s : Fin 2) : Finset (S2x256x64).Idx := (Rect.unit (s := S2x256x64) (slotOff s) S1x256x64.size (slotInbET s)).set
theorem slotSetET (s : Fin 2) : (slotET s : Memref sig .tc .vmem _ _).view.set = S2ET s := (View.set_reshape _ _).trans (View.set_slice_whole _ _)
theorem memSlotET (s : Fin 2) (y : S2x256x64.Idx) : y ∈ S2ET s ↔ (y 0).val = s.val := by
  rw [Rect.mem_set_unit]
  have h1 : (y 1).val < 256 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 64; omega
theorem disjET : ∀ s s' : Fin 2, s ≠ s' → Disjoint (S2ET s) (S2ET s') := by
  intro s s' hne; rw [Finset.disjoint_left]; intro y hy hy'; exact hne (Fin.ext (((memSlotET s y).mp hy).symm.trans ((memSlotET s' y).mp hy')))
theorem coverET : (Finset.univ : Finset (Fin 2)).biUnion S2ET = Finset.univ := by
  ext y; simp only [Finset.mem_biUnion, Finset.mem_univ, true_and, iff_true]
  have h0 : (y 0).val < 2 := (y 0).isLt
  exact ⟨⟨(y 0).val, h0⟩, (memSlotET _ y).mpr rfl⟩
theorem slotPET_eq (c : Dev nD) (s : Fin 2) (f) : slotPET c s f = (((c : Thread nD τ).loc cc0_scoped36) ↦[S2ET s]{fullShare} f : sProp 𝕄) :=
  congrArg (fun S => (_ ↦[S]{fullShare} f : sProp 𝕄)) (slotSetET s)
/-- The buffer whole is its two slots, and back. -/
theorem splitET (c : Dev nD) :
    iprop((∃ f : Buf (Elt F) ((c : Thread nD τ).loc cc0_scoped36), ((c : Thread nD τ).loc cc0_scoped36) ↦{fullShare} f) ∗ cellET (F := F) c (Ring.sl 2 0) ∗ cellET (F := F) c (Ring.sl 2 1)) ⊢ freeET (F := F) c := by
  unfold freeET
  iintro ⟨⟨%f, H⟩, Hc⟩
  ihave H2 := (entails_of_eq ((Ring.pointsTo_blocks (Ix := Unit) (Name := ℕ) (U := UU nD τ) (Lvl := ℕ) (q := fullShare) (ℓ := (c : Thread nD τ).loc cc0_scoped36) S2ET disjET coverET f).trans (sep_fin2 _))) $$ H
  icases H2 with ⟨H0, H1⟩
  isplitl [H0]
  · iexists f; iapply (entails_of_eq (slotPET_eq c (Ring.sl 2 0) f).symm); iexact H0
  isplitl [H1]
  · iexists f; iapply (entails_of_eq (slotPET_eq c (Ring.sl 2 1) f).symm); iexact H1
  · iexact Hc
theorem joinET (c : Dev nD) :
    freeET (F := F) c ⊢ iprop((∃ f : Buf (Elt F) ((c : Thread nD τ).loc cc0_scoped36), ((c : Thread nD τ).loc cc0_scoped36) ↦{fullShare} f) ∗ cellET (F := F) c (Ring.sl 2 0) ∗ cellET (F := F) c (Ring.sl 2 1)) := by
  unfold freeET
  iintro ⟨⟨%f0, H0⟩, ⟨%f1, H1⟩, Hc⟩
  isplitl [H0 H1]
  · iapply (Ring.pointsTo_blocks_join_exists (ℓ := (c : Thread nD τ).loc cc0_scoped36) S2ET disjET coverET f0)
    irw [sep_fin2]
    isplitl [H0]
    · iexists f0; iapply (entails_of_eq (slotPET_eq c (Ring.sl 2 0) f0)); iexact H0
    · iexists f1; iapply (entails_of_eq (slotPET_eq c (Ring.sl 2 1) f1)); iexact H1
  · iexact Hc

end Cert.Proof.KI

end
-- ==== Proof.KI.Body.lean ====
/-
  The kernel's body: the five pipelines one after the other.
-/
module

public import proofs.«01_k».proof.Proof.KI.Canon

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

variable (c : Dev nD)
  (arg6 : Memref sig .tc .vmem S4096x64 .bf16) (harg6 : arg6.IsWhole) (arg7 : Memref sig .tc .vmem S1x64 .f32) (harg7 : arg7.IsWhole)
  (arg8 : Memref sig .tc .vmem S384x64 .bf16) (harg8 : arg8.IsWhole) (arg9 : Memref sig .tc .vmem S1x64 .f32) (harg9 : arg9.IsWhole)
  (g6 : Buf (Elt F) (arg6.view.loc (c : Thread nD τ))) (g7 : Buf (Elt F) (arg7.view.loc (c : Thread nD τ)))
  (g8 : Buf (Elt F) (arg8.view.loc (c : Thread nD τ))) (g9 : Buf (Elt F) (arg9.view.loc (c : Thread nD τ)))
  (X0 : Buf (Elt F) ((Memref.whole main_arg0 : Memref sig .tc .hbm _ _).view.loc (c : Thread nD τ)))
  (X1 : Buf (Elt F) ((Memref.whole main_arg1 : Memref sig .tc .hbm _ _).view.loc (c : Thread nD τ)))
  (X2 : Buf (Elt F) ((Memref.whole main_arg2 : Memref sig .tc .hbm _ _).view.loc (c : Thread nD τ)))
  (X3 : Buf (Elt F) ((Memref.whole main_arg3 : Memref sig .tc .hbm _ _).view.loc (c : Thread nD τ)))
  (X4 : Buf (Elt F) ((Memref.whole main_arg4 : Memref sig .tc .hbm _ _).view.loc (c : Thread nD τ)))
  (X5 : Buf (Elt F) ((Memref.whole main_arg5 : Memref sig .tc .hbm _ _).view.loc (c : Thread nD τ)))
  (X10 : Buf (Elt F) ((Memref.whole main_v6 : Memref sig .tc .hbm _ _).view.loc (c : Thread nD τ)))
  (X11 : Buf (Elt F) ((Memref.whole main_v13 : Memref sig .tc .hbm _ _).view.loc (c : Thread nD τ)))
  (OBI : Buf (Elt F) ((Memref.whole main_v22_4 : Memref sig .tc .hbm _ _).view.loc (c : Thread nD τ)))
  (OBT : Buf (Elt F) ((Memref.whole main_v22_5 : Memref sig .tc .hbm _ _).view.loc (c : Thread nD τ)))
  (OCI : Buf (Elt F) ((Memref.whole main_v22_2 : Memref sig .tc .hbm _ _).view.loc (c : Thread nD τ)))
  (OCT : Buf (Elt F) ((Memref.whole main_v22_3 : Memref sig .tc .hbm _ _).view.loc (c : Thread nD τ)))
  (ODI : Buf (Elt F) ((Memref.whole main_v22_0 : Memref sig .tc .hbm _ _).view.loc (c : Thread nD τ)))
  (ODT : Buf (Elt F) ((Memref.whole main_v22_6 : Memref sig .tc .hbm _ _).view.loc (c : Thread nD τ)))
  (OEI : Buf (Elt F) ((Memref.whole main_v22_1 : Memref sig .tc .hbm _ _).view.loc (c : Thread nD τ)))
  (OET : Buf (Elt F) ((Memref.whole main_v22_7 : Memref sig .tc .hbm _ _).view.loc (c : Thread nD τ)))
  (V20 : Buf (Elt F) (a20.view.loc (c : Thread nD τ)))
  (V21 : Buf (Elt F) (a21.view.loc (c : Thread nD τ)))
  (V25 : Buf (Elt F) (a25.view.loc (c : Thread nD τ)))
  (V29 : Buf (Elt F) (a29.view.loc (c : Thread nD τ)))

set_option maxHeartbeats 8000000 in
/-- The body's run: every array read is left as it was, every result is at its value. -/
theorem bodyRun
  (h20 : V20 = (stack (W := 512) (R := 4096) (D := 192) (by decide) (outA_20 c (wI c arg6 g6) (wT c arg8 g8) (bI c arg7 g7) (bT c arg9 g9) X2 X3 X5) : S4096x192.Idx → Elt F .bf16))
  (h21 : V21 = (stack (W := 512) (R := 8192) (D := 192) (by decide) (outB_21 c X0 V20) : S8192x192.Idx → Elt F .bf16))
  (h25 : V25 = (stack (W := 256) (R := 4096) (D := 64) (by decide) (outC_25 c X1 X11 V21) : S4096x64.Idx → Elt F .bf16))
  (h29 : V29 = (stack (W := 512) (R := 8192) (D := 64) (by decide) (outD_29 c X0 V25) : S8192x64.Idx → Elt F .bf16))
  : iprop(st6 c arg6 g6 ∗ st7 c arg7 g7 ∗ st8 c arg8 g8 ∗ st9 c arg9 g9 ∗ (∃ f, own20 (F := F) c f) ∗ (∃ f, own21 (F := F) c f) ∗ (∃ f, own22 (F := F) c f) ∗ (∃ f, own23 (F := F) c f) ∗ (∃ f, own24 (F := F) c f) ∗ (∃ f, own25 (F := F) c f) ∗ (∃ f, own26 (F := F) c f) ∗ (∃ f, own27 (F := F) c f) ∗ (∃ f, own28 (F := F) c f) ∗ (∃ f, own29 (F := F) c f) ∗ (∃ W, owes (c : Thread nD τ) 0 W) ∗ ((c : Thread nD τ).loc main_arg0 ↦{fullShare} X0) ∗ ((c : Thread nD τ).loc main_arg1 ↦{fullShare} X1) ∗ ((c : Thread nD τ).loc main_arg2 ↦{fullShare} X2) ∗ ((c : Thread nD τ).loc main_arg3 ↦{fullShare} X3) ∗ ((c : Thread nD τ).loc main_arg4 ↦{fullShare} X4) ∗ ((c : Thread nD τ).loc main_arg5 ↦{fullShare} X5) ∗ ((c : Thread nD τ).loc main_v6 ↦{fullShare} X10) ∗ ((c : Thread nD τ).loc main_v13 ↦{fullShare} X11) ∗ ((c : Thread nD τ).loc main_v22_4 ↦{fullShare} OBI) ∗ ((c : Thread nD τ).loc main_v22_5 ↦{fullShare} OBT) ∗ ((c : Thread nD τ).loc main_v22_2 ↦{fullShare} OCI) ∗ ((c : Thread nD τ).loc main_v22_3 ↦{fullShare} OCT) ∗ ((c : Thread nD τ).loc main_v22_0 ↦{fullShare} ODI) ∗ ((c : Thread nD τ).loc main_v22_6 ↦{fullShare} ODT) ∗ ((c : Thread nD τ).loc main_v22_1 ↦{fullShare} OEI) ∗ ((c : Thread nD τ).loc main_v22_7 ↦{fullShare} OET) ∗ freeImg (F := F) c ∗ freeTxt (F := F) c ∗ freeIe (F := F) c ∗ freeBU (F := F) c ∗ freeBN (F := F) c ∗ freeCU (F := F) c ∗ freeCN (F := F) c ∗ freeDU (F := F) c ∗ freeDN (F := F) c ∗ freeEU (F := F) c ∗ freeEN (F := F) c ∗ freeBI (F := F) c ∗ freeBT (F := F) c ∗ freeCI (F := F) c ∗ freeCT (F := F) c ∗ freeDI (F := F) c ∗ freeDT (F := F) c ∗ freeEI (F := F) c ∗ freeET (F := F) c)
      ⊢ wp frame (wpE (defs₀ (F := F)) 𝒱₀ (c : Thread nD τ) none) Set.univ (cc0__mono (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) arg6 harg6 arg7 harg7 arg8 harg8 arg9 harg9 (Memref.whole main_v6) (Memref.isWhole_whole _) (Memref.whole main_v13) (Memref.isWhole_whole _) (Memref.whole main_v22_0) (Memref.isWhole_whole _) (Memref.whole main_v22_1) (Memref.isWhole_whole _) (Memref.whole main_v22_2) (Memref.isWhole_whole _) (Memref.whole main_v22_3) (Memref.isWhole_whole _) (Memref.whole main_v22_4) (Memref.isWhole_whole _) (Memref.whole main_v22_5) (Memref.isWhole_whole _) (Memref.whole main_v22_6) (Memref.isWhole_whole _) (Memref.whole main_v22_7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 (Memref.whole cc0_scoped14) (Memref.isWhole_whole _) cc0_scoped15 (Memref.whole cc0_scoped16) (Memref.isWhole_whole _) cc0_scoped17 (Memref.whole cc0_scoped18) (Memref.isWhole_whole _) cc0_scoped19 (Memref.whole cc0_scoped20) (Memref.isWhole_whole _) cc0_scoped21 (Memref.whole cc0_scoped22) (Memref.isWhole_whole _) cc0_scoped23 (Memref.whole cc0_scoped24) (Memref.isWhole_whole _) cc0_scoped25 (Memref.whole cc0_scoped26) (Memref.isWhole_whole _) cc0_scoped27 (Memref.whole cc0_scoped28) (Memref.isWhole_whole _) cc0_scoped29 (Memref.whole cc0_scoped30) (Memref.isWhole_whole _) cc0_scoped31 (Memref.whole cc0_scoped32) (Memref.isWhole_whole _) cc0_scoped33 (Memref.whole cc0_scoped34) (Memref.isWhole_whole _) cc0_scoped35 (Memref.whole cc0_scoped36) (Memref.isWhole_whole _) cc0_scoped37)
        (fun _ => iprop(st6 c arg6 g6 ∗ st7 c arg7 g7 ∗ st8 c arg8 g8 ∗ st9 c arg9 g9 ∗ (∃ f, own20 (F := F) c f) ∗ (∃ f, own21 (F := F) c f) ∗ (∃ f, own22 (F := F) c f) ∗ (∃ f, own23 (F := F) c f) ∗ (∃ f, own24 (F := F) c f) ∗ (∃ f, own25 (F := F) c f) ∗ (∃ f, own26 (F := F) c f) ∗ (∃ f, own27 (F := F) c f) ∗ (∃ f, own28 (F := F) c f) ∗ (∃ f, own29 (F := F) c f) ∗ (∃ W, owes (c : Thread nD τ) 0 W) ∗ ((c : Thread nD τ).loc main_arg0 ↦{fullShare} X0) ∗ ((c : Thread nD τ).loc main_arg1 ↦{fullShare} X1) ∗ ((c : Thread nD τ).loc main_arg2 ↦{fullShare} X2) ∗ ((c : Thread nD τ).loc main_arg3 ↦{fullShare} X3) ∗ ((c : Thread nD τ).loc main_arg4 ↦{fullShare} X4) ∗ ((c : Thread nD τ).loc main_arg5 ↦{fullShare} X5) ∗ ((c : Thread nD τ).loc main_v6 ↦{fullShare} X10) ∗ ((c : Thread nD τ).loc main_v13 ↦{fullShare} X11) ∗ ((c : Thread nD τ).loc main_v22_4 ↦{fullShare} (finBI c X0 V20)) ∗ ((c : Thread nD τ).loc main_v22_5 ↦{fullShare} (finBT c X0 V20)) ∗ ((c : Thread nD τ).loc main_v22_2 ↦{fullShare} (finCI c X1 V21)) ∗ ((c : Thread nD τ).loc main_v22_3 ↦{fullShare} (finCT c X1 V21)) ∗ ((c : Thread nD τ).loc main_v22_0 ↦{fullShare} (finDI c X0 X4 V25 (outB_23 c X0 V20) (outB_24 c X0 V20) (outB_22 c X0 X10 V20))) ∗ ((c : Thread nD τ).loc main_v22_6 ↦{fullShare} (finDT c X0 V25 (outB_23 c X0 V20) (outB_24 c X0 V20))) ∗ ((c : Thread nD τ).loc main_v22_1 ↦{fullShare} (finEI c X1 X5 V29 (outC_27 c X1 V21) (outC_28 c X1 V21) (outC_26 c X1 X11 V21))) ∗ ((c : Thread nD τ).loc main_v22_7 ↦{fullShare} (finET c X1 V29 (outC_27 c X1 V21) (outC_28 c X1 V21))) ∗ freeImg (F := F) c ∗ freeTxt (F := F) c ∗ freeIe (F := F) c ∗ freeBU (F := F) c ∗ freeBN (F := F) c ∗ freeCU (F := F) c ∗ freeCN (F := F) c ∗ freeDU (F := F) c ∗ freeDN (F := F) c ∗ freeEU (F := F) c ∗ freeEN (F := F) c ∗ freeBI (F := F) c ∗ freeBT (F := F) c ∗ freeCI (F := F) c ∗ freeCT (F := F) c ∗ freeDI (F := F) c ∗ freeDT (F := F) c ∗ freeEI (F := F) c ∗ freeET (F := F) c)) := by
  iintro ⟨S6, S7, S8, S9, N20, N21, N22, N23, N24, N25, N26, N27, N28, N29, HW, A0, A1, A2, A3, A4, A5, A10, A11, BBI, BBT, BCI, BCT, BDI, BDT, BEI, BET, FImg, FTxt, FIe, FBU, FBN, FCU, FCN, FDU, FDN, FEU, FEN, FBI, FBT, FCI, FCT, FDI, FDT, FEI, FET⟩
  icases HW with ⟨%W0, HW⟩
  ihave HImg := (entails_of_eq (arrImg c X2)) $$ A2
  ihave PImg := (openImg c X2) $$ [HImg FImg]
  · isplitl [HImg] <;> iassumption
  icases PImg with ⟨KImg, RImg, ⟨%fImg, YImg⟩, ZImg, CImg, DImg⟩
  ihave HTxt := (entails_of_eq (arrTxt c X3)) $$ A3
  ihave PTxt := (openTxt c X3) $$ [HTxt FTxt]
  · isplitl [HTxt] <;> iassumption
  icases PTxt with ⟨KTxt, RTxt, ⟨%fTxt, YTxt⟩, ZTxt, CTxt, DTxt⟩
  ihave HIe := (entails_of_eq (arrIe c X5)) $$ A5
  ihave PIe := (openIe c X5) $$ [HIe FIe]
  · isplitl [HIe] <;> iassumption
  icases PIe with ⟨KIe, RIe, ⟨%fIe, YIe⟩, ZIe, CIe, DIe⟩
  sl_unfold [cc0__mono]
  sl_exec_parts
  sl_for (invA c arg6 arg7 arg8 arg9 g6 g7 g8 g9 X2 X3 X5) $$ [S6 S7 S8 S9 N20 HW RImg CImg ZImg DImg RTxt CTxt ZTxt DTxt RIe CIe ZIe DIe]
  · intro k acc; exact stepA c arg6 arg7 arg8 arg9 g6 g7 g8 g9 X2 X3 X5 harg6 harg7 harg8 harg9 1#32 0#32 k acc
  · iapply (enterA c arg6 arg7 arg8 arg9 g6 g7 g8 g9 X2 X3 X5)
    isplitl [S6]
    · iexact S6
    isplitl [S7]
    · iexact S7
    isplitl [S8]
    · iexact S8
    isplitl [S9]
    · iexact S9
    isplitl [N20]
    · iexact N20
    isplitl [HW]
    · iexists _; iexact HW
    isplitl [RImg CImg ZImg DImg]
    · iapply (ringInImg c X2)
      isplitl [RImg]; · iexact RImg
      isplitl [CImg]; · iexists fImg; iexact CImg
      isplitl [ZImg]; · iexact ZImg
      iexact DImg
    isplitl [RTxt CTxt ZTxt DTxt]
    · iapply (ringInTxt c X3)
      isplitl [RTxt]; · iexact RTxt
      isplitl [CTxt]; · iexists fTxt; iexact CTxt
      isplitl [ZTxt]; · iexact ZTxt
      iexact DTxt
    iapply (ringInIe c X5)
    isplitl [RIe]; · iexact RIe
    isplitl [CIe]; · iexists fIe; iexact CIe
    isplitl [ZIe]; · iexact ZIe
    iexact DIe
  iintro %acc HI
  ihave HI := (exitA c arg6 arg7 arg8 arg9 g6 g7 g8 g9 X2 X3 X5 k0_t1_loop.trips t1_trips acc) $$ HI
  icases HI with ⟨%hacc, S6, S7, S8, S9, S20, ⟨%W0, HW⟩, ⟨HImg, FImg⟩, ⟨HTxt, FTxt⟩, ⟨HIe, FIe⟩⟩
  subst hacc
  ihave A2 := (entails_of_eq (arrImg c X2).symm) $$ HImg
  ihave A3 := (entails_of_eq (arrTxt c X3).symm) $$ HTxt
  ihave A5 := (entails_of_eq (arrIe c X5).symm) $$ HIe
  ihave S20 := (entails_of_eq (congrArg (own20 c) h20.symm)) $$ S20
  ihave HBU := (entails_of_eq (arrBU c X0)) $$ A0
  ihave PBU := (openBU c X0) $$ [HBU FBU]
  · isplitl [HBU] <;> iassumption
  icases PBU with ⟨KBU, RBU, ⟨%fBU, YBU⟩, ZBU, CBU, DBU⟩
  ihave HBN := (entails_of_eq (arrBN c X10)) $$ A10
  ihave PBN := (openBN c X10) $$ [HBN FBN]
  · isplitl [HBN] <;> iassumption
  icases PBN with ⟨KBN, RBN, ⟨%fBN, YBN⟩, ZBN, CBN, DBN⟩
  sl_exec_parts
  sl_for (invB c X0 X10 V20 OBI OBT) $$ [S20 N23 N24 N22 N21 HW RBU CBU ZBU DBU RBN CBN ZBN DBN BBI FBI BBT FBT]
  · intro k acc; exact stepB c X0 X10 V20 OBI OBT arg6 harg6 arg7 harg7 arg8 harg8 arg9 harg9 1#32 k acc
  · iapply (enterB c X0 X10 V20 OBI OBT)
    isplitl [S20]
    · iexact S20
    isplitl [N23]
    · iexact N23
    isplitl [N24]
    · iexact N24
    isplitl [N22]
    · iexact N22
    isplitl [N21]
    · iexact N21
    isplitl [HW]
    · iexists _; iexact HW
    isplitl [RBU CBU ZBU DBU]
    · iapply (ringInBU c X0)
      isplitl [RBU]; · iexact RBU
      isplitl [CBU]; · iexists fBU; iexact CBU
      isplitl [ZBU]; · iexact ZBU
      iexact DBU
    isplitl [RBN CBN ZBN DBN]
    · iapply (ringInBN c X10)
      isplitl [RBN]; · iexact RBN
      isplitl [CBN]; · iexists fBN; iexact CBN
      isplitl [ZBN]; · iexact ZBN
      iexact DBN
    isplitl [BBI FBI]
    · iapply (ringInBI c OBI (finBI c X0 V20))
      isplitl [BBI]; · iapply (entails_of_eq (arrBI c OBI)); iexact BBI
      iexact FBI
    iapply (ringInBT c OBT (finBT c X0 V20))
    isplitl [BBT]; · iapply (entails_of_eq (arrBT c OBT)); iexact BBT
    iexact FBT
  iintro %acc HI
  ihave HI := (exitB c X0 X10 V20 OBI OBT k0_t2_loop.trips t2_trips acc) $$ HI
  icases HI with ⟨%hacc, S20, S23, S24, S22, S21, ⟨%W0, HW⟩, ⟨HBU, FBU⟩, ⟨HBN, FBN⟩, LBI, LBT⟩
  subst hacc
  ihave A0 := (entails_of_eq (arrBU c X0).symm) $$ HBU
  ihave A10 := (entails_of_eq (arrBN c X10).symm) $$ HBN
  ihave LBI := (ringOutBI c OBI (finBI c X0 V20) (outB_BI c X0 V20)) $$ LBI
  icases LBI with ⟨MBI, YBI, CBI, ⟨%gBI, %eBI, GBI⟩⟩
  ihave LBT := (ringOutBT c OBT (finBT c X0 V20) (outB_BT c X0 V20)) $$ LBT
  icases LBT with ⟨MBT, YBT, CBT, ⟨%gBT, %eBT, GBT⟩⟩
  ihave S21 := (entails_of_eq (congrArg (own21 c) h21.symm)) $$ S21
  have c10 := chk10_last
  have c11 := chk11_last
  have c12 := chk12_last
  ihave HCU := (entails_of_eq (arrCU c X1)) $$ A1
  ihave PCU := (openCU c X1) $$ [HCU FCU]
  · isplitl [HCU] <;> iassumption
  icases PCU with ⟨KCU, RCU, ⟨%fCU, YCU⟩, ZCU, CCU, DCU⟩
  ihave HCN := (entails_of_eq (arrCN c X11)) $$ A11
  ihave PCN := (openCN c X11) $$ [HCN FCN]
  · isplitl [HCN] <;> iassumption
  icases PCN with ⟨KCN, RCN, ⟨%fCN, YCN⟩, ZCN, CCN, DCN⟩
  sl_exec_parts
  ihave QBI := (closeBI c (blkBI (Ring.bk 16 15)).view.junk OBI (finBI c X0 V20) (outB_BI c X0 V20) gBI rfl eBI) $$ [GBI_dst MBI YBI GBI_src CBI GBI]
  · isplitl [GBI_dst]; · iexact GBI_dst
    isplitl [MBI]; · iexact MBI
    isplitl [YBI]; · iexact YBI
    isplitl [GBI_src]; · iexact GBI_src
    isplitl [CBI]; · iexact CBI
    iexact GBI
  icases QBI with ⟨QBI, FBI⟩
  ihave BBI := (entails_of_eq (arrBI c (finBI c X0 V20)).symm) $$ QBI
  ihave QBT := (closeBT c (blkBT (Ring.bk 16 15)).view.junk OBT (finBT c X0 V20) (outB_BT c X0 V20) gBT rfl eBT) $$ [GBT_dst MBT YBT GBT_src CBT GBT]
  · isplitl [GBT_dst]; · iexact GBT_dst
    isplitl [MBT]; · iexact MBT
    isplitl [YBT]; · iexact YBT
    isplitl [GBT_src]; · iexact GBT_src
    isplitl [CBT]; · iexact CBT
    iexact GBT
  icases QBT with ⟨QBT, FBT⟩
  ihave BBT := (entails_of_eq (arrBT c (finBT c X0 V20)).symm) $$ QBT
  sl_for (invC c X1 X11 V21 OCI OCT) $$ [S21 N27 N28 N26 N25 HW RCU CCU ZCU DCU RCN CCN ZCN DCN BCI FCI BCT FCT]
  · intro k acc; exact stepC c X1 X11 V21 OCI OCT arg6 harg6 arg7 harg7 arg8 harg8 arg9 harg9 1#32 1#32 0#32 0#32 0#32 0#32 0#32 0#32 0#32 k acc
  · iapply (enterC c X1 X11 V21 OCI OCT)
    isplitl [S21]
    · iexact S21
    isplitl [N27]
    · iexact N27
    isplitl [N28]
    · iexact N28
    isplitl [N26]
    · iexact N26
    isplitl [N25]
    · iexact N25
    isplitl [HW]
    · iexists _; iexact HW
    isplitl [RCU CCU ZCU DCU]
    · iapply (ringInCU c X1)
      isplitl [RCU]; · iexact RCU
      isplitl [CCU]; · iexists fCU; iexact CCU
      isplitl [ZCU]; · iexact ZCU
      iexact DCU
    isplitl [RCN CCN ZCN DCN]
    · iapply (ringInCN c X11)
      isplitl [RCN]; · iexact RCN
      isplitl [CCN]; · iexists fCN; iexact CCN
      isplitl [ZCN]; · iexact ZCN
      iexact DCN
    isplitl [BCI FCI]
    · iapply (ringInCI c OCI (finCI c X1 V21))
      isplitl [BCI]; · iapply (entails_of_eq (arrCI c OCI)); iexact BCI
      iexact FCI
    iapply (ringInCT c OCT (finCT c X1 V21))
    isplitl [BCT]; · iapply (entails_of_eq (arrCT c OCT)); iexact BCT
    iexact FCT
  iintro %acc HI
  ihave HI := (exitC c X1 X11 V21 OCI OCT k0_t3_loop.trips t3_trips acc) $$ HI
  icases HI with ⟨%hacc, S21, S27, S28, S26, S25, ⟨%W0, HW⟩, ⟨HCU, FCU⟩, ⟨HCN, FCN⟩, LCI, LCT⟩
  subst hacc
  ihave A1 := (entails_of_eq (arrCU c X1).symm) $$ HCU
  ihave A11 := (entails_of_eq (arrCN c X11).symm) $$ HCN
  ihave LCI := (ringOutCI c OCI (finCI c X1 V21) (outC_CI c X1 V21)) $$ LCI
  icases LCI with ⟨MCI, YCI, CCI, ⟨%gCI, %eCI, GCI⟩⟩
  ihave LCT := (ringOutCT c OCT (finCT c X1 V21) (outC_CT c X1 V21)) $$ LCT
  icases LCT with ⟨MCT, YCT, CCT, ⟨%gCT, %eCT, GCT⟩⟩
  ihave S25 := (entails_of_eq (congrArg (own25 c) h25.symm)) $$ S25
  have c18 := chk18_last
  have c19 := chk19_last
  have c20 := chk20_last
  ihave HDU := (entails_of_eq (arrDU c X0)) $$ A0
  ihave PDU := (openDU c X0) $$ [HDU FDU]
  · isplitl [HDU] <;> iassumption
  icases PDU with ⟨KDU, RDU, ⟨%fDU, YDU⟩, ZDU, CDU, DDU⟩
  ihave HDN := (entails_of_eq (arrDN c X4)) $$ A4
  ihave PDN := (openDN c X4) $$ [HDN FDN]
  · isplitl [HDN] <;> iassumption
  icases PDN with ⟨KDN, RDN, ⟨%fDN, YDN⟩, ZDN, CDN, DDN⟩
  sl_exec_parts
  ihave QCI := (closeCI c (blkCI (Ring.bk 16 15)).view.junk OCI (finCI c X1 V21) (outC_CI c X1 V21) gCI rfl eCI) $$ [GCI_dst MCI YCI GCI_src CCI GCI]
  · isplitl [GCI_dst]; · iexact GCI_dst
    isplitl [MCI]; · iexact MCI
    isplitl [YCI]; · iexact YCI
    isplitl [GCI_src]; · iexact GCI_src
    isplitl [CCI]; · iexact CCI
    iexact GCI
  icases QCI with ⟨QCI, FCI⟩
  ihave BCI := (entails_of_eq (arrCI c (finCI c X1 V21)).symm) $$ QCI
  ihave QCT := (closeCT c (blkCT (Ring.bk 16 15)).view.junk OCT (finCT c X1 V21) (outC_CT c X1 V21) gCT rfl eCT) $$ [GCT_dst MCT YCT GCT_src CCT GCT]
  · isplitl [GCT_dst]; · iexact GCT_dst
    isplitl [MCT]; · iexact MCT
    isplitl [YCT]; · iexact YCT
    isplitl [GCT_src]; · iexact GCT_src
    isplitl [CCT]; · iexact CCT
    iexact GCT
  icases QCT with ⟨QCT, FCT⟩
  ihave BCT := (entails_of_eq (arrCT c (finCT c X1 V21)).symm) $$ QCT
  sl_for (invD c X0 X4 V25 (outB_23 c X0 V20) (outB_24 c X0 V20) (outB_22 c X0 X10 V20) ODI ODT) $$ [S25 S23 S24 S22 N29 HW RDU CDU ZDU DDU RDN CDN ZDN DDN BDI FDI BDT FDT]
  · intro k acc; exact stepD c X0 X4 V25 (outB_23 c X0 V20) (outB_24 c X0 V20) (outB_22 c X0 X10 V20) ODI ODT arg6 harg6 arg7 harg7 arg8 harg8 arg9 harg9 1#32 k acc
  · iapply (enterD c X0 X4 V25 (outB_23 c X0 V20) (outB_24 c X0 V20) (outB_22 c X0 X10 V20) ODI ODT)
    isplitl [S25]
    · iexact S25
    isplitl [S23]
    · iexact S23
    isplitl [S24]
    · iexact S24
    isplitl [S22]
    · iexact S22
    isplitl [N29]
    · iexact N29
    isplitl [HW]
    · iexists _; iexact HW
    isplitl [RDU CDU ZDU DDU]
    · iapply (ringInDU c X0)
      isplitl [RDU]; · iexact RDU
      isplitl [CDU]; · iexists fDU; iexact CDU
      isplitl [ZDU]; · iexact ZDU
      iexact DDU
    isplitl [RDN CDN ZDN DDN]
    · iapply (ringInDN c X4)
      isplitl [RDN]; · iexact RDN
      isplitl [CDN]; · iexists fDN; iexact CDN
      isplitl [ZDN]; · iexact ZDN
      iexact DDN
    isplitl [BDI FDI]
    · iapply (ringInDI c ODI (finDI c X0 X4 V25 (outB_23 c X0 V20) (outB_24 c X0 V20) (outB_22 c X0 X10 V20)))
      isplitl [BDI]; · iapply (entails_of_eq (arrDI c ODI)); iexact BDI
      iexact FDI
    iapply (ringInDT c ODT (finDT c X0 V25 (outB_23 c X0 V20) (outB_24 c X0 V20)))
    isplitl [BDT]; · iapply (entails_of_eq (arrDT c ODT)); iexact BDT
    iexact FDT
  iintro %acc HI
  ihave HI := (exitD c X0 X4 V25 (outB_23 c X0 V20) (outB_24 c X0 V20) (outB_22 c X0 X10 V20) ODI ODT k0_t4_loop.trips t4_trips acc) $$ HI
  icases HI with ⟨%hacc, S25, S23, S24, S22, S29, ⟨%W0, HW⟩, ⟨HDU, FDU⟩, ⟨HDN, FDN⟩, LDI, LDT⟩
  subst hacc
  ihave A0 := (entails_of_eq (arrDU c X0).symm) $$ HDU
  ihave A4 := (entails_of_eq (arrDN c X4).symm) $$ HDN
  ihave LDI := (ringOutDI c ODI (finDI c X0 X4 V25 (outB_23 c X0 V20) (outB_24 c X0 V20) (outB_22 c X0 X10 V20)) (outD_DI c X0 X4 V25 (outB_23 c X0 V20) (outB_24 c X0 V20) (outB_22 c X0 X10 V20))) $$ LDI
  icases LDI with ⟨MDI, YDI, CDI, ⟨%gDI, %eDI, GDI⟩⟩
  ihave LDT := (ringOutDT c ODT (finDT c X0 V25 (outB_23 c X0 V20) (outB_24 c X0 V20)) (outD_DT c X0 V25 (outB_23 c X0 V20) (outB_24 c X0 V20))) $$ LDT
  icases LDT with ⟨MDT, YDT, CDT, ⟨%gDT, %eDT, GDT⟩⟩
  ihave S29 := (entails_of_eq (congrArg (own29 c) h29.symm)) $$ S29
  have c26 := chk26_last
  have c27 := chk27_last
  have c28 := chk28_last
  ihave HEU := (entails_of_eq (arrEU c X1)) $$ A1
  ihave PEU := (openEU c X1) $$ [HEU FEU]
  · isplitl [HEU] <;> iassumption
  icases PEU with ⟨KEU, REU, ⟨%fEU, YEU⟩, ZEU, CEU, DEU⟩
  ihave HEN := (entails_of_eq (arrEN c X5)) $$ A5
  ihave PEN := (openEN c X5) $$ [HEN FEN]
  · isplitl [HEN] <;> iassumption
  icases PEN with ⟨KEN, REN, ⟨%fEN, YEN⟩, ZEN, CEN, DEN⟩
  sl_exec_parts
  ihave QDI := (closeDI c (blkDI (Ring.bk 16 15)).view.junk ODI (finDI c X0 X4 V25 (outB_23 c X0 V20) (outB_24 c X0 V20) (outB_22 c X0 X10 V20)) (outD_DI c X0 X4 V25 (outB_23 c X0 V20) (outB_24 c X0 V20) (outB_22 c X0 X10 V20)) gDI rfl eDI) $$ [GDI_dst MDI YDI GDI_src CDI GDI]
  · isplitl [GDI_dst]; · iexact GDI_dst
    isplitl [MDI]; · iexact MDI
    isplitl [YDI]; · iexact YDI
    isplitl [GDI_src]; · iexact GDI_src
    isplitl [CDI]; · iexact CDI
    iexact GDI
  icases QDI with ⟨QDI, FDI⟩
  ihave BDI := (entails_of_eq (arrDI c (finDI c X0 X4 V25 (outB_23 c X0 V20) (outB_24 c X0 V20) (outB_22 c X0 X10 V20))).symm) $$ QDI
  ihave QDT := (closeDT c (blkDT (Ring.bk 16 15)).view.junk ODT (finDT c X0 V25 (outB_23 c X0 V20) (outB_24 c X0 V20)) (outD_DT c X0 V25 (outB_23 c X0 V20) (outB_24 c X0 V20)) gDT rfl eDT) $$ [GDT_dst MDT YDT GDT_src CDT GDT]
  · isplitl [GDT_dst]; · iexact GDT_dst
    isplitl [MDT]; · iexact MDT
    isplitl [YDT]; · iexact YDT
    isplitl [GDT_src]; · iexact GDT_src
    isplitl [CDT]; · iexact CDT
    iexact GDT
  icases QDT with ⟨QDT, FDT⟩
  ihave BDT := (entails_of_eq (arrDT c (finDT c X0 V25 (outB_23 c X0 V20) (outB_24 c X0 V20))).symm) $$ QDT
  sl_for (invE c X1 X5 V29 (outC_27 c X1 V21) (outC_28 c X1 V21) (outC_26 c X1 X11 V21) OEI OET) $$ [S29 S27 S28 S26 HW REU CEU ZEU DEU REN CEN ZEN DEN BEI FEI BET FET]
  · intro k acc; exact stepE c X1 X5 V29 (outC_27 c X1 V21) (outC_28 c X1 V21) (outC_26 c X1 X11 V21) OEI OET arg6 harg6 arg7 harg7 arg8 harg8 arg9 harg9 1#32 1#32 0#32 0#32 0#32 0#32 0#32 0#32 k acc
  · iapply (enterE c X1 X5 V29 (outC_27 c X1 V21) (outC_28 c X1 V21) (outC_26 c X1 X11 V21) OEI OET)
    isplitl [S29]
    · iexact S29
    isplitl [S27]
    · iexact S27
    isplitl [S28]
    · iexact S28
    isplitl [S26]
    · iexact S26
    isplitl [HW]
    · iexists _; iexact HW
    isplitl [REU CEU ZEU DEU]
    · iapply (ringInEU c X1)
      isplitl [REU]; · iexact REU
      isplitl [CEU]; · iexists fEU; iexact CEU
      isplitl [ZEU]; · iexact ZEU
      iexact DEU
    isplitl [REN CEN ZEN DEN]
    · iapply (ringInEN c X5)
      isplitl [REN]; · iexact REN
      isplitl [CEN]; · iexists fEN; iexact CEN
      isplitl [ZEN]; · iexact ZEN
      iexact DEN
    isplitl [BEI FEI]
    · iapply (ringInEI c OEI (finEI c X1 X5 V29 (outC_27 c X1 V21) (outC_28 c X1 V21) (outC_26 c X1 X11 V21)))
      isplitl [BEI]; · iapply (entails_of_eq (arrEI c OEI)); iexact BEI
      iexact FEI
    iapply (ringInET c OET (finET c X1 V29 (outC_27 c X1 V21) (outC_28 c X1 V21)))
    isplitl [BET]; · iapply (entails_of_eq (arrET c OET)); iexact BET
    iexact FET
  iintro %acc HI
  ihave HI := (exitE c X1 X5 V29 (outC_27 c X1 V21) (outC_28 c X1 V21) (outC_26 c X1 X11 V21) OEI OET k0_t5_loop.trips t5_trips acc) $$ HI
  icases HI with ⟨%hacc, S29, S27, S28, S26, ⟨%W0, HW⟩, ⟨HEU, FEU⟩, ⟨HEN, FEN⟩, LEI, LET⟩
  subst hacc
  ihave A1 := (entails_of_eq (arrEU c X1).symm) $$ HEU
  ihave A5 := (entails_of_eq (arrEN c X5).symm) $$ HEN
  ihave LEI := (ringOutEI c OEI (finEI c X1 X5 V29 (outC_27 c X1 V21) (outC_28 c X1 V21) (outC_26 c X1 X11 V21)) (outE_EI c X1 X5 V29 (outC_27 c X1 V21) (outC_28 c X1 V21) (outC_26 c X1 X11 V21))) $$ LEI
  icases LEI with ⟨MEI, YEI, CEI, ⟨%gEI, %eEI, GEI⟩⟩
  ihave LET := (ringOutET c OET (finET c X1 V29 (outC_27 c X1 V21) (outC_28 c X1 V21)) (outE_ET c X1 V29 (outC_27 c X1 V21) (outC_28 c X1 V21))) $$ LET
  icases LET with ⟨MET, YET, CET, ⟨%gET, %eET, GET⟩⟩
  have c34 := chk34_last
  have c35 := chk35_last
  have c36 := chk36_last
  sl_exec_parts
  ihave QEI := (closeEI c OEI OEI (finEI c X1 X5 V29 (outC_27 c X1 V21) (outC_28 c X1 V21) (outC_26 c X1 X11 V21)) (outE_EI c X1 X5 V29 (outC_27 c X1 V21) (outC_28 c X1 V21) (outC_26 c X1 X11 V21)) gEI rfl eEI) $$ [GEI_dst MEI YEI GEI_src CEI GEI]
  · isplitl [GEI_dst]; · iexact GEI_dst
    isplitl [MEI]; · iexact MEI
    isplitl [YEI]; · iexact YEI
    isplitl [GEI_src]; · iexact GEI_src
    isplitl [CEI]; · iexact CEI
    iexact GEI
  icases QEI with ⟨QEI, FEI⟩
  ihave BEI := (entails_of_eq (arrEI c (finEI c X1 X5 V29 (outC_27 c X1 V21) (outC_28 c X1 V21) (outC_26 c X1 X11 V21))).symm) $$ QEI
  ihave QET := (closeET c OET OET (finET c X1 V29 (outC_27 c X1 V21) (outC_28 c X1 V21)) (outE_ET c X1 V29 (outC_27 c X1 V21) (outC_28 c X1 V21)) gET rfl eET) $$ [GET_dst MET YET GET_src CET GET]
  · isplitl [GET_dst]; · iexact GET_dst
    isplitl [MET]; · iexact MET
    isplitl [YET]; · iexact YET
    isplitl [GET_src]; · iexact GET_src
    isplitl [CET]; · iexact CET
    iexact GET
  icases QET with ⟨QET, FET⟩
  ihave BET := (entails_of_eq (arrET c (finET c X1 V29 (outC_27 c X1 V21) (outC_28 c X1 V21))).symm) $$ QET
  sl_step
  isplitl [S6]; · iexact S6
  isplitl [S7]; · iexact S7
  isplitl [S8]; · iexact S8
  isplitl [S9]; · iexact S9
  isplitl [S20]; · iexists _; iexact S20
  isplitl [S21]; · iexists _; iexact S21
  isplitl [S22]; · iexists _; iexact S22
  isplitl [S23]; · iexists _; iexact S23
  isplitl [S24]; · iexists _; iexact S24
  isplitl [S25]; · iexists _; iexact S25
  isplitl [S26]; · iexists _; iexact S26
  isplitl [S27]; · iexists _; iexact S27
  isplitl [S28]; · iexists _; iexact S28
  isplitl [S29]; · iexists _; iexact S29
  isplitl [HW]; · iexists _; iexact HW
  isplitl [A0]; · iexact A0
  isplitl [A1]; · iexact A1
  isplitl [A2]; · iexact A2
  isplitl [A3]; · iexact A3
  isplitl [A4]; · iexact A4
  isplitl [A5]; · iexact A5
  isplitl [A10]; · iexact A10
  isplitl [A11]; · iexact A11
  isplitl [BBI]; · iexact BBI
  isplitl [BBT]; · iexact BBT
  isplitl [BCI]; · iexact BCI
  isplitl [BCT]; · iexact BCT
  isplitl [BDI]; · iexact BDI
  isplitl [BDT]; · iexact BDT
  isplitl [BEI]; · iexact BEI
  isplitl [BET]; · iexact BET
  isplitl [FImg]; · iexact FImg
  isplitl [FTxt]; · iexact FTxt
  isplitl [FIe]; · iexact FIe
  isplitl [FBU]; · iexact FBU
  isplitl [FBN]; · iexact FBN
  isplitl [FCU]; · iexact FCU
  isplitl [FCN]; · iexact FCN
  isplitl [FDU]; · iexact FDU
  isplitl [FDN]; · iexact FDN
  isplitl [FEU]; · iexact FEU
  isplitl [FEN]; · iexact FEN
  isplitl [FBI]; · iexact FBI
  isplitl [FBT]; · iexact FBT
  isplitl [FCI]; · iexact FCI
  isplitl [FCT]; · iexact FCT
  isplitl [FDI]; · iexact FDI
  isplitl [FDT]; · iexact FDT
  isplitl [FEI]; · iexact FEI
  iexact FET

end Cert.Proof.KI

end
-- ==== Proof.KI.Region.lean ====
/-
  The region: what it hands the body and takes back.
-/
module

public import proofs.«01_k».proof.Proof.KI.Body

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]
local notation "𝕄" => MT nD τ sig Unit (Elt F) ℕ (UU nD τ) ℕ

variable (m : (ℓ : Loc nD τ sig) → Buf (Elt F) ℓ) (ρ : Dev nD → PrngReg)

theorem N_one : cfg0.N = 1 := by decide
/-- The one point of the region's empty grid. -/
abbrev t00 : Fin cfg0.N := ⟨0, by decide⟩
theorem point_eq (t : Fin cfg0.N) : t = t00 := by
  have h : t.val < 1 := lt_of_lt_of_eq t.isLt N_one
  exact Fin.ext (by show t.val = 0; omega)

/-- A load of a whole array is what the array's view reads. -/
theorem readAll {sig : RefSig} {κ : Kind} {sp : Space} {e : EltTy} {Val : EltTy → Type} {R D : ℕ}
    (v : View sig κ sp (⟨2, ![R, D]⟩ : Shape) e) (f : v.ty.Contents Val) (inb) :
    v.readAt Val (Rect.unit (s := (⟨2, ![R, D]⟩ : Shape)) ![0, 0] ![R, D] inb).toLoadRect f = v.read Val f := by
  funext x
  rw [View.readAt_apply]
  refine congrArg _ (funext fun a => ?_)
  fin_cases a
  · exact Fin.ext (by show 0 + 1 * (x 0).val = (x 0).val; omega)
  · exact Fin.ext (by show 0 + 1 * (x 1).val = (x 1).val; omega)

/-! ## What the kernel leaves -/

/-- The features, stacked three wide. -/
def v20 (c : Dev nD) : Buf (Elt F) (a20.view.loc (c : Thread nD τ)) :=
  (stack (W := 512) (R := 4096) (D := 192) (by decide) (outA_20 c (iblk m c 0 t00) (iblk m c 2 t00) (iblk m c 1 t00) (iblk m c 3 t00) (V m c main_arg2) (V m c main_arg3) (V m c main_arg5)) : S4096x192.Idx → Elt F .bf16)
/-- The users' side of the first round. -/
def v21 (c : Dev nD) : Buf (Elt F) (a21.view.loc (c : Thread nD τ)) :=
  (stack (W := 512) (R := 8192) (D := 192) (by decide) (outB_21 c (V m c main_arg0) (v20 m c)) : S8192x192.Idx → Elt F .bf16)
/-- The items' side of the first round. -/
def v25 (c : Dev nD) : Buf (Elt F) (a25.view.loc (c : Thread nD τ)) :=
  (stack (W := 256) (R := 4096) (D := 64) (by decide) (outC_25 c (V m c main_arg1) (V m c main_v13) (v21 m c)) : S4096x64.Idx → Elt F .bf16)
/-- The users' side of the second round. -/
def v29 (c : Dev nD) : Buf (Elt F) (a29.view.loc (c : Thread nD τ)) :=
  (stack (W := 512) (R := 8192) (D := 64) (by decide) (outD_29 c (V m c main_arg0) (v25 m c)) : S8192x64.Idx → Elt F .bf16)

/-- The unscoped buffers when the region is left: the eight results written, the rest as they were. -/
def G (c : Dev nD) : (b : Ref sig .tc) → Buf (Elt F) ((c : Thread nD τ).loc b) :=
  Function.update (Function.update (Function.update (Function.update (Function.update (Function.update (Function.update (Function.update ((V m c)) main_v22_4 (finBI c (V m c main_arg0) (v20 m c))
    ) main_v22_5 (finBT c (V m c main_arg0) (v20 m c))
    ) main_v22_2 (finCI c (V m c main_arg1) (v21 m c))
    ) main_v22_3 (finCT c (V m c main_arg1) (v21 m c))
    ) main_v22_0 (finDI c (V m c main_arg0) (V m c main_arg4) (v25 m c) (outB_23 c (V m c main_arg0) (v20 m c)) (outB_24 c (V m c main_arg0) (v20 m c)) (outB_22 c (V m c main_arg0) (V m c main_v6) (v20 m c)))
    ) main_v22_6 (finDT c (V m c main_arg0) (v25 m c) (outB_23 c (V m c main_arg0) (v20 m c)) (outB_24 c (V m c main_arg0) (v20 m c)))
    ) main_v22_1 (finEI c (V m c main_arg1) (V m c main_arg5) (v29 m c) (outC_27 c (V m c main_arg1) (v21 m c)) (outC_28 c (V m c main_arg1) (v21 m c)) (outC_26 c (V m c main_arg1) (V m c main_v13) (v21 m c)))
    ) main_v22_7 (finET c (V m c main_arg1) (v29 m c) (outC_27 c (V m c main_arg1) (v21 m c)) (outC_28 c (V m c main_arg1) (v21 m c)))

theorem G_BI (c : Dev nD) : G m c main_v22_4 = finBI c (V m c main_arg0) (v20 m c) := by
  unfold G; rw [Function.update_of_ne (by decide), Function.update_of_ne (by decide), Function.update_of_ne (by decide), Function.update_of_ne (by decide), Function.update_of_ne (by decide), Function.update_of_ne (by decide), Function.update_of_ne (by decide), Function.update_self]
theorem G_BT (c : Dev nD) : G m c main_v22_5 = finBT c (V m c main_arg0) (v20 m c) := by
  unfold G; rw [Function.update_of_ne (by decide), Function.update_of_ne (by decide), Function.update_of_ne (by decide), Function.update_of_ne (by decide), Function.update_of_ne (by decide), Function.update_of_ne (by decide), Function.update_self]
theorem G_CI (c : Dev nD) : G m c main_v22_2 = finCI c (V m c main_arg1) (v21 m c) := by
  unfold G; rw [Function.update_of_ne (by decide), Function.update_of_ne (by decide), Function.update_of_ne (by decide), Function.update_of_ne (by decide), Function.update_of_ne (by decide), Function.update_self]
theorem G_CT (c : Dev nD) : G m c main_v22_3 = finCT c (V m c main_arg1) (v21 m c) := by
  unfold G; rw [Function.update_of_ne (by decide), Function.update_of_ne (by decide), Function.update_of_ne (by decide), Function.update_of_ne (by decide), Function.update_self]
theorem G_DI (c : Dev nD) : G m c main_v22_0 = finDI c (V m c main_arg0) (V m c main_arg4) (v25 m c) (outB_23 c (V m c main_arg0) (v20 m c)) (outB_24 c (V m c main_arg0) (v20 m c)) (outB_22 c (V m c main_arg0) (V m c main_v6) (v20 m c)) := by
  unfold G; rw [Function.update_of_ne (by decide), Function.update_of_ne (by decide), Function.update_of_ne (by decide), Function.update_self]
theorem G_DT (c : Dev nD) : G m c main_v22_6 = finDT c (V m c main_arg0) (v25 m c) (outB_23 c (V m c main_arg0) (v20 m c)) (outB_24 c (V m c main_arg0) (v20 m c)) := by
  unfold G; rw [Function.update_of_ne (by decide), Function.update_of_ne (by decide), Function.update_self]
theorem G_EI (c : Dev nD) : G m c main_v22_1 = finEI c (V m c main_arg1) (V m c main_arg5) (v29 m c) (outC_27 c (V m c main_arg1) (v21 m c)) (outC_28 c (V m c main_arg1) (v21 m c)) (outC_26 c (V m c main_arg1) (V m c main_v13) (v21 m c)) := by
  unfold G; rw [Function.update_of_ne (by decide), Function.update_self]
theorem G_ET (c : Dev nD) : G m c main_v22_7 = finET c (V m c main_arg1) (v29 m c) (outC_27 c (V m c main_arg1) (v21 m c)) (outC_28 c (V m c main_arg1) (v21 m c)) := by
  unfold G; rw [Function.update_self]

/-! ## What the region hands the body -/

/-- The arrays the body reads by transfers of its own. -/
def H0 : Finset (Ref sig .tc) := {main_arg0, main_arg1, main_arg2, main_arg3, main_arg4, main_arg5, main_v6, main_v13}
/-- The arrays it writes by transfers of its own. -/
def R0 : Finset (Ref sig .tc) := {main_v22_0, main_v22_1, main_v22_2, main_v22_3, main_v22_4, main_v22_5, main_v22_6, main_v22_7}
theorem H0_sub : H0 ⊆ Pipeline.restRefs sig spec0 := by decide
theorem R0_sub : R0 ⊆ Pipeline.restRefs sig spec0 \ H0 := by decide
theorem hbm_eq (c : Dev nD) (K : (c : Dev nD) → (b : Ref sig .tc) → Buf (Elt F) ((c : Thread nD τ).loc b)) :
    (bigSep H0 (fun b => ((c : Thread nD τ).loc b) ↦{fullShare} K c b) : sProp 𝕄)
      = iprop(((c : Thread nD τ).loc main_arg0 ↦{fullShare} K c main_arg0) ∗ ((c : Thread nD τ).loc main_arg1 ↦{fullShare} K c main_arg1) ∗ ((c : Thread nD τ).loc main_arg2 ↦{fullShare} K c main_arg2) ∗ ((c : Thread nD τ).loc main_arg3 ↦{fullShare} K c main_arg3) ∗ ((c : Thread nD τ).loc main_arg4 ↦{fullShare} K c main_arg4) ∗ ((c : Thread nD τ).loc main_arg5 ↦{fullShare} K c main_arg5) ∗ ((c : Thread nD τ).loc main_v6 ↦{fullShare} K c main_v6) ∗ ((c : Thread nD τ).loc main_v13 ↦{fullShare} K c main_v13)) := by
  rw [BI.bigSep_eq_bigSepL_of_eq [main_arg0, main_arg1, main_arg2, main_arg3, main_arg4, main_arg5, main_v6, main_v13] (by decide) (by decide)]; rfl
theorem res_eq (c : Dev nD) (K : (c : Dev nD) → (b : Ref sig .tc) → Buf (Elt F) ((c : Thread nD τ).loc b)) :
    (bigSep R0 (fun b => ((c : Thread nD τ).loc b) ↦{fullShare} K c b) : sProp 𝕄)
      = iprop(((c : Thread nD τ).loc main_v22_0 ↦{fullShare} K c main_v22_0) ∗ ((c : Thread nD τ).loc main_v22_1 ↦{fullShare} K c main_v22_1) ∗ ((c : Thread nD τ).loc main_v22_2 ↦{fullShare} K c main_v22_2) ∗ ((c : Thread nD τ).loc main_v22_3 ↦{fullShare} K c main_v22_3) ∗ ((c : Thread nD τ).loc main_v22_4 ↦{fullShare} K c main_v22_4) ∗ ((c : Thread nD τ).loc main_v22_5 ↦{fullShare} K c main_v22_5) ∗ ((c : Thread nD τ).loc main_v22_6 ↦{fullShare} K c main_v22_6) ∗ ((c : Thread nD τ).loc main_v22_7 ↦{fullShare} K c main_v22_7)) := by
  rw [BI.bigSep_eq_bigSepL_of_eq [main_v22_0, main_v22_1, main_v22_2, main_v22_3, main_v22_4, main_v22_5, main_v22_6, main_v22_7] (by decide) (by decide)]; rfl

/-- The body's semaphores: the pairs of the nineteen rings. -/
abbrev osem0 : Fin 38 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41] : Fin 38 → SemLoc sig) j
theorem ownSemFacts0 : Pipeline.OwnSemFacts spec0 osem0 := by decide
theorem ownSems_eq (c : Dev nD) :
    (Pipeline.ownSems0 (Ix := Unit) (Name := ℕ) (U := UU nD τ) (Lvl := ℕ) (Val := Elt F) (τ := τ) osem0 c : sProp 𝕄)
      = iprop(cellImg (F := F) c (Ring.sl 2 0) ∗ cellImg (F := F) c (Ring.sl 2 1) ∗ cellTxt (F := F) c (Ring.sl 2 0) ∗ cellTxt (F := F) c (Ring.sl 2 1) ∗ cellIe (F := F) c (Ring.sl 2 0) ∗ cellIe (F := F) c (Ring.sl 2 1) ∗ cellBU (F := F) c (Ring.sl 2 0) ∗ cellBU (F := F) c (Ring.sl 2 1) ∗ cellBN (F := F) c (Ring.sl 2 0) ∗ cellBN (F := F) c (Ring.sl 2 1) ∗ cellBI (F := F) c (Ring.sl 2 0) ∗ cellBI (F := F) c (Ring.sl 2 1) ∗ cellBT (F := F) c (Ring.sl 2 0) ∗ cellBT (F := F) c (Ring.sl 2 1) ∗ cellCU (F := F) c (Ring.sl 2 0) ∗ cellCU (F := F) c (Ring.sl 2 1) ∗ cellCN (F := F) c (Ring.sl 2 0) ∗ cellCN (F := F) c (Ring.sl 2 1) ∗ cellCI (F := F) c (Ring.sl 2 0) ∗ cellCI (F := F) c (Ring.sl 2 1) ∗ cellCT (F := F) c (Ring.sl 2 0) ∗ cellCT (F := F) c (Ring.sl 2 1) ∗ cellDU (F := F) c (Ring.sl 2 0) ∗ cellDU (F := F) c (Ring.sl 2 1) ∗ cellDN (F := F) c (Ring.sl 2 0) ∗ cellDN (F := F) c (Ring.sl 2 1) ∗ cellDI (F := F) c (Ring.sl 2 0) ∗ cellDI (F := F) c (Ring.sl 2 1) ∗ cellDT (F := F) c (Ring.sl 2 0) ∗ cellDT (F := F) c (Ring.sl 2 1) ∗ cellEU (F := F) c (Ring.sl 2 0) ∗ cellEU (F := F) c (Ring.sl 2 1) ∗ cellEN (F := F) c (Ring.sl 2 0) ∗ cellEN (F := F) c (Ring.sl 2 1) ∗ cellEI (F := F) c (Ring.sl 2 0) ∗ cellEI (F := F) c (Ring.sl 2 1) ∗ cellET (F := F) c (Ring.sl 2 0) ∗ cellET (F := F) c (Ring.sl 2 1)) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37] (by decide) (by decide)]; rfl

theorem scr20_eq (c : Dev nD) :
    (iprop(∃ f : Buf (Elt F) ((c : Thread nD τ).loc cc0_scratch0), ((c : Thread nD τ).loc cc0_scratch0) ↦{fullShare} f) : sProp 𝕄) = iprop(∃ f, own20 (F := F) c f) := by
  have h : a20.view.set = Finset.univ := View.set_whole _
  unfold own20; rw [h]; try rfl
theorem scr21_eq (c : Dev nD) :
    (iprop(∃ f : Buf (Elt F) ((c : Thread nD τ).loc cc0_scratch1), ((c : Thread nD τ).loc cc0_scratch1) ↦{fullShare} f) : sProp 𝕄) = iprop(∃ f, own21 (F := F) c f) := by
  have h : a21.view.set = Finset.univ := View.set_whole _
  unfold own21; rw [h]; try rfl
theorem scr22_eq (c : Dev nD) :
    (iprop(∃ f : Buf (Elt F) ((c : Thread nD τ).loc cc0_scratch2), ((c : Thread nD τ).loc cc0_scratch2) ↦{fullShare} f) : sProp 𝕄) = iprop(∃ f, own22 (F := F) c f) := by
  have h : a22.view.set = Finset.univ := View.set_whole _
  unfold own22; rw [h]; try rfl
theorem scr23_eq (c : Dev nD) :
    (iprop(∃ f : Buf (Elt F) ((c : Thread nD τ).loc cc0_scratch3), ((c : Thread nD τ).loc cc0_scratch3) ↦{fullShare} f) : sProp 𝕄) = iprop(∃ f, own23 (F := F) c f) := by
  have h : a23.view.set = Finset.univ := View.set_whole _
  unfold own23; rw [h]; try rfl
theorem scr24_eq (c : Dev nD) :
    (iprop(∃ f : Buf (Elt F) ((c : Thread nD τ).loc cc0_scratch4), ((c : Thread nD τ).loc cc0_scratch4) ↦{fullShare} f) : sProp 𝕄) = iprop(∃ f, own24 (F := F) c f) := by
  have h : a24.view.set = Finset.univ := View.set_whole _
  unfold own24; rw [h]; try rfl
theorem scr25_eq (c : Dev nD) :
    (iprop(∃ f : Buf (Elt F) ((c : Thread nD τ).loc cc0_scratch5), ((c : Thread nD τ).loc cc0_scratch5) ↦{fullShare} f) : sProp 𝕄) = iprop(∃ f, own25 (F := F) c f) := by
  have h : a25.view.set = Finset.univ := View.set_whole _
  unfold own25; rw [h]; try rfl
theorem scr26_eq (c : Dev nD) :
    (iprop(∃ f : Buf (Elt F) ((c : Thread nD τ).loc cc0_scratch6), ((c : Thread nD τ).loc cc0_scratch6) ↦{fullShare} f) : sProp 𝕄) = iprop(∃ f, own26 (F := F) c f) := by
  have h : a26.view.set = Finset.univ := View.set_whole _
  unfold own26; rw [h]; try rfl
theorem scr27_eq (c : Dev nD) :
    (iprop(∃ f : Buf (Elt F) ((c : Thread nD τ).loc cc0_scratch7), ((c : Thread nD τ).loc cc0_scratch7) ↦{fullShare} f) : sProp 𝕄) = iprop(∃ f, own27 (F := F) c f) := by
  have h : a27.view.set = Finset.univ := View.set_whole _
  unfold own27; rw [h]; try rfl
theorem scr28_eq (c : Dev nD) :
    (iprop(∃ f : Buf (Elt F) ((c : Thread nD τ).loc cc0_scratch8), ((c : Thread nD τ).loc cc0_scratch8) ↦{fullShare} f) : sProp 𝕄) = iprop(∃ f, own28 (F := F) c f) := by
  have h : a28.view.set = Finset.univ := View.set_whole _
  unfold own28; rw [h]; try rfl
theorem scr29_eq (c : Dev nD) :
    (iprop(∃ f : Buf (Elt F) ((c : Thread nD τ).loc cc0_scratch9), ((c : Thread nD τ).loc cc0_scratch9) ↦{fullShare} f) : sProp 𝕄) = iprop(∃ f, own29 (F := F) c f) := by
  have h : a29.view.set = Finset.univ := View.set_whole _
  unfold own29; rw [h]; try rfl

/-- All that the body is handed beside its staged windows: scratch, the arrays it reads, the arrays it writes (at `K`), the rings. -/
def held (c : Dev nD) (K : (c : Dev nD) → (b : Ref sig .tc) → Buf (Elt F) ((c : Thread nD τ).loc b)) : sProp 𝕄 :=
  iprop((∃ f, own20 (F := F) c f) ∗ (∃ f, own21 (F := F) c f) ∗ (∃ f, own22 (F := F) c f) ∗ (∃ f, own23 (F := F) c f) ∗ (∃ f, own24 (F := F) c f) ∗ (∃ f, own25 (F := F) c f) ∗ (∃ f, own26 (F := F) c f) ∗ (∃ f, own27 (F := F) c f) ∗ (∃ f, own28 (F := F) c f) ∗ (∃ f, own29 (F := F) c f) ∗ ((c : Thread nD τ).loc main_arg0 ↦{fullShare} V m c main_arg0) ∗ ((c : Thread nD τ).loc main_arg1 ↦{fullShare} V m c main_arg1) ∗ ((c : Thread nD τ).loc main_arg2 ↦{fullShare} V m c main_arg2) ∗ ((c : Thread nD τ).loc main_arg3 ↦{fullShare} V m c main_arg3) ∗ ((c : Thread nD τ).loc main_arg4 ↦{fullShare} V m c main_arg4) ∗ ((c : Thread nD τ).loc main_arg5 ↦{fullShare} V m c main_arg5) ∗ ((c : Thread nD τ).loc main_v6 ↦{fullShare} V m c main_v6) ∗ ((c : Thread nD τ).loc main_v13 ↦{fullShare} V m c main_v13) ∗ ((c : Thread nD τ).loc main_v22_4 ↦{fullShare} K c main_v22_4) ∗ ((c : Thread nD τ).loc main_v22_5 ↦{fullShare} K c main_v22_5) ∗ ((c : Thread nD τ).loc main_v22_2 ↦{fullShare} K c main_v22_2) ∗ ((c : Thread nD τ).loc main_v22_3 ↦{fullShare} K c main_v22_3) ∗ ((c : Thread nD τ).loc main_v22_0 ↦{fullShare} K c main_v22_0) ∗ ((c : Thread nD τ).loc main_v22_6 ↦{fullShare} K c main_v22_6) ∗ ((c : Thread nD τ).loc main_v22_1 ↦{fullShare} K c main_v22_1) ∗ ((c : Thread nD τ).loc main_v22_7 ↦{fullShare} K c main_v22_7) ∗ freeImg (F := F) c ∗ freeTxt (F := F) c ∗ freeIe (F := F) c ∗ freeBU (F := F) c ∗ freeBN (F := F) c ∗ freeCU (F := F) c ∗ freeCN (F := F) c ∗ freeDU (F := F) c ∗ freeDN (F := F) c ∗ freeEU (F := F) c ∗ freeEN (F := F) c ∗ freeBI (F := F) c ∗ freeBT (F := F) c ∗ freeCI (F := F) c ∗ freeCT (F := F) c ∗ freeDI (F := F) c ∗ freeDT (F := F) c ∗ freeEI (F := F) c ∗ freeET (F := F) c)

set_option maxHeartbeats 4000000 in
theorem phi_open (c : Dev nD) (K : (c : Dev nD) → (b : Ref sig .tc) → Buf (Elt F) ((c : Thread nD τ).loc b)) :
    (Pipeline.ΦDRV osem0 spec0 H0 R0 (V m) K c : sProp 𝕄) ⊢ held m c K := by
  unfold Pipeline.ΦDRV held
  rw [scopedRest0_eq, ownSems_eq, hbm_eq, res_eq, scr20_eq, scr21_eq, scr22_eq, scr23_eq, scr24_eq, scr25_eq, scr26_eq, scr27_eq, scr28_eq, scr29_eq]
  iintro ⟨⟨N20, N21, N22, N23, N24, N25, N26, N27, N28, N29, TImg, TTxt, TIe, TBU, TBN, TBI, TBT, TCU, TCN, TCI, TCT, TDU, TDN, TDI, TDT, TEU, TEN, TEI, TET⟩, ⟨cImg0, cImg1, cTxt0, cTxt1, cIe0, cIe1, cBU0, cBU1, cBN0, cBN1, cBI0, cBI1, cBT0, cBT1, cCU0, cCU1, cCN0, cCN1, cCI0, cCI1, cCT0, cCT1, cDU0, cDU1, cDN0, cDN1, cDI0, cDI1, cDT0, cDT1, cEU0, cEU1, cEN0, cEN1, cEI0, cEI1, cET0, cET1⟩, ⟨A0, A1, A2, A3, A4, A5, A10, A11⟩, ⟨BDI, BEI, BCI, BCT, BBI, BBT, BDT, BET⟩⟩
  ihave FImg := (splitImg (F := F) c) $$ [TImg cImg0 cImg1]
  · isplitl [TImg]; · iexact TImg
    isplitl [cImg0]; · iexact cImg0
    iexact cImg1
  ihave FTxt := (splitTxt (F := F) c) $$ [TTxt cTxt0 cTxt1]
  · isplitl [TTxt]; · iexact TTxt
    isplitl [cTxt0]; · iexact cTxt0
    iexact cTxt1
  ihave FIe := (splitIe (F := F) c) $$ [TIe cIe0 cIe1]
  · isplitl [TIe]; · iexact TIe
    isplitl [cIe0]; · iexact cIe0
    iexact cIe1
  ihave FBU := (splitBU (F := F) c) $$ [TBU cBU0 cBU1]
  · isplitl [TBU]; · iexact TBU
    isplitl [cBU0]; · iexact cBU0
    iexact cBU1
  ihave FBN := (splitBN (F := F) c) $$ [TBN cBN0 cBN1]
  · isplitl [TBN]; · iexact TBN
    isplitl [cBN0]; · iexact cBN0
    iexact cBN1
  ihave FBI := (splitBI (F := F) c) $$ [TBI cBI0 cBI1]
  · isplitl [TBI]; · iexact TBI
    isplitl [cBI0]; · iexact cBI0
    iexact cBI1
  ihave FBT := (splitBT (F := F) c) $$ [TBT cBT0 cBT1]
  · isplitl [TBT]; · iexact TBT
    isplitl [cBT0]; · iexact cBT0
    iexact cBT1
  ihave FCU := (splitCU (F := F) c) $$ [TCU cCU0 cCU1]
  · isplitl [TCU]; · iexact TCU
    isplitl [cCU0]; · iexact cCU0
    iexact cCU1
  ihave FCN := (splitCN (F := F) c) $$ [TCN cCN0 cCN1]
  · isplitl [TCN]; · iexact TCN
    isplitl [cCN0]; · iexact cCN0
    iexact cCN1
  ihave FCI := (splitCI (F := F) c) $$ [TCI cCI0 cCI1]
  · isplitl [TCI]; · iexact TCI
    isplitl [cCI0]; · iexact cCI0
    iexact cCI1
  ihave FCT := (splitCT (F := F) c) $$ [TCT cCT0 cCT1]
  · isplitl [TCT]; · iexact TCT
    isplitl [cCT0]; · iexact cCT0
    iexact cCT1
  ihave FDU := (splitDU (F := F) c) $$ [TDU cDU0 cDU1]
  · isplitl [TDU]; · iexact TDU
    isplitl [cDU0]; · iexact cDU0
    iexact cDU1
  ihave FDN := (splitDN (F := F) c) $$ [TDN cDN0 cDN1]
  · isplitl [TDN]; · iexact TDN
    isplitl [cDN0]; · iexact cDN0
    iexact cDN1
  ihave FDI := (splitDI (F := F) c) $$ [TDI cDI0 cDI1]
  · isplitl [TDI]; · iexact TDI
    isplitl [cDI0]; · iexact cDI0
    iexact cDI1
  ihave FDT := (splitDT (F := F) c) $$ [TDT cDT0 cDT1]
  · isplitl [TDT]; · iexact TDT
    isplitl [cDT0]; · iexact cDT0
    iexact cDT1
  ihave FEU := (splitEU (F := F) c) $$ [TEU cEU0 cEU1]
  · isplitl [TEU]; · iexact TEU
    isplitl [cEU0]; · iexact cEU0
    iexact cEU1
  ihave FEN := (splitEN (F := F) c) $$ [TEN cEN0 cEN1]
  · isplitl [TEN]; · iexact TEN
    isplitl [cEN0]; · iexact cEN0
    iexact cEN1
  ihave FEI := (splitEI (F := F) c) $$ [TEI cEI0 cEI1]
  · isplitl [TEI]; · iexact TEI
    isplitl [cEI0]; · iexact cEI0
    iexact cEI1
  ihave FET := (splitET (F := F) c) $$ [TET cET0 cET1]
  · isplitl [TET]; · iexact TET
    isplitl [cET0]; · iexact cET0
    iexact cET1
  isplitl [N20]; · iexact N20
  isplitl [N21]; · iexact N21
  isplitl [N22]; · iexact N22
  isplitl [N23]; · iexact N23
  isplitl [N24]; · iexact N24
  isplitl [N25]; · iexact N25
  isplitl [N26]; · iexact N26
  isplitl [N27]; · iexact N27
  isplitl [N28]; · iexact N28
  isplitl [N29]; · iexact N29
  isplitl [A0]; · iexact A0
  isplitl [A1]; · iexact A1
  isplitl [A2]; · iexact A2
  isplitl [A3]; · iexact A3
  isplitl [A4]; · iexact A4
  isplitl [A5]; · iexact A5
  isplitl [A10]; · iexact A10
  isplitl [A11]; · iexact A11
  isplitl [BBI]; · iexact BBI
  isplitl [BBT]; · iexact BBT
  isplitl [BCI]; · iexact BCI
  isplitl [BCT]; · iexact BCT
  isplitl [BDI]; · iexact BDI
  isplitl [BDT]; · iexact BDT
  isplitl [BEI]; · iexact BEI
  isplitl [BET]; · iexact BET
  isplitl [FImg]; · iexact FImg
  isplitl [FTxt]; · iexact FTxt
  isplitl [FIe]; · iexact FIe
  isplitl [FBU]; · iexact FBU
  isplitl [FBN]; · iexact FBN
  isplitl [FCU]; · iexact FCU
  isplitl [FCN]; · iexact FCN
  isplitl [FDU]; · iexact FDU
  isplitl [FDN]; · iexact FDN
  isplitl [FEU]; · iexact FEU
  isplitl [FEN]; · iexact FEN
  isplitl [FBI]; · iexact FBI
  isplitl [FBT]; · iexact FBT
  isplitl [FCI]; · iexact FCI
  isplitl [FCT]; · iexact FCT
  isplitl [FDI]; · iexact FDI
  isplitl [FDT]; · iexact FDT
  isplitl [FEI]; · iexact FEI
  iexact FET
set_option maxHeartbeats 4000000 in
theorem phi_close (c : Dev nD) (K : (c : Dev nD) → (b : Ref sig .tc) → Buf (Elt F) ((c : Thread nD τ).loc b)) :
    held m c K ⊢ (Pipeline.ΦDRV osem0 spec0 H0 R0 (V m) K c : sProp 𝕄) := by
  unfold Pipeline.ΦDRV held
  rw [scopedRest0_eq, ownSems_eq, hbm_eq, res_eq, scr20_eq, scr21_eq, scr22_eq, scr23_eq, scr24_eq, scr25_eq, scr26_eq, scr27_eq, scr28_eq, scr29_eq]
  iintro ⟨N20, N21, N22, N23, N24, N25, N26, N27, N28, N29, A0, A1, A2, A3, A4, A5, A10, A11, BBI, BBT, BCI, BCT, BDI, BDT, BEI, BET, FImg, FTxt, FIe, FBU, FBN, FCU, FCN, FDU, FDN, FEU, FEN, FBI, FBT, FCI, FCT, FDI, FDT, FEI, FET⟩
  ihave FImg := (joinImg (F := F) c) $$ FImg
  icases FImg with ⟨TImg, cImg0, cImg1⟩
  ihave FTxt := (joinTxt (F := F) c) $$ FTxt
  icases FTxt with ⟨TTxt, cTxt0, cTxt1⟩
  ihave FIe := (joinIe (F := F) c) $$ FIe
  icases FIe with ⟨TIe, cIe0, cIe1⟩
  ihave FBU := (joinBU (F := F) c) $$ FBU
  icases FBU with ⟨TBU, cBU0, cBU1⟩
  ihave FBN := (joinBN (F := F) c) $$ FBN
  icases FBN with ⟨TBN, cBN0, cBN1⟩
  ihave FBI := (joinBI (F := F) c) $$ FBI
  icases FBI with ⟨TBI, cBI0, cBI1⟩
  ihave FBT := (joinBT (F := F) c) $$ FBT
  icases FBT with ⟨TBT, cBT0, cBT1⟩
  ihave FCU := (joinCU (F := F) c) $$ FCU
  icases FCU with ⟨TCU, cCU0, cCU1⟩
  ihave FCN := (joinCN (F := F) c) $$ FCN
  icases FCN with ⟨TCN, cCN0, cCN1⟩
  ihave FCI := (joinCI (F := F) c) $$ FCI
  icases FCI with ⟨TCI, cCI0, cCI1⟩
  ihave FCT := (joinCT (F := F) c) $$ FCT
  icases FCT with ⟨TCT, cCT0, cCT1⟩
  ihave FDU := (joinDU (F := F) c) $$ FDU
  icases FDU with ⟨TDU, cDU0, cDU1⟩
  ihave FDN := (joinDN (F := F) c) $$ FDN
  icases FDN with ⟨TDN, cDN0, cDN1⟩
  ihave FDI := (joinDI (F := F) c) $$ FDI
  icases FDI with ⟨TDI, cDI0, cDI1⟩
  ihave FDT := (joinDT (F := F) c) $$ FDT
  icases FDT with ⟨TDT, cDT0, cDT1⟩
  ihave FEU := (joinEU (F := F) c) $$ FEU
  icases FEU with ⟨TEU, cEU0, cEU1⟩
  ihave FEN := (joinEN (F := F) c) $$ FEN
  icases FEN with ⟨TEN, cEN0, cEN1⟩
  ihave FEI := (joinEI (F := F) c) $$ FEI
  icases FEI with ⟨TEI, cEI0, cEI1⟩
  ihave FET := (joinET (F := F) c) $$ FET
  icases FET with ⟨TET, cET0, cET1⟩
  isplitl [N20 N21 N22 N23 N24 N25 N26 N27 N28 N29 TImg TTxt TIe TBU TBN TBI TBT TCU TCN TCI TCT TDU TDN TDI TDT TEU TEN TEI TET]
  · isplitl [N20]; · iexact N20
    isplitl [N21]; · iexact N21
    isplitl [N22]; · iexact N22
    isplitl [N23]; · iexact N23
    isplitl [N24]; · iexact N24
    isplitl [N25]; · iexact N25
    isplitl [N26]; · iexact N26
    isplitl [N27]; · iexact N27
    isplitl [N28]; · iexact N28
    isplitl [N29]; · iexact N29
    isplitl [TImg]; · iexact TImg
    isplitl [TTxt]; · iexact TTxt
    isplitl [TIe]; · iexact TIe
    isplitl [TBU]; · iexact TBU
    isplitl [TBN]; · iexact TBN
    isplitl [TBI]; · iexact TBI
    isplitl [TBT]; · iexact TBT
    isplitl [TCU]; · iexact TCU
    isplitl [TCN]; · iexact TCN
    isplitl [TCI]; · iexact TCI
    isplitl [TCT]; · iexact TCT
    isplitl [TDU]; · iexact TDU
    isplitl [TDN]; · iexact TDN
    isplitl [TDI]; · iexact TDI
    isplitl [TDT]; · iexact TDT
    isplitl [TEU]; · iexact TEU
    isplitl [TEN]; · iexact TEN
    isplitl [TEI]; · iexact TEI
    iexact TET
  isplitl [cImg0 cImg1 cTxt0 cTxt1 cIe0 cIe1 cBU0 cBU1 cBN0 cBN1 cBI0 cBI1 cBT0 cBT1 cCU0 cCU1 cCN0 cCN1 cCI0 cCI1 cCT0 cCT1 cDU0 cDU1 cDN0 cDN1 cDI0 cDI1 cDT0 cDT1 cEU0 cEU1 cEN0 cEN1 cEI0 cEI1 cET0 cET1]
  · isplitl [cImg0]; · iexact cImg0
    isplitl [cImg1]; · iexact cImg1
    isplitl [cTxt0]; · iexact cTxt0
    isplitl [cTxt1]; · iexact cTxt1
    isplitl [cIe0]; · iexact cIe0
    isplitl [cIe1]; · iexact cIe1
    isplitl [cBU0]; · iexact cBU0
    isplitl [cBU1]; · iexact cBU1
    isplitl [cBN0]; · iexact cBN0
    isplitl [cBN1]; · iexact cBN1
    isplitl [cBI0]; · iexact cBI0
    isplitl [cBI1]; · iexact cBI1
    isplitl [cBT0]; · iexact cBT0
    isplitl [cBT1]; · iexact cBT1
    isplitl [cCU0]; · iexact cCU0
    isplitl [cCU1]; · iexact cCU1
    isplitl [cCN0]; · iexact cCN0
    isplitl [cCN1]; · iexact cCN1
    isplitl [cCI0]; · iexact cCI0
    isplitl [cCI1]; · iexact cCI1
    isplitl [cCT0]; · iexact cCT0
    isplitl [cCT1]; · iexact cCT1
    isplitl [cDU0]; · iexact cDU0
    isplitl [cDU1]; · iexact cDU1
    isplitl [cDN0]; · iexact cDN0
    isplitl [cDN1]; · iexact cDN1
    isplitl [cDI0]; · iexact cDI0
    isplitl [cDI1]; · iexact cDI1
    isplitl [cDT0]; · iexact cDT0
    isplitl [cDT1]; · iexact cDT1
    isplitl [cEU0]; · iexact cEU0
    isplitl [cEU1]; · iexact cEU1
    isplitl [cEN0]; · iexact cEN0
    isplitl [cEN1]; · iexact cEN1
    isplitl [cEI0]; · iexact cEI0
    isplitl [cEI1]; · iexact cEI1
    isplitl [cET0]; · iexact cET0
    iexact cET1
  isplitl [A0 A1 A2 A3 A4 A5 A10 A11]
  · isplitl [A0]; · iexact A0
    isplitl [A1]; · iexact A1
    isplitl [A2]; · iexact A2
    isplitl [A3]; · iexact A3
    isplitl [A4]; · iexact A4
    isplitl [A5]; · iexact A5
    isplitl [A10]; · iexact A10
    iexact A11
  isplitl [BDI]; · iexact BDI
  isplitl [BEI]; · iexact BEI
  isplitl [BCI]; · iexact BCI
  isplitl [BCT]; · iexact BCT
  isplitl [BBI]; · iexact BBI
  isplitl [BBT]; · iexact BBT
  isplitl [BDT]; · iexact BDT
  iexact BET

/-! ## The region's proof data -/

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := if t.val = 0 then held m c (V m) else held m c (G m)
  q _ := fullShare
  owed _ := 0

theorem A_eq (c : Dev nD) (w : Fin cfg0.W) : (dats m 0 c).A w = V m c (Pipeline.arrRef spec0 w) := by
  dsimp only [dats]
theorem Phi_first (c : Dev nD) (t : Fin (cfg0.N + 1)) (h : t.val = 0) : (dats m 0 c).Φ t = held m c (V m) := by
  dsimp only [dats]; exact if_pos h
theorem Phi_last (c : Dev nD) (t : Fin (cfg0.N + 1)) (h : t.val ≠ 0) : (dats m 0 c).Φ t = held m c (G m) := by
  dsimp only [dats]; exact if_neg h
theorem Phi_succ (c : Dev nD) (t : Fin cfg0.N) : (dats m 0 c).Φ t.succ = held m c (G m) :=
  Phi_last m c t.succ (by rw [Fin.val_succ]; exact Nat.succ_ne_zero _)

theorem after_w0 (c : Dev nD) (t : Fin cfg0.N) : (dats m 0 c).after 0 t = iblk m c 0 t := by dsimp only [dats]
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w1 (c : Dev nD) (t : Fin cfg0.N) : (dats m 0 c).after 1 t = iblk m c 1 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w2 (c : Dev nD) (t : Fin cfg0.N) : (dats m 0 c).after 2 t = iblk m c 2 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w3 (c : Dev nD) (t : Fin cfg0.N) : (dats m 0 c).after 3 t = iblk m c 3 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem hst0 (t : Fin cfg0.N) : (st0_0 t).IsWhole := hstage0_0 0
theorem hst1 (t : Fin cfg0.N) : (st0_1 t).IsWhole := hstage0_1 0
theorem hst2 (t : Fin cfg0.N) : (st0_2 t).IsWhole := hstage0_2 0
theorem hst3 (t : Fin cfg0.N) : (st0_3 t).IsWhole := hstage0_3 0

end Cert.Proof.KI

end
-- ==== Proof.KI.Launch.lean ====
/-
  The launch: the body in its region, and @main around it.
-/
module

public import proofs.«01_k».proof.Proof.KI.Region

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]
local notation "𝕄" => MT nD τ sig Unit (Elt F) ℕ (UU nD τ) ℕ

variable (m : (ℓ : Loc nD τ sig) → Buf (Elt F) ℓ) (ρ : Dev nD → PrngReg)

set_option maxHeartbeats 8000000 in
theorem sound_post (c : Dev nD)
    (g6 : Buf (Elt F) ((st0_0 t00).view.loc (c : Thread nD τ))) (h6 : (st0_0 t00).view.read (Elt F) g6 = iblk m c 0 t00)
    (g7 : Buf (Elt F) ((st0_1 t00).view.loc (c : Thread nD τ))) (h7 : (st0_1 t00).view.read (Elt F) g7 = iblk m c 1 t00)
    (g8 : Buf (Elt F) ((st0_2 t00).view.loc (c : Thread nD τ))) (h8 : (st0_2 t00).view.read (Elt F) g8 = iblk m c 2 t00)
    (g9 : Buf (Elt F) ((st0_3 t00).view.loc (c : Thread nD τ))) (h9 : (st0_3 t00).view.read (Elt F) g9 = iblk m c 3 t00) :
    iprop(st6 c (st0_0 t00) g6 ∗ st7 c (st0_1 t00) g7 ∗ st8 c (st0_2 t00) g8 ∗ st9 c (st0_3 t00) g9 ∗ (∃ f, own20 (F := F) c f) ∗ (∃ f, own21 (F := F) c f) ∗ (∃ f, own22 (F := F) c f) ∗ (∃ f, own23 (F := F) c f) ∗ (∃ f, own24 (F := F) c f) ∗ (∃ f, own25 (F := F) c f) ∗ (∃ f, own26 (F := F) c f) ∗ (∃ f, own27 (F := F) c f) ∗ (∃ f, own28 (F := F) c f) ∗ (∃ f, own29 (F := F) c f) ∗ (∃ W, owes (c : Thread nD τ) 0 W) ∗ ((c : Thread nD τ).loc main_arg0 ↦{fullShare} V m c main_arg0) ∗ ((c : Thread nD τ).loc main_arg1 ↦{fullShare} V m c main_arg1) ∗ ((c : Thread nD τ).loc main_arg2 ↦{fullShare} V m c main_arg2) ∗ ((c : Thread nD τ).loc main_arg3 ↦{fullShare} V m c main_arg3) ∗ ((c : Thread nD τ).loc main_arg4 ↦{fullShare} V m c main_arg4) ∗ ((c : Thread nD τ).loc main_arg5 ↦{fullShare} V m c main_arg5) ∗ ((c : Thread nD τ).loc main_v6 ↦{fullShare} V m c main_v6) ∗ ((c : Thread nD τ).loc main_v13 ↦{fullShare} V m c main_v13) ∗ ((c : Thread nD τ).loc main_v22_4 ↦{fullShare} (finBI c (V m c main_arg0) (v20 m c))) ∗ ((c : Thread nD τ).loc main_v22_5 ↦{fullShare} (finBT c (V m c main_arg0) (v20 m c))) ∗ ((c : Thread nD τ).loc main_v22_2 ↦{fullShare} (finCI c (V m c main_arg1) (v21 m c))) ∗ ((c : Thread nD τ).loc main_v22_3 ↦{fullShare} (finCT c (V m c main_arg1) (v21 m c))) ∗ ((c : Thread nD τ).loc main_v22_0 ↦{fullShare} (finDI c (V m c main_arg0) (V m c main_arg4) (v25 m c) (outB_23 c (V m c main_arg0) (v20 m c)) (outB_24 c (V m c main_arg0) (v20 m c)) (outB_22 c (V m c main_arg0) (V m c main_v6) (v20 m c)))) ∗ ((c : Thread nD τ).loc main_v22_6 ↦{fullShare} (finDT c (V m c main_arg0) (v25 m c) (outB_23 c (V m c main_arg0) (v20 m c)) (outB_24 c (V m c main_arg0) (v20 m c)))) ∗ ((c : Thread nD τ).loc main_v22_1 ↦{fullShare} (finEI c (V m c main_arg1) (V m c main_arg5) (v29 m c) (outC_27 c (V m c main_arg1) (v21 m c)) (outC_28 c (V m c main_arg1) (v21 m c)) (outC_26 c (V m c main_arg1) (V m c main_v13) (v21 m c)))) ∗ ((c : Thread nD τ).loc main_v22_7 ↦{fullShare} (finET c (V m c main_arg1) (v29 m c) (outC_27 c (V m c main_arg1) (v21 m c)) (outC_28 c (V m c main_arg1) (v21 m c)))) ∗ freeImg (F := F) c ∗ freeTxt (F := F) c ∗ freeIe (F := F) c ∗ freeBU (F := F) c ∗ freeBN (F := F) c ∗ freeCU (F := F) c ∗ freeCN (F := F) c ∗ freeDU (F := F) c ∗ freeDN (F := F) c ∗ freeEU (F := F) c ∗ freeEN (F := F) c ∗ freeBI (F := F) c ∗ freeBT (F := F) c ∗ freeCI (F := F) c ∗ freeCT (F := F) c ∗ freeDI (F := F) c ∗ freeDT (F := F) c ∗ freeEI (F := F) c ∗ freeET (F := F) c)
      ⊢ bodyPost m c t00 := by
  unfold bodyPost
  rw [Phi_succ m c t00]
  unfold Dat.owesAt Pipeline.owesWithin held
  rw [show (dats m 0 c).owed t00.succ = 0 from rfl, G_BI, G_BT, G_CI, G_CT, G_DI, G_DT, G_EI, G_ET]
  iintro ⟨S6, S7, S8, S9, N20, N21, N22, N23, N24, N25, N26, N27, N28, N29, ⟨%W', HW⟩, A0, A1, A2, A3, A4, A5, A10, A11, BBI, BBT, BCI, BCT, BDI, BDT, BEI, BET, FImg, FTxt, FIe, FBU, FBN, FCU, FCN, FDU, FDN, FEU, FEN, FBI, FBT, FCI, FCT, FDI, FDT, FEI, FET⟩
  isplitl [N20 N21 N22 N23 N24 N25 N26 N27 N28 N29 A0 A1 A2 A3 A4 A5 A10 A11 BBI BBT BCI BCT BDI BDT BEI BET FImg FTxt FIe FBU FBN FCU FCN FDU FDN FEU FEN FBI FBT FCI FCT FDI FDT FEI FET]
  · isplitl [N20]; · iexact N20
    isplitl [N21]; · iexact N21
    isplitl [N22]; · iexact N22
    isplitl [N23]; · iexact N23
    isplitl [N24]; · iexact N24
    isplitl [N25]; · iexact N25
    isplitl [N26]; · iexact N26
    isplitl [N27]; · iexact N27
    isplitl [N28]; · iexact N28
    isplitl [N29]; · iexact N29
    isplitl [A0]; · iexact A0
    isplitl [A1]; · iexact A1
    isplitl [A2]; · iexact A2
    isplitl [A3]; · iexact A3
    isplitl [A4]; · iexact A4
    isplitl [A5]; · iexact A5
    isplitl [A10]; · iexact A10
    isplitl [A11]; · iexact A11
    isplitl [BBI]; · iexact BBI
    isplitl [BBT]; · iexact BBT
    isplitl [BCI]; · iexact BCI
    isplitl [BCT]; · iexact BCT
    isplitl [BDI]; · iexact BDI
    isplitl [BDT]; · iexact BDT
    isplitl [BEI]; · iexact BEI
    isplitl [BET]; · iexact BET
    isplitl [FImg]; · iexact FImg
    isplitl [FTxt]; · iexact FTxt
    isplitl [FIe]; · iexact FIe
    isplitl [FBU]; · iexact FBU
    isplitl [FBN]; · iexact FBN
    isplitl [FCU]; · iexact FCU
    isplitl [FCN]; · iexact FCN
    isplitl [FDU]; · iexact FDU
    isplitl [FDN]; · iexact FDN
    isplitl [FEU]; · iexact FEU
    isplitl [FEN]; · iexact FEN
    isplitl [FBI]; · iexact FBI
    isplitl [FBT]; · iexact FBT
    isplitl [FCI]; · iexact FCI
    isplitl [FCT]; · iexact FCT
    isplitl [FDI]; · iexact FDI
    isplitl [FDT]; · iexact FDT
    isplitl [FEI]; · iexact FEI
    iexact FET
  isplitl [HW]
  · iexists W'; isplitr; · ipureintro; exact fun _ _ => Or.inl trivial
    iexact HW
  isplitl [S6]
  · unfold owns; iexists g6; isplitr; · ipureintro; exact h6.trans (after_w0 m c t00).symm
    iexact S6
  isplitl [S7]
  · unfold owns; iexists g7; isplitr; · ipureintro; exact h7.trans (after_w1 m c t00).symm
    iexact S7
  isplitl [S8]
  · unfold owns; iexists g8; isplitr; · ipureintro; exact h8.trans (after_w2 m c t00).symm
    iexact S8
  unfold owns; iexists g9; isplitr; · ipureintro; exact h9.trans (after_w3 m c t00).symm
  iexact S9

set_option maxHeartbeats 4000000 in
set_option maxHeartbeats 8000000 in
theorem sound_body (c : Dev nD) :
    bodyPre m c t00 ⊢ wp frame (wpE (defs₀ (F := F)) 𝒱₀ (c : Thread nD τ) none) Set.univ (bodyAt0 t00) (fun _ => bodyPost m c t00) := by
  unfold bodyPre bodyAt0
  rw [Phi_first m c t00.castSucc rfl]
  unfold Dat.owesAt Pipeline.owesWithin held owns
  rw [show (dats m 0 c).owed t00.castSucc = 0 from rfl]
  iintro ⟨⟨N20, N21, N22, N23, N24, N25, N26, N27, N28, N29, A0, A1, A2, A3, A4, A5, A10, A11, BBI, BBT, BCI, BCT, BDI, BDT, BEI, BET, FImg, FTxt, FIe, FBU, FBN, FCU, FCN, FDU, FDN, FEU, FEN, FBI, FBT, FCI, FCT, FDI, FDT, FEI, FET⟩, ⟨%W, -, HW⟩, ⟨%d0, %g6, %h6, S6⟩, ⟨%d1, %g7, %h7, S7⟩, ⟨%d2, %g8, %h8, S8⟩, ⟨%d3, %g9, %h9, S9⟩⟩
  rw [before_w0] at h6; rw [before_w1] at h7; rw [before_w2] at h8; rw [before_w3] at h9
  have e6 : wI c (st0_0 t00) g6 = iblk m c 0 t00 := (readAll _ _ _).trans h6
  have e7 : bI c (st0_1 t00) g7 = iblk m c 1 t00 := (readAll _ _ _).trans h7
  have e8 : wT c (st0_2 t00) g8 = iblk m c 2 t00 := (readAll _ _ _).trans h8
  have e9 : bT c (st0_3 t00) g9 = iblk m c 3 t00 := (readAll _ _ _).trans h9
  iapply (Idealize.SL.Sem.wp_mono _ _ _ (fun _ => sound_post m c g6 h6 g7 h7 g8 h8 g9 h9))
  iapply (bodyRun c (st0_0 t00) (hst0 t00) (st0_1 t00) (hst1 t00) (st0_2 t00) (hst2 t00) (st0_3 t00) (hst3 t00) g6 g7 g8 g9 (V m c main_arg0) (V m c main_arg1) (V m c main_arg2) (V m c main_arg3) (V m c main_arg4) (V m c main_arg5) (V m c main_v6) (V m c main_v13) (V m c main_v22_4) (V m c main_v22_5) (V m c main_v22_2) (V m c main_v22_3) (V m c main_v22_0) (V m c main_v22_6) (V m c main_v22_1) (V m c main_v22_7) (v20 m c) (v21 m c) (v25 m c) (v29 m c) (by unfold v20; rw [e6, e7, e8, e9]) rfl rfl rfl)
  isplitl [S6]; · iexact S6
  isplitl [S7]; · iexact S7
  isplitl [S8]; · iexact S8
  isplitl [S9]; · iexact S9
  isplitl [N20]; · iexact N20
  isplitl [N21]; · iexact N21
  isplitl [N22]; · iexact N22
  isplitl [N23]; · iexact N23
  isplitl [N24]; · iexact N24
  isplitl [N25]; · iexact N25
  isplitl [N26]; · iexact N26
  isplitl [N27]; · iexact N27
  isplitl [N28]; · iexact N28
  isplitl [N29]; · iexact N29
  isplitl [HW]; · iexists W; iexact HW
  isplitl [A0]; · iexact A0
  isplitl [A1]; · iexact A1
  isplitl [A2]; · iexact A2
  isplitl [A3]; · iexact A3
  isplitl [A4]; · iexact A4
  isplitl [A5]; · iexact A5
  isplitl [A10]; · iexact A10
  isplitl [A11]; · iexact A11
  isplitl [BBI]; · iexact BBI
  isplitl [BBT]; · iexact BBT
  isplitl [BCI]; · iexact BCI
  isplitl [BCT]; · iexact BCT
  isplitl [BDI]; · iexact BDI
  isplitl [BDT]; · iexact BDT
  isplitl [BEI]; · iexact BEI
  isplitl [BET]; · iexact BET
  isplitl [FImg]; · iexact FImg
  isplitl [FTxt]; · iexact FTxt
  isplitl [FIe]; · iexact FIe
  isplitl [FBU]; · iexact FBU
  isplitl [FBN]; · iexact FBN
  isplitl [FCU]; · iexact FCU
  isplitl [FCN]; · iexact FCN
  isplitl [FDU]; · iexact FDU
  isplitl [FDN]; · iexact FDN
  isplitl [FEU]; · iexact FEU
  isplitl [FEN]; · iexact FEN
  isplitl [FBI]; · iexact FBI
  isplitl [FBT]; · iexact FBT
  isplitl [FCI]; · iexact FCI
  isplitl [FCT]; · iexact FCT
  isplitl [FDI]; · iexact FDI
  isplitl [FDT]; · iexact FDT
  isplitl [FEI]; · iexact FEI
  iexact FET

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  obtain rfl := point_eq t
  rw [bigSep_W0, bigSep_W0, defs₀_row]
  exact triple_restated (sound_body m c) rfl .rfl fun _ => .rfl

/-! ## @main -/

set_option maxHeartbeats 800000 in
theorem hmainD : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- What the run leaves in the unscoped buffers. -/
def endV (c : Dev nD) (b : Ref sig .tc) : Buf (Elt F) ((c : Thread nD τ).loc b) :=
  StableHlo.after ([hostOps1] : List (List (HloOp τ sig (Elt F)))).flatten (Pipeline.withArrays spec0 c (Pipeline.withR (V0 m c) R0 c (G m c)) fun w => (dats m 0 c).arrAt w cfg0.N) (Proc.devRef .tc b)

set_option backward.isDefEq.respectTransparency.types false in
theorem run_main : θ_run defs (onTc (τ := τ) (main (F := F))) (s₀ m ρ) (fun r => (∀ c : Dev nD, ∀ b ∈ Pipeline.restRefs sig spec0,
      r.2.mem ((c.tc : Thread nD τ).loc b) = endV m c b) ∧ r.2.sem = fun _ => 0) :=
  Pipeline.θ_run_frame_dmaR_aroundV cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m) (hA := A_eq m)
    (hin := fun c => (phi_open m c (V m)).trans (entails_of_eq (Phi_first m c 0 rfl).symm))
    (hout := fun c => (entails_of_eq (Phi_last m c (Fin.last cfg0.N) (by decide))).trans (phi_close m c (G m)))
    (Q' := _) (hQ' := fun r h => ⟨fun c b hb => (h.1 c).2 b hb, h.2⟩)

/-- A buffer that neither the kernel nor the host lines after it write ends as the region found it. -/
theorem endV_rest (c : Dev nD) (b : Ref sig .tc) (hb : b ∉ R0) (hw : ∀ w, Pipeline.arrRef spec0 w ≠ b) (h5 : b ≠ main_cst_5) :
    endV m c b = V m c b := by
  unfold endV
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, Finset.mem_singleton]
      exact StableHlo.devRef_ne_of_ne h5)),
    Pipeline.withArrays_of_ne _ c _ _ b hw, Pipeline.withR_of_not_mem _ _ _ _ b hb]
/-- A result of the kernel ends as the kernel leaves it. -/
theorem endV_res (c : Dev nD) (b : Ref sig .tc) (hb : b ∈ R0) (hw : ∀ w, Pipeline.arrRef spec0 w ≠ b) (h5 : b ≠ main_cst_5) :
    endV m c b = G m c b := by
  unfold endV
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, Finset.mem_singleton]
      exact StableHlo.devRef_ne_of_ne h5)),
    Pipeline.withArrays_of_ne _ c _ _ b hw, Pipeline.withR_of_mem _ _ _ _ b hb]

/-- The arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨(h.1 c main_arg0 (Pipeline.mem_restRefs_of main_arg0 (by decide) (by decide))).trans ((endV_rest m c main_arg0 (by decide) (by decide) (by decide)).trans (V_main_arg0 m c)),
      (h.1 c main_arg1 (Pipeline.mem_restRefs_of main_arg1 (by decide) (by decide))).trans ((endV_rest m c main_arg1 (by decide) (by decide) (by decide)).trans (V_main_arg1 m c)),
      (h.1 c main_arg2 (Pipeline.mem_restRefs_of main_arg2 (by decide) (by decide))).trans ((endV_rest m c main_arg2 (by decide) (by decide) (by decide)).trans (V_main_arg2 m c)),
      (h.1 c main_arg3 (Pipeline.mem_restRefs_of main_arg3 (by decide) (by decide))).trans ((endV_rest m c main_arg3 (by decide) (by decide) (by decide)).trans (V_main_arg3 m c)),
      (h.1 c main_arg4 (Pipeline.mem_restRefs_of main_arg4 (by decide) (by decide))).trans ((endV_rest m c main_arg4 (by decide) (by decide) (by decide)).trans (V_main_arg4 m c)),
      (h.1 c main_arg5 (Pipeline.mem_restRefs_of main_arg5 (by decide) (by decide))).trans ((endV_rest m c main_arg5 (by decide) (by decide) (by decide)).trans (V_main_arg5 m c)),
      (h.1 c main_arg6 (Pipeline.mem_restRefs_of main_arg6 (by decide) (by decide))).trans ((endV_rest m c main_arg6 (by decide) (by decide) (by decide)).trans (V_main_arg6 m c)),
      (h.1 c main_arg7 (Pipeline.mem_restRefs_of main_arg7 (by decide) (by decide))).trans ((endV_rest m c main_arg7 (by decide) (by decide) (by decide)).trans (V_main_arg7 m c)),
      (h.1 c main_arg8 (Pipeline.mem_restRefs_of main_arg8 (by decide) (by decide))).trans ((endV_rest m c main_arg8 (by decide) (by decide) (by decide)).trans (V_main_arg8 m c)),
      (h.1 c main_arg9 (Pipeline.mem_restRefs_of main_arg9 (by decide) (by decide))).trans ((endV_rest m c main_arg9 (by decide) (by decide) (by decide)).trans (V_main_arg9 m c)),
      (h.1 c main_arg10 (Pipeline.mem_restRefs_of main_arg10 (by decide) (by decide))).trans ((endV_rest m c main_arg10 (by decide) (by decide) (by decide)).trans (V_main_arg10 m c)),
      (h.1 c main_arg11 (Pipeline.mem_restRefs_of main_arg11 (by decide) (by decide))).trans ((endV_rest m c main_arg11 (by decide) (by decide) (by decide)).trans (V_main_arg11 m c))⟩, h.2⟩) (run_main m ρ)

end Cert.Proof.KI

end
-- ==== Proof.Ref.Frame.lean ====
module

public import proofs.«01_k».proof.Defs
public import proofs.«01_k».proof.Proof.Gen.ReferenceIdeal
public import proofs.«01_k».proof.Proof.Gen.ReferenceIdeal.Run

/-!
# The reference's run, and the two rules' statements

The reference has no kernel: its generated run gives its arguments back unchanged, and it declares no semaphore.
-/

@[expose] public section

noncomputable section
namespace Cert.Proof
open Idealize.ShloMosaic Idealize.ShloMosaic.StableHlo

/-- The reference terminates, its arguments unchanged. -/
theorem frame_reference : Cert.quiescent_ReferenceIdeal := by
  intro m ρ _
  refine (θ_run Cert.ReferenceIdeal.defs _ _).mono (fun r h => ⟨fun c => ?_,
      Idealize.ShloMosaic.sem_eq_zero_of_no_sems (by decide) r.2⟩) (Cert.ReferenceIdeal.Value.run (F := Ideal) m ρ)
  have h' := h c
  obtain ⟨-, -, -, -, -, -, -, -, -, -, -, h'⟩ := h'
  exact h'

/-- The sign read through the word and the named third are what the rules say. -/
theorem preserves : Cert.preserves_Kernel_KernelIdeal :=
  ⟨IdealRules.sign_bit.statement _ _, IdealRules.sign_bit.statement _ _,
    IdealRules.named_const.statement Cert.KernelIdeal.κ "third" .f32 0x3EAAAAAB#32 _ rfl⟩

end Cert.Proof

end

end
-- ==== Proof.Val.Rows.lean ====
/-
  Rows of the arrays: a block of a pipeline is rows of the array it is read from.
-/
module

public import proofs.«01_k».proof.Proof.KI.Canon
public import Idealize.ShloMosaic.Lib.Pointwise

@[expose] public section

noncomputable section

namespace Cert.Proof.Val

open Cert.KernelIdeal Cert.KernelIdeal.Gen
open Cert.Proof.KI hiding ix2 ix2_eta
open Idealize.ShloMosaic
open Idealize.ShloMosaic.TcCoe

/-- Row `r` of block `k`, of `NB` blocks of `W` rows, as a row of the whole array. -/
def row {W NB R : ℕ} (h : W * NB = R) (k : ℕ) (hk : k < NB) (r : Fin W) : Fin R :=
  ⟨W * k + r.val, by
    have h1 : W * (k + 1) ≤ W * NB := Nat.mul_le_mul_left W hk
    have h2 := r.isLt
    rw [Nat.mul_succ] at h1
    omega⟩

theorem ix2_base {R D : ℕ} (i : Fin R) (j : Fin D) : Cert.Proof.KI.ix2 i j = ix2 i j := by
  funext d; match d with | ⟨0, _⟩ => rfl | ⟨1, _⟩ => rfl

/-- A stack of blocks is the array each of the blocks is the rows of. -/
theorem stack_eq {α : Type} {W NB R D : ℕ} (hW : 0 < W) (h : W * NB = R) (blk : ℕ → (⟨2, ![W, D]⟩ : Shape).Idx → α)
    (E : (⟨2, ![R, D]⟩ : Shape).Idx → α)
    (H : ∀ (k : ℕ) (hk : k < NB) (r : Fin W) (l : Fin D), blk k (ix2 r l) = E (ix2 (row h k hk r) l)) :
    stack hW blk = E := by
  funext y
  have hy : (y 0).val < W * NB := by rw [h]; exact (y 0).isLt
  have hk : (y 0).val / W < NB := Nat.div_lt_of_lt_mul hy
  refine (congrArg (blk ((y 0).val / W)) (ix2_base ⟨(y 0).val % W, Nat.mod_lt _ hW⟩ (y 1 : Fin D))).trans ?_
  refine (H _ hk _ _).trans (congrArg E ?_)
  funext d
  match d with
  | ⟨0, _⟩ => exact Fin.ext (Nat.div_add_mod (y 0).val W)
  | ⟨1, _⟩ => rfl

theorem rdImg (c : Dev nD) (X : Buf (Elt Ideal) ((Memref.whole main_arg2 : Memref sig .tc .hbm _ _).view.loc (c : Thread nD τ))) (k : ℕ) (hk : k < 8) (r : Fin 512) (l : Fin 4096) :
    (blkImg (Ring.bk 8 k)).view.read (Elt Ideal) X (ix2 r l) = (X : S4096x4096.Idx → Elt Ideal .f32) (ix2 (row (W := 512) (NB := 8) (R := 4096) rfl k hk r) l) := by
  rw [Ring.bk_eq_mk hk]
  refine congrArg (X : S4096x4096.Idx → Elt Ideal .f32) ?_
  funext d
  match d with
  | ⟨0, _⟩ => exact Fin.ext (by show 512 * k + 1 * r.val = 512 * k + r.val; omega)
  | ⟨1, _⟩ => exact Fin.ext (by show 0 + 1 * l.val = l.val; omega)

theorem rdTxt (c : Dev nD) (X : Buf (Elt Ideal) ((Memref.whole main_arg3 : Memref sig .tc .hbm _ _).view.loc (c : Thread nD τ))) (k : ℕ) (hk : k < 8) (r : Fin 512) (l : Fin 384) :
    (blkTxt (Ring.bk 8 k)).view.read (Elt Ideal) X (ix2 r l) = (X : S4096x384.Idx → Elt Ideal .f32) (ix2 (row (W := 512) (NB := 8) (R := 4096) rfl k hk r) l) := by
  rw [Ring.bk_eq_mk hk]
  refine congrArg (X : S4096x384.Idx → Elt Ideal .f32) ?_
  funext d
  match d with
  | ⟨0, _⟩ => exact Fin.ext (by show 512 * k + 1 * r.val = 512 * k + r.val; omega)
  | ⟨1, _⟩ => exact Fin.ext (by show 0 + 1 * l.val = l.val; omega)

theorem rdIe (c : Dev nD) (X : Buf (Elt Ideal) ((Memref.whole main_arg5 : Memref sig .tc .hbm _ _).view.loc (c : Thread nD τ))) (k : ℕ) (hk : k < 8) (r : Fin 512) (l : Fin 64) :
    (blkIe (Ring.bk 8 k)).view.read (Elt Ideal) X (ix2 r l) = (X : S4096x64.Idx → Elt Ideal .f32) (ix2 (row (W := 512) (NB := 8) (R := 4096) rfl k hk r) l) := by
  rw [Ring.bk_eq_mk hk]
  refine congrArg (X : S4096x64.Idx → Elt Ideal .f32) ?_
  funext d
  match d with
  | ⟨0, _⟩ => exact Fin.ext (by show 512 * k + 1 * r.val = 512 * k + r.val; omega)
  | ⟨1, _⟩ => exact Fin.ext (by show 0 + 1 * l.val = l.val; omega)

theorem rdBU (c : Dev nD) (X : Buf (Elt Ideal) ((Memref.whole main_arg0 : Memref sig .tc .hbm _ _).view.loc (c : Thread nD τ))) (k : ℕ) (hk : k < 16) (r : Fin 512) (l : Fin 4096) :
    (blkBU (Ring.bk 16 k)).view.read (Elt Ideal) X (ix2 r l) = (X : S8192x4096.Idx → Elt Ideal .f32) (ix2 (row (W := 512) (NB := 16) (R := 8192) rfl k hk r) l) := by
  rw [Ring.bk_eq_mk hk]
  refine congrArg (X : S8192x4096.Idx → Elt Ideal .f32) ?_
  funext d
  match d with
  | ⟨0, _⟩ => exact Fin.ext (by show 512 * k + 1 * r.val = 512 * k + r.val; omega)
  | ⟨1, _⟩ => exact Fin.ext (by show 0 + 1 * l.val = l.val; omega)

theorem rdBN (c : Dev nD) (X : Buf (Elt Ideal) ((Memref.whole main_v6 : Memref sig .tc .hbm _ _).view.loc (c : Thread nD τ))) (k : ℕ) (hk : k < 16) (r : Fin 512) (l : Fin 64) :
    (blkBN (Ring.bk 16 k)).view.read (Elt Ideal) X (ix2 r l) = (X : S8192x64.Idx → Elt Ideal .f32) (ix2 (row (W := 512) (NB := 16) (R := 8192) rfl k hk r) l) := by
  rw [Ring.bk_eq_mk hk]
  refine congrArg (X : S8192x64.Idx → Elt Ideal .f32) ?_
  funext d
  match d with
  | ⟨0, _⟩ => exact Fin.ext (by show 512 * k + 1 * r.val = 512 * k + r.val; omega)
  | ⟨1, _⟩ => exact Fin.ext (by show 0 + 1 * l.val = l.val; omega)

theorem rdCU (c : Dev nD) (X : Buf (Elt Ideal) ((Memref.whole main_arg1 : Memref sig .tc .hbm _ _).view.loc (c : Thread nD τ))) (k : ℕ) (hk : k < 16) (r : Fin 256) (l : Fin 8192) :
    (blkCU (Ring.bk 16 k)).view.read (Elt Ideal) X (ix2 r l) = (X : S4096x8192.Idx → Elt Ideal .f32) (ix2 (row (W := 256) (NB := 16) (R := 4096) rfl k hk r) l) := by
  rw [Ring.bk_eq_mk hk]
  refine congrArg (X : S4096x8192.Idx → Elt Ideal .f32) ?_
  funext d
  match d with
  | ⟨0, _⟩ => exact Fin.ext (by show 256 * k + 1 * r.val = 256 * k + r.val; omega)
  | ⟨1, _⟩ => exact Fin.ext (by show 0 + 1 * l.val = l.val; omega)

theorem rdCN (c : Dev nD) (X : Buf (Elt Ideal) ((Memref.whole main_v13 : Memref sig .tc .hbm _ _).view.loc (c : Thread nD τ))) (k : ℕ) (hk : k < 16) (r : Fin 256) (l : Fin 64) :
    (blkCN (Ring.bk 16 k)).view.read (Elt Ideal) X (ix2 r l) = (X : S4096x64.Idx → Elt Ideal .f32) (ix2 (row (W := 256) (NB := 16) (R := 4096) rfl k hk r) l) := by
  rw [Ring.bk_eq_mk hk]
  refine congrArg (X : S4096x64.Idx → Elt Ideal .f32) ?_
  funext d
  match d with
  | ⟨0, _⟩ => exact Fin.ext (by show 256 * k + 1 * r.val = 256 * k + r.val; omega)
  | ⟨1, _⟩ => exact Fin.ext (by show 0 + 1 * l.val = l.val; omega)

theorem rdDU (c : Dev nD) (X : Buf (Elt Ideal) ((Memref.whole main_arg0 : Memref sig .tc .hbm _ _).view.loc (c : Thread nD τ))) (k : ℕ) (hk : k < 16) (r : Fin 512) (l : Fin 4096) :
    (blkDU (Ring.bk 16 k)).view.read (Elt Ideal) X (ix2 r l) = (X : S8192x4096.Idx → Elt Ideal .f32) (ix2 (row (W := 512) (NB := 16) (R := 8192) rfl k hk r) l) := by
  rw [Ring.bk_eq_mk hk]
  refine congrArg (X : S8192x4096.Idx → Elt Ideal .f32) ?_
  funext d
  match d with
  | ⟨0, _⟩ => exact Fin.ext (by show 512 * k + 1 * r.val = 512 * k + r.val; omega)
  | ⟨1, _⟩ => exact Fin.ext (by show 0 + 1 * l.val = l.val; omega)

theorem rdDN (c : Dev nD) (X : Buf (Elt Ideal) ((Memref.whole main_arg4 : Memref sig .tc .hbm _ _).view.loc (c : Thread nD τ))) (k : ℕ) (hk : k < 16) (r : Fin 512) (l : Fin 64) :
    (blkDN (Ring.bk 16 k)).view.read (Elt Ideal) X (ix2 r l) = (X : S8192x64.Idx → Elt Ideal .f32) (ix2 (row (W := 512) (NB := 16) (R := 8192) rfl k hk r) l) := by
  rw [Ring.bk_eq_mk hk]
  refine congrArg (X : S8192x64.Idx → Elt Ideal .f32) ?_
  funext d
  match d with
  | ⟨0, _⟩ => exact Fin.ext (by show 512 * k + 1 * r.val = 512 * k + r.val; omega)
  | ⟨1, _⟩ => exact Fin.ext (by show 0 + 1 * l.val = l.val; omega)

theorem rdEU (c : Dev nD) (X : Buf (Elt Ideal) ((Memref.whole main_arg1 : Memref sig .tc .hbm _ _).view.loc (c : Thread nD τ))) (k : ℕ) (hk : k < 16) (r : Fin 256) (l : Fin 8192) :
    (blkEU (Ring.bk 16 k)).view.read (Elt Ideal) X (ix2 r l) = (X : S4096x8192.Idx → Elt Ideal .f32) (ix2 (row (W := 256) (NB := 16) (R := 4096) rfl k hk r) l) := by
  rw [Ring.bk_eq_mk hk]
  refine congrArg (X : S4096x8192.Idx → Elt Ideal .f32) ?_
  funext d
  match d with
  | ⟨0, _⟩ => exact Fin.ext (by show 256 * k + 1 * r.val = 256 * k + r.val; omega)
  | ⟨1, _⟩ => exact Fin.ext (by show 0 + 1 * l.val = l.val; omega)

theorem rdEN (c : Dev nD) (X : Buf (Elt Ideal) ((Memref.whole main_arg5 : Memref sig .tc .hbm _ _).view.loc (c : Thread nD τ))) (k : ℕ) (hk : k < 16) (r : Fin 256) (l : Fin 64) :
    (blkEN (Ring.bk 16 k)).view.read (Elt Ideal) X (ix2 r l) = (X : S4096x64.Idx → Elt Ideal .f32) (ix2 (row (W := 256) (NB := 16) (R := 4096) rfl k hk r) l) := by
  rw [Ring.bk_eq_mk hk]
  refine congrArg (X : S4096x64.Idx → Elt Ideal .f32) ?_
  funext d
  match d with
  | ⟨0, _⟩ => exact Fin.ext (by show 256 * k + 1 * r.val = 256 * k + r.val; omega)
  | ⟨1, _⟩ => exact Fin.ext (by show 0 + 1 * l.val = l.val; omega)

end Cert.Proof.Val
-- ==== Proof.Val.Spec.lean ====
/-
  The matrices the two programs compute, over the extended reals.
-/
module

public import proofs.«01_k».proof.Proof.Val.Rows

@[expose] public section

noncomputable section

namespace Cert.Proof.Val

open Cert.KernelIdeal Cert.KernelIdeal.Gen
open Cert.Proof.KI hiding ix2 ix2_eta
open Idealize.ShloMosaic
open Idealize.ShloMosaic.TcCoe

/-- A matrix of extended reals. -/
abbrev Mat (R D : ℕ) : Type := (⟨2, ![R, D]⟩ : Shape).Idx → EReal
/-- The product of two matrices. -/
def mm {R K D : ℕ} (A : Mat R K) (B : Mat K D) : Mat R D := fun j => ∑ t : Fin K, A (ix2 (j 0) t) * B (ix2 t (j 1))
/-- A matrix's columns from column `o` on. -/
def cols {R D E : ℕ} (o : ℕ) (h : o + E ≤ D) (A : Mat R D) : Mat R E :=
  fun j => A (ix2 (j 0) ⟨o + (j 1).val, by have h1 : (j 1).val < E := (j 1).isLt; omega⟩)
/-- Each row divided by its length. -/
def nrm {R D : ℕ} (X : Mat R D) : Mat R D := fun j =>
  Ideal.div (X j) (max (Ideal.ofBits .f32 0x2B8CBCCC#32) (Ideal.sqrt (∑ t : Fin D, X (ix2 (j 0) t) * X (ix2 (j 0) t))))
/-- A matrix moved along the sign of its entries by a fifth of the noise. -/
def noisy {R D : ℕ} (X N : Mat R D) : Mat R D := fun j =>
  X j + Ideal.sign (X j) * N j * Ideal.ofBits .f32 0x3E4CCCCD#32
/-- The image and the text part put together. -/
def mixed {R D : ℕ} (A B : Mat R D) : Mat R D := fun j =>
  Ideal.ofBits .f32 0x3F0CCCCD#32 * nrm A j + Ideal.ofBits .f32 0x3F0CCCCD#32 * nrm B j
/-- The mean of three matrices, and a fourth added. -/
def mean3 {R D : ℕ} (A B C M : Mat R D) : Mat R D := fun j => (A j + B j + C j) * ((1 / 3 : ℝ) : EReal) + M j

/-- The entry of three matrices side by side. -/
def pick3 {R : ℕ} (A B C : Mat R 64) (i : Fin R) (l : ℕ) (hl : l < 192) : EReal :=
  if h : l < 64 then A (ix2 i ⟨l, h⟩)
  else if h' : l - 64 < 64 then B (ix2 i ⟨l - 64, h'⟩)
  else C (ix2 i ⟨l - 64 - 64, by omega⟩)
/-- Three matrices side by side. -/
def cat3 {R : ℕ} (A B C : Mat R 64) : Mat R 192 := fun j => pick3 A B C (j 0) (j 1).val (j 1).isLt
/-- Features projected: a product, and a row added to each row. -/
def proj {R K D : ℕ} (X : Mat R K) (W : Mat K D) (b : Mat 1 D) : Mat R D := fun j => mm X W j + b (ix2 0 (j 1))

/-- Columns of a product are a product with columns. -/
theorem cols_mm {R K D E : ℕ} (o : ℕ) (h : o + E ≤ D) (A : Mat R K) (B : Mat K D) :
    cols (E := E) o h (mm A B) = mm A (cols o h B) := rfl
/-- The first of three matrices side by side. -/
theorem cols0_cat3 {R : ℕ} (A B C : Mat R 64) : cols (E := 64) 0 (by decide) (cat3 A B C) = A := by
  funext j
  have h : (j 1).val < 64 := (j 1).isLt
  show pick3 A B C (j 0) (0 + (j 1).val) (by omega) = _
  unfold pick3
  rw [dif_pos (by omega)]
  refine congrArg A ?_
  funext d
  match d with
  | ⟨0, _⟩ => rfl
  | ⟨1, _⟩ => exact Fin.ext (Nat.zero_add _)
/-- The second. -/
theorem cols64_cat3 {R : ℕ} (A B C : Mat R 64) : cols (E := 64) 64 (by decide) (cat3 A B C) = B := by
  funext j
  have h : (j 1).val < 64 := (j 1).isLt
  show pick3 A B C (j 0) (64 + (j 1).val) (by omega) = _
  unfold pick3
  rw [dif_neg (by omega), dif_pos (by omega)]
  refine congrArg B ?_
  funext d
  match d with
  | ⟨0, _⟩ => rfl
  | ⟨1, _⟩ => exact Fin.ext (show 64 + (j 1).val - 64 = (j 1).val by omega)
/-- The third. -/
theorem cols128_cat3 {R : ℕ} (A B C : Mat R 64) : cols (E := 64) 128 (by decide) (cat3 A B C) = C := by
  funext j
  have h : (j 1).val < 64 := (j 1).isLt
  show pick3 A B C (j 0) (128 + (j 1).val) (by omega) = _
  unfold pick3
  rw [dif_neg (by omega), dif_neg (by omega)]
  refine congrArg C ?_
  funext d
  match d with
  | ⟨0, _⟩ => rfl
  | ⟨1, _⟩ => exact Fin.ext (show 128 + (j 1).val - 64 - 64 = (j 1).val by omega)

/-- A matrix turned over. -/
def tr {K : ℕ} (W : Mat 64 K) : Mat K 64 := fun j => W (ix2 (j 1) (j 0))
/-- A list of numbers as a row. -/
def bias (b : (⟨1, ![64]⟩ : Shape).Idx → EReal) : Mat 1 64 := fun j => b (ix1 (j 1))

/-- The constant the second program names is a third. -/
theorem third : Named.named (F := Ideal) (φ := .f32) κ "third" 0x3EAAAAAB#32 = ((1 / 3 : ℝ) : EReal) :=
  IdealRules.named_const.ideal_named_scalar κ "third" (φ := .f32) 0x3EAAAAAB#32 _ rfl
/-- The sign as the kernel selects it. -/
theorem sign_form (a : Ideal .f32) :
    (if 0 < FloatOps.absf a then (if a < 0 then Ideal.ofBits .f32 0xBF800000#32 else 1) else a) = Ideal.sign a := by
  rw [show Ideal.ofBits .f32 0xBF800000#32 = -1 from IdealRules.sign_bit.ideal_negOnePat .f32, Ideal.absf_def]
  by_cases hlt : a < 0
  · simp [hlt, (Ideal.zero_lt_max_neg_iff _).mpr hlt.ne, Ideal.sign_of_neg hlt]
  · by_cases hgt : 0 < a
    · simp [hlt, (Ideal.zero_lt_max_neg_iff _).mpr hgt.ne', Ideal.sign_of_pos hgt]
    · have h0 : a = 0 := le_antisymm (not_lt.mp hgt) (not_lt.mp hlt)
      simp [h0, Ideal.sign_zero]

end Cert.Proof.Val
-- ==== Proof.Val.RefVal.lean ====
/-
  The reference's arrays as matrices.
-/
module

public import proofs.«01_k».proof.Proof.Val.Spec
public import proofs.«01_k».proof.Proof.Gen.ReferenceIdeal.Run

@[expose] public section

noncomputable section

namespace Cert.Proof.Val

open Cert.ReferenceIdeal Cert.ReferenceIdeal.Value
open Idealize.ShloMosaic
open Idealize.ShloMosaic.TcCoe

theorem eps_pos : (0 : EReal) < Ideal.ofBits .f32 0x2B8CBCCC#32 := by
  simp [Ideal.ofBits, Ideal.ieee, -EReal.coe_mul]
/-- Nothing divided by a length is nothing. -/
theorem zero_div_len (x : EReal) : Ideal.div 0 (max (Ideal.ofBits .f32 0x2B8CBCCC#32) x) = 0 :=
  Ideal.zero_div (ne_of_gt (lt_of_lt_of_le eps_pos (le_max_left _ _)))
theorem three : Ideal.ofBits .f32 0x40400000#32 = ((3 : ℝ) : EReal) := by
  simp [Ideal.ofBits, Ideal.ieee, -EReal.coe_mul]; norm_num
theorem div_three (x : EReal) : Ideal.div x (Ideal.ofBits .f32 0x40400000#32) = x * ((1 / 3 : ℝ) : EReal) := by
  rw [three]; exact Ideal.div_coe (by norm_num) x

/-- The three parts of a stack of three. -/
theorem three_parts (a b c : EReal) :
    (if h : ((0 : Fin 3) : ℕ) < 1 then a else if h : ((0 : Fin 3) : ℕ) - 1 < 1 then b else c)
      + (if h : ((1 : Fin 3) : ℕ) < 1 then a else if h : ((1 : Fin 3) : ℕ) - 1 < 1 then b else c)
      + (if h : ((2 : Fin 3) : ℕ) < 1 then a else if h : ((2 : Fin 3) : ℕ) - 1 < 1 then b else c) = a + b + c := by
  simp

variable (V0 : Valuation τ sig (Elt Ideal))

/-- The users' prompt is zero. -/
theorem r0 : (res_main_v0 V0 : Mat 8192 64) = (fun _ => 0 : Mat 8192 64) := by
  funext j; pointwise [res_main_v0]
/-- The items' prompt is zero. -/
theorem r1 : (res_main_v1 V0 : Mat 4096 64) = (fun _ => 0 : Mat 4096 64) := by
  funext j; pointwise [res_main_v1]
/-- So is the prompt's product with the images. -/
theorem r4 : (res_main_v4 V0 : Mat 4096 4096) = (fun _ => 0 : Mat 4096 4096) := by
  funext j; pointwise [res_main_v4, res_main_v1]; try simp
/-- And with the texts. -/
theorem r7 : (res_main_v7 V0 : Mat 4096 384) = (fun _ => 0 : Mat 4096 384) := by
  funext j; pointwise [res_main_v7, res_main_v1]; try simp
theorem at0 (j : (⟨2, ![8192, 64]⟩ : Shape).Idx) : (res_main_v0 V0 : Mat 8192 64) j = (0 : EReal) := congrFun (r0 V0) j
theorem at1 (j : (⟨2, ![4096, 64]⟩ : Shape).Idx) : (res_main_v1 V0 : Mat 4096 64) j = (0 : EReal) := congrFun (r1 V0) j
theorem at4 (j : (⟨2, ![4096, 4096]⟩ : Shape).Idx) : (res_main_v4 V0 : Mat 4096 4096) j = (0 : EReal) := congrFun (r4 V0) j
theorem at7 (j : (⟨2, ![4096, 384]⟩ : Shape).Idx) : (res_main_v7 V0 : Mat 4096 384) j = (0 : EReal) := congrFun (r7 V0) j
/-- The users' image features. -/
theorem r36 : (res_main_v36 V0 : Mat 8192 64) = mm (V0 (Proc.devRef .tc main_arg0) : Mat 8192 4096) (res_main_v19 V0 : Mat 4096 64) := by
  funext j; unfold mm; pointwise [res_main_v36]
/-- The items' image features. -/
theorem r37 : (res_main_v37 V0 : Mat 4096 64) = mm (V0 (Proc.devRef .tc main_arg1) : Mat 4096 8192) (res_main_v36 V0 : Mat 8192 64) := by
  funext j; unfold mm; pointwise [res_main_v37]
/-- The users' text features. -/
theorem r38 : (res_main_v38 V0 : Mat 8192 64) = mm (V0 (Proc.devRef .tc main_arg0) : Mat 8192 4096) (res_main_v31 V0 : Mat 4096 64) := by
  funext j; unfold mm; pointwise [res_main_v38]
/-- The items' text features. -/
theorem r39 : (res_main_v39 V0 : Mat 4096 64) = mm (V0 (Proc.devRef .tc main_arg1) : Mat 4096 8192) (res_main_v38 V0 : Mat 8192 64) := by
  funext j; unfold mm; pointwise [res_main_v39]
theorem r54 : (res_main_v54 V0 : Mat 8192 64) = mm (V0 (Proc.devRef .tc main_arg0) : Mat 8192 4096) (res_main_v53 V0 : Mat 4096 64) := by
  funext j; unfold mm; pointwise [res_main_v54]
theorem r55 : (res_main_v55 V0 : Mat 4096 64) = mm (V0 (Proc.devRef .tc main_arg1) : Mat 4096 8192) (res_main_v54 V0 : Mat 8192 64) := by
  funext j; unfold mm; pointwise [res_main_v55]
theorem r74 : (res_main_v74 V0 : Mat 8192 64) = mm (V0 (Proc.devRef .tc main_arg0) : Mat 8192 4096) (res_main_v73 V0 : Mat 4096 64) := by
  funext j; unfold mm; pointwise [res_main_v74]
theorem r75 : (res_main_v75 V0 : Mat 4096 64) = mm (V0 (Proc.devRef .tc main_arg1) : Mat 4096 8192) (res_main_v74 V0 : Mat 8192 64) := by
  funext j; unfold mm; pointwise [res_main_v75]
/-- The items after the first round, noise added. -/
theorem r73 : (res_main_v73 V0 : Mat 4096 64) = noisy (res_main_v55 V0 : Mat 4096 64) (nrm (V0 (Proc.devRef .tc main_arg11) : Mat 4096 64)) := by
  funext j; unfold noisy nrm; pointwise [res_main_v73, id]
/-- What is added to the users' mean. -/
theorem r102 : (res_main_v102 V0 : Mat 8192 64) = mixed (res_main_v36 V0 : Mat 8192 64) (res_main_v38 V0 : Mat 8192 64) := by
  funext j; unfold mixed nrm; pointwise [res_main_v102, id]
/-- What is added to the items' mean. -/
theorem r115 : (res_main_v115 V0 : Mat 4096 64) = mixed (res_main_v37 V0 : Mat 4096 64) (res_main_v39 V0 : Mat 4096 64) := by
  funext j; unfold mixed nrm; pointwise [res_main_v115, id]
/-- The projected images. -/
theorem r19 : (res_main_v19 V0 : Mat 4096 64) = proj (V0 (Proc.devRef .tc main_arg2) : Mat 4096 4096) (tr (V0 (Proc.devRef .tc main_arg6) : Mat 64 4096)) (bias (V0 (Proc.devRef .tc main_arg7))) := by
  funext j; unfold proj mm tr bias; pointwise [res_main_v19, id]
  simp only [at4, zero_div_len, mul_zero, add_zero]
/-- The projected texts. -/
theorem r31 : (res_main_v31 V0 : Mat 4096 64) = proj (V0 (Proc.devRef .tc main_arg3) : Mat 4096 384) (tr (V0 (Proc.devRef .tc main_arg8) : Mat 64 384)) (bias (V0 (Proc.devRef .tc main_arg9))) := by
  funext j; unfold proj mm tr bias; pointwise [res_main_v31, id]
  simp only [at7, zero_div_len, mul_zero, add_zero]
/-- The items' embedding, the zero prompt added. -/
theorem r53 : (res_main_v53 V0 : Mat 4096 64) = (V0 (Proc.devRef .tc main_arg5) : Mat 4096 64) := by
  funext j; pointwise [res_main_v53, id]
  simp only [at1, zero_div_len, mul_zero, add_zero]
/-- The users' result. -/
theorem r116 : (val3 V0 (Proc.devRef .tc main_v116) : Mat 8192 64) = mean3 (V0 (Proc.devRef .tc main_arg4) : Mat 8192 64) (noisy (res_main_v54 V0 : Mat 8192 64) (nrm (V0 (Proc.devRef .tc main_arg10) : Mat 8192 64))) (res_main_v74 V0 : Mat 8192 64) (res_main_v102 V0 : Mat 8192 64) := by
  refine (val3_main_v116 V0).trans ?_
  funext j; unfold mean3 noisy nrm; pointwise [id]
  simp only [at0, zero_div_len, mul_zero, add_zero, div_three, Fin.sum_univ_three]
  simp only [three_parts]
/-- The items' result. -/
theorem r117 : (val3 V0 (Proc.devRef .tc main_v117) : Mat 4096 64) = mean3 (res_main_v53 V0 : Mat 4096 64) (res_main_v73 V0 : Mat 4096 64) (res_main_v75 V0 : Mat 4096 64) (res_main_v115 V0 : Mat 4096 64) := by
  refine (val3_main_v117 V0).trans ?_
  funext j; unfold mean3; pointwise [id]
  simp only [div_three, Fin.sum_univ_three]
  simp only [three_parts]

end Cert.Proof.Val
-- ==== Proof.Val.KerA.lean ====
/-
  The first pipeline's blocks as rows of matrices.
-/
module

public import proofs.«01_k».proof.Proof.Val.Spec

@[expose] public section

noncomputable section

namespace Cert.Proof.Val

open Cert.KernelIdeal Cert.KernelIdeal.Gen
open Cert.Proof.KI hiding ix2 ix2_eta
open Idealize.ShloMosaic
open Idealize.ShloMosaic.TcCoe

/-- A block of the features: two projections and the items beside them. -/
theorem vA_20 (xi : FVec Ideal S512x4096 .f32) (wI : FVec Ideal S4096x64 .bf16) (xt : FVec Ideal S512x384 .f32) (wT : FVec Ideal S384x64 .bf16) (bI bT : FVec Ideal S1x64 .f32) (xe : FVec Ideal S512x64 .f32)
    (XI : Mat 4096 4096) (XT : Mat 4096 384) (XE : Mat 4096 64) (i : Fin 4096) (r : Fin 512)
    (hi : ∀ t : Fin 4096, xi (ix2 r t) = XI (ix2 i t)) (ht : ∀ t : Fin 384, xt (ix2 r t) = XT (ix2 i t)) (he : ∀ t : Fin 64, xe (ix2 r t) = XE (ix2 i t)) (l : Fin 192) :
    valA_20 (F := Ideal) xi wI xt wT bI bT xe (ix2 r l) = cat3 (proj XI wI bI) (proj XT wT bT) XE (ix2 i l) := by
  unfold cat3 pick3 proj mm
  pointwise [valA_20]
  simp only [hi, ht, he]

end Cert.Proof.Val
-- ==== Proof.Val.KerB.lean ====
/-
  The second pipeline's blocks as rows of matrices.
-/
module

public import proofs.«01_k».proof.Proof.Val.Spec

@[expose] public section

noncomputable section

namespace Cert.Proof.Val

open Cert.KernelIdeal Cert.KernelIdeal.Gen
open Cert.Proof.KI hiding ix2 ix2_eta
open Idealize.ShloMosaic
open Idealize.ShloMosaic.TcCoe

/-- A block of the product. -/
theorem vB_21 (x : FVec Ideal S512x4096 .f32) (V : FVec Ideal S4096x192 .bf16) (X : Mat 8192 4096) (i : Fin 8192) (r : Fin 512) (hx : ∀ t : Fin 4096, x (ix2 r t) = X (ix2 i t)) (l : Fin 192) :
    valB_21 (F := Ideal) x V (ix2 r l) = mm X V (ix2 i l) := by
  unfold mm
  pointwise [valB_21]
  simp only [hx]

/-- Its first 64 columns. -/
theorem vB_BI (x : FVec Ideal S512x4096 .f32) (V : FVec Ideal S4096x192 .bf16) (X : Mat 8192 4096) (i : Fin 8192) (r : Fin 512) (hx : ∀ t : Fin 4096, x (ix2 r t) = X (ix2 i t)) (l : Fin 64) :
    valB_BI (F := Ideal) x V (ix2 r l) = cols 0 (by decide) (mm X V) (ix2 i l) := by
  unfold mm cols
  pointwise [valB_BI]
  simp only [hx, Nat.add_comm]

/-- Its first 64 columns, kept. -/
theorem vB_23 (x : FVec Ideal S512x4096 .f32) (V : FVec Ideal S4096x192 .bf16) (X : Mat 8192 4096) (i : Fin 8192) (r : Fin 512) (hx : ∀ t : Fin 4096, x (ix2 r t) = X (ix2 i t)) (l : Fin 64) :
    valB_23 (F := Ideal) x V (ix2 r l) = cols 0 (by decide) (mm X V) (ix2 i l) := by
  unfold mm cols
  pointwise [valB_23]
  simp only [hx, Nat.add_comm]

/-- Its second 64 columns. -/
theorem vB_BT (x : FVec Ideal S512x4096 .f32) (V : FVec Ideal S4096x192 .bf16) (X : Mat 8192 4096) (i : Fin 8192) (r : Fin 512) (hx : ∀ t : Fin 4096, x (ix2 r t) = X (ix2 i t)) (l : Fin 64) :
    valB_BT (F := Ideal) x V (ix2 r l) = cols 64 (by decide) (mm X V) (ix2 i l) := by
  unfold mm cols
  pointwise [valB_BT]
  simp only [hx]

/-- Its second 64 columns, kept. -/
theorem vB_24 (x : FVec Ideal S512x4096 .f32) (V : FVec Ideal S4096x192 .bf16) (X : Mat 8192 4096) (i : Fin 8192) (r : Fin 512) (hx : ∀ t : Fin 4096, x (ix2 r t) = X (ix2 i t)) (l : Fin 64) :
    valB_24 (F := Ideal) x V (ix2 r l) = cols 64 (by decide) (mm X V) (ix2 i l) := by
  unfold mm cols
  pointwise [valB_24]
  simp only [hx]

/-- Its last 64 columns, noise added. -/
theorem vB_22 (x : FVec Ideal S512x4096 .f32) (V : FVec Ideal S4096x192 .bf16) (X : Mat 8192 4096) (i : Fin 8192) (r : Fin 512) (hx : ∀ t : Fin 4096, x (ix2 r t) = X (ix2 i t)) (n : FVec Ideal S512x64 .f32) (N : Mat 8192 64) (l : Fin 64) (hn : n (ix2 r l) = N (ix2 i l)) :
    valB_22 (F := Ideal) x V n (ix2 r l) = noisy (cols 128 (by decide) (mm X V)) N (ix2 i l) := by
  unfold mm cols noisy
  pointwise [valB_22]
  simp only [hx, hn, sign_form]

end Cert.Proof.Val
-- ==== Proof.Val.KerC.lean ====
/-
  The third pipeline's blocks as rows of matrices.
-/
module

public import proofs.«01_k».proof.Proof.Val.Spec

@[expose] public section

noncomputable section

namespace Cert.Proof.Val

open Cert.KernelIdeal Cert.KernelIdeal.Gen
open Cert.Proof.KI hiding ix2 ix2_eta
open Idealize.ShloMosaic
open Idealize.ShloMosaic.TcCoe

/-- The first 64 columns of a block of the product. -/
theorem vC_CI (x : FVec Ideal S256x8192 .f32) (V : FVec Ideal S8192x192 .bf16) (X : Mat 4096 8192) (i : Fin 4096) (r : Fin 256) (hx : ∀ t : Fin 8192, x (ix2 r t) = X (ix2 i t)) (l : Fin 64) :
    valC_CI (F := Ideal) x V (ix2 r l) = cols 0 (by decide) (mm X V) (ix2 i l) := by
  unfold mm cols
  pointwise [valC_CI]
  simp only [hx, Nat.add_comm]

/-- The first 64, kept. -/
theorem vC_27 (x : FVec Ideal S256x8192 .f32) (V : FVec Ideal S8192x192 .bf16) (X : Mat 4096 8192) (i : Fin 4096) (r : Fin 256) (hx : ∀ t : Fin 8192, x (ix2 r t) = X (ix2 i t)) (l : Fin 64) :
    valC_27 (F := Ideal) x V (ix2 r l) = cols 0 (by decide) (mm X V) (ix2 i l) := by
  unfold mm cols
  pointwise [valC_27]
  simp only [hx, Nat.add_comm]

/-- The second 64. -/
theorem vC_CT (x : FVec Ideal S256x8192 .f32) (V : FVec Ideal S8192x192 .bf16) (X : Mat 4096 8192) (i : Fin 4096) (r : Fin 256) (hx : ∀ t : Fin 8192, x (ix2 r t) = X (ix2 i t)) (l : Fin 64) :
    valC_CT (F := Ideal) x V (ix2 r l) = cols 64 (by decide) (mm X V) (ix2 i l) := by
  unfold mm cols
  pointwise [valC_CT]
  simp only [hx]

/-- The second 64, kept. -/
theorem vC_28 (x : FVec Ideal S256x8192 .f32) (V : FVec Ideal S8192x192 .bf16) (X : Mat 4096 8192) (i : Fin 4096) (r : Fin 256) (hx : ∀ t : Fin 8192, x (ix2 r t) = X (ix2 i t)) (l : Fin 64) :
    valC_28 (F := Ideal) x V (ix2 r l) = cols 64 (by decide) (mm X V) (ix2 i l) := by
  unfold mm cols
  pointwise [valC_28]
  simp only [hx]

/-- The last 64, noise added. -/
theorem vC_26 (x : FVec Ideal S256x8192 .f32) (V : FVec Ideal S8192x192 .bf16) (X : Mat 4096 8192) (i : Fin 4096) (r : Fin 256) (hx : ∀ t : Fin 8192, x (ix2 r t) = X (ix2 i t)) (n : FVec Ideal S256x64 .f32) (N : Mat 4096 64) (l : Fin 64) (hn : n (ix2 r l) = N (ix2 i l)) :
    valC_26 (F := Ideal) x V n (ix2 r l) = noisy (cols 128 (by decide) (mm X V)) N (ix2 i l) := by
  unfold mm cols noisy
  pointwise [valC_26]
  simp only [hx, hn, sign_form]

/-- The last 64, noise added, for the next product. -/
theorem vC_25 (x : FVec Ideal S256x8192 .f32) (V : FVec Ideal S8192x192 .bf16) (X : Mat 4096 8192) (i : Fin 4096) (r : Fin 256) (hx : ∀ t : Fin 8192, x (ix2 r t) = X (ix2 i t)) (n : FVec Ideal S256x64 .f32) (N : Mat 4096 64) (l : Fin 64) (hn : n (ix2 r l) = N (ix2 i l)) :
    valC_25 (F := Ideal) x V n (ix2 r l) = noisy (cols 128 (by decide) (mm X V)) N (ix2 i l) := by
  unfold mm cols noisy
  pointwise [valC_25]
  simp only [hx, hn, sign_form]

end Cert.Proof.Val
-- ==== Proof.Val.KerD.lean ====
/-
  The fourth pipeline's blocks as rows of matrices.
-/
module

public import proofs.«01_k».proof.Proof.Val.Spec

@[expose] public section

noncomputable section

namespace Cert.Proof.Val

open Cert.KernelIdeal Cert.KernelIdeal.Gen
open Cert.Proof.KI hiding ix2 ix2_eta
open Idealize.ShloMosaic
open Idealize.ShloMosaic.TcCoe

/-- A block of the product. -/
theorem vD_29 (x : FVec Ideal S512x4096 .f32) (V : FVec Ideal S4096x64 .bf16) (X : Mat 8192 4096) (i : Fin 8192) (r : Fin 512) (hx : ∀ t : Fin 4096, x (ix2 r t) = X (ix2 i t)) (l : Fin 64) :
    valD_29 (F := Ideal) x V (ix2 r l) = mm X V (ix2 i l) := by
  unfold mm
  pointwise [valD_29]
  simp only [hx]

/-- A block of the users' result. -/
theorem vD_DI (x : FVec Ideal S512x4096 .f32) (V : FVec Ideal S4096x64 .bf16) (X : Mat 8192 4096) (i : Fin 8192) (r : Fin 512) (hx : ∀ t : Fin 4096, x (ix2 r t) = X (ix2 i t)) (a b u d : FVec Ideal S512x64 .f32) (A B U D : Mat 8192 64)
    (ha : ∀ t : Fin 64, a (ix2 r t) = A (ix2 i t)) (hb : ∀ t : Fin 64, b (ix2 r t) = B (ix2 i t))
    (hu : ∀ t : Fin 64, u (ix2 r t) = U (ix2 i t)) (hd : ∀ t : Fin 64, d (ix2 r t) = D (ix2 i t)) (l : Fin 64) :
    valD_DI (F := Ideal) x V a b u d (ix2 r l) = mean3 U D (mm X V) (mixed A B) (ix2 i l) := by
  unfold mean3 mixed nrm mm
  pointwise [valD_DI]
  simp only [hx, ha, hb, hu, hd, third]

end Cert.Proof.Val
-- ==== Proof.Val.KerE.lean ====
/-
  The fifth pipeline's blocks as rows of matrices.
-/
module

public import proofs.«01_k».proof.Proof.Val.Spec

@[expose] public section

noncomputable section

namespace Cert.Proof.Val

open Cert.KernelIdeal Cert.KernelIdeal.Gen
open Cert.Proof.KI hiding ix2 ix2_eta
open Idealize.ShloMosaic
open Idealize.ShloMosaic.TcCoe

/-- A block of the items' result. -/
theorem vE_EI (x : FVec Ideal S256x8192 .f32) (V : FVec Ideal S8192x64 .bf16) (X : Mat 4096 8192) (i : Fin 4096) (r : Fin 256) (hx : ∀ t : Fin 8192, x (ix2 r t) = X (ix2 i t)) (a b u d : FVec Ideal S256x64 .f32) (A B U D : Mat 4096 64)
    (ha : ∀ t : Fin 64, a (ix2 r t) = A (ix2 i t)) (hb : ∀ t : Fin 64, b (ix2 r t) = B (ix2 i t))
    (hu : ∀ t : Fin 64, u (ix2 r t) = U (ix2 i t)) (hd : ∀ t : Fin 64, d (ix2 r t) = D (ix2 i t)) (l : Fin 64) :
    valE_EI (F := Ideal) x V a b u d (ix2 r l) = mean3 U D (mm X V) (mixed A B) (ix2 i l) := by
  unfold mean3 mixed nrm mm
  pointwise [valE_EI]
  simp only [hx, ha, hb, hu, hd, third]

end Cert.Proof.Val
-- ==== Proof.Val.Blocks.lean ====
/-
  The pipelines' blocks stacked, as matrices.
-/
module

public import proofs.«01_k».proof.Proof.Val.KerA
public import proofs.«01_k».proof.Proof.Val.KerB
public import proofs.«01_k».proof.Proof.Val.KerC
public import proofs.«01_k».proof.Proof.Val.KerD
public import proofs.«01_k».proof.Proof.Val.KerE

@[expose] public section

noncomputable section

namespace Cert.Proof.Val

open Cert.KernelIdeal Cert.KernelIdeal.Gen
open Cert.Proof.KI hiding ix2 ix2_eta
open Idealize.ShloMosaic
open Idealize.ShloMosaic.TcCoe

variable (c : Dev nD)

theorem oA_20 (wI : Mat 4096 64) (wT : Mat 384 64) (bI bT : Mat 1 64) (XI : Buf (Elt Ideal) ((Memref.whole main_arg2 : Memref sig .tc .hbm _ _).view.loc (c : Thread nD τ))) (XT : Buf (Elt Ideal) ((Memref.whole main_arg3 : Memref sig .tc .hbm _ _).view.loc (c : Thread nD τ))) (XE : Buf (Elt Ideal) ((Memref.whole main_arg5 : Memref sig .tc .hbm _ _).view.loc (c : Thread nD τ))) (k : ℕ) (hk : k < 8) (r : Fin 512) (l : Fin 192) :
    outA_20 (F := Ideal) c wI wT bI bT XI XT XE k (ix2 r l) = cat3 (proj (XI : Mat 4096 4096) wI bI) (proj (XT : Mat 4096 384) wT bT) (XE : Mat 4096 64) (ix2 (row rfl k hk r) l) :=
  vA_20 _ wI _ wT bI bT _ XI XT XE (row rfl k hk r) r (fun t => rdImg c XI k hk r t) (fun t => rdTxt c XT k hk r t) (fun t => rdIe c XE k hk r t) l
/-- The first pipeline's blocks make the features. -/
theorem sA_20 (wI : Mat 4096 64) (wT : Mat 384 64) (bI bT : Mat 1 64) (XI : Buf (Elt Ideal) ((Memref.whole main_arg2 : Memref sig .tc .hbm _ _).view.loc (c : Thread nD τ))) (XT : Buf (Elt Ideal) ((Memref.whole main_arg3 : Memref sig .tc .hbm _ _).view.loc (c : Thread nD τ))) (XE : Buf (Elt Ideal) ((Memref.whole main_arg5 : Memref sig .tc .hbm _ _).view.loc (c : Thread nD τ))) :
    (stack (W := 512) (R := 4096) (D := 192) (by decide) (outA_20 (F := Ideal) c wI wT bI bT XI XT XE) : Mat 4096 192) = cat3 (proj (XI : Mat 4096 4096) wI bI) (proj (XT : Mat 4096 384) wT bT) (XE : Mat 4096 64) :=
  stack_eq (W := 512) (NB := 8) (R := 4096) _ rfl _ _ (fun k hk r l => oA_20 c wI wT bI bT XI XT XE k hk r l)
theorem oB_21 (X : Buf (Elt Ideal) ((Memref.whole main_arg0 : Memref sig .tc .hbm _ _).view.loc (c : Thread nD τ))) (V : Buf (Elt Ideal) (a20.view.loc (c : Thread nD τ))) (k : ℕ) (hk : k < 16) (r : Fin 512) (l : Fin 192) :
    outB_21 (F := Ideal) c X V k (ix2 r l) = (mm (X : Mat 8192 4096) (V : Mat 4096 192)) (ix2 (row rfl k hk r) l) :=
  vB_21 _ V (X : Mat 8192 4096) (row rfl k hk r) r (fun t => rdBU c X k hk r t) l
/-- The second pipeline's blocks make the product. -/
theorem sB_21 (X : Buf (Elt Ideal) ((Memref.whole main_arg0 : Memref sig .tc .hbm _ _).view.loc (c : Thread nD τ))) (V : Buf (Elt Ideal) (a20.view.loc (c : Thread nD τ))) :
    (stack (W := 512) (R := 8192) (D := 192) (by decide) (outB_21 (F := Ideal) c X V) : Mat 8192 192) = (mm (X : Mat 8192 4096) (V : Mat 4096 192)) :=
  stack_eq (W := 512) (NB := 16) (R := 8192) _ rfl _ _ (fun k hk r l => oB_21 c X V k hk r l)
theorem oB_BI (X : Buf (Elt Ideal) ((Memref.whole main_arg0 : Memref sig .tc .hbm _ _).view.loc (c : Thread nD τ))) (V : Buf (Elt Ideal) (a20.view.loc (c : Thread nD τ))) (k : ℕ) (hk : k < 16) (r : Fin 512) (l : Fin 64) :
    outB_BI (F := Ideal) c X V k (ix2 r l) = cols (E := 64) 0 (by decide) (mm (X : Mat 8192 4096) (V : Mat 4096 192)) (ix2 (row rfl k hk r) l) :=
  vB_BI _ V (X : Mat 8192 4096) (row rfl k hk r) r (fun t => rdBU c X k hk r t) l
theorem sB_BI (X : Buf (Elt Ideal) ((Memref.whole main_arg0 : Memref sig .tc .hbm _ _).view.loc (c : Thread nD τ))) (V : Buf (Elt Ideal) (a20.view.loc (c : Thread nD τ))) :
    (stack (W := 512) (R := 8192) (D := 64) (by decide) (outB_BI (F := Ideal) c X V) : Mat 8192 64) = cols (E := 64) 0 (by decide) (mm (X : Mat 8192 4096) (V : Mat 4096 192)) :=
  stack_eq (W := 512) (NB := 16) (R := 8192) _ rfl _ _ (fun k hk r l => oB_BI c X V k hk r l)
theorem oB_BT (X : Buf (Elt Ideal) ((Memref.whole main_arg0 : Memref sig .tc .hbm _ _).view.loc (c : Thread nD τ))) (V : Buf (Elt Ideal) (a20.view.loc (c : Thread nD τ))) (k : ℕ) (hk : k < 16) (r : Fin 512) (l : Fin 64) :
    outB_BT (F := Ideal) c X V k (ix2 r l) = cols (E := 64) 64 (by decide) (mm (X : Mat 8192 4096) (V : Mat 4096 192)) (ix2 (row rfl k hk r) l) :=
  vB_BT _ V (X : Mat 8192 4096) (row rfl k hk r) r (fun t => rdBU c X k hk r t) l
theorem sB_BT (X : Buf (Elt Ideal) ((Memref.whole main_arg0 : Memref sig .tc .hbm _ _).view.loc (c : Thread nD τ))) (V : Buf (Elt Ideal) (a20.view.loc (c : Thread nD τ))) :
    (stack (W := 512) (R := 8192) (D := 64) (by decide) (outB_BT (F := Ideal) c X V) : Mat 8192 64) = cols (E := 64) 64 (by decide) (mm (X : Mat 8192 4096) (V : Mat 4096 192)) :=
  stack_eq (W := 512) (NB := 16) (R := 8192) _ rfl _ _ (fun k hk r l => oB_BT c X V k hk r l)
theorem oB_23 (X : Buf (Elt Ideal) ((Memref.whole main_arg0 : Memref sig .tc .hbm _ _).view.loc (c : Thread nD τ))) (V : Buf (Elt Ideal) (a20.view.loc (c : Thread nD τ))) (k : ℕ) (hk : k < 16) (r : Fin 512) (l : Fin 64) :
    outB_23 (F := Ideal) c X V k (ix2 r l) = cols (E := 64) 0 (by decide) (mm (X : Mat 8192 4096) (V : Mat 4096 192)) (ix2 (row rfl k hk r) l) :=
  vB_23 _ V (X : Mat 8192 4096) (row rfl k hk r) r (fun t => rdBU c X k hk r t) l
theorem sB_23 (X : Buf (Elt Ideal) ((Memref.whole main_arg0 : Memref sig .tc .hbm _ _).view.loc (c : Thread nD τ))) (V : Buf (Elt Ideal) (a20.view.loc (c : Thread nD τ))) :
    (stack (W := 512) (R := 8192) (D := 64) (by decide) (outB_23 (F := Ideal) c X V) : Mat 8192 64) = cols (E := 64) 0 (by decide) (mm (X : Mat 8192 4096) (V : Mat 4096 192)) :=
  stack_eq (W := 512) (NB := 16) (R := 8192) _ rfl _ _ (fun k hk r l => oB_23 c X V k hk r l)
theorem oB_24 (X : Buf (Elt Ideal) ((Memref.whole main_arg0 : Memref sig .tc .hbm _ _).view.loc (c : Thread nD τ))) (V : Buf (Elt Ideal) (a20.view.loc (c : Thread nD τ))) (k : ℕ) (hk : k < 16) (r : Fin 512) (l : Fin 64) :
    outB_24 (F := Ideal) c X V k (ix2 r l) = cols (E := 64) 64 (by decide) (mm (X : Mat 8192 4096) (V : Mat 4096 192)) (ix2 (row rfl k hk r) l) :=
  vB_24 _ V (X : Mat 8192 4096) (row rfl k hk r) r (fun t => rdBU c X k hk r t) l
theorem sB_24 (X : Buf (Elt Ideal) ((Memref.whole main_arg0 : Memref sig .tc .hbm _ _).view.loc (c : Thread nD τ))) (V : Buf (Elt Ideal) (a20.view.loc (c : Thread nD τ))) :
    (stack (W := 512) (R := 8192) (D := 64) (by decide) (outB_24 (F := Ideal) c X V) : Mat 8192 64) = cols (E := 64) 64 (by decide) (mm (X : Mat 8192 4096) (V : Mat 4096 192)) :=
  stack_eq (W := 512) (NB := 16) (R := 8192) _ rfl _ _ (fun k hk r l => oB_24 c X V k hk r l)
theorem oB_22 (X : Buf (Elt Ideal) ((Memref.whole main_arg0 : Memref sig .tc .hbm _ _).view.loc (c : Thread nD τ))) (XN : Buf (Elt Ideal) ((Memref.whole main_v6 : Memref sig .tc .hbm _ _).view.loc (c : Thread nD τ))) (V : Buf (Elt Ideal) (a20.view.loc (c : Thread nD τ))) (k : ℕ) (hk : k < 16) (r : Fin 512) (l : Fin 64) :
    outB_22 (F := Ideal) c X XN V k (ix2 r l) = noisy (cols (E := 64) 128 (by decide) (mm (X : Mat 8192 4096) (V : Mat 4096 192))) (XN : Mat 8192 64) (ix2 (row rfl k hk r) l) :=
  vB_22 _ V (X : Mat 8192 4096) (row rfl k hk r) r (fun t => rdBU c X k hk r t) _ (XN : Mat 8192 64) l (rdBN c XN k hk r l)
theorem sB_22 (X : Buf (Elt Ideal) ((Memref.whole main_arg0 : Memref sig .tc .hbm _ _).view.loc (c : Thread nD τ))) (XN : Buf (Elt Ideal) ((Memref.whole main_v6 : Memref sig .tc .hbm _ _).view.loc (c : Thread nD τ))) (V : Buf (Elt Ideal) (a20.view.loc (c : Thread nD τ))) :
    (stack (W := 512) (R := 8192) (D := 64) (by decide) (outB_22 (F := Ideal) c X XN V) : Mat 8192 64) = noisy (cols (E := 64) 128 (by decide) (mm (X : Mat 8192 4096) (V : Mat 4096 192))) (XN : Mat 8192 64) :=
  stack_eq (W := 512) (NB := 16) (R := 8192) _ rfl _ _ (fun k hk r l => oB_22 c X XN V k hk r l)
theorem oC_CI (X : Buf (Elt Ideal) ((Memref.whole main_arg1 : Memref sig .tc .hbm _ _).view.loc (c : Thread nD τ))) (V : Buf (Elt Ideal) (a21.view.loc (c : Thread nD τ))) (k : ℕ) (hk : k < 16) (r : Fin 256) (l : Fin 64) :
    outC_CI (F := Ideal) c X V k (ix2 r l) = cols (E := 64) 0 (by decide) (mm (X : Mat 4096 8192) (V : Mat 8192 192)) (ix2 (row rfl k hk r) l) :=
  vC_CI _ V (X : Mat 4096 8192) (row rfl k hk r) r (fun t => rdCU c X k hk r t) l
theorem sC_CI (X : Buf (Elt Ideal) ((Memref.whole main_arg1 : Memref sig .tc .hbm _ _).view.loc (c : Thread nD τ))) (V : Buf (Elt Ideal) (a21.view.loc (c : Thread nD τ))) :
    (stack (W := 256) (R := 4096) (D := 64) (by decide) (outC_CI (F := Ideal) c X V) : Mat 4096 64) = cols (E := 64) 0 (by decide) (mm (X : Mat 4096 8192) (V : Mat 8192 192)) :=
  stack_eq (W := 256) (NB := 16) (R := 4096) _ rfl _ _ (fun k hk r l => oC_CI c X V k hk r l)
theorem oC_CT (X : Buf (Elt Ideal) ((Memref.whole main_arg1 : Memref sig .tc .hbm _ _).view.loc (c : Thread nD τ))) (V : Buf (Elt Ideal) (a21.view.loc (c : Thread nD τ))) (k : ℕ) (hk : k < 16) (r : Fin 256) (l : Fin 64) :
    outC_CT (F := Ideal) c X V k (ix2 r l) = cols (E := 64) 64 (by decide) (mm (X : Mat 4096 8192) (V : Mat 8192 192)) (ix2 (row rfl k hk r) l) :=
  vC_CT _ V (X : Mat 4096 8192) (row rfl k hk r) r (fun t => rdCU c X k hk r t) l
theorem sC_CT (X : Buf (Elt Ideal) ((Memref.whole main_arg1 : Memref sig .tc .hbm _ _).view.loc (c : Thread nD τ))) (V : Buf (Elt Ideal) (a21.view.loc (c : Thread nD τ))) :
    (stack (W := 256) (R := 4096) (D := 64) (by decide) (outC_CT (F := Ideal) c X V) : Mat 4096 64) = cols (E := 64) 64 (by decide) (mm (X : Mat 4096 8192) (V : Mat 8192 192)) :=
  stack_eq (W := 256) (NB := 16) (R := 4096) _ rfl _ _ (fun k hk r l => oC_CT c X V k hk r l)
theorem oC_27 (X : Buf (Elt Ideal) ((Memref.whole main_arg1 : Memref sig .tc .hbm _ _).view.loc (c : Thread nD τ))) (V : Buf (Elt Ideal) (a21.view.loc (c : Thread nD τ))) (k : ℕ) (hk : k < 16) (r : Fin 256) (l : Fin 64) :
    outC_27 (F := Ideal) c X V k (ix2 r l) = cols (E := 64) 0 (by decide) (mm (X : Mat 4096 8192) (V : Mat 8192 192)) (ix2 (row rfl k hk r) l) :=
  vC_27 _ V (X : Mat 4096 8192) (row rfl k hk r) r (fun t => rdCU c X k hk r t) l
theorem sC_27 (X : Buf (Elt Ideal) ((Memref.whole main_arg1 : Memref sig .tc .hbm _ _).view.loc (c : Thread nD τ))) (V : Buf (Elt Ideal) (a21.view.loc (c : Thread nD τ))) :
    (stack (W := 256) (R := 4096) (D := 64) (by decide) (outC_27 (F := Ideal) c X V) : Mat 4096 64) = cols (E := 64) 0 (by decide) (mm (X : Mat 4096 8192) (V : Mat 8192 192)) :=
  stack_eq (W := 256) (NB := 16) (R := 4096) _ rfl _ _ (fun k hk r l => oC_27 c X V k hk r l)
theorem oC_28 (X : Buf (Elt Ideal) ((Memref.whole main_arg1 : Memref sig .tc .hbm _ _).view.loc (c : Thread nD τ))) (V : Buf (Elt Ideal) (a21.view.loc (c : Thread nD τ))) (k : ℕ) (hk : k < 16) (r : Fin 256) (l : Fin 64) :
    outC_28 (F := Ideal) c X V k (ix2 r l) = cols (E := 64) 64 (by decide) (mm (X : Mat 4096 8192) (V : Mat 8192 192)) (ix2 (row rfl k hk r) l) :=
  vC_28 _ V (X : Mat 4096 8192) (row rfl k hk r) r (fun t => rdCU c X k hk r t) l
theorem sC_28 (X : Buf (Elt Ideal) ((Memref.whole main_arg1 : Memref sig .tc .hbm _ _).view.loc (c : Thread nD τ))) (V : Buf (Elt Ideal) (a21.view.loc (c : Thread nD τ))) :
    (stack (W := 256) (R := 4096) (D := 64) (by decide) (outC_28 (F := Ideal) c X V) : Mat 4096 64) = cols (E := 64) 64 (by decide) (mm (X : Mat 4096 8192) (V : Mat 8192 192)) :=
  stack_eq (W := 256) (NB := 16) (R := 4096) _ rfl _ _ (fun k hk r l => oC_28 c X V k hk r l)
theorem oC_26 (X : Buf (Elt Ideal) ((Memref.whole main_arg1 : Memref sig .tc .hbm _ _).view.loc (c : Thread nD τ))) (XN : Buf (Elt Ideal) ((Memref.whole main_v13 : Memref sig .tc .hbm _ _).view.loc (c : Thread nD τ))) (V : Buf (Elt Ideal) (a21.view.loc (c : Thread nD τ))) (k : ℕ) (hk : k < 16) (r : Fin 256) (l : Fin 64) :
    outC_26 (F := Ideal) c X XN V k (ix2 r l) = noisy (cols (E := 64) 128 (by decide) (mm (X : Mat 4096 8192) (V : Mat 8192 192))) (XN : Mat 4096 64) (ix2 (row rfl k hk r) l) :=
  vC_26 _ V (X : Mat 4096 8192) (row rfl k hk r) r (fun t => rdCU c X k hk r t) _ (XN : Mat 4096 64) l (rdCN c XN k hk r l)
theorem sC_26 (X : Buf (Elt Ideal) ((Memref.whole main_arg1 : Memref sig .tc .hbm _ _).view.loc (c : Thread nD τ))) (XN : Buf (Elt Ideal) ((Memref.whole main_v13 : Memref sig .tc .hbm _ _).view.loc (c : Thread nD τ))) (V : Buf (Elt Ideal) (a21.view.loc (c : Thread nD τ))) :
    (stack (W := 256) (R := 4096) (D := 64) (by decide) (outC_26 (F := Ideal) c X XN V) : Mat 4096 64) = noisy (cols (E := 64) 128 (by decide) (mm (X : Mat 4096 8192) (V : Mat 8192 192))) (XN : Mat 4096 64) :=
  stack_eq (W := 256) (NB := 16) (R := 4096) _ rfl _ _ (fun k hk r l => oC_26 c X XN V k hk r l)
theorem oC_25 (X : Buf (Elt Ideal) ((Memref.whole main_arg1 : Memref sig .tc .hbm _ _).view.loc (c : Thread nD τ))) (XN : Buf (Elt Ideal) ((Memref.whole main_v13 : Memref sig .tc .hbm _ _).view.loc (c : Thread nD τ))) (V : Buf (Elt Ideal) (a21.view.loc (c : Thread nD τ))) (k : ℕ) (hk : k < 16) (r : Fin 256) (l : Fin 64) :
    outC_25 (F := Ideal) c X XN V k (ix2 r l) = noisy (cols (E := 64) 128 (by decide) (mm (X : Mat 4096 8192) (V : Mat 8192 192))) (XN : Mat 4096 64) (ix2 (row rfl k hk r) l) :=
  vC_25 _ V (X : Mat 4096 8192) (row rfl k hk r) r (fun t => rdCU c X k hk r t) _ (XN : Mat 4096 64) l (rdCN c XN k hk r l)
/-- The third pipeline's blocks make the noisy items. -/
theorem sC_25 (X : Buf (Elt Ideal) ((Memref.whole main_arg1 : Memref sig .tc .hbm _ _).view.loc (c : Thread nD τ))) (XN : Buf (Elt Ideal) ((Memref.whole main_v13 : Memref sig .tc .hbm _ _).view.loc (c : Thread nD τ))) (V : Buf (Elt Ideal) (a21.view.loc (c : Thread nD τ))) :
    (stack (W := 256) (R := 4096) (D := 64) (by decide) (outC_25 (F := Ideal) c X XN V) : Mat 4096 64) = noisy (cols (E := 64) 128 (by decide) (mm (X : Mat 4096 8192) (V : Mat 8192 192))) (XN : Mat 4096 64) :=
  stack_eq (W := 256) (NB := 16) (R := 4096) _ rfl _ _ (fun k hk r l => oC_25 c X XN V k hk r l)
/-- The fourth pipeline's blocks make the product. -/
theorem sD_29 (X : Buf (Elt Ideal) ((Memref.whole main_arg0 : Memref sig .tc .hbm _ _).view.loc (c : Thread nD τ))) (V : Buf (Elt Ideal) (a25.view.loc (c : Thread nD τ))) :
    (stack (W := 512) (R := 8192) (D := 64) (by decide) (outD_29 (F := Ideal) c X V) : Mat 8192 64) = mm (X : Mat 8192 4096) (V : Mat 4096 64) :=
  stack_eq (W := 512) (NB := 16) (R := 8192) _ rfl _ _ (fun k hk r l => vD_29 _ V (X : Mat 8192 4096) (row rfl k hk r) r (fun t => rdDU c X k hk r t) l)
/-- And the users' result. -/
theorem sD_DI (X : Buf (Elt Ideal) ((Memref.whole main_arg0 : Memref sig .tc .hbm _ _).view.loc (c : Thread nD τ))) (XN : Buf (Elt Ideal) ((Memref.whole main_arg4 : Memref sig .tc .hbm _ _).view.loc (c : Thread nD τ))) (V : Buf (Elt Ideal) (a25.view.loc (c : Thread nD τ))) (P Q N : ℕ → S512x64.Idx → Elt Ideal .f32) (A B D : Mat 8192 64)
    (hP : ∀ (k : ℕ) (hk : k < 16) (r : Fin 512) (l : Fin 64), P k (ix2 r l) = A (ix2 (row (W := 512) (NB := 16) (R := 8192) rfl k hk r) l))
    (hQ : ∀ (k : ℕ) (hk : k < 16) (r : Fin 512) (l : Fin 64), Q k (ix2 r l) = B (ix2 (row (W := 512) (NB := 16) (R := 8192) rfl k hk r) l))
    (hN : ∀ (k : ℕ) (hk : k < 16) (r : Fin 512) (l : Fin 64), N k (ix2 r l) = D (ix2 (row (W := 512) (NB := 16) (R := 8192) rfl k hk r) l)) :
    (stack (W := 512) (R := 8192) (D := 64) (by decide) (outD_DI (F := Ideal) c X XN V P Q N) : Mat 8192 64) = mean3 (XN : Mat 8192 64) D (mm (X : Mat 8192 4096) (V : Mat 4096 64)) (mixed A B) :=
  stack_eq (W := 512) (NB := 16) (R := 8192) _ rfl _ _ (fun k hk r l => vD_DI _ V (X : Mat 8192 4096) (row rfl k hk r) r (fun t => rdDU c X k hk r t)
    _ _ _ _ A B (XN : Mat 8192 64) D (fun t => hP k hk r t) (fun t => hQ k hk r t) (fun t => rdDN c XN k hk r t) (fun t => hN k hk r t) l)
/-- The fifth pipeline's blocks make the items' result. -/
theorem sE_EI (X : Buf (Elt Ideal) ((Memref.whole main_arg1 : Memref sig .tc .hbm _ _).view.loc (c : Thread nD τ))) (XN : Buf (Elt Ideal) ((Memref.whole main_arg5 : Memref sig .tc .hbm _ _).view.loc (c : Thread nD τ))) (V : Buf (Elt Ideal) (a29.view.loc (c : Thread nD τ))) (P Q N : ℕ → S256x64.Idx → Elt Ideal .f32) (A B D : Mat 4096 64)
    (hP : ∀ (k : ℕ) (hk : k < 16) (r : Fin 256) (l : Fin 64), P k (ix2 r l) = A (ix2 (row (W := 256) (NB := 16) (R := 4096) rfl k hk r) l))
    (hQ : ∀ (k : ℕ) (hk : k < 16) (r : Fin 256) (l : Fin 64), Q k (ix2 r l) = B (ix2 (row (W := 256) (NB := 16) (R := 4096) rfl k hk r) l))
    (hN : ∀ (k : ℕ) (hk : k < 16) (r : Fin 256) (l : Fin 64), N k (ix2 r l) = D (ix2 (row (W := 256) (NB := 16) (R := 4096) rfl k hk r) l)) :
    (stack (W := 256) (R := 4096) (D := 64) (by decide) (outE_EI (F := Ideal) c X XN V P Q N) : Mat 4096 64) = mean3 (XN : Mat 4096 64) D (mm (X : Mat 4096 8192) (V : Mat 8192 64)) (mixed A B) :=
  stack_eq (W := 256) (NB := 16) (R := 4096) _ rfl _ _ (fun k hk r l => vE_EI _ V (X : Mat 4096 8192) (row rfl k hk r) r (fun t => rdEU c X k hk r t)
    _ _ _ _ A B (XN : Mat 4096 64) D (fun t => hP k hk r t) (fun t => hQ k hk r t) (fun t => rdEN c XN k hk r t) (fun t => hN k hk r t) l)

end Cert.Proof.Val
-- ==== Proof.Val.HostVal.lean ====
/-
  What the host lines before the region leave, as matrices.
-/
module

public import proofs.«01_k».proof.Proof.Val.Spec
public import proofs.«01_k».proof.Proof.Gen.KernelIdeal.Frame

@[expose] public section

noncomputable section

namespace Cert.Proof.Val

open Cert.KernelIdeal Cert.KernelIdeal.Gen
open Cert.Proof.KI hiding ix2 ix2_eta
open Idealize.ShloMosaic
open Idealize.ShloMosaic.TcCoe

set_option maxRecDepth 8192

variable (m : (ℓ : Loc nD τ sig) → Buf (Elt Ideal) ℓ) (c : Dev nD)

set_option maxHeartbeats 2000000 in
theorem V_main_v6 : V (F := Ideal) m c main_v6 = (Host.divf (m (c, Proc.devRef .tc main_arg10) : FVec Ideal S8192x64 .f32) (broadcastInDim S8192x64 ![0, 1] bcast_S8192x1_S8192x64_0_1 (maximumf (broadcastInDim S8192x1 ![] bcast_S_S8192x1 (id (constant S_ .f32 0x2B8CBCCC#32))) (Host.sqrt (broadcastInDim S8192x1 ![0] bcast_S8192_S8192x1_0 (Host.reduceAdd (mulf (m (c, Proc.devRef .tc main_arg10) : FVec Ideal S8192x64 .f32) (m (c, Proc.devRef .tc main_arg10) : FVec Ideal S8192x64 .f32)) (constant S_ .f32 0x00000000#32) reducesTo_S8192x64_S8192_d1 h_S_))))) : FVec Ideal S8192x64 .f32) := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  all_goals rfl
set_option maxHeartbeats 2000000 in
theorem V_main_v13 : V (F := Ideal) m c main_v13 = (Host.divf (m (c, Proc.devRef .tc main_arg11) : FVec Ideal S4096x64 .f32) (broadcastInDim S4096x64 ![0, 1] bcast_S4096x1_S4096x64_0_1 (maximumf (broadcastInDim S4096x1 ![] bcast_S_S4096x1 (id (constant S_ .f32 0x2B8CBCCC#32))) (Host.sqrt (broadcastInDim S4096x1 ![0] bcast_S4096_S4096x1_0 (Host.reduceAdd (mulf (m (c, Proc.devRef .tc main_arg11) : FVec Ideal S4096x64 .f32) (m (c, Proc.devRef .tc main_arg11) : FVec Ideal S4096x64 .f32)) (constant S_ .f32 0x00000000#32) reducesTo_S4096x64_S4096_d1 h_S_))))) : FVec Ideal S4096x64 .f32) := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  all_goals rfl
set_option maxHeartbeats 2000000 in
theorem V_main_v14 : V (F := Ideal) m c main_v14 = (broadcastInDim S8192x64 ![] bcast_S_S8192x64 (constant S_ .f32 0x00000000#32) : FVec Ideal S8192x64 .f32) := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  all_goals rfl
set_option maxHeartbeats 2000000 in
theorem V_main_v15 : V (F := Ideal) m c main_v15 = (broadcastInDim S4096x64 ![] bcast_S_S4096x64 (constant S_ .f32 0x00000000#32) : FVec Ideal S4096x64 .f32) := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  all_goals rfl
set_option maxHeartbeats 2000000 in
theorem V_main_v17 : V (F := Ideal) m c main_v17 = (truncf .bf16 (transpose S4096x64 [1, 0] (m (c, Proc.devRef .tc main_arg6) : FVec Ideal S64x4096 .f32) transposes_S64x4096_S4096x64_1_0) bitsLt_bf16_f32 : FVec Ideal S4096x64 .bf16) := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  all_goals rfl
set_option maxHeartbeats 2000000 in
theorem V_main_v19 : V (F := Ideal) m c main_v19 = (truncf .bf16 (transpose S384x64 [1, 0] (m (c, Proc.devRef .tc main_arg8) : FVec Ideal S64x384 .f32) transposes_S64x384_S384x64_1_0) bitsLt_bf16_f32 : FVec Ideal S384x64 .bf16) := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  all_goals rfl
set_option maxHeartbeats 2000000 in
theorem V_main_v20 : V (F := Ideal) m c main_v20 = (shapeCast S1x64 (m (c, Proc.devRef .tc main_arg7) : FVec Ideal S64 .f32) shapeCasts_S64_S1x64 : FVec Ideal S1x64 .f32) := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  all_goals rfl
set_option maxHeartbeats 2000000 in
theorem V_main_v21 : V (F := Ideal) m c main_v21 = (shapeCast S1x64 (m (c, Proc.devRef .tc main_arg9) : FVec Ideal S64 .f32) shapeCasts_S64_S1x64 : FVec Ideal S1x64 .f32) := by
  unfold V V0
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  all_goals rfl

/-- The users' noise, each row divided by its length. -/
theorem k6 : (V (F := Ideal) m c main_v6 : Mat 8192 64) = nrm (m (c, Proc.devRef .tc main_arg10) : Mat 8192 64) := by
  rw [V_main_v6]; funext j; unfold nrm; pointwise [id]
/-- The items' noise, each row divided by its length. -/
theorem k13 : (V (F := Ideal) m c main_v13 : Mat 4096 64) = nrm (m (c, Proc.devRef .tc main_arg11) : Mat 4096 64) := by
  rw [V_main_v13]; funext j; unfold nrm; pointwise [id]
/-- The users' prompt is zero. -/
theorem k14 : (V (F := Ideal) m c main_v14 : Mat 8192 64) = (fun _ => 0 : Mat 8192 64) := by
  rw [V_main_v14]; funext j; pointwise
/-- The items' prompt is zero. -/
theorem k15 : (V (F := Ideal) m c main_v15 : Mat 4096 64) = (fun _ => 0 : Mat 4096 64) := by
  rw [V_main_v15]; funext j; pointwise
/-- The image weights, turned over. -/
theorem k17 : (V (F := Ideal) m c main_v17 : Mat 4096 64) = tr (m (c, Proc.devRef .tc main_arg6) : Mat 64 4096) := by
  rw [V_main_v17]; funext j; unfold tr; pointwise
/-- The text weights, turned over. -/
theorem k19 : (V (F := Ideal) m c main_v19 : Mat 384 64) = tr (m (c, Proc.devRef .tc main_arg8) : Mat 64 384) := by
  rw [V_main_v19]; funext j; unfold tr; pointwise
/-- The image bias as a row. -/
theorem k20 : (V (F := Ideal) m c main_v20 : Mat 1 64) = bias (m (c, Proc.devRef .tc main_arg7)) := by
  rw [V_main_v20]; funext j; unfold bias; pointwise
/-- The text bias as a row. -/
theorem k21 : (V (F := Ideal) m c main_v21 : Mat 1 64) = bias (m (c, Proc.devRef .tc main_arg9)) := by
  rw [V_main_v21]; funext j; unfold bias; pointwise

end Cert.Proof.Val
-- ==== Proof.Val.KerVal.lean ====
/-
  What the kernel leaves, as matrices of the arguments.
-/
module

public import proofs.«01_k».proof.Proof.Val.Blocks
public import proofs.«01_k».proof.Proof.Val.HostVal
public import proofs.«01_k».proof.Proof.KI.Region

@[expose] public section

noncomputable section

namespace Cert.Proof.Val

open Cert.KernelIdeal Cert.KernelIdeal.Gen
open Cert.Proof.KI hiding ix2 ix2_eta
open Idealize.ShloMosaic
open Idealize.ShloMosaic.TcCoe

/-- The users' result of the two programs. -/
def outU (A0 : Mat 8192 4096) (A1 : Mat 4096 8192) (F2 F3 A5 : Mat 4096 64) (A4 N10 : Mat 8192 64) (N11 : Mat 4096 64) : Mat 8192 64 :=
  mean3 A4 (noisy (mm A0 A5) N10) (mm A0 (noisy (mm A1 (mm A0 A5)) N11)) (mixed (mm A0 F2) (mm A0 F3))
/-- The items' result of the two programs. -/
def outI (A0 : Mat 8192 4096) (A1 : Mat 4096 8192) (F2 F3 A5 : Mat 4096 64) (N11 : Mat 4096 64) : Mat 4096 64 :=
  mean3 A5 (noisy (mm A1 (mm A0 A5)) N11) (mm A1 (mm A0 (noisy (mm A1 (mm A0 A5)) N11))) (mixed (mm A1 (mm A0 F2)) (mm A1 (mm A0 F3)))

section
variable (A0 : Mat 8192 4096) (A1 : Mat 4096 8192) (F2 F3 A5 : Mat 4096 64)
/-- The parts of a product with three matrices side by side. -/
theorem part0 : cols (E := 64) 0 (by decide) (mm A0 (cat3 F2 F3 A5)) = mm A0 F2 := by rw [cols_mm, cols0_cat3]
theorem part64 : cols (E := 64) 64 (by decide) (mm A0 (cat3 F2 F3 A5)) = mm A0 F3 := by rw [cols_mm, cols64_cat3]
theorem part128 : cols (E := 64) 128 (by decide) (mm A0 (cat3 F2 F3 A5)) = mm A0 A5 := by rw [cols_mm, cols128_cat3]
theorem part0' : cols (E := 64) 0 (by decide) (mm A1 (mm A0 (cat3 F2 F3 A5))) = mm A1 (mm A0 F2) := by rw [cols_mm, part0]
theorem part64' : cols (E := 64) 64 (by decide) (mm A1 (mm A0 (cat3 F2 F3 A5))) = mm A1 (mm A0 F3) := by rw [cols_mm, part64]
theorem part128' : cols (E := 64) 128 (by decide) (mm A1 (mm A0 (cat3 F2 F3 A5))) = mm A1 (mm A0 A5) := by rw [cols_mm, part128]
end

variable (m : (ℓ : Loc nD τ sig) → Buf (Elt Ideal) ℓ) (c : Dev nD)

set_option maxRecDepth 20000 in
/-- A window of one block is its array. -/
theorem blk0 : (iblk (F := Ideal) m c 0 t00 : Mat 4096 64) = (V (F := Ideal) m c main_v17 : Mat 4096 64) := by
  funext x
  refine congrArg (V (F := Ideal) m c main_v17) ?_
  funext a
  match a with
  | ⟨0, _⟩ => exact Fin.ext (by show 0 + 1 * (x 0).val = (x 0).val; omega)
  | ⟨1, _⟩ => exact Fin.ext (by show 0 + 1 * (x 1).val = (x 1).val; omega)
set_option maxRecDepth 20000 in
theorem blk1 : (iblk (F := Ideal) m c 1 t00 : Mat 1 64) = (V (F := Ideal) m c main_v20 : Mat 1 64) := by
  funext x
  refine congrArg (V (F := Ideal) m c main_v20) ?_
  funext a
  match a with
  | ⟨0, _⟩ => exact Fin.ext (by show 0 + 1 * (x 0).val = (x 0).val; omega)
  | ⟨1, _⟩ => exact Fin.ext (by show 0 + 1 * (x 1).val = (x 1).val; omega)
set_option maxRecDepth 20000 in
theorem blk2 : (iblk (F := Ideal) m c 2 t00 : Mat 384 64) = (V (F := Ideal) m c main_v19 : Mat 384 64) := by
  funext x
  refine congrArg (V (F := Ideal) m c main_v19) ?_
  funext a
  match a with
  | ⟨0, _⟩ => exact Fin.ext (by show 0 + 1 * (x 0).val = (x 0).val; omega)
  | ⟨1, _⟩ => exact Fin.ext (by show 0 + 1 * (x 1).val = (x 1).val; omega)
set_option maxRecDepth 20000 in
theorem blk3 : (iblk (F := Ideal) m c 3 t00 : Mat 1 64) = (V (F := Ideal) m c main_v21 : Mat 1 64) := by
  funext x
  refine congrArg (V (F := Ideal) m c main_v21) ?_
  funext a
  match a with
  | ⟨0, _⟩ => exact Fin.ext (by show 0 + 1 * (x 0).val = (x 0).val; omega)
  | ⟨1, _⟩ => exact Fin.ext (by show 0 + 1 * (x 1).val = (x 1).val; omega)
/-- Argument 0 as a matrix. -/
abbrev A0 : Mat 8192 4096 := m (c, Proc.devRef .tc main_arg0)
/-- Argument 1 as a matrix. -/
abbrev A1 : Mat 4096 8192 := m (c, Proc.devRef .tc main_arg1)
/-- Argument 2 as a matrix. -/
abbrev A2 : Mat 4096 4096 := m (c, Proc.devRef .tc main_arg2)
/-- Argument 3 as a matrix. -/
abbrev A3 : Mat 4096 384 := m (c, Proc.devRef .tc main_arg3)
/-- Argument 4 as a matrix. -/
abbrev A4 : Mat 8192 64 := m (c, Proc.devRef .tc main_arg4)
/-- Argument 5 as a matrix. -/
abbrev A5 : Mat 4096 64 := m (c, Proc.devRef .tc main_arg5)
/-- The image features, projected. -/
abbrev F2 : Mat 4096 64 := proj (A2 m c) (tr (m (c, Proc.devRef .tc main_arg6) : Mat 64 4096)) (bias (m (c, Proc.devRef .tc main_arg7)))
/-- The text features, projected. -/
abbrev F3 : Mat 4096 64 := proj (A3 m c) (tr (m (c, Proc.devRef .tc main_arg8) : Mat 64 384)) (bias (m (c, Proc.devRef .tc main_arg9)))
/-- The users' noise, each row divided by its length. -/
abbrev N10 : Mat 8192 64 := nrm (m (c, Proc.devRef .tc main_arg10) : Mat 8192 64)
/-- The items' noise, each row divided by its length. -/
abbrev N11 : Mat 4096 64 := nrm (m (c, Proc.devRef .tc main_arg11) : Mat 4096 64)

theorem hA0 : (V (F := Ideal) m c main_arg0 : Mat 8192 4096) = A0 m c := V_main_arg0 m c
theorem hA1 : (V (F := Ideal) m c main_arg1 : Mat 4096 8192) = A1 m c := V_main_arg1 m c
theorem hA2 : (V (F := Ideal) m c main_arg2 : Mat 4096 4096) = A2 m c := V_main_arg2 m c
theorem hA3 : (V (F := Ideal) m c main_arg3 : Mat 4096 384) = A3 m c := V_main_arg3 m c
theorem hA4 : (V (F := Ideal) m c main_arg4 : Mat 8192 64) = A4 m c := V_main_arg4 m c
theorem hA5 : (V (F := Ideal) m c main_arg5 : Mat 4096 64) = A5 m c := V_main_arg5 m c

theorem cat_congr {wI wI' : Mat 4096 64} {wT wT' : Mat 384 64} {bI bI' bT bT' : Mat 1 64} {X X' : Mat 4096 4096} {Y Y' : Mat 4096 384} {Z Z' : Mat 4096 64}
    (h1 : wI = wI') (h2 : wT = wT') (h3 : bI = bI') (h4 : bT = bT') (h5 : X = X') (h6 : Y = Y') (h7 : Z = Z') :
    cat3 (proj X wI bI) (proj Y wT bT) Z = cat3 (proj X' wI' bI') (proj Y' wT' bT') Z' := by
  subst h1 h2 h3 h4 h5 h6 h7; rfl
theorem mm_congr {R K D : ℕ} {A A' : Mat R K} {B B' : Mat K D} (h : A = A') (h' : B = B') : mm A B = mm A' B' := by rw [h, h']
theorem noisy_congr {R D : ℕ} {A A' N N' : Mat R D} (h : A = A') (h' : N = N') : noisy A N = noisy A' N' := by rw [h, h']
theorem mixed_congr {R D : ℕ} {A A' N N' : Mat R D} (h : A = A') (h' : N = N') : mixed A N = mixed A' N' := by rw [h, h']
theorem mean3_congr {R D : ℕ} {A A' B B' C C' M M' : Mat R D} (h1 : A = A') (h2 : B = B') (h3 : C = C') (h4 : M = M') :
    mean3 A B C M = mean3 A' B' C' M' := by rw [h1, h2, h3, h4]
theorem cols_congr {R D : ℕ} (o : ℕ) (h : o + 64 ≤ D) {A A' : Mat R D} (e : A = A') : cols (E := 64) o h A = cols o h A' := by rw [e]

/-- The features the first pipeline leaves. -/
theorem q20 : (v20 (F := Ideal) m c : Mat 4096 192) = cat3 (F2 m c) (F3 m c) (A5 m c) :=
  (sA_20 c _ _ _ _ _ _ _).trans (cat_congr ((blk0 m c).trans (k17 m c)) ((blk2 m c).trans (k19 m c)) ((blk1 m c).trans (k20 m c)) ((blk3 m c).trans (k21 m c)) (hA2 m c) (hA3 m c) (hA5 m c))
/-- What the second pipeline hands on. -/
theorem q21 : (v21 (F := Ideal) m c : Mat 8192 192) = mm (A0 m c) (cat3 (F2 m c) (F3 m c) (A5 m c)) :=
  (sB_21 c _ _).trans (mm_congr (hA0 m c) (q20 m c))
/-- The users' image features. -/
theorem qBI : (finBI (F := Ideal) c (V m c main_arg0) (v20 m c) : Mat 8192 64) = mm (A0 m c) (F2 m c) :=
  (sB_BI c _ _).trans ((cols_congr 0 _ (mm_congr (hA0 m c) (q20 m c))).trans (part0 _ _ _ _))
/-- The users' text features. -/
theorem qBT : (finBT (F := Ideal) c (V m c main_arg0) (v20 m c) : Mat 8192 64) = mm (A0 m c) (F3 m c) :=
  (sB_BT c _ _).trans ((cols_congr 64 _ (mm_congr (hA0 m c) (q20 m c))).trans (part64 _ _ _ _))
/-- The items' image features. -/
theorem qCI : (finCI (F := Ideal) c (V m c main_arg1) (v21 m c) : Mat 4096 64) = mm (A1 m c) (mm (A0 m c) (F2 m c)) :=
  (sC_CI c _ _).trans ((cols_congr 0 _ (mm_congr (hA1 m c) (q21 m c))).trans (part0' _ _ _ _ _))
/-- The items' text features. -/
theorem qCT : (finCT (F := Ideal) c (V m c main_arg1) (v21 m c) : Mat 4096 64) = mm (A1 m c) (mm (A0 m c) (F3 m c)) :=
  (sC_CT c _ _).trans ((cols_congr 64 _ (mm_congr (hA1 m c) (q21 m c))).trans (part64' _ _ _ _ _))
/-- The items after the first round. -/
theorem q25 : (v25 (F := Ideal) m c : Mat 4096 64) = noisy (mm (A1 m c) (mm (A0 m c) (A5 m c))) (N11 m c) :=
  (sC_25 c _ _ _).trans (noisy_congr ((cols_congr 128 _ (mm_congr (hA1 m c) (q21 m c))).trans (part128' _ _ _ _ _)) (k13 m c))
/-- The users after the second round. -/
theorem q29 : (v29 (F := Ideal) m c : Mat 8192 64) = mm (A0 m c) (noisy (mm (A1 m c) (mm (A0 m c) (A5 m c))) (N11 m c)) :=
  (sD_29 c _ _).trans (mm_congr (hA0 m c) (q25 m c))
/-- The users' result. -/
theorem qDI : (finDI (F := Ideal) c (V m c main_arg0) (V m c main_arg4) (v25 m c) (outB_23 c (V m c main_arg0) (v20 m c)) (outB_24 c (V m c main_arg0) (v20 m c)) (outB_22 c (V m c main_arg0) (V m c main_v6) (v20 m c)) : Mat 8192 64)
    = outU (A0 m c) (A1 m c) (F2 m c) (F3 m c) (A5 m c) (A4 m c) (N10 m c) (N11 m c) :=
  (sD_DI c _ _ _ _ _ _ _ _ _ (fun k hk r l => oB_23 c _ _ k hk r l) (fun k hk r l => oB_24 c _ _ k hk r l) (fun k hk r l => oB_22 c _ _ _ k hk r l)).trans
    (mean3_congr (hA4 m c) (noisy_congr ((cols_congr 128 _ (mm_congr (hA0 m c) (q20 m c))).trans (part128 _ _ _ _)) (k6 m c)) (mm_congr (hA0 m c) (q25 m c))
      (mixed_congr ((cols_congr 0 _ (mm_congr (hA0 m c) (q20 m c))).trans (part0 _ _ _ _)) ((cols_congr 64 _ (mm_congr (hA0 m c) (q20 m c))).trans (part64 _ _ _ _))))
/-- The items' result. -/
theorem qEI : (finEI (F := Ideal) c (V m c main_arg1) (V m c main_arg5) (v29 m c) (outC_27 c (V m c main_arg1) (v21 m c)) (outC_28 c (V m c main_arg1) (v21 m c)) (outC_26 c (V m c main_arg1) (V m c main_v13) (v21 m c)) : Mat 4096 64)
    = outI (A0 m c) (A1 m c) (F2 m c) (F3 m c) (A5 m c) (N11 m c) :=
  (sE_EI c _ _ _ _ _ _ _ _ _ (fun k hk r l => oC_27 c _ _ k hk r l) (fun k hk r l => oC_28 c _ _ k hk r l) (fun k hk r l => oC_26 c _ _ _ k hk r l)).trans
    (mean3_congr (hA5 m c) (noisy_congr ((cols_congr 128 _ (mm_congr (hA1 m c) (q21 m c))).trans (part128' _ _ _ _ _)) (k13 m c)) (mm_congr (hA1 m c) (q29 m c))
      (mixed_congr ((cols_congr 0 _ (mm_congr (hA1 m c) (q21 m c))).trans (part0' _ _ _ _ _)) ((cols_congr 64 _ (mm_congr (hA1 m c) (q21 m c))).trans (part64' _ _ _ _ _))))

end Cert.Proof.Val
-- ==== Proof.Val.RefOut.lean ====
/-
  The reference's results, as matrices of the arguments.
-/
module

public import proofs.«01_k».proof.Proof.Val.RefVal
public import proofs.«01_k».proof.Proof.Val.KerVal

@[expose] public section

noncomputable section

namespace Cert.Proof.Val

open Cert.ReferenceIdeal Cert.ReferenceIdeal.Value
open Idealize.ShloMosaic
open Idealize.ShloMosaic.TcCoe

theorem proj_congr {R K D : ℕ} {X X' : Mat R K} {W W' : Mat K D} {b b' : Mat 1 D} (h1 : X = X') (h2 : W = W') (h3 : b = b') :
    proj X W b = proj X' W' b' := by rw [h1, h2, h3]

variable (V0 : Valuation τ sig (Elt Ideal))
variable (A0 : Mat 8192 4096) (A1 : Mat 4096 8192) (A2 : Mat 4096 4096) (A3 : Mat 4096 384) (A4 : Mat 8192 64) (A5 : Mat 4096 64) (A6 : Mat 64 4096) (A7 : (⟨1, ![64]⟩ : Shape).Idx → EReal) (A8 : Mat 64 384) (A9 : (⟨1, ![64]⟩ : Shape).Idx → EReal) (A10 : Mat 8192 64) (A11 : Mat 4096 64)
variable (h0 : (V0 (Proc.devRef .tc main_arg0) : Mat 8192 4096) = A0) (h1 : (V0 (Proc.devRef .tc main_arg1) : Mat 4096 8192) = A1) (h2 : (V0 (Proc.devRef .tc main_arg2) : Mat 4096 4096) = A2) (h3 : (V0 (Proc.devRef .tc main_arg3) : Mat 4096 384) = A3) (h4 : (V0 (Proc.devRef .tc main_arg4) : Mat 8192 64) = A4) (h5 : (V0 (Proc.devRef .tc main_arg5) : Mat 4096 64) = A5) (h6 : (V0 (Proc.devRef .tc main_arg6) : Mat 64 4096) = A6) (h7 : (V0 (Proc.devRef .tc main_arg7) : (⟨1, ![64]⟩ : Shape).Idx → EReal) = A7) (h8 : (V0 (Proc.devRef .tc main_arg8) : Mat 64 384) = A8) (h9 : (V0 (Proc.devRef .tc main_arg9) : (⟨1, ![64]⟩ : Shape).Idx → EReal) = A9) (h10 : (V0 (Proc.devRef .tc main_arg10) : Mat 8192 64) = A10) (h11 : (V0 (Proc.devRef .tc main_arg11) : Mat 4096 64) = A11)

include h2 h6 h7 in
theorem f19 : (res_main_v19 V0 : Mat 4096 64) = proj A2 (tr A6) (bias A7) :=
  (r19 V0).trans (proj_congr h2 (congrArg tr h6) (congrArg bias h7))
include h3 h8 h9 in
theorem f31 : (res_main_v31 V0 : Mat 4096 64) = proj A3 (tr A8) (bias A9) :=
  (r31 V0).trans (proj_congr h3 (congrArg tr h8) (congrArg bias h9))
include h0 h2 h6 h7 in
theorem f36 : (res_main_v36 V0 : Mat 8192 64) = mm A0 (proj A2 (tr A6) (bias A7)) :=
  (r36 V0).trans (mm_congr h0 (f19 V0 A2 A6 A7 h2 h6 h7))
include h0 h3 h8 h9 in
theorem f38 : (res_main_v38 V0 : Mat 8192 64) = mm A0 (proj A3 (tr A8) (bias A9)) :=
  (r38 V0).trans (mm_congr h0 (f31 V0 A3 A8 A9 h3 h8 h9))
include h0 h1 h2 h6 h7 in
theorem f37 : (res_main_v37 V0 : Mat 4096 64) = mm A1 (mm A0 (proj A2 (tr A6) (bias A7))) :=
  (r37 V0).trans (mm_congr h1 (f36 V0 A0 A2 A6 A7 h0 h2 h6 h7))
include h0 h1 h3 h8 h9 in
theorem f39 : (res_main_v39 V0 : Mat 4096 64) = mm A1 (mm A0 (proj A3 (tr A8) (bias A9))) :=
  (r39 V0).trans (mm_congr h1 (f38 V0 A0 A3 A8 A9 h0 h3 h8 h9))
include h0 h5 in
theorem f54 : (res_main_v54 V0 : Mat 8192 64) = mm A0 A5 :=
  (r54 V0).trans (mm_congr h0 ((r53 V0).trans h5))
include h0 h1 h5 h11 in
theorem f73 : (res_main_v73 V0 : Mat 4096 64) = noisy (mm A1 (mm A0 A5)) (nrm A11) :=
  (r73 V0).trans (noisy_congr ((r55 V0).trans (mm_congr h1 (f54 V0 A0 A5 h0 h5))) (congrArg nrm h11))
include h0 h1 h5 h11 in
theorem f74 : (res_main_v74 V0 : Mat 8192 64) = mm A0 (noisy (mm A1 (mm A0 A5)) (nrm A11)) :=
  (r74 V0).trans (mm_congr h0 (f73 V0 A0 A1 A5 A11 h0 h1 h5 h11))
include h0 h1 h2 h3 h4 h5 h6 h7 h8 h9 h10 h11 in
/-- The users' result, of the arguments. -/
theorem f116 : (val3 V0 (Proc.devRef .tc main_v116) : Mat 8192 64) = outU A0 A1 (proj A2 (tr A6) (bias A7)) (proj A3 (tr A8) (bias A9)) A5 A4 (nrm A10) (nrm A11) :=
  (r116 V0).trans (mean3_congr h4 (noisy_congr (f54 V0 A0 A5 h0 h5) (congrArg nrm h10)) (f74 V0 A0 A1 A5 A11 h0 h1 h5 h11)
    ((r102 V0).trans (mixed_congr (f36 V0 A0 A2 A6 A7 h0 h2 h6 h7) (f38 V0 A0 A3 A8 A9 h0 h3 h8 h9))))
include h0 h1 h2 h3 h5 h6 h7 h8 h9 h11 in
/-- The items' result, of the arguments. -/
theorem f117 : (val3 V0 (Proc.devRef .tc main_v117) : Mat 4096 64) = outI A0 A1 (proj A2 (tr A6) (bias A7)) (proj A3 (tr A8) (bias A9)) A5 (nrm A11) :=
  (r117 V0).trans (mean3_congr ((r53 V0).trans h5) (f73 V0 A0 A1 A5 A11 h0 h1 h5 h11)
    ((r75 V0).trans (mm_congr h1 (f74 V0 A0 A1 A5 A11 h0 h1 h5 h11)))
    ((r115 V0).trans (mixed_congr (f37 V0 A0 A1 A2 A6 A7 h0 h1 h2 h6 h7) (f39 V0 A0 A1 A3 A8 A9 h0 h1 h3 h8 h9))))

end Cert.Proof.Val
-- ==== Proof.Val.Equation.lean ====
/-
  The kernel's results are the reference's.
-/
module

public import proofs.«01_k».proof.Defs
public import proofs.«01_k».proof.Proof.KI.Launch
public import proofs.«01_k».proof.Proof.Val.RefOut

@[expose] public section

noncomputable section

namespace Cert.Proof.Val

open Cert.KernelIdeal Cert.KernelIdeal.Gen
open Cert.Proof.KI hiding ix2 ix2_eta
open Idealize.ShloMosaic
open Idealize.ShloMosaic.TcCoe

variable (m : (ℓ : Loc nD τ sig) → Buf (Elt Ideal) ℓ) (c : Dev nD)

/-- The users' result at the end of the run. -/
theorem e_v22_0 : (endV (F := Ideal) m c main_v22_0 : Mat 8192 64) = outU (A0 m c) (A1 m c) (F2 m c) (F3 m c) (A5 m c) (A4 m c) (N10 m c) (N11 m c) :=
  (endV_res m c main_v22_0 (by decide) (by decide) (by decide)).trans ((G_DI m c).trans (qDI m c))
/-- The items' result at the end of the run. -/
theorem e_v22_1 : (endV (F := Ideal) m c main_v22_1 : Mat 4096 64) = outI (A0 m c) (A1 m c) (F2 m c) (F3 m c) (A5 m c) (N11 m c) :=
  (endV_res m c main_v22_1 (by decide) (by decide) (by decide)).trans ((G_EI m c).trans (qEI m c))
theorem e_v22_2 : (endV (F := Ideal) m c main_v22_2 : Mat 4096 64) = mm (A1 m c) (mm (A0 m c) (F2 m c)) :=
  (endV_res m c main_v22_2 (by decide) (by decide) (by decide)).trans ((G_CI m c).trans (qCI m c))
theorem e_v22_3 : (endV (F := Ideal) m c main_v22_3 : Mat 4096 64) = mm (A1 m c) (mm (A0 m c) (F3 m c)) :=
  (endV_res m c main_v22_3 (by decide) (by decide) (by decide)).trans ((G_CT m c).trans (qCT m c))
theorem e_v22_4 : (endV (F := Ideal) m c main_v22_4 : Mat 8192 64) = mm (A0 m c) (F2 m c) :=
  (endV_res m c main_v22_4 (by decide) (by decide) (by decide)).trans ((G_BI m c).trans (qBI m c))
theorem e_v22_5 : (endV (F := Ideal) m c main_v22_5 : Mat 8192 64) = mm (A0 m c) (F3 m c) :=
  (endV_res m c main_v22_5 (by decide) (by decide) (by decide)).trans ((G_BT m c).trans (qBT m c))
theorem e_v14 : (endV (F := Ideal) m c main_v14 : Mat 8192 64) = (fun _ => 0 : Mat 8192 64) :=
  (endV_rest m c main_v14 (by decide) (by decide) (by decide)).trans (k14 m c)
theorem e_v15 : (endV (F := Ideal) m c main_v15 : Mat 4096 64) = (fun _ => 0 : Mat 4096 64) :=
  (endV_rest m c main_v15 (by decide) (by decide) (by decide)).trans (k15 m c)
/-- The loss is zero. -/
theorem e_cst : endV (F := Ideal) m c main_cst_5 = (constant S_ .f32 0x00000000#32 : FVec Ideal S_ .f32) := by
  unfold endV
  simp only [hostOps1, List.flatten_cons, List.flatten_nil, List.append_nil]
  after_results_simp
  all_goals rfl

/-- The kernel and the reference compute the same results over the extended reals. -/
theorem algebraic : Cert.algebraic_KernelIdeal_ReferenceIdeal := by
  intro m g m' g' _ hag
  refine ⟨fun c => endV (F := Ideal) m c main_v22_0, fun c => endV (F := Ideal) m c main_v22_1, fun c => endV (F := Ideal) m c main_v22_2, fun c => endV (F := Ideal) m c main_v22_3, fun c => endV (F := Ideal) m c main_v22_4, fun c => endV (F := Ideal) m c main_v22_5, fun c => endV (F := Ideal) m c main_v22_0, fun c => endV (F := Ideal) m c main_v22_1, fun c => endV (F := Ideal) m c main_v14, fun c => endV (F := Ideal) m c main_v15, fun c => endV (F := Ideal) m c main_cst_5, ?_, ?_⟩
  · refine (θ_run defs _ _).mono (fun _ h c => ⟨h.1 c main_v22_0 (Pipeline.mem_restRefs_of main_v22_0 (by decide) (by decide)),
      h.1 c main_v22_1 (Pipeline.mem_restRefs_of main_v22_1 (by decide) (by decide)),
      h.1 c main_v22_2 (Pipeline.mem_restRefs_of main_v22_2 (by decide) (by decide)),
      h.1 c main_v22_3 (Pipeline.mem_restRefs_of main_v22_3 (by decide) (by decide)),
      h.1 c main_v22_4 (Pipeline.mem_restRefs_of main_v22_4 (by decide) (by decide)),
      h.1 c main_v22_5 (Pipeline.mem_restRefs_of main_v22_5 (by decide) (by decide)),
      h.1 c main_v22_0 (Pipeline.mem_restRefs_of main_v22_0 (by decide) (by decide)),
      h.1 c main_v22_1 (Pipeline.mem_restRefs_of main_v22_1 (by decide) (by decide)),
      h.1 c main_v14 (Pipeline.mem_restRefs_of main_v14 (by decide) (by decide)),
      h.1 c main_v15 (Pipeline.mem_restRefs_of main_v15 (by decide) (by decide)),
      h.1 c main_cst_5 (Pipeline.mem_restRefs_of main_cst_5 (by decide) (by decide)),
      (h.1 c main_arg0 (Pipeline.mem_restRefs_of main_arg0 (by decide) (by decide))).trans ((endV_rest m c main_arg0 (by decide) (by decide) (by decide)).trans (V_main_arg0 m c)),
      (h.1 c main_arg1 (Pipeline.mem_restRefs_of main_arg1 (by decide) (by decide))).trans ((endV_rest m c main_arg1 (by decide) (by decide) (by decide)).trans (V_main_arg1 m c)),
      (h.1 c main_arg2 (Pipeline.mem_restRefs_of main_arg2 (by decide) (by decide))).trans ((endV_rest m c main_arg2 (by decide) (by decide) (by decide)).trans (V_main_arg2 m c)),
      (h.1 c main_arg3 (Pipeline.mem_restRefs_of main_arg3 (by decide) (by decide))).trans ((endV_rest m c main_arg3 (by decide) (by decide) (by decide)).trans (V_main_arg3 m c)),
      (h.1 c main_arg4 (Pipeline.mem_restRefs_of main_arg4 (by decide) (by decide))).trans ((endV_rest m c main_arg4 (by decide) (by decide) (by decide)).trans (V_main_arg4 m c)),
      (h.1 c main_arg5 (Pipeline.mem_restRefs_of main_arg5 (by decide) (by decide))).trans ((endV_rest m c main_arg5 (by decide) (by decide) (by decide)).trans (V_main_arg5 m c)),
      (h.1 c main_arg6 (Pipeline.mem_restRefs_of main_arg6 (by decide) (by decide))).trans ((endV_rest m c main_arg6 (by decide) (by decide) (by decide)).trans (V_main_arg6 m c)),
      (h.1 c main_arg7 (Pipeline.mem_restRefs_of main_arg7 (by decide) (by decide))).trans ((endV_rest m c main_arg7 (by decide) (by decide) (by decide)).trans (V_main_arg7 m c)),
      (h.1 c main_arg8 (Pipeline.mem_restRefs_of main_arg8 (by decide) (by decide))).trans ((endV_rest m c main_arg8 (by decide) (by decide) (by decide)).trans (V_main_arg8 m c)),
      (h.1 c main_arg9 (Pipeline.mem_restRefs_of main_arg9 (by decide) (by decide))).trans ((endV_rest m c main_arg9 (by decide) (by decide) (by decide)).trans (V_main_arg9 m c)),
      (h.1 c main_arg10 (Pipeline.mem_restRefs_of main_arg10 (by decide) (by decide))).trans ((endV_rest m c main_arg10 (by decide) (by decide) (by decide)).trans (V_main_arg10 m c)),
      (h.1 c main_arg11 (Pipeline.mem_restRefs_of main_arg11 (by decide) (by decide))).trans ((endV_rest m c main_arg11 (by decide) (by decide) (by decide)).trans (V_main_arg11 m c))⟩) (run_main m g)
  · refine (θ_run Cert.ReferenceIdeal.defs _ _).mono (fun r h c => ?_) (Cert.ReferenceIdeal.Value.run (F := Ideal) m' g')
    obtain ⟨h0, h1, h2, h3, h4, h5, h6, h7, h8, h9, h10, h11, h12, h13, h14, h15, h16, h17, h18, h19, h20, h21, h22⟩ := h c
    obtain ⟨a0, a1, a2, a3, a4, a5, a6, a7, a8, a9, a10, a11⟩ := hag c
    have e116 := (h0.trans (Cert.ReferenceIdeal.Value.val3_main_v116 (StableHlo.launchContents m' c)).symm).trans ((f116 (StableHlo.launchContents m' c) _ _ _ _ _ _ _ _ _ _ _ _ a0 a1 a2 a3 a4 a5 a6 a7 a8 a9 a10 a11).trans (e_v22_0 m c).symm)
    have e117 := (h1.trans (Cert.ReferenceIdeal.Value.val3_main_v117 (StableHlo.launchContents m' c)).symm).trans ((f117 (StableHlo.launchContents m' c) _ _ _ _ _ _ _ _ _ _ a0 a1 a2 a3 a5 a6 a7 a8 a9 a11).trans (e_v22_1 m c).symm)
    exact ⟨e116, e117,
      h2.trans ((f37 (StableHlo.launchContents m' c) _ _ _ _ _ a0 a1 a2 a6 a7).trans (e_v22_2 m c).symm),
      h3.trans ((f39 (StableHlo.launchContents m' c) _ _ _ _ _ a0 a1 a3 a8 a9).trans (e_v22_3 m c).symm),
      h4.trans ((f36 (StableHlo.launchContents m' c) _ _ _ _ a0 a2 a6 a7).trans (e_v22_4 m c).symm),
      h5.trans ((f38 (StableHlo.launchContents m' c) _ _ _ _ a0 a3 a8 a9).trans (e_v22_5 m c).symm),
      e116, e117,
      h8.trans ((r0 (StableHlo.launchContents m' c)).trans (e_v14 m c).symm),
      h9.trans ((r1 (StableHlo.launchContents m' c)).trans (e_v15 m c).symm),
      h10.trans (e_cst m c).symm,
      h11, h12, h13, h14, h15, h16, h17, h18, h19, h20, h21, h22⟩

end Cert.Proof.Val
-- ==== Proof.lean ====
/-
  The certificate: both frames of the kernel, the reference's, the rewrites' preservation and the equation of values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KI.Launch
public import proofs.«01_k».proof.Proof.KB.Launch
public import proofs.«01_k».proof.Proof.Ref.Frame
public import proofs.«01_k».proof.Proof.Val.Equation
public import Idealize.ShloMosaic.Adequacy
public import Idealize.ShloMosaic.Init

@[expose] public section

noncomputable section

namespace Cert.Proof

open Idealize.ShloMosaic Idealize.SL.Sem

/-- The kernel as compiled ends without fault, its arguments unchanged and its semaphores at zero. -/
theorem frame_kernel : Cert.quiescent_Kernel := fun m ρ _ => KB.frame m ρ
/-- So does the kernel over the extended reals. -/
theorem frame_kernelIdeal : Cert.quiescent_KernelIdeal := fun m ρ _ => KI.frame m ρ

/-- The whole certificate. -/
theorem claim : Cert.Claim :=
  ⟨Cert.Kernel.Gen.facts, Cert.KernelIdeal.Gen.facts, Cert.ReferenceIdeal.Gen.facts,
    frame_kernel, frame_kernelIdeal, frame_reference, preserves, Val.algebraic⟩

end Cert.Proof

end
